-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpY (m : (ℓ : Loc Cert.UpY.nD Cert.UpY.τ Cert.UpY.sig) → Buf (Elt Bits) ℓ) : Prop :=
  True

def Pre_UpYIdeal (m : (ℓ : Loc Cert.UpYIdeal.nD Cert.UpYIdeal.τ Cert.UpYIdeal.sig) → Buf (Elt Ideal) ℓ) : Prop :=
  True

def Pre_UpYRefIdeal (m : (ℓ : Loc Cert.UpYRefIdeal.nD Cert.UpYRefIdeal.τ Cert.UpYRefIdeal.sig) → Buf (Elt Ideal) ℓ) : Prop :=
  True

def Pre_DownY (m : (ℓ : Loc Cert.DownY.nD Cert.DownY.τ Cert.DownY.sig) → Buf (Elt Bits) ℓ) : Prop :=
  True

def Pre_DownYIdeal (m : (ℓ : Loc Cert.DownYIdeal.nD Cert.DownYIdeal.τ Cert.DownYIdeal.sig) → Buf (Elt Ideal) ℓ) : Prop :=
  True

def Pre_DownYRefIdeal (m : (ℓ : Loc Cert.DownYRefIdeal.nD Cert.DownYRefIdeal.τ Cert.DownYRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_HeadDx (m : (ℓ : Loc Cert.HeadDx.nD Cert.HeadDx.τ Cert.HeadDx.sig) → Buf (Elt Bits) ℓ) : Prop :=
  True

def Pre_HeadDxIdeal (m : (ℓ : Loc Cert.HeadDxIdeal.nD Cert.HeadDxIdeal.τ Cert.HeadDxIdeal.sig) → Buf (Elt Ideal) ℓ) : Prop :=
  True

def Pre_HeadDxRefIdeal (m : (ℓ : Loc Cert.HeadDxRefIdeal.nD Cert.HeadDxRefIdeal.τ Cert.HeadDxRefIdeal.sig) → Buf (Elt Ideal) ℓ) : Prop :=
  True

def Pre_HeadDw (m : (ℓ : Loc Cert.HeadDw.nD Cert.HeadDw.τ Cert.HeadDw.sig) → Buf (Elt Bits) ℓ) : Prop :=
  True

def Pre_HeadDwIdeal (m : (ℓ : Loc Cert.HeadDwIdeal.nD Cert.HeadDwIdeal.τ Cert.HeadDwIdeal.sig) → Buf (Elt Ideal) ℓ) : Prop :=
  True

def Pre_HeadDwRefIdeal (m : (ℓ : Loc Cert.HeadDwRefIdeal.nD Cert.HeadDwRefIdeal.τ Cert.HeadDwRefIdeal.sig) → Buf (Elt Ideal) ℓ) : Prop :=
  True

def Pre_WaY (m : (ℓ : Loc Cert.WaY.nD Cert.WaY.τ Cert.WaY.sig) → Buf (Elt Bits) ℓ) : Prop :=
  True

def Pre_WaYIdeal (m : (ℓ : Loc Cert.WaYIdeal.nD Cert.WaYIdeal.τ Cert.WaYIdeal.sig) → Buf (Elt Ideal) ℓ) : Prop :=
  True

def Pre_WaYRefIdeal (m : (ℓ : Loc Cert.WaYRefIdeal.nD Cert.WaYRefIdeal.τ Cert.WaYRefIdeal.sig) → Buf (Elt Ideal) ℓ) : Prop :=
  True

def Pre_WaDx (m : (ℓ : Loc Cert.WaDx.nD Cert.WaDx.τ Cert.WaDx.sig) → Buf (Elt Bits) ℓ) : Prop :=
  True

def Pre_WaDxIdeal (m : (ℓ : Loc Cert.WaDxIdeal.nD Cert.WaDxIdeal.τ Cert.WaDxIdeal.sig) → Buf (Elt Ideal) ℓ) : Prop :=
  True

def Pre_WaDxRefIdeal (m : (ℓ : Loc Cert.WaDxRefIdeal.nD Cert.WaDxRefIdeal.τ Cert.WaDxRefIdeal.sig) → Buf (Elt Ideal) ℓ) : Prop :=
  True

def Pre_WaDw (m : (ℓ : Loc Cert.WaDw.nD Cert.WaDw.τ Cert.WaDw.sig) → Buf (Elt Bits) ℓ) : Prop :=
  True

def Pre_WaDwIdeal (m : (ℓ : Loc Cert.WaDwIdeal.nD Cert.WaDwIdeal.τ Cert.WaDwIdeal.sig) → Buf (Elt Ideal) ℓ) : Prop :=
  True

def Pre_WaDwRefIdeal (m : (ℓ : Loc Cert.WaDwRefIdeal.nD Cert.WaDwRefIdeal.τ Cert.WaDwRefIdeal.sig) → Buf (Elt Ideal) ℓ) : Prop :=
  True

def Pre_WbY (m : (ℓ : Loc Cert.WbY.nD Cert.WbY.τ Cert.WbY.sig) → Buf (Elt Bits) ℓ) : Prop :=
  True

def Pre_WbYIdeal (m : (ℓ : Loc Cert.WbYIdeal.nD Cert.WbYIdeal.τ Cert.WbYIdeal.sig) → Buf (Elt Ideal) ℓ) : Prop :=
  True

def Pre_WbYRefIdeal (m : (ℓ : Loc Cert.WbYRefIdeal.nD Cert.WbYRefIdeal.τ Cert.WbYRefIdeal.sig) → Buf (Elt Ideal) ℓ) : Prop :=
  True

def Pre_WbDx (m : (ℓ : Loc Cert.WbDx.nD Cert.WbDx.τ Cert.WbDx.sig) → Buf (Elt Bits) ℓ) : Prop :=
  True

def Pre_WbDxIdeal (m : (ℓ : Loc Cert.WbDxIdeal.nD Cert.WbDxIdeal.τ Cert.WbDxIdeal.sig) → Buf (Elt Ideal) ℓ) : Prop :=
  True

def Pre_WbDxRefIdeal (m : (ℓ : Loc Cert.WbDxRefIdeal.nD Cert.WbDxRefIdeal.τ Cert.WbDxRefIdeal.sig) → Buf (Elt Ideal) ℓ) : Prop :=
  True

def Pre_WbDw (m : (ℓ : Loc Cert.WbDw.nD Cert.WbDw.τ Cert.WbDw.sig) → Buf (Elt Bits) ℓ) : Prop :=
  True

def Pre_WbDwIdeal (m : (ℓ : Loc Cert.WbDwIdeal.nD Cert.WbDwIdeal.τ Cert.WbDwIdeal.sig) → Buf (Elt Ideal) ℓ) : Prop :=
  True

def Pre_WbDwRefIdeal (m : (ℓ : Loc Cert.WbDwRefIdeal.nD Cert.WbDwRefIdeal.τ Cert.WbDwRefIdeal.sig) → Buf (Elt Ideal) ℓ) : Prop :=
  True

def Pre_WoY (m : (ℓ : Loc Cert.WoY.nD Cert.WoY.τ Cert.WoY.sig) → Buf (Elt Bits) ℓ) : Prop :=
  True

def Pre_WoYIdeal (m : (ℓ : Loc Cert.WoYIdeal.nD Cert.WoYIdeal.τ Cert.WoYIdeal.sig) → Buf (Elt Ideal) ℓ) : Prop :=
  True

def Pre_WoYRefIdeal (m : (ℓ : Loc Cert.WoYRefIdeal.nD Cert.WoYRefIdeal.τ Cert.WoYRefIdeal.sig) → Buf (Elt Ideal) ℓ) : Prop :=
  True

def Pre_WoDx (m : (ℓ : Loc Cert.WoDx.nD Cert.WoDx.τ Cert.WoDx.sig) → Buf (Elt Bits) ℓ) : Prop :=
  True

def Pre_WoDxIdeal (m : (ℓ : Loc Cert.WoDxIdeal.nD Cert.WoDxIdeal.τ Cert.WoDxIdeal.sig) → Buf (Elt Ideal) ℓ) : Prop :=
  True

def Pre_WoDxRefIdeal (m : (ℓ : Loc Cert.WoDxRefIdeal.nD Cert.WoDxRefIdeal.τ Cert.WoDxRefIdeal.sig) → Buf (Elt Ideal) ℓ) : Prop :=
  True

def Pre_WoDw (m : (ℓ : Loc Cert.WoDw.nD Cert.WoDw.τ Cert.WoDw.sig) → Buf (Elt Bits) ℓ) : Prop :=
  True

def Pre_WoDwIdeal (m : (ℓ : Loc Cert.WoDwIdeal.nD Cert.WoDwIdeal.τ Cert.WoDwIdeal.sig) → Buf (Elt Ideal) ℓ) : Prop :=
  True

def Pre_WoDwRefIdeal (m : (ℓ : Loc Cert.WoDwRefIdeal.nD Cert.WoDwRefIdeal.τ Cert.WoDwRefIdeal.sig) → Buf (Elt Ideal) ℓ) : Prop :=
  True

def Pre_InY (m : (ℓ : Loc Cert.InY.nD Cert.InY.τ Cert.InY.sig) → Buf (Elt Bits) ℓ) : Prop :=
  True

def Pre_InYIdeal (m : (ℓ : Loc Cert.InYIdeal.nD Cert.InYIdeal.τ Cert.InYIdeal.sig) → Buf (Elt Ideal) ℓ) : Prop :=
  True

def Pre_InYRefIdeal (m : (ℓ : Loc Cert.InYRefIdeal.nD Cert.InYRefIdeal.τ Cert.InYRefIdeal.sig) → Buf (Elt Ideal) ℓ) : Prop :=
  True

def Pre_HeadY (m : (ℓ : Loc Cert.HeadY.nD Cert.HeadY.τ Cert.HeadY.sig) → Buf (Elt Bits) ℓ) : Prop :=
  True

def Pre_HeadYIdeal (m : (ℓ : Loc Cert.HeadYIdeal.nD Cert.HeadYIdeal.τ Cert.HeadYIdeal.sig) → Buf (Elt Ideal) ℓ) : Prop :=
  True

def Pre_HeadYRefIdeal (m : (ℓ : Loc Cert.HeadYRefIdeal.nD Cert.HeadYRefIdeal.τ Cert.HeadYRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_finite_act [hPre_finite_act : Cert.Pre_finite_act.Facts] (m : (ℓ : Loc Cert.ActIdeal.nD Cert.ActIdeal.τ Cert.ActIdeal.sig) → Buf (Elt Ideal) ℓ) : Prop :=
  ∀ c : Dev Cert.ActIdeal.nD,
    (Cert.Pre_finite_act.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2))) = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_finite_act [hPre_finite_act : Cert.Pre_finite_act.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_finite_act.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpY [hUpY : Cert.UpY.Facts] : Prop :=
  ∀ (m : (ℓ : Loc Cert.UpY.nD Cert.UpY.τ Cert.UpY.sig) → Buf (Elt Bits) ℓ) (g : Dev Cert.UpY.nD → PrngReg), Pre_UpY m →
    θ_run (Cert.UpY.defs (F := Bits)) (onTc (τ := Cert.UpY.τ) (Cert.UpY.main (F := Bits))) ⟨m, fun _ => 0, g⟩ (fun r => (∀ c : Dev Cert.UpY.nD,
      r.2.mem ((c.tc : Thread Cert.UpY.nD Cert.UpY.τ).loc Cert.UpY.main_arg0) = m ((c.tc : Thread Cert.UpY.nD Cert.UpY.τ).loc Cert.UpY.main_arg0)
      ∧ r.2.mem ((c.tc : Thread Cert.UpY.nD Cert.UpY.τ).loc Cert.UpY.main_arg1) = m ((c.tc : Thread Cert.UpY.nD Cert.UpY.τ).loc Cert.UpY.main_arg1)
      ∧ r.2.mem ((c.tc : Thread Cert.UpY.nD Cert.UpY.τ).loc Cert.UpY.main_arg2) = m ((c.tc : Thread Cert.UpY.nD Cert.UpY.τ).loc Cert.UpY.main_arg2))
      ∧ r.2.sem = fun _ => 0)

def quiescent_UpYIdeal [hUpYIdeal : Cert.UpYIdeal.Facts] : Prop :=
  ∀ (m : (ℓ : Loc Cert.UpYIdeal.nD Cert.UpYIdeal.τ Cert.UpYIdeal.sig) → Buf (Elt Ideal) ℓ) (g : Dev Cert.UpYIdeal.nD → PrngReg), Pre_UpYIdeal m →
    θ_run (Cert.UpYIdeal.defs (F := Ideal)) (onTc (τ := Cert.UpYIdeal.τ) (Cert.UpYIdeal.main (F := Ideal))) ⟨m, fun _ => 0, g⟩ (fun r => (∀ c : Dev Cert.UpYIdeal.nD,
      r.2.mem ((c.tc : Thread Cert.UpYIdeal.nD Cert.UpYIdeal.τ).loc Cert.UpYIdeal.main_arg0) = m ((c.tc : Thread Cert.UpYIdeal.nD Cert.UpYIdeal.τ).loc Cert.UpYIdeal.main_arg0)
      ∧ r.2.mem ((c.tc : Thread Cert.UpYIdeal.nD Cert.UpYIdeal.τ).loc Cert.UpYIdeal.main_arg1) = m ((c.tc : Thread Cert.UpYIdeal.nD Cert.UpYIdeal.τ).loc Cert.UpYIdeal.main_arg1)
      ∧ r.2.mem ((c.tc : Thread Cert.UpYIdeal.nD Cert.UpYIdeal.τ).loc Cert.UpYIdeal.main_arg2) = m ((c.tc : Thread Cert.UpYIdeal.nD Cert.UpYIdeal.τ).loc Cert.UpYIdeal.main_arg2))
      ∧ r.2.sem = fun _ => 0)

def quiescent_UpYRefIdeal [hUpYRefIdeal : Cert.UpYRefIdeal.Facts] : Prop :=
  ∀ (m : (ℓ : Loc Cert.UpYRefIdeal.nD Cert.UpYRefIdeal.τ Cert.UpYRefIdeal.sig) → Buf (Elt Ideal) ℓ) (g : Dev Cert.UpYRefIdeal.nD → PrngReg), Pre_UpYRefIdeal m →
    θ_run (Cert.UpYRefIdeal.defs (F := Ideal)) (onTc (τ := Cert.UpYRefIdeal.τ) (Cert.UpYRefIdeal.main (F := Ideal))) ⟨m, fun _ => 0, g⟩ (fun r => (∀ c : Dev Cert.UpYRefIdeal.nD,
      r.2.mem ((c.tc : Thread Cert.UpYRefIdeal.nD Cert.UpYRefIdeal.τ).loc Cert.UpYRefIdeal.main_arg0) = m ((c.tc : Thread Cert.UpYRefIdeal.nD Cert.UpYRefIdeal.τ).loc Cert.UpYRefIdeal.main_arg0)
      ∧ r.2.mem ((c.tc : Thread Cert.UpYRefIdeal.nD Cert.UpYRefIdeal.τ).loc Cert.UpYRefIdeal.main_arg1) = m ((c.tc : Thread Cert.UpYRefIdeal.nD Cert.UpYRefIdeal.τ).loc Cert.UpYRefIdeal.main_arg1)
      ∧ r.2.mem ((c.tc : Thread Cert.UpYRefIdeal.nD Cert.UpYRefIdeal.τ).loc Cert.UpYRefIdeal.main_arg2) = m ((c.tc : Thread Cert.UpYRefIdeal.nD Cert.UpYRefIdeal.τ).loc Cert.UpYRefIdeal.main_arg2))
      ∧ r.2.sem = fun _ => 0)

def quiescent_DownY [hDownY : Cert.DownY.Facts] : Prop :=
  ∀ (m : (ℓ : Loc Cert.DownY.nD Cert.DownY.τ Cert.DownY.sig) → Buf (Elt Bits) ℓ) (g : Dev Cert.DownY.nD → PrngReg), Pre_DownY m →
    θ_run (Cert.DownY.defs (F := Bits)) (onTc (τ := Cert.DownY.τ) (Cert.DownY.main (F := Bits))) ⟨m, fun _ => 0, g⟩ (fun r => (∀ c : Dev Cert.DownY.nD,
      r.2.mem ((c.tc : Thread Cert.DownY.nD Cert.DownY.τ).loc Cert.DownY.main_arg0) = m ((c.tc : Thread Cert.DownY.nD Cert.DownY.τ).loc Cert.DownY.main_arg0)
      ∧ r.2.mem ((c.tc : Thread Cert.DownY.nD Cert.DownY.τ).loc Cert.DownY.main_arg1) = m ((c.tc : Thread Cert.DownY.nD Cert.DownY.τ).loc Cert.DownY.main_arg1))
      ∧ r.2.sem = fun _ => 0)

def quiescent_DownYIdeal [hDownYIdeal : Cert.DownYIdeal.Facts] : Prop :=
  ∀ (m : (ℓ : Loc Cert.DownYIdeal.nD Cert.DownYIdeal.τ Cert.DownYIdeal.sig) → Buf (Elt Ideal) ℓ) (g : Dev Cert.DownYIdeal.nD → PrngReg), Pre_DownYIdeal m →
    θ_run (Cert.DownYIdeal.defs (F := Ideal)) (onTc (τ := Cert.DownYIdeal.τ) (Cert.DownYIdeal.main (F := Ideal))) ⟨m, fun _ => 0, g⟩ (fun r => (∀ c : Dev Cert.DownYIdeal.nD,
      r.2.mem ((c.tc : Thread Cert.DownYIdeal.nD Cert.DownYIdeal.τ).loc Cert.DownYIdeal.main_arg0) = m ((c.tc : Thread Cert.DownYIdeal.nD Cert.DownYIdeal.τ).loc Cert.DownYIdeal.main_arg0)
      ∧ r.2.mem ((c.tc : Thread Cert.DownYIdeal.nD Cert.DownYIdeal.τ).loc Cert.DownYIdeal.main_arg1) = m ((c.tc : Thread Cert.DownYIdeal.nD Cert.DownYIdeal.τ).loc Cert.DownYIdeal.main_arg1))
      ∧ r.2.sem = fun _ => 0)

def quiescent_DownYRefIdeal [hDownYRefIdeal : Cert.DownYRefIdeal.Facts] : Prop :=
  ∀ (m : (ℓ : Loc Cert.DownYRefIdeal.nD Cert.DownYRefIdeal.τ Cert.DownYRefIdeal.sig) → Buf (Elt Ideal) ℓ) (g : Dev Cert.DownYRefIdeal.nD → PrngReg), Pre_DownYRefIdeal m →
    θ_run (Cert.DownYRefIdeal.defs (F := Ideal)) (onTc (τ := Cert.DownYRefIdeal.τ) (Cert.DownYRefIdeal.main (F := Ideal))) ⟨m, fun _ => 0, g⟩ (fun r => (∀ c : Dev Cert.DownYRefIdeal.nD,
      r.2.mem ((c.tc : Thread Cert.DownYRefIdeal.nD Cert.DownYRefIdeal.τ).loc Cert.DownYRefIdeal.main_arg0) = m ((c.tc : Thread Cert.DownYRefIdeal.nD Cert.DownYRefIdeal.τ).loc Cert.DownYRefIdeal.main_arg0)
      ∧ r.2.mem ((c.tc : Thread Cert.DownYRefIdeal.nD Cert.DownYRefIdeal.τ).loc Cert.DownYRefIdeal.main_arg1) = m ((c.tc : Thread Cert.DownYRefIdeal.nD Cert.DownYRefIdeal.τ).loc Cert.DownYRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4)
      ∧ r.2.mem ((c.tc : Thread Cert.InDx.nD Cert.InDx.τ).loc Cert.InDx.main_arg5) = m ((c.tc : Thread Cert.InDx.nD Cert.InDx.τ).loc Cert.InDx.main_arg5)
      ∧ r.2.mem ((c.tc : Thread Cert.InDx.nD Cert.InDx.τ).loc Cert.InDx.main_arg6) = m ((c.tc : Thread Cert.InDx.nD Cert.InDx.τ).loc Cert.InDx.main_arg6))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
      ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4)
      ∧ r.2.mem ((c.tc : Thread Cert.InDxRefIdeal.nD Cert.InDxRefIdeal.τ).loc Cert.InDxRefIdeal.main_arg5) = m ((c.tc : Thread Cert.InDxRefIdeal.nD Cert.InDxRefIdeal.τ).loc Cert.InDxRefIdeal.main_arg5)
      ∧ r.2.mem ((c.tc : Thread Cert.InDxRefIdeal.nD Cert.InDxRefIdeal.τ).loc Cert.InDxRefIdeal.main_arg6) = m ((c.tc : Thread Cert.InDxRefIdeal.nD Cert.InDxRefIdeal.τ).loc Cert.InDxRefIdeal.main_arg6))
      ∧ r.2.sem = fun _ => 0)

def quiescent_HeadDx [hHeadDx : Cert.HeadDx.Facts] : Prop :=
  ∀ (m : (ℓ : Loc Cert.HeadDx.nD Cert.HeadDx.τ Cert.HeadDx.sig) → Buf (Elt Bits) ℓ) (g : Dev Cert.HeadDx.nD → PrngReg), Pre_HeadDx m →
    θ_run (Cert.HeadDx.defs (F := Bits)) (onTc (τ := Cert.HeadDx.τ) (Cert.HeadDx.main (F := Bits))) ⟨m, fun _ => 0, g⟩ (fun r => (∀ c : Dev Cert.HeadDx.nD,
      r.2.mem ((c.tc : Thread Cert.HeadDx.nD Cert.HeadDx.τ).loc Cert.HeadDx.main_arg0) = m ((c.tc : Thread Cert.HeadDx.nD Cert.HeadDx.τ).loc Cert.HeadDx.main_arg0)
      ∧ r.2.mem ((c.tc : Thread Cert.HeadDx.nD Cert.HeadDx.τ).loc Cert.HeadDx.main_arg1) = m ((c.tc : Thread Cert.HeadDx.nD Cert.HeadDx.τ).loc Cert.HeadDx.main_arg1)
      ∧ r.2.mem ((c.tc : Thread Cert.HeadDx.nD Cert.HeadDx.τ).loc Cert.HeadDx.main_arg2) = m ((c.tc : Thread Cert.HeadDx.nD Cert.HeadDx.τ).loc Cert.HeadDx.main_arg2)
      ∧ r.2.mem ((c.tc : Thread Cert.HeadDx.nD Cert.HeadDx.τ).loc Cert.HeadDx.main_arg3) = m ((c.tc : Thread Cert.HeadDx.nD Cert.HeadDx.τ).loc Cert.HeadDx.main_arg3))
      ∧ r.2.sem = fun _ => 0)

def quiescent_HeadDxIdeal [hHeadDxIdeal : Cert.HeadDxIdeal.Facts] : Prop :=
  ∀ (m : (ℓ : Loc Cert.HeadDxIdeal.nD Cert.HeadDxIdeal.τ Cert.HeadDxIdeal.sig) → Buf (Elt Ideal) ℓ) (g : Dev Cert.HeadDxIdeal.nD → PrngReg), Pre_HeadDxIdeal m →
    θ_run (Cert.HeadDxIdeal.defs (F := Ideal)) (onTc (τ := Cert.HeadDxIdeal.τ) (Cert.HeadDxIdeal.main (F := Ideal))) ⟨m, fun _ => 0, g⟩ (fun r => (∀ c : Dev Cert.HeadDxIdeal.nD,
      r.2.mem ((c.tc : Thread Cert.HeadDxIdeal.nD Cert.HeadDxIdeal.τ).loc Cert.HeadDxIdeal.main_arg0) = m ((c.tc : Thread Cert.HeadDxIdeal.nD Cert.HeadDxIdeal.τ).loc Cert.HeadDxIdeal.main_arg0)
      ∧ r.2.mem ((c.tc : Thread Cert.HeadDxIdeal.nD Cert.HeadDxIdeal.τ).loc Cert.HeadDxIdeal.main_arg1) = m ((c.tc : Thread Cert.HeadDxIdeal.nD Cert.HeadDxIdeal.τ).loc Cert.HeadDxIdeal.main_arg1)
      ∧ r.2.mem ((c.tc : Thread Cert.HeadDxIdeal.nD Cert.HeadDxIdeal.τ).loc Cert.HeadDxIdeal.main_arg2) = m ((c.tc : Thread Cert.HeadDxIdeal.nD Cert.HeadDxIdeal.τ).loc Cert.HeadDxIdeal.main_arg2)
      ∧ r.2.mem ((c.tc : Thread Cert.HeadDxIdeal.nD Cert.HeadDxIdeal.τ).loc Cert.HeadDxIdeal.main_arg3) = m ((c.tc : Thread Cert.HeadDxIdeal.nD Cert.HeadDxIdeal.τ).loc Cert.HeadDxIdeal.main_arg3))
      ∧ r.2.sem = fun _ => 0)

def quiescent_HeadDxRefIdeal [hHeadDxRefIdeal : Cert.HeadDxRefIdeal.Facts] : Prop :=
  ∀ (m : (ℓ : Loc Cert.HeadDxRefIdeal.nD Cert.HeadDxRefIdeal.τ Cert.HeadDxRefIdeal.sig) → Buf (Elt Ideal) ℓ) (g : Dev Cert.HeadDxRefIdeal.nD → PrngReg), Pre_HeadDxRefIdeal m →
    θ_run (Cert.HeadDxRefIdeal.defs (F := Ideal)) (onTc (τ := Cert.HeadDxRefIdeal.τ) (Cert.HeadDxRefIdeal.main (F := Ideal))) ⟨m, fun _ => 0, g⟩ (fun r => (∀ c : Dev Cert.HeadDxRefIdeal.nD,
      r.2.mem ((c.tc : Thread Cert.HeadDxRefIdeal.nD Cert.HeadDxRefIdeal.τ).loc Cert.HeadDxRefIdeal.main_arg0) = m ((c.tc : Thread Cert.HeadDxRefIdeal.nD Cert.HeadDxRefIdeal.τ).loc Cert.HeadDxRefIdeal.main_arg0)
      ∧ r.2.mem ((c.tc : Thread Cert.HeadDxRefIdeal.nD Cert.HeadDxRefIdeal.τ).loc Cert.HeadDxRefIdeal.main_arg1) = m ((c.tc : Thread Cert.HeadDxRefIdeal.nD Cert.HeadDxRefIdeal.τ).loc Cert.HeadDxRefIdeal.main_arg1)
      ∧ r.2.mem ((c.tc : Thread Cert.HeadDxRefIdeal.nD Cert.HeadDxRefIdeal.τ).loc Cert.HeadDxRefIdeal.main_arg2) = m ((c.tc : Thread Cert.HeadDxRefIdeal.nD Cert.HeadDxRefIdeal.τ).loc Cert.HeadDxRefIdeal.main_arg2)
      ∧ r.2.mem ((c.tc : Thread Cert.HeadDxRefIdeal.nD Cert.HeadDxRefIdeal.τ).loc Cert.HeadDxRefIdeal.main_arg3) = m ((c.tc : Thread Cert.HeadDxRefIdeal.nD Cert.HeadDxRefIdeal.τ).loc Cert.HeadDxRefIdeal.main_arg3))
      ∧ r.2.sem = fun _ => 0)

def quiescent_HeadDw [hHeadDw : Cert.HeadDw.Facts] : Prop :=
  ∀ (m : (ℓ : Loc Cert.HeadDw.nD Cert.HeadDw.τ Cert.HeadDw.sig) → Buf (Elt Bits) ℓ) (g : Dev Cert.HeadDw.nD → PrngReg), Pre_HeadDw m →
    θ_run (Cert.HeadDw.defs (F := Bits)) (onTc (τ := Cert.HeadDw.τ) (Cert.HeadDw.main (F := Bits))) ⟨m, fun _ => 0, g⟩ (fun r => (∀ c : Dev Cert.HeadDw.nD,
      r.2.mem ((c.tc : Thread Cert.HeadDw.nD Cert.HeadDw.τ).loc Cert.HeadDw.main_arg0) = m ((c.tc : Thread Cert.HeadDw.nD Cert.HeadDw.τ).loc Cert.HeadDw.main_arg0)
      ∧ r.2.mem ((c.tc : Thread Cert.HeadDw.nD Cert.HeadDw.τ).loc Cert.HeadDw.main_arg1) = m ((c.tc : Thread Cert.HeadDw.nD Cert.HeadDw.τ).loc Cert.HeadDw.main_arg1)
      ∧ r.2.mem ((c.tc : Thread Cert.HeadDw.nD Cert.HeadDw.τ).loc Cert.HeadDw.main_arg2) = m ((c.tc : Thread Cert.HeadDw.nD Cert.HeadDw.τ).loc Cert.HeadDw.main_arg2)
      ∧ r.2.mem ((c.tc : Thread Cert.HeadDw.nD Cert.HeadDw.τ).loc Cert.HeadDw.main_arg3) = m ((c.tc : Thread Cert.HeadDw.nD Cert.HeadDw.τ).loc Cert.HeadDw.main_arg3))
      ∧ r.2.sem = fun _ => 0)

def quiescent_HeadDwIdeal [hHeadDwIdeal : Cert.HeadDwIdeal.Facts] : Prop :=
  ∀ (m : (ℓ : Loc Cert.HeadDwIdeal.nD Cert.HeadDwIdeal.τ Cert.HeadDwIdeal.sig) → Buf (Elt Ideal) ℓ) (g : Dev Cert.HeadDwIdeal.nD → PrngReg), Pre_HeadDwIdeal m →
    θ_run (Cert.HeadDwIdeal.defs (F := Ideal)) (onTc (τ := Cert.HeadDwIdeal.τ) (Cert.HeadDwIdeal.main (F := Ideal))) ⟨m, fun _ => 0, g⟩ (fun r => (∀ c : Dev Cert.HeadDwIdeal.nD,
      r.2.mem ((c.tc : Thread Cert.HeadDwIdeal.nD Cert.HeadDwIdeal.τ).loc Cert.HeadDwIdeal.main_arg0) = m ((c.tc : Thread Cert.HeadDwIdeal.nD Cert.HeadDwIdeal.τ).loc Cert.HeadDwIdeal.main_arg0)
      ∧ r.2.mem ((c.tc : Thread Cert.HeadDwIdeal.nD Cert.HeadDwIdeal.τ).loc Cert.HeadDwIdeal.main_arg1) = m ((c.tc : Thread Cert.HeadDwIdeal.nD Cert.HeadDwIdeal.τ).loc Cert.HeadDwIdeal.main_arg1)
      ∧ r.2.mem ((c.tc : Thread Cert.HeadDwIdeal.nD Cert.HeadDwIdeal.τ).loc Cert.HeadDwIdeal.main_arg2) = m ((c.tc : Thread Cert.HeadDwIdeal.nD Cert.HeadDwIdeal.τ).loc Cert.HeadDwIdeal.main_arg2)
      ∧ r.2.mem ((c.tc : Thread Cert.HeadDwIdeal.nD Cert.HeadDwIdeal.τ).loc Cert.HeadDwIdeal.main_arg3) = m ((c.tc : Thread Cert.HeadDwIdeal.nD Cert.HeadDwIdeal.τ).loc Cert.HeadDwIdeal.main_arg3))
      ∧ r.2.sem = fun _ => 0)

def quiescent_HeadDwRefIdeal [hHeadDwRefIdeal : Cert.HeadDwRefIdeal.Facts] : Prop :=
  ∀ (m : (ℓ : Loc Cert.HeadDwRefIdeal.nD Cert.HeadDwRefIdeal.τ Cert.HeadDwRefIdeal.sig) → Buf (Elt Ideal) ℓ) (g : Dev Cert.HeadDwRefIdeal.nD → PrngReg), Pre_HeadDwRefIdeal m →
    θ_run (Cert.HeadDwRefIdeal.defs (F := Ideal)) (onTc (τ := Cert.HeadDwRefIdeal.τ) (Cert.HeadDwRefIdeal.main (F := Ideal))) ⟨m, fun _ => 0, g⟩ (fun r => (∀ c : Dev Cert.HeadDwRefIdeal.nD,
      r.2.mem ((c.tc : Thread Cert.HeadDwRefIdeal.nD Cert.HeadDwRefIdeal.τ).loc Cert.HeadDwRefIdeal.main_arg0) = m ((c.tc : Thread Cert.HeadDwRefIdeal.nD Cert.HeadDwRefIdeal.τ).loc Cert.HeadDwRefIdeal.main_arg0)
      ∧ r.2.mem ((c.tc : Thread Cert.HeadDwRefIdeal.nD Cert.HeadDwRefIdeal.τ).loc Cert.HeadDwRefIdeal.main_arg1) = m ((c.tc : Thread Cert.HeadDwRefIdeal.nD Cert.HeadDwRefIdeal.τ).loc Cert.HeadDwRefIdeal.main_arg1)
      ∧ r.2.mem ((c.tc : Thread Cert.HeadDwRefIdeal.nD Cert.HeadDwRefIdeal.τ).loc Cert.HeadDwRefIdeal.main_arg2) = m ((c.tc : Thread Cert.HeadDwRefIdeal.nD Cert.HeadDwRefIdeal.τ).loc Cert.HeadDwRefIdeal.main_arg2)
      ∧ r.2.mem ((c.tc : Thread Cert.HeadDwRefIdeal.nD Cert.HeadDwRefIdeal.τ).loc Cert.HeadDwRefIdeal.main_arg3) = m ((c.tc : Thread Cert.HeadDwRefIdeal.nD Cert.HeadDwRefIdeal.τ).loc Cert.HeadDwRefIdeal.main_arg3))
      ∧ r.2.sem = fun _ => 0)

def quiescent_WaY [hWaY : Cert.WaY.Facts] : Prop :=
  ∀ (m : (ℓ : Loc Cert.WaY.nD Cert.WaY.τ Cert.WaY.sig) → Buf (Elt Bits) ℓ) (g : Dev Cert.WaY.nD → PrngReg), Pre_WaY m →
    θ_run (Cert.WaY.defs (F := Bits)) (onTc (τ := Cert.WaY.τ) (Cert.WaY.main (F := Bits))) ⟨m, fun _ => 0, g⟩ (fun r => (∀ c : Dev Cert.WaY.nD,
      r.2.mem ((c.tc : Thread Cert.WaY.nD Cert.WaY.τ).loc Cert.WaY.main_arg0) = m ((c.tc : Thread Cert.WaY.nD Cert.WaY.τ).loc Cert.WaY.main_arg0)
      ∧ r.2.mem ((c.tc : Thread Cert.WaY.nD Cert.WaY.τ).loc Cert.WaY.main_arg1) = m ((c.tc : Thread Cert.WaY.nD Cert.WaY.τ).loc Cert.WaY.main_arg1))
      ∧ r.2.sem = fun _ => 0)

def quiescent_WaYIdeal [hWaYIdeal : Cert.WaYIdeal.Facts] : Prop :=
  ∀ (m : (ℓ : Loc Cert.WaYIdeal.nD Cert.WaYIdeal.τ Cert.WaYIdeal.sig) → Buf (Elt Ideal) ℓ) (g : Dev Cert.WaYIdeal.nD → PrngReg), Pre_WaYIdeal m →
    θ_run (Cert.WaYIdeal.defs (F := Ideal)) (onTc (τ := Cert.WaYIdeal.τ) (Cert.WaYIdeal.main (F := Ideal))) ⟨m, fun _ => 0, g⟩ (fun r => (∀ c : Dev Cert.WaYIdeal.nD,
      r.2.mem ((c.tc : Thread Cert.WaYIdeal.nD Cert.WaYIdeal.τ).loc Cert.WaYIdeal.main_arg0) = m ((c.tc : Thread Cert.WaYIdeal.nD Cert.WaYIdeal.τ).loc Cert.WaYIdeal.main_arg0)
      ∧ r.2.mem ((c.tc : Thread Cert.WaYIdeal.nD Cert.WaYIdeal.τ).loc Cert.WaYIdeal.main_arg1) = m ((c.tc : Thread Cert.WaYIdeal.nD Cert.WaYIdeal.τ).loc Cert.WaYIdeal.main_arg1))
      ∧ r.2.sem = fun _ => 0)

def quiescent_WaYRefIdeal [hWaYRefIdeal : Cert.WaYRefIdeal.Facts] : Prop :=
  ∀ (m : (ℓ : Loc Cert.WaYRefIdeal.nD Cert.WaYRefIdeal.τ Cert.WaYRefIdeal.sig) → Buf (Elt Ideal) ℓ) (g : Dev Cert.WaYRefIdeal.nD → PrngReg), Pre_WaYRefIdeal m →
    θ_run (Cert.WaYRefIdeal.defs (F := Ideal)) (onTc (τ := Cert.WaYRefIdeal.τ) (Cert.WaYRefIdeal.main (F := Ideal))) ⟨m, fun _ => 0, g⟩ (fun r => (∀ c : Dev Cert.WaYRefIdeal.nD,
      r.2.mem ((c.tc : Thread Cert.WaYRefIdeal.nD Cert.WaYRefIdeal.τ).loc Cert.WaYRefIdeal.main_arg0) = m ((c.tc : Thread Cert.WaYRefIdeal.nD Cert.WaYRefIdeal.τ).loc Cert.WaYRefIdeal.main_arg0)
      ∧ r.2.mem ((c.tc : Thread Cert.WaYRefIdeal.nD Cert.WaYRefIdeal.τ).loc Cert.WaYRefIdeal.main_arg1) = m ((c.tc : Thread Cert.WaYRefIdeal.nD Cert.WaYRefIdeal.τ).loc Cert.WaYRefIdeal.main_arg1))
      ∧ r.2.sem = fun _ => 0)

def quiescent_WaDx [hWaDx : Cert.WaDx.Facts] : Prop :=
  ∀ (m : (ℓ : Loc Cert.WaDx.nD Cert.WaDx.τ Cert.WaDx.sig) → Buf (Elt Bits) ℓ) (g : Dev Cert.WaDx.nD → PrngReg), Pre_WaDx m →
    θ_run (Cert.WaDx.defs (F := Bits)) (onTc (τ := Cert.WaDx.τ) (Cert.WaDx.main (F := Bits))) ⟨m, fun _ => 0, g⟩ (fun r => (∀ c : Dev Cert.WaDx.nD,
      r.2.mem ((c.tc : Thread Cert.WaDx.nD Cert.WaDx.τ).loc Cert.WaDx.main_arg0) = m ((c.tc : Thread Cert.WaDx.nD Cert.WaDx.τ).loc Cert.WaDx.main_arg0)
      ∧ r.2.mem ((c.tc : Thread Cert.WaDx.nD Cert.WaDx.τ).loc Cert.WaDx.main_arg1) = m ((c.tc : Thread Cert.WaDx.nD Cert.WaDx.τ).loc Cert.WaDx.main_arg1))
      ∧ r.2.sem = fun _ => 0)

def quiescent_WaDxIdeal [hWaDxIdeal : Cert.WaDxIdeal.Facts] : Prop :=
  ∀ (m : (ℓ : Loc Cert.WaDxIdeal.nD Cert.WaDxIdeal.τ Cert.WaDxIdeal.sig) → Buf (Elt Ideal) ℓ) (g : Dev Cert.WaDxIdeal.nD → PrngReg), Pre_WaDxIdeal m →
    θ_run (Cert.WaDxIdeal.defs (F := Ideal)) (onTc (τ := Cert.WaDxIdeal.τ) (Cert.WaDxIdeal.main (F := Ideal))) ⟨m, fun _ => 0, g⟩ (fun r => (∀ c : Dev Cert.WaDxIdeal.nD,
      r.2.mem ((c.tc : Thread Cert.WaDxIdeal.nD Cert.WaDxIdeal.τ).loc Cert.WaDxIdeal.main_arg0) = m ((c.tc : Thread Cert.WaDxIdeal.nD Cert.WaDxIdeal.τ).loc Cert.WaDxIdeal.main_arg0)
      ∧ r.2.mem ((c.tc : Thread Cert.WaDxIdeal.nD Cert.WaDxIdeal.τ).loc Cert.WaDxIdeal.main_arg1) = m ((c.tc : Thread Cert.WaDxIdeal.nD Cert.WaDxIdeal.τ).loc Cert.WaDxIdeal.main_arg1))
      ∧ r.2.sem = fun _ => 0)

def quiescent_WaDxRefIdeal [hWaDxRefIdeal : Cert.WaDxRefIdeal.Facts] : Prop :=
  ∀ (m : (ℓ : Loc Cert.WaDxRefIdeal.nD Cert.WaDxRefIdeal.τ Cert.WaDxRefIdeal.sig) → Buf (Elt Ideal) ℓ) (g : Dev Cert.WaDxRefIdeal.nD → PrngReg), Pre_WaDxRefIdeal m →
    θ_run (Cert.WaDxRefIdeal.defs (F := Ideal)) (onTc (τ := Cert.WaDxRefIdeal.τ) (Cert.WaDxRefIdeal.main (F := Ideal))) ⟨m, fun _ => 0, g⟩ (fun r => (∀ c : Dev Cert.WaDxRefIdeal.nD,
      r.2.mem ((c.tc : Thread Cert.WaDxRefIdeal.nD Cert.WaDxRefIdeal.τ).loc Cert.WaDxRefIdeal.main_arg0) = m ((c.tc : Thread Cert.WaDxRefIdeal.nD Cert.WaDxRefIdeal.τ).loc Cert.WaDxRefIdeal.main_arg0)
      ∧ r.2.mem ((c.tc : Thread Cert.WaDxRefIdeal.nD Cert.WaDxRefIdeal.τ).loc Cert.WaDxRefIdeal.main_arg1) = m ((c.tc : Thread Cert.WaDxRefIdeal.nD Cert.WaDxRefIdeal.τ).loc Cert.WaDxRefIdeal.main_arg1))
      ∧ r.2.sem = fun _ => 0)

def quiescent_WaDw [hWaDw : Cert.WaDw.Facts] : Prop :=
  ∀ (m : (ℓ : Loc Cert.WaDw.nD Cert.WaDw.τ Cert.WaDw.sig) → Buf (Elt Bits) ℓ) (g : Dev Cert.WaDw.nD → PrngReg), Pre_WaDw m →
    θ_run (Cert.WaDw.defs (F := Bits)) (onTc (τ := Cert.WaDw.τ) (Cert.WaDw.main (F := Bits))) ⟨m, fun _ => 0, g⟩ (fun r => (∀ c : Dev Cert.WaDw.nD,
      r.2.mem ((c.tc : Thread Cert.WaDw.nD Cert.WaDw.τ).loc Cert.WaDw.main_arg0) = m ((c.tc : Thread Cert.WaDw.nD Cert.WaDw.τ).loc Cert.WaDw.main_arg0)
      ∧ r.2.mem ((c.tc : Thread Cert.WaDw.nD Cert.WaDw.τ).loc Cert.WaDw.main_arg1) = m ((c.tc : Thread Cert.WaDw.nD Cert.WaDw.τ).loc Cert.WaDw.main_arg1))
      ∧ r.2.sem = fun _ => 0)

def quiescent_WaDwIdeal [hWaDwIdeal : Cert.WaDwIdeal.Facts] : Prop :=
  ∀ (m : (ℓ : Loc Cert.WaDwIdeal.nD Cert.WaDwIdeal.τ Cert.WaDwIdeal.sig) → Buf (Elt Ideal) ℓ) (g : Dev Cert.WaDwIdeal.nD → PrngReg), Pre_WaDwIdeal m →
    θ_run (Cert.WaDwIdeal.defs (F := Ideal)) (onTc (τ := Cert.WaDwIdeal.τ) (Cert.WaDwIdeal.main (F := Ideal))) ⟨m, fun _ => 0, g⟩ (fun r => (∀ c : Dev Cert.WaDwIdeal.nD,
      r.2.mem ((c.tc : Thread Cert.WaDwIdeal.nD Cert.WaDwIdeal.τ).loc Cert.WaDwIdeal.main_arg0) = m ((c.tc : Thread Cert.WaDwIdeal.nD Cert.WaDwIdeal.τ).loc Cert.WaDwIdeal.main_arg0)
      ∧ r.2.mem ((c.tc : Thread Cert.WaDwIdeal.nD Cert.WaDwIdeal.τ).loc Cert.WaDwIdeal.main_arg1) = m ((c.tc : Thread Cert.WaDwIdeal.nD Cert.WaDwIdeal.τ).loc Cert.WaDwIdeal.main_arg1))
      ∧ r.2.sem = fun _ => 0)

def quiescent_WaDwRefIdeal [hWaDwRefIdeal : Cert.WaDwRefIdeal.Facts] : Prop :=
  ∀ (m : (ℓ : Loc Cert.WaDwRefIdeal.nD Cert.WaDwRefIdeal.τ Cert.WaDwRefIdeal.sig) → Buf (Elt Ideal) ℓ) (g : Dev Cert.WaDwRefIdeal.nD → PrngReg), Pre_WaDwRefIdeal m →
    θ_run (Cert.WaDwRefIdeal.defs (F := Ideal)) (onTc (τ := Cert.WaDwRefIdeal.τ) (Cert.WaDwRefIdeal.main (F := Ideal))) ⟨m, fun _ => 0, g⟩ (fun r => (∀ c : Dev Cert.WaDwRefIdeal.nD,
      r.2.mem ((c.tc : Thread Cert.WaDwRefIdeal.nD Cert.WaDwRefIdeal.τ).loc Cert.WaDwRefIdeal.main_arg0) = m ((c.tc : Thread Cert.WaDwRefIdeal.nD Cert.WaDwRefIdeal.τ).loc Cert.WaDwRefIdeal.main_arg0)
      ∧ r.2.mem ((c.tc : Thread Cert.WaDwRefIdeal.nD Cert.WaDwRefIdeal.τ).loc Cert.WaDwRefIdeal.main_arg1) = m ((c.tc : Thread Cert.WaDwRefIdeal.nD Cert.WaDwRefIdeal.τ).loc Cert.WaDwRefIdeal.main_arg1))
      ∧ r.2.sem = fun _ => 0)

def quiescent_WbY [hWbY : Cert.WbY.Facts] : Prop :=
  ∀ (m : (ℓ : Loc Cert.WbY.nD Cert.WbY.τ Cert.WbY.sig) → Buf (Elt Bits) ℓ) (g : Dev Cert.WbY.nD → PrngReg), Pre_WbY m →
    θ_run (Cert.WbY.defs (F := Bits)) (onTc (τ := Cert.WbY.τ) (Cert.WbY.main (F := Bits))) ⟨m, fun _ => 0, g⟩ (fun r => (∀ c : Dev Cert.WbY.nD,
      r.2.mem ((c.tc : Thread Cert.WbY.nD Cert.WbY.τ).loc Cert.WbY.main_arg0) = m ((c.tc : Thread Cert.WbY.nD Cert.WbY.τ).loc Cert.WbY.main_arg0)
      ∧ r.2.mem ((c.tc : Thread Cert.WbY.nD Cert.WbY.τ).loc Cert.WbY.main_arg1) = m ((c.tc : Thread Cert.WbY.nD Cert.WbY.τ).loc Cert.WbY.main_arg1))
      ∧ r.2.sem = fun _ => 0)

def quiescent_WbYIdeal [hWbYIdeal : Cert.WbYIdeal.Facts] : Prop :=
  ∀ (m : (ℓ : Loc Cert.WbYIdeal.nD Cert.WbYIdeal.τ Cert.WbYIdeal.sig) → Buf (Elt Ideal) ℓ) (g : Dev Cert.WbYIdeal.nD → PrngReg), Pre_WbYIdeal m →
    θ_run (Cert.WbYIdeal.defs (F := Ideal)) (onTc (τ := Cert.WbYIdeal.τ) (Cert.WbYIdeal.main (F := Ideal))) ⟨m, fun _ => 0, g⟩ (fun r => (∀ c : Dev Cert.WbYIdeal.nD,
      r.2.mem ((c.tc : Thread Cert.WbYIdeal.nD Cert.WbYIdeal.τ).loc Cert.WbYIdeal.main_arg0) = m ((c.tc : Thread Cert.WbYIdeal.nD Cert.WbYIdeal.τ).loc Cert.WbYIdeal.main_arg0)
      ∧ r.2.mem ((c.tc : Thread Cert.WbYIdeal.nD Cert.WbYIdeal.τ).loc Cert.WbYIdeal.main_arg1) = m ((c.tc : Thread Cert.WbYIdeal.nD Cert.WbYIdeal.τ).loc Cert.WbYIdeal.main_arg1))
      ∧ r.2.sem = fun _ => 0)

def quiescent_WbYRefIdeal [hWbYRefIdeal : Cert.WbYRefIdeal.Facts] : Prop :=
  ∀ (m : (ℓ : Loc Cert.WbYRefIdeal.nD Cert.WbYRefIdeal.τ Cert.WbYRefIdeal.sig) → Buf (Elt Ideal) ℓ) (g : Dev Cert.WbYRefIdeal.nD → PrngReg), Pre_WbYRefIdeal m →
    θ_run (Cert.WbYRefIdeal.defs (F := Ideal)) (onTc (τ := Cert.WbYRefIdeal.τ) (Cert.WbYRefIdeal.main (F := Ideal))) ⟨m, fun _ => 0, g⟩ (fun r => (∀ c : Dev Cert.WbYRefIdeal.nD,
      r.2.mem ((c.tc : Thread Cert.WbYRefIdeal.nD Cert.WbYRefIdeal.τ).loc Cert.WbYRefIdeal.main_arg0) = m ((c.tc : Thread Cert.WbYRefIdeal.nD Cert.WbYRefIdeal.τ).loc Cert.WbYRefIdeal.main_arg0)
      ∧ r.2.mem ((c.tc : Thread Cert.WbYRefIdeal.nD Cert.WbYRefIdeal.τ).loc Cert.WbYRefIdeal.main_arg1) = m ((c.tc : Thread Cert.WbYRefIdeal.nD Cert.WbYRefIdeal.τ).loc Cert.WbYRefIdeal.main_arg1))
      ∧ r.2.sem = fun _ => 0)

def quiescent_WbDx [hWbDx : Cert.WbDx.Facts] : Prop :=
  ∀ (m : (ℓ : Loc Cert.WbDx.nD Cert.WbDx.τ Cert.WbDx.sig) → Buf (Elt Bits) ℓ) (g : Dev Cert.WbDx.nD → PrngReg), Pre_WbDx m →
    θ_run (Cert.WbDx.defs (F := Bits)) (onTc (τ := Cert.WbDx.τ) (Cert.WbDx.main (F := Bits))) ⟨m, fun _ => 0, g⟩ (fun r => (∀ c : Dev Cert.WbDx.nD,
      r.2.mem ((c.tc : Thread Cert.WbDx.nD Cert.WbDx.τ).loc Cert.WbDx.main_arg0) = m ((c.tc : Thread Cert.WbDx.nD Cert.WbDx.τ).loc Cert.WbDx.main_arg0)
      ∧ r.2.mem ((c.tc : Thread Cert.WbDx.nD Cert.WbDx.τ).loc Cert.WbDx.main_arg1) = m ((c.tc : Thread Cert.WbDx.nD Cert.WbDx.τ).loc Cert.WbDx.main_arg1))
      ∧ r.2.sem = fun _ => 0)

def quiescent_WbDxIdeal [hWbDxIdeal : Cert.WbDxIdeal.Facts] : Prop :=
  ∀ (m : (ℓ : Loc Cert.WbDxIdeal.nD Cert.WbDxIdeal.τ Cert.WbDxIdeal.sig) → Buf (Elt Ideal) ℓ) (g : Dev Cert.WbDxIdeal.nD → PrngReg), Pre_WbDxIdeal m →
    θ_run (Cert.WbDxIdeal.defs (F := Ideal)) (onTc (τ := Cert.WbDxIdeal.τ) (Cert.WbDxIdeal.main (F := Ideal))) ⟨m, fun _ => 0, g⟩ (fun r => (∀ c : Dev Cert.WbDxIdeal.nD,
      r.2.mem ((c.tc : Thread Cert.WbDxIdeal.nD Cert.WbDxIdeal.τ).loc Cert.WbDxIdeal.main_arg0) = m ((c.tc : Thread Cert.WbDxIdeal.nD Cert.WbDxIdeal.τ).loc Cert.WbDxIdeal.main_arg0)
      ∧ r.2.mem ((c.tc : Thread Cert.WbDxIdeal.nD Cert.WbDxIdeal.τ).loc Cert.WbDxIdeal.main_arg1) = m ((c.tc : Thread Cert.WbDxIdeal.nD Cert.WbDxIdeal.τ).loc Cert.WbDxIdeal.main_arg1))
      ∧ r.2.sem = fun _ => 0)

def quiescent_WbDxRefIdeal [hWbDxRefIdeal : Cert.WbDxRefIdeal.Facts] : Prop :=
  ∀ (m : (ℓ : Loc Cert.WbDxRefIdeal.nD Cert.WbDxRefIdeal.τ Cert.WbDxRefIdeal.sig) → Buf (Elt Ideal) ℓ) (g : Dev Cert.WbDxRefIdeal.nD → PrngReg), Pre_WbDxRefIdeal m →
    θ_run (Cert.WbDxRefIdeal.defs (F := Ideal)) (onTc (τ := Cert.WbDxRefIdeal.τ) (Cert.WbDxRefIdeal.main (F := Ideal))) ⟨m, fun _ => 0, g⟩ (fun r => (∀ c : Dev Cert.WbDxRefIdeal.nD,
      r.2.mem ((c.tc : Thread Cert.WbDxRefIdeal.nD Cert.WbDxRefIdeal.τ).loc Cert.WbDxRefIdeal.main_arg0) = m ((c.tc : Thread Cert.WbDxRefIdeal.nD Cert.WbDxRefIdeal.τ).loc Cert.WbDxRefIdeal.main_arg0)
      ∧ r.2.mem ((c.tc : Thread Cert.WbDxRefIdeal.nD Cert.WbDxRefIdeal.τ).loc Cert.WbDxRefIdeal.main_arg1) = m ((c.tc : Thread Cert.WbDxRefIdeal.nD Cert.WbDxRefIdeal.τ).loc Cert.WbDxRefIdeal.main_arg1))
      ∧ r.2.sem = fun _ => 0)

def quiescent_WbDw [hWbDw : Cert.WbDw.Facts] : Prop :=
  ∀ (m : (ℓ : Loc Cert.WbDw.nD Cert.WbDw.τ Cert.WbDw.sig) → Buf (Elt Bits) ℓ) (g : Dev Cert.WbDw.nD → PrngReg), Pre_WbDw m →
    θ_run (Cert.WbDw.defs (F := Bits)) (onTc (τ := Cert.WbDw.τ) (Cert.WbDw.main (F := Bits))) ⟨m, fun _ => 0, g⟩ (fun r => (∀ c : Dev Cert.WbDw.nD,
      r.2.mem ((c.tc : Thread Cert.WbDw.nD Cert.WbDw.τ).loc Cert.WbDw.main_arg0) = m ((c.tc : Thread Cert.WbDw.nD Cert.WbDw.τ).loc Cert.WbDw.main_arg0)
      ∧ r.2.mem ((c.tc : Thread Cert.WbDw.nD Cert.WbDw.τ).loc Cert.WbDw.main_arg1) = m ((c.tc : Thread Cert.WbDw.nD Cert.WbDw.τ).loc Cert.WbDw.main_arg1))
      ∧ r.2.sem = fun _ => 0)

def quiescent_WbDwIdeal [hWbDwIdeal : Cert.WbDwIdeal.Facts] : Prop :=
  ∀ (m : (ℓ : Loc Cert.WbDwIdeal.nD Cert.WbDwIdeal.τ Cert.WbDwIdeal.sig) → Buf (Elt Ideal) ℓ) (g : Dev Cert.WbDwIdeal.nD → PrngReg), Pre_WbDwIdeal m →
    θ_run (Cert.WbDwIdeal.defs (F := Ideal)) (onTc (τ := Cert.WbDwIdeal.τ) (Cert.WbDwIdeal.main (F := Ideal))) ⟨m, fun _ => 0, g⟩ (fun r => (∀ c : Dev Cert.WbDwIdeal.nD,
      r.2.mem ((c.tc : Thread Cert.WbDwIdeal.nD Cert.WbDwIdeal.τ).loc Cert.WbDwIdeal.main_arg0) = m ((c.tc : Thread Cert.WbDwIdeal.nD Cert.WbDwIdeal.τ).loc Cert.WbDwIdeal.main_arg0)
      ∧ r.2.mem ((c.tc : Thread Cert.WbDwIdeal.nD Cert.WbDwIdeal.τ).loc Cert.WbDwIdeal.main_arg1) = m ((c.tc : Thread Cert.WbDwIdeal.nD Cert.WbDwIdeal.τ).loc Cert.WbDwIdeal.main_arg1))
      ∧ r.2.sem = fun _ => 0)

def quiescent_WbDwRefIdeal [hWbDwRefIdeal : Cert.WbDwRefIdeal.Facts] : Prop :=
  ∀ (m : (ℓ : Loc Cert.WbDwRefIdeal.nD Cert.WbDwRefIdeal.τ Cert.WbDwRefIdeal.sig) → Buf (Elt Ideal) ℓ) (g : Dev Cert.WbDwRefIdeal.nD → PrngReg), Pre_WbDwRefIdeal m →
    θ_run (Cert.WbDwRefIdeal.defs (F := Ideal)) (onTc (τ := Cert.WbDwRefIdeal.τ) (Cert.WbDwRefIdeal.main (F := Ideal))) ⟨m, fun _ => 0, g⟩ (fun r => (∀ c : Dev Cert.WbDwRefIdeal.nD,
      r.2.mem ((c.tc : Thread Cert.WbDwRefIdeal.nD Cert.WbDwRefIdeal.τ).loc Cert.WbDwRefIdeal.main_arg0) = m ((c.tc : Thread Cert.WbDwRefIdeal.nD Cert.WbDwRefIdeal.τ).loc Cert.WbDwRefIdeal.main_arg0)
      ∧ r.2.mem ((c.tc : Thread Cert.WbDwRefIdeal.nD Cert.WbDwRefIdeal.τ).loc Cert.WbDwRefIdeal.main_arg1) = m ((c.tc : Thread Cert.WbDwRefIdeal.nD Cert.WbDwRefIdeal.τ).loc Cert.WbDwRefIdeal.main_arg1))
      ∧ r.2.sem = fun _ => 0)

def quiescent_WoY [hWoY : Cert.WoY.Facts] : Prop :=
  ∀ (m : (ℓ : Loc Cert.WoY.nD Cert.WoY.τ Cert.WoY.sig) → Buf (Elt Bits) ℓ) (g : Dev Cert.WoY.nD → PrngReg), Pre_WoY m →
    θ_run (Cert.WoY.defs (F := Bits)) (onTc (τ := Cert.WoY.τ) (Cert.WoY.main (F := Bits))) ⟨m, fun _ => 0, g⟩ (fun r => (∀ c : Dev Cert.WoY.nD,
      r.2.mem ((c.tc : Thread Cert.WoY.nD Cert.WoY.τ).loc Cert.WoY.main_arg0) = m ((c.tc : Thread Cert.WoY.nD Cert.WoY.τ).loc Cert.WoY.main_arg0)
      ∧ r.2.mem ((c.tc : Thread Cert.WoY.nD Cert.WoY.τ).loc Cert.WoY.main_arg1) = m ((c.tc : Thread Cert.WoY.nD Cert.WoY.τ).loc Cert.WoY.main_arg1))
      ∧ r.2.sem = fun _ => 0)

def quiescent_WoYIdeal [hWoYIdeal : Cert.WoYIdeal.Facts] : Prop :=
  ∀ (m : (ℓ : Loc Cert.WoYIdeal.nD Cert.WoYIdeal.τ Cert.WoYIdeal.sig) → Buf (Elt Ideal) ℓ) (g : Dev Cert.WoYIdeal.nD → PrngReg), Pre_WoYIdeal m →
    θ_run (Cert.WoYIdeal.defs (F := Ideal)) (onTc (τ := Cert.WoYIdeal.τ) (Cert.WoYIdeal.main (F := Ideal))) ⟨m, fun _ => 0, g⟩ (fun r => (∀ c : Dev Cert.WoYIdeal.nD,
      r.2.mem ((c.tc : Thread Cert.WoYIdeal.nD Cert.WoYIdeal.τ).loc Cert.WoYIdeal.main_arg0) = m ((c.tc : Thread Cert.WoYIdeal.nD Cert.WoYIdeal.τ).loc Cert.WoYIdeal.main_arg0)
      ∧ r.2.mem ((c.tc : Thread Cert.WoYIdeal.nD Cert.WoYIdeal.τ).loc Cert.WoYIdeal.main_arg1) = m ((c.tc : Thread Cert.WoYIdeal.nD Cert.WoYIdeal.τ).loc Cert.WoYIdeal.main_arg1))
      ∧ r.2.sem = fun _ => 0)

def quiescent_WoYRefIdeal [hWoYRefIdeal : Cert.WoYRefIdeal.Facts] : Prop :=
  ∀ (m : (ℓ : Loc Cert.WoYRefIdeal.nD Cert.WoYRefIdeal.τ Cert.WoYRefIdeal.sig) → Buf (Elt Ideal) ℓ) (g : Dev Cert.WoYRefIdeal.nD → PrngReg), Pre_WoYRefIdeal m →
    θ_run (Cert.WoYRefIdeal.defs (F := Ideal)) (onTc (τ := Cert.WoYRefIdeal.τ) (Cert.WoYRefIdeal.main (F := Ideal))) ⟨m, fun _ => 0, g⟩ (fun r => (∀ c : Dev Cert.WoYRefIdeal.nD,
      r.2.mem ((c.tc : Thread Cert.WoYRefIdeal.nD Cert.WoYRefIdeal.τ).loc Cert.WoYRefIdeal.main_arg0) = m ((c.tc : Thread Cert.WoYRefIdeal.nD Cert.WoYRefIdeal.τ).loc Cert.WoYRefIdeal.main_arg0)
      ∧ r.2.mem ((c.tc : Thread Cert.WoYRefIdeal.nD Cert.WoYRefIdeal.τ).loc Cert.WoYRefIdeal.main_arg1) = m ((c.tc : Thread Cert.WoYRefIdeal.nD Cert.WoYRefIdeal.τ).loc Cert.WoYRefIdeal.main_arg1))
      ∧ r.2.sem = fun _ => 0)

def quiescent_WoDx [hWoDx : Cert.WoDx.Facts] : Prop :=
  ∀ (m : (ℓ : Loc Cert.WoDx.nD Cert.WoDx.τ Cert.WoDx.sig) → Buf (Elt Bits) ℓ) (g : Dev Cert.WoDx.nD → PrngReg), Pre_WoDx m →
    θ_run (Cert.WoDx.defs (F := Bits)) (onTc (τ := Cert.WoDx.τ) (Cert.WoDx.main (F := Bits))) ⟨m, fun _ => 0, g⟩ (fun r => (∀ c : Dev Cert.WoDx.nD,
      r.2.mem ((c.tc : Thread Cert.WoDx.nD Cert.WoDx.τ).loc Cert.WoDx.main_arg0) = m ((c.tc : Thread Cert.WoDx.nD Cert.WoDx.τ).loc Cert.WoDx.main_arg0)
      ∧ r.2.mem ((c.tc : Thread Cert.WoDx.nD Cert.WoDx.τ).loc Cert.WoDx.main_arg1) = m ((c.tc : Thread Cert.WoDx.nD Cert.WoDx.τ).loc Cert.WoDx.main_arg1))
      ∧ r.2.sem = fun _ => 0)

def quiescent_WoDxIdeal [hWoDxIdeal : Cert.WoDxIdeal.Facts] : Prop :=
  ∀ (m : (ℓ : Loc Cert.WoDxIdeal.nD Cert.WoDxIdeal.τ Cert.WoDxIdeal.sig) → Buf (Elt Ideal) ℓ) (g : Dev Cert.WoDxIdeal.nD → PrngReg), Pre_WoDxIdeal m →
    θ_run (Cert.WoDxIdeal.defs (F := Ideal)) (onTc (τ := Cert.WoDxIdeal.τ) (Cert.WoDxIdeal.main (F := Ideal))) ⟨m, fun _ => 0, g⟩ (fun r => (∀ c : Dev Cert.WoDxIdeal.nD,
      r.2.mem ((c.tc : Thread Cert.WoDxIdeal.nD Cert.WoDxIdeal.τ).loc Cert.WoDxIdeal.main_arg0) = m ((c.tc : Thread Cert.WoDxIdeal.nD Cert.WoDxIdeal.τ).loc Cert.WoDxIdeal.main_arg0)
      ∧ r.2.mem ((c.tc : Thread Cert.WoDxIdeal.nD Cert.WoDxIdeal.τ).loc Cert.WoDxIdeal.main_arg1) = m ((c.tc : Thread Cert.WoDxIdeal.nD Cert.WoDxIdeal.τ).loc Cert.WoDxIdeal.main_arg1))
      ∧ r.2.sem = fun _ => 0)

def quiescent_WoDxRefIdeal [hWoDxRefIdeal : Cert.WoDxRefIdeal.Facts] : Prop :=
  ∀ (m : (ℓ : Loc Cert.WoDxRefIdeal.nD Cert.WoDxRefIdeal.τ Cert.WoDxRefIdeal.sig) → Buf (Elt Ideal) ℓ) (g : Dev Cert.WoDxRefIdeal.nD → PrngReg), Pre_WoDxRefIdeal m →
    θ_run (Cert.WoDxRefIdeal.defs (F := Ideal)) (onTc (τ := Cert.WoDxRefIdeal.τ) (Cert.WoDxRefIdeal.main (F := Ideal))) ⟨m, fun _ => 0, g⟩ (fun r => (∀ c : Dev Cert.WoDxRefIdeal.nD,
      r.2.mem ((c.tc : Thread Cert.WoDxRefIdeal.nD Cert.WoDxRefIdeal.τ).loc Cert.WoDxRefIdeal.main_arg0) = m ((c.tc : Thread Cert.WoDxRefIdeal.nD Cert.WoDxRefIdeal.τ).loc Cert.WoDxRefIdeal.main_arg0)
      ∧ r.2.mem ((c.tc : Thread Cert.WoDxRefIdeal.nD Cert.WoDxRefIdeal.τ).loc Cert.WoDxRefIdeal.main_arg1) = m ((c.tc : Thread Cert.WoDxRefIdeal.nD Cert.WoDxRefIdeal.τ).loc Cert.WoDxRefIdeal.main_arg1))
      ∧ r.2.sem = fun _ => 0)

def quiescent_WoDw [hWoDw : Cert.WoDw.Facts] : Prop :=
  ∀ (m : (ℓ : Loc Cert.WoDw.nD Cert.WoDw.τ Cert.WoDw.sig) → Buf (Elt Bits) ℓ) (g : Dev Cert.WoDw.nD → PrngReg), Pre_WoDw m →
    θ_run (Cert.WoDw.defs (F := Bits)) (onTc (τ := Cert.WoDw.τ) (Cert.WoDw.main (F := Bits))) ⟨m, fun _ => 0, g⟩ (fun r => (∀ c : Dev Cert.WoDw.nD,
      r.2.mem ((c.tc : Thread Cert.WoDw.nD Cert.WoDw.τ).loc Cert.WoDw.main_arg0) = m ((c.tc : Thread Cert.WoDw.nD Cert.WoDw.τ).loc Cert.WoDw.main_arg0)
      ∧ r.2.mem ((c.tc : Thread Cert.WoDw.nD Cert.WoDw.τ).loc Cert.WoDw.main_arg1) = m ((c.tc : Thread Cert.WoDw.nD Cert.WoDw.τ).loc Cert.WoDw.main_arg1))
      ∧ r.2.sem = fun _ => 0)

def quiescent_WoDwIdeal [hWoDwIdeal : Cert.WoDwIdeal.Facts] : Prop :=
  ∀ (m : (ℓ : Loc Cert.WoDwIdeal.nD Cert.WoDwIdeal.τ Cert.WoDwIdeal.sig) → Buf (Elt Ideal) ℓ) (g : Dev Cert.WoDwIdeal.nD → PrngReg), Pre_WoDwIdeal m →
    θ_run (Cert.WoDwIdeal.defs (F := Ideal)) (onTc (τ := Cert.WoDwIdeal.τ) (Cert.WoDwIdeal.main (F := Ideal))) ⟨m, fun _ => 0, g⟩ (fun r => (∀ c : Dev Cert.WoDwIdeal.nD,
      r.2.mem ((c.tc : Thread Cert.WoDwIdeal.nD Cert.WoDwIdeal.τ).loc Cert.WoDwIdeal.main_arg0) = m ((c.tc : Thread Cert.WoDwIdeal.nD Cert.WoDwIdeal.τ).loc Cert.WoDwIdeal.main_arg0)
      ∧ r.2.mem ((c.tc : Thread Cert.WoDwIdeal.nD Cert.WoDwIdeal.τ).loc Cert.WoDwIdeal.main_arg1) = m ((c.tc : Thread Cert.WoDwIdeal.nD Cert.WoDwIdeal.τ).loc Cert.WoDwIdeal.main_arg1))
      ∧ r.2.sem = fun _ => 0)

def quiescent_WoDwRefIdeal [hWoDwRefIdeal : Cert.WoDwRefIdeal.Facts] : Prop :=
  ∀ (m : (ℓ : Loc Cert.WoDwRefIdeal.nD Cert.WoDwRefIdeal.τ Cert.WoDwRefIdeal.sig) → Buf (Elt Ideal) ℓ) (g : Dev Cert.WoDwRefIdeal.nD → PrngReg), Pre_WoDwRefIdeal m →
    θ_run (Cert.WoDwRefIdeal.defs (F := Ideal)) (onTc (τ := Cert.WoDwRefIdeal.τ) (Cert.WoDwRefIdeal.main (F := Ideal))) ⟨m, fun _ => 0, g⟩ (fun r => (∀ c : Dev Cert.WoDwRefIdeal.nD,
      r.2.mem ((c.tc : Thread Cert.WoDwRefIdeal.nD Cert.WoDwRefIdeal.τ).loc Cert.WoDwRefIdeal.main_arg0) = m ((c.tc : Thread Cert.WoDwRefIdeal.nD Cert.WoDwRefIdeal.τ).loc Cert.WoDwRefIdeal.main_arg0)
      ∧ r.2.mem ((c.tc : Thread Cert.WoDwRefIdeal.nD Cert.WoDwRefIdeal.τ).loc Cert.WoDwRefIdeal.main_arg1) = m ((c.tc : Thread Cert.WoDwRefIdeal.nD Cert.WoDwRefIdeal.τ).loc Cert.WoDwRefIdeal.main_arg1))
      ∧ r.2.sem = fun _ => 0)

def quiescent_InY [hInY : Cert.InY.Facts] : Prop :=
  ∀ (m : (ℓ : Loc Cert.InY.nD Cert.InY.τ Cert.InY.sig) → Buf (Elt Bits) ℓ) (g : Dev Cert.InY.nD → PrngReg), Pre_InY m →
    θ_run (Cert.InY.defs (F := Bits)) (onTc (τ := Cert.InY.τ) (Cert.InY.main (F := Bits))) ⟨m, fun _ => 0, g⟩ (fun r => (∀ c : Dev Cert.InY.nD,
      r.2.mem ((c.tc : Thread Cert.InY.nD Cert.InY.τ).loc Cert.InY.main_arg0) = m ((c.tc : Thread Cert.InY.nD Cert.InY.τ).loc Cert.InY.main_arg0)
      ∧ r.2.mem ((c.tc : Thread Cert.InY.nD Cert.InY.τ).loc Cert.InY.main_arg1) = m ((c.tc : Thread Cert.InY.nD Cert.InY.τ).loc Cert.InY.main_arg1))
      ∧ r.2.sem = fun _ => 0)

def quiescent_InYIdeal [hInYIdeal : Cert.InYIdeal.Facts] : Prop :=
  ∀ (m : (ℓ : Loc Cert.InYIdeal.nD Cert.InYIdeal.τ Cert.InYIdeal.sig) → Buf (Elt Ideal) ℓ) (g : Dev Cert.InYIdeal.nD → PrngReg), Pre_InYIdeal m →
    θ_run (Cert.InYIdeal.defs (F := Ideal)) (onTc (τ := Cert.InYIdeal.τ) (Cert.InYIdeal.main (F := Ideal))) ⟨m, fun _ => 0, g⟩ (fun r => (∀ c : Dev Cert.InYIdeal.nD,
      r.2.mem ((c.tc : Thread Cert.InYIdeal.nD Cert.InYIdeal.τ).loc Cert.InYIdeal.main_arg0) = m ((c.tc : Thread Cert.InYIdeal.nD Cert.InYIdeal.τ).loc Cert.InYIdeal.main_arg0)
      ∧ r.2.mem ((c.tc : Thread Cert.InYIdeal.nD Cert.InYIdeal.τ).loc Cert.InYIdeal.main_arg1) = m ((c.tc : Thread Cert.InYIdeal.nD Cert.InYIdeal.τ).loc Cert.InYIdeal.main_arg1))
      ∧ r.2.sem = fun _ => 0)

def quiescent_InYRefIdeal [hInYRefIdeal : Cert.InYRefIdeal.Facts] : Prop :=
  ∀ (m : (ℓ : Loc Cert.InYRefIdeal.nD Cert.InYRefIdeal.τ Cert.InYRefIdeal.sig) → Buf (Elt Ideal) ℓ) (g : Dev Cert.InYRefIdeal.nD → PrngReg), Pre_InYRefIdeal m →
    θ_run (Cert.InYRefIdeal.defs (F := Ideal)) (onTc (τ := Cert.InYRefIdeal.τ) (Cert.InYRefIdeal.main (F := Ideal))) ⟨m, fun _ => 0, g⟩ (fun r => (∀ c : Dev Cert.InYRefIdeal.nD,
      r.2.mem ((c.tc : Thread Cert.InYRefIdeal.nD Cert.InYRefIdeal.τ).loc Cert.InYRefIdeal.main_arg0) = m ((c.tc : Thread Cert.InYRefIdeal.nD Cert.InYRefIdeal.τ).loc Cert.InYRefIdeal.main_arg0)
      ∧ r.2.mem ((c.tc : Thread Cert.InYRefIdeal.nD Cert.InYRefIdeal.τ).loc Cert.InYRefIdeal.main_arg1) = m ((c.tc : Thread Cert.InYRefIdeal.nD Cert.InYRefIdeal.τ).loc Cert.InYRefIdeal.main_arg1))
      ∧ r.2.sem = fun _ => 0)

def quiescent_HeadY [hHeadY : Cert.HeadY.Facts] : Prop :=
  ∀ (m : (ℓ : Loc Cert.HeadY.nD Cert.HeadY.τ Cert.HeadY.sig) → Buf (Elt Bits) ℓ) (g : Dev Cert.HeadY.nD → PrngReg), Pre_HeadY m →
    θ_run (Cert.HeadY.defs (F := Bits)) (onTc (τ := Cert.HeadY.τ) (Cert.HeadY.main (F := Bits))) ⟨m, fun _ => 0, g⟩ (fun r => (∀ c : Dev Cert.HeadY.nD,
      r.2.mem ((c.tc : Thread Cert.HeadY.nD Cert.HeadY.τ).loc Cert.HeadY.main_arg0) = m ((c.tc : Thread Cert.HeadY.nD Cert.HeadY.τ).loc Cert.HeadY.main_arg0)
      ∧ r.2.mem ((c.tc : Thread Cert.HeadY.nD Cert.HeadY.τ).loc Cert.HeadY.main_arg1) = m ((c.tc : Thread Cert.HeadY.nD Cert.HeadY.τ).loc Cert.HeadY.main_arg1))
      ∧ r.2.sem = fun _ => 0)

def quiescent_HeadYIdeal [hHeadYIdeal : Cert.HeadYIdeal.Facts] : Prop :=
  ∀ (m : (ℓ : Loc Cert.HeadYIdeal.nD Cert.HeadYIdeal.τ Cert.HeadYIdeal.sig) → Buf (Elt Ideal) ℓ) (g : Dev Cert.HeadYIdeal.nD → PrngReg), Pre_HeadYIdeal m →
    θ_run (Cert.HeadYIdeal.defs (F := Ideal)) (onTc (τ := Cert.HeadYIdeal.τ) (Cert.HeadYIdeal.main (F := Ideal))) ⟨m, fun _ => 0, g⟩ (fun r => (∀ c : Dev Cert.HeadYIdeal.nD,
      r.2.mem ((c.tc : Thread Cert.HeadYIdeal.nD Cert.HeadYIdeal.τ).loc Cert.HeadYIdeal.main_arg0) = m ((c.tc : Thread Cert.HeadYIdeal.nD Cert.HeadYIdeal.τ).loc Cert.HeadYIdeal.main_arg0)
      ∧ r.2.mem ((c.tc : Thread Cert.HeadYIdeal.nD Cert.HeadYIdeal.τ).loc Cert.HeadYIdeal.main_arg1) = m ((c.tc : Thread Cert.HeadYIdeal.nD Cert.HeadYIdeal.τ).loc Cert.HeadYIdeal.main_arg1))
      ∧ r.2.sem = fun _ => 0)

def quiescent_HeadYRefIdeal [hHeadYRefIdeal : Cert.HeadYRefIdeal.Facts] : Prop :=
  ∀ (m : (ℓ : Loc Cert.HeadYRefIdeal.nD Cert.HeadYRefIdeal.τ Cert.HeadYRefIdeal.sig) → Buf (Elt Ideal) ℓ) (g : Dev Cert.HeadYRefIdeal.nD → PrngReg), Pre_HeadYRefIdeal m →
    θ_run (Cert.HeadYRefIdeal.defs (F := Ideal)) (onTc (τ := Cert.HeadYRefIdeal.τ) (Cert.HeadYRefIdeal.main (F := Ideal))) ⟨m, fun _ => 0, g⟩ (fun r => (∀ c : Dev Cert.HeadYRefIdeal.nD,
      r.2.mem ((c.tc : Thread Cert.HeadYRefIdeal.nD Cert.HeadYRefIdeal.τ).loc Cert.HeadYRefIdeal.main_arg0) = m ((c.tc : Thread Cert.HeadYRefIdeal.nD Cert.HeadYRefIdeal.τ).loc Cert.HeadYRefIdeal.main_arg0)
      ∧ r.2.mem ((c.tc : Thread Cert.HeadYRefIdeal.nD Cert.HeadYRefIdeal.τ).loc Cert.HeadYRefIdeal.main_arg1) = m ((c.tc : Thread Cert.HeadYRefIdeal.nD Cert.HeadYRefIdeal.τ).loc Cert.HeadYRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2)
      ∧ r.2.mem ((c.tc : Thread Cert.InDw.nD Cert.InDw.τ).loc Cert.InDw.main_arg3) = m ((c.tc : Thread Cert.InDw.nD Cert.InDw.τ).loc Cert.InDw.main_arg3)
      ∧ r.2.mem ((c.tc : Thread Cert.InDw.nD Cert.InDw.τ).loc Cert.InDw.main_arg4) = m ((c.tc : Thread Cert.InDw.nD Cert.InDw.τ).loc Cert.InDw.main_arg4)
      ∧ r.2.mem ((c.tc : Thread Cert.InDw.nD Cert.InDw.τ).loc Cert.InDw.main_arg5) = m ((c.tc : Thread Cert.InDw.nD Cert.InDw.τ).loc Cert.InDw.main_arg5)
      ∧ r.2.mem ((c.tc : Thread Cert.InDw.nD Cert.InDw.τ).loc Cert.InDw.main_arg6) = m ((c.tc : Thread Cert.InDw.nD Cert.InDw.τ).loc Cert.InDw.main_arg6))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2)
      ∧ r.2.mem ((c.tc : Thread Cert.InDwIdeal.nD Cert.InDwIdeal.τ).loc Cert.InDwIdeal.main_arg3) = m ((c.tc : Thread Cert.InDwIdeal.nD Cert.InDwIdeal.τ).loc Cert.InDwIdeal.main_arg3)
      ∧ r.2.mem ((c.tc : Thread Cert.InDwIdeal.nD Cert.InDwIdeal.τ).loc Cert.InDwIdeal.main_arg4) = m ((c.tc : Thread Cert.InDwIdeal.nD Cert.InDwIdeal.τ).loc Cert.InDwIdeal.main_arg4)
      ∧ r.2.mem ((c.tc : Thread Cert.InDwIdeal.nD Cert.InDwIdeal.τ).loc Cert.InDwIdeal.main_arg5) = m ((c.tc : Thread Cert.InDwIdeal.nD Cert.InDwIdeal.τ).loc Cert.InDwIdeal.main_arg5)
      ∧ r.2.mem ((c.tc : Thread Cert.InDwIdeal.nD Cert.InDwIdeal.τ).loc Cert.InDwIdeal.main_arg6) = m ((c.tc : Thread Cert.InDwIdeal.nD Cert.InDwIdeal.τ).loc Cert.InDwIdeal.main_arg6))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1)
      ∧ r.2.mem ((c.tc : Thread Cert.InDwRefIdeal.nD Cert.InDwRefIdeal.τ).loc Cert.InDwRefIdeal.main_arg2) = m ((c.tc : Thread Cert.InDwRefIdeal.nD Cert.InDwRefIdeal.τ).loc Cert.InDwRefIdeal.main_arg2)
      ∧ r.2.mem ((c.tc : Thread Cert.InDwRefIdeal.nD Cert.InDwRefIdeal.τ).loc Cert.InDwRefIdeal.main_arg3) = m ((c.tc : Thread Cert.InDwRefIdeal.nD Cert.InDwRefIdeal.τ).loc Cert.InDwRefIdeal.main_arg3)
      ∧ r.2.mem ((c.tc : Thread Cert.InDwRefIdeal.nD Cert.InDwRefIdeal.τ).loc Cert.InDwRefIdeal.main_arg4) = m ((c.tc : Thread Cert.InDwRefIdeal.nD Cert.InDwRefIdeal.τ).loc Cert.InDwRefIdeal.main_arg4)
      ∧ r.2.mem ((c.tc : Thread Cert.InDwRefIdeal.nD Cert.InDwRefIdeal.τ).loc Cert.InDwRefIdeal.main_arg5) = m ((c.tc : Thread Cert.InDwRefIdeal.nD Cert.InDwRefIdeal.τ).loc Cert.InDwRefIdeal.main_arg5)
      ∧ r.2.mem ((c.tc : Thread Cert.InDwRefIdeal.nD Cert.InDwRefIdeal.τ).loc Cert.InDwRefIdeal.main_arg6) = m ((c.tc : Thread Cert.InDwRefIdeal.nD Cert.InDwRefIdeal.τ).loc Cert.InDwRefIdeal.main_arg6))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActIdeal_pre_finite_act [hActIdeal : Cert.ActIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg), Pre_ActIdeal_finite_act m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_ActRefIdeal_pre_finite_act [hActRefIdeal : Cert.ActRefIdeal.Facts] [hPre_finite_act : Cert.Pre_finite_act.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_finite_act m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_v213) = v1 c
          ∧ r.2.mem ((c.tc : Thread Cert.ReferenceIdeal.nD Cert.ReferenceIdeal.τ).loc Cert.ReferenceIdeal.main_v214) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)) →
    ∃ (v0 : (c : Dev Cert.UpDxIdeal.nD) → Buf (Elt Ideal) ((c.tc : Thread Cert.UpDxIdeal.nD Cert.UpDxIdeal.τ).loc Cert.UpDxIdeal.main_v10)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v10) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v10) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v10)) (v1 : (c : Dev Cert.UpDwIdeal.nD) → Buf (Elt Ideal) ((c.tc : Thread Cert.UpDwIdeal.nD Cert.UpDwIdeal.τ).loc Cert.UpDwIdeal.main_v11)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v10) = v0 c
          ∧ r.2.mem ((c.tc : Thread Cert.UpDwIdeal.nD Cert.UpDwIdeal.τ).loc Cert.UpDwIdeal.main_v11) = v1 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v11) = v0 c
          ∧ r.2.mem ((c.tc : Thread Cert.UpDwRefIdeal.nD Cert.UpDwRefIdeal.τ).loc Cert.UpDwRefIdeal.main_v12) = v1 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpY_UpYIdeal : Prop :=
  True

def algebraic_UpYIdeal_UpYRefIdeal [hUpYIdeal : Cert.UpYIdeal.Facts] [hUpYRefIdeal : Cert.UpYRefIdeal.Facts] : Prop :=
  ∀ (m : (ℓ : Loc Cert.UpYIdeal.nD Cert.UpYIdeal.τ Cert.UpYIdeal.sig) → Buf (Elt Ideal) ℓ) (g : Dev Cert.UpYIdeal.nD → PrngReg)
    (m' : (ℓ : Loc Cert.UpYRefIdeal.nD Cert.UpYRefIdeal.τ Cert.UpYRefIdeal.sig) → Buf (Elt Ideal) ℓ) (g' : Dev Cert.UpYRefIdeal.nD → PrngReg), Pre_UpYIdeal m →
    (∀ c : Dev Cert.UpYIdeal.nD,
      m' ((c.tc : Thread Cert.UpYRefIdeal.nD Cert.UpYRefIdeal.τ).loc Cert.UpYRefIdeal.main_arg0) = m ((c.tc : Thread Cert.UpYIdeal.nD Cert.UpYIdeal.τ).loc Cert.UpYIdeal.main_arg0)
      ∧ m' ((c.tc : Thread Cert.UpYRefIdeal.nD Cert.UpYRefIdeal.τ).loc Cert.UpYRefIdeal.main_arg1) = m ((c.tc : Thread Cert.UpYIdeal.nD Cert.UpYIdeal.τ).loc Cert.UpYIdeal.main_arg1)
      ∧ m' ((c.tc : Thread Cert.UpYRefIdeal.nD Cert.UpYRefIdeal.τ).loc Cert.UpYRefIdeal.main_arg2) = m ((c.tc : Thread Cert.UpYIdeal.nD Cert.UpYIdeal.τ).loc Cert.UpYIdeal.main_arg2)) →
    ∃ (v0 : (c : Dev Cert.UpYIdeal.nD) → Buf (Elt Ideal) ((c.tc : Thread Cert.UpYIdeal.nD Cert.UpYIdeal.τ).loc Cert.UpYIdeal.main_v10)) (v1 : (c : Dev Cert.UpYIdeal.nD) → Buf (Elt Ideal) ((c.tc : Thread Cert.UpYIdeal.nD Cert.UpYIdeal.τ).loc Cert.UpYIdeal.main_v11)) (v2 : (c : Dev Cert.UpYIdeal.nD) → Buf (Elt Ideal) ((c.tc : Thread Cert.UpYIdeal.nD Cert.UpYIdeal.τ).loc Cert.UpYIdeal.main_v5_1)),
      θ_run (Cert.UpYIdeal.defs (F := Ideal)) (onTc (τ := Cert.UpYIdeal.τ) (Cert.UpYIdeal.main (F := Ideal))) ⟨m, fun _ => 0, g⟩ (fun r => ∀ c : Dev Cert.UpYIdeal.nD,
          r.2.mem ((c.tc : Thread Cert.UpYIdeal.nD Cert.UpYIdeal.τ).loc Cert.UpYIdeal.main_v10) = v0 c
          ∧ r.2.mem ((c.tc : Thread Cert.UpYIdeal.nD Cert.UpYIdeal.τ).loc Cert.UpYIdeal.main_v11) = v1 c
          ∧ r.2.mem ((c.tc : Thread Cert.UpYIdeal.nD Cert.UpYIdeal.τ).loc Cert.UpYIdeal.main_v5_1) = v2 c
          ∧ r.2.mem ((c.tc : Thread Cert.UpYIdeal.nD Cert.UpYIdeal.τ).loc Cert.UpYIdeal.main_arg0) = m ((c.tc : Thread Cert.UpYIdeal.nD Cert.UpYIdeal.τ).loc Cert.UpYIdeal.main_arg0)
          ∧ r.2.mem ((c.tc : Thread Cert.UpYIdeal.nD Cert.UpYIdeal.τ).loc Cert.UpYIdeal.main_arg1) = m ((c.tc : Thread Cert.UpYIdeal.nD Cert.UpYIdeal.τ).loc Cert.UpYIdeal.main_arg1)
          ∧ r.2.mem ((c.tc : Thread Cert.UpYIdeal.nD Cert.UpYIdeal.τ).loc Cert.UpYIdeal.main_arg2) = m ((c.tc : Thread Cert.UpYIdeal.nD Cert.UpYIdeal.τ).loc Cert.UpYIdeal.main_arg2))
      ∧ θ_run (Cert.UpYRefIdeal.defs (F := Ideal)) (onTc (τ := Cert.UpYRefIdeal.τ) (Cert.UpYRefIdeal.main (F := Ideal))) ⟨m', fun _ => 0, g'⟩ (fun r => ∀ c : Dev Cert.UpYRefIdeal.nD,
          r.2.mem ((c.tc : Thread Cert.UpYRefIdeal.nD Cert.UpYRefIdeal.τ).loc Cert.UpYRefIdeal.main_v8) = v0 c
          ∧ r.2.mem ((c.tc : Thread Cert.UpYRefIdeal.nD Cert.UpYRefIdeal.τ).loc Cert.UpYRefIdeal.main_v9) = v1 c
          ∧ r.2.mem ((c.tc : Thread Cert.UpYRefIdeal.nD Cert.UpYRefIdeal.τ).loc Cert.UpYRefIdeal.main_v10) = v2 c
          ∧ r.2.mem ((c.tc : Thread Cert.UpYRefIdeal.nD Cert.UpYRefIdeal.τ).loc Cert.UpYRefIdeal.main_arg0) = m' ((c.tc : Thread Cert.UpYRefIdeal.nD Cert.UpYRefIdeal.τ).loc Cert.UpYRefIdeal.main_arg0)
          ∧ r.2.mem ((c.tc : Thread Cert.UpYRefIdeal.nD Cert.UpYRefIdeal.τ).loc Cert.UpYRefIdeal.main_arg1) = m' ((c.tc : Thread Cert.UpYRefIdeal.nD Cert.UpYRefIdeal.τ).loc Cert.UpYRefIdeal.main_arg1)
          ∧ r.2.mem ((c.tc : Thread Cert.UpYRefIdeal.nD Cert.UpYRefIdeal.τ).loc Cert.UpYRefIdeal.main_arg2) = m' ((c.tc : Thread Cert.UpYRefIdeal.nD Cert.UpYRefIdeal.τ).loc Cert.UpYRefIdeal.main_arg2))

def preserves_DownY_DownYIdeal : Prop :=
  True

def algebraic_DownYIdeal_DownYRefIdeal [hDownYIdeal : Cert.DownYIdeal.Facts] [hDownYRefIdeal : Cert.DownYRefIdeal.Facts] : Prop :=
  ∀ (m : (ℓ : Loc Cert.DownYIdeal.nD Cert.DownYIdeal.τ Cert.DownYIdeal.sig) → Buf (Elt Ideal) ℓ) (g : Dev Cert.DownYIdeal.nD → PrngReg)
    (m' : (ℓ : Loc Cert.DownYRefIdeal.nD Cert.DownYRefIdeal.τ Cert.DownYRefIdeal.sig) → Buf (Elt Ideal) ℓ) (g' : Dev Cert.DownYRefIdeal.nD → PrngReg), Pre_DownYIdeal m →
    (∀ c : Dev Cert.DownYIdeal.nD,
      m' ((c.tc : Thread Cert.DownYRefIdeal.nD Cert.DownYRefIdeal.τ).loc Cert.DownYRefIdeal.main_arg0) = m ((c.tc : Thread Cert.DownYIdeal.nD Cert.DownYIdeal.τ).loc Cert.DownYIdeal.main_arg0)
      ∧ m' ((c.tc : Thread Cert.DownYRefIdeal.nD Cert.DownYRefIdeal.τ).loc Cert.DownYRefIdeal.main_arg1) = m ((c.tc : Thread Cert.DownYIdeal.nD Cert.DownYIdeal.τ).loc Cert.DownYIdeal.main_arg1)) →
    ∃ (v0 : (c : Dev Cert.DownYIdeal.nD) → Buf (Elt Ideal) ((c.tc : Thread Cert.DownYIdeal.nD Cert.DownYIdeal.τ).loc Cert.DownYIdeal.main_v0)),
      θ_run (Cert.DownYIdeal.defs (F := Ideal)) (onTc (τ := Cert.DownYIdeal.τ) (Cert.DownYIdeal.main (F := Ideal))) ⟨m, fun _ => 0, g⟩ (fun r => ∀ c : Dev Cert.DownYIdeal.nD,
          r.2.mem ((c.tc : Thread Cert.DownYIdeal.nD Cert.DownYIdeal.τ).loc Cert.DownYIdeal.main_v0) = v0 c
          ∧ r.2.mem ((c.tc : Thread Cert.DownYIdeal.nD Cert.DownYIdeal.τ).loc Cert.DownYIdeal.main_arg0) = m ((c.tc : Thread Cert.DownYIdeal.nD Cert.DownYIdeal.τ).loc Cert.DownYIdeal.main_arg0)
          ∧ r.2.mem ((c.tc : Thread Cert.DownYIdeal.nD Cert.DownYIdeal.τ).loc Cert.DownYIdeal.main_arg1) = m ((c.tc : Thread Cert.DownYIdeal.nD Cert.DownYIdeal.τ).loc Cert.DownYIdeal.main_arg1))
      ∧ θ_run (Cert.DownYRefIdeal.defs (F := Ideal)) (onTc (τ := Cert.DownYRefIdeal.τ) (Cert.DownYRefIdeal.main (F := Ideal))) ⟨m', fun _ => 0, g'⟩ (fun r => ∀ c : Dev Cert.DownYRefIdeal.nD,
          r.2.mem ((c.tc : Thread Cert.DownYRefIdeal.nD Cert.DownYRefIdeal.τ).loc Cert.DownYRefIdeal.main_v2) = v0 c
          ∧ r.2.mem ((c.tc : Thread Cert.DownYRefIdeal.nD Cert.DownYRefIdeal.τ).loc Cert.DownYRefIdeal.main_arg0) = m' ((c.tc : Thread Cert.DownYRefIdeal.nD Cert.DownYRefIdeal.τ).loc Cert.DownYRefIdeal.main_arg0)
          ∧ r.2.mem ((c.tc : Thread Cert.DownYRefIdeal.nD Cert.DownYRefIdeal.τ).loc Cert.DownYRefIdeal.main_arg1) = m' ((c.tc : Thread Cert.DownYRefIdeal.nD Cert.DownYRefIdeal.τ).loc Cert.DownYRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)
      ∧ m' ((c.tc : Thread Cert.InDxRefIdeal.nD Cert.InDxRefIdeal.τ).loc Cert.InDxRefIdeal.main_arg5) = m ((c.tc : Thread Cert.InDxIdeal.nD Cert.InDxIdeal.τ).loc Cert.InDxIdeal.main_arg5)
      ∧ m' ((c.tc : Thread Cert.InDxRefIdeal.nD Cert.InDxRefIdeal.τ).loc Cert.InDxRefIdeal.main_arg6) = m ((c.tc : Thread Cert.InDxIdeal.nD Cert.InDxIdeal.τ).loc Cert.InDxIdeal.main_arg6)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
          ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
          ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v17) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4)
          ∧ r.2.mem ((c.tc : Thread Cert.InDxRefIdeal.nD Cert.InDxRefIdeal.τ).loc Cert.InDxRefIdeal.main_arg5) = m' ((c.tc : Thread Cert.InDxRefIdeal.nD Cert.InDxRefIdeal.τ).loc Cert.InDxRefIdeal.main_arg5)
          ∧ r.2.mem ((c.tc : Thread Cert.InDxRefIdeal.nD Cert.InDxRefIdeal.τ).loc Cert.InDxRefIdeal.main_arg6) = m' ((c.tc : Thread Cert.InDxRefIdeal.nD Cert.InDxRefIdeal.τ).loc Cert.InDxRefIdeal.main_arg6))

def preserves_HeadDx_HeadDxIdeal : Prop :=
  True

def algebraic_HeadDxIdeal_HeadDxRefIdeal [hHeadDxIdeal : Cert.HeadDxIdeal.Facts] [hHeadDxRefIdeal : Cert.HeadDxRefIdeal.Facts] : Prop :=
  ∀ (m : (ℓ : Loc Cert.HeadDxIdeal.nD Cert.HeadDxIdeal.τ Cert.HeadDxIdeal.sig) → Buf (Elt Ideal) ℓ) (g : Dev Cert.HeadDxIdeal.nD → PrngReg)
    (m' : (ℓ : Loc Cert.HeadDxRefIdeal.nD Cert.HeadDxRefIdeal.τ Cert.HeadDxRefIdeal.sig) → Buf (Elt Ideal) ℓ) (g' : Dev Cert.HeadDxRefIdeal.nD → PrngReg), Pre_HeadDxIdeal m →
    (∀ c : Dev Cert.HeadDxIdeal.nD,
      m' ((c.tc : Thread Cert.HeadDxRefIdeal.nD Cert.HeadDxRefIdeal.τ).loc Cert.HeadDxRefIdeal.main_arg0) = m ((c.tc : Thread Cert.HeadDxIdeal.nD Cert.HeadDxIdeal.τ).loc Cert.HeadDxIdeal.main_arg0)
      ∧ m' ((c.tc : Thread Cert.HeadDxRefIdeal.nD Cert.HeadDxRefIdeal.τ).loc Cert.HeadDxRefIdeal.main_arg1) = m ((c.tc : Thread Cert.HeadDxIdeal.nD Cert.HeadDxIdeal.τ).loc Cert.HeadDxIdeal.main_arg1)
      ∧ m' ((c.tc : Thread Cert.HeadDxRefIdeal.nD Cert.HeadDxRefIdeal.τ).loc Cert.HeadDxRefIdeal.main_arg2) = m ((c.tc : Thread Cert.HeadDxIdeal.nD Cert.HeadDxIdeal.τ).loc Cert.HeadDxIdeal.main_arg2)
      ∧ m' ((c.tc : Thread Cert.HeadDxRefIdeal.nD Cert.HeadDxRefIdeal.τ).loc Cert.HeadDxRefIdeal.main_arg3) = m ((c.tc : Thread Cert.HeadDxIdeal.nD Cert.HeadDxIdeal.τ).loc Cert.HeadDxIdeal.main_arg3)) →
    ∃ (v0 : (c : Dev Cert.HeadDxIdeal.nD) → Buf (Elt Ideal) ((c.tc : Thread Cert.HeadDxIdeal.nD Cert.HeadDxIdeal.τ).loc Cert.HeadDxIdeal.main_v0)),
      θ_run (Cert.HeadDxIdeal.defs (F := Ideal)) (onTc (τ := Cert.HeadDxIdeal.τ) (Cert.HeadDxIdeal.main (F := Ideal))) ⟨m, fun _ => 0, g⟩ (fun r => ∀ c : Dev Cert.HeadDxIdeal.nD,
          r.2.mem ((c.tc : Thread Cert.HeadDxIdeal.nD Cert.HeadDxIdeal.τ).loc Cert.HeadDxIdeal.main_v0) = v0 c
          ∧ r.2.mem ((c.tc : Thread Cert.HeadDxIdeal.nD Cert.HeadDxIdeal.τ).loc Cert.HeadDxIdeal.main_arg0) = m ((c.tc : Thread Cert.HeadDxIdeal.nD Cert.HeadDxIdeal.τ).loc Cert.HeadDxIdeal.main_arg0)
          ∧ r.2.mem ((c.tc : Thread Cert.HeadDxIdeal.nD Cert.HeadDxIdeal.τ).loc Cert.HeadDxIdeal.main_arg1) = m ((c.tc : Thread Cert.HeadDxIdeal.nD Cert.HeadDxIdeal.τ).loc Cert.HeadDxIdeal.main_arg1)
          ∧ r.2.mem ((c.tc : Thread Cert.HeadDxIdeal.nD Cert.HeadDxIdeal.τ).loc Cert.HeadDxIdeal.main_arg2) = m ((c.tc : Thread Cert.HeadDxIdeal.nD Cert.HeadDxIdeal.τ).loc Cert.HeadDxIdeal.main_arg2)
          ∧ r.2.mem ((c.tc : Thread Cert.HeadDxIdeal.nD Cert.HeadDxIdeal.τ).loc Cert.HeadDxIdeal.main_arg3) = m ((c.tc : Thread Cert.HeadDxIdeal.nD Cert.HeadDxIdeal.τ).loc Cert.HeadDxIdeal.main_arg3))
      ∧ θ_run (Cert.HeadDxRefIdeal.defs (F := Ideal)) (onTc (τ := Cert.HeadDxRefIdeal.τ) (Cert.HeadDxRefIdeal.main (F := Ideal))) ⟨m', fun _ => 0, g'⟩ (fun r => ∀ c : Dev Cert.HeadDxRefIdeal.nD,
          r.2.mem ((c.tc : Thread Cert.HeadDxRefIdeal.nD Cert.HeadDxRefIdeal.τ).loc Cert.HeadDxRefIdeal.main_v11) = v0 c
          ∧ r.2.mem ((c.tc : Thread Cert.HeadDxRefIdeal.nD Cert.HeadDxRefIdeal.τ).loc Cert.HeadDxRefIdeal.main_arg0) = m' ((c.tc : Thread Cert.HeadDxRefIdeal.nD Cert.HeadDxRefIdeal.τ).loc Cert.HeadDxRefIdeal.main_arg0)
          ∧ r.2.mem ((c.tc : Thread Cert.HeadDxRefIdeal.nD Cert.HeadDxRefIdeal.τ).loc Cert.HeadDxRefIdeal.main_arg1) = m' ((c.tc : Thread Cert.HeadDxRefIdeal.nD Cert.HeadDxRefIdeal.τ).loc Cert.HeadDxRefIdeal.main_arg1)
          ∧ r.2.mem ((c.tc : Thread Cert.HeadDxRefIdeal.nD Cert.HeadDxRefIdeal.τ).loc Cert.HeadDxRefIdeal.main_arg2) = m' ((c.tc : Thread Cert.HeadDxRefIdeal.nD Cert.HeadDxRefIdeal.τ).loc Cert.HeadDxRefIdeal.main_arg2)
          ∧ r.2.mem ((c.tc : Thread Cert.HeadDxRefIdeal.nD Cert.HeadDxRefIdeal.τ).loc Cert.HeadDxRefIdeal.main_arg3) = m' ((c.tc : Thread Cert.HeadDxRefIdeal.nD Cert.HeadDxRefIdeal.τ).loc Cert.HeadDxRefIdeal.main_arg3))

def preserves_HeadDw_HeadDwIdeal : Prop :=
  True

def algebraic_HeadDwIdeal_HeadDwRefIdeal [hHeadDwIdeal : Cert.HeadDwIdeal.Facts] [hHeadDwRefIdeal : Cert.HeadDwRefIdeal.Facts] : Prop :=
  ∀ (m : (ℓ : Loc Cert.HeadDwIdeal.nD Cert.HeadDwIdeal.τ Cert.HeadDwIdeal.sig) → Buf (Elt Ideal) ℓ) (g : Dev Cert.HeadDwIdeal.nD → PrngReg)
    (m' : (ℓ : Loc Cert.HeadDwRefIdeal.nD Cert.HeadDwRefIdeal.τ Cert.HeadDwRefIdeal.sig) → Buf (Elt Ideal) ℓ) (g' : Dev Cert.HeadDwRefIdeal.nD → PrngReg), Pre_HeadDwIdeal m →
    (∀ c : Dev Cert.HeadDwIdeal.nD,
      m' ((c.tc : Thread Cert.HeadDwRefIdeal.nD Cert.HeadDwRefIdeal.τ).loc Cert.HeadDwRefIdeal.main_arg0) = m ((c.tc : Thread Cert.HeadDwIdeal.nD Cert.HeadDwIdeal.τ).loc Cert.HeadDwIdeal.main_arg0)
      ∧ m' ((c.tc : Thread Cert.HeadDwRefIdeal.nD Cert.HeadDwRefIdeal.τ).loc Cert.HeadDwRefIdeal.main_arg1) = m ((c.tc : Thread Cert.HeadDwIdeal.nD Cert.HeadDwIdeal.τ).loc Cert.HeadDwIdeal.main_arg1)
      ∧ m' ((c.tc : Thread Cert.HeadDwRefIdeal.nD Cert.HeadDwRefIdeal.τ).loc Cert.HeadDwRefIdeal.main_arg2) = m ((c.tc : Thread Cert.HeadDwIdeal.nD Cert.HeadDwIdeal.τ).loc Cert.HeadDwIdeal.main_arg2)
      ∧ m' ((c.tc : Thread Cert.HeadDwRefIdeal.nD Cert.HeadDwRefIdeal.τ).loc Cert.HeadDwRefIdeal.main_arg3) = m ((c.tc : Thread Cert.HeadDwIdeal.nD Cert.HeadDwIdeal.τ).loc Cert.HeadDwIdeal.main_arg3)) →
    ∃ (v0 : (c : Dev Cert.HeadDwIdeal.nD) → Buf (Elt Ideal) ((c.tc : Thread Cert.HeadDwIdeal.nD Cert.HeadDwIdeal.τ).loc Cert.HeadDwIdeal.main_v0)),
      θ_run (Cert.HeadDwIdeal.defs (F := Ideal)) (onTc (τ := Cert.HeadDwIdeal.τ) (Cert.HeadDwIdeal.main (F := Ideal))) ⟨m, fun _ => 0, g⟩ (fun r => ∀ c : Dev Cert.HeadDwIdeal.nD,
          r.2.mem ((c.tc : Thread Cert.HeadDwIdeal.nD Cert.HeadDwIdeal.τ).loc Cert.HeadDwIdeal.main_v0) = v0 c
          ∧ r.2.mem ((c.tc : Thread Cert.HeadDwIdeal.nD Cert.HeadDwIdeal.τ).loc Cert.HeadDwIdeal.main_arg0) = m ((c.tc : Thread Cert.HeadDwIdeal.nD Cert.HeadDwIdeal.τ).loc Cert.HeadDwIdeal.main_arg0)
          ∧ r.2.mem ((c.tc : Thread Cert.HeadDwIdeal.nD Cert.HeadDwIdeal.τ).loc Cert.HeadDwIdeal.main_arg1) = m ((c.tc : Thread Cert.HeadDwIdeal.nD Cert.HeadDwIdeal.τ).loc Cert.HeadDwIdeal.main_arg1)
          ∧ r.2.mem ((c.tc : Thread Cert.HeadDwIdeal.nD Cert.HeadDwIdeal.τ).loc Cert.HeadDwIdeal.main_arg2) = m ((c.tc : Thread Cert.HeadDwIdeal.nD Cert.HeadDwIdeal.τ).loc Cert.HeadDwIdeal.main_arg2)
          ∧ r.2.mem ((c.tc : Thread Cert.HeadDwIdeal.nD Cert.HeadDwIdeal.τ).loc Cert.HeadDwIdeal.main_arg3) = m ((c.tc : Thread Cert.HeadDwIdeal.nD Cert.HeadDwIdeal.τ).loc Cert.HeadDwIdeal.main_arg3))
      ∧ θ_run (Cert.HeadDwRefIdeal.defs (F := Ideal)) (onTc (τ := Cert.HeadDwRefIdeal.τ) (Cert.HeadDwRefIdeal.main (F := Ideal))) ⟨m', fun _ => 0, g'⟩ (fun r => ∀ c : Dev Cert.HeadDwRefIdeal.nD,
          r.2.mem ((c.tc : Thread Cert.HeadDwRefIdeal.nD Cert.HeadDwRefIdeal.τ).loc Cert.HeadDwRefIdeal.main_v12) = v0 c
          ∧ r.2.mem ((c.tc : Thread Cert.HeadDwRefIdeal.nD Cert.HeadDwRefIdeal.τ).loc Cert.HeadDwRefIdeal.main_arg0) = m' ((c.tc : Thread Cert.HeadDwRefIdeal.nD Cert.HeadDwRefIdeal.τ).loc Cert.HeadDwRefIdeal.main_arg0)
          ∧ r.2.mem ((c.tc : Thread Cert.HeadDwRefIdeal.nD Cert.HeadDwRefIdeal.τ).loc Cert.HeadDwRefIdeal.main_arg1) = m' ((c.tc : Thread Cert.HeadDwRefIdeal.nD Cert.HeadDwRefIdeal.τ).loc Cert.HeadDwRefIdeal.main_arg1)
          ∧ r.2.mem ((c.tc : Thread Cert.HeadDwRefIdeal.nD Cert.HeadDwRefIdeal.τ).loc Cert.HeadDwRefIdeal.main_arg2) = m' ((c.tc : Thread Cert.HeadDwRefIdeal.nD Cert.HeadDwRefIdeal.τ).loc Cert.HeadDwRefIdeal.main_arg2)
          ∧ r.2.mem ((c.tc : Thread Cert.HeadDwRefIdeal.nD Cert.HeadDwRefIdeal.τ).loc Cert.HeadDwRefIdeal.main_arg3) = m' ((c.tc : Thread Cert.HeadDwRefIdeal.nD Cert.HeadDwRefIdeal.τ).loc Cert.HeadDwRefIdeal.main_arg3))

def preserves_WaY_WaYIdeal : Prop :=
  True

def algebraic_WaYIdeal_WaYRefIdeal [hWaYIdeal : Cert.WaYIdeal.Facts] [hWaYRefIdeal : Cert.WaYRefIdeal.Facts] : Prop :=
  ∀ (m : (ℓ : Loc Cert.WaYIdeal.nD Cert.WaYIdeal.τ Cert.WaYIdeal.sig) → Buf (Elt Ideal) ℓ) (g : Dev Cert.WaYIdeal.nD → PrngReg)
    (m' : (ℓ : Loc Cert.WaYRefIdeal.nD Cert.WaYRefIdeal.τ Cert.WaYRefIdeal.sig) → Buf (Elt Ideal) ℓ) (g' : Dev Cert.WaYRefIdeal.nD → PrngReg), Pre_WaYIdeal m →
    (∀ c : Dev Cert.WaYIdeal.nD,
      m' ((c.tc : Thread Cert.WaYRefIdeal.nD Cert.WaYRefIdeal.τ).loc Cert.WaYRefIdeal.main_arg0) = m ((c.tc : Thread Cert.WaYIdeal.nD Cert.WaYIdeal.τ).loc Cert.WaYIdeal.main_arg0)
      ∧ m' ((c.tc : Thread Cert.WaYRefIdeal.nD Cert.WaYRefIdeal.τ).loc Cert.WaYRefIdeal.main_arg1) = m ((c.tc : Thread Cert.WaYIdeal.nD Cert.WaYIdeal.τ).loc Cert.WaYIdeal.main_arg1)) →
    ∃ (v0 : (c : Dev Cert.WaYIdeal.nD) → Buf (Elt Ideal) ((c.tc : Thread Cert.WaYIdeal.nD Cert.WaYIdeal.τ).loc Cert.WaYIdeal.main_v0)),
      θ_run (Cert.WaYIdeal.defs (F := Ideal)) (onTc (τ := Cert.WaYIdeal.τ) (Cert.WaYIdeal.main (F := Ideal))) ⟨m, fun _ => 0, g⟩ (fun r => ∀ c : Dev Cert.WaYIdeal.nD,
          r.2.mem ((c.tc : Thread Cert.WaYIdeal.nD Cert.WaYIdeal.τ).loc Cert.WaYIdeal.main_v0) = v0 c
          ∧ r.2.mem ((c.tc : Thread Cert.WaYIdeal.nD Cert.WaYIdeal.τ).loc Cert.WaYIdeal.main_arg0) = m ((c.tc : Thread Cert.WaYIdeal.nD Cert.WaYIdeal.τ).loc Cert.WaYIdeal.main_arg0)
          ∧ r.2.mem ((c.tc : Thread Cert.WaYIdeal.nD Cert.WaYIdeal.τ).loc Cert.WaYIdeal.main_arg1) = m ((c.tc : Thread Cert.WaYIdeal.nD Cert.WaYIdeal.τ).loc Cert.WaYIdeal.main_arg1))
      ∧ θ_run (Cert.WaYRefIdeal.defs (F := Ideal)) (onTc (τ := Cert.WaYRefIdeal.τ) (Cert.WaYRefIdeal.main (F := Ideal))) ⟨m', fun _ => 0, g'⟩ (fun r => ∀ c : Dev Cert.WaYRefIdeal.nD,
          r.2.mem ((c.tc : Thread Cert.WaYRefIdeal.nD Cert.WaYRefIdeal.τ).loc Cert.WaYRefIdeal.main_v3) = v0 c
          ∧ r.2.mem ((c.tc : Thread Cert.WaYRefIdeal.nD Cert.WaYRefIdeal.τ).loc Cert.WaYRefIdeal.main_arg0) = m' ((c.tc : Thread Cert.WaYRefIdeal.nD Cert.WaYRefIdeal.τ).loc Cert.WaYRefIdeal.main_arg0)
          ∧ r.2.mem ((c.tc : Thread Cert.WaYRefIdeal.nD Cert.WaYRefIdeal.τ).loc Cert.WaYRefIdeal.main_arg1) = m' ((c.tc : Thread Cert.WaYRefIdeal.nD Cert.WaYRefIdeal.τ).loc Cert.WaYRefIdeal.main_arg1))

def preserves_WaDx_WaDxIdeal : Prop :=
  True

def algebraic_WaDxIdeal_WaDxRefIdeal [hWaDxIdeal : Cert.WaDxIdeal.Facts] [hWaDxRefIdeal : Cert.WaDxRefIdeal.Facts] : Prop :=
  ∀ (m : (ℓ : Loc Cert.WaDxIdeal.nD Cert.WaDxIdeal.τ Cert.WaDxIdeal.sig) → Buf (Elt Ideal) ℓ) (g : Dev Cert.WaDxIdeal.nD → PrngReg)
    (m' : (ℓ : Loc Cert.WaDxRefIdeal.nD Cert.WaDxRefIdeal.τ Cert.WaDxRefIdeal.sig) → Buf (Elt Ideal) ℓ) (g' : Dev Cert.WaDxRefIdeal.nD → PrngReg), Pre_WaDxIdeal m →
    (∀ c : Dev Cert.WaDxIdeal.nD,
      m' ((c.tc : Thread Cert.WaDxRefIdeal.nD Cert.WaDxRefIdeal.τ).loc Cert.WaDxRefIdeal.main_arg0) = m ((c.tc : Thread Cert.WaDxIdeal.nD Cert.WaDxIdeal.τ).loc Cert.WaDxIdeal.main_arg0)
      ∧ m' ((c.tc : Thread Cert.WaDxRefIdeal.nD Cert.WaDxRefIdeal.τ).loc Cert.WaDxRefIdeal.main_arg1) = m ((c.tc : Thread Cert.WaDxIdeal.nD Cert.WaDxIdeal.τ).loc Cert.WaDxIdeal.main_arg1)) →
    ∃ (v0 : (c : Dev Cert.WaDxIdeal.nD) → Buf (Elt Ideal) ((c.tc : Thread Cert.WaDxIdeal.nD Cert.WaDxIdeal.τ).loc Cert.WaDxIdeal.main_v0)),
      θ_run (Cert.WaDxIdeal.defs (F := Ideal)) (onTc (τ := Cert.WaDxIdeal.τ) (Cert.WaDxIdeal.main (F := Ideal))) ⟨m, fun _ => 0, g⟩ (fun r => ∀ c : Dev Cert.WaDxIdeal.nD,
          r.2.mem ((c.tc : Thread Cert.WaDxIdeal.nD Cert.WaDxIdeal.τ).loc Cert.WaDxIdeal.main_v0) = v0 c
          ∧ r.2.mem ((c.tc : Thread Cert.WaDxIdeal.nD Cert.WaDxIdeal.τ).loc Cert.WaDxIdeal.main_arg0) = m ((c.tc : Thread Cert.WaDxIdeal.nD Cert.WaDxIdeal.τ).loc Cert.WaDxIdeal.main_arg0)
          ∧ r.2.mem ((c.tc : Thread Cert.WaDxIdeal.nD Cert.WaDxIdeal.τ).loc Cert.WaDxIdeal.main_arg1) = m ((c.tc : Thread Cert.WaDxIdeal.nD Cert.WaDxIdeal.τ).loc Cert.WaDxIdeal.main_arg1))
      ∧ θ_run (Cert.WaDxRefIdeal.defs (F := Ideal)) (onTc (τ := Cert.WaDxRefIdeal.τ) (Cert.WaDxRefIdeal.main (F := Ideal))) ⟨m', fun _ => 0, g'⟩ (fun r => ∀ c : Dev Cert.WaDxRefIdeal.nD,
          r.2.mem ((c.tc : Thread Cert.WaDxRefIdeal.nD Cert.WaDxRefIdeal.τ).loc Cert.WaDxRefIdeal.main_v4) = v0 c
          ∧ r.2.mem ((c.tc : Thread Cert.WaDxRefIdeal.nD Cert.WaDxRefIdeal.τ).loc Cert.WaDxRefIdeal.main_arg0) = m' ((c.tc : Thread Cert.WaDxRefIdeal.nD Cert.WaDxRefIdeal.τ).loc Cert.WaDxRefIdeal.main_arg0)
          ∧ r.2.mem ((c.tc : Thread Cert.WaDxRefIdeal.nD Cert.WaDxRefIdeal.τ).loc Cert.WaDxRefIdeal.main_arg1) = m' ((c.tc : Thread Cert.WaDxRefIdeal.nD Cert.WaDxRefIdeal.τ).loc Cert.WaDxRefIdeal.main_arg1))

def preserves_WaDw_WaDwIdeal : Prop :=
  True

def algebraic_WaDwIdeal_WaDwRefIdeal [hWaDwIdeal : Cert.WaDwIdeal.Facts] [hWaDwRefIdeal : Cert.WaDwRefIdeal.Facts] : Prop :=
  ∀ (m : (ℓ : Loc Cert.WaDwIdeal.nD Cert.WaDwIdeal.τ Cert.WaDwIdeal.sig) → Buf (Elt Ideal) ℓ) (g : Dev Cert.WaDwIdeal.nD → PrngReg)
    (m' : (ℓ : Loc Cert.WaDwRefIdeal.nD Cert.WaDwRefIdeal.τ Cert.WaDwRefIdeal.sig) → Buf (Elt Ideal) ℓ) (g' : Dev Cert.WaDwRefIdeal.nD → PrngReg), Pre_WaDwIdeal m →
    (∀ c : Dev Cert.WaDwIdeal.nD,
      m' ((c.tc : Thread Cert.WaDwRefIdeal.nD Cert.WaDwRefIdeal.τ).loc Cert.WaDwRefIdeal.main_arg0) = m ((c.tc : Thread Cert.WaDwIdeal.nD Cert.WaDwIdeal.τ).loc Cert.WaDwIdeal.main_arg0)
      ∧ m' ((c.tc : Thread Cert.WaDwRefIdeal.nD Cert.WaDwRefIdeal.τ).loc Cert.WaDwRefIdeal.main_arg1) = m ((c.tc : Thread Cert.WaDwIdeal.nD Cert.WaDwIdeal.τ).loc Cert.WaDwIdeal.main_arg1)) →
    ∃ (v0 : (c : Dev Cert.WaDwIdeal.nD) → Buf (Elt Ideal) ((c.tc : Thread Cert.WaDwIdeal.nD Cert.WaDwIdeal.τ).loc Cert.WaDwIdeal.main_v0)),
      θ_run (Cert.WaDwIdeal.defs (F := Ideal)) (onTc (τ := Cert.WaDwIdeal.τ) (Cert.WaDwIdeal.main (F := Ideal))) ⟨m, fun _ => 0, g⟩ (fun r => ∀ c : Dev Cert.WaDwIdeal.nD,
          r.2.mem ((c.tc : Thread Cert.WaDwIdeal.nD Cert.WaDwIdeal.τ).loc Cert.WaDwIdeal.main_v0) = v0 c
          ∧ r.2.mem ((c.tc : Thread Cert.WaDwIdeal.nD Cert.WaDwIdeal.τ).loc Cert.WaDwIdeal.main_arg0) = m ((c.tc : Thread Cert.WaDwIdeal.nD Cert.WaDwIdeal.τ).loc Cert.WaDwIdeal.main_arg0)
          ∧ r.2.mem ((c.tc : Thread Cert.WaDwIdeal.nD Cert.WaDwIdeal.τ).loc Cert.WaDwIdeal.main_arg1) = m ((c.tc : Thread Cert.WaDwIdeal.nD Cert.WaDwIdeal.τ).loc Cert.WaDwIdeal.main_arg1))
      ∧ θ_run (Cert.WaDwRefIdeal.defs (F := Ideal)) (onTc (τ := Cert.WaDwRefIdeal.τ) (Cert.WaDwRefIdeal.main (F := Ideal))) ⟨m', fun _ => 0, g'⟩ (fun r => ∀ c : Dev Cert.WaDwRefIdeal.nD,
          r.2.mem ((c.tc : Thread Cert.WaDwRefIdeal.nD Cert.WaDwRefIdeal.τ).loc Cert.WaDwRefIdeal.main_v5) = v0 c
          ∧ r.2.mem ((c.tc : Thread Cert.WaDwRefIdeal.nD Cert.WaDwRefIdeal.τ).loc Cert.WaDwRefIdeal.main_arg0) = m' ((c.tc : Thread Cert.WaDwRefIdeal.nD Cert.WaDwRefIdeal.τ).loc Cert.WaDwRefIdeal.main_arg0)
          ∧ r.2.mem ((c.tc : Thread Cert.WaDwRefIdeal.nD Cert.WaDwRefIdeal.τ).loc Cert.WaDwRefIdeal.main_arg1) = m' ((c.tc : Thread Cert.WaDwRefIdeal.nD Cert.WaDwRefIdeal.τ).loc Cert.WaDwRefIdeal.main_arg1))

def preserves_WbY_WbYIdeal : Prop :=
  True

def algebraic_WbYIdeal_WbYRefIdeal [hWbYIdeal : Cert.WbYIdeal.Facts] [hWbYRefIdeal : Cert.WbYRefIdeal.Facts] : Prop :=
  ∀ (m : (ℓ : Loc Cert.WbYIdeal.nD Cert.WbYIdeal.τ Cert.WbYIdeal.sig) → Buf (Elt Ideal) ℓ) (g : Dev Cert.WbYIdeal.nD → PrngReg)
    (m' : (ℓ : Loc Cert.WbYRefIdeal.nD Cert.WbYRefIdeal.τ Cert.WbYRefIdeal.sig) → Buf (Elt Ideal) ℓ) (g' : Dev Cert.WbYRefIdeal.nD → PrngReg), Pre_WbYIdeal m →
    (∀ c : Dev Cert.WbYIdeal.nD,
      m' ((c.tc : Thread Cert.WbYRefIdeal.nD Cert.WbYRefIdeal.τ).loc Cert.WbYRefIdeal.main_arg0) = m ((c.tc : Thread Cert.WbYIdeal.nD Cert.WbYIdeal.τ).loc Cert.WbYIdeal.main_arg0)
      ∧ m' ((c.tc : Thread Cert.WbYRefIdeal.nD Cert.WbYRefIdeal.τ).loc Cert.WbYRefIdeal.main_arg1) = m ((c.tc : Thread Cert.WbYIdeal.nD Cert.WbYIdeal.τ).loc Cert.WbYIdeal.main_arg1)) →
    ∃ (v0 : (c : Dev Cert.WbYIdeal.nD) → Buf (Elt Ideal) ((c.tc : Thread Cert.WbYIdeal.nD Cert.WbYIdeal.τ).loc Cert.WbYIdeal.main_v0)),
      θ_run (Cert.WbYIdeal.defs (F := Ideal)) (onTc (τ := Cert.WbYIdeal.τ) (Cert.WbYIdeal.main (F := Ideal))) ⟨m, fun _ => 0, g⟩ (fun r => ∀ c : Dev Cert.WbYIdeal.nD,
          r.2.mem ((c.tc : Thread Cert.WbYIdeal.nD Cert.WbYIdeal.τ).loc Cert.WbYIdeal.main_v0) = v0 c
          ∧ r.2.mem ((c.tc : Thread Cert.WbYIdeal.nD Cert.WbYIdeal.τ).loc Cert.WbYIdeal.main_arg0) = m ((c.tc : Thread Cert.WbYIdeal.nD Cert.WbYIdeal.τ).loc Cert.WbYIdeal.main_arg0)
          ∧ r.2.mem ((c.tc : Thread Cert.WbYIdeal.nD Cert.WbYIdeal.τ).loc Cert.WbYIdeal.main_arg1) = m ((c.tc : Thread Cert.WbYIdeal.nD Cert.WbYIdeal.τ).loc Cert.WbYIdeal.main_arg1))
      ∧ θ_run (Cert.WbYRefIdeal.defs (F := Ideal)) (onTc (τ := Cert.WbYRefIdeal.τ) (Cert.WbYRefIdeal.main (F := Ideal))) ⟨m', fun _ => 0, g'⟩ (fun r => ∀ c : Dev Cert.WbYRefIdeal.nD,
          r.2.mem ((c.tc : Thread Cert.WbYRefIdeal.nD Cert.WbYRefIdeal.τ).loc Cert.WbYRefIdeal.main_v3) = v0 c
          ∧ r.2.mem ((c.tc : Thread Cert.WbYRefIdeal.nD Cert.WbYRefIdeal.τ).loc Cert.WbYRefIdeal.main_arg0) = m' ((c.tc : Thread Cert.WbYRefIdeal.nD Cert.WbYRefIdeal.τ).loc Cert.WbYRefIdeal.main_arg0)
          ∧ r.2.mem ((c.tc : Thread Cert.WbYRefIdeal.nD Cert.WbYRefIdeal.τ).loc Cert.WbYRefIdeal.main_arg1) = m' ((c.tc : Thread Cert.WbYRefIdeal.nD Cert.WbYRefIdeal.τ).loc Cert.WbYRefIdeal.main_arg1))

def preserves_WbDx_WbDxIdeal : Prop :=
  True

def algebraic_WbDxIdeal_WbDxRefIdeal [hWbDxIdeal : Cert.WbDxIdeal.Facts] [hWbDxRefIdeal : Cert.WbDxRefIdeal.Facts] : Prop :=
  ∀ (m : (ℓ : Loc Cert.WbDxIdeal.nD Cert.WbDxIdeal.τ Cert.WbDxIdeal.sig) → Buf (Elt Ideal) ℓ) (g : Dev Cert.WbDxIdeal.nD → PrngReg)
    (m' : (ℓ : Loc Cert.WbDxRefIdeal.nD Cert.WbDxRefIdeal.τ Cert.WbDxRefIdeal.sig) → Buf (Elt Ideal) ℓ) (g' : Dev Cert.WbDxRefIdeal.nD → PrngReg), Pre_WbDxIdeal m →
    (∀ c : Dev Cert.WbDxIdeal.nD,
      m' ((c.tc : Thread Cert.WbDxRefIdeal.nD Cert.WbDxRefIdeal.τ).loc Cert.WbDxRefIdeal.main_arg0) = m ((c.tc : Thread Cert.WbDxIdeal.nD Cert.WbDxIdeal.τ).loc Cert.WbDxIdeal.main_arg0)
      ∧ m' ((c.tc : Thread Cert.WbDxRefIdeal.nD Cert.WbDxRefIdeal.τ).loc Cert.WbDxRefIdeal.main_arg1) = m ((c.tc : Thread Cert.WbDxIdeal.nD Cert.WbDxIdeal.τ).loc Cert.WbDxIdeal.main_arg1)) →
    ∃ (v0 : (c : Dev Cert.WbDxIdeal.nD) → Buf (Elt Ideal) ((c.tc : Thread Cert.WbDxIdeal.nD Cert.WbDxIdeal.τ).loc Cert.WbDxIdeal.main_v0)),
      θ_run (Cert.WbDxIdeal.defs (F := Ideal)) (onTc (τ := Cert.WbDxIdeal.τ) (Cert.WbDxIdeal.main (F := Ideal))) ⟨m, fun _ => 0, g⟩ (fun r => ∀ c : Dev Cert.WbDxIdeal.nD,
          r.2.mem ((c.tc : Thread Cert.WbDxIdeal.nD Cert.WbDxIdeal.τ).loc Cert.WbDxIdeal.main_v0) = v0 c
          ∧ r.2.mem ((c.tc : Thread Cert.WbDxIdeal.nD Cert.WbDxIdeal.τ).loc Cert.WbDxIdeal.main_arg0) = m ((c.tc : Thread Cert.WbDxIdeal.nD Cert.WbDxIdeal.τ).loc Cert.WbDxIdeal.main_arg0)
          ∧ r.2.mem ((c.tc : Thread Cert.WbDxIdeal.nD Cert.WbDxIdeal.τ).loc Cert.WbDxIdeal.main_arg1) = m ((c.tc : Thread Cert.WbDxIdeal.nD Cert.WbDxIdeal.τ).loc Cert.WbDxIdeal.main_arg1))
      ∧ θ_run (Cert.WbDxRefIdeal.defs (F := Ideal)) (onTc (τ := Cert.WbDxRefIdeal.τ) (Cert.WbDxRefIdeal.main (F := Ideal))) ⟨m', fun _ => 0, g'⟩ (fun r => ∀ c : Dev Cert.WbDxRefIdeal.nD,
          r.2.mem ((c.tc : Thread Cert.WbDxRefIdeal.nD Cert.WbDxRefIdeal.τ).loc Cert.WbDxRefIdeal.main_v4) = v0 c
          ∧ r.2.mem ((c.tc : Thread Cert.WbDxRefIdeal.nD Cert.WbDxRefIdeal.τ).loc Cert.WbDxRefIdeal.main_arg0) = m' ((c.tc : Thread Cert.WbDxRefIdeal.nD Cert.WbDxRefIdeal.τ).loc Cert.WbDxRefIdeal.main_arg0)
          ∧ r.2.mem ((c.tc : Thread Cert.WbDxRefIdeal.nD Cert.WbDxRefIdeal.τ).loc Cert.WbDxRefIdeal.main_arg1) = m' ((c.tc : Thread Cert.WbDxRefIdeal.nD Cert.WbDxRefIdeal.τ).loc Cert.WbDxRefIdeal.main_arg1))

def preserves_WbDw_WbDwIdeal : Prop :=
  True

def algebraic_WbDwIdeal_WbDwRefIdeal [hWbDwIdeal : Cert.WbDwIdeal.Facts] [hWbDwRefIdeal : Cert.WbDwRefIdeal.Facts] : Prop :=
  ∀ (m : (ℓ : Loc Cert.WbDwIdeal.nD Cert.WbDwIdeal.τ Cert.WbDwIdeal.sig) → Buf (Elt Ideal) ℓ) (g : Dev Cert.WbDwIdeal.nD → PrngReg)
    (m' : (ℓ : Loc Cert.WbDwRefIdeal.nD Cert.WbDwRefIdeal.τ Cert.WbDwRefIdeal.sig) → Buf (Elt Ideal) ℓ) (g' : Dev Cert.WbDwRefIdeal.nD → PrngReg), Pre_WbDwIdeal m →
    (∀ c : Dev Cert.WbDwIdeal.nD,
      m' ((c.tc : Thread Cert.WbDwRefIdeal.nD Cert.WbDwRefIdeal.τ).loc Cert.WbDwRefIdeal.main_arg0) = m ((c.tc : Thread Cert.WbDwIdeal.nD Cert.WbDwIdeal.τ).loc Cert.WbDwIdeal.main_arg0)
      ∧ m' ((c.tc : Thread Cert.WbDwRefIdeal.nD Cert.WbDwRefIdeal.τ).loc Cert.WbDwRefIdeal.main_arg1) = m ((c.tc : Thread Cert.WbDwIdeal.nD Cert.WbDwIdeal.τ).loc Cert.WbDwIdeal.main_arg1)) →
    ∃ (v0 : (c : Dev Cert.WbDwIdeal.nD) → Buf (Elt Ideal) ((c.tc : Thread Cert.WbDwIdeal.nD Cert.WbDwIdeal.τ).loc Cert.WbDwIdeal.main_v0)),
      θ_run (Cert.WbDwIdeal.defs (F := Ideal)) (onTc (τ := Cert.WbDwIdeal.τ) (Cert.WbDwIdeal.main (F := Ideal))) ⟨m, fun _ => 0, g⟩ (fun r => ∀ c : Dev Cert.WbDwIdeal.nD,
          r.2.mem ((c.tc : Thread Cert.WbDwIdeal.nD Cert.WbDwIdeal.τ).loc Cert.WbDwIdeal.main_v0) = v0 c
          ∧ r.2.mem ((c.tc : Thread Cert.WbDwIdeal.nD Cert.WbDwIdeal.τ).loc Cert.WbDwIdeal.main_arg0) = m ((c.tc : Thread Cert.WbDwIdeal.nD Cert.WbDwIdeal.τ).loc Cert.WbDwIdeal.main_arg0)
          ∧ r.2.mem ((c.tc : Thread Cert.WbDwIdeal.nD Cert.WbDwIdeal.τ).loc Cert.WbDwIdeal.main_arg1) = m ((c.tc : Thread Cert.WbDwIdeal.nD Cert.WbDwIdeal.τ).loc Cert.WbDwIdeal.main_arg1))
      ∧ θ_run (Cert.WbDwRefIdeal.defs (F := Ideal)) (onTc (τ := Cert.WbDwRefIdeal.τ) (Cert.WbDwRefIdeal.main (F := Ideal))) ⟨m', fun _ => 0, g'⟩ (fun r => ∀ c : Dev Cert.WbDwRefIdeal.nD,
          r.2.mem ((c.tc : Thread Cert.WbDwRefIdeal.nD Cert.WbDwRefIdeal.τ).loc Cert.WbDwRefIdeal.main_v5) = v0 c
          ∧ r.2.mem ((c.tc : Thread Cert.WbDwRefIdeal.nD Cert.WbDwRefIdeal.τ).loc Cert.WbDwRefIdeal.main_arg0) = m' ((c.tc : Thread Cert.WbDwRefIdeal.nD Cert.WbDwRefIdeal.τ).loc Cert.WbDwRefIdeal.main_arg0)
          ∧ r.2.mem ((c.tc : Thread Cert.WbDwRefIdeal.nD Cert.WbDwRefIdeal.τ).loc Cert.WbDwRefIdeal.main_arg1) = m' ((c.tc : Thread Cert.WbDwRefIdeal.nD Cert.WbDwRefIdeal.τ).loc Cert.WbDwRefIdeal.main_arg1))

def preserves_WoY_WoYIdeal : Prop :=
  True

def algebraic_WoYIdeal_WoYRefIdeal [hWoYIdeal : Cert.WoYIdeal.Facts] [hWoYRefIdeal : Cert.WoYRefIdeal.Facts] : Prop :=
  ∀ (m : (ℓ : Loc Cert.WoYIdeal.nD Cert.WoYIdeal.τ Cert.WoYIdeal.sig) → Buf (Elt Ideal) ℓ) (g : Dev Cert.WoYIdeal.nD → PrngReg)
    (m' : (ℓ : Loc Cert.WoYRefIdeal.nD Cert.WoYRefIdeal.τ Cert.WoYRefIdeal.sig) → Buf (Elt Ideal) ℓ) (g' : Dev Cert.WoYRefIdeal.nD → PrngReg), Pre_WoYIdeal m →
    (∀ c : Dev Cert.WoYIdeal.nD,
      m' ((c.tc : Thread Cert.WoYRefIdeal.nD Cert.WoYRefIdeal.τ).loc Cert.WoYRefIdeal.main_arg0) = m ((c.tc : Thread Cert.WoYIdeal.nD Cert.WoYIdeal.τ).loc Cert.WoYIdeal.main_arg0)
      ∧ m' ((c.tc : Thread Cert.WoYRefIdeal.nD Cert.WoYRefIdeal.τ).loc Cert.WoYRefIdeal.main_arg1) = m ((c.tc : Thread Cert.WoYIdeal.nD Cert.WoYIdeal.τ).loc Cert.WoYIdeal.main_arg1)) →
    ∃ (v0 : (c : Dev Cert.WoYIdeal.nD) → Buf (Elt Ideal) ((c.tc : Thread Cert.WoYIdeal.nD Cert.WoYIdeal.τ).loc Cert.WoYIdeal.main_v0)),
      θ_run (Cert.WoYIdeal.defs (F := Ideal)) (onTc (τ := Cert.WoYIdeal.τ) (Cert.WoYIdeal.main (F := Ideal))) ⟨m, fun _ => 0, g⟩ (fun r => ∀ c : Dev Cert.WoYIdeal.nD,
          r.2.mem ((c.tc : Thread Cert.WoYIdeal.nD Cert.WoYIdeal.τ).loc Cert.WoYIdeal.main_v0) = v0 c
          ∧ r.2.mem ((c.tc : Thread Cert.WoYIdeal.nD Cert.WoYIdeal.τ).loc Cert.WoYIdeal.main_arg0) = m ((c.tc : Thread Cert.WoYIdeal.nD Cert.WoYIdeal.τ).loc Cert.WoYIdeal.main_arg0)
          ∧ r.2.mem ((c.tc : Thread Cert.WoYIdeal.nD Cert.WoYIdeal.τ).loc Cert.WoYIdeal.main_arg1) = m ((c.tc : Thread Cert.WoYIdeal.nD Cert.WoYIdeal.τ).loc Cert.WoYIdeal.main_arg1))
      ∧ θ_run (Cert.WoYRefIdeal.defs (F := Ideal)) (onTc (τ := Cert.WoYRefIdeal.τ) (Cert.WoYRefIdeal.main (F := Ideal))) ⟨m', fun _ => 0, g'⟩ (fun r => ∀ c : Dev Cert.WoYRefIdeal.nD,
          r.2.mem ((c.tc : Thread Cert.WoYRefIdeal.nD Cert.WoYRefIdeal.τ).loc Cert.WoYRefIdeal.main_v2) = v0 c
          ∧ r.2.mem ((c.tc : Thread Cert.WoYRefIdeal.nD Cert.WoYRefIdeal.τ).loc Cert.WoYRefIdeal.main_arg0) = m' ((c.tc : Thread Cert.WoYRefIdeal.nD Cert.WoYRefIdeal.τ).loc Cert.WoYRefIdeal.main_arg0)
          ∧ r.2.mem ((c.tc : Thread Cert.WoYRefIdeal.nD Cert.WoYRefIdeal.τ).loc Cert.WoYRefIdeal.main_arg1) = m' ((c.tc : Thread Cert.WoYRefIdeal.nD Cert.WoYRefIdeal.τ).loc Cert.WoYRefIdeal.main_arg1))

def preserves_WoDx_WoDxIdeal : Prop :=
  True

def algebraic_WoDxIdeal_WoDxRefIdeal [hWoDxIdeal : Cert.WoDxIdeal.Facts] [hWoDxRefIdeal : Cert.WoDxRefIdeal.Facts] : Prop :=
  ∀ (m : (ℓ : Loc Cert.WoDxIdeal.nD Cert.WoDxIdeal.τ Cert.WoDxIdeal.sig) → Buf (Elt Ideal) ℓ) (g : Dev Cert.WoDxIdeal.nD → PrngReg)
    (m' : (ℓ : Loc Cert.WoDxRefIdeal.nD Cert.WoDxRefIdeal.τ Cert.WoDxRefIdeal.sig) → Buf (Elt Ideal) ℓ) (g' : Dev Cert.WoDxRefIdeal.nD → PrngReg), Pre_WoDxIdeal m →
    (∀ c : Dev Cert.WoDxIdeal.nD,
      m' ((c.tc : Thread Cert.WoDxRefIdeal.nD Cert.WoDxRefIdeal.τ).loc Cert.WoDxRefIdeal.main_arg0) = m ((c.tc : Thread Cert.WoDxIdeal.nD Cert.WoDxIdeal.τ).loc Cert.WoDxIdeal.main_arg0)
      ∧ m' ((c.tc : Thread Cert.WoDxRefIdeal.nD Cert.WoDxRefIdeal.τ).loc Cert.WoDxRefIdeal.main_arg1) = m ((c.tc : Thread Cert.WoDxIdeal.nD Cert.WoDxIdeal.τ).loc Cert.WoDxIdeal.main_arg1)) →
    ∃ (v0 : (c : Dev Cert.WoDxIdeal.nD) → Buf (Elt Ideal) ((c.tc : Thread Cert.WoDxIdeal.nD Cert.WoDxIdeal.τ).loc Cert.WoDxIdeal.main_v0)),
      θ_run (Cert.WoDxIdeal.defs (F := Ideal)) (onTc (τ := Cert.WoDxIdeal.τ) (Cert.WoDxIdeal.main (F := Ideal))) ⟨m, fun _ => 0, g⟩ (fun r => ∀ c : Dev Cert.WoDxIdeal.nD,
          r.2.mem ((c.tc : Thread Cert.WoDxIdeal.nD Cert.WoDxIdeal.τ).loc Cert.WoDxIdeal.main_v0) = v0 c
          ∧ r.2.mem ((c.tc : Thread Cert.WoDxIdeal.nD Cert.WoDxIdeal.τ).loc Cert.WoDxIdeal.main_arg0) = m ((c.tc : Thread Cert.WoDxIdeal.nD Cert.WoDxIdeal.τ).loc Cert.WoDxIdeal.main_arg0)
          ∧ r.2.mem ((c.tc : Thread Cert.WoDxIdeal.nD Cert.WoDxIdeal.τ).loc Cert.WoDxIdeal.main_arg1) = m ((c.tc : Thread Cert.WoDxIdeal.nD Cert.WoDxIdeal.τ).loc Cert.WoDxIdeal.main_arg1))
      ∧ θ_run (Cert.WoDxRefIdeal.defs (F := Ideal)) (onTc (τ := Cert.WoDxRefIdeal.τ) (Cert.WoDxRefIdeal.main (F := Ideal))) ⟨m', fun _ => 0, g'⟩ (fun r => ∀ c : Dev Cert.WoDxRefIdeal.nD,
          r.2.mem ((c.tc : Thread Cert.WoDxRefIdeal.nD Cert.WoDxRefIdeal.τ).loc Cert.WoDxRefIdeal.main_v3) = v0 c
          ∧ r.2.mem ((c.tc : Thread Cert.WoDxRefIdeal.nD Cert.WoDxRefIdeal.τ).loc Cert.WoDxRefIdeal.main_arg0) = m' ((c.tc : Thread Cert.WoDxRefIdeal.nD Cert.WoDxRefIdeal.τ).loc Cert.WoDxRefIdeal.main_arg0)
          ∧ r.2.mem ((c.tc : Thread Cert.WoDxRefIdeal.nD Cert.WoDxRefIdeal.τ).loc Cert.WoDxRefIdeal.main_arg1) = m' ((c.tc : Thread Cert.WoDxRefIdeal.nD Cert.WoDxRefIdeal.τ).loc Cert.WoDxRefIdeal.main_arg1))

def preserves_WoDw_WoDwIdeal : Prop :=
  True

def algebraic_WoDwIdeal_WoDwRefIdeal [hWoDwIdeal : Cert.WoDwIdeal.Facts] [hWoDwRefIdeal : Cert.WoDwRefIdeal.Facts] : Prop :=
  ∀ (m : (ℓ : Loc Cert.WoDwIdeal.nD Cert.WoDwIdeal.τ Cert.WoDwIdeal.sig) → Buf (Elt Ideal) ℓ) (g : Dev Cert.WoDwIdeal.nD → PrngReg)
    (m' : (ℓ : Loc Cert.WoDwRefIdeal.nD Cert.WoDwRefIdeal.τ Cert.WoDwRefIdeal.sig) → Buf (Elt Ideal) ℓ) (g' : Dev Cert.WoDwRefIdeal.nD → PrngReg), Pre_WoDwIdeal m →
    (∀ c : Dev Cert.WoDwIdeal.nD,
      m' ((c.tc : Thread Cert.WoDwRefIdeal.nD Cert.WoDwRefIdeal.τ).loc Cert.WoDwRefIdeal.main_arg0) = m ((c.tc : Thread Cert.WoDwIdeal.nD Cert.WoDwIdeal.τ).loc Cert.WoDwIdeal.main_arg0)
      ∧ m' ((c.tc : Thread Cert.WoDwRefIdeal.nD Cert.WoDwRefIdeal.τ).loc Cert.WoDwRefIdeal.main_arg1) = m ((c.tc : Thread Cert.WoDwIdeal.nD Cert.WoDwIdeal.τ).loc Cert.WoDwIdeal.main_arg1)) →
    ∃ (v0 : (c : Dev Cert.WoDwIdeal.nD) → Buf (Elt Ideal) ((c.tc : Thread Cert.WoDwIdeal.nD Cert.WoDwIdeal.τ).loc Cert.WoDwIdeal.main_v0)),
      θ_run (Cert.WoDwIdeal.defs (F := Ideal)) (onTc (τ := Cert.WoDwIdeal.τ) (Cert.WoDwIdeal.main (F := Ideal))) ⟨m, fun _ => 0, g⟩ (fun r => ∀ c : Dev Cert.WoDwIdeal.nD,
          r.2.mem ((c.tc : Thread Cert.WoDwIdeal.nD Cert.WoDwIdeal.τ).loc Cert.WoDwIdeal.main_v0) = v0 c
          ∧ r.2.mem ((c.tc : Thread Cert.WoDwIdeal.nD Cert.WoDwIdeal.τ).loc Cert.WoDwIdeal.main_arg0) = m ((c.tc : Thread Cert.WoDwIdeal.nD Cert.WoDwIdeal.τ).loc Cert.WoDwIdeal.main_arg0)
          ∧ r.2.mem ((c.tc : Thread Cert.WoDwIdeal.nD Cert.WoDwIdeal.τ).loc Cert.WoDwIdeal.main_arg1) = m ((c.tc : Thread Cert.WoDwIdeal.nD Cert.WoDwIdeal.τ).loc Cert.WoDwIdeal.main_arg1))
      ∧ θ_run (Cert.WoDwRefIdeal.defs (F := Ideal)) (onTc (τ := Cert.WoDwRefIdeal.τ) (Cert.WoDwRefIdeal.main (F := Ideal))) ⟨m', fun _ => 0, g'⟩ (fun r => ∀ c : Dev Cert.WoDwRefIdeal.nD,
          r.2.mem ((c.tc : Thread Cert.WoDwRefIdeal.nD Cert.WoDwRefIdeal.τ).loc Cert.WoDwRefIdeal.main_v4) = v0 c
          ∧ r.2.mem ((c.tc : Thread Cert.WoDwRefIdeal.nD Cert.WoDwRefIdeal.τ).loc Cert.WoDwRefIdeal.main_arg0) = m' ((c.tc : Thread Cert.WoDwRefIdeal.nD Cert.WoDwRefIdeal.τ).loc Cert.WoDwRefIdeal.main_arg0)
          ∧ r.2.mem ((c.tc : Thread Cert.WoDwRefIdeal.nD Cert.WoDwRefIdeal.τ).loc Cert.WoDwRefIdeal.main_arg1) = m' ((c.tc : Thread Cert.WoDwRefIdeal.nD Cert.WoDwRefIdeal.τ).loc Cert.WoDwRefIdeal.main_arg1))

def preserves_InY_InYIdeal : Prop :=
  True

def algebraic_InYIdeal_InYRefIdeal [hInYIdeal : Cert.InYIdeal.Facts] [hInYRefIdeal : Cert.InYRefIdeal.Facts] : Prop :=
  ∀ (m : (ℓ : Loc Cert.InYIdeal.nD Cert.InYIdeal.τ Cert.InYIdeal.sig) → Buf (Elt Ideal) ℓ) (g : Dev Cert.InYIdeal.nD → PrngReg)
    (m' : (ℓ : Loc Cert.InYRefIdeal.nD Cert.InYRefIdeal.τ Cert.InYRefIdeal.sig) → Buf (Elt Ideal) ℓ) (g' : Dev Cert.InYRefIdeal.nD → PrngReg), Pre_InYIdeal m →
    (∀ c : Dev Cert.InYIdeal.nD,
      m' ((c.tc : Thread Cert.InYRefIdeal.nD Cert.InYRefIdeal.τ).loc Cert.InYRefIdeal.main_arg0) = m ((c.tc : Thread Cert.InYIdeal.nD Cert.InYIdeal.τ).loc Cert.InYIdeal.main_arg0)
      ∧ m' ((c.tc : Thread Cert.InYRefIdeal.nD Cert.InYRefIdeal.τ).loc Cert.InYRefIdeal.main_arg1) = m ((c.tc : Thread Cert.InYIdeal.nD Cert.InYIdeal.τ).loc Cert.InYIdeal.main_arg1)) →
    ∃ (v0 : (c : Dev Cert.InYIdeal.nD) → Buf (Elt Ideal) ((c.tc : Thread Cert.InYIdeal.nD Cert.InYIdeal.τ).loc Cert.InYIdeal.main_v0_0)) (v1 : (c : Dev Cert.InYIdeal.nD) → Buf (Elt Ideal) ((c.tc : Thread Cert.InYIdeal.nD Cert.InYIdeal.τ).loc Cert.InYIdeal.main_v0_1)) (v2 : (c : Dev Cert.InYIdeal.nD) → Buf (Elt Ideal) ((c.tc : Thread Cert.InYIdeal.nD Cert.InYIdeal.τ).loc Cert.InYIdeal.main_v0_2)) (v3 : (c : Dev Cert.InYIdeal.nD) → Buf (Elt Ideal) ((c.tc : Thread Cert.InYIdeal.nD Cert.InYIdeal.τ).loc Cert.InYIdeal.main_v0_3)) (v4 : (c : Dev Cert.InYIdeal.nD) → Buf (Elt Ideal) ((c.tc : Thread Cert.InYIdeal.nD Cert.InYIdeal.τ).loc Cert.InYIdeal.main_v0_4)) (v5 : (c : Dev Cert.InYIdeal.nD) → Buf (Elt Ideal) ((c.tc : Thread Cert.InYIdeal.nD Cert.InYIdeal.τ).loc Cert.InYIdeal.main_v0_5)),
      θ_run (Cert.InYIdeal.defs (F := Ideal)) (onTc (τ := Cert.InYIdeal.τ) (Cert.InYIdeal.main (F := Ideal))) ⟨m, fun _ => 0, g⟩ (fun r => ∀ c : Dev Cert.InYIdeal.nD,
          r.2.mem ((c.tc : Thread Cert.InYIdeal.nD Cert.InYIdeal.τ).loc Cert.InYIdeal.main_v0_0) = v0 c
          ∧ r.2.mem ((c.tc : Thread Cert.InYIdeal.nD Cert.InYIdeal.τ).loc Cert.InYIdeal.main_v0_1) = v1 c
          ∧ r.2.mem ((c.tc : Thread Cert.InYIdeal.nD Cert.InYIdeal.τ).loc Cert.InYIdeal.main_v0_2) = v2 c
          ∧ r.2.mem ((c.tc : Thread Cert.InYIdeal.nD Cert.InYIdeal.τ).loc Cert.InYIdeal.main_v0_3) = v3 c
          ∧ r.2.mem ((c.tc : Thread Cert.InYIdeal.nD Cert.InYIdeal.τ).loc Cert.InYIdeal.main_v0_4) = v4 c
          ∧ r.2.mem ((c.tc : Thread Cert.InYIdeal.nD Cert.InYIdeal.τ).loc Cert.InYIdeal.main_v0_5) = v5 c
          ∧ r.2.mem ((c.tc : Thread Cert.InYIdeal.nD Cert.InYIdeal.τ).loc Cert.InYIdeal.main_arg0) = m ((c.tc : Thread Cert.InYIdeal.nD Cert.InYIdeal.τ).loc Cert.InYIdeal.main_arg0)
          ∧ r.2.mem ((c.tc : Thread Cert.InYIdeal.nD Cert.InYIdeal.τ).loc Cert.InYIdeal.main_arg1) = m ((c.tc : Thread Cert.InYIdeal.nD Cert.InYIdeal.τ).loc Cert.InYIdeal.main_arg1))
      ∧ θ_run (Cert.InYRefIdeal.defs (F := Ideal)) (onTc (τ := Cert.InYRefIdeal.τ) (Cert.InYRefIdeal.main (F := Ideal))) ⟨m', fun _ => 0, g'⟩ (fun r => ∀ c : Dev Cert.InYRefIdeal.nD,
          r.2.mem ((c.tc : Thread Cert.InYRefIdeal.nD Cert.InYRefIdeal.τ).loc Cert.InYRefIdeal.main_v9) = v0 c
          ∧ r.2.mem ((c.tc : Thread Cert.InYRefIdeal.nD Cert.InYRefIdeal.τ).loc Cert.InYRefIdeal.main_v10) = v1 c
          ∧ r.2.mem ((c.tc : Thread Cert.InYRefIdeal.nD Cert.InYRefIdeal.τ).loc Cert.InYRefIdeal.main_v11) = v2 c
          ∧ r.2.mem ((c.tc : Thread Cert.InYRefIdeal.nD Cert.InYRefIdeal.τ).loc Cert.InYRefIdeal.main_v12) = v3 c
          ∧ r.2.mem ((c.tc : Thread Cert.InYRefIdeal.nD Cert.InYRefIdeal.τ).loc Cert.InYRefIdeal.main_v13) = v4 c
          ∧ r.2.mem ((c.tc : Thread Cert.InYRefIdeal.nD Cert.InYRefIdeal.τ).loc Cert.InYRefIdeal.main_v14) = v5 c
          ∧ r.2.mem ((c.tc : Thread Cert.InYRefIdeal.nD Cert.InYRefIdeal.τ).loc Cert.InYRefIdeal.main_arg0) = m' ((c.tc : Thread Cert.InYRefIdeal.nD Cert.InYRefIdeal.τ).loc Cert.InYRefIdeal.main_arg0)
          ∧ r.2.mem ((c.tc : Thread Cert.InYRefIdeal.nD Cert.InYRefIdeal.τ).loc Cert.InYRefIdeal.main_arg1) = m' ((c.tc : Thread Cert.InYRefIdeal.nD Cert.InYRefIdeal.τ).loc Cert.InYRefIdeal.main_arg1))

def preserves_HeadY_HeadYIdeal : Prop :=
  True

def algebraic_HeadYIdeal_HeadYRefIdeal [hHeadYIdeal : Cert.HeadYIdeal.Facts] [hHeadYRefIdeal : Cert.HeadYRefIdeal.Facts] : Prop :=
  ∀ (m : (ℓ : Loc Cert.HeadYIdeal.nD Cert.HeadYIdeal.τ Cert.HeadYIdeal.sig) → Buf (Elt Ideal) ℓ) (g : Dev Cert.HeadYIdeal.nD → PrngReg)
    (m' : (ℓ : Loc Cert.HeadYRefIdeal.nD Cert.HeadYRefIdeal.τ Cert.HeadYRefIdeal.sig) → Buf (Elt Ideal) ℓ) (g' : Dev Cert.HeadYRefIdeal.nD → PrngReg), Pre_HeadYIdeal m →
    (∀ c : Dev Cert.HeadYIdeal.nD,
      m' ((c.tc : Thread Cert.HeadYRefIdeal.nD Cert.HeadYRefIdeal.τ).loc Cert.HeadYRefIdeal.main_arg0) = m ((c.tc : Thread Cert.HeadYIdeal.nD Cert.HeadYIdeal.τ).loc Cert.HeadYIdeal.main_arg0)
      ∧ m' ((c.tc : Thread Cert.HeadYRefIdeal.nD Cert.HeadYRefIdeal.τ).loc Cert.HeadYRefIdeal.main_arg1) = m ((c.tc : Thread Cert.HeadYIdeal.nD Cert.HeadYIdeal.τ).loc Cert.HeadYIdeal.main_arg1)) →
    ∃ (v0 : (c : Dev Cert.HeadYIdeal.nD) → Buf (Elt Ideal) ((c.tc : Thread Cert.HeadYIdeal.nD Cert.HeadYIdeal.τ).loc Cert.HeadYIdeal.main_v0_0)) (v1 : (c : Dev Cert.HeadYIdeal.nD) → Buf (Elt Ideal) ((c.tc : Thread Cert.HeadYIdeal.nD Cert.HeadYIdeal.τ).loc Cert.HeadYIdeal.main_v0_1)) (v2 : (c : Dev Cert.HeadYIdeal.nD) → Buf (Elt Ideal) ((c.tc : Thread Cert.HeadYIdeal.nD Cert.HeadYIdeal.τ).loc Cert.HeadYIdeal.main_v0_2)),
      θ_run (Cert.HeadYIdeal.defs (F := Ideal)) (onTc (τ := Cert.HeadYIdeal.τ) (Cert.HeadYIdeal.main (F := Ideal))) ⟨m, fun _ => 0, g⟩ (fun r => ∀ c : Dev Cert.HeadYIdeal.nD,
          r.2.mem ((c.tc : Thread Cert.HeadYIdeal.nD Cert.HeadYIdeal.τ).loc Cert.HeadYIdeal.main_v0_0) = v0 c
          ∧ r.2.mem ((c.tc : Thread Cert.HeadYIdeal.nD Cert.HeadYIdeal.τ).loc Cert.HeadYIdeal.main_v0_1) = v1 c
          ∧ r.2.mem ((c.tc : Thread Cert.HeadYIdeal.nD Cert.HeadYIdeal.τ).loc Cert.HeadYIdeal.main_v0_2) = v2 c
          ∧ r.2.mem ((c.tc : Thread Cert.HeadYIdeal.nD Cert.HeadYIdeal.τ).loc Cert.HeadYIdeal.main_arg0) = m ((c.tc : Thread Cert.HeadYIdeal.nD Cert.HeadYIdeal.τ).loc Cert.HeadYIdeal.main_arg0)
          ∧ r.2.mem ((c.tc : Thread Cert.HeadYIdeal.nD Cert.HeadYIdeal.τ).loc Cert.HeadYIdeal.main_arg1) = m ((c.tc : Thread Cert.HeadYIdeal.nD Cert.HeadYIdeal.τ).loc Cert.HeadYIdeal.main_arg1))
      ∧ θ_run (Cert.HeadYRefIdeal.defs (F := Ideal)) (onTc (τ := Cert.HeadYRefIdeal.τ) (Cert.HeadYRefIdeal.main (F := Ideal))) ⟨m', fun _ => 0, g'⟩ (fun r => ∀ c : Dev Cert.HeadYRefIdeal.nD,
          r.2.mem ((c.tc : Thread Cert.HeadYRefIdeal.nD Cert.HeadYRefIdeal.τ).loc Cert.HeadYRefIdeal.main_v6) = v0 c
          ∧ r.2.mem ((c.tc : Thread Cert.HeadYRefIdeal.nD Cert.HeadYRefIdeal.τ).loc Cert.HeadYRefIdeal.main_v7) = v1 c
          ∧ r.2.mem ((c.tc : Thread Cert.HeadYRefIdeal.nD Cert.HeadYRefIdeal.τ).loc Cert.HeadYRefIdeal.main_v8) = v2 c
          ∧ r.2.mem ((c.tc : Thread Cert.HeadYRefIdeal.nD Cert.HeadYRefIdeal.τ).loc Cert.HeadYRefIdeal.main_arg0) = m' ((c.tc : Thread Cert.HeadYRefIdeal.nD Cert.HeadYRefIdeal.τ).loc Cert.HeadYRefIdeal.main_arg0)
          ∧ r.2.mem ((c.tc : Thread Cert.HeadYRefIdeal.nD Cert.HeadYRefIdeal.τ).loc Cert.HeadYRefIdeal.main_arg1) = m' ((c.tc : Thread Cert.HeadYRefIdeal.nD Cert.HeadYRefIdeal.τ).loc Cert.HeadYRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)
      ∧ m' ((c.tc : Thread Cert.InDwRefIdeal.nD Cert.InDwRefIdeal.τ).loc Cert.InDwRefIdeal.main_arg2) = m ((c.tc : Thread Cert.InDwIdeal.nD Cert.InDwIdeal.τ).loc Cert.InDwIdeal.main_arg2)
      ∧ m' ((c.tc : Thread Cert.InDwRefIdeal.nD Cert.InDwRefIdeal.τ).loc Cert.InDwRefIdeal.main_arg3) = m ((c.tc : Thread Cert.InDwIdeal.nD Cert.InDwIdeal.τ).loc Cert.InDwIdeal.main_arg3)
      ∧ m' ((c.tc : Thread Cert.InDwRefIdeal.nD Cert.InDwRefIdeal.τ).loc Cert.InDwRefIdeal.main_arg4) = m ((c.tc : Thread Cert.InDwIdeal.nD Cert.InDwIdeal.τ).loc Cert.InDwIdeal.main_arg4)
      ∧ m' ((c.tc : Thread Cert.InDwRefIdeal.nD Cert.InDwRefIdeal.τ).loc Cert.InDwRefIdeal.main_arg5) = m ((c.tc : Thread Cert.InDwIdeal.nD Cert.InDwIdeal.τ).loc Cert.InDwIdeal.main_arg5)
      ∧ m' ((c.tc : Thread Cert.InDwRefIdeal.nD Cert.InDwRefIdeal.τ).loc Cert.InDwRefIdeal.main_arg6) = m ((c.tc : Thread Cert.InDwIdeal.nD Cert.InDwIdeal.τ).loc Cert.InDwIdeal.main_arg6)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2)
          ∧ r.2.mem ((c.tc : Thread Cert.InDwIdeal.nD Cert.InDwIdeal.τ).loc Cert.InDwIdeal.main_arg3) = m ((c.tc : Thread Cert.InDwIdeal.nD Cert.InDwIdeal.τ).loc Cert.InDwIdeal.main_arg3)
          ∧ r.2.mem ((c.tc : Thread Cert.InDwIdeal.nD Cert.InDwIdeal.τ).loc Cert.InDwIdeal.main_arg4) = m ((c.tc : Thread Cert.InDwIdeal.nD Cert.InDwIdeal.τ).loc Cert.InDwIdeal.main_arg4)
          ∧ r.2.mem ((c.tc : Thread Cert.InDwIdeal.nD Cert.InDwIdeal.τ).loc Cert.InDwIdeal.main_arg5) = m ((c.tc : Thread Cert.InDwIdeal.nD Cert.InDwIdeal.τ).loc Cert.InDwIdeal.main_arg5)
          ∧ r.2.mem ((c.tc : Thread Cert.InDwIdeal.nD Cert.InDwIdeal.τ).loc Cert.InDwIdeal.main_arg6) = m ((c.tc : Thread Cert.InDwIdeal.nD Cert.InDwIdeal.τ).loc Cert.InDwIdeal.main_arg6))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v18) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1)
          ∧ r.2.mem ((c.tc : Thread Cert.InDwRefIdeal.nD Cert.InDwRefIdeal.τ).loc Cert.InDwRefIdeal.main_arg2) = m' ((c.tc : Thread Cert.InDwRefIdeal.nD Cert.InDwRefIdeal.τ).loc Cert.InDwRefIdeal.main_arg2)
          ∧ r.2.mem ((c.tc : Thread Cert.InDwRefIdeal.nD Cert.InDwRefIdeal.τ).loc Cert.InDwRefIdeal.main_arg3) = m' ((c.tc : Thread Cert.InDwRefIdeal.nD Cert.InDwRefIdeal.τ).loc Cert.InDwRefIdeal.main_arg3)
          ∧ r.2.mem ((c.tc : Thread Cert.InDwRefIdeal.nD Cert.InDwRefIdeal.τ).loc Cert.InDwRefIdeal.main_arg4) = m' ((c.tc : Thread Cert.InDwRefIdeal.nD Cert.InDwRefIdeal.τ).loc Cert.InDwRefIdeal.main_arg4)
          ∧ r.2.mem ((c.tc : Thread Cert.InDwRefIdeal.nD Cert.InDwRefIdeal.τ).loc Cert.InDwRefIdeal.main_arg5) = m' ((c.tc : Thread Cert.InDwRefIdeal.nD Cert.InDwRefIdeal.τ).loc Cert.InDwRefIdeal.main_arg5)
          ∧ r.2.mem ((c.tc : Thread Cert.InDwRefIdeal.nD Cert.InDwRefIdeal.τ).loc Cert.InDwRefIdeal.main_arg6) = m' ((c.tc : Thread Cert.InDwRefIdeal.nD Cert.InDwRefIdeal.τ).loc Cert.InDwRefIdeal.main_arg6))

def preserves_Act_ActIdeal : Prop :=
  True

def algebraic_ActIdeal_ActRefIdeal_pre_finite_act [hActIdeal : Cert.ActIdeal.Facts] [hActRefIdeal : Cert.ActRefIdeal.Facts] [hPre_finite_act : Cert.Pre_finite_act.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_finite_act m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)) →
    ∃ (v0 : (c : Dev Cert.ActIdeal.nD) → Buf (Elt Ideal) ((c.tc : Thread Cert.ActIdeal.nD Cert.ActIdeal.τ).loc Cert.ActIdeal.main_v10)) (v1 : (c : Dev Cert.ActIdeal.nD) → Buf (Elt Ideal) ((c.tc : Thread Cert.ActIdeal.nD Cert.ActIdeal.τ).loc Cert.ActIdeal.main_v11)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v10) = v0 c
          ∧ r.2.mem ((c.tc : Thread Cert.ActIdeal.nD Cert.ActIdeal.τ).loc Cert.ActIdeal.main_v11) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v8) = v0 c
          ∧ r.2.mem ((c.tc : Thread Cert.ActRefIdeal.nD Cert.ActRefIdeal.τ).loc Cert.ActRefIdeal.main_v9) = v1 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2))

def Claim : Prop :=
  ∃ (hKernel : Cert.Kernel.Facts) (hKernelIdeal : Cert.KernelIdeal.Facts) (hReferenceIdeal : Cert.ReferenceIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpY : Cert.UpY.Facts) (hUpYIdeal : Cert.UpYIdeal.Facts) (hUpYRefIdeal : Cert.UpYRefIdeal.Facts) (hDownY : Cert.DownY.Facts) (hDownYIdeal : Cert.DownYIdeal.Facts) (hDownYRefIdeal : Cert.DownYRefIdeal.Facts) (hInDx : Cert.InDx.Facts) (hInDxIdeal : Cert.InDxIdeal.Facts) (hInDxRefIdeal : Cert.InDxRefIdeal.Facts) (hHeadDx : Cert.HeadDx.Facts) (hHeadDxIdeal : Cert.HeadDxIdeal.Facts) (hHeadDxRefIdeal : Cert.HeadDxRefIdeal.Facts) (hHeadDw : Cert.HeadDw.Facts) (hHeadDwIdeal : Cert.HeadDwIdeal.Facts) (hHeadDwRefIdeal : Cert.HeadDwRefIdeal.Facts) (hWaY : Cert.WaY.Facts) (hWaYIdeal : Cert.WaYIdeal.Facts) (hWaYRefIdeal : Cert.WaYRefIdeal.Facts) (hWaDx : Cert.WaDx.Facts) (hWaDxIdeal : Cert.WaDxIdeal.Facts) (hWaDxRefIdeal : Cert.WaDxRefIdeal.Facts) (hWaDw : Cert.WaDw.Facts) (hWaDwIdeal : Cert.WaDwIdeal.Facts) (hWaDwRefIdeal : Cert.WaDwRefIdeal.Facts) (hWbY : Cert.WbY.Facts) (hWbYIdeal : Cert.WbYIdeal.Facts) (hWbYRefIdeal : Cert.WbYRefIdeal.Facts) (hWbDx : Cert.WbDx.Facts) (hWbDxIdeal : Cert.WbDxIdeal.Facts) (hWbDxRefIdeal : Cert.WbDxRefIdeal.Facts) (hWbDw : Cert.WbDw.Facts) (hWbDwIdeal : Cert.WbDwIdeal.Facts) (hWbDwRefIdeal : Cert.WbDwRefIdeal.Facts) (hWoY : Cert.WoY.Facts) (hWoYIdeal : Cert.WoYIdeal.Facts) (hWoYRefIdeal : Cert.WoYRefIdeal.Facts) (hWoDx : Cert.WoDx.Facts) (hWoDxIdeal : Cert.WoDxIdeal.Facts) (hWoDxRefIdeal : Cert.WoDxRefIdeal.Facts) (hWoDw : Cert.WoDw.Facts) (hWoDwIdeal : Cert.WoDwIdeal.Facts) (hWoDwRefIdeal : Cert.WoDwRefIdeal.Facts) (hInY : Cert.InY.Facts) (hInYIdeal : Cert.InYIdeal.Facts) (hInYRefIdeal : Cert.InYRefIdeal.Facts) (hHeadY : Cert.HeadY.Facts) (hHeadYIdeal : Cert.HeadYIdeal.Facts) (hHeadYRefIdeal : Cert.HeadYRefIdeal.Facts) (hInDw : Cert.InDw.Facts) (hInDwIdeal : Cert.InDwIdeal.Facts) (hInDwRefIdeal : Cert.InDwRefIdeal.Facts) (hAct : Cert.Act.Facts) (hActIdeal : Cert.ActIdeal.Facts) (hActRefIdeal : Cert.ActRefIdeal.Facts) (hPre_finite_qk : Cert.Pre_finite_qk.Facts) (hPre_finite_act : Cert.Pre_finite_act.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpY (hUpY := hUpY)
    ∧ quiescent_UpYIdeal (hUpYIdeal := hUpYIdeal)
    ∧ quiescent_UpYRefIdeal (hUpYRefIdeal := hUpYRefIdeal)
    ∧ quiescent_DownY (hDownY := hDownY)
    ∧ quiescent_DownYIdeal (hDownYIdeal := hDownYIdeal)
    ∧ quiescent_DownYRefIdeal (hDownYRefIdeal := hDownYRefIdeal)
    ∧ quiescent_InDx (hInDx := hInDx)
    ∧ quiescent_InDxIdeal (hInDxIdeal := hInDxIdeal)
    ∧ quiescent_InDxRefIdeal (hInDxRefIdeal := hInDxRefIdeal)
    ∧ quiescent_HeadDx (hHeadDx := hHeadDx)
    ∧ quiescent_HeadDxIdeal (hHeadDxIdeal := hHeadDxIdeal)
    ∧ quiescent_HeadDxRefIdeal (hHeadDxRefIdeal := hHeadDxRefIdeal)
    ∧ quiescent_HeadDw (hHeadDw := hHeadDw)
    ∧ quiescent_HeadDwIdeal (hHeadDwIdeal := hHeadDwIdeal)
    ∧ quiescent_HeadDwRefIdeal (hHeadDwRefIdeal := hHeadDwRefIdeal)
    ∧ quiescent_WaY (hWaY := hWaY)
    ∧ quiescent_WaYIdeal (hWaYIdeal := hWaYIdeal)
    ∧ quiescent_WaYRefIdeal (hWaYRefIdeal := hWaYRefIdeal)
    ∧ quiescent_WaDx (hWaDx := hWaDx)
    ∧ quiescent_WaDxIdeal (hWaDxIdeal := hWaDxIdeal)
    ∧ quiescent_WaDxRefIdeal (hWaDxRefIdeal := hWaDxRefIdeal)
    ∧ quiescent_WaDw (hWaDw := hWaDw)
    ∧ quiescent_WaDwIdeal (hWaDwIdeal := hWaDwIdeal)
    ∧ quiescent_WaDwRefIdeal (hWaDwRefIdeal := hWaDwRefIdeal)
    ∧ quiescent_WbY (hWbY := hWbY)
    ∧ quiescent_WbYIdeal (hWbYIdeal := hWbYIdeal)
    ∧ quiescent_WbYRefIdeal (hWbYRefIdeal := hWbYRefIdeal)
    ∧ quiescent_WbDx (hWbDx := hWbDx)
    ∧ quiescent_WbDxIdeal (hWbDxIdeal := hWbDxIdeal)
    ∧ quiescent_WbDxRefIdeal (hWbDxRefIdeal := hWbDxRefIdeal)
    ∧ quiescent_WbDw (hWbDw := hWbDw)
    ∧ quiescent_WbDwIdeal (hWbDwIdeal := hWbDwIdeal)
    ∧ quiescent_WbDwRefIdeal (hWbDwRefIdeal := hWbDwRefIdeal)
    ∧ quiescent_WoY (hWoY := hWoY)
    ∧ quiescent_WoYIdeal (hWoYIdeal := hWoYIdeal)
    ∧ quiescent_WoYRefIdeal (hWoYRefIdeal := hWoYRefIdeal)
    ∧ quiescent_WoDx (hWoDx := hWoDx)
    ∧ quiescent_WoDxIdeal (hWoDxIdeal := hWoDxIdeal)
    ∧ quiescent_WoDxRefIdeal (hWoDxRefIdeal := hWoDxRefIdeal)
    ∧ quiescent_WoDw (hWoDw := hWoDw)
    ∧ quiescent_WoDwIdeal (hWoDwIdeal := hWoDwIdeal)
    ∧ quiescent_WoDwRefIdeal (hWoDwRefIdeal := hWoDwRefIdeal)
    ∧ quiescent_InY (hInY := hInY)
    ∧ quiescent_InYIdeal (hInYIdeal := hInYIdeal)
    ∧ quiescent_InYRefIdeal (hInYRefIdeal := hInYRefIdeal)
    ∧ quiescent_HeadY (hHeadY := hHeadY)
    ∧ quiescent_HeadYIdeal (hHeadYIdeal := hHeadYIdeal)
    ∧ quiescent_HeadYRefIdeal (hHeadYRefIdeal := hHeadYRefIdeal)
    ∧ quiescent_InDw (hInDw := hInDw)
    ∧ quiescent_InDwIdeal (hInDwIdeal := hInDwIdeal)
    ∧ quiescent_InDwRefIdeal (hInDwRefIdeal := hInDwRefIdeal)
    ∧ quiescent_Act (hAct := hAct)
    ∧ quiescent_ActIdeal (hActIdeal := hActIdeal)
    ∧ quiescent_ActIdeal_pre_finite_act (hActIdeal := hActIdeal) (hPre_finite_act := hPre_finite_act)
    ∧ quiescent_ActRefIdeal (hActRefIdeal := hActRefIdeal)
    ∧ quiescent_ActRefIdeal_pre_finite_act (hActRefIdeal := hActRefIdeal) (hPre_finite_act := hPre_finite_act)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpY_UpYIdeal
    ∧ algebraic_UpYIdeal_UpYRefIdeal (hUpYIdeal := hUpYIdeal) (hUpYRefIdeal := hUpYRefIdeal)
    ∧ preserves_DownY_DownYIdeal
    ∧ algebraic_DownYIdeal_DownYRefIdeal (hDownYIdeal := hDownYIdeal) (hDownYRefIdeal := hDownYRefIdeal)
    ∧ preserves_InDx_InDxIdeal
    ∧ algebraic_InDxIdeal_InDxRefIdeal (hInDxIdeal := hInDxIdeal) (hInDxRefIdeal := hInDxRefIdeal)
    ∧ preserves_HeadDx_HeadDxIdeal
    ∧ algebraic_HeadDxIdeal_HeadDxRefIdeal (hHeadDxIdeal := hHeadDxIdeal) (hHeadDxRefIdeal := hHeadDxRefIdeal)
    ∧ preserves_HeadDw_HeadDwIdeal
    ∧ algebraic_HeadDwIdeal_HeadDwRefIdeal (hHeadDwIdeal := hHeadDwIdeal) (hHeadDwRefIdeal := hHeadDwRefIdeal)
    ∧ preserves_WaY_WaYIdeal
    ∧ algebraic_WaYIdeal_WaYRefIdeal (hWaYIdeal := hWaYIdeal) (hWaYRefIdeal := hWaYRefIdeal)
    ∧ preserves_WaDx_WaDxIdeal
    ∧ algebraic_WaDxIdeal_WaDxRefIdeal (hWaDxIdeal := hWaDxIdeal) (hWaDxRefIdeal := hWaDxRefIdeal)
    ∧ preserves_WaDw_WaDwIdeal
    ∧ algebraic_WaDwIdeal_WaDwRefIdeal (hWaDwIdeal := hWaDwIdeal) (hWaDwRefIdeal := hWaDwRefIdeal)
    ∧ preserves_WbY_WbYIdeal
    ∧ algebraic_WbYIdeal_WbYRefIdeal (hWbYIdeal := hWbYIdeal) (hWbYRefIdeal := hWbYRefIdeal)
    ∧ preserves_WbDx_WbDxIdeal
    ∧ algebraic_WbDxIdeal_WbDxRefIdeal (hWbDxIdeal := hWbDxIdeal) (hWbDxRefIdeal := hWbDxRefIdeal)
    ∧ preserves_WbDw_WbDwIdeal
    ∧ algebraic_WbDwIdeal_WbDwRefIdeal (hWbDwIdeal := hWbDwIdeal) (hWbDwRefIdeal := hWbDwRefIdeal)
    ∧ preserves_WoY_WoYIdeal
    ∧ algebraic_WoYIdeal_WoYRefIdeal (hWoYIdeal := hWoYIdeal) (hWoYRefIdeal := hWoYRefIdeal)
    ∧ preserves_WoDx_WoDxIdeal
    ∧ algebraic_WoDxIdeal_WoDxRefIdeal (hWoDxIdeal := hWoDxIdeal) (hWoDxRefIdeal := hWoDxRefIdeal)
    ∧ preserves_WoDw_WoDwIdeal
    ∧ algebraic_WoDwIdeal_WoDwRefIdeal (hWoDwIdeal := hWoDwIdeal) (hWoDwRefIdeal := hWoDwRefIdeal)
    ∧ preserves_InY_InYIdeal
    ∧ algebraic_InYIdeal_InYRefIdeal (hInYIdeal := hInYIdeal) (hInYRefIdeal := hInYRefIdeal)
    ∧ preserves_HeadY_HeadYIdeal
    ∧ algebraic_HeadYIdeal_HeadYRefIdeal (hHeadYIdeal := hHeadYIdeal) (hHeadYRefIdeal := hHeadYRefIdeal)
    ∧ preserves_InDw_InDwIdeal
    ∧ algebraic_InDwIdeal_InDwRefIdeal (hInDwIdeal := hInDwIdeal) (hInDwRefIdeal := hInDwRefIdeal)
    ∧ preserves_Act_ActIdeal
    ∧ algebraic_ActIdeal_ActRefIdeal_pre_finite_act (hActIdeal := hActIdeal) (hActRefIdeal := hActRefIdeal) (hPre_finite_act := hPre_finite_act)
-- ==== Pre_finite_act.lean ====
abbrev S4096x2816 : Shape := ⟨2, ![4096, 2816]⟩
abbrev S_ : Shape := ⟨0, ![]⟩

class Facts : Prop where
  bcast_S_S4096x2816 : S_.BroadcastsInDim S4096x2816 (![] : Fin 0 → Fin S4096x2816.rank)

variable [Facts]

def fn {F : FTy → Type} [FloatOps F] (main_arg0 : FVec F S4096x2816 .bf16) (main_arg1 : FVec F S4096x2816 .bf16) (main_arg2 : FVec F S4096x2816 .bf16) : IVec S4096x2816 1 :=
  let main_cst : FVec F S_ .bf16 := constant S_ .bf16 0xFF80#16
  let main_v0 : FVec F S4096x2816 .bf16 := broadcastInDim S4096x2816 ![] bcast_S_S4096x2816 main_cst
  let main_v1 : IVec S4096x2816 1 := cmpf .ogt main_arg1 main_v0
  let main_cst_0 : FVec F S_ .bf16 := constant S_ .bf16 0x7F80#16
  let main_v2 : FVec F S4096x2816 .bf16 := broadcastInDim S4096x2816 ![] bcast_S_S4096x2816 main_cst_0
  let main_v3 : IVec S4096x2816 1 := cmpf .olt main_arg1 main_v2
  let main_v4 : IVec S4096x2816 1 := andi main_v1 main_v3
  let main_cst_1 : FVec F S_ .bf16 := constant S_ .bf16 0xFF80#16
  let main_v5 : FVec F S4096x2816 .bf16 := broadcastInDim S4096x2816 ![] bcast_S_S4096x2816 main_cst_1
  let main_v6 : IVec S4096x2816 1 := cmpf .ogt main_arg2 main_v5
  let main_v7 : IVec S4096x2816 1 := andi main_v4 main_v6
  let main_cst_2 : FVec F S_ .bf16 := constant S_ .bf16 0x7F80#16
  let main_v8 : FVec F S4096x2816 .bf16 := broadcastInDim S4096x2816 ![] bcast_S_S4096x2816 main_cst_2
  let main_v9 : IVec S4096x2816 1 := cmpf .olt main_arg2 main_v8
  let main_v10 : IVec S4096x2816 1 := andi main_v7 main_v9
  main_v10
-- ==== Pre_finite_qk.lean ====
abbrev S4096x768 : Shape := ⟨2, ![4096, 768]⟩
abbrev S_ : Shape := ⟨0, ![]⟩

class Facts : Prop where
  bcast_S_S4096x768 : S_.BroadcastsInDim S4096x768 (![] : Fin 0 → Fin S4096x768.rank)

variable [Facts]

def fn {F : FTy → Type} [FloatOps F] (main_arg0 : FVec F S4096x768 .bf16) (main_arg1 : FVec F S4096x768 .bf16) (main_arg2 : FVec F S4096x768 .bf16) (main_arg3 : FVec F S4096x768 .bf16) (main_arg4 : FVec F S4096x768 .f32) : IVec S4096x768 1 :=
  let main_cst : FVec F S_ .bf16 := constant S_ .bf16 0xFF80#16
  let main_v0 : FVec F S4096x768 .bf16 := broadcastInDim S4096x768 ![] bcast_S_S4096x768 main_cst
  let main_v1 : IVec S4096x768 1 := cmpf .ogt main_arg0 main_v0
  let main_cst_0 : FVec F S_ .bf16 := constant S_ .bf16 0x7F80#16
  let main_v2 : FVec F S4096x768 .bf16 := broadcastInDim S4096x768 ![] bcast_S_S4096x768 main_cst_0
  let main_v3 : IVec S4096x768 1 := cmpf .olt main_arg0 main_v2
  let main_v4 : IVec S4096x768 1 := andi main_v1 main_v3
  let main_cst_1 : FVec F S_ .bf16 := constant S_ .bf16 0xFF80#16
  let main_v5 : FVec F S4096x768 .bf16 := broadcastInDim S4096x768 ![] bcast_S_S4096x768 main_cst_1
  let main_v6 : IVec S4096x768 1 := cmpf .ogt main_arg1 main_v5
  let main_v7 : IVec S4096x768 1 := andi main_v4 main_v6
  let main_cst_2 : FVec F S_ .bf16 := constant S_ .bf16 0x7F80#16
  let main_v8 : FVec F S4096x768 .bf16 := broadcastInDim S4096x768 ![] bcast_S_S4096x768 main_cst_2
  let main_v9 : IVec S4096x768 1 := cmpf .olt main_arg1 main_v8
  let main_v10 : IVec S4096x768 1 := andi main_v7 main_v9
  main_v10
-- ==== Kernel.lean ====
abbrev S4096x768 : Shape := ⟨2, ![4096, 768]⟩
abbrev S1024x4x768 : Shape := ⟨3, ![1024, 4, 768]⟩
abbrev S4x1024x768 : Shape := ⟨3, ![4, 1024, 768]⟩
abbrev S128x768 : Shape := ⟨2, ![128, 768]⟩
abbrev S128x256 : Shape := ⟨2, ![128, 256]⟩
abbrev S128x128 : Shape := ⟨2, ![128, 128]⟩
abbrev S256x128 : Shape := ⟨2, ![256, 128]⟩
abbrev S256x256 : Shape := ⟨2, ![256, 256]⟩
abbrev S1x256x128 : Shape := ⟨3, ![1, 256, 128]⟩
abbrev S1x256x256 : Shape := ⟨3, ![1, 256, 256]⟩
abbrev S256 : Shape := ⟨1, ![256]⟩
abbrev S256x1 : Shape := ⟨2, ![256, 1]⟩
abbrev S128 : Shape := ⟨1, ![128]⟩
abbrev S128x1 : Shape := ⟨2, ![128, 1]⟩
abbrev S128x640 : Shape := ⟨2, ![128, 640]⟩
abbrev S128x512 : Shape := ⟨2, ![128, 512]⟩
abbrev S128x384 : Shape := ⟨2, ![128, 384]⟩
abbrev S_ : Shape := ⟨0, ![]⟩
abbrev S1 : Shape := ⟨1, ![1]⟩

abbrev nBuf : Space → Nat
  | .hbm => 46
  | .vmem => 24
  | .smem => 0
  | _ => 0

abbrev bufTy : (tb : Table) → Fin (tcTables nBuf tb) → BufTy
  | .hbm, ⟨0, _⟩ => ⟨S4096x768, .bf16⟩
  | .hbm, ⟨1, _⟩ => ⟨S4096x768, .bf16⟩
  | .hbm, ⟨2, _⟩ => ⟨S4096x768, .bf16⟩
  | .hbm, ⟨3, _⟩ => ⟨S4096x768, .bf16⟩
  | .hbm, ⟨4, _⟩ => ⟨S4096x768, .f32⟩
  | .hbm, ⟨5, _⟩ => ⟨S1024x4x768, .bf16⟩
  | .hbm, ⟨6, _⟩ => ⟨S4x1024x768, .bf16⟩
  | .hbm, ⟨7, _⟩ => ⟨S4096x768, .bf16⟩
  | .hbm, ⟨8, _⟩ => ⟨S1024x4x768, .bf16⟩
  | .hbm, ⟨9, _⟩ => ⟨S4x1024x768, .bf16⟩
  | .hbm, ⟨10, _⟩ => ⟨S4096x768, .bf16⟩
  | .hbm, ⟨11, _⟩ => ⟨S1024x4x768, .bf16⟩
  | .hbm, ⟨12, _⟩ => ⟨S4x1024x768, .bf16⟩
  | .hbm, ⟨13, _⟩ => ⟨S4096x768, .bf16⟩
  | .hbm, ⟨14, _⟩ => ⟨S1024x4x768, .bf16⟩
  | .hbm, ⟨15, _⟩ => ⟨S4x1024x768, .bf16⟩
  | .hbm, ⟨16, _⟩ => ⟨S4096x768, .bf16⟩
  | .hbm, ⟨17, _⟩ => ⟨S1024x4x768, .f32⟩
  | .hbm, ⟨18, _⟩ => ⟨S4x1024x768, .f32⟩
  | .hbm, ⟨19, _⟩ => ⟨S4096x768, .f32⟩
  | .hbm, ⟨20, _⟩ => ⟨S4096x768, .bf16⟩
  | .hbm, ⟨21, _⟩ => ⟨S4096x768, .bf16⟩
  | .hbm, ⟨22, _⟩ => ⟨S4096x768, .bf16⟩
  | .hbm, ⟨23, _⟩ => ⟨S4096x768, .bf16⟩
  | .hbm, ⟨24, _⟩ => ⟨S4096x768, .bf16⟩
  | .hbm, ⟨25, _⟩ => ⟨S_, .i32⟩
  | .hbm, ⟨26, _⟩ => ⟨S1, .i32⟩
  | .hbm, ⟨27, _⟩ => ⟨S_, .bf16⟩
  | .hbm, ⟨28, _⟩ => ⟨S128x768, .bf16⟩
  | .hbm, ⟨29, _⟩ => ⟨S4096x768, .bf16⟩
  | .hbm, ⟨30, _⟩ => ⟨S4096x768, .bf16⟩
  | .hbm, ⟨31, _⟩ => ⟨S_, .i32⟩
  | .hbm, ⟨32, _⟩ => ⟨S1, .i32⟩
  | .hbm, ⟨33, _⟩ => ⟨S_, .bf16⟩
  | .hbm, ⟨34, _⟩ => ⟨S128x768, .bf16⟩
  | .hbm, ⟨35, _⟩ => ⟨S4096x768, .bf16⟩
  | .hbm, ⟨36, _⟩ => ⟨S4096x768, .bf16⟩
  | .hbm, ⟨37, _⟩ => ⟨S4x1024x768, .bf16⟩
  | .hbm, ⟨38, _⟩ => ⟨S1024x4x768, .bf16⟩
  | .hbm, ⟨39, _⟩ => ⟨S4096x768, .bf16⟩
  | .hbm, ⟨40, _⟩ => ⟨S4x1024x768, .bf16⟩
  | .hbm, ⟨41, _⟩ => ⟨S1024x4x768, .bf16⟩
  | .hbm, ⟨42, _⟩ => ⟨S4096x768, .bf16⟩
  | .hbm, ⟨43, _⟩ => ⟨S4x1024x768, .bf16⟩
  | .hbm, ⟨44, _⟩ => ⟨S1024x4x768, .bf16⟩
  | .hbm, ⟨45, _⟩ => ⟨S4096x768, .bf16⟩
  | .local _ .vmem, ⟨0, _⟩ => ⟨S128x768, .bf16⟩
  | .local _ .vmem, ⟨1, _⟩ => ⟨S128x768, .bf16⟩
  | .local _ .vmem, ⟨2, _⟩ => ⟨S128x768, .bf16⟩
  | .local _ .vmem, ⟨3, _⟩ => ⟨S128x768, .bf16⟩
  | .local _ .vmem, ⟨4, _⟩ => ⟨S128x768, .bf16⟩
  | .local _ .vmem, ⟨5, _⟩ => ⟨S128x768, .bf16⟩
  | .local _ .vmem, ⟨6, _⟩ => ⟨S128x768, .bf16⟩
  | .local _ .vmem, ⟨7, _⟩ => ⟨S128x768, .bf16⟩
  | .local _ .vmem, ⟨8, _⟩ => ⟨S128x768, .bf16⟩
  | .local _ .vmem, ⟨9, _⟩ => ⟨S128x768, .bf16⟩
  | .local _ .vmem, ⟨10, _⟩ => ⟨S128x768, .bf16⟩
  | .local _ .vmem, ⟨11, _⟩ => ⟨S128x768, .bf16⟩
  | .local _ .vmem, ⟨12, _⟩ => ⟨S128x768, .f32⟩
  | .local _ .vmem, ⟨13, _⟩ => ⟨S128x768, .f32⟩
  | .local _ .vmem, ⟨14, _⟩ => ⟨S128x768, .bf16⟩
  | .local _ .vmem, ⟨15, _⟩ => ⟨S128x768, .bf16⟩
  | .local _ .vmem, ⟨16, _⟩ => ⟨S128x768, .bf16⟩
  | .local _ .vmem, ⟨17, _⟩ => ⟨S128x768, .bf16⟩
  | .local _ .vmem, ⟨18, _⟩ => ⟨S128x768, .bf16⟩
  | .local _ .vmem, ⟨19, _⟩ => ⟨S128x768, .bf16⟩
  | .local _ .vmem, ⟨20, _⟩ => ⟨S128x768, .bf16⟩
  | .local _ .vmem, ⟨21, _⟩ => ⟨S128x768, .bf16⟩
  | .local _ .vmem, ⟨22, _⟩ => ⟨S128x768, .bf16⟩
  | .local _ .vmem, ⟨23, _⟩ => ⟨S128x768, .bf16⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v15_2 : Ref sig .tc := ⟨.hbm, 22, rfl⟩
abbrev main_v15_3 : Ref sig .tc := ⟨.hbm, 23, rfl⟩
abbrev main_v15_4 : Ref sig .tc := ⟨.hbm, 24, rfl⟩
abbrev main_c : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_0 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4096x768 : Shape := ⟨2, ![4096, 768]⟩
abbrev S1x4096x12x64 : Shape := ⟨4, ![1, 4096, 12, 64]⟩
abbrev S_ : Shape := ⟨0, ![]⟩
abbrev S1 : Shape := ⟨1, ![1]⟩
abbrev S12 : Shape := ⟨1, ![12]⟩
abbrev S1x1024x4x12x64 : Shape := ⟨5, ![1, 1024, 4, 12, 64]⟩
abbrev S1x4x1024x12x64 : Shape := ⟨5, ![1, 4, 1024, 12, 64]⟩
abbrev S4x1024x12x64 : Shape := ⟨4, ![4, 1024, 12, 64]⟩
abbrev S4x8x128x12x64 : Shape := ⟨5, ![4, 8, 128, 12, 64]⟩
abbrev S4x128x12x64 : Shape := ⟨4, ![4, 128, 12, 64]⟩
abbrev S4x1152x12x64 : Shape := ⟨4, ![4, 1152, 12, 64]⟩
abbrev S4x8x256x12x64 : Shape := ⟨5, ![4, 8, 256, 12, 64]⟩
abbrev S4x8x12x128x256 : Shape := ⟨5, ![4, 8, 12, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S12x1x1 : Shape := ⟨3, ![12, 1, 1]⟩
abbrev S12x128x256 : Shape := ⟨3, ![12, 128, 256]⟩
abbrev S1x8x1x128x256 : Shape := ⟨5, ![1, 8, 1, 128, 256]⟩
abbrev S1x1x12x128x256 : Shape := ⟨5, ![1, 1, 12, 128, 256]⟩
abbrev S4x8x12x128 : Shape := ⟨4, ![4, 8, 12, 128]⟩
abbrev S4x8x12x128x1 : Shape := ⟨5, ![4, 8, 12, 128, 1]⟩
abbrev S4x8x12x64x128 : Shape := ⟨5, ![4, 8, 12, 64, 128]⟩
abbrev S4x8x128x12 : Shape := ⟨4, ![4, 8, 128, 12]⟩
abbrev S4x1024x12 : Shape := ⟨3, ![4, 1024, 12]⟩
abbrev S1x4x1024x12 : Shape := ⟨4, ![1, 4, 1024, 12]⟩
abbrev S1x1024x4x12 : Shape := ⟨4, ![1, 1024, 4, 12]⟩
abbrev S1x4096x12 : Shape := ⟨3, ![1, 4096, 12]⟩
abbrev S1x4096x12x1 : Shape := ⟨4, ![1, 4096, 12, 1]⟩
abbrev S4096x12 : Shape := ⟨2, ![4096, 12]⟩
abbrev S4x8x12x64x256 : Shape := ⟨5, ![4, 8, 12, 64, 256]⟩
abbrev S4x8x12x256x64 : Shape := ⟨5, ![4, 8, 12, 256, 64]⟩
abbrev S4x8x12x128x64 : Shape := ⟨5, ![4, 8, 12, 128, 64]⟩

abbrev nBuf : Space → Nat
  | .hbm => 280
  | .vmem => 0
  | .smem => 0
  | _ => 0

abbrev hbmTy0_0 (i : Nat) : BufTy := match i % 128 with
  | 0 => ⟨S4096x768, .bf16⟩
  | 1 => ⟨S4096x768, .bf16⟩
  | 2 => ⟨S4096x768, .bf16⟩
  | 3 => ⟨S4096x768, .bf16⟩
  | 4 => ⟨S4096x768, .f32⟩
  | 5 => ⟨S4096x768, .f32⟩
  | 6 => ⟨S4096x768, .f32⟩
  | 7 => ⟨S4096x768, .f32⟩
  | 8 => ⟨S1x4096x12x64, .f32⟩
  | 9 => ⟨S1x4096x12x64, .f32⟩
  | 10 => ⟨S1x4096x12x64, .f32⟩
  | 11 => ⟨S_, .f32⟩
  | 12 => ⟨S1, .f32⟩
  | 13 => ⟨S_, .f32⟩
  | 14 => ⟨S1, .f32⟩
  | 15 => ⟨S_, .f32⟩
  | 16 => ⟨S1, .f32⟩
  | 17 => ⟨S_, .f32⟩
  | 18 => ⟨S1, .f32⟩
  | 19 => ⟨S_, .f32⟩
  | 20 => ⟨S1, .f32⟩
  | 21 => ⟨S_, .f32⟩
  | 22 => ⟨S1, .f32⟩
  | 23 => ⟨S_, .f32⟩
  | 24 => ⟨S1, .f32⟩
  | 25 => ⟨S_, .f32⟩
  | 26 => ⟨S1, .f32⟩
  | 27 => ⟨S_, .f32⟩
  | 28 => ⟨S1, .f32⟩
  | 29 => ⟨S_, .f32⟩
  | 30 => ⟨S1, .f32⟩
  | 31 => ⟨S_, .f32⟩
  | 32 => ⟨S1, .f32⟩
  | 33 => ⟨S_, .f32⟩
  | 34 => ⟨S1, .f32⟩
  | 35 => ⟨S12, .f32⟩
  | 36 => ⟨S1x1024x4x12x64, .f32⟩
  | 37 => ⟨S1x4x1024x12x64, .f32⟩
  | 38 => ⟨S4x1024x12x64, .f32⟩
  | 39 => ⟨S_, .i32⟩
  | 40 => ⟨S_, .f32⟩
  | 41 => ⟨S4x1024x12x64, .f32⟩
  | 42 => ⟨S_, .f32⟩
  | 43 => ⟨S1x1024x4x12x64, .f32⟩
  | 44 => ⟨S1x4x1024x12x64, .f32⟩
  | 45 => ⟨S4x1024x12x64, .f32⟩
  | 46 => ⟨S_, .i32⟩
  | 47 => ⟨S_, .f32⟩
  | 48 => ⟨S4x1024x12x64, .f32⟩
  | 49 => ⟨S_, .f32⟩
  | 50 => ⟨S1x1024x4x12x64, .f32⟩
  | 51 => ⟨S1x4x1024x12x64, .f32⟩
  | 52 => ⟨S4x1024x12x64, .f32⟩
  | 53 => ⟨S_, .i32⟩
  | 54 => ⟨S_, .f32⟩
  | 55 => ⟨S4x1024x12x64, .f32⟩
  | 56 => ⟨S_, .f32⟩
  | 57 => ⟨S4x8x128x12x64, .f32⟩
  | 58 => ⟨S_, .f32⟩
  | 59 => ⟨S4x128x12x64, .f32⟩
  | 60 => ⟨S4x1152x12x64, .f32⟩
  | 61 => ⟨S_, .f32⟩
  | 62 => ⟨S4x128x12x64, .f32⟩
  | 63 => ⟨S4x1024x12x64, .f32⟩
  | 64 => ⟨S4x8x128x12x64, .f32⟩
  | 65 => ⟨S4x8x128x12x64, .f32⟩
  | 66 => ⟨S4x8x256x12x64, .f32⟩
  | 67 => ⟨S_, .f32⟩
  | 68 => ⟨S4x128x12x64, .f32⟩
  | 69 => ⟨S4x1152x12x64, .f32⟩
  | 70 => ⟨S_, .f32⟩
  | 71 => ⟨S4x128x12x64, .f32⟩
  | 72 => ⟨S4x1024x12x64, .f32⟩
  | 73 => ⟨S4x8x128x12x64, .f32⟩
  | 74 => ⟨S4x8x128x12x64, .f32⟩
  | 75 => ⟨S4x8x256x12x64, .f32⟩
  | 76 => ⟨S4x8x12x128x256, .f32⟩
  | 77 => ⟨S_, .f32⟩
  | 78 => ⟨S4x8x12x128x256, .f32⟩
  | 79 => ⟨S4x8x12x128x256, .f32⟩
  | 80 => ⟨S128, .i32⟩
  | 81 => ⟨S128x1, .i32⟩
  | 82 => ⟨S256, .i32⟩
  | 83 => ⟨S1x256, .i32⟩
  | 84 => ⟨S_, .i32⟩
  | 85 => ⟨S128x1, .i32⟩
  | 86 => ⟨S128x1, .i32⟩
  | 87 => ⟨S128x256, .i32⟩
  | 88 => ⟨S128x256, .i32⟩
  | 89 => ⟨S128x256, .i32⟩
  | 90 => ⟨S8, .i32⟩
  | 91 => ⟨S8x1x1, .i32⟩
  | 92 => ⟨S_, .i32⟩
  | 93 => ⟨S8x1x1, .i32⟩
  | 94 => ⟨S8x1x1, .i32⟩
  | 95 => ⟨S1x1x256, .i32⟩
  | 96 => ⟨S8x1x256, .i32⟩
  | 97 => ⟨S8x1x256, .i32⟩
  | 98 => ⟨S8x1x256, .i32⟩
  | 99 => ⟨S_, .i32⟩
  | 100 => ⟨S8x1x256, .i32⟩
  | 101 => ⟨S8x1x256, .i32⟩
  | 102 => ⟨S1x128x256, .i32⟩
  | 103 => ⟨S_, .i32⟩
  | 104 => ⟨S1x128x256, .i32⟩
  | 105 => ⟨S1x128x256, .i1⟩
  | 106 => ⟨S1x128x256, .i32⟩
  | 107 => ⟨S_, .i32⟩
  | 108 => ⟨S1x128x256, .i32⟩
  | 109 => ⟨S1x128x256, .i1⟩
  | 110 => ⟨S1x128x256, .i1⟩
  | 111 => ⟨S_, .i32⟩
  | 112 => ⟨S8x1x256, .i32⟩
  | 113 => ⟨S8x1x256, .i1⟩
  | 114 => ⟨S8x128x256, .i1⟩
  | 115 => ⟨S8x128x256, .i1⟩
  | 116 => ⟨S8x128x256, .i1⟩
  | 117 => ⟨S12x1x1, .f32⟩
  | 118 => ⟨S12x1x1, .f32⟩
  | 119 => ⟨S_, .i32⟩
  | 120 => ⟨S128x256, .i32⟩
  | 121 => ⟨S128x256, .i32⟩
  | 122 => ⟨S128x256, .f32⟩
  | 123 => ⟨S1x128x256, .f32⟩
  | 124 => ⟨S12x128x256, .f32⟩
  | 125 => ⟨S12x128x256, .f32⟩
  | 126 => ⟨S12x128x256, .f32⟩
  | 127 => ⟨S1x8x1x128x256, .i1⟩
  | _ => ⟨S4096x768, .bf16⟩

abbrev hbmTy0_1 (i : Nat) : BufTy := match i % 128 with
  | 0 => ⟨S1x1x12x128x256, .f32⟩
  | 1 => ⟨S4x8x12x128x256, .f32⟩
  | 2 => ⟨S4x8x12x128x256, .f32⟩
  | 3 => ⟨S_, .f32⟩
  | 4 => ⟨S_, .f32⟩
  | 5 => ⟨S4x8x12x128x256, .i1⟩
  | 6 => ⟨S4x8x12x128x256, .f32⟩
  | 7 => ⟨S4x8x12x128x256, .f32⟩
  | 8 => ⟨S_, .f32⟩
  | 9 => ⟨S4x8x12x128x256, .f32⟩
  | 10 => ⟨S_, .f32⟩
  | 11 => ⟨S4x8x12x128, .f32⟩
  | 12 => ⟨S4x8x12x128x1, .f32⟩
  | 13 => ⟨S4x8x12x128x256, .f32⟩
  | 14 => ⟨S4x8x12x128x256, .i1⟩
  | 15 => ⟨S4x8x12x128x256, .f32⟩
  | 16 => ⟨S_, .f32⟩
  | 17 => ⟨S4x8x12x128, .f32⟩
  | 18 => ⟨S4x8x12x128x1, .f32⟩
  | 19 => ⟨S4x8x12x128x256, .f32⟩
  | 20 => ⟨S4x8x12x128x256, .f32⟩
  | 21 => ⟨S4x8x12x128x256, .f32⟩
  | 22 => ⟨S_, .f32⟩
  | 23 => ⟨S4x8x12x128, .f32⟩
  | 24 => ⟨S4x8x12x128x1, .f32⟩
  | 25 => ⟨S4x8x12x128x256, .f32⟩
  | 26 => ⟨S4x8x12x128x256, .f32⟩
  | 27 => ⟨S4x8x12x128x1, .f32⟩
  | 28 => ⟨S_, .f32⟩
  | 29 => ⟨S4x8x12x128x1, .f32⟩
  | 30 => ⟨S4x8x12x128x1, .f32⟩
  | 31 => ⟨S4x8x12x64x128, .f32⟩
  | 32 => ⟨S4x8x128x12x64, .f32⟩
  | 33 => ⟨S4x8x12x128x1, .f32⟩
  | 34 => ⟨S4x8x12x128x1, .f32⟩
  | 35 => ⟨S4x8x12x128, .f32⟩
  | 36 => ⟨S4x1024x12x64, .f32⟩
  | 37 => ⟨S1x4x1024x12x64, .f32⟩
  | 38 => ⟨S1x1024x4x12x64, .f32⟩
  | 39 => ⟨S1x4096x12x64, .f32⟩
  | 40 => ⟨S4x8x128x12, .f32⟩
  | 41 => ⟨S4x1024x12, .f32⟩
  | 42 => ⟨S1x4x1024x12, .f32⟩
  | 43 => ⟨S1x1024x4x12, .f32⟩
  | 44 => ⟨S1x4096x12, .f32⟩
  | 45 => ⟨S4096x768, .f32⟩
  | 46 => ⟨S1x4096x12x1, .f32⟩
  | 47 => ⟨S1x4096x12x64, .f32⟩
  | 48 => ⟨S4096x768, .f32⟩
  | 49 => ⟨S4096x768, .f32⟩
  | 50 => ⟨S1x4096x12x64, .f32⟩
  | 51 => ⟨S_, .f32⟩
  | 52 => ⟨S4096x12, .f32⟩
  | 53 => ⟨S1x4096x12x1, .f32⟩
  | 54 => ⟨S_, .f32⟩
  | 55 => ⟨S4096x12, .f32⟩
  | 56 => ⟨S1x4096x12, .f32⟩
  | 57 => ⟨S1x4096x12x64, .f32⟩
  | 58 => ⟨S1x1024x4x12, .f32⟩
  | 59 => ⟨S1x4x1024x12, .f32⟩
  | 60 => ⟨S4x1024x12, .f32⟩
  | 61 => ⟨S4x8x128x12, .f32⟩
  | 62 => ⟨S4x8x12x128, .f32⟩
  | 63 => ⟨S1x1024x4x12x64, .f32⟩
  | 64 => ⟨S1x4x1024x12x64, .f32⟩
  | 65 => ⟨S4x1024x12x64, .f32⟩
  | 66 => ⟨S4x8x128x12x64, .f32⟩
  | 67 => ⟨S4x8x12x128x1, .f32⟩
  | 68 => ⟨S4x8x12x128x1, .f32⟩
  | 69 => ⟨S4x8x12x64x128, .f32⟩
  | 70 => ⟨S4x8x12x128x256, .f32⟩
  | 71 => ⟨S4x8x12x64x256, .f32⟩
  | 72 => ⟨S4x8x256x12x64, .f32⟩
  | 73 => ⟨S4x8x12x128x256, .f32⟩
  | 74 => ⟨S4x8x12x128x256, .f32⟩
  | 75 => ⟨S4x8x12x128x256, .f32⟩
  | 76 => ⟨S_, .f32⟩
  | 77 => ⟨S4x8x12x128, .f32⟩
  | 78 => ⟨S4x8x12x128x1, .f32⟩
  | 79 => ⟨S4x8x12x128x1, .f32⟩
  | 80 => ⟨S4x8x12x128x1, .f32⟩
  | 81 => ⟨S4x8x12x128x256, .f32⟩
  | 82 => ⟨S4x8x12x128x256, .f32⟩
  | 83 => ⟨S_, .f32⟩
  | 84 => ⟨S4x8x12x128, .f32⟩
  | 85 => ⟨S4x8x12x128x256, .f32⟩
  | 86 => ⟨S4x8x12x128x256, .f32⟩
  | 87 => ⟨S4x8x12x128x256, .f32⟩
  | 88 => ⟨S4x8x12x128x256, .f32⟩
  | 89 => ⟨S_, .f32⟩
  | 90 => ⟨S4x8x12x128, .f32⟩
  | 91 => ⟨S4x8x12x128x1, .f32⟩
  | 92 => ⟨S4x8x12x128x1, .f32⟩
  | 93 => ⟨S_, .f32⟩
  | 94 => ⟨S4x8x12x128, .f32⟩
  | 95 => ⟨S4x8x12x128, .f32⟩
  | 96 => ⟨S4x8x12x128x256, .f32⟩
  | 97 => ⟨S4x8x12x128x256, .f32⟩
  | 98 => ⟨S4x8x12x128x256, .f32⟩
  | 99 => ⟨S_, .f32⟩
  | 100 => ⟨S4x8x12x128x256, .f32⟩
  | 101 => ⟨S4x8x12x128x256, .f32⟩
  | 102 => ⟨S_, .f32⟩
  | 103 => ⟨S4x8x12x128x256, .f32⟩
  | 104 => ⟨S4x8x12x128x256, .f32⟩
  | 105 => ⟨S4x8x12x256x64, .f32⟩
  | 106 => ⟨S4x8x256x12x64, .f32⟩
  | 107 => ⟨S4x8x12x128x64, .f32⟩
  | 108 => ⟨S4x8x128x12x64, .f32⟩
  | 109 => ⟨S4x8x128x12x64, .f32⟩
  | 110 => ⟨S4x8x128x12x64, .f32⟩
  | 111 => ⟨S4x1024x12x64, .f32⟩
  | 112 => ⟨S4x1024x12x64, .f32⟩
  | 113 => ⟨S_, .f32⟩
  | 114 => ⟨S4x1152x12x64, .f32⟩
  | 115 => ⟨S4x128x12x64, .f32⟩
  | 116 => ⟨S4x1024x12x64, .f32⟩
  | 117 => ⟨S4x1024x12x64, .f32⟩
  | 118 => ⟨S4x8x128x12x64, .f32⟩
  | 119 => ⟨S4x8x128x12x64, .f32⟩
  | 120 => ⟨S4x1024x12x64, .f32⟩
  | 121 => ⟨S4x1024x12x64, .f32⟩
  | 122 => ⟨S_, .f32⟩
  | 123 => ⟨S4x1152x12x64, .f32⟩
  | 124 => ⟨S4x128x12x64, .f32⟩
  | 125 => ⟨S4x1024x12x64, .f32⟩
  | 126 => ⟨S4x1024x12x64, .f32⟩
  | 127 => ⟨S4x1024x12x64, .f32⟩
  | _ => ⟨S4096x768, .bf16⟩

abbrev hbmTy0_2 (i : Nat) : BufTy := match i % 128 with
  | 0 => ⟨S_, .f32⟩
  | 1 => ⟨S4x1024x12x64, .f32⟩
  | 2 => ⟨S4x1024x12x64, .f32⟩
  | 3 => ⟨S1x4x1024x12x64, .f32⟩
  | 4 => ⟨S1x1024x4x12x64, .f32⟩
  | 5 => ⟨S1x4096x12x64, .f32⟩
  | 6 => ⟨S_, .f32⟩
  | 7 => ⟨S4x1024x12x64, .f32⟩
  | 8 => ⟨S4x1024x12x64, .f32⟩
  | 9 => ⟨S1x4x1024x12x64, .f32⟩
  | 10 => ⟨S1x1024x4x12x64, .f32⟩
  | 11 => ⟨S1x4096x12x64, .f32⟩
  | 12 => ⟨S_, .f32⟩
  | 13 => ⟨S4x1024x12x64, .f32⟩
  | 14 => ⟨S4x1024x12x64, .f32⟩
  | 15 => ⟨S1x4x1024x12x64, .f32⟩
  | 16 => ⟨S1x1024x4x12x64, .f32⟩
  | 17 => ⟨S1x4096x12x64, .f32⟩
  | 18 => ⟨S4096x768, .f32⟩
  | 19 => ⟨S4096x768, .f32⟩
  | 20 => ⟨S4096x768, .f32⟩
  | 21 => ⟨S4096x768, .bf16⟩
  | 22 => ⟨S4096x768, .bf16⟩
  | 23 => ⟨S4096x768, .bf16⟩
  | _ => ⟨S4096x768, .bf16⟩

abbrev hbmTy (i : Nat) : BufTy := match i / 128 with
  | 0 => hbmTy0_0 i
  | 1 => hbmTy0_1 i
  | 2 => hbmTy0_2 i
  | _ => ⟨S4096x768, .bf16⟩

abbrev bufTy : (tb : Table) → Fin (tcTables nBuf tb) → BufTy
  | .hbm, ⟨i, _⟩ => hbmTy i
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_cst_5 : Ref sig .tc := ⟨.hbm, 23, rfl⟩
abbrev main_v12 : Ref sig .tc := ⟨.hbm, 24, rfl⟩
abbrev main_cst_6 : Ref sig .tc := ⟨.hbm, 25, rfl⟩
abbrev main_v13 : Ref sig .tc := ⟨.hbm, 26, rfl⟩
abbrev main_cst_7 : Ref sig .tc := ⟨.hbm, 27, rfl⟩
abbrev main_v14 : Ref sig .tc := ⟨.hbm, 28, rfl⟩
abbrev main_cst_8 : Ref sig .tc := ⟨.hbm, 29, rfl⟩
abbrev main_v15 : Ref sig .tc := ⟨.hbm, 30, rfl⟩
abbrev main_cst_9 : Ref sig .tc := ⟨.hbm, 31, rfl⟩
abbrev main_v16 : Ref sig .tc := ⟨.hbm, 32, rfl⟩
abbrev main_cst_10 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_call0_v0 : Ref sig .tc := ⟨.hbm, 40, rfl⟩
abbrev main_v22_0 : Ref sig .tc := ⟨.hbm, 41, rfl⟩
abbrev main_v22_1 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_11 : Ref sig .tc := ⟨.hbm, 46, rfl⟩
abbrev main_call1_v0 : Ref sig .tc := ⟨.hbm, 47, rfl⟩
abbrev main_v26_0 : Ref sig .tc := ⟨.hbm, 48, rfl⟩
abbrev main_v26_1 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_12 : Ref sig .tc := ⟨.hbm, 53, rfl⟩
abbrev main_call2_v0 : Ref sig .tc := ⟨.hbm, 54, rfl⟩
abbrev main_v30_0 : Ref sig .tc := ⟨.hbm, 55, rfl⟩
abbrev main_v30_1 : Ref sig .tc := ⟨.hbm, 56, rfl⟩
abbrev main_v31 : Ref sig .tc := ⟨.hbm, 57, rfl⟩
abbrev main_cst_13 : Ref sig .tc := ⟨.hbm, 58, rfl⟩
abbrev main_v32 : Ref sig .tc := ⟨.hbm, 59, rfl⟩
abbrev main_v33 : Ref sig .tc := ⟨.hbm, 60, rfl⟩
abbrev main_cst_14 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_15 : Ref sig .tc := ⟨.hbm, 67, rfl⟩
abbrev main_v39 : Ref sig .tc := ⟨.hbm, 68, rfl⟩
abbrev main_v40 : Ref sig .tc := ⟨.hbm, 69, rfl⟩
abbrev main_cst_16 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_17 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_18 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_19 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_20 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_21 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_22 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_23 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c_24 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_25 : Ref sig .tc := ⟨.hbm, 131, rfl⟩
abbrev main_call3_v0 : Ref sig .tc := ⟨.hbm, 132, rfl⟩
abbrev main_v93_1 : Ref sig .tc := ⟨.hbm, 133, rfl⟩
abbrev main_call3_v2 : Ref sig .tc := ⟨.hbm, 134, rfl⟩
abbrev main_v93_0 : Ref sig .tc := ⟨.hbm, 135, rfl⟩
abbrev main_call3_cst : Ref sig .tc := ⟨.hbm, 136, rfl⟩
abbrev main_v93_2 : Ref sig .tc := ⟨.hbm, 137, rfl⟩
abbrev main_cst_26 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_27 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_28 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_29 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_30 : Ref sig .tc := ⟨.hbm, 179, rfl⟩
abbrev main_v131 : Ref sig .tc := ⟨.hbm, 180, rfl⟩
abbrev main_v132 : Ref sig .tc := ⟨.hbm, 181, rfl⟩
abbrev main_cst_31 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_cst_32 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_cst_33 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_cst_34 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_cst_35 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_call4_cst : Ref sig .tc := ⟨.hbm, 227, rfl⟩
abbrev main_call4_v0 : Ref sig .tc := ⟨.hbm, 228, rfl⟩
abbrev main_v173 : Ref sig .tc := ⟨.hbm, 229, rfl⟩
abbrev main_cst_36 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_cst_37 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_cst_38 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_call5_cst : Ref sig .tc := ⟨.hbm, 256, rfl⟩
abbrev main_call5_v0 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_call6_cst : Ref sig .tc := ⟨.hbm, 262, rfl⟩
abbrev main_call6_v0 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_call7_cst : Ref sig .tc := ⟨.hbm, 268, rfl⟩
abbrev main_call7_v0 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩

abbrev nD : Nat := 1
abbrev τ : Topo := Topo.v7x

variable {F : FTy → Type} [FloatOps F]
-- ==== UpDx.lean ====
abbrev S4096x2816 : Shape := ⟨2, ![4096, 2816]⟩
abbrev S1024x2816 : Shape := ⟨2, ![1024, 2816]⟩
abbrev S4096x1408 : Shape := ⟨2, ![4096, 1408]⟩
abbrev S4096x5632 : Shape := ⟨2, ![4096, 5632]⟩
abbrev S1024x1408 : Shape := ⟨2, ![1024, 1408]⟩
abbrev S1024x5632 : Shape := ⟨2, ![1024, 5632]⟩
abbrev S4096x1024 : Shape := ⟨2, ![4096, 1024]⟩
abbrev S1024x1024 : Shape := ⟨2, ![1024, 1024]⟩

abbrev nBuf : Space → Nat
  | .hbm => 15
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x2816, .bf16⟩
  | .hbm, ⟨3, _⟩ => ⟨S1024x2816, .bf16⟩
  | .hbm, ⟨4, _⟩ => ⟨S4096x1408, .bf16⟩
  | .hbm, ⟨5, _⟩ => ⟨S4096x1408, .bf16⟩
  | .hbm, ⟨6, _⟩ => ⟨S4096x1408, .bf16⟩
  | .hbm, ⟨7, _⟩ => ⟨S4096x1408, .bf16⟩
  | .hbm, ⟨8, _⟩ => ⟨S4096x5632, .bf16⟩
  | .hbm, ⟨9, _⟩ => ⟨S1024x1408, .bf16⟩
  | .hbm, ⟨10, _⟩ => ⟨S1024x1408, .bf16⟩
  | .hbm, ⟨11, _⟩ => ⟨S1024x1408, .bf16⟩
  | .hbm, ⟨12, _⟩ => ⟨S1024x1408, .bf16⟩
  | .hbm, ⟨13, _⟩ => ⟨S1024x5632, .bf16⟩
  | .hbm, ⟨14, _⟩ => ⟨S4096x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S4096x2816 : Shape := ⟨2, ![4096, 2816]⟩
abbrev S1024x2816 : Shape := ⟨2, ![1024, 2816]⟩
abbrev S_ : Shape := ⟨0, ![]⟩
abbrev S4096x1024 : Shape := ⟨2, ![4096, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x2816, .bf16⟩
  | .hbm, ⟨3, _⟩ => ⟨S1024x2816, .bf16⟩
  | .hbm, ⟨4, _⟩ => ⟨S_, .f32⟩
  | .hbm, ⟨5, _⟩ => ⟨S4096x1024, .f32⟩
  | .hbm, ⟨6, _⟩ => ⟨S1024x2816, .f32⟩
  | .hbm, ⟨7, _⟩ => ⟨S4096x2816, .f32⟩
  | .hbm, ⟨8, _⟩ => ⟨S1024x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== UpDw.lean ====
abbrev S4096x1024 : Shape := ⟨2, ![4096, 1024]⟩
abbrev S4096x2816 : Shape := ⟨2, ![4096, 2816]⟩
abbrev S4096x1408 : Shape := ⟨2, ![4096, 1408]⟩
abbrev S4096x5632 : Shape := ⟨2, ![4096, 5632]⟩
abbrev S1024x5632 : Shape := ⟨2, ![1024, 5632]⟩
abbrev S1024x1024 : Shape := ⟨2, ![1024, 1024]⟩
abbrev S1024x1408 : Shape := ⟨2, ![1024, 1408]⟩
abbrev S1024x2816 : Shape := ⟨2, ![1024, 2816]⟩

abbrev nBuf : Space → Nat
  | .hbm => 15
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S4096x1408, .bf16⟩
  | .hbm, ⟨4, _⟩ => ⟨S4096x1408, .bf16⟩
  | .hbm, ⟨5, _⟩ => ⟨S4096x1408, .bf16⟩
  | .hbm, ⟨6, _⟩ => ⟨S4096x1408, .bf16⟩
  | .hbm, ⟨7, _⟩ => ⟨S4096x5632, .bf16⟩
  | .hbm, ⟨8, _⟩ => ⟨S1024x5632, .bf16⟩
  | .hbm, ⟨9, _⟩ => ⟨S1024x1408, .bf16⟩
  | .hbm, ⟨10, _⟩ => ⟨S1024x1408, .bf16⟩
  | .hbm, ⟨11, _⟩ => ⟨S1024x1408, .bf16⟩
  | .hbm, ⟨12, _⟩ => ⟨S1024x1408, .bf16⟩
  | .hbm, ⟨13, _⟩ => ⟨S1024x2816, .bf16⟩
  | .hbm, ⟨14, _⟩ => ⟨S1024x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S_, .f32⟩
  | .hbm, ⟨4, _⟩ => ⟨S1024x2816, .f32⟩
  | .hbm, ⟨5, _⟩ => ⟨S4096x1024, .f32⟩
  | .hbm, ⟨6, _⟩ => ⟨S4096x2816, .f32⟩
  | .hbm, ⟨7, _⟩ => ⟨S4096x1024, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S2816x1024, .f32⟩
  | .hbm, ⟨12, _⟩ => ⟨S1024x2816, .f32⟩
  | .hbm, ⟨13, _⟩ => ⟨S2816x1024, .f32⟩
  | .hbm, ⟨14, _⟩ => ⟨S1024x2816, .f32⟩
  | .hbm, ⟨15, _⟩ => ⟨S1024x2816, .bf16⟩
  | .hbm, ⟨16, _⟩ => ⟨S1024x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== DownDx.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x2816, .f32⟩
  | .hbm, ⟨7, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpY.lean ====
abbrev S4096x1024 : Shape := ⟨2, ![4096, 1024]⟩
abbrev S1024x2816 : Shape := ⟨2, ![1024, 2816]⟩
abbrev S1024x1408 : Shape := ⟨2, ![1024, 1408]⟩
abbrev S1024x5632 : Shape := ⟨2, ![1024, 5632]⟩
abbrev S4096x5632 : Shape := ⟨2, ![4096, 5632]⟩
abbrev S4096x2816 : Shape := ⟨2, ![4096, 2816]⟩
abbrev S512x1024 : Shape := ⟨2, ![512, 1024]⟩
abbrev S512x2816 : Shape := ⟨2, ![512, 2816]⟩
abbrev S512x1408 : Shape := ⟨2, ![512, 1408]⟩
abbrev S4096x1408 : Shape := ⟨2, ![4096, 1408]⟩

abbrev nBuf : Space → Nat
  | .hbm => 16
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S1024x2816, .bf16⟩
  | .hbm, ⟨3, _⟩ => ⟨S1024x1408, .bf16⟩
  | .hbm, ⟨4, _⟩ => ⟨S1024x1408, .bf16⟩
  | .hbm, ⟨5, _⟩ => ⟨S1024x1408, .bf16⟩
  | .hbm, ⟨6, _⟩ => ⟨S1024x1408, .bf16⟩
  | .hbm, ⟨7, _⟩ => ⟨S1024x5632, .bf16⟩
  | .hbm, ⟨8, _⟩ => ⟨S4096x5632, .bf16⟩
  | .hbm, ⟨9, _⟩ => ⟨S4096x2816, .bf16⟩
  | .hbm, ⟨10, _⟩ => ⟨S4096x1408, .bf16⟩
  | .hbm, ⟨11, _⟩ => ⟨S4096x1408, .bf16⟩
  | .hbm, ⟨12, _⟩ => ⟨S4096x1408, .bf16⟩
  | .hbm, ⟨13, _⟩ => ⟨S4096x1408, .bf16⟩
  | .hbm, ⟨14, _⟩ => ⟨S4096x2816, .bf16⟩
  | .hbm, ⟨15, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x2816, .bf16⟩
  | .local _ .vmem, ⟨3, _⟩ => ⟨S1024x2816, .bf16⟩
  | .local _ .vmem, ⟨4, _⟩ => ⟨S512x2816, .bf16⟩
  | .local _ .vmem, ⟨5, _⟩ => ⟨S512x2816, .bf16⟩
  | .local _ .vmem, ⟨6, _⟩ => ⟨S512x1408, .bf16⟩
  | .local _ .vmem, ⟨7, _⟩ => ⟨S512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpYRefIdeal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S1024x2816, .bf16⟩
  | .hbm, ⟨3, _⟩ => ⟨S4096x1024, .f32⟩
  | .hbm, ⟨4, _⟩ => ⟨S1024x2816, .f32⟩
  | .hbm, ⟨5, _⟩ => ⟨S4096x2816, .f32⟩
  | .hbm, ⟨6, _⟩ => ⟨S4096x1024, .f32⟩
  | .hbm, ⟨7, _⟩ => ⟨S1024x2816, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .bf16⟩
  | .hbm, ⟨20, _⟩ => ⟨S4096x2816, .bf16⟩
  | .hbm, ⟨21, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== DownY.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownYRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InDx.lean ====
abbrev S4096x1024 : Shape := ⟨2, ![4096, 1024]⟩
abbrev S1024x6144 : Shape := ⟨2, ![1024, 6144]⟩
abbrev S1024x1024 : Shape := ⟨2, ![1024, 1024]⟩

abbrev nBuf : Space → Nat
  | .hbm => 8
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S1024x6144, .bf16⟩
  | .hbm, ⟨7, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 6], ![false, false]⟩

def k0_cond19 (i : grid0.Coords) : BitVec 1 :=
  let arg1 : BitVec 32 := BitVec.ofNat 32 (i 1).val
  let c5_i32_11 : BitVec 32 := 5#32
  let v30 : BitVec 1 := Scalar.cmpi .eq arg1 c5_i32_11
  let v31 : BitVec 32 := Scalar.extui v30
  let c0_i32_12 : BitVec 32 := 0#32
  let v32 : BitVec 1 := Scalar.cmpi .ne v31 c0_i32_12
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== InDxRefIdeal.lean ====
abbrev S4096x1024 : Shape := ⟨2, ![4096, 1024]⟩
abbrev S1024x6144 : Shape := ⟨2, ![1024, 6144]⟩
abbrev S_ : Shape := ⟨0, ![]⟩
abbrev S4096x6144 : Shape := ⟨2, ![4096, 6144]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S1024x6144, .bf16⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S1024x6144, .f32⟩
  | .hbm, ⟨16, _⟩ => ⟨S4096x6144, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x6144, .f32⟩
  | .hbm, ⟨24, _⟩ => ⟨S4096x1024, .f32⟩
  | .hbm, ⟨25, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== HeadDx.lean ====
abbrev S4096x768 : Shape := ⟨2, ![4096, 768]⟩
abbrev S1024x2304 : Shape := ⟨2, ![1024, 2304]⟩
abbrev S4096x1024 : Shape := ⟨2, ![4096, 1024]⟩
abbrev S1024x768 : Shape := ⟨2, ![1024, 768]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4096x768, .bf16⟩
  | .hbm, ⟨1, _⟩ => ⟨S4096x768, .bf16⟩
  | .hbm, ⟨2, _⟩ => ⟨S4096x768, .bf16⟩
  | .hbm, ⟨3, _⟩ => ⟨S1024x2304, .bf16⟩
  | .hbm, ⟨4, _⟩ => ⟨S4096x1024, .bf16⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 3], ![false, false]⟩

def k0_cond10 (i : grid0.Coords) : BitVec 1 :=
  let arg1 : BitVec 32 := BitVec.ofNat 32 (i 1).val
  let c2_i32_5 : BitVec 32 := 2#32
  let v15 : BitVec 1 := Scalar.cmpi .eq arg1 c2_i32_5
  let v16 : BitVec 32 := Scalar.extui v15
  let c0_i32_6 : BitVec 32 := 0#32
  let v17 : BitVec 1 := Scalar.cmpi .ne v16 c0_i32_6
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== HeadDxRefIdeal.lean ====
abbrev S4096x768 : Shape := ⟨2, ![4096, 768]⟩
abbrev S1024x2304 : Shape := ⟨2, ![1024, 2304]⟩
abbrev S_ : Shape := ⟨0, ![]⟩
abbrev S4096x1024 : Shape := ⟨2, ![4096, 1024]⟩
abbrev S4096x2304 : Shape := ⟨2, ![4096, 2304]⟩

abbrev nBuf : Space → Nat
  | .hbm => 17
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x768, .bf16⟩
  | .hbm, ⟨2, _⟩ => ⟨S4096x768, .bf16⟩
  | .hbm, ⟨3, _⟩ => ⟨S1024x2304, .bf16⟩
  | .hbm, ⟨4, _⟩ => ⟨S_, .f32⟩
  | .hbm, ⟨5, _⟩ => ⟨S4096x1024, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S1024x2304, .f32⟩
  | .hbm, ⟨10, _⟩ => ⟨S4096x2304, .f32⟩
  | .hbm, ⟨11, _⟩ => ⟨S4096x768, .f32⟩
  | .hbm, ⟨12, _⟩ => ⟨S4096x768, .f32⟩
  | .hbm, ⟨13, _⟩ => ⟨S4096x768, .f32⟩
  | .hbm, ⟨14, _⟩ => ⟨S4096x2304, .f32⟩
  | .hbm, ⟨15, _⟩ => ⟨S4096x1024, .f32⟩
  | .hbm, ⟨16, _⟩ => ⟨S4096x1024, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== HeadDw.lean ====
abbrev S4096x1024 : Shape := ⟨2, ![4096, 1024]⟩
abbrev S4096x768 : Shape := ⟨2, ![4096, 768]⟩
abbrev S1024x2304 : Shape := ⟨2, ![1024, 2304]⟩
abbrev S1024x768 : Shape := ⟨2, ![1024, 768]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x768, .bf16⟩
  | .hbm, ⟨2, _⟩ => ⟨S4096x768, .bf16⟩
  | .hbm, ⟨3, _⟩ => ⟨S4096x768, .bf16⟩
  | .hbm, ⟨4, _⟩ => ⟨S1024x2304, .bf16⟩
  | .local _ .vmem, ⟨0, _⟩ => ⟨S4096x1024, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | .local _ .vmem, ⟨8, _⟩ => ⟨S1024x768, .bf16⟩
  | .local _ .vmem, ⟨9, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![3, 4], ![false, false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c1_i32 : BitVec 32 := 1#32
  let v1 : BitVec 1 := Scalar.cmpi .slt arg0 c1_i32
  let v2 : BitVec 1 := Scalar.andi v0 v1
  let v3 : BitVec 32 := Scalar.extui v2
  let c0_i32_0 : BitVec 32 := 0#32
  let v4 : BitVec 1 := Scalar.cmpi .ne v3 c0_i32_0
  v4

def k0_mult1 (i : grid0.Coords) : BitVec 32 :=
  let arg1 : BitVec 32 := BitVec.ofNat 32 (i 1).val
  let c1024_i32 : BitVec 32 := 1024#32
  let v18 : BitVec 32 := Scalar.muli arg1 c1024_i32
  v18
def k0_off1 (i : grid0.Coords) : Fin 2 → Nat :=
  let arg1 : BitVec 32 := BitVec.ofNat 32 (i 1).val
  let c1024_i32 : BitVec 32 := 1024#32
  let v18 : BitVec 32 := Scalar.muli arg1 c1024_i32
  let v19 : BitVec 32 := v18
  let v20 : Index := Scalar.indexCast v19
  let c0 : Index := 0#32
  ![v20.toNat, 0]
def k0_cond4 (i : grid0.Coords) : BitVec 1 :=
  let arg0 : BitVec 32 := BitVec.ofNat 32 (i 0).val
  let c1_i32_1 : BitVec 32 := 1#32
  let v5 : BitVec 1 := Scalar.cmpi .sge arg0 c1_i32_1
  let c2_i32 : BitVec 32 := 2#32
  let v6 : BitVec 1 := Scalar.cmpi .slt arg0 c2_i32
  let v7 : BitVec 1 := Scalar.andi v5 v6
  let v8 : BitVec 32 := Scalar.extui v7
  let c0_i32_2 : BitVec 32 := 0#32
  let v9 : BitVec 1 := Scalar.cmpi .ne v8 c0_i32_2
  v9

def k0_mult2 (i : grid0.Coords) : BitVec 32 :=
  let arg1 : BitVec 32 := BitVec.ofNat 32 (i 1).val
  let c1024_i32 : BitVec 32 := 1024#32
  let v18 : BitVec 32 := Scalar.muli arg1 c1024_i32
  v18
def k0_off2 (i : grid0.Coords) : Fin 2 → Nat :=
  let arg1 : BitVec 32 := BitVec.ofNat 32 (i 1).val
  let c1024_i32 : BitVec 32 := 1024#32
  let v18 : BitVec 32 := Scalar.muli arg1 c1024_i32
  let v19 : BitVec 32 := v18
  let v20 : Index := Scalar.indexCast v19
  let c0 : Index := 0#32
  ![v20.toNat, 0]
def k0_cond7 (i : grid0.Coords) : BitVec 1 :=
  let arg0 : BitVec 32 := BitVec.ofNat 32 (i 0).val
  let c2_i32_3 : BitVec 32 := 2#32
  let v10 : BitVec 1 := Scalar.cmpi .sge arg0 c2_i32_3
  let c3_i32 : BitVec 32 := 3#32
  let v11 : BitVec 1 := Scalar.cmpi .slt arg0 c3_i32
  let v12 : BitVec 1 := Scalar.andi v10 v11
  let v13 : BitVec 32 := Scalar.extui v12
  let c0_i32_4 : BitVec 32 := 0#32
  let v14 : BitVec 1 := Scalar.cmpi .ne v13 c0_i32_4
  v14

def k0_mult3 (i : grid0.Coords) : BitVec 32 :=
  let arg1 : BitVec 32 := BitVec.ofNat 32 (i 1).val
  let c1024_i32 : BitVec 32 := 1024#32
  let v18 : BitVec 32 := Scalar.muli arg1 c1024_i32
  v18
def k0_off3 (i : grid0.Coords) : Fin 2 → Nat :=
  let arg1 : BitVec 32 := BitVec.ofNat 32 (i 1).val
  let c1024_i32 : BitVec 32 := 1024#32
  let v18 : BitVec 32 := Scalar.muli arg1 c1024_i32
  let v19 : BitVec 32 := v18
  let v20 : Index := Scalar.indexCast v19
  let c0 : Index := 0#32
  ![v20.toNat, 0]
def k0_cond10 (i : grid0.Coords) : BitVec 1 :=
  let arg1 : BitVec 32 := BitVec.ofNat 32 (i 1).val
  let c3_i32_5 : BitVec 32 := 3#32
  let v15 : BitVec 1 := Scalar.cmpi .eq arg1 c3_i32_5
  let v16 : BitVec 32 := Scalar.extui v15
  let c0_i32_6 : BitVec 32 := 0#32
  let v17 : BitVec 1 := Scalar.cmpi .ne v16 c0_i32_6
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c1_i32 : BitVec 32 := 1#32
  let v1 : BitVec 1 := Scalar.cmpi .slt arg0 c1_i32
  let v2 : BitVec 1 := Scalar.andi v0 v1
  let c0_i32_0 : BitVec 32 := 0#32
  let v3 : BitVec 32 := Scalar.select v2 arg1 c0_i32_0
  let c0_i32_1 : BitVec 32 := 0#32
  let v4 : BitVec 32 := Scalar.subi arg0 c0_i32_1
  let c0_i32_2 : BitVec 32 := 0#32
  let c0_i32_3 : BitVec 32 := 0#32
  let v5 : BitVec 32 := Scalar.maxsi c0_i32_2 v4
  let v6 : BitVec 32 := Scalar.minsi c0_i32_3 v5
  let c0_i32_4 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c2_i32 : BitVec 32 := 2#32
  let v1 : BitVec 1 := Scalar.cmpi .slt arg0 c2_i32
  let v2 : BitVec 1 := Scalar.andi v0 v1
  let c0_i32 : BitVec 32 := 0#32
  let v3 : BitVec 32 := Scalar.select v2 arg1 c0_i32
  let c1_i32_0 : BitVec 32 := 1#32
  let v4 : BitVec 32 := Scalar.subi arg0 c1_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg0 c2_i32
  let c3_i32 : BitVec 32 := 3#32
  let v1 : BitVec 1 := Scalar.cmpi .slt arg0 c3_i32
  let v2 : BitVec 1 := Scalar.andi v0 v1
  let c0_i32 : BitVec 32 := 0#32
  let v3 : BitVec 32 := Scalar.select v2 arg1 c0_i32
  let c2_i32_0 : BitVec 32 := 2#32
  let v4 : BitVec 32 := Scalar.subi arg0 c2_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== HeadDwRefIdeal.lean ====
abbrev S4096x1024 : Shape := ⟨2, ![4096, 1024]⟩
abbrev S4096x768 : Shape := ⟨2, ![4096, 768]⟩
abbrev S_ : Shape := ⟨0, ![]⟩
abbrev S1024x2304 : Shape := ⟨2, ![1024, 2304]⟩
abbrev S4096x2304 : Shape := ⟨2, ![4096, 2304]⟩
abbrev S2304x1024 : Shape := ⟨2, ![2304, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x768, .bf16⟩
  | .hbm, ⟨2, _⟩ => ⟨S4096x768, .bf16⟩
  | .hbm, ⟨3, _⟩ => ⟨S4096x768, .bf16⟩
  | .hbm, ⟨4, _⟩ => ⟨S_, .f32⟩
  | .hbm, ⟨5, _⟩ => ⟨S1024x2304, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x1024, .f32⟩
  | .hbm, ⟨10, _⟩ => ⟨S4096x2304, .f32⟩
  | .hbm, ⟨11, _⟩ => ⟨S4096x768, .f32⟩
  | .hbm, ⟨12, _⟩ => ⟨S4096x768, .f32⟩
  | .hbm, ⟨13, _⟩ => ⟨S4096x768, .f32⟩
  | .hbm, ⟨14, _⟩ => ⟨S4096x2304, .f32⟩
  | .hbm, ⟨15, _⟩ => ⟨S2304x1024, .f32⟩
  | .hbm, ⟨16, _⟩ => ⟨S1024x2304, .f32⟩
  | .hbm, ⟨17, _⟩ => ⟨S1024x2304, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== WaY.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WaYIdeal.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WaYRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== WaDx.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WaDxIdeal.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WaDxRefIdeal.lean ====
abbrev S4096x1024 : Shape := ⟨2, ![4096, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WaDw.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WaDwIdeal.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WaDwRefIdeal.lean ====
abbrev S4096x1024 : Shape := ⟨2, ![4096, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WbY.lean ====
abbrev S4096x768 : Shape := ⟨2, ![4096, 768]⟩
abbrev S768x1024 : Shape := ⟨2, ![768, 1024]⟩
abbrev S4096x1024 : Shape := ⟨2, ![4096, 1024]⟩
abbrev S1024x768 : Shape := ⟨2, ![1024, 768]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x768, .bf16⟩
  | .hbm, ⟨1, _⟩ => ⟨S768x1024, .bf16⟩
  | .hbm, ⟨2, _⟩ => ⟨S4096x1024, .bf16⟩
  | .local _ .vmem, ⟨0, _⟩ => ⟨S1024x768, .bf16⟩
  | .local _ .vmem, ⟨1, _⟩ => ⟨S1024x768, .bf16⟩
  | .local _ .vmem, ⟨2, _⟩ => ⟨S768x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WbYIdeal.lean ====
abbrev S4096x768 : Shape := ⟨2, ![4096, 768]⟩
abbrev S768x1024 : Shape := ⟨2, ![768, 1024]⟩
abbrev S4096x1024 : Shape := ⟨2, ![4096, 1024]⟩
abbrev S1024x768 : Shape := ⟨2, ![1024, 768]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x768, .bf16⟩
  | .hbm, ⟨1, _⟩ => ⟨S768x1024, .bf16⟩
  | .hbm, ⟨2, _⟩ => ⟨S4096x1024, .bf16⟩
  | .local _ .vmem, ⟨0, _⟩ => ⟨S1024x768, .bf16⟩
  | .local _ .vmem, ⟨1, _⟩ => ⟨S1024x768, .bf16⟩
  | .local _ .vmem, ⟨2, _⟩ => ⟨S768x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WbYRefIdeal.lean ====
abbrev S4096x768 : Shape := ⟨2, ![4096, 768]⟩
abbrev S768x1024 : Shape := ⟨2, ![768, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S768x1024, .bf16⟩
  | .hbm, ⟨2, _⟩ => ⟨S4096x768, .f32⟩
  | .hbm, ⟨3, _⟩ => ⟨S768x1024, .f32⟩
  | .hbm, ⟨4, _⟩ => ⟨S4096x1024, .f32⟩
  | .hbm, ⟨5, _⟩ => ⟨S4096x1024, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== WbDx.lean ====
abbrev S4096x1024 : Shape := ⟨2, ![4096, 1024]⟩
abbrev S768x1024 : Shape := ⟨2, ![768, 1024]⟩
abbrev S4096x768 : Shape := ⟨2, ![4096, 768]⟩
abbrev S1024x1024 : Shape := ⟨2, ![1024, 1024]⟩
abbrev S384x1024 : Shape := ⟨2, ![384, 1024]⟩
abbrev S1024x384 : Shape := ⟨2, ![1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S768x1024, .bf16⟩
  | .hbm, ⟨2, _⟩ => ⟨S4096x768, .bf16⟩
  | .local _ .vmem, ⟨0, _⟩ => ⟨S1024x1024, .bf16⟩
  | .local _ .vmem, ⟨1, _⟩ => ⟨S1024x1024, .bf16⟩
  | .local _ .vmem, ⟨2, _⟩ => ⟨S384x1024, .bf16⟩
  | .local _ .vmem, ⟨3, _⟩ => ⟨S384x1024, .bf16⟩
  | .local _ .vmem, ⟨4, _⟩ => ⟨S1024x384, .bf16⟩
  | .local _ .vmem, ⟨5, _⟩ => ⟨S1024x384, .bf16⟩
  | .local _ .vmem, ⟨6, _⟩ => ⟨S1024x384, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WbDxIdeal.lean ====
abbrev S4096x1024 : Shape := ⟨2, ![4096, 1024]⟩
abbrev S768x1024 : Shape := ⟨2, ![768, 1024]⟩
abbrev S4096x768 : Shape := ⟨2, ![4096, 768]⟩
abbrev S1024x1024 : Shape := ⟨2, ![1024, 1024]⟩
abbrev S384x1024 : Shape := ⟨2, ![384, 1024]⟩
abbrev S1024x384 : Shape := ⟨2, ![1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S768x1024, .bf16⟩
  | .hbm, ⟨2, _⟩ => ⟨S4096x768, .bf16⟩
  | .local _ .vmem, ⟨0, _⟩ => ⟨S1024x1024, .bf16⟩
  | .local _ .vmem, ⟨1, _⟩ => ⟨S1024x1024, .bf16⟩
  | .local _ .vmem, ⟨2, _⟩ => ⟨S384x1024, .bf16⟩
  | .local _ .vmem, ⟨3, _⟩ => ⟨S384x1024, .bf16⟩
  | .local _ .vmem, ⟨4, _⟩ => ⟨S1024x384, .bf16⟩
  | .local _ .vmem, ⟨5, _⟩ => ⟨S1024x384, .bf16⟩
  | .local _ .vmem, ⟨6, _⟩ => ⟨S1024x384, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WbDxRefIdeal.lean ====
abbrev S4096x1024 : Shape := ⟨2, ![4096, 1024]⟩
abbrev S768x1024 : Shape := ⟨2, ![768, 1024]⟩
abbrev S4096x768 : Shape := ⟨2, ![4096, 768]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S768x1024, .bf16⟩
  | .hbm, ⟨2, _⟩ => ⟨S4096x768, .f32⟩
  | .hbm, ⟨3, _⟩ => ⟨S768x1024, .f32⟩
  | .hbm, ⟨4, _⟩ => ⟨S4096x1024, .f32⟩
  | .hbm, ⟨5, _⟩ => ⟨S4096x1024, .f32⟩
  | .hbm, ⟨6, _⟩ => ⟨S4096x768, .f32⟩
  | .hbm, ⟨7, _⟩ => ⟨S4096x768, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WbDw.lean ====
abbrev S4096x768 : Shape := ⟨2, ![4096, 768]⟩
abbrev S4096x1024 : Shape := ⟨2, ![4096, 1024]⟩
abbrev S768x1024 : Shape := ⟨2, ![768, 1024]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x768, .bf16⟩
  | .hbm, ⟨1, _⟩ => ⟨S4096x1024, .bf16⟩
  | .hbm, ⟨2, _⟩ => ⟨S768x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WbDwIdeal.lean ====
abbrev S4096x768 : Shape := ⟨2, ![4096, 768]⟩
abbrev S4096x1024 : Shape := ⟨2, ![4096, 1024]⟩
abbrev S768x1024 : Shape := ⟨2, ![768, 1024]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x768, .bf16⟩
  | .hbm, ⟨1, _⟩ => ⟨S4096x1024, .bf16⟩
  | .hbm, ⟨2, _⟩ => ⟨S768x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WbDwRefIdeal.lean ====
abbrev S4096x768 : Shape := ⟨2, ![4096, 768]⟩
abbrev S4096x1024 : Shape := ⟨2, ![4096, 1024]⟩
abbrev S768x1024 : Shape := ⟨2, ![768, 1024]⟩
abbrev S1024x768 : Shape := ⟨2, ![1024, 768]⟩

abbrev nBuf : Space → Nat
  | .hbm => 9
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x1024, .bf16⟩
  | .hbm, ⟨2, _⟩ => ⟨S768x1024, .f32⟩
  | .hbm, ⟨3, _⟩ => ⟨S4096x768, .f32⟩
  | .hbm, ⟨4, _⟩ => ⟨S4096x1024, .f32⟩
  | .hbm, ⟨5, _⟩ => ⟨S4096x1024, .f32⟩
  | .hbm, ⟨6, _⟩ => ⟨S1024x768, .f32⟩
  | .hbm, ⟨7, _⟩ => ⟨S768x1024, .f32⟩
  | .hbm, ⟨8, _⟩ => ⟨S768x1024, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WoY.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoYIdeal.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoYRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== WoDx.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoDxIdeal.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoDxRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== WoDw.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WoDwRefIdeal.lean ====
abbrev S4096x1024 : Shape := ⟨2, ![4096, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InY.lean ====
abbrev S4096x1024 : Shape := ⟨2, ![4096, 1024]⟩
abbrev S1024x6144 : Shape := ⟨2, ![1024, 6144]⟩
abbrev S1024x1024 : Shape := ⟨2, ![1024, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 6], ![false, false]⟩

def k0_cond1 (i : grid0.Coords) : BitVec 1 :=
  let arg1 : BitVec 32 := BitVec.ofNat 32 (i 1).val
  let c0_i32 : BitVec 32 := 0#32
  let v3 : BitVec 1 := Scalar.cmpi .sge arg1 c0_i32
  let c1_i32 : BitVec 32 := 1#32
  let v4 : BitVec 1 := Scalar.cmpi .slt arg1 c1_i32
  let v5 : BitVec 1 := Scalar.andi v3 v4
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c1_i32_4 : BitVec 32 := 1#32
  let v8 : BitVec 1 := Scalar.cmpi .sge arg1 c1_i32_4
  let c2_i32 : BitVec 32 := 2#32
  let v9 : BitVec 1 := Scalar.cmpi .slt arg1 c2_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg1 : BitVec 32 := BitVec.ofNat 32 (i 1).val
  let c2_i32_6 : BitVec 32 := 2#32
  let v13 : BitVec 1 := Scalar.cmpi .sge arg1 c2_i32_6
  let c3_i32 : BitVec 32 := 3#32
  let v14 : BitVec 1 := Scalar.cmpi .slt arg1 c3_i32
  let v15 : BitVec 1 := Scalar.andi v13 v14
  let v16 : BitVec 32 := Scalar.extui v15
  let c0_i32_7 : BitVec 32 := 0#32
  let v17 : BitVec 1 := Scalar.cmpi .ne v16 c0_i32_7
  v17

def k0_cond4 (i : grid0.Coords) : BitVec 1 :=
  let arg1 : BitVec 32 := BitVec.ofNat 32 (i 1).val
  let c3_i32_8 : BitVec 32 := 3#32
  let v18 : BitVec 1 := Scalar.cmpi .sge arg1 c3_i32_8
  let c4_i32 : BitVec 32 := 4#32
  let v19 : BitVec 1 := Scalar.cmpi .slt arg1 c4_i32
  let v20 : BitVec 1 := Scalar.andi v18 v19
  let v21 : BitVec 32 := Scalar.extui v20
  let c0_i32_9 : BitVec 32 := 0#32
  let v22 : BitVec 1 := Scalar.cmpi .ne v21 c0_i32_9
  v22

def k0_cond5 (i : grid0.Coords) : BitVec 1 :=
  let arg1 : BitVec 32 := BitVec.ofNat 32 (i 1).val
  let c4_i32_10 : BitVec 32 := 4#32
  let v23 : BitVec 1 := Scalar.cmpi .sge arg1 c4_i32_10
  let c5_i32 : BitVec 32 := 5#32
  let v24 : BitVec 1 := Scalar.cmpi .slt arg1 c5_i32
  let v25 : BitVec 1 := Scalar.andi v23 v24
  let v26 : BitVec 32 := Scalar.extui v25
  let c0_i32_11 : BitVec 32 := 0#32
  let v27 : BitVec 1 := Scalar.cmpi .ne v26 c0_i32_11
  v27

def k0_cond6 (i : grid0.Coords) : BitVec 1 :=
  let arg1 : BitVec 32 := BitVec.ofNat 32 (i 1).val
  let c5_i32_12 : BitVec 32 := 5#32
  let v28 : BitVec 1 := Scalar.cmpi .sge arg1 c5_i32_12
  let c6_i32 : BitVec 32 := 6#32
  let v29 : BitVec 1 := Scalar.cmpi .slt arg1 c6_i32
  let v30 : BitVec 1 := Scalar.andi v28 v29
  let v31 : BitVec 32 := Scalar.extui v30
  let c0_i32_13 : BitVec 32 := 0#32
  let v32 : BitVec 1 := Scalar.cmpi .ne v31 c0_i32_13
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== InYRefIdeal.lean ====
abbrev S4096x1024 : Shape := ⟨2, ![4096, 1024]⟩
abbrev S1024x6144 : Shape := ⟨2, ![1024, 6144]⟩
abbrev S4096x6144 : Shape := ⟨2, ![4096, 6144]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x1024, .f32⟩
  | .hbm, ⟨3, _⟩ => ⟨S1024x6144, .f32⟩
  | .hbm, ⟨4, _⟩ => ⟨S4096x6144, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== HeadY.lean ====
abbrev S4096x1024 : Shape := ⟨2, ![4096, 1024]⟩
abbrev S1024x2304 : Shape := ⟨2, ![1024, 2304]⟩
abbrev S4096x768 : Shape := ⟨2, ![4096, 768]⟩
abbrev S1024x1024 : Shape := ⟨2, ![1024, 1024]⟩
abbrev S1024x768 : Shape := ⟨2, ![1024, 768]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .bf16⟩
  | .hbm, ⟨2, _⟩ => ⟨S4096x768, .bf16⟩
  | .hbm, ⟨3, _⟩ => ⟨S4096x768, .bf16⟩
  | .hbm, ⟨4, _⟩ => ⟨S4096x768, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S1024x768, .bf16⟩
  | .local _ .vmem, ⟨8, _⟩ => ⟨S1024x768, .bf16⟩
  | .local _ .vmem, ⟨9, _⟩ => ⟨S1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 3], ![false, false]⟩

def k0_cond1 (i : grid0.Coords) : BitVec 1 :=
  let arg1 : BitVec 32 := BitVec.ofNat 32 (i 1).val
  let c0_i32 : BitVec 32 := 0#32
  let v3 : BitVec 1 := Scalar.cmpi .sge arg1 c0_i32
  let c1_i32 : BitVec 32 := 1#32
  let v4 : BitVec 1 := Scalar.cmpi .slt arg1 c1_i32
  let v5 : BitVec 1 := Scalar.andi v3 v4
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c1_i32_4 : BitVec 32 := 1#32
  let v8 : BitVec 1 := Scalar.cmpi .sge arg1 c1_i32_4
  let c2_i32 : BitVec 32 := 2#32
  let v9 : BitVec 1 := Scalar.cmpi .slt arg1 c2_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg1 : BitVec 32 := BitVec.ofNat 32 (i 1).val
  let c2_i32_6 : BitVec 32 := 2#32
  let v13 : BitVec 1 := Scalar.cmpi .sge arg1 c2_i32_6
  let c3_i32 : BitVec 32 := 3#32
  let v14 : BitVec 1 := Scalar.cmpi .slt arg1 c3_i32
  let v15 : BitVec 1 := Scalar.andi v13 v14
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== HeadYRefIdeal.lean ====
abbrev S4096x1024 : Shape := ⟨2, ![4096, 1024]⟩
abbrev S1024x2304 : Shape := ⟨2, ![1024, 2304]⟩
abbrev S4096x2304 : Shape := ⟨2, ![4096, 2304]⟩
abbrev S4096x768 : Shape := ⟨2, ![4096, 768]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .bf16⟩
  | .hbm, ⟨2, _⟩ => ⟨S4096x1024, .f32⟩
  | .hbm, ⟨3, _⟩ => ⟨S1024x2304, .f32⟩
  | .hbm, ⟨4, _⟩ => ⟨S4096x2304, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .bf16⟩
  | .hbm, ⟨9, _⟩ => ⟨S4096x768, .bf16⟩
  | .hbm, ⟨10, _⟩ => ⟨S4096x768, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== InDw.lean ====
abbrev S4096x1024 : Shape := ⟨2, ![4096, 1024]⟩
abbrev S1024x6144 : Shape := ⟨2, ![1024, 6144]⟩
abbrev S1024x1024 : Shape := ⟨2, ![1024, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S1024x6144, .bf16⟩
  | .local _ .vmem, ⟨0, _⟩ => ⟨S4096x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![6, 4], ![false, false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c1_i32 : BitVec 32 := 1#32
  let v1 : BitVec 1 := Scalar.cmpi .slt arg0 c1_i32
  let v2 : BitVec 1 := Scalar.andi v0 v1
  let v3 : BitVec 32 := Scalar.extui v2
  let c0_i32_0 : BitVec 32 := 0#32
  let v4 : BitVec 1 := Scalar.cmpi .ne v3 c0_i32_0
  v4

def k0_mult1 (i : grid0.Coords) : BitVec 32 :=
  let arg1 : BitVec 32 := BitVec.ofNat 32 (i 1).val
  let c1024_i32 : BitVec 32 := 1024#32
  let v33 : BitVec 32 := Scalar.muli arg1 c1024_i32
  v33
def k0_off1 (i : grid0.Coords) : Fin 2 → Nat :=
  let arg1 : BitVec 32 := BitVec.ofNat 32 (i 1).val
  let c1024_i32 : BitVec 32 := 1024#32
  let v33 : BitVec 32 := Scalar.muli arg1 c1024_i32
  let v34 : BitVec 32 := v33
  let v35 : Index := Scalar.indexCast v34
  let c0 : Index := 0#32
  ![v35.toNat, 0]
def k0_cond4 (i : grid0.Coords) : BitVec 1 :=
  let arg0 : BitVec 32 := BitVec.ofNat 32 (i 0).val
  let c1_i32_1 : BitVec 32 := 1#32
  let v5 : BitVec 1 := Scalar.cmpi .sge arg0 c1_i32_1
  let c2_i32 : BitVec 32 := 2#32
  let v6 : BitVec 1 := Scalar.cmpi .slt arg0 c2_i32
  let v7 : BitVec 1 := Scalar.andi v5 v6
  let v8 : BitVec 32 := Scalar.extui v7
  let c0_i32_2 : BitVec 32 := 0#32
  let v9 : BitVec 1 := Scalar.cmpi .ne v8 c0_i32_2
  v9

def k0_mult2 (i : grid0.Coords) : BitVec 32 :=
  let arg1 : BitVec 32 := BitVec.ofNat 32 (i 1).val
  let c1024_i32 : BitVec 32 := 1024#32
  let v33 : BitVec 32 := Scalar.muli arg1 c1024_i32
  v33
def k0_off2 (i : grid0.Coords) : Fin 2 → Nat :=
  let arg1 : BitVec 32 := BitVec.ofNat 32 (i 1).val
  let c1024_i32 : BitVec 32 := 1024#32
  let v33 : BitVec 32 := Scalar.muli arg1 c1024_i32
  let v34 : BitVec 32 := v33
  let v35 : Index := Scalar.indexCast v34
  let c0 : Index := 0#32
  ![v35.toNat, 0]
def k0_cond7 (i : grid0.Coords) : BitVec 1 :=
  let arg0 : BitVec 32 := BitVec.ofNat 32 (i 0).val
  let c2_i32_3 : BitVec 32 := 2#32
  let v10 : BitVec 1 := Scalar.cmpi .sge arg0 c2_i32_3
  let c3_i32 : BitVec 32 := 3#32
  let v11 : BitVec 1 := Scalar.cmpi .slt arg0 c3_i32
  let v12 : BitVec 1 := Scalar.andi v10 v11
  let v13 : BitVec 32 := Scalar.extui v12
  let c0_i32_4 : BitVec 32 := 0#32
  let v14 : BitVec 1 := Scalar.cmpi .ne v13 c0_i32_4
  v14

def k0_mult3 (i : grid0.Coords) : BitVec 32 :=
  let arg1 : BitVec 32 := BitVec.ofNat 32 (i 1).val
  let c1024_i32 : BitVec 32 := 1024#32
  let v33 : BitVec 32 := Scalar.muli arg1 c1024_i32
  v33
def k0_off3 (i : grid0.Coords) : Fin 2 → Nat :=
  let arg1 : BitVec 32 := BitVec.ofNat 32 (i 1).val
  let c1024_i32 : BitVec 32 := 1024#32
  let v33 : BitVec 32 := Scalar.muli arg1 c1024_i32
  let v34 : BitVec 32 := v33
  let v35 : Index := Scalar.indexCast v34
  let c0 : Index := 0#32
  ![v35.toNat, 0]
def k0_cond10 (i : grid0.Coords) : BitVec 1 :=
  let arg0 : BitVec 32 := BitVec.ofNat 32 (i 0).val
  let c3_i32_5 : BitVec 32 := 3#32
  let v15 : BitVec 1 := Scalar.cmpi .sge arg0 c3_i32_5
  let c4_i32 : BitVec 32 := 4#32
  let v16 : BitVec 1 := Scalar.cmpi .slt arg0 c4_i32
  let v17 : BitVec 1 := Scalar.andi v15 v16
  let v18 : BitVec 32 := Scalar.extui v17
  let c0_i32_6 : BitVec 32 := 0#32
  let v19 : BitVec 1 := Scalar.cmpi .ne v18 c0_i32_6
  v19

def k0_mult4 (i : grid0.Coords) : BitVec 32 :=
  let arg1 : BitVec 32 := BitVec.ofNat 32 (i 1).val
  let c1024_i32 : BitVec 32 := 1024#32
  let v33 : BitVec 32 := Scalar.muli arg1 c1024_i32
  v33
def k0_off4 (i : grid0.Coords) : Fin 2 → Nat :=
  let arg1 : BitVec 32 := BitVec.ofNat 32 (i 1).val
  let c1024_i32 : BitVec 32 := 1024#32
  let v33 : BitVec 32 := Scalar.muli arg1 c1024_i32
  let v34 : BitVec 32 := v33
  let v35 : Index := Scalar.indexCast v34
  let c0 : Index := 0#32
  ![v35.toNat, 0]
def k0_cond13 (i : grid0.Coords) : BitVec 1 :=
  let arg0 : BitVec 32 := BitVec.ofNat 32 (i 0).val
  let c4_i32_7 : BitVec 32 := 4#32
  let v20 : BitVec 1 := Scalar.cmpi .sge arg0 c4_i32_7
  let c5_i32 : BitVec 32 := 5#32
  let v21 : BitVec 1 := Scalar.cmpi .slt arg0 c5_i32
  let v22 : BitVec 1 := Scalar.andi v20 v21
  let v23 : BitVec 32 := Scalar.extui v22
  let c0_i32_8 : BitVec 32 := 0#32
  let v24 : BitVec 1 := Scalar.cmpi .ne v23 c0_i32_8
  v24

def k0_mult5 (i : grid0.Coords) : BitVec 32 :=
  let arg1 : BitVec 32 := BitVec.ofNat 32 (i 1).val
  let c1024_i32 : BitVec 32 := 1024#32
  let v33 : BitVec 32 := Scalar.muli arg1 c1024_i32
  v33
def k0_off5 (i : grid0.Coords) : Fin 2 → Nat :=
  let arg1 : BitVec 32 := BitVec.ofNat 32 (i 1).val
  let c1024_i32 : BitVec 32 := 1024#32
  let v33 : BitVec 32 := Scalar.muli arg1 c1024_i32
  let v34 : BitVec 32 := v33
  let v35 : Index := Scalar.indexCast v34
  let c0 : Index := 0#32
  ![v35.toNat, 0]
def k0_cond16 (i : grid0.Coords) : BitVec 1 :=
  let arg0 : BitVec 32 := BitVec.ofNat 32 (i 0).val
  let c5_i32_9 : BitVec 32 := 5#32
  let v25 : BitVec 1 := Scalar.cmpi .sge arg0 c5_i32_9
  let c6_i32 : BitVec 32 := 6#32
  let v26 : BitVec 1 := Scalar.cmpi .slt arg0 c6_i32
  let v27 : BitVec 1 := Scalar.andi v25 v26
  let v28 : BitVec 32 := Scalar.extui v27
  let c0_i32_10 : BitVec 32 := 0#32
  let v29 : BitVec 1 := Scalar.cmpi .ne v28 c0_i32_10
  v29

def k0_mult6 (i : grid0.Coords) : BitVec 32 :=
  let arg1 : BitVec 32 := BitVec.ofNat 32 (i 1).val
  let c1024_i32 : BitVec 32 := 1024#32
  let v33 : BitVec 32 := Scalar.muli arg1 c1024_i32
  v33
def k0_off6 (i : grid0.Coords) : Fin 2 → Nat :=
  let arg1 : BitVec 32 := BitVec.ofNat 32 (i 1).val
  let c1024_i32 : BitVec 32 := 1024#32
  let v33 : BitVec 32 := Scalar.muli arg1 c1024_i32
  let v34 : BitVec 32 := v33
  let v35 : Index := Scalar.indexCast v34
  let c0 : Index := 0#32
  ![v35.toNat, 0]
def k0_cond19 (i : grid0.Coords) : BitVec 1 :=
  let arg1 : BitVec 32 := BitVec.ofNat 32 (i 1).val
  let c3_i32_11 : BitVec 32 := 3#32
  let v30 : BitVec 1 := Scalar.cmpi .eq arg1 c3_i32_11
  let v31 : BitVec 32 := Scalar.extui v30
  let c0_i32_12 : BitVec 32 := 0#32
  let v32 : BitVec 1 := Scalar.cmpi .ne v31 c0_i32_12
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c1_i32 : BitVec 32 := 1#32
  let v1 : BitVec 1 := Scalar.cmpi .slt arg0 c1_i32
  let v2 : BitVec 1 := Scalar.andi v0 v1
  let c0_i32_0 : BitVec 32 := 0#32
  let v3 : BitVec 32 := Scalar.select v2 arg1 c0_i32_0
  let c0_i32_1 : BitVec 32 := 0#32
  let v4 : BitVec 32 := Scalar.subi arg0 c0_i32_1
  let c0_i32_2 : BitVec 32 := 0#32
  let c0_i32_3 : BitVec 32 := 0#32
  let v5 : BitVec 32 := Scalar.maxsi c0_i32_2 v4
  let v6 : BitVec 32 := Scalar.minsi c0_i32_3 v5
  let c0_i32_4 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c2_i32 : BitVec 32 := 2#32
  let v1 : BitVec 1 := Scalar.cmpi .slt arg0 c2_i32
  let v2 : BitVec 1 := Scalar.andi v0 v1
  let c0_i32 : BitVec 32 := 0#32
  let v3 : BitVec 32 := Scalar.select v2 arg1 c0_i32
  let c1_i32_0 : BitVec 32 := 1#32
  let v4 : BitVec 32 := Scalar.subi arg0 c1_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg0 c2_i32
  let c3_i32 : BitVec 32 := 3#32
  let v1 : BitVec 1 := Scalar.cmpi .slt arg0 c3_i32
  let v2 : BitVec 1 := Scalar.andi v0 v1
  let c0_i32 : BitVec 32 := 0#32
  let v3 : BitVec 32 := Scalar.select v2 arg1 c0_i32
  let c2_i32_0 : BitVec 32 := 2#32
  let v4 : BitVec 32 := Scalar.subi arg0 c2_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .sge arg0 c3_i32
  let c4_i32 : BitVec 32 := 4#32
  let v1 : BitVec 1 := Scalar.cmpi .slt arg0 c4_i32
  let v2 : BitVec 1 := Scalar.andi v0 v1
  let c0_i32 : BitVec 32 := 0#32
  let v3 : BitVec 32 := Scalar.select v2 arg1 c0_i32
  let c3_i32_0 : BitVec 32 := 3#32
  let v4 : BitVec 32 := Scalar.subi arg0 c3_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg0 c4_i32
  let c5_i32 : BitVec 32 := 5#32
  let v1 : BitVec 1 := Scalar.cmpi .slt arg0 c5_i32
  let v2 : BitVec 1 := Scalar.andi v0 v1
  let c0_i32 : BitVec 32 := 0#32
  let v3 : BitVec 32 := Scalar.select v2 arg1 c0_i32
  let c4_i32_0 : BitVec 32 := 4#32
  let v4 : BitVec 32 := Scalar.subi arg0 c4_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_6 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 1 := Scalar.cmpi .sge arg0 c5_i32
  let c6_i32 : BitVec 32 := 6#32
  let v1 : BitVec 1 := Scalar.cmpi .slt arg0 c6_i32
  let v2 : BitVec 1 := Scalar.andi v0 v1
  let c0_i32 : BitVec 32 := 0#32
  let v3 : BitVec 32 := Scalar.select v2 arg1 c0_i32
  let c5_i32_0 : BitVec 32 := 5#32
  let v4 : BitVec 32 := Scalar.subi arg0 c5_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== InDwRefIdeal.lean ====
abbrev S4096x1024 : Shape := ⟨2, ![4096, 1024]⟩
abbrev S_ : Shape := ⟨0, ![]⟩
abbrev S1024x6144 : Shape := ⟨2, ![1024, 6144]⟩
abbrev S4096x6144 : Shape := ⟨2, ![4096, 6144]⟩
abbrev S6144x1024 : Shape := ⟨2, ![6144, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S_, .f32⟩
  | .hbm, ⟨8, _⟩ => ⟨S1024x6144, .f32⟩
  | .hbm, ⟨9, _⟩ => ⟨S4096x1024, .f32⟩
  | .hbm, ⟨10, _⟩ => ⟨S4096x6144, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x6144, .f32⟩
  | .hbm, ⟨24, _⟩ => ⟨S6144x1024, .f32⟩
  | .hbm, ⟨25, _⟩ => ⟨S1024x6144, .f32⟩
  | .hbm, ⟨26, _⟩ => ⟨S1024x6144, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Act.lean ====
abbrev S4096x2816 : Shape := ⟨2, ![4096, 2816]⟩
abbrev S4096x1408 : Shape := ⟨2, ![4096, 1408]⟩
abbrev S4096x5632 : Shape := ⟨2, ![4096, 5632]⟩
abbrev S512x2816 : Shape := ⟨2, ![512, 2816]⟩
abbrev S512x1408 : Shape := ⟨2, ![512, 1408]⟩

abbrev nBuf : Space → Nat
  | .hbm => 15
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x2816, .bf16⟩
  | .hbm, ⟨3, _⟩ => ⟨S4096x1408, .bf16⟩
  | .hbm, ⟨4, _⟩ => ⟨S4096x1408, .bf16⟩
  | .hbm, ⟨5, _⟩ => ⟨S4096x1408, .bf16⟩
  | .hbm, ⟨6, _⟩ => ⟨S4096x1408, .bf16⟩
  | .hbm, ⟨7, _⟩ => ⟨S4096x5632, .bf16⟩
  | .hbm, ⟨8, _⟩ => ⟨S4096x5632, .bf16⟩
  | .hbm, ⟨9, _⟩ => ⟨S4096x1408, .bf16⟩
  | .hbm, ⟨10, _⟩ => ⟨S4096x1408, .bf16⟩
  | .hbm, ⟨11, _⟩ => ⟨S4096x1408, .bf16⟩
  | .hbm, ⟨12, _⟩ => ⟨S4096x1408, .bf16⟩
  | .hbm, ⟨13, _⟩ => ⟨S4096x2816, .bf16⟩
  | .hbm, ⟨14, _⟩ => ⟨S4096x2816, .bf16⟩
  | .local _ .vmem, ⟨0, _⟩ => ⟨S512x2816, .bf16⟩
  | .local _ .vmem, ⟨1, _⟩ => ⟨S512x2816, .bf16⟩
  | .local _ .vmem, ⟨2, _⟩ => ⟨S512x1408, .bf16⟩
  | .local _ .vmem, ⟨3, _⟩ => ⟨S512x1408, .bf16⟩
  | .local _ .vmem, ⟨4, _⟩ => ⟨S512x2816, .bf16⟩
  | .local _ .vmem, ⟨5, _⟩ => ⟨S512x2816, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ActRefIdeal.lean ====
abbrev S4096x2816 : Shape := ⟨2, ![4096, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x2816, .bf16⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .bf16⟩
  | .hbm, ⟨27, _⟩ => ⟨S4096x2816, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩

abbrev nD : Nat := 1
abbrev τ : Topo := Topo.v7x

variable {F : FTy → Type} [FloatOps F]
-- ==== Proof.Row.lean ====
/- One row of a softmax over 256 keys and its gradient, on the extended reals, as both programs compute them; and
   what a masked key (a score of −∞) takes: weight 0, gradient 0. -/
module

public import Idealize.ShloMosaic.Lib.Pointwise

@[expose] public section

noncomputable section

namespace Cert.Attn

open Idealize.ShloMosaic

/-- The row's maximum. -/
def rowMax (s : Fin 256 → EReal) : EReal := Finset.univ.fold max ⊥ s

/-- 1 where the row takes its maximum, 0 elsewhere. -/
def rowInd (s : Fin 256 → EReal) (j : Fin 256) : EReal := if s j = rowMax s then 1 else 0

/-- The shifted exponentials. -/
def rowExp (s : Fin 256 → EReal) (j : Fin 256) : EReal := Ideal.exp (s j - rowMax s)

/-- The row's normaliser. -/
def rowSum (s : Fin 256 → EReal) : EReal := ∑ j, rowExp s j

/-- The softmax weights. -/
def rowP (s : Fin 256 → EReal) (j : Fin 256) : EReal := Ideal.div (rowExp s j) (rowSum s)

/-- The cotangent of the normaliser: `g` is the cotangent of the row's log-sum-exp. -/
def rowDl (s dp : Fin 256 → EReal) (g : EReal) : EReal :=
  Ideal.div g (rowSum s) + -(∑ j, dp j * Ideal.div 1 (rowSum s * rowSum s) * rowExp s j)

/-- The cotangent of the shifted scores. -/
def rowDt (s dp : Fin 256 → EReal) (g : EReal) (j : Fin 256) : EReal :=
  (Ideal.div (dp j) (rowSum s) + rowDl s dp g) * rowExp s j

/-- The cotangent of the scores: the maximum's share is split evenly among the places that take it. -/
def rowDs (s dp : Fin 256 → EReal) (g : EReal) (j : Fin 256) : EReal :=
  rowDt s dp g j + Ideal.div (g + ∑ j, -(rowDt s dp g j)) (∑ j, rowInd s j) * rowInd s j

section Masked

variable {s : Fin 256 → EReal} {ok : Fin 256 → Prop}

/-- The maximum is at least every score. -/
theorem le_rowMax (s : Fin 256 → EReal) (j : Fin 256) : s j ≤ rowMax s :=
  (Finset.le_fold_max (s := Finset.univ) (b := ⊥) (f := s) (s j)).mpr (.inr ⟨j, Finset.mem_univ j, le_rfl⟩)

/-- The maximum is one of the scores, when one is above −∞. -/
theorem exists_rowMax (h : ∃ j, s j ≠ ⊥) : ∃ j, s j = rowMax s := by
  obtain ⟨j, hj⟩ := h
  rcases (Finset.le_fold_max (s := Finset.univ) (b := ⊥) (f := s) (rowMax s)).mp le_rfl with hb | ⟨k, _, hk⟩
  · exact absurd (le_bot_iff.mp ((le_rowMax s j).trans hb)) hj
  · exact ⟨k, le_antisymm (le_rowMax s k) hk⟩

theorem rowExp_masked {j : Fin 256} (h : s j = ⊥) : rowExp s j = 0 := by
  rw [rowExp, h, sub_eq_add_neg, EReal.bot_add, Ideal.exp_bot]

theorem rowInd_masked (hr : ∃ j, s j ≠ ⊥) {j : Fin 256} (h : s j = ⊥) : rowInd s j = 0 := by
  obtain ⟨k, hk⟩ := hr
  have : rowMax s ≠ ⊥ := fun e => hk (le_bot_iff.mp (e ▸ le_rowMax s k))
  simp [rowInd, h, this.symm]

theorem rowDt_masked {dp : Fin 256 → EReal} {g : EReal} {j : Fin 256} (h : s j = ⊥) : rowDt s dp g j = 0 := by
  simp [rowDt, rowExp_masked h]

theorem rowDs_masked (hr : ∃ j, s j ≠ ⊥) {dp : Fin 256 → EReal} {g : EReal} {j : Fin 256} (h : s j = ⊥) :
    rowDs s dp g j = 0 := by
  simp [rowDs, rowDt_masked h, rowInd_masked hr h]

/-- The normaliser of a row with a real maximum is a positive real. -/
theorem rowSum_pos (hr : ∃ j, s j ≠ ⊥) (ht : ∀ j, s j ≠ ⊤) : ∃ y : ℝ, y ≠ 0 ∧ rowSum s = y := by
  obtain ⟨k, hk⟩ := exists_rowMax hr
  have hm : rowMax s ≠ ⊥ := by
    obtain ⟨i, hi⟩ := hr
    exact fun e => hi (le_bot_iff.mp (e ▸ le_rowMax s i))
  have hm' : rowMax s ≠ ⊤ := hk ▸ ht k
  have he : ∀ j, ∃ y : ℝ, 0 ≤ y ∧ rowExp s j = y ∧ (s j = rowMax s → y = 1) := by
    intro j
    lift rowMax s to ℝ using ⟨hm', hm⟩ with M hM
    by_cases hj : s j = ⊥
    · exact ⟨0, le_rfl, rowExp_masked hj, fun h => absurd (h.symm.trans hj) (EReal.coe_ne_bot M)⟩
    · have hjt := ht j
      generalize hsj : s j = x at *
      lift x to ℝ using ⟨hjt, hj⟩
      refine ⟨Real.exp (x - M), (Real.exp_pos _).le, ?_, fun h => ?_⟩
      · rw [rowExp, hsj, ← hM, ← EReal.coe_sub]; rfl
      · rw [EReal.coe_eq_coe_iff.mp h, sub_self, Real.exp_zero]
  choose y hy0 hy hy1 using he
  refine ⟨∑ j, y j, ?_, ?_⟩
  · have : y k ≤ ∑ j, y j := Finset.single_le_sum (fun j _ => hy0 j) (Finset.mem_univ k)
    rw [hy1 k hk] at this
    exact (lt_of_lt_of_le one_pos this).ne'
  · simp only [rowSum, hy]
    exact (map_sum (⟨⟨Real.toEReal, EReal.coe_zero⟩, EReal.coe_add⟩ : ℝ →+ EReal) y Finset.univ).symm

theorem rowP_masked (hr : ∃ j, s j ≠ ⊥) (ht : ∀ j, s j ≠ ⊤) {j : Fin 256} (h : s j = ⊥) : rowP s j = 0 := by
  obtain ⟨y, hy, e⟩ := rowSum_pos hr ht
  rw [rowP, rowExp_masked h, e, Ideal.div_coe hy, zero_mul]

/-- The cotangents of the weights at masked keys do not matter. -/
theorem rowDl_congr {dp dp' : Fin 256 → EReal} (g : EReal) (h : ∀ j, s j ≠ ⊥ → dp j = dp' j) :
    rowDl s dp g = rowDl s dp' g := by
  unfold rowDl
  congr 2
  refine Finset.sum_congr rfl fun j _ => ?_
  by_cases hj : s j = ⊥
  · simp [rowExp_masked hj]
  · rw [h j hj]

theorem rowDt_congr {dp dp' : Fin 256 → EReal} (g : EReal) (h : ∀ j, s j ≠ ⊥ → dp j = dp' j) (j : Fin 256) :
    rowDt s dp g j = rowDt s dp' g j := by
  by_cases hj : s j = ⊥
  · rw [rowDt_masked hj, rowDt_masked hj]
  · rw [rowDt, rowDt, rowDl_congr g h, h j hj]

theorem rowDs_congr {dp dp' : Fin 256 → EReal} (g : EReal) (h : ∀ j, s j ≠ ⊥ → dp j = dp' j) (j : Fin 256) :
    rowDs s dp g j = rowDs s dp' g j := by
  simp only [rowDs, rowDt_congr g h]

end Masked

end Cert.Attn

end
-- ==== Proof.RefSlope.lean ====
/- The reference's bias slopes. -/
module

public import proofs.«01_k».proof.Proof.Gen.ReferenceIdeal.Read
public import proofs.«01_k».proof.Proof.Row

@[expose] public section

set_option maxRecDepth 16384

noncomputable section

namespace Cert.Attn

open Idealize.ShloMosaic Cert.ReferenceIdeal Cert.ReferenceIdeal.Read

/-- The bias slope of each head. -/
def slopeR (h : Fin 12) : ℝ := match h with
  | 0 => 10568984 / 2 ^ 24
  | 1 => 13316085 / 2 ^ 25
  | 2 => 8388608 / 2 ^ 25
  | 3 => 10568984 / 2 ^ 26
  | 4 => 13316085 / 2 ^ 27
  | 5 => 8388608 / 2 ^ 27
  | 6 => 10568984 / 2 ^ 28
  | 7 => 13316085 / 2 ^ 29
  | 8 => 8388608 / 2 ^ 29
  | 9 => 10568984 / 2 ^ 30
  | 10 => 13316085 / 2 ^ 31
  | 11 => 8388608 / 2 ^ 31

theorem v18_apply (h : Fin 12) : val_main_v18 (F := Ideal) (ix1 h) = (slopeR h : EReal) := by
  match h with
  | 0 =>
    have e : val_main_v18 (F := Ideal) (ix1 0) = Ideal.ofBits .f32 1059144984#32 := by
      pointwise [val_main_v18, val_main_v17, val_main_v16, val_main_v15, val_main_v14, val_main_v13, val_main_v12, val_main_v11,
        val_main_v10, val_main_v9, val_main_v8, val_main_v7, val_main_v6, val_main_cst, val_main_cst_0, val_main_cst_1,
        val_main_cst_2, val_main_cst_3, val_main_cst_4, val_main_cst_5, val_main_cst_6, val_main_cst_7, val_main_cst_8, val_main_cst_9, val_main_cst_10]
    refine e.trans ?_
    simp [Ideal.ofBits, Ideal.ieee, slopeR, -EReal.coe_mul]; norm_num
  | 1 =>
    have e : val_main_v18 (F := Ideal) (ix1 1) = Ideal.ofBits .f32 1053503477#32 := by
      pointwise [val_main_v18, val_main_v17, val_main_v16, val_main_v15, val_main_v14, val_main_v13, val_main_v12, val_main_v11,
        val_main_v10, val_main_v9, val_main_v8, val_main_v7, val_main_v6, val_main_cst, val_main_cst_0, val_main_cst_1,
        val_main_cst_2, val_main_cst_3, val_main_cst_4, val_main_cst_5, val_main_cst_6, val_main_cst_7, val_main_cst_8, val_main_cst_9, val_main_cst_10]
    refine e.trans ?_
    simp [Ideal.ofBits, Ideal.ieee, slopeR, -EReal.coe_mul]; norm_num
  | 2 =>
    have e : val_main_v18 (F := Ideal) (ix1 2) = Ideal.ofBits .f32 1048576000#32 := by
      pointwise [val_main_v18, val_main_v17, val_main_v16, val_main_v15, val_main_v14, val_main_v13, val_main_v12, val_main_v11,
        val_main_v10, val_main_v9, val_main_v8, val_main_v7, val_main_v6, val_main_cst, val_main_cst_0, val_main_cst_1,
        val_main_cst_2, val_main_cst_3, val_main_cst_4, val_main_cst_5, val_main_cst_6, val_main_cst_7, val_main_cst_8, val_main_cst_9, val_main_cst_10]
    refine e.trans ?_
    simp [Ideal.ofBits, Ideal.ieee, slopeR, -EReal.coe_mul]; norm_num
  | 3 =>
    have e : val_main_v18 (F := Ideal) (ix1 3) = Ideal.ofBits .f32 1042367768#32 := by
      pointwise [val_main_v18, val_main_v17, val_main_v16, val_main_v15, val_main_v14, val_main_v13, val_main_v12, val_main_v11,
        val_main_v10, val_main_v9, val_main_v8, val_main_v7, val_main_v6, val_main_cst, val_main_cst_0, val_main_cst_1,
        val_main_cst_2, val_main_cst_3, val_main_cst_4, val_main_cst_5, val_main_cst_6, val_main_cst_7, val_main_cst_8, val_main_cst_9, val_main_cst_10]
    refine e.trans ?_
    simp [Ideal.ofBits, Ideal.ieee, slopeR, -EReal.coe_mul]; norm_num
  | 4 =>
    have e : val_main_v18 (F := Ideal) (ix1 4) = Ideal.ofBits .f32 1036726261#32 := by
      pointwise [val_main_v18, val_main_v17, val_main_v16, val_main_v15, val_main_v14, val_main_v13, val_main_v12, val_main_v11,
        val_main_v10, val_main_v9, val_main_v8, val_main_v7, val_main_v6, val_main_cst, val_main_cst_0, val_main_cst_1,
        val_main_cst_2, val_main_cst_3, val_main_cst_4, val_main_cst_5, val_main_cst_6, val_main_cst_7, val_main_cst_8, val_main_cst_9, val_main_cst_10]
    refine e.trans ?_
    simp [Ideal.ofBits, Ideal.ieee, slopeR, -EReal.coe_mul]; norm_num
  | 5 =>
    have e : val_main_v18 (F := Ideal) (ix1 5) = Ideal.ofBits .f32 1031798784#32 := by
      pointwise [val_main_v18, val_main_v17, val_main_v16, val_main_v15, val_main_v14, val_main_v13, val_main_v12, val_main_v11,
        val_main_v10, val_main_v9, val_main_v8, val_main_v7, val_main_v6, val_main_cst, val_main_cst_0, val_main_cst_1,
        val_main_cst_2, val_main_cst_3, val_main_cst_4, val_main_cst_5, val_main_cst_6, val_main_cst_7, val_main_cst_8, val_main_cst_9, val_main_cst_10]
    refine e.trans ?_
    simp [Ideal.ofBits, Ideal.ieee, slopeR, -EReal.coe_mul]; norm_num
  | 6 =>
    have e : val_main_v18 (F := Ideal) (ix1 6) = Ideal.ofBits .f32 1025590552#32 := by
      pointwise [val_main_v18, val_main_v17, val_main_v16, val_main_v15, val_main_v14, val_main_v13, val_main_v12, val_main_v11,
        val_main_v10, val_main_v9, val_main_v8, val_main_v7, val_main_v6, val_main_cst, val_main_cst_0, val_main_cst_1,
        val_main_cst_2, val_main_cst_3, val_main_cst_4, val_main_cst_5, val_main_cst_6, val_main_cst_7, val_main_cst_8, val_main_cst_9, val_main_cst_10]
    refine e.trans ?_
    simp [Ideal.ofBits, Ideal.ieee, slopeR, -EReal.coe_mul]; norm_num
  | 7 =>
    have e : val_main_v18 (F := Ideal) (ix1 7) = Ideal.ofBits .f32 1019949045#32 := by
      pointwise [val_main_v18, val_main_v17, val_main_v16, val_main_v15, val_main_v14, val_main_v13, val_main_v12, val_main_v11,
        val_main_v10, val_main_v9, val_main_v8, val_main_v7, val_main_v6, val_main_cst, val_main_cst_0, val_main_cst_1,
        val_main_cst_2, val_main_cst_3, val_main_cst_4, val_main_cst_5, val_main_cst_6, val_main_cst_7, val_main_cst_8, val_main_cst_9, val_main_cst_10]
    refine e.trans ?_
    simp [Ideal.ofBits, Ideal.ieee, slopeR, -EReal.coe_mul]; norm_num
  | 8 =>
    have e : val_main_v18 (F := Ideal) (ix1 8) = Ideal.ofBits .f32 1015021568#32 := by
      pointwise [val_main_v18, val_main_v17, val_main_v16, val_main_v15, val_main_v14, val_main_v13, val_main_v12, val_main_v11,
        val_main_v10, val_main_v9, val_main_v8, val_main_v7, val_main_v6, val_main_cst, val_main_cst_0, val_main_cst_1,
        val_main_cst_2, val_main_cst_3, val_main_cst_4, val_main_cst_5, val_main_cst_6, val_main_cst_7, val_main_cst_8, val_main_cst_9, val_main_cst_10]
    refine e.trans ?_
    simp [Ideal.ofBits, Ideal.ieee, slopeR, -EReal.coe_mul]; norm_num
  | 9 =>
    have e : val_main_v18 (F := Ideal) (ix1 9) = Ideal.ofBits .f32 1008813336#32 := by
      pointwise [val_main_v18, val_main_v17, val_main_v16, val_main_v15, val_main_v14, val_main_v13, val_main_v12, val_main_v11,
        val_main_v10, val_main_v9, val_main_v8, val_main_v7, val_main_v6, val_main_cst, val_main_cst_0, val_main_cst_1,
        val_main_cst_2, val_main_cst_3, val_main_cst_4, val_main_cst_5, val_main_cst_6, val_main_cst_7, val_main_cst_8, val_main_cst_9, val_main_cst_10]
    refine e.trans ?_
    simp [Ideal.ofBits, Ideal.ieee, slopeR, -EReal.coe_mul]; norm_num
  | 10 =>
    have e : val_main_v18 (F := Ideal) (ix1 10) = Ideal.ofBits .f32 1003171829#32 := by
      pointwise [val_main_v18, val_main_v17, val_main_v16, val_main_v15, val_main_v14, val_main_v13, val_main_v12, val_main_v11,
        val_main_v10, val_main_v9, val_main_v8, val_main_v7, val_main_v6, val_main_cst, val_main_cst_0, val_main_cst_1,
        val_main_cst_2, val_main_cst_3, val_main_cst_4, val_main_cst_5, val_main_cst_6, val_main_cst_7, val_main_cst_8, val_main_cst_9, val_main_cst_10]
    refine e.trans ?_
    simp [Ideal.ofBits, Ideal.ieee, slopeR, -EReal.coe_mul]; norm_num
  | 11 =>
    have e : val_main_v18 (F := Ideal) (ix1 11) = Ideal.ofBits .f32 998244352#32 := by
      pointwise [val_main_v18, val_main_v17, val_main_v16, val_main_v15, val_main_v14, val_main_v13, val_main_v12, val_main_v11,
        val_main_v10, val_main_v9, val_main_v8, val_main_v7, val_main_v6, val_main_cst, val_main_cst_0, val_main_cst_1,
        val_main_cst_2, val_main_cst_3, val_main_cst_4, val_main_cst_5, val_main_cst_6, val_main_cst_7, val_main_cst_8, val_main_cst_9, val_main_cst_10]
    refine e.trans ?_
    simp [Ideal.ofBits, Ideal.ieee, slopeR, -EReal.coe_mul]; norm_num

end Cert.Attn

end
-- ==== Proof.RefMask.lean ====
/- The reference's bias and mask at an index. -/
module

public import proofs.«01_k».proof.Proof.Gen.ReferenceIdeal.Read
public import proofs.«01_k».proof.Proof.RefSlope

@[expose] public section

set_option maxRecDepth 16384

noncomputable section

namespace Cert.Attn

open Idealize.ShloMosaic Cert.ReferenceIdeal Cert.ReferenceIdeal.Read

theorem v57_apply (r : Fin 128) (j : Fin 256) :
    val_main_v57 (F := Ideal) (ix2 r j) = BitVec.ofNat 32 r + 128#32 - BitVec.ofNat 32 j := by
  pointwise [val_main_v57, val_main_v56, val_main_v55, val_main_v54, val_main_v53, val_main_v52, val_main_v51, val_main_v50,
    val_main_v49, val_main_c_18]
  rfl

theorem sge_eq (x y : BitVec 32) : IntOp.cmpi .sge x y = BitVec.ofBool (decide (y.toInt ≤ x.toInt)) := rfl

theorem sle_eq (x y : BitVec 32) : IntOp.cmpi .sle x y = BitVec.ofBool (decide (x.toInt ≤ y.toInt)) := rfl

theorem andi_bool (p q : Bool) : IntOp.andi (BitVec.ofBool p) (BitVec.ofBool q) = BitVec.ofBool (p && q) := by
  revert p q; decide

/-- Distances and key places fit their words. -/
theorem dist_toInt (r : Fin 128) (j : Fin 256) :
    (BitVec.ofNat 32 r + 128#32 - BitVec.ofNat 32 j).toInt = (r : ℤ) + 128 - j := by
  have h1 := r.isLt; have h2 := j.isLt
  rw [BitVec.toInt_eq_toNat_bmod]
  simp only [BitVec.toNat_sub, BitVec.toNat_add, BitVec.toNat_ofNat, Int.bmod]
  omega

theorem dist4_toInt (r : Fin 128) (j : Fin 256) :
    ((BitVec.ofNat 32 r + 128#32 - BitVec.ofNat 32 j) * 4#32).toInt = ((r : ℤ) + 128 - j) * 4 := by
  have h1 := r.isLt; have h2 := j.isLt
  rw [BitVec.toInt_eq_toNat_bmod]
  simp only [BitVec.toNat_mul, BitVec.toNat_sub, BitVec.toNat_add, BitVec.toNat_ofNat, Int.bmod]
  omega

theorem place_toInt (b : Fin 8) (j : Fin 256) :
    (BitVec.ofNat 32 b * 128#32 + BitVec.ofNat 32 j - 128#32).toInt = (b : ℤ) * 128 + j - 128 := by
  have h1 := b.isLt; have h2 := j.isLt
  rw [BitVec.toInt_eq_toNat_bmod]
  simp only [BitVec.toNat_mul, BitVec.toNat_sub, BitVec.toNat_add, BitVec.toNat_ofNat, Int.bmod]
  omega

/-- Key `j` of a block's window is seen from place `r`: at most a window's width back, not ahead, and not before
    the start of the sequence. -/
def Seen (b : Nat) (r : Fin 128) (j : Fin 256) : Prop := r.val ≤ j.val ∧ j.val ≤ r.val + 128 ∧ (b = 0 → 128 ≤ j.val)

instance (b : Nat) (r : Fin 128) (j : Fin 256) : Decidable (Seen b r j) := by unfold Seen; infer_instance

theorem v79_apply (b : Fin 8) (r : Fin 128) (j : Fin 256) :
    val_main_v79 (F := Ideal) (ix3 b r j) = BitVec.ofBool (decide (Seen b r j)) := by
  pointwise [val_main_v79, val_main_v78, val_main_v77, val_main_v76, val_main_v75, val_main_v74, val_main_v73, val_main_v72,
    val_main_v71, val_main_v70, val_main_v69, val_main_v68, val_main_v67, val_main_v66, val_main_v65, val_main_v64,
    val_main_v63, val_main_v62, val_main_v61, val_main_v60, val_main_v59, val_main_v58, val_main_v52, val_main_v51, v57_apply,
    val_main_c_19, val_main_c_20, val_main_c_21, val_main_c_22, val_main_c_23]
  have e : IntOp.subi (IntOp.addi (IntOp.muli (BitVec.ofNat 32 b) 128#32) (BitVec.ofNat 32 j)) 128#32
      = BitVec.ofNat 32 b * 128#32 + BitVec.ofNat 32 j - 128#32 := rfl
  rw [e, sge_eq, sle_eq, sge_eq, andi_bool, andi_bool, dist_toInt, place_toInt,
    show (0#32).toInt = 0 from rfl, show (128#32).toInt = 128 from rfl, ← Bool.decide_and, ← Bool.decide_and]
  congr 1
  refine decide_eq_decide.mpr ?_
  unfold Seen
  have := b.isLt; have := r.isLt; have := j.isLt
  omega

theorem v88_apply (h : Fin 12) (r : Fin 128) (j : Fin 256) :
    val_main_v88 (F := Ideal) (ix3 h r j)
      = -val_main_v18 (F := Ideal) (ix1 h) * FloatOps.sitofp (F := Ideal) .f32 ((BitVec.ofNat 32 r + 128#32 - BitVec.ofNat 32 j) * 4#32) := by
  pointwise [val_main_v88, val_main_v87, val_main_v86, val_main_v85, val_main_v84, val_main_v83, val_main_v82, val_main_v81,
    val_main_v80, v57_apply, val_main_c_24]
  rfl

theorem v93_1_apply (z : Fin 4) (b : Fin 8) (r : Fin 128) (h : Fin 12) (j : Fin 256) :
    val_main_v93_1 (F := Ideal) (ix5 z b h r j) = val_main_v79 (F := Ideal) (ix3 b r j) := by
  pointwise [val_main_v93_1, val_main_v89]

theorem v92_apply (x0 x1 : FVec Ideal S4096x768 .bf16) (z : Fin 4) (b : Fin 8) (r : Fin 128) (h : Fin 12) (j : Fin 256) :
    val_main_v92 (F := Ideal) x0 x1 (ix5 z b h r j) = val_main_v48 (F := Ideal) x0 x1 (ix5 z b h r j)
      + val_main_v88 (F := Ideal) (ix3 h r j) := by
  pointwise [val_main_v92, val_main_v91, val_main_v90]

theorem v93_apply (x0 x1 : FVec Ideal S4096x768 .bf16) (z : Fin 4) (b : Fin 8) (r : Fin 128) (h : Fin 12) (j : Fin 256) :
    val_main_v93_0 (F := Ideal) x0 x1 (ix5 z b h r j) = Scalar.select (val_main_v79 (F := Ideal) (ix3 b r j))
      (val_main_v48 (F := Ideal) x0 x1 (ix5 z b h r j) + val_main_v88 (F := Ideal) (ix3 h r j)) ⊥ := by
  pointwise [val_main_v93_0, val_main_call3_v2, val_main_call3_v0, val_main_cst_25, v92_apply, v93_1_apply]
  refine congrArg (Scalar.select _ _) ?_
  show Ideal.ofBits .f32 4286578688#32 = ⊥
  simp [Ideal.ofBits, Ideal.ieee]

end Cert.Attn

end
-- ==== Proof.Pair.lean ====
/- One pair of heads of the attention's backward kernel: the vectors a grid point computes for the pair, each read at an
   index. Rows 0..127 of the 256 are the first head's queries, rows 128..255 the second's. -/
module

public import proofs.«01_k».proof.Proof.Gen.KernelIdeal.Skeleton
public import proofs.«01_k».proof.Proof.Row

@[expose] public section

set_option maxRecDepth 16384

noncomputable section

namespace Cert.Attn

open Idealize.ShloMosaic Cert.KernelIdeal Cert.KernelIdeal.Facts₀

/-- The first head's lanes of the pair. -/
def topV : IVec S128x128 1 := cmpi .slt (iota .tc S128x128 32 [1] iota_S128x128_d1_w32) (broadcast S128x128 64#32)

/-- The queries of a pair, one head per half of the rows, the other head's lanes zero. -/
def halves (φ : FTy) (q : FVec Ideal S128x128 φ) (z : Ideal φ) : FVec Ideal S256x128 φ :=
  concatenate S256x128 0 [⟨S128x128, select topV q (broadcast S128x128 z)⟩,
    ⟨S128x128, select topV (broadcast S128x128 z) q⟩] concatenates_S128x128_S128x128_S256x128_d0

def q2V (q : FVec Ideal S128x128 .bf16) : FVec Ideal S1x256x128 .bf16 :=
  shapeCast S1x256x128 (halves .bf16 q (Scalar.truncf .bf16 bitsLt_bf16_f32 (Scalar.ofBits .f32 0x00000000#32)))
    shapeCasts_S256x128_S1x256x128

/-- The keys of a pair: the previous block's, then the block's own. -/
def catV (a b : FVec Ideal S128x128 .bf16) : FVec Ideal S1x256x128 .bf16 :=
  shapeCast S1x256x128 (concatenate S256x128 0 [⟨S128x128, a⟩, ⟨S128x128, b⟩]
    concatenates_S128x128_S128x128_S256x128_d0) shapeCasts_S256x128_S1x256x128

/-- One head's bias: its slope times the distance where the key is visible, −∞ elsewhere. -/
def biasV (w : BitVec 32) (st : FVec Ideal S128x256 .f32) (ok : IVec S128x256 1) : FVec Ideal S128x256 .f32 :=
  select ok (mulf (broadcast S128x256 (Scalar.ofBits (F := Ideal) .f32 w)) st)
    (broadcast S128x256 (Named.named (F := Ideal) κ "mask" (φ := .f32) 0xF149F2CA#32))

/-- The pair's scores. -/
def scV (w0 w1 : BitVec 32) (st : FVec Ideal S128x256 .f32) (ok : IVec S128x256 1)
    (q2 k2 : FVec Ideal S1x256x128 .bf16) : FVec Ideal S256x256 .f32 :=
  addf (mulf (shapeCast S256x256 (matmul dot_S1x256x128_S1x256x128_S1x256x256_2_2_1_1_0_0 none q2 k2
      (constant (F := Ideal) S1x256x256 .f32 0x00000000#32)) shapeCasts_S1x256x256_S256x256)
      (broadcast S256x256 (Scalar.ofBits (F := Ideal) .f32 0x3E000000#32)))
    (concatenate S256x256 0 [⟨S128x256, biasV w0 st ok⟩, ⟨S128x256, biasV w1 st ok⟩]
      concatenates_S128x256_S128x256_S256x256_d0)

def mxV (s : FVec Ideal S256x256 .f32) : FVec Ideal S256 .f32 :=
  multiReduction .maximumf [1] S256 s 0xFF800000#32 reduces_S256x256_S256 (.inl rfl) rfl

def mxB (s : FVec Ideal S256x256 .f32) : FVec Ideal S256x256 .f32 :=
  broadcastTo S256x256 (shapeCast S256x1 (mxV s) shapeCasts_S256_S256x1) broadcasts_S256x1_S256x256

def indV (s : FVec Ideal S256x256 .f32) : FVec Ideal S256x256 .f32 :=
  sitofp .f32 (extui 32 (cmpf .oeq s (mxB s)) natLt_1_32)

def sumV (v : FVec Ideal S256x256 .f32) : FVec Ideal S256 .f32 :=
  multiReduction .add [1] S256 v 0x00000000#32 reduces_S256x256_S256 (.inl rfl) rfl

def expV (s : FVec Ideal S256x256 .f32) : FVec Ideal S256x256 .f32 := exp (subf s (mxB s))

def lV (s : FVec Ideal S256x256 .f32) : FVec Ideal S256x1 .f32 :=
  shapeCast S256x1 (sumV (expV s)) shapeCasts_S256_S256x1

def ilV (l : FVec Ideal S256x1 .f32) : FVec Ideal S256x1 .f32 :=
  divf (broadcast S256x1 (Scalar.ofBits (F := Ideal) .f32 0x3F800000#32)) (mulf l l)

/-- The pair's softmax weights. -/
def pV (s : FVec Ideal S256x256 .f32) : FVec Ideal S1x256x256 .f32 :=
  shapeCast S1x256x256 (divf (expV s) (broadcastTo S256x256 (lV s) broadcasts_S256x1_S256x256))
    shapeCasts_S256x256_S1x256x256

/-- The cotangent of the pair's log-sum-exp, summed over each head's lanes. -/
def sum128 (v : FVec Ideal S128x128 .f32) : FVec Ideal S128x1 .f32 :=
  shapeCast S128x1 (multiReduction .add [1] S128 v 0x00000000#32 reduces_S128x128_S128 (.inl rfl) rfl)
    shapeCasts_S128_S128x1

def z128 : FVec Ideal S128x128 .f32 := broadcast S128x128 (Scalar.ofBits (F := Ideal) .f32 0x00000000#32)

def z1 : FVec Ideal S128x1 .f32 := broadcast S128x1 (Scalar.ofBits (F := Ideal) .f32 0x00000000#32)

def gV (d : FVec Ideal S128x128 .f32) : FVec Ideal S256x1 .f32 :=
  addf (concatenate S256x1 0 [⟨S128x1, z1⟩, ⟨S128x1, sum128 (select topV z128 d)⟩]
      concatenates_S128x1_S128x1_S256x1_d0)
    (concatenate S256x1 0 [⟨S128x1, sum128 (select topV d z128)⟩, ⟨S128x1, z1⟩]
      concatenates_S128x1_S128x1_S256x1_d0)

/-- The cotangent of the pair's output, one head per half of the rows. -/
def doV (d : FVec Ideal S128x128 .f32) : FVec Ideal S1x256x128 .f32 :=
  shapeCast S1x256x128
    (addf (concatenate S256x128 0 [⟨S128x128, z128⟩, ⟨S128x128, select topV z128 d⟩]
        concatenates_S128x128_S128x128_S256x128_d0)
      (concatenate S256x128 0 [⟨S128x128, select topV d z128⟩, ⟨S128x128, z128⟩]
        concatenates_S128x128_S128x128_S256x128_d0)) shapeCasts_S256x128_S1x256x128

/-- A product summed over the leading axis of size one, as the kernel squeezes it. -/
def squeezeV (v : FVec Ideal S1x256x128 .f32) : FVec Ideal S256x128 .bf16 :=
  multiReduction .add [0] S256x128 (truncf .bf16 v bitsLt_bf16_f32) 0x0000#16 reduces_S1x256x128_S256x128 (.inr rfl) rfl

/-- The gradient of the pair's values. -/
def dvV (p : FVec Ideal S1x256x256 .f32) (d2 : FVec Ideal S1x256x128 .f32) : FVec Ideal S256x128 .bf16 :=
  squeezeV (matmul dot_S1x256x256_S1x256x128_S1x256x128_1_1_2_2_0_0 none (truncf .bf16 p bitsLt_bf16_f32)
    (truncf .bf16 d2 bitsLt_bf16_f32) (constant (F := Ideal) S1x256x128 .f32 0x00000000#32))

def colB (v : FVec Ideal S256x1 .f32) : FVec Ideal S256x256 .f32 := broadcastTo S256x256 v broadcasts_S256x1_S256x256

def col1 (v : FVec Ideal S256 .f32) : FVec Ideal S256x1 .f32 := shapeCast S256x1 v shapeCasts_S256_S256x1

def sum1 (v : FVec Ideal S256x1 .f32) : FVec Ideal S256 .f32 :=
  multiReduction .add [1] S256 v 0x00000000#32 reduces_S256x1_S256 (.inl rfl) rfl

/-- The cotangent of the pair's softmax weights. -/
def dpV (v2 : FVec Ideal S1x256x128 .bf16) (d2 : FVec Ideal S1x256x128 .f32) : FVec Ideal S256x256 .f32 :=
  multiReduction .add [0] S256x256 (matmul dot_S1x256x128_S1x256x128_S1x256x256_2_2_1_1_0_0 none
    (truncf .bf16 d2 bitsLt_bf16_f32) v2 (constant (F := Ideal) S1x256x256 .f32 0x00000000#32)) 0x00000000#32
    reduces_S1x256x256_S256x256 (.inl rfl) rfl

/-- The cotangent of the shifted scores. -/
def dtV (s dp : FVec Ideal S256x256 .f32) (g : FVec Ideal S256x1 .f32) : FVec Ideal S256x256 .f32 :=
  mulf (addf (divf dp (colB (lV s))) (colB (col1 (sum1 (addf (divf g (lV s))
    (subf (broadcast S256x1 (Scalar.ofBits (F := Ideal) .f32 0x00000000#32))
      (col1 (sumV (mulf (mulf dp (colB (ilV (lV s)))) (expV s)))))))))) (expV s)

/-- The cotangent of the scores, with the scale of the scores. -/
def dsV (s dp : FVec Ideal S256x256 .f32) (g : FVec Ideal S256x1 .f32) : FVec Ideal S1x256x256 .f32 :=
  shapeCast S1x256x256 (mulf (addf (dtV s dp g) (mulf (colB (col1 (divf (sum1 (addf g (col1 (sumV
      (subf (broadcast S256x256 (Scalar.ofBits (F := Ideal) .f32 0x00000000#32)) (dtV s dp g))))))
      (sumV (indV s))))) (indV s))) (broadcast S256x256 (Scalar.ofBits (F := Ideal) .f32 0x3E000000#32)))
    shapeCasts_S256x256_S1x256x256

/-- The gradient of the pair's keys. -/
def dkV (q2 : FVec Ideal S1x256x128 .bf16) (ds : FVec Ideal S1x256x256 .f32) : FVec Ideal S256x128 .bf16 :=
  squeezeV (matmul dot_S1x256x256_S1x256x128_S1x256x128_1_1_2_2_0_0 none (truncf .bf16 ds bitsLt_bf16_f32) q2
    (constant (F := Ideal) S1x256x128 .f32 0x00000000#32))

/-- The gradient of the pair's queries, both heads' rows against all lanes. -/
def dqV (k2 : FVec Ideal S1x256x128 .bf16) (ds : FVec Ideal S1x256x256 .f32) : FVec Ideal S256x128 .bf16 :=
  squeezeV (matmul dot_S1x256x256_S1x256x128_S1x256x128_2_1_1_2_0_0 none (truncf .bf16 ds bitsLt_bf16_f32) k2
    (constant (F := Ideal) S1x256x128 .f32 0x00000000#32))

/-- The first and the last 128 rows of a result. -/
def loV (v : FVec Ideal S256x128 .bf16) : FVec Ideal S128x128 .bf16 :=
  extractStridedSlice S128x128 ![0, 0] v slices_S256x128_o0_0_S128x128

def hiV (v : FVec Ideal S256x128 .bf16) : FVec Ideal S128x128 .bf16 :=
  extractStridedSlice S128x128 ![128, 0] v slices_S256x128_o128_0_S128x128

def zb128 : FVec Ideal S128x128 .bf16 := broadcast S128x128 (Scalar.ofBits (F := Ideal) .bf16 0x0000#16)

/-! ## Read at an index -/

theorem topV_apply (a c : Fin 128) : topV (ix2 a c) = BitVec.ofBool (decide (c.val < 64)) := by
  have : ∀ c : Fin 128, topV (ix2 (0 : Fin 128) c) = BitVec.ofBool (decide (c.val < 64)) := by decide +kernel
  rw [← this c]; rfl

theorem halves_apply (φ : FTy) (q : FVec Ideal S128x128 φ) (z : Ideal φ) (r : Fin 256) (c : Fin 128) :
    halves φ q z (ix2 r c) = if h : r.val < 128 then (if c.val < 64 then q (ix2 ⟨r, h⟩ c) else z)
      else (if c.val < 64 then z else q (ix2 ⟨r - 128, by omega⟩ c)) := by
  pointwise [halves]
  split <;> simp only [topV_apply] <;> pointwise

theorem catV_apply (a b : FVec Ideal S128x128 .bf16) (j : Fin 256) (c : Fin 128) :
    catV a b (ix3 0 j c) = if h : j.val < 128 then a (ix2 ⟨j, h⟩ c) else b (ix2 ⟨j - 128, by omega⟩ c) := by
  pointwise [catV]

/-- Row `a` of head `h` of the pair, among the pair's 256 rows. -/
def rowOf (h : Fin 2) (a : Fin 128) : Fin 256 := ⟨128 * h + a, by omega⟩

/-- Channel `c` of head `h` of the pair, among the pair's 128 lanes. -/
def laneOf (h : Fin 2) (c : Fin 64) : Fin 128 := ⟨64 * h + c, by omega⟩

theorem sum_lanes (f : Fin 128 → EReal) : ∑ x, f x = ∑ c, f (laneOf 0 c) + ∑ c, f (laneOf 1 c) := by
  rw [Fin.sum_univ_add (a := 64) (b := 64) f]
  refine congrArg₂ (· + ·) ?_ ?_ <;> refine Finset.sum_congr rfl fun c _ => congrArg f ?_ <;> ext <;> simp [laneOf, add_comm]

theorem sum_rows (f : Fin 256 → EReal) : ∑ x, f x = ∑ a, f (rowOf 0 a) + ∑ a, f (rowOf 1 a) := by
  rw [Fin.sum_univ_add (a := 128) (b := 128) f]
  refine congrArg₂ (· + ·) ?_ ?_ <;> refine Finset.sum_congr rfl fun c _ => congrArg f ?_ <;> ext <;> simp [rowOf, add_comm]

theorem two_cases (h : Fin 2) : h = 0 ∨ h = 1 := by omega

@[simp] theorem rowOf_zero_lt (a : Fin 128) : (rowOf 0 a).val < 128 := by simp [rowOf]
@[simp] theorem rowOf_one_lt (a : Fin 128) : ¬ (rowOf 1 a).val < 128 := by simp [rowOf]
@[simp] theorem laneOf_zero_lt (c : Fin 64) : (laneOf 0 c).val < 64 := by simp [laneOf]
@[simp] theorem laneOf_one_lt (c : Fin 64) : ¬ (laneOf 1 c).val < 64 := by simp [laneOf]
@[simp] theorem rowOf_zero_mk (a : Fin 128) (h) : (⟨(rowOf 0 a).val, h⟩ : Fin 128) = a := by ext; simp [rowOf]
@[simp] theorem rowOf_one_mk (a : Fin 128) (h) : (⟨(rowOf 1 a).val - 128, h⟩ : Fin 128) = a := by ext; simp [rowOf]

theorem q2V_apply (q : FVec Ideal S128x128 .bf16) (r : Fin 256) (c : Fin 128) :
    q2V q (ix3 0 r c) = if h : r.val < 128 then (if c.val < 64 then q (ix2 ⟨r, h⟩ c) else 0)
      else (if c.val < 64 then 0 else q (ix2 ⟨r - 128, by omega⟩ c)) := by
  pointwise [q2V, halves_apply]

theorem q2V_same (q : FVec Ideal S128x128 .bf16) (h : Fin 2) (a : Fin 128) (c : Fin 64) :
    q2V q (ix3 0 (rowOf h a) (laneOf h c)) = q (ix2 a (laneOf h c)) := by
  rcases two_cases h with rfl | rfl <;> simp [q2V_apply]

theorem q2V_other (q : FVec Ideal S128x128 .bf16) {h h' : Fin 2} (hh : h ≠ h') (a : Fin 128) (c : Fin 64) :
    q2V q (ix3 0 (rowOf h a) (laneOf h' c)) = 0 := by
  rcases two_cases h with rfl | rfl <;> rcases two_cases h' with rfl | rfl <;> simp [q2V_apply] at hh ⊢

theorem doV_apply (d : FVec Ideal S128x128 .f32) (r : Fin 256) (c : Fin 128) :
    doV d (ix3 0 r c) = if h : r.val < 128 then (if c.val < 64 then d (ix2 ⟨r, h⟩ c) else 0)
      else (if c.val < 64 then 0 else d (ix2 ⟨r - 128, by omega⟩ c)) := by
  pointwise [doV, z128, topV_apply]
  split <;> simp

theorem doV_same (q : FVec Ideal S128x128 .f32) (h : Fin 2) (a : Fin 128) (c : Fin 64) :
    doV q (ix3 0 (rowOf h a) (laneOf h c)) = q (ix2 a (laneOf h c)) := by
  rcases two_cases h with rfl | rfl <;> simp [doV_apply]

theorem doV_other (q : FVec Ideal S128x128 .f32) {h h' : Fin 2} (hh : h ≠ h') (a : Fin 128) (c : Fin 64) :
    doV q (ix3 0 (rowOf h a) (laneOf h' c)) = 0 := by
  rcases two_cases h with rfl | rfl <;> rcases two_cases h' with rfl | rfl <;> simp [doV_apply] at hh ⊢

theorem gV_apply (d : FVec Ideal S128x128 .f32) (h : Fin 2) (a : Fin 128) :
    gV d (ix2 (rowOf h a) 0) = ∑ c, d (ix2 a (laneOf h c)) := by
  pointwise [gV, sum128, z128, z1, topV_apply]
  rcases two_cases h with rfl | rfl <;> simp [laneOf]

/-- A sum over the pair's lanes of a product that vanishes off one head's lanes. -/
theorem sum_lanes_of (h : Fin 2) (f : Fin 128 → EReal) (hf : ∀ h', h' ≠ h → ∀ c, f (laneOf h' c) = 0) :
    ∑ x, f x = ∑ c, f (laneOf h c) := by
  rw [sum_lanes]
  rcases two_cases h with rfl | rfl
  · simp [hf 1 (by decide)]
  · simp [hf 0 (by decide)]

/-- A sum over the pair's rows of a product that vanishes off one head's rows. -/
theorem sum_rows_of (h : Fin 2) (f : Fin 256 → EReal) (hf : ∀ h', h' ≠ h → ∀ c, f (rowOf h' c) = 0) :
    ∑ x, f x = ∑ c, f (rowOf h c) := by
  rw [sum_rows]
  rcases two_cases h with rfl | rfl
  · simp [hf 1 (by decide)]
  · simp [hf 0 (by decide)]

/-! ## One head -/

/-- The scale of the scores, 1/8. -/
def c8 : EReal := Ideal.ofBits .f32 0x3E000000#32

/-- A head's scores: the scaled products, and the bias. -/
def headSc (q : Fin 128 → Fin 64 → EReal) (k : Fin 256 → Fin 64 → EReal) (b : Fin 128 → Fin 256 → EReal)
    (a : Fin 128) (j : Fin 256) : EReal := (∑ c, q a c * k j c) * c8 + b a j

/-- The cotangent of a head's weights. -/
def headDp (d : Fin 128 → Fin 64 → EReal) (v : Fin 256 → Fin 64 → EReal) (a : Fin 128) (j : Fin 256) : EReal :=
  ∑ c, d a c * v j c

/-- The cotangent of a head's products: of its scores, times the scale. -/
def headDs (s dp : Fin 128 → Fin 256 → EReal) (g : Fin 128 → Fin 64 → EReal) (a : Fin 128) (j : Fin 256) : EReal :=
  rowDs (s a) (dp a) (∑ c, g a c) j * c8

/-- One head's bias at a query and a key. -/
def biasAt (w : BitVec 32) (st : FVec Ideal S128x256 .f32) (ok : IVec S128x256 1) (a : Fin 128) (j : Fin 256) : EReal :=
  Scalar.select (ok (ix2 a j)) (Ideal.ofBits .f32 w * st (ix2 a j)) ⊥

theorem mask_eq : (Named.named (F := Ideal) κ "mask" (φ := .f32) 0xF149F2CA#32 : EReal) = ⊥ :=
  IdealRules.named_const.ideal_named_scalar _ _ _ _ rfl

theorem scV_apply (w : Fin 2 → BitVec 32) (st : FVec Ideal S128x256 .f32) (ok : IVec S128x256 1)
    (q : FVec Ideal S128x128 .bf16) (k2 : FVec Ideal S1x256x128 .bf16) (h : Fin 2) (a : Fin 128) (j : Fin 256) :
    scV (w 0) (w 1) st ok (q2V q) k2 (ix2 (rowOf h a) j)
      = headSc (fun a c => q (ix2 a (laneOf h c))) (fun j c => k2 (ix3 0 j (laneOf h c))) (biasAt (w h) st ok) a j := by
  pointwise [scV, biasV]
  rw [sum_lanes_of h]
  · simp only [q2V_same, headSc, biasAt, mask_eq]
    rcases two_cases h with rfl | rfl <;> simp [c8]
  · intro h' hh c
    rw [q2V_other q (Ne.symm hh), zero_mul]

theorem max_word : Ideal.ofBits .f32 0xFF800000#32 = ⊥ := by
  simp [Ideal.ofBits, Ideal.ieee]

theorem expV_apply (s : FVec Ideal S256x256 .f32) (r j : Fin 256) : expV s (ix2 r j) = rowExp (fun j => s (ix2 r j)) j := by
  pointwise [expV, mxB, mxV]
  rw [max_word]; rfl

theorem lV_apply (s : FVec Ideal S256x256 .f32) (r : Fin 256) (z : Fin 1) :
    lV s (ix2 r z) = rowSum (fun j => s (ix2 r j)) := by
  pointwise [lV, sumV, expV_apply]
  rfl

theorem sitofp_one : (FloatOps.sitofp (F := Ideal) .f32 (BitVec.setWidth 32 (BitVec.ofBool true)) : EReal) = 1 := by
  show (((BitVec.setWidth 32 (BitVec.ofBool true)).toInt : ℝ) : EReal) = 1
  rw [show (BitVec.setWidth 32 (BitVec.ofBool true)).toInt = 1 from by decide]; norm_num

theorem sitofp_zero : (FloatOps.sitofp (F := Ideal) .f32 (BitVec.setWidth 32 (BitVec.ofBool false)) : EReal) = 0 := by
  show (((BitVec.setWidth 32 (BitVec.ofBool false)).toInt : ℝ) : EReal) = 0
  rw [show (BitVec.setWidth 32 (BitVec.ofBool false)).toInt = 0 from by decide]; norm_num

theorem indV_apply (s : FVec Ideal S256x256 .f32) (r j : Fin 256) : indV s (ix2 r j) = rowInd (fun j => s (ix2 r j)) j := by
  pointwise [indV, mxB, mxV]
  rw [max_word, rowInd, rowMax]
  split
  · next h => rw [h, decide_eq_true rfl]; exact sitofp_one
  · next h => rw [decide_eq_false h]; exact sitofp_zero

theorem pV_apply (s : FVec Ideal S256x256 .f32) (r j : Fin 256) : pV s (ix3 0 r j) = rowP (fun j => s (ix2 r j)) j := by
  pointwise [pV, lV_apply, expV_apply]
  rfl

theorem dtV_apply (s dp : FVec Ideal S256x256 .f32) (g : FVec Ideal S256x1 .f32) (r j : Fin 256) :
    dtV s dp g (ix2 r j) = rowDt (fun j => s (ix2 r j)) (fun j => dp (ix2 r j)) (g (ix2 r 0)) j := by
  pointwise [dtV, sumV, colB, col1, sum1, ilV, expV_apply, lV_apply]
  simp [rowDt, rowDl]

theorem dsV_apply (s dp : FVec Ideal S256x256 .f32) (g : FVec Ideal S256x1 .f32) (r j : Fin 256) :
    dsV s dp g (ix3 0 r j) = rowDs (fun j => s (ix2 r j)) (fun j => dp (ix2 r j)) (g (ix2 r 0)) j * c8 := by
  pointwise [dsV, sumV, colB, col1, sum1, dtV_apply, indV_apply]
  simp [rowDs, c8]

theorem dpV_apply (v2 : FVec Ideal S1x256x128 .bf16) (d : FVec Ideal S128x128 .f32) (h : Fin 2) (a : Fin 128) (j : Fin 256) :
    dpV v2 (doV d) (ix2 (rowOf h a) j)
      = headDp (fun a c => d (ix2 a (laneOf h c))) (fun j c => v2 (ix3 0 j (laneOf h c))) a j := by
  pointwise [dpV]
  rw [Fin.sum_univ_one, sum_lanes_of h]
  · simp only [doV_same, headDp]
  · intro h' hh c
    rw [doV_other d (Ne.symm hh), zero_mul]

theorem dvV_apply (p : FVec Ideal S1x256x256 .f32) (d : FVec Ideal S128x128 .f32) (h : Fin 2) (j : Fin 256) (c : Fin 64) :
    dvV p (doV d) (ix2 j (laneOf h c)) = ∑ a, p (ix3 0 (rowOf h a) j) * d (ix2 a (laneOf h c)) := by
  pointwise [dvV, squeezeV]
  rw [Fin.sum_univ_one, sum_rows_of h]
  · simp only [doV_same]
  · intro h' hh c
    rw [doV_other d hh, mul_zero]

theorem dkV_apply (q : FVec Ideal S128x128 .bf16) (ds : FVec Ideal S1x256x256 .f32) (h : Fin 2) (j : Fin 256) (c : Fin 64) :
    dkV (q2V q) ds (ix2 j (laneOf h c)) = ∑ a, ds (ix3 0 (rowOf h a) j) * q (ix2 a (laneOf h c)) := by
  pointwise [dkV, squeezeV]
  rw [Fin.sum_univ_one, sum_rows_of h]
  · simp only [q2V_same]
  · intro h' hh c
    rw [q2V_other q hh, mul_zero]

theorem dqV_apply (k2 : FVec Ideal S1x256x128 .bf16) (ds : FVec Ideal S1x256x256 .f32) (r : Fin 256) (c : Fin 128) :
    dqV k2 ds (ix2 r c) = ∑ j, ds (ix3 0 r j) * k2 (ix3 0 j c) := by
  pointwise [dqV, squeezeV]
  rw [Fin.sum_univ_one]

end Cert.Attn

end
-- ==== Proof.Match.lean ====
/- The kernel's five outputs at a grid point, as the six pairs' gradients side by side. -/
module

public import proofs.«01_k».proof.Proof.Gen.KernelIdeal.Frame
public import proofs.«01_k».proof.Proof.Pair

@[expose] public section

set_option maxRecDepth 16384

noncomputable section

namespace Cert.Attn

open Idealize.ShloMosaic Cert.KernelIdeal Cert.KernelIdeal.Facts₀

/-- A pair's lanes of a block. -/
def slV {φ : FTy} (x : FVec Ideal S128x768 φ) : Fin 6 → FVec Ideal S128x128 φ
  | 0 => extractStridedSlice S128x128 ![0, 0] x slices_S128x768_o0_0_S128x128
  | 1 => extractStridedSlice S128x128 ![0, 128] x slices_S128x768_o0_128_S128x128
  | 2 => extractStridedSlice S128x128 ![0, 256] x slices_S128x768_o0_256_S128x128
  | 3 => extractStridedSlice S128x128 ![0, 384] x slices_S128x768_o0_384_S128x128
  | 4 => extractStridedSlice S128x128 ![0, 512] x slices_S128x768_o0_512_S128x128
  | 5 => extractStridedSlice S128x128 ![0, 640] x slices_S128x768_o0_640_S128x128

/-- Minus four times each head's slope, rounded, as the kernel prints it. -/
def wordK : Fin 6 → Fin 2 → BitVec 32
  | 0, 0 => 0xC0214518#32
  | 0, 1 => 0xBFCB2FF5#32
  | 1, 0 => 0xBF800000#32
  | 1, 1 => 0xBF214518#32
  | 2, 0 => 0xBECB2FF5#32
  | 2, 1 => 0xBE800000#32
  | 3, 0 => 0xBE214518#32
  | 3, 1 => 0xBDCB2FF5#32
  | 4, 0 => 0xBD800000#32
  | 4, 1 => 0xBD214518#32
  | 5, 0 => 0xBCCB2FF5#32
  | 5, 1 => 0xBC800000#32

section Point

variable (i : grid0.Coords) (y0 y1 y2 y3 y4 : FVec Ideal S128x768 .bf16) (y5 y6 : FVec Ideal S128x768 .f32) (n : Fin 6)

/-- The pair's scores at a grid point. -/
def scP : FVec Ideal S256x256 .f32 :=
  scV (wordK n 0) (wordK n 1) (Gen.k0_pay7 (F := Ideal)) (Gen.k0_pay8 i) (q2V (slV y0 n)) (catV (slV y1 n) (slV y2 n))

def dsP : FVec Ideal S1x256x256 .f32 :=
  dsV (scP i y0 y1 y2 n) (dpV (catV (slV y3 n) (slV y4 n)) (doV (slV y5 n))) (gV (slV y6 n))

def dkP : FVec Ideal S256x128 .bf16 := dkV (q2V (slV y0 n)) (dsP i y0 y1 y2 y3 y4 y5 y6 n)

def dqP : FVec Ideal S256x128 .bf16 := dqV (catV (slV y1 n) (slV y2 n)) (dsP i y0 y1 y2 y3 y4 y5 y6 n)

def dvP : FVec Ideal S256x128 .bf16 := dvV (pV (scP i y0 y1 y2 n)) (doV (slV y5 n))

end Point

/-! ## The pairs side by side -/

def zb : Ideal .bf16 := Scalar.ofBits (F := Ideal) .bf16 0x0000#16

/-- A pair's columns among all, zero elsewhere. -/
def padV (v : FVec Ideal S128x128 .bf16) : Fin 6 → FVec Ideal S128x768 .bf16
  | 5 => concatenate S128x768 1 [⟨S128x640, broadcast S128x640 zb⟩, ⟨S128x128, v⟩] concatenates_S128x640_S128x128_S128x768_d1
  | 4 => concatenate S128x768 1 [⟨S128x640, concatenate S128x640 1 [⟨S128x512, broadcast S128x512 zb⟩, ⟨S128x128, v⟩]
      concatenates_S128x512_S128x128_S128x640_d1⟩, ⟨S128x128, broadcast S128x128 zb⟩] concatenates_S128x640_S128x128_S128x768_d1
  | 3 => concatenate S128x768 1 [⟨S128x512, concatenate S128x512 1 [⟨S128x384, broadcast S128x384 zb⟩, ⟨S128x128, v⟩]
      concatenates_S128x384_S128x128_S128x512_d1⟩, ⟨S128x256, broadcast S128x256 zb⟩] concatenates_S128x512_S128x256_S128x768_d1
  | 2 => concatenate S128x768 1 [⟨S128x384, concatenate S128x384 1 [⟨S128x256, broadcast S128x256 zb⟩, ⟨S128x128, v⟩]
      concatenates_S128x256_S128x128_S128x384_d1⟩, ⟨S128x384, broadcast S128x384 zb⟩] concatenates_S128x384_S128x384_S128x768_d1
  | 1 => concatenate S128x768 1 [⟨S128x256, concatenate S128x256 1 [⟨S128x128, broadcast S128x128 zb⟩, ⟨S128x128, v⟩]
      concatenates_S128x128_S128x128_S128x256_d1⟩, ⟨S128x512, broadcast S128x512 zb⟩] concatenates_S128x256_S128x512_S128x768_d1
  | 0 => concatenate S128x768 1 [⟨S128x128, v⟩, ⟨S128x640, broadcast S128x640 zb⟩] concatenates_S128x128_S128x640_S128x768_d1

def tree (f : Fin 6 → FVec Ideal S128x128 .bf16) : FVec Ideal S128x768 .bf16 :=
  addf (addf (addf (addf (addf (padV (f 5) 5) (padV (f 4) 4)) (padV (f 3) 3)) (padV (f 2) 2)) (padV (f 1) 1)) (padV (f 0) 0)

def tree2 (f g : Fin 6 → FVec Ideal S128x128 .bf16) : FVec Ideal S128x768 .bf16 :=
  addf (addf (addf (addf (addf (addf (addf (addf (addf (addf (addf (padV (f 5) 5) (padV (g 5) 5)) (padV (f 4) 4)) (padV (g 4) 4))
    (padV (f 3) 3)) (padV (g 3) 3)) (padV (f 2) 2)) (padV (g 2) 2)) (padV (f 1) 1)) (padV (g 1) 1)) (padV (f 0) 0)) (padV (g 0) 0)

/-- Column `l` of pair `m`, among all. -/
def colOf (m : Fin 6) (l : Fin 128) : Fin 768 := ⟨128 * m + l, by omega⟩

theorem padV_apply (v : FVec Ideal S128x128 .bf16) (n m : Fin 6) (a l : Fin 128) :
    padV v n (ix2 a (colOf m l)) = if n = m then v (ix2 a l) else 0 := by
  have hc : (colOf m l).val = 128 * m.val + l.val := rfl
  have hv : ∀ (c : ℕ) (h : c < 128), c = l.val → v (ix2 a ⟨c, h⟩) = v (ix2 a l) := by
    intro c h e; subst e; rfl
  by_cases hnm : n = m
  · subst hnm
    rw [if_pos rfl]
    match n with
    | 0 | 1 | 2 | 3 | 4 | 5 =>
      pointwise [padV, zb]
      simp [colOf] <;> (intros; omega)
  · have hne : m.val ≠ n.val := fun e => hnm (Fin.ext e.symm)
    rw [if_neg hnm]
    clear hnm
    match n, hne with
    | 0, hne =>
      have hne : m.val ≠ 0 := hne
      pointwise [padV, zb]
      split_ifs <;> first | rfl | omega
    | 1, hne =>
      have hne : m.val ≠ 1 := hne
      pointwise [padV, zb]
      split_ifs <;> first | rfl | omega
    | 2, hne =>
      have hne : m.val ≠ 2 := hne
      pointwise [padV, zb]
      split_ifs <;> first | rfl | omega
    | 3, hne =>
      have hne : m.val ≠ 3 := hne
      pointwise [padV, zb]
      split_ifs <;> first | rfl | omega
    | 4, hne =>
      have hne : m.val ≠ 4 := hne
      pointwise [padV, zb]
      split_ifs <;> first | rfl | omega
    | 5, hne =>
      have hne : m.val ≠ 5 := hne
      pointwise [padV, zb]
      split_ifs <;> first | rfl | omega

theorem slV_apply {φ : FTy} (x : FVec Ideal S128x768 φ) (n : Fin 6) (a l : Fin 128) :
    slV x n (ix2 a l) = x (ix2 a (colOf n l)) := by
  match n with
  | 0 => pointwise [slV]; congr 2; simp [colOf]
  | 1 | 2 | 3 | 4 | 5 => pointwise [slV]; rfl

section Match

variable (i : grid0.Coords) (x0 x1 x2 x3 x4 x5 : Vec Ideal S128x768 .bf16) (x6 : Vec Ideal S128x768 .f32)

theorem m228 : Gen.k0_pay228 i x0 x1 x2 x3 x4 x5 x6 = scP i (Gen.k0_pay185 i x0 x1 x2 x3 x4 x5 x6) (Gen.k0_pay186 i x0 x1 x2 x3 x4 x5 x6) (Gen.k0_pay187 i x0 x1 x2 x3 x4 x5 x6) 5 := rfl
theorem m224 : Gen.k0_pay224 i x0 x1 x2 x3 x4 x5 x6 = scP i (Gen.k0_pay185 i x0 x1 x2 x3 x4 x5 x6) (Gen.k0_pay186 i x0 x1 x2 x3 x4 x5 x6) (Gen.k0_pay187 i x0 x1 x2 x3 x4 x5 x6) 4 := rfl
theorem m217 : Gen.k0_pay217 i x0 x1 x2 x3 x4 x5 x6 = scP i (Gen.k0_pay185 i x0 x1 x2 x3 x4 x5 x6) (Gen.k0_pay186 i x0 x1 x2 x3 x4 x5 x6) (Gen.k0_pay187 i x0 x1 x2 x3 x4 x5 x6) 3 := rfl
theorem m195 : Gen.k0_pay195 i x0 x1 x2 x3 x4 x5 x6 = indV (scP i (Gen.k0_pay185 i x0 x1 x2 x3 x4 x5 x6) (Gen.k0_pay186 i x0 x1 x2 x3 x4 x5 x6) (Gen.k0_pay187 i x0 x1 x2 x3 x4 x5 x6) 0) := rfl
theorem m202 : Gen.k0_pay202 i x0 x1 x2 x3 x4 x5 x6 = indV (scP i (Gen.k0_pay185 i x0 x1 x2 x3 x4 x5 x6) (Gen.k0_pay186 i x0 x1 x2 x3 x4 x5 x6) (Gen.k0_pay187 i x0 x1 x2 x3 x4 x5 x6) 1) := rfl
theorem m209 : Gen.k0_pay209 i x0 x1 x2 x3 x4 x5 x6 = indV (scP i (Gen.k0_pay185 i x0 x1 x2 x3 x4 x5 x6) (Gen.k0_pay186 i x0 x1 x2 x3 x4 x5 x6) (Gen.k0_pay187 i x0 x1 x2 x3 x4 x5 x6) 2) := rfl
theorem m219 : Gen.k0_pay219 i x0 x1 x2 x3 x4 x5 x6 = indV (scP i (Gen.k0_pay185 i x0 x1 x2 x3 x4 x5 x6) (Gen.k0_pay186 i x0 x1 x2 x3 x4 x5 x6) (Gen.k0_pay187 i x0 x1 x2 x3 x4 x5 x6) 3) := rfl
theorem m197 : Gen.k0_pay197 i x0 x1 x2 x3 x4 x5 x6 = expV (scP i (Gen.k0_pay185 i x0 x1 x2 x3 x4 x5 x6) (Gen.k0_pay186 i x0 x1 x2 x3 x4 x5 x6) (Gen.k0_pay187 i x0 x1 x2 x3 x4 x5 x6) 0) := rfl
theorem m204 : Gen.k0_pay204 i x0 x1 x2 x3 x4 x5 x6 = expV (scP i (Gen.k0_pay185 i x0 x1 x2 x3 x4 x5 x6) (Gen.k0_pay186 i x0 x1 x2 x3 x4 x5 x6) (Gen.k0_pay187 i x0 x1 x2 x3 x4 x5 x6) 1) := rfl
theorem m212 : Gen.k0_pay212 i x0 x1 x2 x3 x4 x5 x6 = expV (scP i (Gen.k0_pay185 i x0 x1 x2 x3 x4 x5 x6) (Gen.k0_pay186 i x0 x1 x2 x3 x4 x5 x6) (Gen.k0_pay187 i x0 x1 x2 x3 x4 x5 x6) 2) := rfl
theorem m221 : Gen.k0_pay221 i x0 x1 x2 x3 x4 x5 x6 = expV (scP i (Gen.k0_pay185 i x0 x1 x2 x3 x4 x5 x6) (Gen.k0_pay186 i x0 x1 x2 x3 x4 x5 x6) (Gen.k0_pay187 i x0 x1 x2 x3 x4 x5 x6) 3) := rfl
theorem m196 : Gen.k0_pay196 i x0 x1 x2 x3 x4 x5 x6 = sumV (indV (scP i (Gen.k0_pay185 i x0 x1 x2 x3 x4 x5 x6) (Gen.k0_pay186 i x0 x1 x2 x3 x4 x5 x6) (Gen.k0_pay187 i x0 x1 x2 x3 x4 x5 x6) 0)) := rfl
theorem m203 : Gen.k0_pay203 i x0 x1 x2 x3 x4 x5 x6 = sumV (indV (scP i (Gen.k0_pay185 i x0 x1 x2 x3 x4 x5 x6) (Gen.k0_pay186 i x0 x1 x2 x3 x4 x5 x6) (Gen.k0_pay187 i x0 x1 x2 x3 x4 x5 x6) 1)) := rfl
theorem m210 : Gen.k0_pay210 i x0 x1 x2 x3 x4 x5 x6 = sumV (indV (scP i (Gen.k0_pay185 i x0 x1 x2 x3 x4 x5 x6) (Gen.k0_pay186 i x0 x1 x2 x3 x4 x5 x6) (Gen.k0_pay187 i x0 x1 x2 x3 x4 x5 x6) 2)) := rfl
theorem m220 : Gen.k0_pay220 i x0 x1 x2 x3 x4 x5 x6 = sumV (indV (scP i (Gen.k0_pay185 i x0 x1 x2 x3 x4 x5 x6) (Gen.k0_pay186 i x0 x1 x2 x3 x4 x5 x6) (Gen.k0_pay187 i x0 x1 x2 x3 x4 x5 x6) 3)) := rfl
theorem m240 : Gen.k0_pay240 i x0 x1 x2 x3 x4 x5 x6 = dvP i (Gen.k0_pay185 i x0 x1 x2 x3 x4 x5 x6) (Gen.k0_pay186 i x0 x1 x2 x3 x4 x5 x6) (Gen.k0_pay187 i x0 x1 x2 x3 x4 x5 x6) (Gen.k0_pay88 (F := Ideal) (View.ld x5 Gen.r0_0)) 5 := rfl
theorem m242 : Gen.k0_pay242 i x0 x1 x2 x3 x4 x5 x6 = dvP i (Gen.k0_pay185 i x0 x1 x2 x3 x4 x5 x6) (Gen.k0_pay186 i x0 x1 x2 x3 x4 x5 x6) (Gen.k0_pay187 i x0 x1 x2 x3 x4 x5 x6) (Gen.k0_pay88 (F := Ideal) (View.ld x5 Gen.r0_0)) 4 := rfl
theorem m245 : Gen.k0_pay245 i x0 x1 x2 x3 x4 x5 x6 = dvP i (Gen.k0_pay185 i x0 x1 x2 x3 x4 x5 x6) (Gen.k0_pay186 i x0 x1 x2 x3 x4 x5 x6) (Gen.k0_pay187 i x0 x1 x2 x3 x4 x5 x6) (Gen.k0_pay88 (F := Ideal) (View.ld x5 Gen.r0_0)) 3 := rfl
theorem m250 : Gen.k0_pay250 i x0 x1 x2 x3 x4 x5 x6 = dvP i (Gen.k0_pay185 i x0 x1 x2 x3 x4 x5 x6) (Gen.k0_pay186 i x0 x1 x2 x3 x4 x5 x6) (Gen.k0_pay187 i x0 x1 x2 x3 x4 x5 x6) (Gen.k0_pay88 (F := Ideal) (View.ld x5 Gen.r0_0)) 2 := rfl
theorem m257 : Gen.k0_pay257 i x0 x1 x2 x3 x4 x5 x6 = dvP i (Gen.k0_pay185 i x0 x1 x2 x3 x4 x5 x6) (Gen.k0_pay186 i x0 x1 x2 x3 x4 x5 x6) (Gen.k0_pay187 i x0 x1 x2 x3 x4 x5 x6) (Gen.k0_pay88 (F := Ideal) (View.ld x5 Gen.r0_0)) 1 := rfl
theorem m262 : Gen.k0_pay262 i x0 x1 x2 x3 x4 x5 x6 = dvP i (Gen.k0_pay185 i x0 x1 x2 x3 x4 x5 x6) (Gen.k0_pay186 i x0 x1 x2 x3 x4 x5 x6) (Gen.k0_pay187 i x0 x1 x2 x3 x4 x5 x6) (Gen.k0_pay88 (F := Ideal) (View.ld x5 Gen.r0_0)) 0 := rfl
theorem m241 : Gen.k0_pay241 i x0 x1 x2 x3 x4 x5 x6 = dsP i (Gen.k0_pay185 i x0 x1 x2 x3 x4 x5 x6) (Gen.k0_pay186 i x0 x1 x2 x3 x4 x5 x6) (Gen.k0_pay187 i x0 x1 x2 x3 x4 x5 x6) (Gen.k0_pay188 i x0 x1 x2 x3 x4 x5 x6) (Gen.k0_pay189 i x0 x1 x2 x3 x4 x5 x6) (Gen.k0_pay88 (F := Ideal) (View.ld x5 Gen.r0_0)) (Gen.k0_pay87 (F := Ideal) (View.ld x6 Gen.r0_0)) 5 := rfl
theorem m251 : Gen.k0_pay251 i x0 x1 x2 x3 x4 x5 x6 = dkP i (Gen.k0_pay185 i x0 x1 x2 x3 x4 x5 x6) (Gen.k0_pay186 i x0 x1 x2 x3 x4 x5 x6) (Gen.k0_pay187 i x0 x1 x2 x3 x4 x5 x6) (Gen.k0_pay188 i x0 x1 x2 x3 x4 x5 x6) (Gen.k0_pay189 i x0 x1 x2 x3 x4 x5 x6) (Gen.k0_pay88 (F := Ideal) (View.ld x5 Gen.r0_0)) (Gen.k0_pay87 (F := Ideal) (View.ld x6 Gen.r0_0)) 2 := rfl
theorem o10 : Gen.out0_10 i x0 x1 x2 x3 x4 x5 x6 = View.canon [⟨Gen.r0_0, tree fun n => loV (dvP i (Gen.k0_pay185 i x0 x1 x2 x3 x4 x5 x6) (Gen.k0_pay186 i x0 x1 x2 x3 x4 x5 x6) (Gen.k0_pay187 i x0 x1 x2 x3 x4 x5 x6) (Gen.k0_pay88 (F := Ideal) (View.ld x5 Gen.r0_0)) n)⟩] := rfl
theorem o11 : Gen.out0_11 i x0 x1 x2 x3 x4 x5 x6 = View.canon [⟨Gen.r0_0, tree fun n => hiV (dvP i (Gen.k0_pay185 i x0 x1 x2 x3 x4 x5 x6) (Gen.k0_pay186 i x0 x1 x2 x3 x4 x5 x6) (Gen.k0_pay187 i x0 x1 x2 x3 x4 x5 x6) (Gen.k0_pay88 (F := Ideal) (View.ld x5 Gen.r0_0)) n)⟩] := rfl
theorem o8 : Gen.out0_8 i x0 x1 x2 x3 x4 x5 x6 = View.canon [⟨Gen.r0_0, tree fun n => loV (dkP i (Gen.k0_pay185 i x0 x1 x2 x3 x4 x5 x6) (Gen.k0_pay186 i x0 x1 x2 x3 x4 x5 x6) (Gen.k0_pay187 i x0 x1 x2 x3 x4 x5 x6) (Gen.k0_pay188 i x0 x1 x2 x3 x4 x5 x6) (Gen.k0_pay189 i x0 x1 x2 x3 x4 x5 x6) (Gen.k0_pay88 (F := Ideal) (View.ld x5 Gen.r0_0)) (Gen.k0_pay87 (F := Ideal) (View.ld x6 Gen.r0_0)) n)⟩] := rfl
theorem o9 : Gen.out0_9 i x0 x1 x2 x3 x4 x5 x6 = View.canon [⟨Gen.r0_0, tree fun n => hiV (dkP i (Gen.k0_pay185 i x0 x1 x2 x3 x4 x5 x6) (Gen.k0_pay186 i x0 x1 x2 x3 x4 x5 x6) (Gen.k0_pay187 i x0 x1 x2 x3 x4 x5 x6) (Gen.k0_pay188 i x0 x1 x2 x3 x4 x5 x6) (Gen.k0_pay189 i x0 x1 x2 x3 x4 x5 x6) (Gen.k0_pay88 (F := Ideal) (View.ld x5 Gen.r0_0)) (Gen.k0_pay87 (F := Ideal) (View.ld x6 Gen.r0_0)) n)⟩] := rfl
theorem o7 : Gen.out0_7 i x0 x1 x2 x3 x4 x5 x6 = View.canon [⟨Gen.r0_0, tree2 (fun n => select topV zb128 (hiV (dqP i (Gen.k0_pay185 i x0 x1 x2 x3 x4 x5 x6) (Gen.k0_pay186 i x0 x1 x2 x3 x4 x5 x6) (Gen.k0_pay187 i x0 x1 x2 x3 x4 x5 x6) (Gen.k0_pay188 i x0 x1 x2 x3 x4 x5 x6) (Gen.k0_pay189 i x0 x1 x2 x3 x4 x5 x6) (Gen.k0_pay88 (F := Ideal) (View.ld x5 Gen.r0_0)) (Gen.k0_pay87 (F := Ideal) (View.ld x6 Gen.r0_0)) n))) (fun n => select topV (loV (dqP i (Gen.k0_pay185 i x0 x1 x2 x3 x4 x5 x6) (Gen.k0_pay186 i x0 x1 x2 x3 x4 x5 x6) (Gen.k0_pay187 i x0 x1 x2 x3 x4 x5 x6) (Gen.k0_pay188 i x0 x1 x2 x3 x4 x5 x6) (Gen.k0_pay189 i x0 x1 x2 x3 x4 x5 x6) (Gen.k0_pay88 (F := Ideal) (View.ld x5 Gen.r0_0)) (Gen.k0_pay87 (F := Ideal) (View.ld x6 Gen.r0_0)) n)) zb128)⟩] := rfl

end Match

/-! ## The outputs at an index -/

theorem rereads {φ : FTy} (x : FVec Ideal S128x768 φ) : shapeCast S128x768 x shapeCasts_S128x768_S128x768 = x := by
  funext j
  obtain ⟨a, c, rfl⟩ : ∃ (a : Fin 128) (c : Fin 768), j = ix2 a c := ⟨j 0, j 1, by ext k; fin_cases k <;> rfl⟩
  pointwise

theorem ld_whole {e : EltTy} (x : Vec Ideal S128x768 e) : View.ld x Gen.r0_0 = x :=
  View.ld_unit_zero (by decide) _ x

theorem canon_whole {e : EltTy} (v : Vec Ideal S128x768 e) : View.canon [⟨Gen.r0_0, v⟩] = v :=
  View.canon_cons_unit_zero (by decide) _ v []

section Outs

variable (i : grid0.Coords) (x0 x1 x2 x3 x4 x5 : Vec Ideal S128x768 .bf16) (x6 : Vec Ideal S128x768 .f32)

theorem y0_eq : Gen.k0_pay185 i x0 x1 x2 x3 x4 x5 x6 = x0 := (rereads _).trans (ld_whole x0)

theorem y1_eq : Gen.k0_pay186 i x0 x1 x2 x3 x4 x5 x6 = x1 := (rereads _).trans (ld_whole x1)

theorem y2_eq : Gen.k0_pay187 i x0 x1 x2 x3 x4 x5 x6 = x2 := (rereads _).trans (ld_whole x2)

theorem y3_eq : Gen.k0_pay188 i x0 x1 x2 x3 x4 x5 x6 = x3 := (rereads _).trans (ld_whole x3)

theorem y4_eq : Gen.k0_pay189 i x0 x1 x2 x3 x4 x5 x6 = x4 := (rereads _).trans (ld_whole x4)

theorem y5_eq : Gen.k0_pay88 (F := Ideal) (View.ld x5 Gen.r0_0) = x5 := by
  rw [ld_whole]; exact rereads (φ := .bf16) x5

theorem y6_eq : Gen.k0_pay87 (F := Ideal) (View.ld x6 Gen.r0_0) = x6 := by
  rw [ld_whole]; exact rereads (φ := .f32) x6

/-- A head's columns of a block. -/
def hd (x : S128x768.Idx → EReal) (n : Fin 6) (h : Fin 2) (a : Fin 128) (c : Fin 64) : EReal :=
  x (ix2 a (colOf n (laneOf h c)))

/-- A head's columns of two blocks, one after the other. -/
def hdk (x x' : S128x768.Idx → EReal) (n : Fin 6) (h : Fin 2) (j : Fin 256) (c : Fin 64) : EReal :=
  if hj : j.val < 128 then hd x n h ⟨j, hj⟩ c else hd x' n h ⟨j - 128, by omega⟩ c

/-- A head's bias at a grid point. -/
def biasK (n : Fin 6) (h : Fin 2) : Fin 128 → Fin 256 → EReal :=
  biasAt (wordK n h) (Gen.k0_pay7 (F := Ideal)) (Gen.k0_pay8 i)

/-- A head's scores at a grid point. -/
def scK (n : Fin 6) (h : Fin 2) : Fin 128 → Fin 256 → EReal := headSc (hd x0 n h) (hdk x1 x2 n h) (biasK i n h)

/-- A head's cotangent of its products, at a grid point. -/
def dsK (n : Fin 6) (h : Fin 2) : Fin 128 → Fin 256 → EReal :=
  headDs (scK i x0 x1 x2 n h) (headDp (hd x5 n h) (hdk x3 x4 n h)) (hd x6 n h)

variable (n : Fin 6) (h : Fin 2)

theorem catV_sl (x x' : FVec Ideal S128x768 .bf16) (j : Fin 256) (c : Fin 64) :
    catV (slV x n) (slV x' n) (ix3 0 j (laneOf h c)) = hdk x x' n h j c := by
  simp only [catV_apply, slV_apply, hdk, hd]

theorem scP_apply (a : Fin 128) (j : Fin 256) : scP i x0 x1 x2 n (ix2 (rowOf h a) j) = scK i x0 x1 x2 n h a j := by
  have e : (wordK n 0 = wordK n 0) := rfl
  rw [scP, scV_apply (wordK n)]
  simp only [scK, headSc, catV_sl, slV_apply, hd, biasK]

theorem dsP_apply (a : Fin 128) (j : Fin 256) :
    dsP i x0 x1 x2 x3 x4 x5 x6 n (ix3 0 (rowOf h a) j) = dsK i x0 x1 x2 x3 x4 x5 x6 n h a j := by
  rw [dsP, dsV_apply]
  simp only [scP_apply, dpV_apply, gV_apply, catV_sl, slV_apply]
  rfl

theorem tree_apply (f : Fin 6 → FVec Ideal S128x128 .bf16) (m : Fin 6) (a l : Fin 128) :
    tree f (ix2 a (colOf m l)) = f m (ix2 a l) := by
  pointwise [tree, padV_apply]
  match m with
  | 0 | 1 | 2 | 3 | 4 | 5 => simp

theorem tree2_apply (f g : Fin 6 → FVec Ideal S128x128 .bf16) (m : Fin 6) (a l : Fin 128) :
    tree2 f g (ix2 a (colOf m l)) = f m (ix2 a l) + g m (ix2 a l) := by
  pointwise [tree2, padV_apply]
  match m with
  | 0 | 1 | 2 | 3 | 4 | 5 => simp

theorem loV_apply (v : FVec Ideal S256x128 .bf16) (a l : Fin 128) : loV v (ix2 a l) = v (ix2 (rowOf 0 a) l) := by
  pointwise [loV]
  congr 2; simp [rowOf]

theorem hiV_apply (v : FVec Ideal S256x128 .bf16) (a l : Fin 128) : hiV v (ix2 a l) = v (ix2 (rowOf 1 a) l) := by
  pointwise [hiV]
  rfl

/-- The queries' gradient. -/
theorem out7_apply (a : Fin 128) (c : Fin 64) :
    Gen.out0_7 i x0 x1 x2 x3 x4 x5 x6 (ix2 a (colOf n (laneOf h c)))
      = ∑ j, dsK i x0 x1 x2 x3 x4 x5 x6 n h a j * hdk x1 x2 n h j c := by
  rw [o7, canon_whole, tree2_apply, y0_eq, y1_eq, y2_eq, y3_eq, y4_eq, y5_eq, y6_eq]
  pointwise [topV_apply, loV_apply, hiV_apply, zb128]
  rcases two_cases h with rfl | rfl
  · simp [dqP, dqV_apply, dsP_apply, catV_sl]
  · simp [dqP, dqV_apply, dsP_apply, catV_sl]

/-- The gradient of the previous block's keys. -/
theorem out8_apply (b : Fin 128) (c : Fin 64) :
    Gen.out0_8 i x0 x1 x2 x3 x4 x5 x6 (ix2 b (colOf n (laneOf h c)))
      = ∑ a, dsK i x0 x1 x2 x3 x4 x5 x6 n h a (rowOf 0 b) * hd x0 n h a c := by
  rw [o8, canon_whole, tree_apply, y0_eq, y1_eq, y2_eq, y3_eq, y4_eq, y5_eq, y6_eq]
  simp only [loV_apply, dkP, dkV_apply, dsP_apply, slV_apply, hd]

/-- The gradient of the block's own keys. -/
theorem out9_apply (b : Fin 128) (c : Fin 64) :
    Gen.out0_9 i x0 x1 x2 x3 x4 x5 x6 (ix2 b (colOf n (laneOf h c)))
      = ∑ a, dsK i x0 x1 x2 x3 x4 x5 x6 n h a (rowOf 1 b) * hd x0 n h a c := by
  rw [o9, canon_whole, tree_apply, y0_eq, y1_eq, y2_eq, y3_eq, y4_eq, y5_eq, y6_eq]
  simp only [hiV_apply, dkP, dkV_apply, dsP_apply, slV_apply, hd]

/-- The gradient of the previous block's values. -/
theorem out10_apply (b : Fin 128) (c : Fin 64) :
    Gen.out0_10 i x0 x1 x2 x3 x4 x5 x6 (ix2 b (colOf n (laneOf h c)))
      = ∑ a, rowP (scK i x0 x1 x2 n h a) (rowOf 0 b) * hd x5 n h a c := by
  rw [o10, canon_whole, tree_apply, y0_eq, y1_eq, y2_eq, y5_eq]
  simp only [loV_apply, dvP, dvV_apply, pV_apply, scP_apply, slV_apply, hd]

/-- The gradient of the block's own values. -/
theorem out11_apply (b : Fin 128) (c : Fin 64) :
    Gen.out0_11 i x0 x1 x2 x3 x4 x5 x6 (ix2 b (colOf n (laneOf h c)))
      = ∑ a, rowP (scK i x0 x1 x2 n h a) (rowOf 1 b) * hd x5 n h a c := by
  rw [o11, canon_whole, tree_apply, y0_eq, y1_eq, y2_eq, y5_eq]
  simp only [hiV_apply, dvP, dvV_apply, pV_apply, scP_apply, slV_apply, hd]

end Outs

end Cert.Attn

end
-- ==== Proof.KMask.lean ====
/- The kernel's bias and mask at an index, against the reference's. -/
module

public import proofs.«01_k».proof.Proof.RefMask
public import proofs.«01_k».proof.Proof.Match

@[expose] public section

set_option maxRecDepth 16384

noncomputable section

namespace Cert.Attn

open Idealize.ShloMosaic Cert.KernelIdeal Cert.KernelIdeal.Gen

theorem pay7_apply (r : Fin 128) (j : Fin 256) : k0_pay7 (F := Ideal) (ix2 r j)
    = FloatOps.sitofp (F := Ideal) .f32 (BitVec.ofNat 32 r + 128#32 - BitVec.ofNat 32 j) := by
  pointwise [k0_pay7]
  rfl

/-- The kernel's flag for the first block of a class. -/
def firstW (g : Fin 32) : BitVec 32 :=
  let v11 : BitVec 32 := Scalar.select (Scalar.cmpi .eq 8#32 0#32) 1#32 8#32
  let v12 : BitVec 32 := Scalar.remsi (BitVec.ofNat 32 g) v11
  let v17 : BitVec 1 := Scalar.andi (Scalar.xori (Scalar.cmpi .slt v12 0#32) (Scalar.cmpi .slt v11 0#32)) (Scalar.cmpi .ne v12 0#32)
  Scalar.extui (Scalar.cmpi .eq (Scalar.select v17 (Scalar.addi v12 v11) v12) 0#32)

theorem firstW_eq : ∀ g : Fin 32, firstW g = if g.val % 8 = 0 then 1#32 else 0#32 := by
  unfold firstW
  decide +kernel

/-- A grid point's number. -/
def gOf (i : grid0.Coords) : Fin 32 := ⟨(i 0).val, (i 0).isLt⟩

theorem pay8_read (i : grid0.Coords) (r : Fin 128) (j : Fin 256) : k0_pay8 i (ix2 r j)
    = IntOp.andi (IntOp.cmpi .sge (BitVec.ofNat 32 j) (BitVec.ofNat 32 r + firstW (gOf i) * (128#32 - BitVec.ofNat 32 r)))
        (IntOp.cmpi .sle (BitVec.ofNat 32 j) (BitVec.ofNat 32 r + 128#32)) := by
  pointwise [k0_pay8]
  rfl

theorem ofNat_toInt {n : Nat} (h : n < 256) : (BitVec.ofNat 32 n).toInt = n := by
  rw [BitVec.toInt_eq_toNat_bmod]
  simp only [BitVec.toNat_ofNat, Int.bmod]
  omega

theorem row_toInt (r : Fin 128) : (BitVec.ofNat 32 r + 128#32).toInt = (r : ℤ) + 128 := by
  have h1 := r.isLt
  rw [BitVec.toInt_eq_toNat_bmod]
  simp only [BitVec.toNat_add, BitVec.toNat_ofNat, Int.bmod]
  omega

theorem first_toInt (g : Fin 32) (r : Fin 128) : (BitVec.ofNat 32 r + firstW g * (128#32 - BitVec.ofNat 32 r)).toInt
    = if g.val % 8 = 0 then 128 else (r : ℤ) := by
  have h1 := r.isLt
  rw [firstW_eq]
  split
  · rw [BitVec.toInt_eq_toNat_bmod]
    simp only [BitVec.toNat_add, BitVec.toNat_sub, BitVec.toNat_mul, BitVec.toNat_ofNat, Int.bmod]
    omega
  · rw [BitVec.zero_mul, BitVec.add_zero]
    exact ofNat_toInt (by omega)

/-- The kernel's mask at a grid point lets through what the window of its block sees. -/
theorem pay8_apply (i : grid0.Coords) (r : Fin 128) (j : Fin 256) :
    k0_pay8 i (ix2 r j) = BitVec.ofBool (decide (Seen ((i 0).val % 8) r j)) := by
  rw [pay8_read, sge_eq, sle_eq, andi_bool, first_toInt, row_toInt, ofNat_toInt j.isLt,
    ← Bool.decide_and]
  congr 1
  refine decide_eq_decide.mpr ?_
  unfold Seen
  have := r.isLt; have := j.isLt
  show (if (i 0).val % 8 = 0 then (128 : ℤ) else r) ≤ j ∧ _ ↔ _
  split <;> omega

theorem sitofp_eq (x : BitVec 32) : FloatOps.sitofp (F := Ideal) .f32 x = ((x.toInt : ℝ) : EReal) := rfl

/-- The kernel's slope words are the reference's slopes for neighbours at distance four, negated. -/
theorem wordK_eq (n : Fin 6) (h : Fin 2) :
    Ideal.ofBits .f32 (wordK n h) = ((-4 * slopeR ⟨2 * n + h, by omega⟩ : ℝ) : EReal) := by
  match n, h with
  | 0, 0 | 0, 1 | 1, 0 | 1, 1 | 2, 0 | 2, 1 | 3, 0 | 3, 1 | 4, 0 | 4, 1 | 5, 0 | 5, 1 =>
    simp [wordK, Ideal.ofBits, Ideal.ieee, slopeR, -EReal.coe_mul]; norm_num

/-- The two biases are one number. -/
theorem bias_eq (n : Fin 6) (h : Fin 2) (r : Fin 128) (j : Fin 256) :
    Ideal.ofBits .f32 (wordK n h) * k0_pay7 (F := Ideal) (ix2 r j)
      = Cert.ReferenceIdeal.Read.val_main_v88 (F := Ideal) (ix3 ⟨2 * n + h, by omega⟩ r j) := by
  rw [v88_apply, v18_apply, pay7_apply, sitofp_eq, sitofp_eq, dist4_toInt, dist_toInt, wordK_eq, ← EReal.coe_neg,
    ← EReal.coe_mul, ← EReal.coe_mul]
  congr 1
  push_cast
  ring

end Cert.Attn

end
-- ==== Proof.RefOut.lean ====
/- The reference's results at an index. -/
module

public import proofs.«01_k».proof.Proof.Gen.ReferenceIdeal.Read
public import proofs.«01_k».proof.Proof.Row

@[expose] public section

set_option maxRecDepth 16384

noncomputable section

namespace Cert.Attn

open Idealize.ShloMosaic Cert.ReferenceIdeal Cert.ReferenceIdeal.Read

section

variable (x0 x1 x2 x3 : FVec Ideal S4096x768 .bf16) (x4 : FVec Ideal S4096x768 .f32)
  (z : Fin 4) (b : Fin 8) (h : Fin 12) (r : Fin 128) (c : Fin 64)

theorem v212_read (s : Fin 4096) (l : Fin 768) : val_main_v212 (F := Ideal) x0 x1 x2 x3 x4 (ix2 s l)
    = val_main_v205 (F := Ideal) x0 x1 x2 x3 x4 (ix4 ⟨s % 4, by omega⟩ ⟨s / 4, by omega⟩ ⟨l / 64, by omega⟩ ⟨l % 64, by omega⟩) := by
  pointwise [val_main_v212, val_main_v211, val_main_v208, val_main_v207, val_main_v206]

theorem v205_read (n : Fin 1024) : val_main_v205 (F := Ideal) x0 x1 x2 x3 x4 (ix4 z n h c)
    = val_main_v178 (F := Ideal) x0 x1 x2 x3 x4 (ix5 z ⟨n / 128, by omega⟩ h ⟨n % 128, by omega⟩ c) := by
  pointwise [val_main_v205, val_main_call7_v0, val_main_v196, val_main_v179]

theorem v213_read (s : Fin 4096) (l : Fin 768) : val_main_v213 (F := Ideal) x0 x1 x2 x3 x4 (ix2 s l)
    = val_main_v195 (F := Ideal) x0 x1 x2 x3 x4 (ix4 ⟨s % 4, by omega⟩ ⟨s / 4, by omega⟩ ⟨l / 64, by omega⟩ ⟨l % 64, by omega⟩) := by
  pointwise [val_main_v213, val_main_v210, val_main_v204, val_main_v203, val_main_v202, val_main_v201, val_main_call6_v0]
  rw [dif_pos (by omega)]

theorem v195_read (n : Fin 1024) : val_main_v195 (F := Ideal) x0 x1 x2 x3 x4 (ix4 z n h c)
    = val_main_v176 (F := Ideal) x0 x1 x2 x3 x4 (ix5 z ⟨n / 128, by omega⟩ h ⟨128 + n % 128, by omega⟩ c)
      + if hn : 128 + n.val < 1024 then
          val_main_v176 (F := Ideal) x0 x1 x2 x3 x4 (ix5 z ⟨(128 + n) / 128, by omega⟩ h ⟨(128 + n) % 128, by omega⟩ c)
        else 0 := by
  pointwise [val_main_v195, val_main_v194, val_main_v192, val_main_v191, val_main_v190, val_main_v189, val_main_v188, val_main_v177, val_main_cst_38]

theorem v187_read (n : Fin 1024) : val_main_v187 (F := Ideal) x0 x1 x3 (ix4 z n h c)
    = val_main_v149 (F := Ideal) x0 x1 x3 (ix5 z ⟨n / 128, by omega⟩ h c ⟨128 + n % 128, by omega⟩)
      + if hn : 128 + n.val < 1024 then
          val_main_v149 (F := Ideal) x0 x1 x3 (ix5 z ⟨(128 + n) / 128, by omega⟩ h c ⟨(128 + n) % 128, by omega⟩)
        else 0 := by
  pointwise [val_main_v187, val_main_v186, val_main_v184, val_main_v183, val_main_v182, val_main_v181, val_main_v180, val_main_v150, val_main_cst_37]

theorem v214_read (s : Fin 4096) (l : Fin 768) : val_main_v214 (F := Ideal) x0 x1 x3 (ix2 s l)
    = val_main_v187 (F := Ideal) x0 x1 x3 (ix4 ⟨s % 4, by omega⟩ ⟨s / 4, by omega⟩ ⟨l / 64, by omega⟩ ⟨l % 64, by omega⟩) := by
  pointwise [val_main_v214, val_main_v209, val_main_v200, val_main_v199, val_main_v198, val_main_v197, val_main_call5_v0]
  rw [dif_pos (by omega)]

end

end Cert.Attn

end
-- ==== Proof.RefRow.lean ====
/- The reference's softmax rows and their gradients at an index. -/
module

public import proofs.«01_k».proof.Proof.Gen.ReferenceIdeal.Read
public import proofs.«01_k».proof.Proof.Row

@[expose] public section

set_option maxRecDepth 16384

noncomputable section

namespace Cert.Attn

open Idealize.ShloMosaic Cert.ReferenceIdeal Cert.ReferenceIdeal.Read

section

variable (x0 x1 x2 x3 : FVec Ideal S4096x768 .bf16) (x4 : FVec Ideal S4096x768 .f32)
  (z : Fin 4) (b : Fin 8) (h : Fin 12) (r : Fin 128) (j : Fin 256)

/-- A row of the reference's scores. -/
def sR (j : Fin 256) : EReal := val_main_v93_0 (F := Ideal) x0 x1 (ix5 z b h r j)

theorem v48_apply : val_main_v48 (F := Ideal) x0 x1 (ix5 z b h r j)
    = (∑ c, val_main_v31 (F := Ideal) x0 (ix5 z b r h c) * val_main_v38 (F := Ideal) x1 (ix5 z b j h c))
      * Ideal.ofBits .f32 0x3E000000#32 := by
  pointwise [val_main_v48, val_main_v47, val_main_v46, val_main_cst_17]

theorem max_wordR : Ideal.ofBits .f32 0xFF800000#32 = ⊥ := by
  simp [Ideal.ofBits, Ideal.ieee]

theorem v94_apply : val_main_v94 (F := Ideal) x0 x1 (ix4 z b h r) = rowMax (sR x0 x1 z b h r) := by
  pointwise [val_main_v94, val_main_cst_26]
  rw [max_wordR]; rfl

theorem uitofp_one : (FloatOps.uitofp (F := Ideal) .f32 (BitVec.ofBool true) : EReal) = 1 := by
  show (((BitVec.ofBool true).toNat : ℝ) : EReal) = 1
  rw [show (BitVec.ofBool true).toNat = 1 from by decide]; norm_num

theorem uitofp_zero : (FloatOps.uitofp (F := Ideal) .f32 (BitVec.ofBool false) : EReal) = 0 := by
  show (((BitVec.ofBool false).toNat : ℝ) : EReal) = 0
  rw [show (BitVec.ofBool false).toNat = 0 from by decide]; norm_num

theorem v98_apply : val_main_v98 (F := Ideal) x0 x1 (ix5 z b h r j) = rowInd (sR x0 x1 z b h r) j := by
  pointwise [val_main_v98, val_main_v97, val_main_v96, val_main_v95, v94_apply]
  show FloatOps.uitofp (F := Ideal) .f32 (BitVec.ofBool (decide (sR x0 x1 z b h r j = rowMax (sR x0 x1 z b h r)))) = _
  rw [rowInd]
  split
  · next e => rw [decide_eq_true e]; exact uitofp_one
  · next e => rw [decide_eq_false e]; exact uitofp_zero

theorem v99_apply : val_main_v99 (F := Ideal) x0 x1 (ix4 z b h r) = ∑ j, rowInd (sR x0 x1 z b h r) j := by
  pointwise [val_main_v99, v98_apply, val_main_cst_27]

theorem v103_apply : val_main_v103 (F := Ideal) x0 x1 (ix5 z b h r j) = rowExp (sR x0 x1 z b h r) j := by
  pointwise [val_main_v103, val_main_v102, val_main_v101, val_main_v100, v94_apply]
  rfl

theorem v104_apply : val_main_v104 (F := Ideal) x0 x1 (ix4 z b h r) = rowSum (sR x0 x1 z b h r) := by
  pointwise [val_main_v104, v103_apply, val_main_cst_28]
  simp [rowSum]

theorem v105_apply (o : Fin 1) : val_main_v105 (F := Ideal) x0 x1 (ix5 z b h r o) = rowSum (sR x0 x1 z b h r) := by
  pointwise [val_main_v105, v104_apply]

theorem v107_apply : val_main_v107 (F := Ideal) x0 x1 (ix5 z b h r j) = rowP (sR x0 x1 z b h r) j := by
  pointwise [val_main_v107, val_main_v106, v103_apply, v105_apply]
  rfl

/-- A row of the cotangent of the reference's weights. -/
def dpR (j : Fin 256) : EReal := val_main_v148 (F := Ideal) x2 x3 (ix5 z b h r j)

/-- The cotangent of a row's log-sum-exp in the reference. -/
def gR : EReal := val_main_v145 (F := Ideal) x4 (ix5 z b h r 0)

theorem v148_apply : dpR x2 x3 z b h r j
    = ∑ c, val_main_v147 (F := Ideal) x3 (ix5 z b h c r) * val_main_v45 (F := Ideal) x2 (ix5 z b j h c) := by
  pointwise [dpR, val_main_v148]

theorem v157_apply : val_main_v157 (F := Ideal) x0 x1 x2 x3 x4 (ix5 z b h r 0)
    = rowDl (sR x0 x1 z b h r) (dpR x2 x3 z b h r) (gR x4 z b h r) := by
  pointwise [val_main_v157, val_main_v156, val_main_v155, val_main_v154, val_main_v153, val_main_v152, val_main_v151,
    val_main_v146, val_main_v110, val_main_v109, val_main_v108, v105_apply, v103_apply, val_main_cst_29, val_main_cst_32]
  simp [rowDl, dpR, gR]

theorem v163_apply : val_main_v163 (F := Ideal) x0 x1 x2 x3 x4 (ix5 z b h r j)
    = rowDt (sR x0 x1 z b h r) (dpR x2 x3 z b h r) (gR x4 z b h r) j := by
  pointwise [val_main_v163, val_main_v162, val_main_v161, val_main_v160, val_main_v159, val_main_v158, v105_apply, v103_apply, val_main_cst_33]
  simp [rowDt, dpR, v157_apply]

theorem v168_apply : val_main_v168 (F := Ideal) x0 x1 x2 x3 x4 (ix4 z b h r)
    = gR x4 z b h r + ∑ j, -(rowDt (sR x0 x1 z b h r) (dpR x2 x3 z b h r) (gR x4 z b h r) j) := by
  pointwise [val_main_v168, val_main_v167, val_main_v166, val_main_v165, val_main_v164, v163_apply, val_main_cst_34, val_main_cst_35]
  simp [gR]

theorem v172_apply : val_main_v172 (F := Ideal) x0 x1 x2 x3 x4 (ix5 z b h r j)
    = rowDs (sR x0 x1 z b h r) (dpR x2 x3 z b h r) (gR x4 z b h r) j := by
  pointwise [val_main_v172, val_main_v171, val_main_v170, val_main_v169, v163_apply, v168_apply, v98_apply, v99_apply]
  rfl

theorem v175_apply : val_main_v175 (F := Ideal) x0 x1 x2 x3 x4 (ix5 z b h r j)
    = Scalar.select (val_main_v93_1 (F := Ideal) (ix5 z b h r j))
        (rowDs (sR x0 x1 z b h r) (dpR x2 x3 z b h r) (gR x4 z b h r) j) 0 * Ideal.ofBits .f32 0x3E000000#32 := by
  pointwise [val_main_v175, val_main_v174, val_main_v173, v172_apply, val_main_call4_v0, val_main_call4_cst, val_main_cst_36]

theorem v178_apply (c : Fin 64) : val_main_v178 (F := Ideal) x0 x1 x2 x3 x4 (ix5 z b h r c)
    = ∑ j, val_main_v175 (F := Ideal) x0 x1 x2 x3 x4 (ix5 z b h r j) * val_main_v38 (F := Ideal) x1 (ix5 z b j h c) := by
  pointwise [val_main_v178]

theorem v176_apply (c : Fin 64) : val_main_v176 (F := Ideal) x0 x1 x2 x3 x4 (ix5 z b h j c)
    = ∑ r, val_main_v175 (F := Ideal) x0 x1 x2 x3 x4 (ix5 z b h r j) * val_main_v31 (F := Ideal) x0 (ix5 z b r h c) := by
  pointwise [val_main_v176]

theorem v149_apply (c : Fin 64) : val_main_v149 (F := Ideal) x0 x1 x3 (ix5 z b h c j)
    = ∑ r, val_main_v147 (F := Ideal) x3 (ix5 z b h c r) * rowP (sR x0 x1 z b h r) j := by
  pointwise [val_main_v149, v107_apply]

end

end Cert.Attn

end
-- ==== Proof.RefIn.lean ====
/- The reference's inputs, split into classes, blocks and heads, read at an index. -/
module

public import proofs.«01_k».proof.Proof.Gen.ReferenceIdeal.Read
public import proofs.«01_k».proof.Proof.Row

@[expose] public section

set_option maxRecDepth 16384

noncomputable section

namespace Cert.Attn

open Idealize.ShloMosaic Cert.ReferenceIdeal Cert.ReferenceIdeal.Read

/-- The row of place `r` of block `b` of class `z`. -/
def rowI (z : Fin 4) (b : Fin 8) (r : Fin 128) : Fin 4096 := ⟨(b * 128 + r) * 4 + z, by omega⟩

/-- The column of channel `c` of head `h`. -/
def colI (h : Fin 12) (c : Fin 64) : Fin 768 := ⟨h * 64 + c, by omega⟩

theorem v22_apply (x0 : FVec Ideal S4096x768 .bf16) (z : Fin 4) (n : Fin 1024) (h : Fin 12) (c : Fin 64) :
    val_main_v22_0 (F := Ideal) x0 (ix4 z n h c) = x0 (ix2 ⟨n * 4 + z, by omega⟩ (colI h c)) := by
  pointwise [val_main_v22_0, val_main_v21, val_main_v20, val_main_v19, val_main_v3, val_main_v0]
  rfl

theorem v26_apply (x0 : FVec Ideal S4096x768 .bf16) (z : Fin 4) (n : Fin 1024) (h : Fin 12) (c : Fin 64) :
    val_main_v26_0 (F := Ideal) x0 (ix4 z n h c) = x0 (ix2 ⟨n * 4 + z, by omega⟩ (colI h c)) := by
  pointwise [val_main_v26_0, val_main_v25, val_main_v24, val_main_v23, val_main_v4, val_main_v1]
  rfl

theorem v30_apply (x0 : FVec Ideal S4096x768 .bf16) (z : Fin 4) (n : Fin 1024) (h : Fin 12) (c : Fin 64) :
    val_main_v30_0 (F := Ideal) x0 (ix4 z n h c) = x0 (ix2 ⟨n * 4 + z, by omega⟩ (colI h c)) := by
  pointwise [val_main_v30_0, val_main_v29, val_main_v28, val_main_v27, val_main_v5, val_main_v2]
  rfl

/-- A head's queries in a block, from the whole array. -/
def qR (x : S4096x768.Idx → EReal) (z : Fin 4) (b : Fin 8) (h : Fin 12) (r : Fin 128) (c : Fin 64) : EReal :=
  x (ix2 (rowI z b r) (colI h c))

/-- A head's keys for a block: those of the block before it (zeros before the first), then its own. -/
def kR (x : S4096x768.Idx → EReal) (z : Fin 4) (b : Fin 8) (h : Fin 12) (j : Fin 256) (c : Fin 64) : EReal :=
  if hj : j.val < 128 then (if b.val = 0 then 0 else qR x z ⟨b - 1, by omega⟩ h ⟨j, hj⟩ c)
  else qR x z b h ⟨j - 128, by omega⟩ c

theorem v31_apply (x0 : FVec Ideal S4096x768 .bf16) (z : Fin 4) (b : Fin 8) (r : Fin 128) (h : Fin 12) (c : Fin 64) :
    val_main_v31 (F := Ideal) x0 (ix5 z b r h c) = qR x0 z b h r c := by
  pointwise [val_main_v31, v22_apply]
  rfl

theorem zero_wordR : Ideal.ofBits .f32 0x00000000#32 = 0 := by
  simp [Ideal.ofBits, Ideal.ieee]

theorem v38_apply (x0 : FVec Ideal S4096x768 .bf16) (z : Fin 4) (b : Fin 8) (j : Fin 256) (h : Fin 12) (c : Fin 64) :
    val_main_v38 (F := Ideal) x0 (ix5 z b j h c) = kR x0 z b h j c := by
  pointwise [val_main_v38, val_main_v36, val_main_v37, val_main_v35, val_main_v33, val_main_v32, val_main_cst_13, v26_apply]
  unfold kR qR rowI
  by_cases hj : j.val < 128
  · refine (dif_pos hj).trans (Eq.trans ?_ (dif_pos hj).symm)
    by_cases hb : b.val = 0
    · exact (dif_pos (by omega)).trans (if_pos hb).symm
    · refine (dif_neg (by omega)).trans (Eq.trans ?_ (if_neg hb).symm)
      exact congrArg (fun i => x0 (ix2 i (colI h c))) (Fin.ext (by simp only; omega))
  · refine (dif_neg hj).trans (Eq.trans ?_ (dif_neg hj).symm)
    rfl

theorem v45_apply (x0 : FVec Ideal S4096x768 .bf16) (z : Fin 4) (b : Fin 8) (j : Fin 256) (h : Fin 12) (c : Fin 64) :
    val_main_v45 (F := Ideal) x0 (ix5 z b j h c) = kR x0 z b h j c := by
  pointwise [val_main_v45, val_main_v43, val_main_v44, val_main_v42, val_main_v40, val_main_v39, val_main_cst_15, v30_apply]
  unfold kR qR rowI
  by_cases hj : j.val < 128
  · refine (dif_pos hj).trans (Eq.trans ?_ (dif_pos hj).symm)
    by_cases hb : b.val = 0
    · exact (dif_pos (by omega)).trans (if_pos hb).symm
    · refine (dif_neg (by omega)).trans (Eq.trans ?_ (if_neg hb).symm)
      exact congrArg (fun i => x0 (ix2 i (colI h c))) (Fin.ext (by simp only; omega))
  · refine (dif_neg hj).trans (Eq.trans ?_ (dif_neg hj).symm)
    rfl

theorem v147_apply (x0 : FVec Ideal S4096x768 .bf16) (z : Fin 4) (b : Fin 8) (r : Fin 128) (h : Fin 12) (c : Fin 64) :
    val_main_v147 (F := Ideal) x0 (ix5 z b h c r) = qR x0 z b h r c := by
  pointwise [val_main_v147, val_main_v144, val_main_v143, val_main_v142, val_main_v141, val_main_v135, val_main_v129]
  rfl

/-- A host sum over the first (unit) and the last axis of four. -/
theorem hostSum_first_last {m n k : Nat} (hr : (⟨4, ![1, m, n, k]⟩ : Shape).ReducesTo [0, 3] ⟨2, ![m, n]⟩)
    (v : (⟨4, ![1, m, n, k]⟩ : Shape).Idx → EReal) (init : EReal) (a : Fin m) (b : Fin n) :
    Ideal.hostReduceAdd hr v init (ix2 a b) = init + ∑ c : Fin k, v (ix4 0 a b c) := by
  refine congrArg (init + ·) (Finset.sum_filter_eq_sum_of_fiber _ (fun c : Fin k => ix4 (0 : Fin 1) a b c)
    (fun _ _ e => congrFun e 3) (fun i => ?_) v)
  constructor
  · intro e
    refine ⟨i 3, ?_⟩
    funext d; apply Fin.ext
    match d with
    | ⟨0, _⟩ => exact (Nat.lt_one_iff.mp (i 0).isLt).symm
    | ⟨1, _⟩ => exact (congrArg Fin.val (congrFun e 0)).symm
    | ⟨2, _⟩ => exact (congrArg Fin.val (congrFun e 1)).symm
    | ⟨3, _⟩ => rfl
  · rintro ⟨c, rfl⟩
    funext d; apply Fin.ext
    match d with
    | ⟨0, _⟩ => rfl
    | ⟨1, _⟩ => rfl

theorem v131_apply (x4 : FVec Ideal S4096x768 .f32) (s : Fin 4096) (h : Fin 12) :
    val_main_v131 (F := Ideal) x4 (ix2 s h) = ∑ c, x4 (ix2 s (colI h c)) := by
  refine (hostSum_first_last Gen.reducesTo_S1x4096x12x64_S4096x12_d0_3 (val_main_v130 (F := Ideal) x4)
    (val_main_cst_30 (F := Ideal) (Shape.Idx.first Gen.h_S_)) s h).trans ?_
  pointwise [val_main_v130, val_main_cst_30]
  rfl

theorem v133_apply (x4 : FVec Ideal S4096x768 .f32) (s : Fin 4096) (h : Fin 12) :
    val_main_v133 (F := Ideal) x4 (ix2 s h) = ∑ c, x4 (ix2 s (colI h c)) := by
  refine (hostSum_first_last Gen.reducesTo_S1x4096x12x1_S4096x12_d0_3 (val_main_v132 (F := Ideal) x4)
    (val_main_cst_31 (F := Ideal) (Shape.Idx.first Gen.h_S_)) s h).trans ?_
  pointwise [val_main_v132, val_main_cst_31]
  rw [Fin.sum_univ_one]
  exact v131_apply x4 s h

theorem v145_apply (x4 : FVec Ideal S4096x768 .f32) (z : Fin 4) (b : Fin 8) (r : Fin 128) (h : Fin 12) :
    val_main_v145 (F := Ideal) x4 (ix5 z b h r 0) = ∑ c, qR x4 z b h r c := by
  pointwise [val_main_v145, val_main_v140, val_main_v139, val_main_v138, val_main_v137, val_main_v136, val_main_v134, v133_apply]
  rfl

end Cert.Attn

end
-- ==== Proof.KArr.lean ====
/- The kernel's arrays after the region, block by block. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Attn

open Idealize.ShloMosaic Idealize.ShloMosaic.TcCoe Cert.KernelIdeal Cert.KernelIdeal.Gen

variable (m : (ℓ : Loc nD τ sig) → Buf (Elt Ideal) ℓ) (c : Dev nD)

theorem idx_own : ∀ t : Fin cfg0.N,
    win0_0.index t = ![t.val, 0] ∧ win0_2.index t = ![t.val, 0] ∧ win0_4.index t = ![t.val, 0]
      ∧ win0_5.index t = ![t.val, 0] ∧ win0_6.index t = ![t.val, 0] ∧ win0_7.index t = ![t.val, 0]
      ∧ win0_9.index t = ![t.val, 0] ∧ win0_11.index t = ![t.val, 0] :=
  (by decide +kernel : ∀ t : Fin grid0.N, _)

theorem idx_prev : ∀ t : Fin cfg0.N,
    win0_1.index t = ![t.val - 1, 0] ∧ win0_3.index t = ![t.val - 1, 0] ∧ win0_8.index t = ![t.val - 1, 0]
      ∧ win0_10.index t = ![t.val - 1, 0] :=
  (by decide +kernel : ∀ t : Fin grid0.N, _)

theorem flush_prev : ∀ t : Fin cfg0.N, ((cfg0.win 8).flush t = true → 0 < t.val) ∧ ((cfg0.win 10).flush t = true → 0 < t.val) :=
  (by decide +kernel : ∀ t : Fin grid0.N, _)

theorem coords_eq : ∀ t : Fin cfg0.N, ((grid0.coords t) 0).val = t.val :=
  (by decide +kernel : ∀ t : Fin grid0.N, _)

/-- The grid point whose own block holds a row. -/
def ptOf (s : Fin 4096) : Fin cfg0.N := ⟨s / 128, show s.val / 128 < 32 by omega⟩

/-- The grid point whose previous block holds a row. -/
def ptNext (s : Fin 4096) (h : s.val < 3968) : Fin cfg0.N := ⟨s / 128 + 1, show s.val / 128 + 1 < 32 by omega⟩

/-- A row's place in its block. -/
def inBlk (s : Fin 4096) : Fin 128 := ⟨s % 128, by omega⟩

theorem pt_lt (t : Fin cfg0.N) : t.val < 32 := t.isLt

/-- A point's own block starts at 128 times its number. -/
def ownRow (t : Fin cfg0.N) (a : Fin 128) : Fin 4096 := ⟨t * 128 + a, by have := pt_lt t; omega⟩

def prevRow (t : Fin cfg0.N) (a : Fin 128) : Fin 4096 := ⟨(t - 1) * 128 + a, by have := pt_lt t; omega⟩

theorem emb0 (t : Fin cfg0.N) (y : S128x768.Idx) : ((cfg0.win 0).blk t).view.emb y = ix2 (ownRow t (y 0)) (y 1) := by
  have e := (idx_own t).1
  funext a; apply Fin.ext
  fin_cases a
  · blk_simp [e]; rfl
  · blk_simp [e]; rfl

theorem emb1 (t : Fin cfg0.N) (y : S128x768.Idx) : ((cfg0.win 1).blk t).view.emb y = ix2 (prevRow t (y 0)) (y 1) := by
  have e := (idx_prev t).1
  funext a; apply Fin.ext
  fin_cases a
  · blk_simp [e]; rfl
  · blk_simp [e]; rfl

theorem emb2 (t : Fin cfg0.N) (y : S128x768.Idx) : ((cfg0.win 2).blk t).view.emb y = ix2 (ownRow t (y 0)) (y 1) := by
  have e := (idx_own t).2.1
  funext a; apply Fin.ext
  fin_cases a
  · blk_simp [e]; rfl
  · blk_simp [e]; rfl

theorem emb3 (t : Fin cfg0.N) (y : S128x768.Idx) : ((cfg0.win 3).blk t).view.emb y = ix2 (prevRow t (y 0)) (y 1) := by
  have e := (idx_prev t).2.1
  funext a; apply Fin.ext
  fin_cases a
  · blk_simp [e]; rfl
  · blk_simp [e]; rfl

theorem emb4 (t : Fin cfg0.N) (y : S128x768.Idx) : ((cfg0.win 4).blk t).view.emb y = ix2 (ownRow t (y 0)) (y 1) := by
  have e := (idx_own t).2.2.1
  funext a; apply Fin.ext
  fin_cases a
  · blk_simp [e]; rfl
  · blk_simp [e]; rfl

theorem emb5 (t : Fin cfg0.N) (y : S128x768.Idx) : ((cfg0.win 5).blk t).view.emb y = ix2 (ownRow t (y 0)) (y 1) := by
  have e := (idx_own t).2.2.2.1
  funext a; apply Fin.ext
  fin_cases a
  · blk_simp [e]; rfl
  · blk_simp [e]; rfl

theorem emb6 (t : Fin cfg0.N) (y : S128x768.Idx) : ((cfg0.win 6).blk t).view.emb y = ix2 (ownRow t (y 0)) (y 1) := by
  have e := (idx_own t).2.2.2.2.1
  funext a; apply Fin.ext
  fin_cases a
  · blk_simp [e]; rfl
  · blk_simp [e]; rfl

theorem emb7 (t : Fin cfg0.N) (y : S128x768.Idx) : ((cfg0.win 7).blk t).view.emb y = ix2 (ownRow t (y 0)) (y 1) := by
  have e := (idx_own t).2.2.2.2.2.1
  funext a; apply Fin.ext
  fin_cases a
  · blk_simp [e]; rfl
  · blk_simp [e]; rfl

theorem emb8 (t : Fin cfg0.N) (y : S128x768.Idx) : ((cfg0.win 8).blk t).view.emb y = ix2 (prevRow t (y 0)) (y 1) := by
  have e := (idx_prev t).2.2.1
  funext a; apply Fin.ext
  fin_cases a
  · blk_simp [e]; rfl
  · blk_simp [e]; rfl

theorem emb9 (t : Fin cfg0.N) (y : S128x768.Idx) : ((cfg0.win 9).blk t).view.emb y = ix2 (ownRow t (y 0)) (y 1) := by
  have e := (idx_own t).2.2.2.2.2.2.1
  funext a; apply Fin.ext
  fin_cases a
  · blk_simp [e]; rfl
  · blk_simp [e]; rfl

theorem emb10 (t : Fin cfg0.N) (y : S128x768.Idx) : ((cfg0.win 10).blk t).view.emb y = ix2 (prevRow t (y 0)) (y 1) := by
  have e := (idx_prev t).2.2.2
  funext a; apply Fin.ext
  fin_cases a
  · blk_simp [e]; rfl
  · blk_simp [e]; rfl

theorem emb11 (t : Fin cfg0.N) (y : S128x768.Idx) : ((cfg0.win 11).blk t).view.emb y = ix2 (ownRow t (y 0)) (y 1) := by
  have e := (idx_own t).2.2.2.2.2.2.2
  funext a; apply Fin.ext
  fin_cases a
  · blk_simp [e]; rfl
  · blk_simp [e]; rfl

/-- A family of blocks, one per point, read at the row and the place of a point's own index. -/
theorem own_back (f : Fin cfg0.N → S128x768.Idx → EReal) (t : Fin cfg0.N) (y : S128x768.Idx) :
    f t y = f (ptOf (ownRow t (y 0))) (ix2 (inBlk (ownRow t (y 0))) (y 1)) := by
  have e1 : ptOf (ownRow t (y 0)) = t := by
    apply Fin.ext; have : (y 0).val < 128 := (y 0).isLt
    show (t.val * 128 + (y 0).val) / 128 = t.val; omega
  have e2 : inBlk (ownRow t (y 0)) = y 0 := by
    apply Fin.ext; have : (y 0).val < 128 := (y 0).isLt
    show (t.val * 128 + (y 0).val) % 128 = (y 0).val; omega
  rw [e1, e2]
  congr 1
  funext a
  match a with
  | ⟨0, _⟩ => rfl
  | ⟨1, _⟩ => rfl

/-- The same with a point's previous index. -/
theorem prev_back (f : Fin cfg0.N → S128x768.Idx → EReal) (t : Fin cfg0.N) (ht : 0 < t.val) (y : S128x768.Idx) :
    f t y = if h : (prevRow t (y 0)).val < 3968 then f (ptNext (prevRow t (y 0)) h) (ix2 (inBlk (prevRow t (y 0))) (y 1)) else 0 := by
  have hy : (y 0).val < 128 := (y 0).isLt
  have hl := pt_lt t
  have h : (prevRow t (y 0)).val < 3968 := by show (t.val - 1) * 128 + (y 0).val < 3968; omega
  rw [dif_pos h]
  have e1 : ptNext (prevRow t (y 0)) h = t := by
    apply Fin.ext
    show ((t.val - 1) * 128 + (y 0).val) / 128 + 1 = t.val; omega
  have e2 : inBlk (prevRow t (y 0)) = y 0 := by
    apply Fin.ext
    show ((t.val - 1) * 128 + (y 0).val) % 128 = (y 0).val; omega
  rw [e1, e2]
  congr 1
  funext a
  match a with
  | ⟨0, _⟩ => rfl
  | ⟨1, _⟩ => rfl

def G7 : S4096x768.Idx → EReal := fun i => (dats m 0 c).after 7 (ptOf (i 0)) (ix2 (inBlk (i 0)) (i 1))

theorem arr7 : (dats m 0 c).arrAt 7 cfg0.N = G7 m c := by
  refine (dats m 0 c).arrAt_eq_of_covers 7 _ (by decide +kernel) fun t hf y => ?_
  rw [emb7 t y]
  exact own_back (fun t y => (dats m 0 c).after 7 t y) t y

def G9 : S4096x768.Idx → EReal := fun i => (dats m 0 c).after 9 (ptOf (i 0)) (ix2 (inBlk (i 0)) (i 1))

theorem arr9 : (dats m 0 c).arrAt 9 cfg0.N = G9 m c := by
  refine (dats m 0 c).arrAt_eq_of_covers 9 _ (by decide +kernel) fun t hf y => ?_
  rw [emb9 t y]
  exact own_back (fun t y => (dats m 0 c).after 9 t y) t y

def G11 : S4096x768.Idx → EReal := fun i => (dats m 0 c).after 11 (ptOf (i 0)) (ix2 (inBlk (i 0)) (i 1))

theorem arr11 : (dats m 0 c).arrAt 11 cfg0.N = G11 m c := by
  refine (dats m 0 c).arrAt_eq_of_covers 11 _ (by decide +kernel) fun t hf y => ?_
  rw [emb11 t y]
  exact own_back (fun t y => (dats m 0 c).after 11 t y) t y

def G8 : S4096x768.Idx → EReal := fun i =>
  if h : (i 0).val < 3968 then (dats m 0 c).after 8 (ptNext (i 0) h) (ix2 (inBlk (i 0)) (i 1)) else 0

theorem arr8 : (dats m 0 c).arrAt 8 cfg0.N = fun i => if (i 0).val < 3968 then G8 m c i else (dats m 0 c).A 8 i := by
  refine (dats m 0 c).arrAt_eq_of_coversWhere 8 _ (fun β => β (0 : Fin _) ≤ 30) (by decide +kernel)
    (fun t hf y => ?_) (fun j => ?_)
  · rw [emb8 t y]
    exact prev_back (fun t y => (dats m 0 c).after 8 t y) t ((flush_prev t).1 hf) y
  · show (j 0).val < 3968 ↔ (j 0).val / 128 ≤ 30
    omega

def G10 : S4096x768.Idx → EReal := fun i =>
  if h : (i 0).val < 3968 then (dats m 0 c).after 10 (ptNext (i 0) h) (ix2 (inBlk (i 0)) (i 1)) else 0

theorem arr10 : (dats m 0 c).arrAt 10 cfg0.N = fun i => if (i 0).val < 3968 then G10 m c i else (dats m 0 c).A 10 i := by
  refine (dats m 0 c).arrAt_eq_of_coversWhere 10 _ (fun β => β (0 : Fin _) ≤ 30) (by decide +kernel)
    (fun t hf y => ?_) (fun j => ?_)
  · rw [emb10 t y]
    exact prev_back (fun t y => (dats m 0 c).after 10 t y) t ((flush_prev t).2 hf) y
  · show (j 0).val < 3968 ↔ (j 0).val / 128 ≤ 30
    omega

theorem iblk0 (t : Fin cfg0.N) (a : Fin 128) (l : Fin 768) :
    iblk m c 0 t (ix2 a l) = V m c main_v2 (ix2 (ownRow t a) l) := by
  show V m c main_v2 (((cfg0.win 0).blk t).view.emb (ix2 a l)) = _
  rw [emb0]; rfl

theorem iblk1 (t : Fin cfg0.N) (a : Fin 128) (l : Fin 768) :
    iblk m c 1 t (ix2 a l) = V m c main_v5 (ix2 (prevRow t a) l) := by
  show V m c main_v5 (((cfg0.win 1).blk t).view.emb (ix2 a l)) = _
  rw [emb1]; rfl

theorem iblk2 (t : Fin cfg0.N) (a : Fin 128) (l : Fin 768) :
    iblk m c 2 t (ix2 a l) = V m c main_v5 (ix2 (ownRow t a) l) := by
  show V m c main_v5 (((cfg0.win 2).blk t).view.emb (ix2 a l)) = _
  rw [emb2]; rfl

theorem iblk3 (t : Fin cfg0.N) (a : Fin 128) (l : Fin 768) :
    iblk m c 3 t (ix2 a l) = V m c main_v8 (ix2 (prevRow t a) l) := by
  show V m c main_v8 (((cfg0.win 3).blk t).view.emb (ix2 a l)) = _
  rw [emb3]; rfl

theorem iblk4 (t : Fin cfg0.N) (a : Fin 128) (l : Fin 768) :
    iblk m c 4 t (ix2 a l) = V m c main_v8 (ix2 (ownRow t a) l) := by
  show V m c main_v8 (((cfg0.win 4).blk t).view.emb (ix2 a l)) = _
  rw [emb4]; rfl

theorem iblk5 (t : Fin cfg0.N) (a : Fin 128) (l : Fin 768) :
    iblk m c 5 t (ix2 a l) = V m c main_v11 (ix2 (ownRow t a) l) := by
  show V m c main_v11 (((cfg0.win 5).blk t).view.emb (ix2 a l)) = _
  rw [emb5]; rfl

theorem iblk6 (t : Fin cfg0.N) (a : Fin 128) (l : Fin 768) :
    iblk m c 6 t (ix2 a l) = V m c main_v14 (ix2 (ownRow t a) l) := by
  show V m c main_v14 (((cfg0.win 6).blk t).view.emb (ix2 a l)) = _
  rw [emb6]; rfl

/-- The sequence row at a place of the class-by-class order. -/
def seqRow (R : Fin 4096) : Fin 4096 := ⟨R % 1024 * 4 + R / 1024, by omega⟩

/-- The kernel's reordering of the rows, read at an index. -/
theorem sub_read (x : S4096x768.Idx → EReal) (R : Fin 4096) (l : Fin 768) :
    shapeCast S4096x768 (transpose S4x1024x768 [1, 0, 2] (shapeCast S1024x4x768 x
      Facts₀.shapeCasts_S4096x768_S1024x4x768) Facts₀.transposes_S1024x4x768_S4x1024x768_1_0_2)
      Facts₀.shapeCasts_S4x1024x768_S4096x768 (ix2 R l) = x (ix2 (seqRow R) l) := by
  pointwise
  refine congrArg x ?_
  rfl

theorem V_main_v2 (R : Fin 4096) (l : Fin 768) :
    V m c main_v2 (ix2 R l) = m ((c : Thread nD τ).loc main_arg0) (ix2 (seqRow R) l) := by
  have e : V m c main_v2 = shapeCast S4096x768 (transpose S4x1024x768 [1, 0, 2] (shapeCast S1024x4x768 (m ((c : Thread nD τ).loc main_arg0))
      Facts₀.shapeCasts_S4096x768_S1024x4x768) Facts₀.transposes_S1024x4x768_S4x1024x768_1_0_2) Facts₀.shapeCasts_S4x1024x768_S4096x768 := by
    show StableHlo.after hostOps0 _ (Proc.devRef .tc main_v2) = _
    after_results
    rfl
  rw [e]
  exact sub_read _ R l

theorem V_main_v5 (R : Fin 4096) (l : Fin 768) :
    V m c main_v5 (ix2 R l) = m ((c : Thread nD τ).loc main_arg1) (ix2 (seqRow R) l) := by
  have e : V m c main_v5 = shapeCast S4096x768 (transpose S4x1024x768 [1, 0, 2] (shapeCast S1024x4x768 (m ((c : Thread nD τ).loc main_arg1))
      Facts₀.shapeCasts_S4096x768_S1024x4x768) Facts₀.transposes_S1024x4x768_S4x1024x768_1_0_2) Facts₀.shapeCasts_S4x1024x768_S4096x768 := by
    show StableHlo.after hostOps0 _ (Proc.devRef .tc main_v5) = _
    after_results
    rfl
  rw [e]
  exact sub_read _ R l

theorem V_main_v8 (R : Fin 4096) (l : Fin 768) :
    V m c main_v8 (ix2 R l) = m ((c : Thread nD τ).loc main_arg2) (ix2 (seqRow R) l) := by
  have e : V m c main_v8 = shapeCast S4096x768 (transpose S4x1024x768 [1, 0, 2] (shapeCast S1024x4x768 (m ((c : Thread nD τ).loc main_arg2))
      Facts₀.shapeCasts_S4096x768_S1024x4x768) Facts₀.transposes_S1024x4x768_S4x1024x768_1_0_2) Facts₀.shapeCasts_S4x1024x768_S4096x768 := by
    show StableHlo.after hostOps0 _ (Proc.devRef .tc main_v8) = _
    after_results
    rfl
  rw [e]
  exact sub_read _ R l

theorem V_main_v11 (R : Fin 4096) (l : Fin 768) :
    V m c main_v11 (ix2 R l) = m ((c : Thread nD τ).loc main_arg3) (ix2 (seqRow R) l) := by
  have e : V m c main_v11 = shapeCast S4096x768 (transpose S4x1024x768 [1, 0, 2] (shapeCast S1024x4x768 (m ((c : Thread nD τ).loc main_arg3))
      Facts₀.shapeCasts_S4096x768_S1024x4x768) Facts₀.transposes_S1024x4x768_S4x1024x768_1_0_2) Facts₀.shapeCasts_S4x1024x768_S4096x768 := by
    show StableHlo.after hostOps0 _ (Proc.devRef .tc main_v11) = _
    after_results
    rfl
  rw [e]
  exact sub_read _ R l

theorem V_main_v14 (R : Fin 4096) (l : Fin 768) :
    V m c main_v14 (ix2 R l) = m ((c : Thread nD τ).loc main_arg4) (ix2 (seqRow R) l) := by
  have e : V m c main_v14 = shapeCast S4096x768 (transpose S4x1024x768 [1, 0, 2] (shapeCast S1024x4x768 (m ((c : Thread nD τ).loc main_arg4))
      Facts₀.shapeCasts_S4096x768_S1024x4x768) Facts₀.transposes_S1024x4x768_S4x1024x768_1_0_2) Facts₀.shapeCasts_S4x1024x768_S4096x768 := by
    show StableHlo.after hostOps0 _ (Proc.devRef .tc main_v14) = _
    after_results
    rfl
  rw [e]
  exact sub_read _ R l

end Cert.Attn

end
-- ==== Proof.Equal.lean ====
/- A grid point's outputs are the reference's gradients for its class and block. -/
module

public import proofs.«01_k».proof.Proof.KMask
public import proofs.«01_k».proof.Proof.RefOut
public import proofs.«01_k».proof.Proof.RefRow
public import proofs.«01_k».proof.Proof.RefIn
public import proofs.«01_k».proof.Proof.KArr

@[expose] public section

set_option maxRecDepth 16384

noncomputable section

namespace Cert.Attn

open Idealize.ShloMosaic Cert.KernelIdeal Cert.KernelIdeal.Gen Cert.ReferenceIdeal.Read

/-- An array whose entries are all finite. -/
def Finite (x : S4096x768.Idx → EReal) : Prop := ∀ i, x i ≠ ⊥ ∧ x i ≠ ⊤

theorem Finite.coe {x : S4096x768.Idx → EReal} (hx : Finite x) (i : S4096x768.Idx) : ∃ y : ℝ, x i = y :=
  ⟨(x i).toReal, (EReal.coe_toReal (hx i).2 (hx i).1).symm⟩

theorem sum_coe (f : Fin 64 → ℝ) : (∑ c, (f c : EReal)) = ((∑ c, f c : ℝ) : EReal) :=
  (map_sum (⟨⟨((↑) : ℝ → EReal), EReal.coe_zero⟩, EReal.coe_add⟩ : ℝ →+ EReal) f Finset.univ).symm

section Block

variable (t : Fin cfg0.N) (i : grid0.Coords)

/-- The residue class of a grid point. -/
def zOf : Fin 4 := ⟨t / 8, by have := pt_lt t; omega⟩

/-- The block of a grid point in its class. -/
def bOf : Fin 8 := ⟨t % 8, by omega⟩

/-- A head of all twelve, from its pair and its place in the pair. -/
def headOf (n : Fin 6) (h : Fin 2) : Fin 12 := ⟨2 * n + h, by omega⟩

theorem ownRow_eq (a : Fin 128) : seqRow (ownRow t a) = rowI (zOf t) (bOf t) a := by
  have := pt_lt t
  apply Fin.ext
  show (t.val * 128 + a.val) % 1024 * 4 + (t.val * 128 + a.val) / 1024 = (t.val % 8 * 128 + a.val) * 4 + t.val / 8
  omega

theorem prevRow_eq (hb : t.val % 8 ≠ 0) (a : Fin 128) :
    seqRow (prevRow t a) = rowI (zOf t) ⟨t % 8 - 1, by omega⟩ a := by
  have := pt_lt t
  apply Fin.ext
  show ((t.val - 1) * 128 + a.val) % 1024 * 4 + ((t.val - 1) * 128 + a.val) / 1024 = ((t.val % 8 - 1) * 128 + a.val) * 4 + t.val / 8
  omega

theorem col_eq (n : Fin 6) (h : Fin 2) (c : Fin 64) : colOf n (laneOf h c) = colI (headOf n h) c := by
  apply Fin.ext
  show 128 * n.val + (laneOf h c).val = (2 * n.val + h.val) * 64 + c.val
  have : (laneOf h c).val = 64 * h.val + c.val := by rcases two_cases h with rfl | rfl <;> simp [laneOf]
  omega

variable (x0 x1 x2 x3 x4 : S4096x768.Idx → EReal) (y0 y1 y2 y3 y4 y5 y6 : S128x768.Idx → EReal)

/-- The blocks a point reads are those of the arrays it should read. -/
structure Reads : Prop where
  h0 : ∀ a l, y0 (ix2 a l) = x0 (ix2 (seqRow (ownRow t a)) l)
  h1 : ∀ a l, y1 (ix2 a l) = x1 (ix2 (seqRow (prevRow t a)) l)
  h2 : ∀ a l, y2 (ix2 a l) = x1 (ix2 (seqRow (ownRow t a)) l)
  h3 : ∀ a l, y3 (ix2 a l) = x2 (ix2 (seqRow (prevRow t a)) l)
  h4 : ∀ a l, y4 (ix2 a l) = x2 (ix2 (seqRow (ownRow t a)) l)
  h5 : ∀ a l, y5 (ix2 a l) = x3 (ix2 (seqRow (ownRow t a)) l)
  h6 : ∀ a l, y6 (ix2 a l) = x4 (ix2 (seqRow (ownRow t a)) l)

variable {t i x0 x1 x2 x3 x4 y0 y1 y2 y3 y4 y5 y6} (n : Fin 6) (h : Fin 2)

theorem hd_own {x : S4096x768.Idx → EReal} {y : S128x768.Idx → EReal}
    (hy : ∀ a l, y (ix2 a l) = x (ix2 (seqRow (ownRow t a)) l)) (a : Fin 128) (c : Fin 64) :
    hd y n h a c = qR x (zOf t) (bOf t) (headOf n h) a c := by
  rw [hd, hy, ownRow_eq, col_eq, qR]

/-- The keys of a point, wherever the mask lets one be seen. -/
theorem hdk_seen {x : S4096x768.Idx → EReal} {y y' : S128x768.Idx → EReal}
    (hy : ∀ a l, y (ix2 a l) = x (ix2 (seqRow (prevRow t a)) l)) (hy' : ∀ a l, y' (ix2 a l) = x (ix2 (seqRow (ownRow t a)) l))
    {a : Fin 128} {j : Fin 256} (hs : Seen (t.val % 8) a j) (c : Fin 64) :
    hdk y y' n h j c = kR x (zOf t) (bOf t) (headOf n h) j c := by
  by_cases hj : j.val < 128
  · have hb : t.val % 8 ≠ 0 := fun e => by have := hs.2.2 e; omega
    refine (dif_pos hj).trans (Eq.trans ?_ (dif_pos hj).symm)
    refine Eq.trans ?_ (if_neg hb).symm
    rw [hd, hy, prevRow_eq t hb, col_eq]
    rfl
  · refine (dif_neg hj).trans (Eq.trans ?_ (dif_neg hj).symm)
    exact hd_own n h hy' _ c

theorem select_true (p : Prop) [Decidable p] (hp : p) (u v : EReal) : Scalar.select (BitVec.ofBool (decide p)) u v = u := by
  rw [decide_eq_true hp]; rfl

theorem select_false (p : Prop) [Decidable p] (hp : ¬p) (u v : EReal) : Scalar.select (BitVec.ofBool (decide p)) u v = v := by
  rw [decide_eq_false hp]; rfl

section Scores

variable (hr : Reads t x0 x1 x2 x3 x4 y0 y1 y2 y3 y4 y5 y6) (hi : (i 0).val = t.val)
include hr hi

theorem sc_masked {a : Fin 128} {j : Fin 256} (hs : ¬Seen (t.val % 8) a j) : scK i y0 y1 y2 n h a j = ⊥ := by
  rw [scK, headSc, biasK, biasAt, pay8_apply, hi, select_false _ hs, EReal.add_bot]

theorem sc_seen {a : Fin 128} {j : Fin 256} (hs : Seen (t.val % 8) a j) :
    scK i y0 y1 y2 n h a j = val_main_v48 (F := Ideal) x0 x1 (ix5 (zOf t) (bOf t) (headOf n h) a j)
      + val_main_v88 (F := Ideal) (ix3 (headOf n h) a j) := by
  rw [scK, headSc, biasK, biasAt, pay8_apply, hi, select_true _ hs, bias_eq, v48_apply]
  refine congrArg₂ (fun (x y : EReal) => x * y + _) (Finset.sum_congr rfl fun c _ => ?_) rfl
  rw [hd_own n h hr.h0, hdk_seen n h hr.h1 hr.h2 hs, v31_apply, v38_apply]

theorem sc_eq (a : Fin 128) : scK i y0 y1 y2 n h a = sR x0 x1 (zOf t) (bOf t) (headOf n h) a := by
  funext j
  rw [sR, v93_apply, v79_apply]
  by_cases hs : Seen (t.val % 8) a j
  · rw [sc_seen n h hr hi hs]; exact (select_true _ hs _ _).symm
  · rw [sc_masked n h hr hi hs]; exact (select_false _ hs _ _).symm

end Scores

section Ref

variable (z : Fin 4) (b : Fin 8) (H : Fin 12) (a : Fin 128) (j : Fin 256)

theorem sR_masked (hs : ¬Seen b a j) : sR x0 x1 z b H a j = ⊥ := by
  rw [sR, v93_apply, v79_apply]; exact select_false _ hs _ _

theorem kR_coe (hx : Finite x1) (c : Fin 64) : ∃ y : ℝ, kR x1 z b H j c = y := by
  unfold kR
  split
  · split
    · exact ⟨0, rfl⟩
    · exact hx.coe _
  · exact hx.coe _

theorem v88_coe : ∃ y : ℝ, val_main_v88 (F := Ideal) (ix3 H a j) = y := by
  rw [v88_apply, v18_apply, sitofp_eq, ← EReal.coe_neg, ← EReal.coe_mul]
  exact ⟨_, rfl⟩

theorem c8_coe : ∃ y : ℝ, Ideal.ofBits .f32 0x3E000000#32 = y :=
  ⟨_, by simp [Ideal.ofBits, Ideal.ieee]; rfl⟩

theorem v48_coe (hq : Finite x0) (hk : Finite x1) : ∃ y : ℝ, val_main_v48 (F := Ideal) x0 x1 (ix5 z b H a j) = y := by
  rw [v48_apply]
  obtain ⟨e, he⟩ := c8_coe
  have hs : ∀ c : Fin 64, ∃ y : ℝ, val_main_v31 (F := Ideal) x0 (ix5 z b a H c) * val_main_v38 (F := Ideal) x1 (ix5 z b j H c) = y := by
    intro c
    rw [v31_apply, v38_apply]
    obtain ⟨u, hu⟩ := hq.coe (ix2 (rowI z b a) (colI H c))
    obtain ⟨v, hv⟩ := kR_coe z b H j hk c
    rw [hv, qR, hu, ← EReal.coe_mul]
    exact ⟨_, rfl⟩
  choose f hf using hs
  rw [he, Finset.sum_congr rfl fun c _ => hf c, sum_coe, ← EReal.coe_mul]
  exact ⟨_, rfl⟩

theorem sR_seen (hq : Finite x0) (hk : Finite x1) (hs : Seen b a j) : ∃ y : ℝ, sR x0 x1 z b H a j = y := by
  obtain ⟨u, hu⟩ := v48_coe z b H a j hq hk
  obtain ⟨v, hv⟩ := v88_coe H a j
  refine ⟨u + v, ?_⟩
  rw [sR, v93_apply, v79_apply, select_true _ hs, hu, hv, EReal.coe_add]

theorem sR_some (hq : Finite x0) (hk : Finite x1) : ∃ j, sR x0 x1 z b H a j ≠ ⊥ := by
  obtain ⟨y, hy⟩ := sR_seen z b H a ⟨a + 128, by omega⟩ hq hk ⟨by simp, by simp, fun _ => by simp⟩
  exact ⟨_, hy ▸ EReal.coe_ne_bot y⟩

theorem sR_top (hq : Finite x0) (hk : Finite x1) : sR x0 x1 z b H a j ≠ ⊤ := by
  by_cases hs : Seen b a j
  · obtain ⟨y, hy⟩ := sR_seen z b H a j hq hk hs
    exact hy ▸ EReal.coe_ne_top y
  · rw [sR_masked z b H a j hs]; exact bot_ne_top

/-- The reference's own masking of the scores' cotangents changes nothing. -/
theorem v175_eq (hq : Finite x0) (hk : Finite x1) :
    val_main_v175 (F := Ideal) x0 x1 x2 x3 x4 (ix5 z b H a j)
      = rowDs (sR x0 x1 z b H a) (dpR x2 x3 z b H a) (gR x4 z b H a) j * c8 := by
  rw [v175_apply, v93_1_apply, v79_apply]
  refine congrArg (fun (x : EReal) => x * _) ?_
  by_cases hs : Seen b a j
  · exact select_true _ hs _ _
  · rw [select_false _ hs]
    exact (rowDs_masked (sR_some z b H a hq hk) (sR_masked z b H a j hs)).symm

theorem v175_masked (hq : Finite x0) (hk : Finite x1) (hs : ¬Seen b a j) :
    val_main_v175 (F := Ideal) x0 x1 x2 x3 x4 (ix5 z b H a j) = 0 := by
  rw [v175_eq z b H a j hq hk, rowDs_masked (sR_some z b H a hq hk) (sR_masked z b H a j hs), zero_mul]

theorem p_masked (hq : Finite x0) (hk : Finite x1) (hs : ¬Seen b a j) : rowP (sR x0 x1 z b H a) j = 0 :=
  rowP_masked (sR_some z b H a hq hk) (fun j => sR_top z b H a j hq hk) (sR_masked z b H a j hs)

end Ref

section Grads

variable (hr : Reads t x0 x1 x2 x3 x4 y0 y1 y2 y3 y4 y5 y6) (hi : (i 0).val = t.val) (hq : Finite x0) (hk : Finite x1)
include hr hi hq hk

theorem ds_eq (a : Fin 128) (j : Fin 256) : dsK i y0 y1 y2 y3 y4 y5 y6 n h a j
    = val_main_v175 (F := Ideal) x0 x1 x2 x3 x4 (ix5 (zOf t) (bOf t) (headOf n h) a j) := by
  rw [v175_eq _ _ _ _ _ hq hk, dsK, headDs, sc_eq n h hr hi]
  have hg : (∑ c, hd y6 n h a c) = gR x4 (zOf t) (bOf t) (headOf n h) a := by
    rw [gR, v145_apply]
    exact Finset.sum_congr rfl fun c _ => hd_own n h hr.h6 a c
  rw [hg]
  refine congrArg (fun (x : EReal) => x * c8) (rowDs_congr _ (fun j hj => ?_) j)
  have hs : Seen (t.val % 8) a j := by
    by_contra hs
    exact hj (sR_masked _ (bOf t) _ a j hs)
  rw [v148_apply, headDp]
  refine Finset.sum_congr rfl fun c _ => ?_
  rw [v147_apply, v45_apply, hd_own n h hr.h5, hdk_seen n h hr.h3 hr.h4 hs]

/-- The queries' gradient. -/
theorem out7_eq (a : Fin 128) (c : Fin 64) :
    out0_7 (F := Ideal) i y0 y1 y2 y3 y4 y5 y6 (ix2 a (colI (headOf n h) c))
      = val_main_v178 (F := Ideal) x0 x1 x2 x3 x4 (ix5 (zOf t) (bOf t) (headOf n h) a c) := by
  rw [← col_eq, out7_apply, v178_apply]
  refine Finset.sum_congr rfl fun j _ => ?_
  rw [ds_eq n h hr hi hq hk]
  by_cases hs : Seen (t.val % 8) a j
  · rw [hdk_seen n h hr.h1 hr.h2 hs, v38_apply]
  · rw [v175_masked _ (bOf t) _ _ _ hq hk hs, zero_mul, zero_mul]

/-- The gradient of the keys before the block. -/
theorem out8_eq (r : Fin 128) (c : Fin 64) :
    out0_8 (F := Ideal) i y0 y1 y2 y3 y4 y5 y6 (ix2 r (colI (headOf n h) c))
      = val_main_v176 (F := Ideal) x0 x1 x2 x3 x4 (ix5 (zOf t) (bOf t) (headOf n h) (rowOf 0 r) c) := by
  rw [← col_eq, out8_apply, v176_apply]
  refine Finset.sum_congr rfl fun a _ => ?_
  rw [ds_eq n h hr hi hq hk, hd_own n h hr.h0, v31_apply]

/-- The gradient of the block's own keys. -/
theorem out9_eq (r : Fin 128) (c : Fin 64) :
    out0_9 (F := Ideal) i y0 y1 y2 y3 y4 y5 y6 (ix2 r (colI (headOf n h) c))
      = val_main_v176 (F := Ideal) x0 x1 x2 x3 x4 (ix5 (zOf t) (bOf t) (headOf n h) (rowOf 1 r) c) := by
  rw [← col_eq, out9_apply, v176_apply]
  refine Finset.sum_congr rfl fun a _ => ?_
  rw [ds_eq n h hr hi hq hk, hd_own n h hr.h0, v31_apply]

omit hq hk in
/-- The gradient of the values before the block. -/
theorem out10_eq (r : Fin 128) (c : Fin 64) :
    out0_10 (F := Ideal) i y0 y1 y2 y3 y4 y5 y6 (ix2 r (colI (headOf n h) c))
      = val_main_v149 (F := Ideal) x0 x1 x3 (ix5 (zOf t) (bOf t) (headOf n h) c (rowOf 0 r)) := by
  rw [← col_eq, out10_apply, v149_apply]
  refine Finset.sum_congr rfl fun a _ => ?_
  rw [sc_eq n h hr hi, hd_own n h hr.h5, v147_apply, mul_comm]

omit hq hk in
/-- The gradient of the block's own values. -/
theorem out11_eq (r : Fin 128) (c : Fin 64) :
    out0_11 (F := Ideal) i y0 y1 y2 y3 y4 y5 y6 (ix2 r (colI (headOf n h) c))
      = val_main_v149 (F := Ideal) x0 x1 x3 (ix5 (zOf t) (bOf t) (headOf n h) c (rowOf 1 r)) := by
  rw [← col_eq, out11_apply, v149_apply]
  refine Finset.sum_congr rfl fun a _ => ?_
  rw [sc_eq n h hr hi, hd_own n h hr.h5, v147_apply, mul_comm]

end Grads

/-- The first block of a class sends nothing back to the keys before it. -/
theorem v176_first (hq : Finite x0) (hk : Finite x1) (z : Fin 4) (b : Fin 8) (hb : b.val = 0) (H : Fin 12) (r : Fin 128) (c : Fin 64) :
    val_main_v176 (F := Ideal) x0 x1 x2 x3 x4 (ix5 z b H (rowOf 0 r) c) = 0 := by
  rw [v176_apply]
  refine Finset.sum_eq_zero fun a _ => ?_
  have hj : (rowOf 0 r).val < 128 := by simp [rowOf]
  rw [v175_masked z b H a _ hq hk fun hs => by have := hs.2.2 hb; omega, zero_mul]

theorem v149_first (hq : Finite x0) (hk : Finite x1) (z : Fin 4) (b : Fin 8) (hb : b.val = 0) (H : Fin 12) (r : Fin 128) (c : Fin 64) :
    val_main_v149 (F := Ideal) x0 x1 x3 (ix5 z b H c (rowOf 0 r)) = 0 := by
  rw [v149_apply]
  refine Finset.sum_eq_zero fun a _ => ?_
  have hj : (rowOf 0 r).val < 128 := by simp [rowOf]
  rw [p_masked z b H a _ hq hk fun hs => by have := hs.2.2 hb; omega, mul_zero]

end Block

end Cert.Attn

end
-- ==== Proof.KTail.lean ====
/- The kernel's results after the host lines that follow the region. -/
module

public import proofs.«01_k».proof.Proof.KArr
public import Idealize.ShloMosaic.Lib.Routing.OpsPair
public import Idealize.ShloMosaic.Lib.Routing.OpsSet

@[expose] public section

set_option maxRecDepth 16384

noncomputable section

namespace Cert.Attn

open Idealize.ShloMosaic Idealize.ShloMosaic.Routing Idealize.ShloMosaic.TcCoe Cert.KernelIdeal Cert.KernelIdeal.Gen Cert.KernelIdeal.Facts₀

variable (m : (ℓ : Loc nD τ sig) → Buf (Elt Ideal) ℓ) (c : Dev nD)

/-- The place in the class-by-class order of a sequence row. -/
def subRow (s : Fin 4096) : Fin 4096 := ⟨s % 4 * 1024 + s / 4, by omega⟩

/-- Putting the rows back into the sequence's order, read at an index. -/
theorem seq_read (x : S4096x768.Idx → EReal) (s : Fin 4096) (l : Fin 768) :
    shapeCast S4096x768 (transpose S1024x4x768 [1, 0, 2] (shapeCast S4x1024x768 x
      Facts₀.shapeCasts_S4096x768_S4x1024x768) Facts₀.transposes_S4x1024x768_S1024x4x768_1_0_2)
      Facts₀.shapeCasts_S1024x4x768_S4096x768 (ix2 s l) = x (ix2 (subRow s) l) := by
  pointwise
  rfl

/-- An update of the last 128 rows lands in row 3968 plus its own. -/
theorem fill_at (k : S128x768.Idx) (ι : S4096x768.Idx) :
    scatter_S4096x768_S1_S128x768_01_n_0_0.resultIdx? k (fun _ : S1.Idx => 3968#32) = some ι
      ↔ (k 0).val + 3968 = (ι 0).val ∧ (k 1).val = (ι 1).val := by
  rw [resultIdx?_eq_some]
  constructor
  · intro h
    have h0 := h 0; have h1 := h 1
    have h0' : (3968 : Int) + ((k 0).val : Int) = (ι 0).val := h0
    have h1' : (0 : Int) + ((k 1).val : Int) = (ι 1).val := h1
    omega
  · rintro ⟨h0, h1⟩ a
    match a with
    | ⟨0, _⟩ => show (3968 : Int) + ((k 0).val : Int) = (ι 0).val; omega
    | ⟨1, _⟩ => show (0 : Int) + ((k 1).val : Int) = (ι 1).val; omega

/-- Zeros written over the last 128 rows. -/
theorem fill_read (x : S4096x768.Idx → EReal) (i : S4096x768.Idx) :
    Host.scatter scatter_S4096x768_S1_S128x768_01_n_0_0 (fun _ b => b) x (fun _ : S1.Idx => 3968#32) (fun _ : S128x768.Idx => (0 : EReal)) i
      = if (i 0).val < 3968 then x i else 0 := by
  split
  · next h =>
    refine scatter_set_miss _ _ _ _ _ fun k e => ?_
    have := ((fill_at k i).mp e).1
    omega
  · next h =>
    have h0 : (i 0).val < 4096 := (i 0).isLt
    refine scatter_set_hit _ _ _ _ _ _ (fun _ _ => rfl) (ix2 ⟨(i 0).val - 3968, by omega⟩ (i 1)) ((fill_at _ _).mpr ⟨?_, rfl⟩)
    show (i 0).val - 3968 + 3968 = (i 0).val
    omega

theorem zero_word16 : Ideal.ofBits .bf16 0x0000#16 = 0 := by
  simp [Ideal.ofBits, Ideal.ieee]

/-- The region's arrays, as the lines after it find them. -/
abbrev W0 : Valuation τ sig (Elt Ideal) :=
  Pipeline.withArrays (cfgs 0).spec c (V0 m c) fun w => (dats m 0 c).arrAt w (cfgs 0).N

theorem arr_tail (w : Fin cfg0.W) : W0 m c (Proc.devRef .tc (Pipeline.arrRef spec0 w)) = (dats m 0 c).arrAt w cfg0.N := by
  refine Pipeline.withArrays_arr_shared _ c (V0 m c) _ (fun w w' hne e => ?_) w
  exact (dats m 0 c).arrAt_sharedIn sharedIn0 (V0 m c) (A_eq m c) _ w w' hne e

theorem tail_dq (s : Fin 4096) (l : Fin 768) :
    Pipeline.afterTail₀ cfgs (dats m) 0 (V0 m) [hostOps1] c main_v26 (ix2 s l) = G7 m c (ix2 (subRow s) l) := by
  have e : Pipeline.afterTail₀ cfgs (dats m) 0 (V0 m) [hostOps1] c main_v26
      = shapeCast S4096x768 (transpose S1024x4x768 [1, 0, 2] (shapeCast S4x1024x768 (W0 m c (Proc.devRef .tc main_v15_0))
      Facts₀.shapeCasts_S4096x768_S4x1024x768) Facts₀.transposes_S4x1024x768_S1024x4x768_1_0_2)
      Facts₀.shapeCasts_S1024x4x768_S4096x768 := by
    show StableHlo.after hostOps1 (W0 m c) (Proc.devRef .tc main_v26) = _
    after_results
    rfl
  rw [e]
  refine (seq_read _ s l).trans ?_
  exact congrFun ((arr_tail m c 7).trans (arr7 m c)) _

theorem tail_dk (s : Fin 4096) (l : Fin 768) :
    Pipeline.afterTail₀ cfgs (dats m) 0 (V0 m) [hostOps1] c main_v29 (ix2 s l)
      = G9 m c (ix2 (subRow s) l) + G8 m c (ix2 (subRow s) l) := by
  have e : Pipeline.afterTail₀ cfgs (dats m) 0 (V0 m) [hostOps1] c main_v29
      = shapeCast S4096x768 (transpose S1024x4x768 [1, 0, 2] (shapeCast S4x1024x768
        (addf (F := Ideal) (φ := .bf16) (W0 m c (Proc.devRef .tc main_v15_2))
          (Host.scatter scatter_S4096x768_S1_S128x768_01_n_0_0 (fun _ b => b) (W0 m c (Proc.devRef .tc main_v15_1))
            (fun _ : S1.Idx => 3968#32) (fun _ : S128x768.Idx => Ideal.ofBits .bf16 0x0000#16)))
      Facts₀.shapeCasts_S4096x768_S4x1024x768) Facts₀.transposes_S4x1024x768_S1024x4x768_1_0_2)
      Facts₀.shapeCasts_S1024x4x768_S4096x768 := by
    show StableHlo.after hostOps1 (W0 m c) (Proc.devRef .tc main_v29) = _
    after_results
    rfl
  rw [e, zero_word16]
  refine (seq_read _ s l).trans ?_
  refine congrArg₂ (fun (x y : EReal) => x + y) ?_ ?_
  · exact congrFun ((arr_tail m c 9).trans (arr9 m c)) _
  · refine (fill_read _ _).trans ?_
    have h8 := congrFun ((arr_tail m c 8).trans (arr8 m c)) (ix2 (subRow s) l)
    by_cases h : (subRow s).val < 3968
    · exact (if_pos h).trans (h8.trans (if_pos h))
    · exact (if_neg h).trans (Eq.symm (show dite _ _ _ = (0 : EReal) from dif_neg h))

theorem tail_dv (s : Fin 4096) (l : Fin 768) :
    Pipeline.afterTail₀ cfgs (dats m) 0 (V0 m) [hostOps1] c main_v32 (ix2 s l)
      = G11 m c (ix2 (subRow s) l) + G10 m c (ix2 (subRow s) l) := by
  have e : Pipeline.afterTail₀ cfgs (dats m) 0 (V0 m) [hostOps1] c main_v32
      = shapeCast S4096x768 (transpose S1024x4x768 [1, 0, 2] (shapeCast S4x1024x768
        (addf (F := Ideal) (φ := .bf16) (W0 m c (Proc.devRef .tc main_v15_4))
          (Host.scatter scatter_S4096x768_S1_S128x768_01_n_0_0 (fun _ b => b) (W0 m c (Proc.devRef .tc main_v15_3))
            (fun _ : S1.Idx => 3968#32) (fun _ : S128x768.Idx => Ideal.ofBits .bf16 0x0000#16)))
      Facts₀.shapeCasts_S4096x768_S4x1024x768) Facts₀.transposes_S4x1024x768_S1024x4x768_1_0_2)
      Facts₀.shapeCasts_S1024x4x768_S4096x768 := by
    show StableHlo.after hostOps1 (W0 m c) (Proc.devRef .tc main_v32) = _
    after_results
    rfl
  rw [e, zero_word16]
  refine (seq_read _ s l).trans ?_
  refine congrArg₂ (fun (x y : EReal) => x + y) ?_ ?_
  · exact congrFun ((arr_tail m c 11).trans (arr11 m c)) _
  · refine (fill_read _ _).trans ?_
    have h8 := congrFun ((arr_tail m c 10).trans (arr10 m c)) (ix2 (subRow s) l)
    by_cases h : (subRow s).val < 3968
    · exact (if_pos h).trans (h8.trans (if_pos h))
    · exact (if_neg h).trans (Eq.symm (show dite _ _ _ = (0 : EReal) from dif_neg h))

end Cert.Attn

end
-- ==== Proof.Result.lean ====
/- The kernel's three results are the reference's. -/
module

public import proofs.«01_k».proof.Proof.Equal
public import proofs.«01_k».proof.Proof.KTail
public import proofs.«01_k».proof.Pre_finite_qk

@[expose] public section

set_option maxRecDepth 16384

noncomputable section

namespace Cert.Attn

open Idealize.ShloMosaic Idealize.ShloMosaic.TcCoe Cert.KernelIdeal Cert.KernelIdeal.Gen Cert.ReferenceIdeal.Read

/-! ## The precondition -/

theorem top_word16 : Ideal.ofBits .bf16 0x7F80#16 = ⊤ := by
  simp [Ideal.ofBits, Ideal.ieee]

theorem bot_word16 : Ideal.ofBits .bf16 0xFF80#16 = ⊥ := by
  simp [Ideal.ofBits, Ideal.ieee]

theorem and_one {p q : BitVec 1} (h : IntOp.andi p q = 1#1) : p = 1#1 ∧ q = 1#1 := by
  revert p q; decide

theorem facts_pre : Cert.Pre_finite_qk.Facts := ⟨by decide⟩

theorem pre_finite (x0 x1 x2 x3 x4 : S4096x768.Idx → EReal)
    (h : ∀ i, @Cert.Pre_finite_qk.fn facts_pre Ideal _ x0 x1 x2 x3 x4 i = 1#1) : Finite x0 ∧ Finite x1 := by
  have key : ∀ i, (⊥ < x0 i ∧ x0 i < ⊤) ∧ (⊥ < x1 i ∧ x1 i < ⊤) := by
    intro i
    have hi : IntOp.andi (IntOp.andi (IntOp.andi (BitVec.ofBool (decide (Ideal.ofBits .bf16 0xFF80#16 < x0 i)))
        (BitVec.ofBool (decide (x0 i < Ideal.ofBits .bf16 0x7F80#16)))) (BitVec.ofBool (decide (Ideal.ofBits .bf16 0xFF80#16 < x1 i))))
        (BitVec.ofBool (decide (x1 i < Ideal.ofBits .bf16 0x7F80#16))) = 1#1 := h i
    rw [top_word16, bot_word16] at hi
    obtain ⟨h1, hd⟩ := and_one hi
    obtain ⟨h2, hc⟩ := and_one h1
    obtain ⟨ha, hb⟩ := and_one h2
    have one : ∀ p : Prop, ∀ [Decidable p], BitVec.ofBool (decide p) = 1#1 → p := by
      intro p _ e
      by_contra hp
      rw [decide_eq_false hp] at e
      exact absurd e (by decide)
    exact ⟨⟨one _ ha, one _ hb⟩, one _ hc, one _ hd⟩
  exact ⟨fun i => ⟨(key i).1.1.ne', (key i).1.2.ne⟩, fun i => ⟨(key i).2.1.ne', (key i).2.2.ne⟩⟩

/-! ## The results -/

theorem blk_div (s : Fin 4096) : (s.val % 4 * 1024 + s.val / 4) / 128 = 8 * (s.val % 4) + s.val / 4 / 128 ∧ s.val / 4 / 128 < 8 := by
  have h : ∀ z n : Nat, n < 1024 → (z * 1024 + n) / 128 = 8 * z + n / 128 ∧ n / 128 < 8 := by omega
  exact h _ _ (by omega)

theorem next_div (s : Fin 4096) (hn : 128 + s.val / 4 < 1024) :
    ((s.val % 4 * 1024 + s.val / 4) / 128 + 1) % 8 = (128 + s.val / 4) / 128 := by
  rw [(blk_div s).1, show (128 + s.val / 4) / 128 = s.val / 4 / 128 + 1 by omega]
  have h : s.val / 4 / 128 < 7 := by omega
  generalize s.val / 4 / 128 = k at h ⊢
  omega

theorem last_div (s : Fin 4096) (hn : ¬128 + s.val / 4 < 1024) : ((s.val % 4 * 1024 + s.val / 4) / 128 + 1) % 8 = 0 := by
  rw [(blk_div s).1, show s.val / 4 / 128 = 7 by omega]
  omega

variable (m : (ℓ : Loc nD τ sig) → Buf (Elt Ideal) ℓ) (c : Dev nD)

abbrev X0 : S4096x768.Idx → EReal := m ((c : Thread nD τ).loc main_arg0)
abbrev X1 : S4096x768.Idx → EReal := m ((c : Thread nD τ).loc main_arg1)
abbrev X2 : S4096x768.Idx → EReal := m ((c : Thread nD τ).loc main_arg2)
abbrev X3 : S4096x768.Idx → EReal := m ((c : Thread nD τ).loc main_arg3)
abbrev X4 : S4096x768.Idx → EReal := m ((c : Thread nD τ).loc main_arg4)

theorem reads (t : Fin cfg0.N) : Reads t (X0 m c) (X1 m c) (X2 m c) (X3 m c) (X4 m c) (iblk m c 0 t) (iblk m c 1 t) (iblk m c 2 t)
    (iblk m c 3 t) (iblk m c 4 t) (iblk m c 5 t) (iblk m c 6 t) where
  h0 a l := (iblk0 m c t a l).trans (V_main_v2 m c _ l)
  h1 a l := (iblk1 m c t a l).trans (V_main_v5 m c _ l)
  h2 a l := (iblk2 m c t a l).trans (V_main_v5 m c _ l)
  h3 a l := (iblk3 m c t a l).trans (V_main_v8 m c _ l)
  h4 a l := (iblk4 m c t a l).trans (V_main_v8 m c _ l)
  h5 a l := (iblk5 m c t a l).trans (V_main_v11 m c _ l)
  h6 a l := (iblk6 m c t a l).trans (V_main_v14 m c _ l)

/-- A head's pair and its place in the pair. -/
theorem headOf_surj (H : Fin 12) : ∃ n h, headOf n h = H :=
  ⟨⟨H / 2, by omega⟩, ⟨H % 2, by omega⟩, Fin.ext (by show 2 * (H.val / 2) + H.val % 2 = H.val; omega)⟩

theorem col_split (l : Fin 768) : l = colI ⟨l / 64, by omega⟩ ⟨l % 64, by omega⟩ :=
  Fin.ext (by show l.val = l.val / 64 * 64 + l.val % 64; omega)

section Values

variable (hq : Finite (X0 m c)) (hk : Finite (X1 m c))
include hq hk

theorem G7_eq (R : Fin 4096) (H : Fin 12) (k : Fin 64) : G7 m c (ix2 R (colI H k))
    = val_main_v178 (F := Ideal) (X0 m c) (X1 m c) (X2 m c) (X3 m c) (X4 m c) (ix5 (zOf (ptOf R)) (bOf (ptOf R)) H (inBlk R) k) := by
  obtain ⟨n, h, rfl⟩ := headOf_surj H
  refine Eq.trans ?_ (out7_eq n h (reads m c (ptOf R)) (coords_eq (ptOf R)) hq hk (inBlk R) k)
  exact congrFun (after0_7 m c (ptOf R)) _

theorem G9_eq (R : Fin 4096) (H : Fin 12) (k : Fin 64) : G9 m c (ix2 R (colI H k))
    = val_main_v176 (F := Ideal) (X0 m c) (X1 m c) (X2 m c) (X3 m c) (X4 m c) (ix5 (zOf (ptOf R)) (bOf (ptOf R)) H (rowOf 1 (inBlk R)) k) := by
  obtain ⟨n, h, rfl⟩ := headOf_surj H
  refine Eq.trans ?_ (out9_eq n h (reads m c (ptOf R)) (coords_eq (ptOf R)) hq hk (inBlk R) k)
  exact congrFun (after0_9 m c (ptOf R)) _

theorem G8_eq (R : Fin 4096) (hR : R.val < 3968) (H : Fin 12) (k : Fin 64) : G8 m c (ix2 R (colI H k))
    = val_main_v176 (F := Ideal) (X0 m c) (X1 m c) (X2 m c) (X3 m c) (X4 m c)
        (ix5 (zOf (ptNext R hR)) (bOf (ptNext R hR)) H (rowOf 0 (inBlk R)) k) := by
  obtain ⟨n, h, rfl⟩ := headOf_surj H
  refine Eq.trans ?_ (out8_eq n h (reads m c (ptNext R hR)) (coords_eq (ptNext R hR)) hq hk (inBlk R) k)
  exact (dif_pos hR).trans (congrFun (after0_8 m c (ptNext R hR)) _)

omit hq hk in
theorem G11_eq (R : Fin 4096) (H : Fin 12) (k : Fin 64) : G11 m c (ix2 R (colI H k))
    = val_main_v149 (F := Ideal) (X0 m c) (X1 m c) (X3 m c) (ix5 (zOf (ptOf R)) (bOf (ptOf R)) H k (rowOf 1 (inBlk R))) := by
  obtain ⟨n, h, rfl⟩ := headOf_surj H
  refine Eq.trans ?_ (out11_eq n h (reads m c (ptOf R)) (coords_eq (ptOf R)) (inBlk R) k)
  exact congrFun (after0_11 m c (ptOf R)) _

omit hq hk in
theorem G10_eq (R : Fin 4096) (hR : R.val < 3968) (H : Fin 12) (k : Fin 64) : G10 m c (ix2 R (colI H k))
    = val_main_v149 (F := Ideal) (X0 m c) (X1 m c) (X3 m c)
        (ix5 (zOf (ptNext R hR)) (bOf (ptNext R hR)) H k (rowOf 0 (inBlk R))) := by
  obtain ⟨n, h, rfl⟩ := headOf_surj H
  refine Eq.trans ?_ (out10_eq n h (reads m c (ptNext R hR)) (coords_eq (ptNext R hR)) (inBlk R) k)
  exact (dif_pos hR).trans (congrFun (after0_10 m c (ptNext R hR)) _)

theorem dq_eq : Pipeline.afterTail₀ cfgs (dats m) 0 (V0 m) [hostOps1] c main_v26
    = val_main_v212 (F := Ideal) (X0 m c) (X1 m c) (X2 m c) (X3 m c) (X4 m c) := by
  funext i
  obtain ⟨s, l, rfl⟩ : ∃ (s : Fin 4096) (l : Fin 768), i = ix2 s l := ⟨i 0, i 1, by ext k; fin_cases k <;> rfl⟩
  refine (tail_dq m c s l).trans (Eq.trans ?_ (v212_read _ _ _ _ _ s l).symm)
  rw [v205_read]
  refine (congrArg (fun l => G7 m c (ix2 (subRow s) l)) (col_split l)).trans ((G7_eq m c hq hk _ _ _).trans ?_)
  congr 1
  congr 1 <;> apply Fin.ext
  · show (s.val % 4 * 1024 + s.val / 4) / 128 / 8 = s.val % 4; omega
  · show (s.val % 4 * 1024 + s.val / 4) / 128 % 8 = s.val / 4 / 128; have := blk_div s; omega
  · show (s.val % 4 * 1024 + s.val / 4) % 128 = s.val / 4 % 128; omega

theorem dk_eq : Pipeline.afterTail₀ cfgs (dats m) 0 (V0 m) [hostOps1] c main_v29
    = val_main_v213 (F := Ideal) (X0 m c) (X1 m c) (X2 m c) (X3 m c) (X4 m c) := by
  funext i
  obtain ⟨s, l, rfl⟩ : ∃ (s : Fin 4096) (l : Fin 768), i = ix2 s l := ⟨i 0, i 1, by ext k; fin_cases k <;> rfl⟩
  refine (tail_dk m c s l).trans (Eq.trans ?_ (v213_read _ _ _ _ _ s l).symm)
  rw [v195_read]
  refine congrArg₂ (fun (x y : EReal) => x + y) ?_ ?_
  · refine (congrArg (fun l => G9 m c (ix2 (subRow s) l)) (col_split l)).trans ((G9_eq m c hq hk _ _ _).trans ?_)
    congr 1
    congr 1 <;> apply Fin.ext
    · show (s.val % 4 * 1024 + s.val / 4) / 128 / 8 = s.val % 4; omega
    · show (s.val % 4 * 1024 + s.val / 4) / 128 % 8 = s.val / 4 / 128; have := blk_div s; omega
    · show (rowOf 1 (inBlk (subRow s))).val = 128 + s.val / 4 % 128
      simp only [rowOf, inBlk, subRow]; omega
  · refine (congrArg (fun l => G8 m c (ix2 (subRow s) l)) (col_split l)).trans ?_
    by_cases hn : 128 + s.val / 4 < 1024
    · have hR : (subRow s).val < 3968 := by show s.val % 4 * 1024 + s.val / 4 < 3968; omega
      refine ((G8_eq m c hq hk _ hR _ _).trans ?_).trans (dif_pos hn).symm
      congr 1
      congr 1 <;> apply Fin.ext
      · show ((s.val % 4 * 1024 + s.val / 4) / 128 + 1) / 8 = s.val % 4; omega
      · show ((s.val % 4 * 1024 + s.val / 4) / 128 + 1) % 8 = (128 + s.val / 4) / 128; exact next_div s hn
      · show (rowOf 0 (inBlk (subRow s))).val = (128 + s.val / 4) % 128
        simp only [rowOf, inBlk, subRow]; omega
    · refine Eq.trans ?_ (dif_neg hn).symm
      by_cases hR : (subRow s).val < 3968
      · refine (G8_eq m c hq hk _ hR _ _).trans (v176_first hq hk _ _ ?_ _ _ _)
        show ((s.val % 4 * 1024 + s.val / 4) / 128 + 1) % 8 = 0; exact last_div s hn
      · exact dif_neg hR

theorem dv_eq : Pipeline.afterTail₀ cfgs (dats m) 0 (V0 m) [hostOps1] c main_v32
    = val_main_v214 (F := Ideal) (X0 m c) (X1 m c) (X3 m c) := by
  funext i
  obtain ⟨s, l, rfl⟩ : ∃ (s : Fin 4096) (l : Fin 768), i = ix2 s l := ⟨i 0, i 1, by ext k; fin_cases k <;> rfl⟩
  refine (tail_dv m c s l).trans (Eq.trans ?_ (v214_read _ _ _ s l).symm)
  rw [v187_read]
  refine congrArg₂ (fun (x y : EReal) => x + y) ?_ ?_
  · refine (congrArg (fun l => G11 m c (ix2 (subRow s) l)) (col_split l)).trans ((G11_eq m c _ _ _).trans ?_)
    congr 1
    congr 1 <;> apply Fin.ext
    · show (s.val % 4 * 1024 + s.val / 4) / 128 / 8 = s.val % 4; omega
    · show (s.val % 4 * 1024 + s.val / 4) / 128 % 8 = s.val / 4 / 128; have := blk_div s; omega
    · show (rowOf 1 (inBlk (subRow s))).val = 128 + s.val / 4 % 128
      simp only [rowOf, inBlk, subRow]; omega
  · refine (congrArg (fun l => G10 m c (ix2 (subRow s) l)) (col_split l)).trans ?_
    by_cases hn : 128 + s.val / 4 < 1024
    · have hR : (subRow s).val < 3968 := by show s.val % 4 * 1024 + s.val / 4 < 3968; omega
      refine ((G10_eq m c _ hR _ _).trans ?_).trans (dif_pos hn).symm
      congr 1
      congr 1 <;> apply Fin.ext
      · show ((s.val % 4 * 1024 + s.val / 4) / 128 + 1) / 8 = s.val % 4; omega
      · show ((s.val % 4 * 1024 + s.val / 4) / 128 + 1) % 8 = (128 + s.val / 4) / 128; exact next_div s hn
      · show (rowOf 0 (inBlk (subRow s))).val = (128 + s.val / 4) % 128
        simp only [rowOf, inBlk, subRow]; omega
    · refine Eq.trans ?_ (dif_neg hn).symm
      by_cases hR : (subRow s).val < 3968
      · refine (G10_eq m c _ hR _ _).trans (v149_first hq hk _ _ ?_ _ _ _)
        show ((s.val % 4 * 1024 + s.val / 4) / 128 + 1) % 8 = 0; exact last_div s hn
      · exact dif_neg hR

end Values

end Cert.Attn

end
-- ==== Proof.BlockSum.lean ====
/- Sums cut into blocks of equal length, over the extended reals. -/
module

public import Idealize.ShloMosaic.Lib.Pointwise
public import Mathlib.Data.EReal.Operations
public import Mathlib.Algebra.BigOperators.Fin

@[expose] public section

namespace Cert.Ffn

/-- Place `k` of block `b` of length `w`. -/
def place {n w N : ℕ} (e : n * w = N) (b : Fin n) (k : Fin w) : Fin N :=
  ⟨b * w + k, e ▸ (calc b.val * w + k.val < b.val * w + w := Nat.add_lt_add_left k.isLt _
    _ = (b.val + 1) * w := (Nat.succ_mul _ _).symm
    _ ≤ n * w := Nat.mul_le_mul_right w b.isLt)⟩

/-- A sum is the sum over the blocks of each block's sum. -/
theorem sum_blocks {n w N : ℕ} (e : n * w = N) (f : Fin N → EReal) :
    ∑ j, f j = ∑ b : Fin n, ∑ k : Fin w, f (place e b k) := by
  subst e
  rw [← Finset.sum_product', ← (finProdFinEquiv (m := n) (n := w)).sum_comp]
  refine Finset.sum_congr rfl fun x _ => congrArg f (Fin.ext ?_)
  show x.2.val + w * x.1.val = x.1.val * w + x.2.val
  rw [Nat.mul_comm, Nat.add_comm]

/-- Four blocks, added in order. -/
theorem four_blocks {w N : ℕ} (e : 4 * w = N) (f : Fin N → EReal) :
    ((∑ k, f (place e 0 k) + ∑ k, f (place e 1 k)) + ∑ k, f (place e 2 k)) + ∑ k, f (place e 3 k) = ∑ j, f j := by
  rw [sum_blocks e f, Fin.sum_univ_four]

end Cert.Ffn

end
-- ==== Proof.Weave.lean ====
/- The gate's and the up projection's columns laid in alternate tiles, and sums over them. -/
module

public import proofs.«01_k».proof.Proof.BlockSum

@[expose] public section

set_option maxRecDepth 16384

namespace Cert.Ffn

/-- Two rows of 2816 laid in alternate tiles of 1408. -/
noncomputable def weave (f h : Fin 2816 → EReal) (j : Fin 5632) : EReal :=
  if c0 : j.val < 1408 then f ⟨j, by omega⟩
  else if c1 : j.val - 1408 < 1408 then h ⟨j - 1408, by omega⟩
  else if c2 : j.val - 1408 - 1408 < 1408 then f ⟨1408 + (j - 1408 - 1408), by omega⟩
  else h ⟨1408 + (j - 1408 - 1408 - 1408), by omega⟩

variable (f h f' h' : Fin 2816 → EReal)

theorem weave_first (q : Fin 4) (p : Fin 2) (e : q.val = 2 * p) (k : Fin 1408) :
    weave f h (place (N := 5632) rfl q k) = f (place (N := 2816) rfl p k) := by
  have hv : (place (N := 5632) rfl q k).val = q.val * 1408 + k.val := rfl
  have hw : (place (N := 2816) rfl p k).val = p.val * 1408 + k.val := rfl
  unfold weave
  split
  · exact congrArg f (Fin.ext (by show (place (N := 5632) rfl q k).val = _; omega))
  split
  · omega
  split
  · exact congrArg f (Fin.ext (by show 1408 + ((place (N := 5632) rfl q k).val - 1408 - 1408) = _; omega))
  · omega

theorem weave_second (q : Fin 4) (p : Fin 2) (e : q.val = 2 * p + 1) (k : Fin 1408) :
    weave f h (place (N := 5632) rfl q k) = h (place (N := 2816) rfl p k) := by
  have hv : (place (N := 5632) rfl q k).val = q.val * 1408 + k.val := rfl
  have hw : (place (N := 2816) rfl p k).val = p.val * 1408 + k.val := rfl
  unfold weave
  split
  · omega
  split
  · exact congrArg h (Fin.ext (by show (place (N := 5632) rfl q k).val - 1408 = _; omega))
  split
  · omega
  · exact congrArg h (Fin.ext (by show 1408 + ((place (N := 5632) rfl q k).val - 1408 - 1408 - 1408) = _; omega))

/-- A product summed over both is the sum of the two products. -/
theorem weave_sum : ∑ j, weave f h j * weave f' h' j = ∑ k, f k * f' k + ∑ k, h k * h' k := by
  rw [sum_blocks (n := 4) (w := 1408) rfl, sum_blocks (n := 2) (w := 1408) (N := 2816) rfl fun k => f k * f' k,
    sum_blocks (n := 2) (w := 1408) (N := 2816) rfl fun k => h k * h' k, Fin.sum_univ_four, Fin.sum_univ_two, Fin.sum_univ_two]
  simp only [weave_first _ _ 0 0 rfl, weave_first _ _ 2 1 rfl, weave_second _ _ 1 0 rfl, weave_second _ _ 3 1 rfl]
  exact (add_assoc _ _ _).trans (add_add_add_comm _ _ _ _)

/-- The first row's tiles, laid side by side again. -/
theorem weave_firsts (j : Fin 2816) :
    (if c : j.val < 1408 then weave f h ⟨j, by omega⟩ else weave f h ⟨2816 + (j - 1408), by omega⟩) = f j := by
  unfold weave
  dsimp only
  repeat' split
  all_goals first
    | omega
    | exact congrArg f (Fin.ext (by dsimp only <;> omega))

/-- The second row's tiles, laid side by side again. -/
theorem weave_seconds (j : Fin 2816) :
    (if c : j.val < 1408 then weave f h ⟨1408 + j, by omega⟩ else weave f h ⟨4224 + (j - 1408), by omega⟩) = h j := by
  unfold weave
  dsimp only
  repeat' split
  all_goals first
    | omega
    | exact congrArg h (Fin.ext (by dsimp only <;> omega))

end Cert.Ffn

end
-- ==== Proof.UpDx.lean ====
/- The gradient of the gate and up projections' input: four blocks of the hidden columns, added up in a scratch array. -/
module

public import proofs.«01_k».proof.Proof.Gen.UpDxIdeal.Frame
public import proofs.«01_k».proof.Proof.Gen.UpDxIdeal.Value
public import proofs.«01_k».proof.Proof.Gen.UpDxRefIdeal.Run
public import proofs.«01_k».proof.Proof.Weave
public import Idealize.ShloMosaic.Lib.Pipeline.ValueKit
public import Idealize.ShloMosaic.Lib.Pointwise

@[expose] public section

set_option maxRecDepth 16384

noncomputable section

namespace Cert.Ffn.UpDx

open Idealize.ShloMosaic Idealize.ShloMosaic.TcCoe Cert.UpDxIdeal Cert.UpDxIdeal.Gen

variable (m : (ℓ : Loc nD τ sig) → Buf (Elt Ideal) ℓ) (c : Dev nD)

theorem zeros : (![0, 0] : Fin 2 → Nat) = fun _ => 0 := funext fun a => by fin_cases a <;> rfl

section Cases

variable (i : grid0.Coords) (a3 : Memref sig .tc .vmem S1024x1408 .bf16) (h3 : a3.IsWhole)
  (a4 : Memref sig .tc .vmem S1024x1408 .bf16) (h4 : a4.IsWhole) (a5 : Memref sig .tc .vmem S1024x1024 .bf16) (h5 : a5.IsWhole)
  (a6 : Memref sig .tc .vmem S1024x1024 .f32) (h6 : a6.IsWhole)
  (x0 : Vec Ideal S1024x1408 .bf16) (x1 : Vec Ideal S1024x1408 .bf16) (acc : Vec Ideal S1024x1024 .f32)

/-- The first block's product is stored. -/
theorem first (g0 : cond0_0 i) (g1 : ¬cond0_1 i) (g2 : ¬cond0_2 i) :
    sout0_A_0 c i a3 h3 a4 h4 a5 h5 a6 h6 g0 g1 g2 x0 x1 = k0_pay1 (F := Ideal) x0 x1 := by
  unfold sout0_A_0
  rw [View.read_writes_eq_canon _ _ _ (scover0_A_0 c i a3 h3 a4 h4 a5 h5 a6 h6 g0 g1 g2 x0 x1)]
  unfold kernelRun0_A
  dsimp only
  rw [View.canon_unit_zero zeros]
  unfold k0_pay2
  simp only [View.readAt_eq_ld, h3.read_unread, h4.read_unread, h5.read_unread, h6.read_unread, View.ld_unit_zero (S := S1024x1408) zeros,
    View.ld_unit_zero (S := S1024x1024) zeros, shapeCast_self]

/-- A later block's product is added. -/
theorem later (g0 : ¬cond0_0 i) (g1 : cond0_1 i) (g2 : ¬cond0_2 i) :
    sout0_B_0 c i a3 h3 a4 h4 a5 h5 a6 h6 g0 g1 g2 x0 x1 acc = addf acc (k0_pay1 (F := Ideal) x0 x1) := by
  unfold sout0_B_0
  rw [View.read_writes_eq_canon _ _ _ (scover0_B_0 c i a3 h3 a4 h4 a5 h5 a6 h6 g0 g1 g2 x0 x1 acc)]
  unfold kernelRun0_B
  dsimp only
  rw [View.canon_unit_zero zeros]
  unfold k0_pay3
  simp only [View.readAt_eq_ld, h3.read_unread, h4.read_unread, h5.read_unread, h6.read_unread, View.ld_unit_zero (S := S1024x1408) zeros,
    View.ld_unit_zero (S := S1024x1024) zeros, shapeCast_self]

/-- The last block's product is added and the sum is handed out. -/
theorem last (g0 : ¬cond0_0 i) (g1 : cond0_1 i) (g2 : cond0_2 i) :
    out0_C_2 c i a3 h3 a4 h4 a5 h5 a6 h6 g0 g1 g2 x0 x1 acc = (addf acc (k0_pay1 (F := Ideal) x0 x1) : S1024x1024.Idx → EReal) := by
  unfold out0_C_2
  rw [View.read_writes_eq_canon _ _ _ (cover0_C_2 c i a3 h3 a4 h4 a5 h5 a6 h6 g0 g1 g2 x0 x1 acc)]
  unfold kernelRun0_C
  dsimp only
  sl_unfold_words
  rw [View.canon_unit_zero zeros, View.readCov_unit_zero (S := S1024x1024) _ zeros]
  unfold k0_pay4 k0_pay3
  simp only [View.readAt_eq_ld, h3.read_unread, h4.read_unread, h5.read_unread, h6.read_unread, View.ld_unit_zero (S := S1024x1408) zeros,
    View.ld_unit_zero (S := S1024x1024) zeros, shapeCast_self]
  rfl

end Cases

/-- One block's product. -/
def part (t : Fin cfg0.N) : S1024x1024.Idx → EReal := k0_pay1 (F := Ideal) (iblk m c 0 t) (iblk m c 1 t)

/-- What a first point leaves in the scratch array. -/
theorem scratch_first (t : Fin cfg0.N) (e : t.val % 4 = 0) :
    (outsAt0 m c t.val t.isLt).2 = k0_pay1 (F := Ideal) (iblk m c 0 t) (iblk m c 1 t) := by
  rw [outsAt0_A m c t e (by omega) (by omega)]
  dsimp only
  rw [first]

/-- What a middle point leaves there, over what the point before it left. -/
theorem scratch_later (t : Fin cfg0.N) (e : 1 ≤ t.val % 4) (e' : ¬t.val % 4 = 3) (acc : Vec Ideal S1024x1024 .f32)
    (h : (outsAt0 m c (t.val - 1) (Nat.lt_of_le_of_lt (Nat.sub_le _ _) t.isLt)).2 = acc) :
    (outsAt0 m c t.val t.isLt).2 = addf acc (k0_pay1 (F := Ideal) (iblk m c 0 t) (iblk m c 1 t)) := by
  rw [outsAt0_B m c t (by omega) e e']
  dsimp only
  rw [later, h]

/-- What a last point hands out, over what the point before it left. -/
theorem handed_last (t : Fin cfg0.N) (e : t.val % 4 = 3) (acc : Vec Ideal S1024x1024 .f32)
    (h : (outsAt0 m c (t.val - 1) (Nat.lt_of_le_of_lt (Nat.sub_le _ _) t.isLt)).2 = acc) :
    (outsAt0 m c t.val t.isLt).1 = (addf acc (k0_pay1 (F := Ideal) (iblk m c 0 t) (iblk m c 1 t)) : S1024x1024.Idx → EReal) := by
  rw [outsAt0_C m c t (by omega) (by omega) e]
  dsimp only
  rw [last, h]

theorem point_before (t s : Fin cfg0.N) (e : t.val = s.val + 1) (acc : Vec Ideal S1024x1024 .f32)
    (h : (outsAt0 m c s.val s.isLt).2 = acc) :
    (outsAt0 m c (t.val - 1) (Nat.lt_of_le_of_lt (Nat.sub_le _ _) t.isLt)).2 = acc := by
  obtain ⟨t, ht⟩ := t; obtain ⟨s, hs⟩ := s
  obtain rfl : t = s + 1 := e
  exact h

/-- What the last of four points hands out. -/
theorem handed (t0 t1 t2 t3 : Fin cfg0.N) (e0 : t0.val % 4 = 0) (e1 : t1.val = t0.val + 1) (e2 : t2.val = t1.val + 1)
    (e3 : t3.val = t2.val + 1) :
    (dats m 0 c).after 2 t3 = fun y => ((part m c t0 y + part m c t1 y) + part m c t2 y) + part m c t3 y := by
  have s0 := scratch_first m c t0 e0
  have s1 := scratch_later m c t1 (by omega) (by omega) _ (point_before m c t1 t0 e1 _ s0)
  have s2 := scratch_later m c t2 (by omega) (by omega) _ (point_before m c t2 t1 e2 _ s1)
  rw [after0_2]
  exact handed_last m c t3 (by omega) _ (point_before m c t3 t2 e3 _ s2)

theorem index_at : ∀ t : Fin cfg0.N,
    win0_0.index t = ![t.val / 4, t.val % 4] ∧ win0_1.index t = ![0, t.val % 4] ∧ win0_2.index t = ![t.val / 4, 0] :=
  (by decide +kernel : ∀ t : Fin grid0.N, _)

theorem flush_at : ∀ t : Fin cfg0.N, (cfg0.win 2).flush t = true → t.val % 4 = 3 :=
  (by decide +kernel : ∀ t : Fin grid0.N, _)

theorem points (t : Fin cfg0.N) : t.val < 16 := t.isLt

/-- A point's block of the columns that are summed over, and of the result's rows. -/
def sumBlk (t : Fin cfg0.N) : Fin 4 := ⟨t % 4, by omega⟩
def rowBlk (t : Fin cfg0.N) : Fin 4 := ⟨t / 4, by have := points t; omega⟩

theorem emb0 (t : Fin cfg0.N) (a : Fin 1024) (k : Fin 1408) :
    ((cfg0.win 0).blk t).view.emb (ix2 a k) = ix2 (place (N := 4096) rfl (rowBlk t) a) (place (N := 5632) rfl (sumBlk t) k) := by
  have e := (index_at t).1
  funext x; apply Fin.ext
  fin_cases x
  · blk_simp [e]; rfl
  · blk_simp [e]; rfl

theorem emb1 (t : Fin cfg0.N) (b : Fin 1024) (k : Fin 1408) :
    ((cfg0.win 1).blk t).view.emb (ix2 b k) = ix2 b (place (N := 5632) rfl (sumBlk t) k) := by
  have e := (index_at t).2.1
  funext x; apply Fin.ext
  fin_cases x
  · blk_simp [e]; rfl
  · blk_simp [e]; rfl

theorem emb2 (t : Fin cfg0.N) (a : Fin 1024) (b : Fin 1024) :
    ((cfg0.win 2).blk t).view.emb (ix2 a b) = ix2 (place (N := 4096) rfl (rowBlk t) a) b := by
  have e := (index_at t).2.2
  funext x; apply Fin.ext
  fin_cases x
  · blk_simp [e]; rfl
  · blk_simp [e]; rfl

/-- A block's product at an index. -/
theorem pay_read (x0 : Vec Ideal S1024x1408 .bf16) (x1 : Vec Ideal S1024x1408 .bf16) (a : Fin 1024) (b : Fin 1024) :
    k0_pay1 (F := Ideal) x0 x1 (ix2 a b) = ∑ k : Fin 1408, (x0 (ix2 a k) * x1 (ix2 b k) : EReal) := by
  pointwise [k0_pay1]

/-- The two arrays as the region finds them. -/
def L : S4096x5632.Idx → EReal := V m c main_v4
def R : S1024x5632.Idx → EReal := V m c main_v9

theorem part_read (t : Fin cfg0.N) (a : Fin 1024) (b : Fin 1024) :
    part m c t (ix2 a b) = ∑ k : Fin 1408,
      L m c (ix2 (place (N := 4096) rfl (rowBlk t) a) (place (N := 5632) rfl (sumBlk t) k))
        * R m c (ix2 b (place (N := 5632) rfl (sumBlk t) k)) := by
  unfold part
  rw [pay_read]
  refine Finset.sum_congr rfl fun k _ => ?_
  show L m c (((cfg0.win 0).blk t).view.emb (ix2 a k)) * R m c (((cfg0.win 1).blk t).view.emb (ix2 b k)) = _
  rw [emb0, emb1]

/-- The product of the first array and the transposed second. -/
def G (A : S4096x5632.Idx → EReal) (B : S1024x5632.Idx → EReal) : S4096x1024.Idx → EReal :=
  fun i => ∑ k : Fin 5632, A (ix2 (i 0) k) * B (ix2 (i 1) k)

theorem part_of (t s : Fin cfg0.N) (q : Fin 4) (hq : s.val % 4 = q.val) (hd : s.val / 4 = t.val / 4) (a : Fin 1024) (b : Fin 1024) :
    part m c s (ix2 a b) = ∑ k : Fin 1408,
      L m c (ix2 (place (N := 4096) rfl (rowBlk t) a) (place (N := 5632) rfl q k)) * R m c (ix2 b (place (N := 5632) rfl q k)) := by
  rw [part_read, show sumBlk s = q from Fin.ext hq, show rowBlk s = rowBlk t from Fin.ext hd]

/-- The point `d` before another. -/
def back (t : Fin cfg0.N) (d : ℕ) : Fin cfg0.N := ⟨t - d, Nat.lt_of_le_of_lt (Nat.sub_le _ _) t.isLt⟩

theorem handed_read (t : Fin cfg0.N) (h : t.val % 4 = 3) (a : Fin 1024) (b : Fin 1024) :
    (dats m 0 c).after 2 t (ix2 a b) = G (L m c) (R m c) (ix2 (place (N := 4096) rfl (rowBlk t) a) b) := by
  have e : (dats m 0 c).after 2 t (ix2 a b) = ((part m c (back t 3) (ix2 a b) + part m c (back t 2) (ix2 a b))
      + part m c (back t 1) (ix2 a b)) + part m c t (ix2 a b) :=
    congrFun (handed m c (back t 3) (back t 2) (back t 1) t (by show (t.val - 3) % 4 = 0; omega)
      (by show t.val - 2 = t.val - 3 + 1; omega) (by show t.val - 1 = t.val - 2 + 1; omega)
      (by show t.val = t.val - 1 + 1; omega)) (ix2 a b)
  rw [e, part_of m c t (back t 3) 0 (by show (t.val - 3) % 4 = 0; omega) (by show (t.val - 3) / 4 = _; omega),
    part_of m c t (back t 2) 1 (by show (t.val - 2) % 4 = 1; omega) (by show (t.val - 2) / 4 = _; omega),
    part_of m c t (back t 1) 2 (by show (t.val - 1) % 4 = 2; omega) (by show (t.val - 1) / 4 = _; omega),
    part_of m c t t 3 h rfl]
  exact four_blocks (w := 1408) (N := 5632) rfl fun k => L m c (ix2 (place (N := 4096) rfl (rowBlk t) a) k) * R m c (ix2 b k)

/-- The array after the region. -/
theorem arr : (dats m 0 c).arrAt 2 cfg0.N = G (L m c) (R m c) := by
  refine (dats m 0 c).arrAt_eq_of_covers 2 _ (by decide +kernel) fun t hf y => ?_
  obtain ⟨a, b, rfl⟩ : ∃ (a : Fin 1024) (b : Fin 1024), y = ix2 a b := ⟨y 0, y 1, by funext x; fin_cases x <;> rfl⟩
  rw [emb2]
  exact handed_read m c t (flush_at t hf) a b

/-- The four arguments. -/
def DG : S4096x2816.Idx → EReal := m ((c : Thread nD τ).loc main_arg0)
def DU : S4096x2816.Idx → EReal := m ((c : Thread nD τ).loc main_arg1)
def WG : S1024x2816.Idx → EReal := m ((c : Thread nD τ).loc main_arg2)
def WU : S1024x2816.Idx → EReal := m ((c : Thread nD τ).loc main_arg3)

theorem woven_rows (g u : S4096x2816.Idx → EReal) (r : Fin 4096) (j : Fin 5632) :
    concatenate S4096x5632 1 [⟨S4096x1408, extractStridedSlice S4096x1408 ![0, 0] g Facts₀.slices_S4096x2816_S4096x1408_0_0⟩,
      ⟨S4096x1408, extractStridedSlice S4096x1408 ![0, 0] u Facts₀.slices_S4096x2816_S4096x1408_0_0⟩,
      ⟨S4096x1408, extractStridedSlice S4096x1408 ![0, 1408] g Facts₀.slices_S4096x2816_S4096x1408_0_1408⟩,
      ⟨S4096x1408, extractStridedSlice S4096x1408 ![0, 1408] u Facts₀.slices_S4096x2816_S4096x1408_0_1408⟩]
      Facts₀.concatenates_S4096x1408_S4096x1408_S4096x1408_S4096x1408_S4096x5632_d1 (ix2 r j)
      = weave (fun k => g (ix2 r k)) (fun k => u (ix2 r k)) j := by
  unfold weave
  pointwise

theorem woven_weights (g u : S1024x2816.Idx → EReal) (r : Fin 1024) (j : Fin 5632) :
    concatenate S1024x5632 1 [⟨S1024x1408, extractStridedSlice S1024x1408 ![0, 0] g Facts₀.slices_S1024x2816_S1024x1408_0_0⟩,
      ⟨S1024x1408, extractStridedSlice S1024x1408 ![0, 0] u Facts₀.slices_S1024x2816_S1024x1408_0_0⟩,
      ⟨S1024x1408, extractStridedSlice S1024x1408 ![0, 1408] g Facts₀.slices_S1024x2816_S1024x1408_0_1408⟩,
      ⟨S1024x1408, extractStridedSlice S1024x1408 ![0, 1408] u Facts₀.slices_S1024x2816_S1024x1408_0_1408⟩]
      Facts₀.concatenates_S1024x1408_S1024x1408_S1024x1408_S1024x1408_S1024x5632_d1 (ix2 r j)
      = weave (fun k => g (ix2 r k)) (fun k => u (ix2 r k)) j := by
  unfold weave
  pointwise

theorem L_read (r : Fin 4096) (j : Fin 5632) :
    L m c (ix2 r j) = weave (fun k => DG m c (ix2 r k)) (fun k => DU m c (ix2 r k)) j := by
  refine Eq.trans (congrFun ?_ _) (woven_rows (DG m c) (DU m c) r j)
  show StableHlo.after hostOps0 _ (Proc.devRef .tc main_v4) = _
  after_results
  rfl

theorem R_read (r : Fin 1024) (j : Fin 5632) :
    R m c (ix2 r j) = weave (fun k => WG m c (ix2 r k)) (fun k => WU m c (ix2 r k)) j := by
  refine Eq.trans (congrFun ?_ _) (woven_weights (WG m c) (WU m c) r j)
  show StableHlo.after hostOps0 _ (Proc.devRef .tc main_v9) = _
  after_results
  rfl

/-- The gradient of the input, as the reference adds it up. -/
def grad (dg du : S4096x2816.Idx → EReal) (wg wu : S1024x2816.Idx → EReal) : S4096x1024.Idx → EReal :=
  fun i => ∑ k : Fin 2816, du (ix2 (i 0) k) * wu (ix2 (i 1) k) + ∑ k : Fin 2816, dg (ix2 (i 0) k) * wg (ix2 (i 1) k)

theorem kernel_grad : (dats m 0 c).arrAt 2 cfg0.N = grad (DG m c) (DU m c) (WG m c) (WU m c) := by
  rw [arr]
  funext i
  refine (Finset.sum_congr rfl fun j _ => ?_).trans ((weave_sum _ _ _ _).trans (add_comm _ _))
  exact congrArg₂ (fun x y : EReal => x * y) (L_read m c (i 0) j) (R_read m c (i 1) j)

/-- The reference's term at an index. -/
theorem reference_grad (dg du : S4096x2816.Idx → EReal) (wg wu : S1024x2816.Idx → EReal) :
    truncf (F := Ideal) .bf16 (addf
      (Host.dotGeneral Cert.UpDxRefIdeal.dot_S4096x2816_S1024x2816_S4096x1024_1_1_0_0_n_n none
        (extf .f32 du Cert.UpDxRefIdeal.Facts₀.bitsLt_bf16_f32) (extf .f32 wu Cert.UpDxRefIdeal.Facts₀.bitsLt_bf16_f32))
      (Host.dotGeneral Cert.UpDxRefIdeal.dot_S4096x2816_S1024x2816_S4096x1024_1_1_0_0_n_n none
        (extf .f32 dg Cert.UpDxRefIdeal.Facts₀.bitsLt_bf16_f32) (extf .f32 wg Cert.UpDxRefIdeal.Facts₀.bitsLt_bf16_f32)))
      Cert.UpDxRefIdeal.Facts₀.bitsLt_bf16_f32 = grad dg du wg wu := by
  funext i
  obtain ⟨a, b, rfl⟩ : ∃ (a : Fin 4096) (b : Fin 1024), i = ix2 a b := ⟨i 0, i 1, by funext x; fin_cases x <;> rfl⟩
  unfold grad
  pointwise

end Cert.Ffn.UpDx

end
-- ==== Proof.UpDw.lean ====
/- The gradient of the gate and up projections' weights: four blocks of the rows, added up in a scratch array. -/
module

public import proofs.«01_k».proof.Proof.Gen.UpDwIdeal.Frame
public import proofs.«01_k».proof.Proof.Gen.UpDwRefIdeal.Run
public import proofs.«01_k».proof.Proof.UpDx
public import Idealize.ShloMosaic.Lib.Routing.OpsPair
public import Idealize.ShloMosaic.Lib.Routing.OpsSet
public import Idealize.ShloMosaic.Lib.Pipeline.ValueKit
public import Idealize.ShloMosaic.Lib.Pointwise

@[expose] public section

set_option maxRecDepth 16384

noncomputable section

namespace Cert.Ffn.UpDw

open Idealize.ShloMosaic Idealize.ShloMosaic.TcCoe Cert.UpDwIdeal Cert.UpDwIdeal.Gen

variable (m : (ℓ : Loc nD τ sig) → Buf (Elt Ideal) ℓ) (c : Dev nD)

theorem zeros : (![0, 0] : Fin 2 → Nat) = fun _ => 0 := funext fun a => by fin_cases a <;> rfl

section Cases

variable (i : grid0.Coords) (a3 : Memref sig .tc .vmem S1024x1024 .bf16) (h3 : a3.IsWhole)
  (a4 : Memref sig .tc .vmem S1024x1408 .bf16) (h4 : a4.IsWhole) (a5 : Memref sig .tc .vmem S1024x1408 .bf16) (h5 : a5.IsWhole)
  (a6 : Memref sig .tc .vmem S1024x1408 .f32) (h6 : a6.IsWhole)
  (x0 : Vec Ideal S1024x1024 .bf16) (x1 : Vec Ideal S1024x1408 .bf16) (acc : Vec Ideal S1024x1408 .f32)

/-- The first block's product is stored. -/
theorem first (g0 : cond0_0 i) (g1 : ¬cond0_1 i) (g2 : ¬cond0_2 i) :
    sout0_A_0 c i a3 h3 a4 h4 a5 h5 a6 h6 g0 g1 g2 x0 x1 = k0_pay1 (F := Ideal) x0 x1 := by
  unfold sout0_A_0
  rw [View.read_writes_eq_canon _ _ _ (scover0_A_0 c i a3 h3 a4 h4 a5 h5 a6 h6 g0 g1 g2 x0 x1)]
  unfold kernelRun0_A
  dsimp only
  rw [View.canon_unit_zero zeros]
  unfold k0_pay2
  simp only [View.readAt_eq_ld, h3.read_unread, h4.read_unread, h5.read_unread, h6.read_unread, View.ld_unit_zero (S := S1024x1408) zeros,
    View.ld_unit_zero (S := S1024x1024) zeros, shapeCast_self]

/-- A later block's product is added. -/
theorem later (g0 : ¬cond0_0 i) (g1 : cond0_1 i) (g2 : ¬cond0_2 i) :
    sout0_B_0 c i a3 h3 a4 h4 a5 h5 a6 h6 g0 g1 g2 x0 x1 acc = addf acc (k0_pay1 (F := Ideal) x0 x1) := by
  unfold sout0_B_0
  rw [View.read_writes_eq_canon _ _ _ (scover0_B_0 c i a3 h3 a4 h4 a5 h5 a6 h6 g0 g1 g2 x0 x1 acc)]
  unfold kernelRun0_B
  dsimp only
  rw [View.canon_unit_zero zeros]
  unfold k0_pay3
  simp only [View.readAt_eq_ld, h3.read_unread, h4.read_unread, h5.read_unread, h6.read_unread, View.ld_unit_zero (S := S1024x1408) zeros,
    View.ld_unit_zero (S := S1024x1024) zeros, shapeCast_self]

/-- The last block's product is added and the sum is handed out. -/
theorem last (g0 : ¬cond0_0 i) (g1 : cond0_1 i) (g2 : cond0_2 i) :
    out0_C_2 c i a3 h3 a4 h4 a5 h5 a6 h6 g0 g1 g2 x0 x1 acc = (addf acc (k0_pay1 (F := Ideal) x0 x1) : S1024x1408.Idx → EReal) := by
  unfold out0_C_2
  rw [View.read_writes_eq_canon _ _ _ (cover0_C_2 c i a3 h3 a4 h4 a5 h5 a6 h6 g0 g1 g2 x0 x1 acc)]
  unfold kernelRun0_C
  dsimp only
  sl_unfold_words
  rw [View.canon_unit_zero zeros, View.readCov_unit_zero (S := S1024x1408) _ zeros]
  unfold k0_pay4 k0_pay3
  simp only [View.readAt_eq_ld, h3.read_unread, h4.read_unread, h5.read_unread, h6.read_unread, View.ld_unit_zero (S := S1024x1408) zeros,
    View.ld_unit_zero (S := S1024x1024) zeros, shapeCast_self]
  rfl

end Cases

/-- One block's product. -/
def part (t : Fin cfg0.N) : S1024x1408.Idx → EReal := k0_pay1 (F := Ideal) (iblk m c 0 t) (iblk m c 1 t)

/-- What a first point leaves in the scratch array. -/
theorem scratch_first (t : Fin cfg0.N) (e : t.val % 4 = 0) :
    (outsAt0 m c t.val t.isLt).2 = k0_pay1 (F := Ideal) (iblk m c 0 t) (iblk m c 1 t) := by
  rw [outsAt0_A m c t e (by omega) (by omega)]
  dsimp only
  rw [first]

/-- What a middle point leaves there, over what the point before it left. -/
theorem scratch_later (t : Fin cfg0.N) (e : 1 ≤ t.val % 4) (e' : ¬t.val % 4 = 3) (acc : Vec Ideal S1024x1408 .f32)
    (h : (outsAt0 m c (t.val - 1) (Nat.lt_of_le_of_lt (Nat.sub_le _ _) t.isLt)).2 = acc) :
    (outsAt0 m c t.val t.isLt).2 = addf acc (k0_pay1 (F := Ideal) (iblk m c 0 t) (iblk m c 1 t)) := by
  rw [outsAt0_B m c t (by omega) e e']
  dsimp only
  rw [later, h]

/-- What a last point hands out, over what the point before it left. -/
theorem handed_last (t : Fin cfg0.N) (e : t.val % 4 = 3) (acc : Vec Ideal S1024x1408 .f32)
    (h : (outsAt0 m c (t.val - 1) (Nat.lt_of_le_of_lt (Nat.sub_le _ _) t.isLt)).2 = acc) :
    (outsAt0 m c t.val t.isLt).1 = (addf acc (k0_pay1 (F := Ideal) (iblk m c 0 t) (iblk m c 1 t)) : S1024x1408.Idx → EReal) := by
  rw [outsAt0_C m c t (by omega) (by omega) e]
  dsimp only
  rw [last, h]

theorem point_before (t s : Fin cfg0.N) (e : t.val = s.val + 1) (acc : Vec Ideal S1024x1408 .f32)
    (h : (outsAt0 m c s.val s.isLt).2 = acc) :
    (outsAt0 m c (t.val - 1) (Nat.lt_of_le_of_lt (Nat.sub_le _ _) t.isLt)).2 = acc := by
  obtain ⟨t, ht⟩ := t; obtain ⟨s, hs⟩ := s
  obtain rfl : t = s + 1 := e
  exact h

/-- What the last of four points hands out. -/
theorem handed (t0 t1 t2 t3 : Fin cfg0.N) (e0 : t0.val % 4 = 0) (e1 : t1.val = t0.val + 1) (e2 : t2.val = t1.val + 1)
    (e3 : t3.val = t2.val + 1) :
    (dats m 0 c).after 2 t3 = fun y => ((part m c t0 y + part m c t1 y) + part m c t2 y) + part m c t3 y := by
  have s0 := scratch_first m c t0 e0
  have s1 := scratch_later m c t1 (by omega) (by omega) _ (point_before m c t1 t0 e1 _ s0)
  have s2 := scratch_later m c t2 (by omega) (by omega) _ (point_before m c t2 t1 e2 _ s1)
  rw [after0_2]
  exact handed_last m c t3 (by omega) _ (point_before m c t3 t2 e3 _ s2)

theorem index_at : ∀ t : Fin cfg0.N,
    win0_0.index t = ![t.val % 4, 0] ∧ win0_1.index t = ![t.val % 4, t.val / 4] ∧ win0_2.index t = ![0, t.val / 4] :=
  (by decide +kernel : ∀ t : Fin grid0.N, _)

theorem flush_at : ∀ t : Fin cfg0.N, (cfg0.win 2).flush t = true → t.val % 4 = 3 :=
  (by decide +kernel : ∀ t : Fin grid0.N, _)

theorem points (t : Fin cfg0.N) : t.val < 16 := t.isLt

/-- A point's block of the rows that are summed over, and of the result's columns. -/
def sumBlk (t : Fin cfg0.N) : Fin 4 := ⟨t % 4, by omega⟩
def colBlk (t : Fin cfg0.N) : Fin 4 := ⟨t / 4, by have := points t; omega⟩

theorem emb0 (t : Fin cfg0.N) (k : Fin 1024) (a : Fin 1024) :
    ((cfg0.win 0).blk t).view.emb (ix2 k a) = ix2 (place (N := 4096) rfl (sumBlk t) k) a := by
  have e := (index_at t).1
  funext x; apply Fin.ext
  fin_cases x
  · blk_simp [e]; rfl
  · blk_simp [e]; rfl

theorem emb1 (t : Fin cfg0.N) (k : Fin 1024) (b : Fin 1408) :
    ((cfg0.win 1).blk t).view.emb (ix2 k b) = ix2 (place (N := 4096) rfl (sumBlk t) k) (place (N := 5632) rfl (colBlk t) b) := by
  have e := (index_at t).2.1
  funext x; apply Fin.ext
  fin_cases x
  · blk_simp [e]; rfl
  · blk_simp [e]; rfl

theorem emb2 (t : Fin cfg0.N) (a : Fin 1024) (b : Fin 1408) :
    ((cfg0.win 2).blk t).view.emb (ix2 a b) = ix2 a (place (N := 5632) rfl (colBlk t) b) := by
  have e := (index_at t).2.2
  funext x; apply Fin.ext
  fin_cases x
  · blk_simp [e]; rfl
  · blk_simp [e]; rfl

/-- A block's product at an index. -/
theorem pay_read (x0 : Vec Ideal S1024x1024 .bf16) (x1 : Vec Ideal S1024x1408 .bf16) (a : Fin 1024) (b : Fin 1408) :
    k0_pay1 (F := Ideal) x0 x1 (ix2 a b) = ∑ k : Fin 1024, (x0 (ix2 k a) * x1 (ix2 k b) : EReal) := by
  pointwise [k0_pay1]

/-- The two arrays as the region finds them. -/
def L : S4096x1024.Idx → EReal := V m c main_arg0
def R : S4096x5632.Idx → EReal := V m c main_v4

theorem part_read (t : Fin cfg0.N) (a : Fin 1024) (b : Fin 1408) :
    part m c t (ix2 a b) = ∑ k : Fin 1024,
      L m c (ix2 (place (N := 4096) rfl (sumBlk t) k) a)
        * R m c (ix2 (place (N := 4096) rfl (sumBlk t) k) (place (N := 5632) rfl (colBlk t) b)) := by
  unfold part
  rw [pay_read]
  refine Finset.sum_congr rfl fun k _ => ?_
  show L m c (((cfg0.win 0).blk t).view.emb (ix2 k a)) * R m c (((cfg0.win 1).blk t).view.emb (ix2 k b)) = _
  rw [emb0, emb1]

/-- The product of the transposed first array and the second. -/
def G (A : S4096x1024.Idx → EReal) (B : S4096x5632.Idx → EReal) : S1024x5632.Idx → EReal :=
  fun i => ∑ k : Fin 4096, A (ix2 k (i 0)) * B (ix2 k (i 1))

theorem part_of (t s : Fin cfg0.N) (q : Fin 4) (hq : s.val % 4 = q.val) (hd : s.val / 4 = t.val / 4) (a : Fin 1024) (b : Fin 1408) :
    part m c s (ix2 a b) = ∑ k : Fin 1024,
      L m c (ix2 (place (N := 4096) rfl q k) a) * R m c (ix2 (place (N := 4096) rfl q k) (place (N := 5632) rfl (colBlk t) b)) := by
  rw [part_read, show sumBlk s = q from Fin.ext hq, show colBlk s = colBlk t from Fin.ext hd]

/-- The point `d` before another. -/
def back (t : Fin cfg0.N) (d : ℕ) : Fin cfg0.N := ⟨t - d, Nat.lt_of_le_of_lt (Nat.sub_le _ _) t.isLt⟩

theorem handed_read (t : Fin cfg0.N) (h : t.val % 4 = 3) (a : Fin 1024) (b : Fin 1408) :
    (dats m 0 c).after 2 t (ix2 a b) = G (L m c) (R m c) (ix2 a (place (N := 5632) rfl (colBlk t) b)) := by
  have e : (dats m 0 c).after 2 t (ix2 a b) = ((part m c (back t 3) (ix2 a b) + part m c (back t 2) (ix2 a b))
      + part m c (back t 1) (ix2 a b)) + part m c t (ix2 a b) :=
    congrFun (handed m c (back t 3) (back t 2) (back t 1) t (by show (t.val - 3) % 4 = 0; omega)
      (by show t.val - 2 = t.val - 3 + 1; omega) (by show t.val - 1 = t.val - 2 + 1; omega)
      (by show t.val = t.val - 1 + 1; omega)) (ix2 a b)
  rw [e, part_of m c t (back t 3) 0 (by show (t.val - 3) % 4 = 0; omega) (by show (t.val - 3) / 4 = _; omega),
    part_of m c t (back t 2) 1 (by show (t.val - 2) % 4 = 1; omega) (by show (t.val - 2) / 4 = _; omega),
    part_of m c t (back t 1) 2 (by show (t.val - 1) % 4 = 2; omega) (by show (t.val - 1) / 4 = _; omega),
    part_of m c t t 3 h rfl]
  exact four_blocks (w := 1024) (N := 4096) rfl fun k => L m c (ix2 k a) * R m c (ix2 k (place (N := 5632) rfl (colBlk t) b))

/-- The array after the region. -/
theorem arr : (dats m 0 c).arrAt 2 cfg0.N = G (L m c) (R m c) := by
  refine (dats m 0 c).arrAt_eq_of_covers 2 _ (by decide +kernel) fun t hf y => ?_
  obtain ⟨a, b, rfl⟩ : ∃ (a : Fin 1024) (b : Fin 1408), y = ix2 a b := ⟨y 0, y 1, by funext x; fin_cases x <;> rfl⟩
  rw [emb2]
  exact handed_read m c t (flush_at t hf) a b

/-- The three arguments. -/
def X : S4096x1024.Idx → EReal := m ((c : Thread nD τ).loc main_arg0)
def DG : S4096x2816.Idx → EReal := m ((c : Thread nD τ).loc main_arg1)
def DU : S4096x2816.Idx → EReal := m ((c : Thread nD τ).loc main_arg2)

theorem L_eq : L m c = X m c := V_main_arg0 m c

theorem R_read (r : Fin 4096) (j : Fin 5632) :
    R m c (ix2 r j) = weave (fun k => DG m c (ix2 r k)) (fun k => DU m c (ix2 r k)) j := by
  refine Eq.trans (congrFun ?_ _) (UpDx.woven_rows (DG m c) (DU m c) r j)
  show StableHlo.after hostOps0 _ (Proc.devRef .tc main_v4) = _
  after_results
  rfl

/-- The gradient of one weight matrix. -/
def grad (x : S4096x1024.Idx → EReal) (d : S4096x2816.Idx → EReal) : S1024x2816.Idx → EReal :=
  fun i => ∑ k : Fin 4096, d (ix2 k (i 1)) * x (ix2 k (i 0))

/-- The two gradients, laid in alternate tiles, are what the region leaves. -/
theorem arr_read (a : Fin 1024) (j : Fin 5632) :
    (dats m 0 c).arrAt 2 cfg0.N (ix2 a j)
      = weave (fun k => grad (X m c) (DG m c) (ix2 a k)) (fun k => grad (X m c) (DU m c) (ix2 a k)) j := by
  rw [arr, L_eq]
  refine (Finset.sum_congr rfl fun k _ => congrArg (fun y : EReal => X m c (ix2 k a) * y) (R_read m c k j)).trans ?_
  unfold weave grad
  repeat' split
  all_goals exact Finset.sum_congr rfl fun k _ => mul_comm _ _

/-- The region's arrays, as the lines after it find them. -/
abbrev W0 : Valuation τ sig (Elt Ideal) :=
  Pipeline.withArrays (cfgs 0).spec c (V0 m c) fun w => (dats m 0 c).arrAt w (cfgs 0).N

theorem arr_tail (w : Fin cfg0.W) : W0 m c (Proc.devRef .tc (Pipeline.arrRef spec0 w)) = (dats m 0 c).arrAt w cfg0.N := by
  exact Pipeline.withArrays_arr _ (by decide) c (V0 m c) _ w

/-- The region's result. -/
def Y : S1024x5632.Idx → EReal := (dats m 0 c).arrAt 2 cfg0.N

theorem arr_at (a : Fin 1024) (j : Fin 5632) : Y m c (ix2 a j)
    = weave (fun k => grad (X m c) (DG m c) (ix2 a k)) (fun k => grad (X m c) (DU m c) (ix2 a k)) j := arr_read m c a j

/-- The first matrix's tiles side by side. -/
theorem firsts (x : S1024x5632.Idx → EReal) (a : Fin 1024) (j : Fin 2816) :
    concatenate S1024x2816 1 [⟨S1024x1408, extractStridedSlice S1024x1408 ![0, 0] x Facts₀.slices_S1024x5632_S1024x1408_0_0⟩,
      ⟨S1024x1408, extractStridedSlice S1024x1408 ![0, 2816] x Facts₀.slices_S1024x5632_S1024x1408_0_2816⟩]
      Facts₀.concatenates_S1024x1408_S1024x1408_S1024x2816_d1 (ix2 a j)
      = if _ : j.val < 1408 then x (ix2 a ⟨j, by omega⟩) else x (ix2 a ⟨2816 + (j - 1408), by omega⟩) := by
  pointwise

/-- The second matrix's tiles side by side. -/
theorem seconds (x : S1024x5632.Idx → EReal) (a : Fin 1024) (j : Fin 2816) :
    concatenate S1024x2816 1 [⟨S1024x1408, extractStridedSlice S1024x1408 ![0, 1408] x Facts₀.slices_S1024x5632_S1024x1408_0_1408⟩,
      ⟨S1024x1408, extractStridedSlice S1024x1408 ![0, 4224] x Facts₀.slices_S1024x5632_S1024x1408_0_4224⟩]
      Facts₀.concatenates_S1024x1408_S1024x1408_S1024x2816_d1 (ix2 a j)
      = if _ : j.val < 1408 then x (ix2 a ⟨1408 + j, by omega⟩) else x (ix2 a ⟨4224 + (j - 1408), by omega⟩) := by
  pointwise

theorem tail_gate : Pipeline.afterTail₀ cfgs (dats m) 0 (V0 m) [hostOps1] c main_v10 = grad (X m c) (DG m c) := by
  funext i
  obtain ⟨a, j, rfl⟩ : ∃ (a : Fin 1024) (j : Fin 2816), i = ix2 a j := ⟨i 0, i 1, by funext x; fin_cases x <;> rfl⟩
  refine Eq.trans (congrFun ?_ _) ((firsts (Y m c) a j).trans ?_)
  · unfold Y
    rw [← arr_tail m c 2]
    show StableHlo.after hostOps1 (W0 m c) (Proc.devRef .tc main_v10) = _
    after_results
  · simp only [arr_at m c a]
    exact weave_firsts _ _ j

theorem tail_up : Pipeline.afterTail₀ cfgs (dats m) 0 (V0 m) [hostOps1] c main_v11 = grad (X m c) (DU m c) := by
  funext i
  obtain ⟨a, j, rfl⟩ : ∃ (a : Fin 1024) (j : Fin 2816), i = ix2 a j := ⟨i 0, i 1, by funext x; fin_cases x <;> rfl⟩
  refine Eq.trans (congrFun ?_ _) ((seconds (Y m c) a j).trans ?_)
  · unfold Y
    rw [← arr_tail m c 2]
    show StableHlo.after hostOps1 (W0 m c) (Proc.devRef .tc main_v11) = _
    after_results
  · simp only [arr_at m c a]
    exact weave_seconds _ _ j

/-- The reference's term at an index. -/
theorem reference_grad (x : S4096x1024.Idx → EReal) (d : S4096x2816.Idx → EReal) :
    truncf (F := Ideal) .bf16 (transpose Cert.UpDwRefIdeal.S1024x2816 [1, 0]
      (Host.dotGeneral Cert.UpDwRefIdeal.dot_S4096x2816_S4096x1024_S2816x1024_0_0_1_1_n_n none
        (extf .f32 d Cert.UpDwRefIdeal.Facts₀.bitsLt_bf16_f32) (extf .f32 x Cert.UpDwRefIdeal.Facts₀.bitsLt_bf16_f32))
      Cert.UpDwRefIdeal.Facts₀.transposes_S2816x1024_S1024x2816_1_0)
      Cert.UpDwRefIdeal.Facts₀.bitsLt_bf16_f32 = grad x d := by
  funext i
  obtain ⟨a, b, rfl⟩ : ∃ (a : Fin 1024) (b : Fin 2816), i = ix2 a b := ⟨i 0, i 1, by funext x; fin_cases x <;> rfl⟩
  unfold grad
  pointwise

end Cert.Ffn.UpDw

end
-- ==== Proof.DownDx.lean ====
/- The gradient of the down projection's input: one product per block of the result. -/
module

public import proofs.«01_k».proof.Proof.Gen.DownDxIdeal.Value
public import proofs.«01_k».proof.Proof.Gen.DownDxRefIdeal.Run
public import proofs.«01_k».proof.Proof.BlockSum
public import Idealize.ShloMosaic.Lib.Pipeline.ValueKit
public import Idealize.ShloMosaic.Lib.Pointwise

@[expose] public section

set_option maxRecDepth 16384

noncomputable section

namespace Cert.Ffn.DownDx

open Idealize.ShloMosaic Idealize.ShloMosaic.TcCoe Cert.DownDxIdeal Cert.DownDxIdeal.Gen

variable (m : (ℓ : Loc nD τ sig) → Buf (Elt Ideal) ℓ) (c : Dev nD)

theorem zeros : (![0, 0] : Fin 2 → Nat) = fun _ => 0 := funext fun a => by fin_cases a <;> rfl

/-- What a point hands out. -/
theorem handed (t : Fin cfg0.N) :
    (dats m 0 c).after 2 t = k0_pay1 (F := Ideal) (iblk m c 0 t) (iblk m c 1 t) := by
  rw [after0_2]
  unfold outsAt0 out0_A_2
  rw [View.read_writes_eq_canon _ _ _ (cover0_A_2 c _ _ _ _ _ _ _ _ _ (iblk m c 0 t) (iblk m c 1 t))]
  unfold kernelRun0_A
  dsimp only
  rw [View.canon_unit_zero zeros]
  simp only [View.readAt_eq_ld, (hs0_0 t).read_unread, (hs0_1 t).read_unread, View.ld_unit_zero (S := S1024x1024) zeros,
    View.ld_unit_zero (S := S1408x1024) zeros, shapeCast_self]

theorem index_at : ∀ t : Fin cfg0.N,
    win0_0.index t = ![t.val / 2, 0] ∧ win0_1.index t = ![t.val % 2, 0] ∧ win0_2.index t = ![t.val / 2, t.val % 2] :=
  (by decide +kernel : ∀ t : Fin grid0.N, _)

theorem points (t : Fin cfg0.N) : t.val < 8 := t.isLt

/-- A point's block of the result's rows and of its columns. -/
def rowBlk (t : Fin cfg0.N) : Fin 4 := ⟨t / 2, by have := points t; omega⟩
def colBlk (t : Fin cfg0.N) : Fin 2 := ⟨t % 2, by omega⟩

theorem emb0 (t : Fin cfg0.N) (a : Fin 1024) (k : Fin 1024) :
    ((cfg0.win 0).blk t).view.emb (ix2 a k) = ix2 (place (N := 4096) rfl (rowBlk t) a) k := by
  have e := (index_at t).1
  funext x; apply Fin.ext
  fin_cases x
  · blk_simp [e]; rfl
  · blk_simp [e]; rfl

theorem emb1 (t : Fin cfg0.N) (b : Fin 1408) (k : Fin 1024) :
    ((cfg0.win 1).blk t).view.emb (ix2 b k) = ix2 (place (N := 2816) rfl (colBlk t) b) k := by
  have e := (index_at t).2.1
  funext x; apply Fin.ext
  fin_cases x
  · blk_simp [e]; rfl
  · blk_simp [e]; rfl

theorem emb2 (t : Fin cfg0.N) (a : Fin 1024) (b : Fin 1408) :
    ((cfg0.win 2).blk t).view.emb (ix2 a b) = ix2 (place (N := 4096) rfl (rowBlk t) a) (place (N := 2816) rfl (colBlk t) b) := by
  have e := (index_at t).2.2
  funext x; apply Fin.ext
  fin_cases x
  · blk_simp [e]; rfl
  · blk_simp [e]; rfl

/-- A block's product at an index. -/
theorem pay_read (x0 : Vec Ideal S1024x1024 .f32) (x1 : Vec Ideal S1408x1024 .bf16) (a : Fin 1024) (b : Fin 1408) :
    k0_pay1 (F := Ideal) x0 x1 (ix2 a b) = ∑ k : Fin 1024, (x0 (ix2 a k) * x1 (ix2 b k) : EReal) := by
  pointwise [k0_pay1]

/-- The two arrays as the region finds them. -/
def L : S4096x1024.Idx → EReal := V m c main_arg0
def R : S2816x1024.Idx → EReal := V m c main_arg1

/-- The product of the first array and the transposed second. -/
def grad (A : S4096x1024.Idx → EReal) (B : S2816x1024.Idx → EReal) : S4096x2816.Idx → EReal :=
  fun i => ∑ k : Fin 1024, A (ix2 (i 0) k) * B (ix2 (i 1) k)

theorem handed_read (t : Fin cfg0.N) (a : Fin 1024) (b : Fin 1408) :
    (dats m 0 c).after 2 t (ix2 a b)
      = grad (L m c) (R m c) (ix2 (place (N := 4096) rfl (rowBlk t) a) (place (N := 2816) rfl (colBlk t) b)) := by
  refine (congrFun (handed m c t) (ix2 a b)).trans ((pay_read _ _ a b).trans ?_)
  refine Finset.sum_congr rfl fun k _ => ?_
  show L m c (((cfg0.win 0).blk t).view.emb (ix2 a k)) * R m c (((cfg0.win 1).blk t).view.emb (ix2 b k)) = _
  rw [emb0, emb1]
  rfl

/-- The array after the region. -/
theorem arr : (dats m 0 c).arrAt 2 cfg0.N = grad (L m c) (R m c) := by
  refine (dats m 0 c).arrAt_eq_of_covers 2 _ (by decide +kernel) fun t hf y => ?_
  obtain ⟨a, b, rfl⟩ : ∃ (a : Fin 1024) (b : Fin 1408), y = ix2 a b := ⟨y 0, y 1, by funext x; fin_cases x <;> rfl⟩
  rw [emb2]
  exact handed_read m c t a b

/-- The two arguments. -/
def DY : S4096x1024.Idx → EReal := m ((c : Thread nD τ).loc main_arg0)
def W : S2816x1024.Idx → EReal := m ((c : Thread nD τ).loc main_arg1)

theorem kernel_grad : (dats m 0 c).arrAt 2 cfg0.N = grad (DY m c) (W m c) := by
  rw [arr, show L m c = DY m c from V_main_arg0 m c, show R m c = W m c from V_main_arg1 m c]

/-- The reference's term at an index. -/
theorem reference_grad (d : S4096x1024.Idx → EReal) (w : S2816x1024.Idx → EReal) :
    truncf (F := Ideal) .bf16
      (Host.dotGeneral (φ₁ := .f32) (φ₂ := .f32) Cert.DownDxRefIdeal.dot_S4096x1024_S2816x1024_S4096x2816_1_1_0_0_n_n none
        d (extf .f32 w Cert.DownDxRefIdeal.Facts₀.bitsLt_bf16_f32))
      Cert.DownDxRefIdeal.Facts₀.bitsLt_bf16_f32 = grad d w := by
  funext i
  obtain ⟨a, b, rfl⟩ : ∃ (a : Fin 4096) (b : Fin 2816), i = ix2 a b := ⟨i 0, i 1, by funext x; fin_cases x <;> rfl⟩
  unfold grad
  pointwise

end Cert.Ffn.DownDx

end
-- ==== Proof.DownDw.lean ====
/- The gradient of the down projection's weights: four blocks of the rows, added up in a scratch array. -/
module

public import proofs.«01_k».proof.Proof.Gen.DownDwIdeal.Frame
public import proofs.«01_k».proof.Proof.Gen.DownDwIdeal.Value
public import proofs.«01_k».proof.Proof.Gen.DownDwRefIdeal.Run
public import proofs.«01_k».proof.Proof.BlockSum
public import Idealize.ShloMosaic.Lib.Pipeline.ValueKit
public import Idealize.ShloMosaic.Lib.Pointwise

@[expose] public section

set_option maxRecDepth 16384

noncomputable section

namespace Cert.Ffn.DownDw

open Idealize.ShloMosaic Idealize.ShloMosaic.TcCoe Cert.DownDwIdeal Cert.DownDwIdeal.Gen

variable (m : (ℓ : Loc nD τ sig) → Buf (Elt Ideal) ℓ) (c : Dev nD)

theorem zeros : (![0, 0] : Fin 2 → Nat) = fun _ => 0 := funext fun a => by fin_cases a <;> rfl

section Cases

variable (i : grid0.Coords) (a3 : Memref sig .tc .vmem S1024x1408 .bf16) (h3 : a3.IsWhole)
  (a4 : Memref sig .tc .vmem S1024x1024 .f32) (h4 : a4.IsWhole) (a5 : Memref sig .tc .vmem S1408x1024 .bf16) (h5 : a5.IsWhole)
  (a6 : Memref sig .tc .vmem S1408x1024 .f32) (h6 : a6.IsWhole)
  (x0 : Vec Ideal S1024x1408 .bf16) (x1 : Vec Ideal S1024x1024 .f32) (acc : Vec Ideal S1408x1024 .f32)

/-- The first block's product is stored. -/
theorem first (g0 : cond0_0 i) (g1 : ¬cond0_1 i) (g2 : ¬cond0_2 i) :
    sout0_A_0 c i a3 h3 a4 h4 a5 h5 a6 h6 g0 g1 g2 x0 x1 = k0_pay1 (F := Ideal) x0 x1 := by
  unfold sout0_A_0
  rw [View.read_writes_eq_canon _ _ _ (scover0_A_0 c i a3 h3 a4 h4 a5 h5 a6 h6 g0 g1 g2 x0 x1)]
  unfold kernelRun0_A
  dsimp only
  rw [View.canon_unit_zero zeros]
  unfold k0_pay2
  simp only [View.readAt_eq_ld, h3.read_unread, h4.read_unread, h5.read_unread, h6.read_unread, View.ld_unit_zero (S := S1024x1408) zeros,
    View.ld_unit_zero (S := S1024x1024) zeros, View.ld_unit_zero (S := S1408x1024) zeros, shapeCast_self]

/-- A later block's product is added. -/
theorem later (g0 : ¬cond0_0 i) (g1 : cond0_1 i) (g2 : ¬cond0_2 i) :
    sout0_B_0 c i a3 h3 a4 h4 a5 h5 a6 h6 g0 g1 g2 x0 x1 acc = addf acc (k0_pay1 (F := Ideal) x0 x1) := by
  unfold sout0_B_0
  rw [View.read_writes_eq_canon _ _ _ (scover0_B_0 c i a3 h3 a4 h4 a5 h5 a6 h6 g0 g1 g2 x0 x1 acc)]
  unfold kernelRun0_B
  dsimp only
  rw [View.canon_unit_zero zeros]
  unfold k0_pay3
  simp only [View.readAt_eq_ld, h3.read_unread, h4.read_unread, h5.read_unread, h6.read_unread, View.ld_unit_zero (S := S1024x1408) zeros,
    View.ld_unit_zero (S := S1024x1024) zeros, View.ld_unit_zero (S := S1408x1024) zeros, shapeCast_self]

/-- The last block's product is added and the sum is handed out. -/
theorem last (g0 : ¬cond0_0 i) (g1 : cond0_1 i) (g2 : cond0_2 i) :
    out0_C_2 c i a3 h3 a4 h4 a5 h5 a6 h6 g0 g1 g2 x0 x1 acc = (addf acc (k0_pay1 (F := Ideal) x0 x1) : S1408x1024.Idx → EReal) := by
  unfold out0_C_2
  rw [View.read_writes_eq_canon _ _ _ (cover0_C_2 c i a3 h3 a4 h4 a5 h5 a6 h6 g0 g1 g2 x0 x1 acc)]
  unfold kernelRun0_C
  dsimp only
  sl_unfold_words
  rw [View.canon_unit_zero zeros, View.readCov_unit_zero (S := S1408x1024) _ zeros]
  unfold k0_pay4 k0_pay3
  simp only [View.readAt_eq_ld, h3.read_unread, h4.read_unread, h5.read_unread, h6.read_unread, View.ld_unit_zero (S := S1024x1408) zeros,
    View.ld_unit_zero (S := S1024x1024) zeros, View.ld_unit_zero (S := S1408x1024) zeros, shapeCast_self]
  rfl

end Cases

/-- One block's product. -/
def part (t : Fin cfg0.N) : S1408x1024.Idx → EReal := k0_pay1 (F := Ideal) (iblk m c 0 t) (iblk m c 1 t)

/-- What a first point leaves in the scratch array. -/
theorem scratch_first (t : Fin cfg0.N) (e : t.val % 4 = 0) :
    (outsAt0 m c t.val t.isLt).2 = k0_pay1 (F := Ideal) (iblk m c 0 t) (iblk m c 1 t) := by
  rw [outsAt0_A m c t e (by omega) (by omega)]
  dsimp only
  rw [first]

/-- What a middle point leaves there, over what the point before it left. -/
theorem scratch_later (t : Fin cfg0.N) (e : 1 ≤ t.val % 4) (e' : ¬t.val % 4 = 3) (acc : Vec Ideal S1408x1024 .f32)
    (h : (outsAt0 m c (t.val - 1) (Nat.lt_of_le_of_lt (Nat.sub_le _ _) t.isLt)).2 = acc) :
    (outsAt0 m c t.val t.isLt).2 = addf acc (k0_pay1 (F := Ideal) (iblk m c 0 t) (iblk m c 1 t)) := by
  rw [outsAt0_B m c t (by omega) e e']
  dsimp only
  rw [later, h]

/-- What a last point hands out, over what the point before it left. -/
theorem handed_last (t : Fin cfg0.N) (e : t.val % 4 = 3) (acc : Vec Ideal S1408x1024 .f32)
    (h : (outsAt0 m c (t.val - 1) (Nat.lt_of_le_of_lt (Nat.sub_le _ _) t.isLt)).2 = acc) :
    (outsAt0 m c t.val t.isLt).1 = (addf acc (k0_pay1 (F := Ideal) (iblk m c 0 t) (iblk m c 1 t)) : S1408x1024.Idx → EReal) := by
  rw [outsAt0_C m c t (by omega) (by omega) e]
  dsimp only
  rw [last, h]

theorem point_before (t s : Fin cfg0.N) (e : t.val = s.val + 1) (acc : Vec Ideal S1408x1024 .f32)
    (h : (outsAt0 m c s.val s.isLt).2 = acc) :
    (outsAt0 m c (t.val - 1) (Nat.lt_of_le_of_lt (Nat.sub_le _ _) t.isLt)).2 = acc := by
  obtain ⟨t, ht⟩ := t; obtain ⟨s, hs⟩ := s
  obtain rfl : t = s + 1 := e
  exact h

/-- What the last of four points hands out. -/
theorem handed (t0 t1 t2 t3 : Fin cfg0.N) (e0 : t0.val % 4 = 0) (e1 : t1.val = t0.val + 1) (e2 : t2.val = t1.val + 1)
    (e3 : t3.val = t2.val + 1) :
    (dats m 0 c).after 2 t3 = fun y => ((part m c t0 y + part m c t1 y) + part m c t2 y) + part m c t3 y := by
  have s0 := scratch_first m c t0 e0
  have s1 := scratch_later m c t1 (by omega) (by omega) _ (point_before m c t1 t0 e1 _ s0)
  have s2 := scratch_later m c t2 (by omega) (by omega) _ (point_before m c t2 t1 e2 _ s1)
  rw [after0_2]
  exact handed_last m c t3 (by omega) _ (point_before m c t3 t2 e3 _ s2)

theorem index_at : ∀ t : Fin cfg0.N,
    win0_0.index t = ![t.val % 4, t.val / 4] ∧ win0_1.index t = ![t.val % 4, 0] ∧ win0_2.index t = ![t.val / 4, 0] :=
  (by decide +kernel : ∀ t : Fin grid0.N, _)

theorem flush_at : ∀ t : Fin cfg0.N, (cfg0.win 2).flush t = true → t.val % 4 = 3 :=
  (by decide +kernel : ∀ t : Fin grid0.N, _)

theorem points (t : Fin cfg0.N) : t.val < 8 := t.isLt

/-- A point's block of the rows that are summed over, and of the result's rows. -/
def sumBlk (t : Fin cfg0.N) : Fin 4 := ⟨t % 4, by omega⟩
def rowBlk (t : Fin cfg0.N) : Fin 2 := ⟨t / 4, by have := points t; omega⟩

theorem emb0 (t : Fin cfg0.N) (k : Fin 1024) (a : Fin 1408) :
    ((cfg0.win 0).blk t).view.emb (ix2 k a) = ix2 (place (N := 4096) rfl (sumBlk t) k) (place (N := 2816) rfl (rowBlk t) a) := by
  have e := (index_at t).1
  funext x; apply Fin.ext
  fin_cases x
  · blk_simp [e]; rfl
  · blk_simp [e]; rfl

theorem emb1 (t : Fin cfg0.N) (k : Fin 1024) (b : Fin 1024) :
    ((cfg0.win 1).blk t).view.emb (ix2 k b) = ix2 (place (N := 4096) rfl (sumBlk t) k) b := by
  have e := (index_at t).2.1
  funext x; apply Fin.ext
  fin_cases x
  · blk_simp [e]; rfl
  · blk_simp [e]; rfl

theorem emb2 (t : Fin cfg0.N) (a : Fin 1408) (b : Fin 1024) :
    ((cfg0.win 2).blk t).view.emb (ix2 a b) = ix2 (place (N := 2816) rfl (rowBlk t) a) b := by
  have e := (index_at t).2.2
  funext x; apply Fin.ext
  fin_cases x
  · blk_simp [e]; rfl
  · blk_simp [e]; rfl

/-- A block's product at an index. -/
theorem pay_read (x0 : Vec Ideal S1024x1408 .bf16) (x1 : Vec Ideal S1024x1024 .f32) (a : Fin 1408) (b : Fin 1024) :
    k0_pay1 (F := Ideal) x0 x1 (ix2 a b) = ∑ k : Fin 1024, (x0 (ix2 k a) * x1 (ix2 k b) : EReal) := by
  pointwise [k0_pay1]

/-- The two arrays as the region finds them. -/
def L : S4096x2816.Idx → EReal := V m c main_arg0
def R : S4096x1024.Idx → EReal := V m c main_arg1

theorem part_read (t : Fin cfg0.N) (a : Fin 1408) (b : Fin 1024) :
    part m c t (ix2 a b) = ∑ k : Fin 1024,
      L m c (ix2 (place (N := 4096) rfl (sumBlk t) k) (place (N := 2816) rfl (rowBlk t) a))
        * R m c (ix2 (place (N := 4096) rfl (sumBlk t) k) b) := by
  unfold part
  rw [pay_read]
  refine Finset.sum_congr rfl fun k _ => ?_
  show L m c (((cfg0.win 0).blk t).view.emb (ix2 k a)) * R m c (((cfg0.win 1).blk t).view.emb (ix2 k b)) = _
  rw [emb0, emb1]

/-- The product of the transposed first array and the second. -/
def G (A : S4096x2816.Idx → EReal) (B : S4096x1024.Idx → EReal) : S2816x1024.Idx → EReal :=
  fun i => ∑ k : Fin 4096, A (ix2 k (i 0)) * B (ix2 k (i 1))

theorem part_of (t s : Fin cfg0.N) (q : Fin 4) (hq : s.val % 4 = q.val) (hd : s.val / 4 = t.val / 4) (a : Fin 1408) (b : Fin 1024) :
    part m c s (ix2 a b) = ∑ k : Fin 1024,
      L m c (ix2 (place (N := 4096) rfl q k) (place (N := 2816) rfl (rowBlk t) a)) * R m c (ix2 (place (N := 4096) rfl q k) b) := by
  rw [part_read, show sumBlk s = q from Fin.ext hq, show rowBlk s = rowBlk t from Fin.ext hd]

/-- The point `d` before another. -/
def back (t : Fin cfg0.N) (d : ℕ) : Fin cfg0.N := ⟨t - d, Nat.lt_of_le_of_lt (Nat.sub_le _ _) t.isLt⟩

theorem handed_read (t : Fin cfg0.N) (h : t.val % 4 = 3) (a : Fin 1408) (b : Fin 1024) :
    (dats m 0 c).after 2 t (ix2 a b) = G (L m c) (R m c) (ix2 (place (N := 2816) rfl (rowBlk t) a) b) := by
  have e : (dats m 0 c).after 2 t (ix2 a b) = ((part m c (back t 3) (ix2 a b) + part m c (back t 2) (ix2 a b))
      + part m c (back t 1) (ix2 a b)) + part m c t (ix2 a b) :=
    congrFun (handed m c (back t 3) (back t 2) (back t 1) t (by show (t.val - 3) % 4 = 0; omega)
      (by show t.val - 2 = t.val - 3 + 1; omega) (by show t.val - 1 = t.val - 2 + 1; omega)
      (by show t.val = t.val - 1 + 1; omega)) (ix2 a b)
  rw [e, part_of m c t (back t 3) 0 (by show (t.val - 3) % 4 = 0; omega) (by show (t.val - 3) / 4 = _; omega),
    part_of m c t (back t 2) 1 (by show (t.val - 2) % 4 = 1; omega) (by show (t.val - 2) / 4 = _; omega),
    part_of m c t (back t 1) 2 (by show (t.val - 1) % 4 = 2; omega) (by show (t.val - 1) / 4 = _; omega),
    part_of m c t t 3 h rfl]
  exact four_blocks (w := 1024) (N := 4096) rfl fun k => L m c (ix2 k (place (N := 2816) rfl (rowBlk t) a)) * R m c (ix2 k b)

/-- The array after the region. -/
theorem arr : (dats m 0 c).arrAt 2 cfg0.N = G (L m c) (R m c) := by
  refine (dats m 0 c).arrAt_eq_of_covers 2 _ (by decide +kernel) fun t hf y => ?_
  obtain ⟨a, b, rfl⟩ : ∃ (a : Fin 1408) (b : Fin 1024), y = ix2 a b := ⟨y 0, y 1, by funext x; fin_cases x <;> rfl⟩
  rw [emb2]
  exact handed_read m c t (flush_at t hf) a b

/-- The two arguments. -/
def Act : S4096x2816.Idx → EReal := m ((c : Thread nD τ).loc main_arg0)
def DY : S4096x1024.Idx → EReal := m ((c : Thread nD τ).loc main_arg1)

/-- The gradient of the weights. -/
def grad (x : S4096x2816.Idx → EReal) (d : S4096x1024.Idx → EReal) : S2816x1024.Idx → EReal :=
  fun i => ∑ k : Fin 4096, d (ix2 k (i 1)) * x (ix2 k (i 0))

theorem kernel_grad : (dats m 0 c).arrAt 2 cfg0.N = grad (Act m c) (DY m c) := by
  rw [arr, show L m c = Act m c from V_main_arg0 m c, show R m c = DY m c from V_main_arg1 m c]
  funext i
  exact Finset.sum_congr rfl fun k _ => mul_comm _ _

/-- The reference's term at an index. -/
theorem reference_grad (x : S4096x2816.Idx → EReal) (d : S4096x1024.Idx → EReal) :
    truncf (F := Ideal) .bf16 (transpose Cert.DownDwRefIdeal.S2816x1024 [1, 0]
      (Host.dotGeneral (φ₁ := .f32) (φ₂ := .f32) Cert.DownDwRefIdeal.dot_S4096x1024_S4096x2816_S1024x2816_0_0_1_1_n_n none
        d (extf .f32 x Cert.DownDwRefIdeal.Facts₀.bitsLt_bf16_f32))
      Cert.DownDwRefIdeal.Facts₀.transposes_S1024x2816_S2816x1024_1_0)
      Cert.DownDwRefIdeal.Facts₀.bitsLt_bf16_f32 = grad x d := by
  funext i
  obtain ⟨a, b, rfl⟩ : ∃ (a : Fin 2816) (b : Fin 1024), i = ix2 a b := ⟨i 0, i 1, by funext x; fin_cases x <;> rfl⟩
  unfold grad
  pointwise

end Cert.Ffn.DownDw

end
-- ==== Proof.Gate.lean ====
/- The gate's activation on extended reals. -/
module

public import Idealize.ShloMosaic.Lib.Pointwise
public import Idealize.ShloMosaic.Lib.IdealHost

@[expose] public section

noncomputable section

namespace Cert.Ffn

open Idealize.ShloMosaic

/-- The logistic function, as both programs write it: one over one plus the exponential of the negated argument. -/
def logistic (g : EReal) : EReal :=
  Ideal.div (Ideal.ofBits .f32 0x3F800000#32) (Ideal.ofBits .f32 0x3F800000#32 + Ideal.exp (-g))

/-- The gated activation. -/
def gated (g u : EReal) : EReal := g * logistic g * u

/-- The gradient of the gate as the kernel writes it, and as the reference does. -/
def slope (g u d : EReal) : EReal :=
  d * u * (logistic g * (Ideal.ofBits .f32 0x3F800000#32 + g * (Ideal.ofBits .f32 0x3F800000#32 - logistic g)))
def slopes (g u d : EReal) : EReal :=
  d * u * logistic g + g * (d * u) * (logistic g * (Ideal.ofBits .f32 0x3F800000#32 - logistic g))

theorem logistic_top : logistic ⊤ = 1 := by
  unfold logistic
  rw [EReal.neg_top, show Ideal.exp ⊥ = 0 from rfl]
  simp [Ideal.div]

theorem logistic_bot : logistic ⊥ = 0 := by
  unfold logistic
  rw [EReal.neg_bot, show Ideal.exp ⊤ = ⊤ from rfl, Ideal.ofBits_one_f32, show (1 : EReal) + ⊤ = ⊤ from EReal.coe_add_top 1]
  simp [Ideal.div]

theorem logistic_real (r : ℝ) : ∃ s : ℝ, logistic r = s := by
  refine ⟨1 * (1 + Real.exp (-r))⁻¹, ?_⟩
  have h : (1 + Real.exp (-r)) ≠ 0 := (by positivity : (0 : ℝ) < 1 + Real.exp (-r)).ne'
  unfold logistic
  rw [Ideal.ofBits_one_f32, ← EReal.coe_neg]
  show Ideal.div 1 (1 + (Real.exp (-r) : EReal)) = _
  rw [← EReal.coe_one, ← EReal.coe_add, Ideal.div, if_neg (by exact_mod_cast h), ← EReal.coe_inv, ← EReal.coe_mul]

/-- They are one where the product of the two other arguments is finite. -/
theorem slope_eq (g : EReal) (u d : ℝ) : slope g u d = slopes g u d := by
  unfold slope slopes
  rw [Ideal.ofBits_one_f32, ← EReal.coe_mul]
  generalize d * u = p
  have e : (1 : EReal) - 1 = 0 := by rw [← EReal.coe_one, ← EReal.coe_sub, sub_self, EReal.coe_zero]
  induction g with
  | bot => simp [logistic_bot]
  | top => simp [logistic_top, e]
  | coe r =>
    obtain ⟨s, hs⟩ := logistic_real r
    rw [hs, ← EReal.coe_one]
    norm_cast
    ring

end Cert.Ffn

end
-- ==== Proof.Tiles.lean ====
/- A pair of tiles: the gate's columns and the up projection's columns that stand side by side. -/
module

public import proofs.«01_k».proof.Proof.Weave

@[expose] public section

set_option maxRecDepth 16384

namespace Cert.Ffn

/-- A column of a pair's first tile, and one of its second tile. -/
def lower (b : Fin 1408) : Fin 2816 := ⟨b, by omega⟩
def upper (b : Fin 1408) : Fin 2816 := ⟨1408 + b, by omega⟩

theorem lower_or_upper (j : Fin 2816) : ∃ b, j = lower b ∨ j = upper b := by
  by_cases h : j.val < 1408
  · exact ⟨⟨j, h⟩, Or.inl rfl⟩
  · exact ⟨⟨j - 1408, by omega⟩, Or.inr (Fin.ext (by show j.val = 1408 + (j.val - 1408); omega))⟩

/-- A pair's first tile holds the first row's columns and its second tile the second row's. -/
theorem weave_lower (f h : Fin 2816 → EReal) (p : Fin 2) (b : Fin 1408) :
    weave f h (place (N := 5632) rfl p (lower b)) = f (place (N := 2816) rfl p b) := by
  have e : place (N := 5632) rfl p (lower b) = place (n := 4) (w := 1408) (N := 5632) rfl ⟨2 * p, by omega⟩ b :=
    Fin.ext (by show p.val * 2816 + b.val = 2 * p.val * 1408 + b.val; omega)
  rw [e]
  exact weave_first _ _ ⟨2 * p, by omega⟩ p rfl b

theorem weave_upper (f h : Fin 2816 → EReal) (p : Fin 2) (b : Fin 1408) :
    weave f h (place (N := 5632) rfl p (upper b)) = h (place (N := 2816) rfl p b) := by
  have e : place (N := 5632) rfl p (upper b) = place (n := 4) (w := 1408) (N := 5632) rfl ⟨2 * p + 1, by omega⟩ b :=
    Fin.ext (by show p.val * 2816 + (1408 + b.val) = (2 * p.val + 1) * 1408 + b.val; omega)
  rw [e]
  exact weave_second _ _ ⟨2 * p + 1, by omega⟩ p rfl b

/-- A sum over rows laid in alternate tiles is the sums laid so. -/
theorem sum_weave (x : Fin 1024 → EReal) (g h : Fin 1024 → Fin 2816 → EReal) (j : Fin 5632) :
    ∑ k, x k * weave (g k) (h k) j = weave (fun l => ∑ k, x k * g k l) (fun l => ∑ k, x k * h k l) j := by
  unfold weave
  by_cases c0 : j.val < 1408
  · simp only [dif_pos c0]
  by_cases c1 : j.val - 1408 < 1408
  · simp only [dif_neg c0, dif_pos c1]
  by_cases c2 : j.val - 1408 - 1408 < 1408
  · simp only [dif_neg c0, dif_neg c1, dif_pos c2]
  · simp only [dif_neg c0, dif_neg c1, dif_neg c2]

end Cert.Ffn
-- ==== Proof.UpY.lean ====
/- The gate and up projections and the gated activation: one product with the two matrices' columns laid in
   alternate tiles, from whose two halves the activation is taken. -/
module

public import proofs.«01_k».proof.Proof.Gen.UpYIdeal.Frame
public import proofs.«01_k».proof.Proof.Gen.UpYRefIdeal.Run
public import proofs.«01_k».proof.Proof.UpDx
public import proofs.«01_k».proof.Proof.Gate
public import proofs.«01_k».proof.Proof.Tiles
public import Idealize.ShloMosaic.Lib.Pipeline.ValueKit

@[expose] public section

set_option maxRecDepth 16384

noncomputable section

namespace Cert.Ffn.UpY

open Idealize.ShloMosaic Idealize.ShloMosaic.TcCoe Cert.UpYIdeal Cert.UpYIdeal.Gen

variable (m : (ℓ : Loc nD τ sig) → Buf (Elt Ideal) ℓ) (c : Dev nD)

theorem zeros : (![0, 0] : Fin 2 → Nat) = fun _ => 0 := funext fun a => by fin_cases a <;> rfl

/-- What a point hands out: the product of its two blocks, and the activation of the product's halves. -/
theorem handed (t : Fin cfg0.N) : (dats m 0 c).after 2 t = k0_pay1 (F := Ideal) (iblk m c 0 t) (iblk m c 1 t) := by
  rw [after0_2]
  unfold out0_2
  rw [View.canon_unit_zero zeros, View.ld_unit_zero zeros, View.ld_unit_zero zeros]

theorem handed_gated (t : Fin cfg0.N) : (dats m 0 c).after 3 t = k0_pay2 (F := Ideal) (iblk m c 0 t) (iblk m c 1 t) := by
  rw [after0_3]
  unfold out0_3
  rw [View.canon_unit_zero zeros, View.ld_unit_zero zeros, View.ld_unit_zero zeros]

theorem index_at : ∀ t : Fin cfg0.N, win0_0.index t = ![t.val % 8, 0] ∧ win0_1.index t = ![0, t.val / 8]
    ∧ win0_2.index t = ![t.val % 8, t.val / 8] ∧ win0_3.index t = ![t.val % 8, t.val / 8] :=
  (by decide +kernel : ∀ t : Fin grid0.N, _)

theorem points (t : Fin cfg0.N) : t.val < 16 := t.isLt

/-- A point's block of the rows, and its pair of tiles. -/
def rowBlk (t : Fin cfg0.N) : Fin 8 := ⟨t % 8, by omega⟩
def colBlk (t : Fin cfg0.N) : Fin 2 := ⟨t / 8, by have := points t; omega⟩

theorem emb0 (t : Fin cfg0.N) (a : Fin 512) (k : Fin 1024) :
    ((cfg0.win 0).blk t).view.emb (ix2 a k) = ix2 (place (N := 4096) rfl (rowBlk t) a) k := by
  have e := (index_at t).1
  funext x; apply Fin.ext
  fin_cases x
  · blk_simp [e]; rfl
  · blk_simp [e]; rfl

theorem emb1 (t : Fin cfg0.N) (k : Fin 1024) (b : Fin 2816) :
    ((cfg0.win 1).blk t).view.emb (ix2 k b) = ix2 k (place (N := 5632) rfl (colBlk t) b) := by
  have e := (index_at t).2.1
  funext x; apply Fin.ext
  fin_cases x
  · blk_simp [e]; rfl
  · blk_simp [e]; rfl

theorem emb2 (t : Fin cfg0.N) (a : Fin 512) (b : Fin 2816) :
    ((cfg0.win 2).blk t).view.emb (ix2 a b) = ix2 (place (N := 4096) rfl (rowBlk t) a) (place (N := 5632) rfl (colBlk t) b) := by
  have e := (index_at t).2.2.1
  funext x; apply Fin.ext
  fin_cases x
  · blk_simp [e]; rfl
  · blk_simp [e]; rfl

theorem emb3 (t : Fin cfg0.N) (a : Fin 512) (b : Fin 1408) :
    ((cfg0.win 3).blk t).view.emb (ix2 a b) = ix2 (place (N := 4096) rfl (rowBlk t) a) (place (N := 2816) rfl (colBlk t) b) := by
  have e := (index_at t).2.2.2
  funext x; apply Fin.ext
  fin_cases x
  · blk_simp [e]; rfl
  · blk_simp [e]; rfl

/-- A block's product, and its activation, at an index. -/
theorem pay_read (x0 : Vec Ideal S512x1024 .bf16) (x1 : Vec Ideal S1024x2816 .bf16) (a : Fin 512) (b : Fin 2816) :
    k0_pay1 (F := Ideal) x0 x1 (ix2 a b) = ∑ k : Fin 1024, (x0 (ix2 a k) * x1 (ix2 k b) : EReal) := by
  pointwise [k0_pay1]

theorem halves (p : S512x2816.Idx → EReal) (a : Fin 512) (b : Fin 1408) :
    extractStridedSlice S512x1408 ![0, 0] p Facts₀.slices_S512x2816_o0_0_S512x1408 (ix2 a b) = p (ix2 a (lower b))
    ∧ extractStridedSlice S512x1408 ![0, 1408] p Facts₀.slices_S512x2816_o0_1408_S512x1408 (ix2 a b) = p (ix2 a (upper b)) := by
  unfold lower upper
  constructor
  · pointwise
  · pointwise

theorem pay_gated (x0 : Vec Ideal S512x1024 .bf16) (x1 : Vec Ideal S1024x2816 .bf16) (a : Fin 512) (b : Fin 1408) :
    k0_pay2 (F := Ideal) x0 x1 (ix2 a b)
      = gated (k0_pay1 (F := Ideal) x0 x1 (ix2 a (lower b))) (k0_pay1 (F := Ideal) x0 x1 (ix2 a (upper b))) := by
  rw [← (halves (k0_pay1 (F := Ideal) x0 x1) a b).1, ← (halves (k0_pay1 (F := Ideal) x0 x1) a b).2]
  unfold gated logistic
  rw [← zero_sub, ← Ideal.ofBits_zero_f32]
  rfl

/-- The three arguments. -/
def X : S4096x1024.Idx → EReal := m ((c : Thread nD τ).loc main_arg0)
def WG : S1024x2816.Idx → EReal := m ((c : Thread nD τ).loc main_arg1)
def WU : S1024x2816.Idx → EReal := m ((c : Thread nD τ).loc main_arg2)

/-- The two arrays as the region finds them. -/
def L : S4096x1024.Idx → EReal := V m c main_arg0
def R : S1024x5632.Idx → EReal := V m c main_v4

theorem L_eq : L m c = X m c := V_main_arg0 m c

theorem R_read (k : Fin 1024) (j : Fin 5632) :
    R m c (ix2 k j) = weave (fun l => WG m c (ix2 k l)) (fun l => WU m c (ix2 k l)) j := by
  refine Eq.trans (congrFun ?_ _) (UpDx.woven_weights (WG m c) (WU m c) k j)
  show StableHlo.after hostOps0 _ (Proc.devRef .tc main_v4) = _
  after_results
  rfl

/-- The product of the input with one matrix, and the activation. -/
def prod (x : S4096x1024.Idx → EReal) (w : S1024x2816.Idx → EReal) : S4096x2816.Idx → EReal :=
  fun i => ∑ k : Fin 1024, x (ix2 (i 0) k) * w (ix2 k (i 1))
def activated (x : S4096x1024.Idx → EReal) (wg wu : S1024x2816.Idx → EReal) : S4096x2816.Idx → EReal :=
  fun i => gated (prod x wg i) (prod x wu i)

/-- The two products, laid in alternate tiles. -/
def both (x : S4096x1024.Idx → EReal) (wg wu : S1024x2816.Idx → EReal) : S4096x5632.Idx → EReal :=
  fun i => weave (fun l => prod x wg (ix2 (i 0) l)) (fun l => prod x wu (ix2 (i 0) l)) (i 1)

theorem part_read (t : Fin cfg0.N) (a : Fin 512) (b : Fin 2816) :
    k0_pay1 (F := Ideal) (iblk m c 0 t) (iblk m c 1 t) (ix2 a b)
      = both (X m c) (WG m c) (WU m c) (ix2 (place (N := 4096) rfl (rowBlk t) a) (place (N := 5632) rfl (colBlk t) b)) := by
  rw [pay_read]
  refine (Finset.sum_congr rfl fun k _ => ?_ : _ = ∑ k : Fin 1024, X m c (ix2 (place (N := 4096) rfl (rowBlk t) a) k)
    * weave (fun l => WG m c (ix2 k l)) (fun l => WU m c (ix2 k l)) (place (N := 5632) rfl (colBlk t) b)).trans ?_
  · show L m c (((cfg0.win 0).blk t).view.emb (ix2 a k)) * R m c (((cfg0.win 1).blk t).view.emb (ix2 k b)) = _
    rw [emb0, emb1, L_eq, R_read]
  · exact sum_weave (fun k => X m c (ix2 (place (N := 4096) rfl (rowBlk t) a) k)) (fun k l => WG m c (ix2 k l))
      (fun k l => WU m c (ix2 k l)) (place (N := 5632) rfl (colBlk t) b)

/-- The arrays after the region. -/
theorem arr_both : (dats m 0 c).arrAt 2 cfg0.N = both (X m c) (WG m c) (WU m c) := by
  refine (dats m 0 c).arrAt_eq_of_covers 2 _ (by decide +kernel) fun t hf y => ?_
  obtain ⟨a, b, rfl⟩ : ∃ (a : Fin 512) (b : Fin 2816), y = ix2 a b := ⟨y 0, y 1, by funext x; fin_cases x <;> rfl⟩
  rw [emb2]
  exact (congrFun (handed m c t) (ix2 a b)).trans (part_read m c t a b)

theorem arr_gated : (dats m 0 c).arrAt 3 cfg0.N = activated (X m c) (WG m c) (WU m c) := by
  refine (dats m 0 c).arrAt_eq_of_covers 3 _ (by decide +kernel) fun t hf y => ?_
  obtain ⟨a, b, rfl⟩ : ∃ (a : Fin 512) (b : Fin 1408), y = ix2 a b := ⟨y 0, y 1, by funext x; fin_cases x <;> rfl⟩
  rw [emb3]
  refine (congrFun (handed_gated m c t) (ix2 a b)).trans ((pay_gated _ _ a b).trans ?_)
  exact congrArg₂ gated ((part_read m c t a (lower b)).trans (weave_lower _ _ _ b))
    ((part_read m c t a (upper b)).trans (weave_upper _ _ _ b))

/-- The region's arrays, as the lines after it find them. -/
abbrev W0 : Valuation τ sig (Elt Ideal) :=
  Pipeline.withArrays (cfgs 0).spec c (V0 m c) fun w => (dats m 0 c).arrAt w (cfgs 0).N

theorem arr_tail (w : Fin cfg0.W) : W0 m c (Proc.devRef .tc (Pipeline.arrRef spec0 w)) = (dats m 0 c).arrAt w cfg0.N := by
  exact Pipeline.withArrays_arr _ (by decide) c (V0 m c) _ w

/-- The region's first result. -/
def Y : S4096x5632.Idx → EReal := (dats m 0 c).arrAt 2 cfg0.N

theorem arr_at (r : Fin 4096) (j : Fin 5632) : Y m c (ix2 r j)
    = weave (fun k => prod (X m c) (WG m c) (ix2 r k)) (fun k => prod (X m c) (WU m c) (ix2 r k)) j :=
  congrFun (arr_both m c) (ix2 r j)

/-- The gate's tiles side by side. -/
theorem firsts (x : S4096x5632.Idx → EReal) (a : Fin 4096) (j : Fin 2816) :
    concatenate S4096x2816 1 [⟨S4096x1408, extractStridedSlice S4096x1408 ![0, 0] x Facts₀.slices_S4096x5632_S4096x1408_0_0⟩,
      ⟨S4096x1408, extractStridedSlice S4096x1408 ![0, 2816] x Facts₀.slices_S4096x5632_S4096x1408_0_2816⟩]
      Facts₀.concatenates_S4096x1408_S4096x1408_S4096x2816_d1 (ix2 a j)
      = if _ : j.val < 1408 then x (ix2 a ⟨j, by omega⟩) else x (ix2 a ⟨2816 + (j - 1408), by omega⟩) := by
  pointwise

/-- The up projection's tiles side by side. -/
theorem seconds (x : S4096x5632.Idx → EReal) (a : Fin 4096) (j : Fin 2816) :
    concatenate S4096x2816 1 [⟨S4096x1408, extractStridedSlice S4096x1408 ![0, 1408] x Facts₀.slices_S4096x5632_S4096x1408_0_1408⟩,
      ⟨S4096x1408, extractStridedSlice S4096x1408 ![0, 4224] x Facts₀.slices_S4096x5632_S4096x1408_0_4224⟩]
      Facts₀.concatenates_S4096x1408_S4096x1408_S4096x2816_d1 (ix2 a j)
      = if _ : j.val < 1408 then x (ix2 a ⟨1408 + j, by omega⟩) else x (ix2 a ⟨4224 + (j - 1408), by omega⟩) := by
  pointwise

theorem tail_gate : Pipeline.afterTail₀ cfgs (dats m) 0 (V0 m) [hostOps1] c main_v10 = prod (X m c) (WG m c) := by
  funext i
  obtain ⟨a, j, rfl⟩ : ∃ (a : Fin 4096) (j : Fin 2816), i = ix2 a j := ⟨i 0, i 1, by funext x; fin_cases x <;> rfl⟩
  refine Eq.trans (congrFun ?_ _) ((firsts (Y m c) a j).trans ?_)
  · unfold Y
    rw [← arr_tail m c 2]
    show StableHlo.after hostOps1 (W0 m c) (Proc.devRef .tc main_v10) = _
    after_results
  · simp only [arr_at m c a]
    exact weave_firsts _ _ j

theorem tail_up : Pipeline.afterTail₀ cfgs (dats m) 0 (V0 m) [hostOps1] c main_v11 = prod (X m c) (WU m c) := by
  funext i
  obtain ⟨a, j, rfl⟩ : ∃ (a : Fin 4096) (j : Fin 2816), i = ix2 a j := ⟨i 0, i 1, by funext x; fin_cases x <;> rfl⟩
  refine Eq.trans (congrFun ?_ _) ((seconds (Y m c) a j).trans ?_)
  · unfold Y
    rw [← arr_tail m c 2]
    show StableHlo.after hostOps1 (W0 m c) (Proc.devRef .tc main_v11) = _
    after_results
  · simp only [arr_at m c a]
    exact weave_seconds _ _ j

theorem tail_gated : Pipeline.afterTail₀ cfgs (dats m) 0 (V0 m) [hostOps1] c main_v5_1 = activated (X m c) (WG m c) (WU m c) := by
  rw [← arr_gated, ← arr_tail m c 3]
  show StableHlo.after hostOps1 (W0 m c) (Proc.devRef .tc main_v5_1) = _
  after_results

/-- The reference's terms at an index. -/
theorem reference_prod (x : S4096x1024.Idx → EReal) (w : S1024x2816.Idx → EReal) :
    Host.dotGeneral (F := Ideal) Cert.UpYRefIdeal.dot_S4096x1024_S1024x2816_S4096x2816_1_0_0_1_n_n none
      (extf .f32 x Cert.UpYRefIdeal.Facts₀.bitsLt_bf16_f32) (extf .f32 w Cert.UpYRefIdeal.Facts₀.bitsLt_bf16_f32) = prod x w := by
  funext i
  obtain ⟨a, b, rfl⟩ : ∃ (a : Fin 4096) (b : Fin 2816), i = ix2 a b := ⟨i 0, i 1, by funext x; fin_cases x <;> rfl⟩
  unfold prod
  pointwise

theorem reference_activated (x : S4096x1024.Idx → EReal) (wg wu : S1024x2816.Idx → EReal) (g u : FVec Ideal S4096x2816 .f32)
    (hg : g = prod x wg) (hu : u = prod x wu) :
    truncf (F := Ideal) .bf16 (mulf (mulf g (Host.divf
      (broadcastInDim S4096x2816 ![] Cert.UpYRefIdeal.Facts₀.bcast_S_S4096x2816 (constant Cert.UpYRefIdeal.S_ .f32 0x3F800000#32))
      (addf (broadcastInDim S4096x2816 ![] Cert.UpYRefIdeal.Facts₀.bcast_S_S4096x2816 (constant Cert.UpYRefIdeal.S_ .f32 0x3F800000#32))
        (Host.exp (Host.negf g))))) u) Cert.UpYRefIdeal.Facts₀.bitsLt_bf16_f32 = activated x wg wu := by
  subst hg hu
  rfl

end Cert.Ffn.UpY

end
-- ==== Proof.DownY.lean ====
/- The down projection: two halves of the hidden columns, added up in a scratch array. -/
module

public import proofs.«01_k».proof.Proof.Gen.DownYIdeal.Value
public import proofs.«01_k».proof.Proof.Gen.DownYRefIdeal.Run
public import proofs.«01_k».proof.Proof.BlockSum
public import Idealize.ShloMosaic.Lib.Pipeline.ValueKit
public import Idealize.ShloMosaic.Lib.Pointwise

@[expose] public section

set_option maxRecDepth 16384

noncomputable section

namespace Cert.Ffn.DownY

open Idealize.ShloMosaic Idealize.ShloMosaic.TcCoe Cert.DownYIdeal Cert.DownYIdeal.Gen

variable (m : (ℓ : Loc nD τ sig) → Buf (Elt Ideal) ℓ) (c : Dev nD)

theorem zeros : (![0, 0] : Fin 2 → Nat) = fun _ => 0 := funext fun a => by fin_cases a <;> rfl

section Cases

variable (i : grid0.Coords) (a3 : Memref sig .tc .vmem S1024x1408 .bf16) (h3 : a3.IsWhole)
  (a4 : Memref sig .tc .vmem S1408x1024 .bf16) (h4 : a4.IsWhole) (a5 : Memref sig .tc .vmem S1024x1024 .f32) (h5 : a5.IsWhole)
  (a6 : Memref sig .tc .vmem S1024x1024 .f32) (h6 : a6.IsWhole)
  (x0 : Vec Ideal S1024x1408 .bf16) (x1 : Vec Ideal S1408x1024 .bf16) (acc : Vec Ideal S1024x1024 .f32)

/-- The first half's product is stored. -/
theorem first (g0 : cond0_0 i) (g1 : ¬cond0_1 i) (g2 : ¬cond0_2 i) :
    sout0_A_0 c i a3 h3 a4 h4 a5 h5 a6 h6 g0 g1 g2 x0 x1 = k0_pay1 (F := Ideal) x0 x1 := by
  unfold sout0_A_0
  rw [View.read_writes_eq_canon _ _ _ (scover0_A_0 c i a3 h3 a4 h4 a5 h5 a6 h6 g0 g1 g2 x0 x1)]
  unfold kernelRun0_A
  dsimp only
  rw [View.canon_unit_zero zeros]
  unfold k0_pay2
  simp only [View.readAt_eq_ld, h3.read_unread, h4.read_unread, h5.read_unread, h6.read_unread, View.ld_unit_zero (S := S1024x1408) zeros,
    View.ld_unit_zero (S := S1024x1024) zeros, View.ld_unit_zero (S := S1408x1024) zeros, shapeCast_self]

/-- The second half's product is added and the sum is handed out. -/
theorem last (g0 : ¬cond0_0 i) (g1 : cond0_1 i) (g2 : cond0_2 i) :
    out0_B_2 c i a3 h3 a4 h4 a5 h5 a6 h6 g0 g1 g2 x0 x1 acc = (addf acc (k0_pay1 (F := Ideal) x0 x1) : S1024x1024.Idx → EReal) := by
  unfold out0_B_2
  rw [View.read_writes_eq_canon _ _ _ (cover0_B_2 c i a3 h3 a4 h4 a5 h5 a6 h6 g0 g1 g2 x0 x1 acc)]
  unfold kernelRun0_B
  dsimp only
  sl_unfold_words
  rw [View.canon_unit_zero zeros, View.readCov_unit_zero (S := S1024x1024) _ zeros]
  unfold k0_pay3
  simp only [View.readAt_eq_ld, h3.read_unread, h4.read_unread, h5.read_unread, h6.read_unread, View.ld_unit_zero (S := S1024x1408) zeros,
    View.ld_unit_zero (S := S1024x1024) zeros, View.ld_unit_zero (S := S1408x1024) zeros, shapeCast_self]

end Cases

/-- One half's product. -/
def part (t : Fin cfg0.N) : S1024x1024.Idx → EReal := k0_pay1 (F := Ideal) (iblk m c 0 t) (iblk m c 1 t)

/-- What a first point leaves in the scratch array. -/
theorem scratch_first (t : Fin cfg0.N) (e : t.val % 2 = 0) : (outsAt0 m c t.val t.isLt).2 = part m c t := by
  rw [outsAt0_A m c t e (by omega) (by omega)]
  dsimp only
  rw [first]
  rfl

/-- What a second point hands out, over what the point before it left. -/
theorem handed_last (t : Fin cfg0.N) (e : t.val % 2 = 1) (acc : Vec Ideal S1024x1024 .f32)
    (h : (outsAt0 m c (t.val - 1) (Nat.lt_of_le_of_lt (Nat.sub_le _ _) t.isLt)).2 = acc) :
    (outsAt0 m c t.val t.isLt).1 = (addf acc (k0_pay1 (F := Ideal) (iblk m c 0 t) (iblk m c 1 t)) : S1024x1024.Idx → EReal) := by
  rw [outsAt0_B m c t (by omega) e e]
  dsimp only
  rw [last, h]

/-- The point before another. -/
def back (t : Fin cfg0.N) : Fin cfg0.N := ⟨t - 1, Nat.lt_of_le_of_lt (Nat.sub_le _ _) t.isLt⟩

/-- What the second of two points hands out. -/
theorem handed (t : Fin cfg0.N) (e : t.val % 2 = 1) :
    (dats m 0 c).after 2 t = fun y => part m c (back t) y + part m c t y := by
  rw [after0_2]
  exact handed_last m c t e _ (scratch_first m c (back t) (by show (t.val - 1) % 2 = 0; omega))

theorem index_at : ∀ t : Fin cfg0.N,
    win0_0.index t = ![t.val / 2, t.val % 2] ∧ win0_1.index t = ![t.val % 2, 0] ∧ win0_2.index t = ![t.val / 2, 0] :=
  (by decide +kernel : ∀ t : Fin grid0.N, _)

theorem flush_at : ∀ t : Fin cfg0.N, (cfg0.win 2).flush t = true → t.val % 2 = 1 :=
  (by decide +kernel : ∀ t : Fin grid0.N, _)

theorem points (t : Fin cfg0.N) : t.val < 8 := t.isLt

/-- A point's half of the columns that are summed over, and its block of the result's rows. -/
def sumBlk (t : Fin cfg0.N) : Fin 2 := ⟨t % 2, by omega⟩
def rowBlk (t : Fin cfg0.N) : Fin 4 := ⟨t / 2, by have := points t; omega⟩

theorem emb0 (t : Fin cfg0.N) (a : Fin 1024) (k : Fin 1408) :
    ((cfg0.win 0).blk t).view.emb (ix2 a k) = ix2 (place (N := 4096) rfl (rowBlk t) a) (place (N := 2816) rfl (sumBlk t) k) := by
  have e := (index_at t).1
  funext x; apply Fin.ext
  fin_cases x
  · blk_simp [e]; rfl
  · blk_simp [e]; rfl

theorem emb1 (t : Fin cfg0.N) (k : Fin 1408) (b : Fin 1024) :
    ((cfg0.win 1).blk t).view.emb (ix2 k b) = ix2 (place (N := 2816) rfl (sumBlk t) k) b := by
  have e := (index_at t).2.1
  funext x; apply Fin.ext
  fin_cases x
  · blk_simp [e]; rfl
  · blk_simp [e]; rfl

theorem emb2 (t : Fin cfg0.N) (a : Fin 1024) (b : Fin 1024) :
    ((cfg0.win 2).blk t).view.emb (ix2 a b) = ix2 (place (N := 4096) rfl (rowBlk t) a) b := by
  have e := (index_at t).2.2
  funext x; apply Fin.ext
  fin_cases x
  · blk_simp [e]; rfl
  · blk_simp [e]; rfl

/-- A half's product at an index. -/
theorem pay_read (x0 : Vec Ideal S1024x1408 .bf16) (x1 : Vec Ideal S1408x1024 .bf16) (a : Fin 1024) (b : Fin 1024) :
    k0_pay1 (F := Ideal) x0 x1 (ix2 a b) = ∑ k : Fin 1408, (x0 (ix2 a k) * x1 (ix2 k b) : EReal) := by
  pointwise [k0_pay1]

/-- The two arguments. -/
def A : S4096x2816.Idx → EReal := m ((c : Thread nD τ).loc main_arg0)
def W : S2816x1024.Idx → EReal := m ((c : Thread nD τ).loc main_arg1)

theorem part_read (t s : Fin cfg0.N) (q : Fin 2) (hq : s.val % 2 = q.val) (hd : s.val / 2 = t.val / 2) (a : Fin 1024) (b : Fin 1024) :
    part m c s (ix2 a b) = ∑ k : Fin 1408,
      A m c (ix2 (place (N := 4096) rfl (rowBlk t) a) (place (N := 2816) rfl q k)) * W m c (ix2 (place (N := 2816) rfl q k) b) := by
  unfold part
  rw [pay_read]
  refine Finset.sum_congr rfl fun k _ => ?_
  show A m c (((cfg0.win 0).blk s).view.emb (ix2 a k)) * W m c (((cfg0.win 1).blk s).view.emb (ix2 k b)) = _
  rw [emb0, emb1, show sumBlk s = q from Fin.ext hq, show rowBlk s = rowBlk t from Fin.ext hd]

/-- The product. -/
def prod (x : S4096x2816.Idx → EReal) (w : S2816x1024.Idx → EReal) : S4096x1024.Idx → EReal :=
  fun i => ∑ k : Fin 2816, x (ix2 (i 0) k) * w (ix2 k (i 1))

theorem handed_read (t : Fin cfg0.N) (h : t.val % 2 = 1) (a : Fin 1024) (b : Fin 1024) :
    (dats m 0 c).after 2 t (ix2 a b) = prod (A m c) (W m c) (ix2 (place (N := 4096) rfl (rowBlk t) a) b) := by
  have e : (dats m 0 c).after 2 t (ix2 a b) = part m c (back t) (ix2 a b) + part m c t (ix2 a b) :=
    congrFun (handed m c t h) (ix2 a b)
  rw [e, part_read m c t (back t) 0 (by show (t.val - 1) % 2 = 0; omega) (by show (t.val - 1) / 2 = _; omega),
    part_read m c t t 1 h rfl]
  refine ((sum_blocks (n := 2) (w := 1408) (N := 2816) rfl fun k =>
    A m c (ix2 (place (N := 4096) rfl (rowBlk t) a) k) * W m c (ix2 k b)).trans ?_).symm
  exact Fin.sum_univ_two _

/-- The array after the region. -/
theorem kernel_prod : (dats m 0 c).arrAt 2 cfg0.N = prod (A m c) (W m c) := by
  refine (dats m 0 c).arrAt_eq_of_covers 2 _ (by decide +kernel) fun t hf y => ?_
  obtain ⟨a, b, rfl⟩ : ∃ (a : Fin 1024) (b : Fin 1024), y = ix2 a b := ⟨y 0, y 1, by funext x; fin_cases x <;> rfl⟩
  rw [emb2]
  exact handed_read m c t (flush_at t hf) a b

/-- The reference's term at an index. -/
theorem reference_prod (x : S4096x2816.Idx → EReal) (w : S2816x1024.Idx → EReal) :
    Host.dotGeneral (F := Ideal) Cert.DownYRefIdeal.dot_S4096x2816_S2816x1024_S4096x1024_1_0_0_1_n_n none
      (extf .f32 x Cert.DownYRefIdeal.Facts₀.bitsLt_bf16_f32) (extf .f32 w Cert.DownYRefIdeal.Facts₀.bitsLt_bf16_f32) = prod x w := by
  funext i
  obtain ⟨a, b, rfl⟩ : ∃ (a : Fin 4096) (b : Fin 1024), i = ix2 a b := ⟨i 0, i 1, by funext x; fin_cases x <;> rfl⟩
  unfold prod
  pointwise

end Cert.Ffn.DownY

end
-- ==== Proof.InDx.lean ====
/- The gradient of the input of the six wide projections: the six segments' products, added up in a scratch array. -/
module

public import proofs.«01_k».proof.Proof.Gen.InDxIdeal.Value
public import proofs.«01_k».proof.Proof.Gen.InDxRefIdeal.Run
public import proofs.«01_k».proof.Proof.BlockSum
public import Idealize.ShloMosaic.Lib.Pipeline.ValueKit
public import Idealize.ShloMosaic.Lib.Pointwise

@[expose] public section

set_option maxRecDepth 16384

noncomputable section

namespace Cert.Mix.InDx

open Idealize.ShloMosaic Idealize.ShloMosaic.TcCoe Cert.InDxIdeal Cert.InDxIdeal.Gen Cert.Ffn

variable (m : (ℓ : Loc nD τ sig) → Buf (Elt Ideal) ℓ) (c : Dev nD)

theorem zeros : (![0, 0] : Fin 2 → Nat) = fun _ => 0 := funext fun a => by fin_cases a <;> rfl

/-- The product of a segment's block with the weights' block of the same columns. -/
abbrev part (d w : Vec Ideal S1024x1024 .bf16) : Vec Ideal S1024x1024 .f32 := k0_pay2 (F := Ideal) d w

/-- The sum of two blocks, entry by entry. -/
abbrev plus (a b : Vec Ideal S1024x1024 .f32) : Vec Ideal S1024x1024 .f32 := fun i => (a i : EReal) + b i

/-- What the point before another left in the scratch array. -/
abbrev left (t : Fin cfg0.N) : Vec Ideal S1024x1024 .f32 := (outsAt0 m c (t.val - 1) (Nat.lt_of_le_of_lt (Nat.sub_le _ _) t.isLt)).2

/-- What each point of a row block leaves in the scratch array: the first its product, the others theirs added to it. -/
theorem scratch (t : Fin cfg0.N) :
    (t.val % 6 = 0 → (outsAt0 m c t.val t.isLt).2 = part (iblk m c 0 t) (iblk m c 6 t))
    ∧ (t.val % 6 = 1 → (outsAt0 m c t.val t.isLt).2 = plus (left m c t) (part (iblk m c 1 t) (iblk m c 6 t)))
    ∧ (t.val % 6 = 2 → (outsAt0 m c t.val t.isLt).2 = plus (left m c t) (part (iblk m c 2 t) (iblk m c 6 t)))
    ∧ (t.val % 6 = 3 → (outsAt0 m c t.val t.isLt).2 = plus (left m c t) (part (iblk m c 3 t) (iblk m c 6 t)))
    ∧ (t.val % 6 = 4 → (outsAt0 m c t.val t.isLt).2 = plus (left m c t) (part (iblk m c 4 t) (iblk m c 6 t))) := by
  have hw : scM0_0.IsWhole := Memref.isWhole_whole _
  refine ⟨fun e => ?_, fun e => ?_, fun e => ?_, fun e => ?_, fun e => ?_⟩
  on_goal 1 =>
    rw [outsAt0_A m c t e e (by omega) (by omega) (by omega) (by omega) (by omega) (by omega) (by omega)]
    dsimp only
    unfold sout0_A_0
    rw [View.read_writes_eq_canon]
    on_goal 2 => exact fun y => scover0_A_0 ..
    unfold kernelRun0_A
  on_goal 2 =>
    rw [outsAt0_B m c t (by omega) e (by omega) (by omega) (by omega) (by omega) (by omega) (by omega) (by omega)]
    dsimp only
    unfold sout0_B_0
    rw [View.read_writes_eq_canon]
    on_goal 2 => exact fun y => scover0_B_0 ..
    unfold kernelRun0_B
  on_goal 3 =>
    rw [outsAt0_C m c t (by omega) (by omega) e (by omega) (by omega) (by omega) (by omega) (by omega) (by omega)]
    dsimp only
    unfold sout0_C_0
    rw [View.read_writes_eq_canon]
    on_goal 2 => exact fun y => scover0_C_0 ..
    unfold kernelRun0_C
  on_goal 4 =>
    rw [outsAt0_D m c t (by omega) (by omega) (by omega) e (by omega) (by omega) (by omega) (by omega) (by omega)]
    dsimp only
    unfold sout0_D_0
    rw [View.read_writes_eq_canon]
    on_goal 2 => exact fun y => scover0_D_0 ..
    unfold kernelRun0_D
  on_goal 5 =>
    rw [outsAt0_E m c t (by omega) (by omega) (by omega) (by omega) e (by omega) (by omega) (by omega) (by omega)]
    dsimp only
    unfold sout0_E_0
    rw [View.read_writes_eq_canon]
    on_goal 2 => exact fun y => scover0_E_0 ..
    unfold kernelRun0_E
  all_goals
    dsimp only
    rw [View.canon_unit_zero zeros]
    simp only [k0_pay3, k0_pay7, k0_pay10, k0_pay13, k0_pay16, View.readAt_eq_ld, (hs0_0 t).read_unread, (hs0_1 t).read_unread,
      (hs0_2 t).read_unread, (hs0_3 t).read_unread, (hs0_4 t).read_unread, (hs0_6 t).read_unread, hw.read_unread,
      View.ld_unit_zero (S := S1024x1024) zeros, shapeCast_self]
    try rfl

/-- What the last point of a row block hands out. -/
theorem handed_last (t : Fin cfg0.N) (e : t.val % 6 = 5) :
    (outsAt0 m c t.val t.isLt).1 = plus (left m c t) (part (iblk m c 5 t) (iblk m c 6 t)) := by
  have hw : scM0_0.IsWhole := Memref.isWhole_whole _
  rw [outsAt0_F m c t (by omega) (by omega) (by omega) (by omega) (by omega) e e (by omega) (by omega)]
  dsimp only
  unfold out0_F_7
  rw [View.read_writes_eq_canon]
  on_goal 2 => exact fun y => cover0_F_7 ..
  unfold kernelRun0_F
  dsimp only
  sl_unfold_words
  rw [View.canon_unit_zero zeros, View.readCov_unit_zero (S := S1024x1024) _ zeros]
  unfold k0_pay1 k0_pay19
  simp only [View.readAt_eq_ld, (hs0_5 t).read_unread, (hs0_6 t).read_unread, hw.read_unread,
    View.ld_unit_zero (S := S1024x1024) zeros, shapeCast_self]
  rfl

/-- The point before another. -/
def back (t : Fin cfg0.N) : Fin cfg0.N := ⟨t - 1, Nat.lt_of_le_of_lt (Nat.sub_le _ _) t.isLt⟩

theorem back_val (t : Fin cfg0.N) : (back t).val = t.val - 1 := rfl

/-- What the last point of a row block hands out: the six products, added up in order. -/
theorem handed (t : Fin cfg0.N) (e : t.val % 6 = 5) :
    (dats m 0 c).after 7 t = plus (plus (plus (plus (plus
      (part (iblk m c 0 (back (back (back (back (back t)))))) (iblk m c 6 (back (back (back (back (back t)))))))
      (part (iblk m c 1 (back (back (back (back t))))) (iblk m c 6 (back (back (back (back t)))))))
      (part (iblk m c 2 (back (back (back t)))) (iblk m c 6 (back (back (back t))))))
      (part (iblk m c 3 (back (back t))) (iblk m c 6 (back (back t)))))
      (part (iblk m c 4 (back t)) (iblk m c 6 (back t))))
      (part (iblk m c 5 t) (iblk m c 6 t)) := by
  have h4 := (scratch m c (back t)).2.2.2.2 (by simp only [back_val]; omega)
  have h3 := (scratch m c (back (back t))).2.2.2.1 (by simp only [back_val]; omega)
  have h2 := (scratch m c (back (back (back t)))).2.2.1 (by simp only [back_val]; omega)
  have h1 := (scratch m c (back (back (back (back t))))).2.1 (by simp only [back_val]; omega)
  have h0 := (scratch m c (back (back (back (back (back t)))))).1 (by simp only [back_val]; omega)
  have l1 := h1.trans (congrArg (fun z => plus z _) h0)
  have l2 := h2.trans (congrArg (fun z => plus z _) l1)
  have l3 := h3.trans (congrArg (fun z => plus z _) l2)
  have l4 := h4.trans (congrArg (fun z => plus z _) l3)
  rw [after0_7]
  exact (handed_last m c t e).trans (congrArg (fun z => plus z _) l4)

theorem index_at : ∀ t : Fin cfg0.N,
    (win0_0.index t = ![t.val / 6, 0] ∧ win0_1.index t = ![t.val / 6, 0] ∧ win0_2.index t = ![t.val / 6, 0]
      ∧ win0_3.index t = ![t.val / 6, 0] ∧ win0_4.index t = ![t.val / 6, 0] ∧ win0_5.index t = ![t.val / 6, 0])
    ∧ win0_6.index t = ![0, t.val % 6] ∧ win0_7.index t = ![t.val / 6, 0] :=
  (by decide +kernel : ∀ t : Fin grid0.N, _)

theorem flush_at : ∀ t : Fin cfg0.N, (cfg0.win 7).flush t = true → t.val % 6 = 5 :=
  (by decide +kernel : ∀ t : Fin grid0.N, _)

theorem points (t : Fin cfg0.N) : t.val < 24 := t.isLt

/-- A point's segment and its block of rows. -/
def segment (t : Fin cfg0.N) : Fin 6 := ⟨t % 6, by omega⟩
def rowBlk (t : Fin cfg0.N) : Fin 4 := ⟨t / 6, by have := points t; omega⟩

/-- Where the segments' blocks, the weights' block and the result's block lie in their arrays. -/
theorem emb (t : Fin cfg0.N) (a k : Fin 1024) :
    (((cfg0.win 0).blk t).view.emb (ix2 a k) = ix2 (place (N := 4096) rfl (rowBlk t) a) k
      ∧ ((cfg0.win 1).blk t).view.emb (ix2 a k) = ix2 (place (N := 4096) rfl (rowBlk t) a) k
      ∧ ((cfg0.win 2).blk t).view.emb (ix2 a k) = ix2 (place (N := 4096) rfl (rowBlk t) a) k
      ∧ ((cfg0.win 3).blk t).view.emb (ix2 a k) = ix2 (place (N := 4096) rfl (rowBlk t) a) k
      ∧ ((cfg0.win 4).blk t).view.emb (ix2 a k) = ix2 (place (N := 4096) rfl (rowBlk t) a) k
      ∧ ((cfg0.win 5).blk t).view.emb (ix2 a k) = ix2 (place (N := 4096) rfl (rowBlk t) a) k)
    ∧ ((cfg0.win 6).blk t).view.emb (ix2 a k) = ix2 a (place (N := 6144) rfl (segment t) k)
    ∧ ((cfg0.win 7).blk t).view.emb (ix2 a k) = ix2 (place (N := 4096) rfl (rowBlk t) a) k := by
  obtain ⟨⟨e0, e1, e2, e3, e4, e5⟩, e6, e7⟩ := index_at t
  refine ⟨⟨?_, ?_, ?_, ?_, ?_, ?_⟩, ?_, ?_⟩
  all_goals
    funext x; apply Fin.ext
    fin_cases x <;> (blk_simp [e0, e1, e2, e3, e4, e5, e6, e7]; rfl)

/-- A segment's product at an index. -/
theorem pay_read (d w : Vec Ideal S1024x1024 .bf16) (a b : Fin 1024) :
    part d w (ix2 a b) = ∑ k : Fin 1024, (d (ix2 a k) * w (ix2 b k) : EReal) := by
  pointwise [part, k0_pay2]

/-- The seven arguments. -/
def D0 : S4096x1024.Idx → EReal := m ((c : Thread nD τ).loc main_arg0)
def D1 : S4096x1024.Idx → EReal := m ((c : Thread nD τ).loc main_arg1)
def D2 : S4096x1024.Idx → EReal := m ((c : Thread nD τ).loc main_arg2)
def D3 : S4096x1024.Idx → EReal := m ((c : Thread nD τ).loc main_arg3)
def D4 : S4096x1024.Idx → EReal := m ((c : Thread nD τ).loc main_arg4)
def D5 : S4096x1024.Idx → EReal := m ((c : Thread nD τ).loc main_arg5)
def W : S1024x6144.Idx → EReal := m ((c : Thread nD τ).loc main_arg6)

/-- A segment's share of the gradient: its product with the weights' columns of its place. -/
def share (d : S4096x1024.Idx → EReal) (w : S1024x6144.Idx → EReal) (q : Fin 6) (r : Fin 4096) (n : Fin 1024) : EReal :=
  ∑ k : Fin 1024, d (ix2 r k) * w (ix2 n (place (N := 6144) rfl q k))

/-- The gradient: the six shares, added up. -/
def grad (d0 d1 d2 d3 d4 d5 : S4096x1024.Idx → EReal) (w : S1024x6144.Idx → EReal) : S4096x1024.Idx → EReal := fun i =>
  share d0 w 0 (i 0) (i 1) + share d1 w 1 (i 0) (i 1) + share d2 w 2 (i 0) (i 1) + share d3 w 3 (i 0) (i 1)
    + share d4 w 4 (i 0) (i 1) + share d5 w 5 (i 0) (i 1)

/-- The product a point takes of a block `x` of the segment `d`. -/
theorem part_read (s t : Fin cfg0.N) (q : Fin 6) (p : ℕ) (hp : s.val % 6 = p) (hq : p = q.val) (hd : s.val / 6 = t.val / 6)
    (d : S4096x1024.Idx → EReal) (x : Vec Ideal S1024x1024 .bf16)
    (hx : ∀ a k : Fin 1024, x (ix2 a k) = d (ix2 (place (N := 4096) rfl (rowBlk s) a) k)) (a b : Fin 1024) :
    part x (iblk m c 6 s) (ix2 a b) = share d (W m c) q (place (N := 4096) rfl (rowBlk t) a) b := by
  rw [pay_read]
  refine Finset.sum_congr rfl fun k _ => ?_
  rw [hx a k, show rowBlk s = rowBlk t from Fin.ext hd]
  refine congrArg (_ * ·) ?_
  show W m c (((cfg0.win 6).blk s).view.emb (ix2 b k)) = _
  rw [(emb s b k).2.1, show segment s = q from Fin.ext (hp.trans hq)]

theorem handed_read (t : Fin cfg0.N) (h : t.val % 6 = 5) (a b : Fin 1024) :
    (dats m 0 c).after 7 t (ix2 a b) = grad (D0 m c) (D1 m c) (D2 m c) (D3 m c) (D4 m c) (D5 m c) (W m c)
      (ix2 (place (N := 4096) rfl (rowBlk t) a) b) := by
  refine (congrFun (handed m c t h) (ix2 a b)).trans ?_
  refine congrArg₂ (· + ·) (congrArg₂ (· + ·) (congrArg₂ (· + ·) (congrArg₂ (· + ·) (congrArg₂ (· + ·)
    (part_read m c _ t 0 0 ?_ rfl ?_ (D0 m c) _ ?_ a b) (part_read m c _ t 1 1 ?_ rfl ?_ (D1 m c) _ ?_ a b))
    (part_read m c _ t 2 2 ?_ rfl ?_ (D2 m c) _ ?_ a b)) (part_read m c _ t 3 3 ?_ rfl ?_ (D3 m c) _ ?_ a b))
    (part_read m c _ t 4 4 ?_ rfl ?_ (D4 m c) _ ?_ a b)) (part_read m c _ t 5 5 ?_ rfl ?_ (D5 m c) _ ?_ a b)
  on_goal 3 => exact fun a k => congrArg (D0 m c) (emb _ a k).1.1
  on_goal 5 => exact fun a k => congrArg (D1 m c) (emb _ a k).1.2.1
  on_goal 7 => exact fun a k => congrArg (D2 m c) (emb _ a k).1.2.2.1
  on_goal 9 => exact fun a k => congrArg (D3 m c) (emb _ a k).1.2.2.2.1
  on_goal 11 => exact fun a k => congrArg (D4 m c) (emb _ a k).1.2.2.2.2.1
  on_goal 13 => exact fun a k => congrArg (D5 m c) (emb _ a k).1.2.2.2.2.2
  all_goals
    try simp only [back_val]
  all_goals first | exact h | rfl | skip
  all_goals omega

/-- The array after the region. -/
theorem kernel_grad : (dats m 0 c).arrAt 7 cfg0.N
    = grad (D0 m c) (D1 m c) (D2 m c) (D3 m c) (D4 m c) (D5 m c) (W m c) := by
  refine (dats m 0 c).arrAt_eq_of_covers 7 _ (by decide +kernel) fun t hf y => ?_
  obtain ⟨a, b, rfl⟩ : ∃ (a : Fin 1024) (b : Fin 1024), y = ix2 a b := ⟨y 0, y 1, by funext x; fin_cases x <;> rfl⟩
  rw [(emb t a b).2.2]
  exact handed_read m c t (flush_at t hf) a b

section Reference

variable (d0 d1 d2 d3 d4 d5 : S4096x1024.Idx → EReal)

/-- The six segments side by side. -/
def joined : Cert.InDxRefIdeal.S4096x6144.Idx → EReal := concatenate Cert.InDxRefIdeal.S4096x6144 1
  [⟨S4096x1024, d0⟩, ⟨S4096x1024, d1⟩,
   ⟨S4096x1024, d2⟩, ⟨S4096x1024, d3⟩,
   ⟨S4096x1024, d4⟩, ⟨S4096x1024, d5⟩]
  Cert.InDxRefIdeal.Facts₀.concatenates_S4096x1024_S4096x1024_S4096x1024_S4096x1024_S4096x1024_S4096x1024_S4096x6144_d1

theorem joined_read (r : Fin 4096) (k : Fin 1024) :
    joined d0 d1 d2 d3 d4 d5 (ix2 r (place (N := 6144) (n := 6) rfl 0 k)) = d0 (ix2 r k)
    ∧ joined d0 d1 d2 d3 d4 d5 (ix2 r (place (N := 6144) (n := 6) rfl 1 k)) = d1 (ix2 r k)
    ∧ joined d0 d1 d2 d3 d4 d5 (ix2 r (place (N := 6144) (n := 6) rfl 2 k)) = d2 (ix2 r k)
    ∧ joined d0 d1 d2 d3 d4 d5 (ix2 r (place (N := 6144) (n := 6) rfl 3 k)) = d3 (ix2 r k)
    ∧ joined d0 d1 d2 d3 d4 d5 (ix2 r (place (N := 6144) (n := 6) rfl 4 k)) = d4 (ix2 r k)
    ∧ joined d0 d1 d2 d3 d4 d5 (ix2 r (place (N := 6144) (n := 6) rfl 5 k)) = d5 (ix2 r k) := by
  refine ⟨?_, ?_, ?_, ?_, ?_, ?_⟩
  all_goals
    unfold joined place
    pointwise
  all_goals
    repeat rw [dif_neg (by omega)]
    try rw [dif_pos (by omega)]
    refine congrArg _ (congrArg (ix2 r) (Fin.ext ?_))
    dsimp only
    omega

/-- The reference's term. -/
theorem reference_grad (w : S1024x6144.Idx → EReal) :
    Host.dotGeneral (F := Ideal) (φ₁ := .f32) (φ₂ := .f32) Cert.InDxRefIdeal.dot_S4096x6144_S1024x6144_S4096x1024_1_1_0_0_n_n none
      (joined d0 d1 d2 d3 d4 d5) (extf .f32 w Cert.InDxRefIdeal.Facts₀.bitsLt_bf16_f32) = grad d0 d1 d2 d3 d4 d5 w := by
  funext i
  obtain ⟨a, b, rfl⟩ : ∃ (a : Fin 4096) (b : Fin 1024), i = ix2 a b := ⟨i 0, i 1, by funext x; fin_cases x <;> rfl⟩
  have e : Host.dotGeneral (F := Ideal) (φ₁ := .f32) (φ₂ := .f32) Cert.InDxRefIdeal.dot_S4096x6144_S1024x6144_S4096x1024_1_1_0_0_n_n none
      (joined d0 d1 d2 d3 d4 d5) (extf .f32 w Cert.InDxRefIdeal.Facts₀.bitsLt_bf16_f32) (ix2 a b)
      = ∑ j : Fin 6144, joined d0 d1 d2 d3 d4 d5 (ix2 a j) * w (ix2 b j) := by
    pointwise
  rw [e, sum_blocks (n := 6) (w := 1024) (N := 6144) rfl, Fin.sum_univ_six]
  unfold grad share
  refine congrArg₂ (· + ·) (congrArg₂ (· + ·) (congrArg₂ (· + ·) (congrArg₂ (· + ·) (congrArg₂ (· + ·) ?_ ?_) ?_) ?_) ?_) ?_
  all_goals
    refine Finset.sum_congr rfl fun k _ => ?_
    obtain ⟨e0, e1, e2, e3, e4, e5⟩ := joined_read d0 d1 d2 d3 d4 d5 a k
    first | rw [e0] | rw [e1] | rw [e2] | rw [e3] | rw [e4] | rw [e5]
    rfl

end Reference

end Cert.Mix.InDx

end
-- ==== Proof.HeadDx.lean ====
/- The gradient of the input of the three head projections: the three segments' products, added up in a scratch array. -/
module

public import proofs.«01_k».proof.Proof.Gen.HeadDxIdeal.Value
public import proofs.«01_k».proof.Proof.Gen.HeadDxRefIdeal.Run
public import proofs.«01_k».proof.Proof.BlockSum
public import Idealize.ShloMosaic.Lib.Pipeline.ValueKit
public import Idealize.ShloMosaic.Lib.Pointwise

@[expose] public section

set_option maxRecDepth 16384

noncomputable section

namespace Cert.Mix.HeadDx

open Idealize.ShloMosaic Idealize.ShloMosaic.TcCoe Cert.HeadDxIdeal Cert.HeadDxIdeal.Gen Cert.Ffn

variable (m : (ℓ : Loc nD τ sig) → Buf (Elt Ideal) ℓ) (c : Dev nD)

theorem zeros : (![0, 0] : Fin 2 → Nat) = fun _ => 0 := funext fun a => by fin_cases a <;> rfl

/-- The product of a segment's block with the weights' block of the same columns. -/
abbrev part (d w : Vec Ideal S1024x768 .bf16) : Vec Ideal S1024x1024 .f32 := k0_pay1 (F := Ideal) d w

/-- The sum of two blocks, entry by entry. -/
abbrev plus (a b : Vec Ideal S1024x1024 .f32) : Vec Ideal S1024x1024 .f32 := fun i => (a i : EReal) + b i

/-- What the point before another left in the scratch array. -/
abbrev left (t : Fin cfg0.N) : Vec Ideal S1024x1024 .f32 := (outsAt0 m c (t.val - 1) (Nat.lt_of_le_of_lt (Nat.sub_le _ _) t.isLt)).2

/-- What the first two points of a row block leave in the scratch array: the first its product, the second its own added to it. -/
theorem scratch (t : Fin cfg0.N) :
    (t.val % 3 = 0 → (outsAt0 m c t.val t.isLt).2 = part (iblk m c 0 t) (iblk m c 3 t))
    ∧ (t.val % 3 = 1 → (outsAt0 m c t.val t.isLt).2 = plus (left m c t) (part (iblk m c 1 t) (iblk m c 3 t))) := by
  have hw : scM0_0.IsWhole := Memref.isWhole_whole _
  refine ⟨fun e => ?_, fun e => ?_⟩
  on_goal 1 =>
    rw [outsAt0_A m c t e e (by omega) (by omega) (by omega) (by omega)]
    dsimp only
    unfold sout0_A_0
    rw [View.read_writes_eq_canon]
    on_goal 2 => exact fun y => scover0_A_0 ..
    unfold kernelRun0_A
  on_goal 2 =>
    rw [outsAt0_B m c t (by omega) e (by omega) (by omega) (by omega) (by omega)]
    dsimp only
    unfold sout0_B_0
    rw [View.read_writes_eq_canon]
    on_goal 2 => exact fun y => scover0_B_0 ..
    unfold kernelRun0_B
  all_goals
    dsimp only
    rw [View.canon_unit_zero zeros]
    simp only [k0_pay2, k0_pay6, View.readAt_eq_ld, (hs0_0 t).read_unread, (hs0_1 t).read_unread,
      (hs0_3 t).read_unread, hw.read_unread, View.ld_unit_zero (S := S1024x768) zeros,
      View.ld_unit_zero (S := S1024x1024) zeros, shapeCast_self]
    try rfl

/-- What the last point of a row block hands out. -/
theorem handed_last (t : Fin cfg0.N) (e : t.val % 3 = 2) :
    (outsAt0 m c t.val t.isLt).1 = plus (left m c t) (part (iblk m c 2 t) (iblk m c 3 t)) := by
  have hw : scM0_0.IsWhole := Memref.isWhole_whole _
  rw [outsAt0_C m c t (by omega) (by omega) e e (by omega) (by omega)]
  dsimp only
  unfold out0_C_4
  rw [View.read_writes_eq_canon]
  on_goal 2 => exact fun y => cover0_C_4 ..
  unfold kernelRun0_C
  dsimp only
  sl_unfold_words
  rw [View.canon_unit_zero zeros, View.readCov_unit_zero (S := S1024x1024) _ zeros]
  unfold k0_pay10 k0_pay9
  simp only [View.readAt_eq_ld, (hs0_2 t).read_unread, (hs0_3 t).read_unread, hw.read_unread,
    View.ld_unit_zero (S := S1024x768) zeros, View.ld_unit_zero (S := S1024x1024) zeros, shapeCast_self]
  rfl

/-- The point before another. -/
def back (t : Fin cfg0.N) : Fin cfg0.N := ⟨t - 1, Nat.lt_of_le_of_lt (Nat.sub_le _ _) t.isLt⟩

theorem back_val (t : Fin cfg0.N) : (back t).val = t.val - 1 := rfl

/-- What the last point of a row block hands out: the three products, added up in order. -/
theorem handed (t : Fin cfg0.N) (e : t.val % 3 = 2) :
    (dats m 0 c).after 4 t = plus (plus
      (part (iblk m c 0 (back (back t))) (iblk m c 3 (back (back t))))
      (part (iblk m c 1 (back t)) (iblk m c 3 (back t))))
      (part (iblk m c 2 t) (iblk m c 3 t)) := by
  have h1 := (scratch m c (back t)).2 (by simp only [back_val]; omega)
  have h0 := (scratch m c (back (back t))).1 (by simp only [back_val]; omega)
  rw [after0_4]
  exact (handed_last m c t e).trans (congrArg (fun z => plus z _) (h1.trans (congrArg (fun z => plus z _) h0)))

theorem index_at : ∀ t : Fin cfg0.N,
    (win0_0.index t = ![t.val / 3, 0] ∧ win0_1.index t = ![t.val / 3, 0] ∧ win0_2.index t = ![t.val / 3, 0])
    ∧ win0_3.index t = ![0, t.val % 3] ∧ win0_4.index t = ![t.val / 3, 0] :=
  (by decide +kernel : ∀ t : Fin grid0.N, _)

theorem flush_at : ∀ t : Fin cfg0.N, (cfg0.win 4).flush t = true → t.val % 3 = 2 :=
  (by decide +kernel : ∀ t : Fin grid0.N, _)

theorem points (t : Fin cfg0.N) : t.val < 12 := t.isLt

/-- A point's segment and its block of rows. -/
def segment (t : Fin cfg0.N) : Fin 3 := ⟨t % 3, by omega⟩
def rowBlk (t : Fin cfg0.N) : Fin 4 := ⟨t / 3, by have := points t; omega⟩

/-- Where the segments' blocks and the weights' block lie in their arrays. -/
theorem emb (t : Fin cfg0.N) (a : Fin 1024) (k : Fin 768) :
    (((cfg0.win 0).blk t).view.emb (ix2 a k) = ix2 (place (N := 4096) rfl (rowBlk t) a) k
      ∧ ((cfg0.win 1).blk t).view.emb (ix2 a k) = ix2 (place (N := 4096) rfl (rowBlk t) a) k
      ∧ ((cfg0.win 2).blk t).view.emb (ix2 a k) = ix2 (place (N := 4096) rfl (rowBlk t) a) k)
    ∧ ((cfg0.win 3).blk t).view.emb (ix2 a k) = ix2 a (place (N := 2304) rfl (segment t) k) := by
  obtain ⟨⟨e0, e1, e2⟩, e3, -⟩ := index_at t
  refine ⟨⟨?_, ?_, ?_⟩, ?_⟩
  all_goals
    funext x; apply Fin.ext
    fin_cases x <;> (blk_simp [e0, e1, e2, e3]; rfl)

/-- Where the result's block lies. -/
theorem emb_out (t : Fin cfg0.N) (a b : Fin 1024) :
    ((cfg0.win 4).blk t).view.emb (ix2 a b) = ix2 (place (N := 4096) rfl (rowBlk t) a) b := by
  have e := (index_at t).2.2
  funext x; apply Fin.ext
  fin_cases x <;> (blk_simp [e]; rfl)

/-- A segment's product at an index. -/
theorem pay_read (d w : Vec Ideal S1024x768 .bf16) (a b : Fin 1024) :
    part d w (ix2 a b) = ∑ k : Fin 768, (d (ix2 a k) * w (ix2 b k) : EReal) := by
  pointwise [part, k0_pay1]

/-- The four arguments. -/
def D0 : S4096x768.Idx → EReal := m ((c : Thread nD τ).loc main_arg0)
def D1 : S4096x768.Idx → EReal := m ((c : Thread nD τ).loc main_arg1)
def D2 : S4096x768.Idx → EReal := m ((c : Thread nD τ).loc main_arg2)
def W : S1024x2304.Idx → EReal := m ((c : Thread nD τ).loc main_arg3)

/-- A segment's share of the gradient: its product with the weights' columns of its place. -/
def share (d : S4096x768.Idx → EReal) (w : S1024x2304.Idx → EReal) (q : Fin 3) (r : Fin 4096) (n : Fin 1024) : EReal :=
  ∑ k : Fin 768, d (ix2 r k) * w (ix2 n (place (N := 2304) rfl q k))

/-- The gradient: the three shares, added up. -/
def grad (d0 d1 d2 : S4096x768.Idx → EReal) (w : S1024x2304.Idx → EReal) : S4096x1024.Idx → EReal := fun i =>
  share d0 w 0 (i 0) (i 1) + share d1 w 1 (i 0) (i 1) + share d2 w 2 (i 0) (i 1)

/-- The product a point takes of a block `x` of the segment `d`. -/
theorem part_read (s t : Fin cfg0.N) (q : Fin 3) (p : ℕ) (hp : s.val % 3 = p) (hq : p = q.val) (hd : s.val / 3 = t.val / 3)
    (d : S4096x768.Idx → EReal) (x : Vec Ideal S1024x768 .bf16)
    (hx : ∀ (a : Fin 1024) (k : Fin 768), x (ix2 a k) = d (ix2 (place (N := 4096) rfl (rowBlk s) a) k)) (a b : Fin 1024) :
    part x (iblk m c 3 s) (ix2 a b) = share d (W m c) q (place (N := 4096) rfl (rowBlk t) a) b := by
  rw [pay_read]
  refine Finset.sum_congr rfl fun k _ => ?_
  rw [hx a k, show rowBlk s = rowBlk t from Fin.ext hd]
  refine congrArg (_ * ·) ?_
  show W m c (((cfg0.win 3).blk s).view.emb (ix2 b k)) = _
  rw [(emb s b k).2, show segment s = q from Fin.ext (hp.trans hq)]

theorem handed_read (t : Fin cfg0.N) (h : t.val % 3 = 2) (a b : Fin 1024) :
    (dats m 0 c).after 4 t (ix2 a b) = grad (D0 m c) (D1 m c) (D2 m c) (W m c) (ix2 (place (N := 4096) rfl (rowBlk t) a) b) := by
  refine (congrFun (handed m c t h) (ix2 a b)).trans ?_
  refine congrArg₂ (· + ·) (congrArg₂ (· + ·) (part_read m c _ t 0 0 ?_ rfl ?_ (D0 m c) _ ?_ a b)
    (part_read m c _ t 1 1 ?_ rfl ?_ (D1 m c) _ ?_ a b)) (part_read m c _ t 2 2 ?_ rfl ?_ (D2 m c) _ ?_ a b)
  on_goal 3 => exact fun a k => congrArg (D0 m c) (emb _ a k).1.1
  on_goal 5 => exact fun a k => congrArg (D1 m c) (emb _ a k).1.2.1
  on_goal 7 => exact fun a k => congrArg (D2 m c) (emb _ a k).1.2.2
  all_goals
    try simp only [back_val]
  all_goals first | exact h | rfl | skip
  all_goals omega

/-- The array after the region. -/
theorem kernel_grad : (dats m 0 c).arrAt 4 cfg0.N = grad (D0 m c) (D1 m c) (D2 m c) (W m c) := by
  refine (dats m 0 c).arrAt_eq_of_covers 4 _ (by decide +kernel) fun t hf y => ?_
  obtain ⟨a, b, rfl⟩ : ∃ (a : Fin 1024) (b : Fin 1024), y = ix2 a b := ⟨y 0, y 1, by funext x; fin_cases x <;> rfl⟩
  rw [emb_out t a b]
  exact handed_read m c t (flush_at t hf) a b

section Reference

variable (d0 d1 d2 : S4096x768.Idx → EReal)

/-- The three segments side by side. -/
def joined : Cert.HeadDxRefIdeal.S4096x2304.Idx → EReal := concatenate Cert.HeadDxRefIdeal.S4096x2304 1
  [⟨S4096x768, d0⟩, ⟨S4096x768, d1⟩, ⟨S4096x768, d2⟩] Cert.HeadDxRefIdeal.Facts₀.concatenates_S4096x768_S4096x768_S4096x768_S4096x2304_d1

theorem joined_read (r : Fin 4096) (k : Fin 768) :
    joined d0 d1 d2 (ix2 r (place (N := 2304) (n := 3) rfl 0 k)) = d0 (ix2 r k)
    ∧ joined d0 d1 d2 (ix2 r (place (N := 2304) (n := 3) rfl 1 k)) = d1 (ix2 r k)
    ∧ joined d0 d1 d2 (ix2 r (place (N := 2304) (n := 3) rfl 2 k)) = d2 (ix2 r k) := by
  refine ⟨?_, ?_, ?_⟩
  all_goals
    unfold joined place
    pointwise
  all_goals
    repeat rw [dif_neg (by omega)]
    try rw [dif_pos (by omega)]
    refine congrArg _ (congrArg (ix2 r) (Fin.ext ?_))
    dsimp only
    omega

/-- The reference's term. -/
theorem reference_grad (w : S1024x2304.Idx → EReal) :
    Host.dotGeneral (F := Ideal) (φ₁ := .f32) (φ₂ := .f32) Cert.HeadDxRefIdeal.dot_S4096x2304_S1024x2304_S4096x1024_1_1_0_0_n_n none
      (joined d0 d1 d2) (extf .f32 w Cert.HeadDxRefIdeal.Facts₀.bitsLt_bf16_f32) = grad d0 d1 d2 w := by
  funext i
  obtain ⟨a, b, rfl⟩ : ∃ (a : Fin 4096) (b : Fin 1024), i = ix2 a b := ⟨i 0, i 1, by funext x; fin_cases x <;> rfl⟩
  have e : Host.dotGeneral (F := Ideal) (φ₁ := .f32) (φ₂ := .f32) Cert.HeadDxRefIdeal.dot_S4096x2304_S1024x2304_S4096x1024_1_1_0_0_n_n none
      (joined d0 d1 d2) (extf .f32 w Cert.HeadDxRefIdeal.Facts₀.bitsLt_bf16_f32) (ix2 a b)
      = ∑ j : Fin 2304, joined d0 d1 d2 (ix2 a j) * w (ix2 b j) := by
    pointwise
  rw [e, sum_blocks (n := 3) (w := 768) (N := 2304) rfl, Fin.sum_univ_three]
  unfold grad share
  refine congrArg₂ (· + ·) (congrArg₂ (· + ·) ?_ ?_) ?_
  all_goals
    refine Finset.sum_congr rfl fun k _ => ?_
    obtain ⟨e0, e1, e2⟩ := joined_read d0 d1 d2 a k
    first | rw [e0] | rw [e1] | rw [e2]
    rfl

end Reference

end Cert.Mix.HeadDx

end
-- ==== Proof.HeadDw.lean ====
/- The gradient of the weights of the three head projections: per segment, four blocks of rows summed up in a scratch array. -/
module

public import proofs.«01_k».proof.Proof.Gen.HeadDwIdeal.Value
public import proofs.«01_k».proof.Proof.Gen.HeadDwRefIdeal.Run
public import proofs.«01_k».proof.Proof.HeadDx
public import Idealize.ShloMosaic.Lib.Pipeline.ValueKit
public import Idealize.ShloMosaic.Lib.Pointwise

@[expose] public section

set_option maxRecDepth 16384

noncomputable section

namespace Cert.Mix.HeadDw

open Idealize.ShloMosaic Idealize.ShloMosaic.TcCoe Cert.HeadDwIdeal Cert.HeadDwIdeal.Gen Cert.Ffn

variable (m : (ℓ : Loc nD τ sig) → Buf (Elt Ideal) ℓ) (c : Dev nD)

theorem zeros : (![0, 0] : Fin 2 → Nat) = fun _ => 0 := funext fun a => by fin_cases a <;> rfl

/-- The product of a block of rows of the input, transposed, with the same rows of a segment. -/
abbrev part (x : Vec Ideal S1024x1024 .bf16) (d : Vec Ideal S1024x768 .bf16) : Vec Ideal S1024x768 .f32 := k0_pay1 (F := Ideal) x d

/-- The sum of two blocks, entry by entry. -/
abbrev plus (a b : Vec Ideal S1024x768 .f32) : Vec Ideal S1024x768 .f32 := fun i => (a i : EReal) + b i

/-- A point's block of rows, and its segment. -/
def sumBlk (t : Fin cfg0.N) : Fin 4 := ⟨t % 4, by omega⟩
theorem points (t : Fin cfg0.N) : t.val < 12 := t.isLt
def segment (t : Fin cfg0.N) : Fin 3 := ⟨t / 4, by have := points t; omega⟩

/-- The rows of the input that a point reads. -/
def rows (t : Fin cfg0.N) : Vec Ideal S1024x1024 .bf16 :=
  fun y => (iblk m c 0 t : S4096x1024.Idx → EReal) (ix2 (place (N := 4096) rfl (sumBlk t) (y 0)) (y 1))

/-- The block of its segment that a point reads. -/
def seg (t : Fin cfg0.N) : Vec Ideal S1024x768 .bf16 :=
  if t.val < 4 then iblk m c 1 t else if t.val < 8 then iblk m c 2 t else iblk m c 3 t

/-- Where a point's rows begin. -/
theorem off_at : ∀ t : Fin cfg0.N, k0_off1 (grid0.coords t) = ![t.val % 4 * 1024, 0]
    ∧ k0_off2 (grid0.coords t) = ![t.val % 4 * 1024, 0] ∧ k0_off3 (grid0.coords t) = ![t.val % 4 * 1024, 0] :=
  (by decide +kernel : ∀ t : Fin grid0.N, _)

theorem rows_eq (t : Fin cfg0.N) (off : Fin 2 → Nat) (e : off = ![t.val % 4 * 1024, 0])
    (h : ∀ a, off a + S1024x1024.size a ≤ S4096x1024.size a) :
    View.ld (Val := Elt Ideal) (e' := .bf16) (iblk m c 0 t : S4096x1024.Idx → EReal) (Rect.unit (s := S4096x1024) off S1024x1024.size h) = rows m c t := by
  subst e
  funext y
  refine View.ld_unit_apply_of _ _ _ _ _ _ fun a => ?_
  fin_cases a
  · rfl
  · exact (Nat.zero_add _).symm

/-- What the point before another left in the scratch array. -/
abbrev left (t : Fin cfg0.N) : Vec Ideal S1024x768 .f32 := (outsAt0 m c (t.val - 1) (Nat.lt_of_le_of_lt (Nat.sub_le _ _) t.isLt)).2

/-- What a segment's first point leaves in the scratch array: its product. -/
theorem scratch_first (t : Fin cfg0.N) (e : t.val % 4 = 0) :
    (outsAt0 m c t.val t.isLt).2 = part (rows m c t) (seg m c t) := by
  have ht := points t
  obtain ⟨o1, o2, o3⟩ := off_at t
  unfold seg
  by_cases u : t.val < 4
  on_goal 1 =>
    rw [if_pos u, outsAt0_A m c t u e (by omega) (by omega) (by omega) (by omega)]
    dsimp only
    unfold sout0_A_0
    rw [View.read_writes_eq_canon]
    on_goal 2 => exact fun y => scover0_A_0 ..
    unfold kernelRun0_A
  on_goal 2 => by_cases v : t.val < 8
  on_goal 2 =>
    rw [if_neg u, if_pos v, outsAt0_D m c t u (by omega) (by omega) (by omega) e (by omega)]
    dsimp only
    unfold sout0_D_0
    rw [View.read_writes_eq_canon]
    on_goal 2 => exact fun y => scover0_D_0 ..
    unfold kernelRun0_D
  on_goal 3 =>
    rw [if_neg u, if_neg v, outsAt0_G m c t u (by omega) (by omega) (by omega) e (by omega)]
    dsimp only
    unfold sout0_G_0
    rw [View.read_writes_eq_canon]
    on_goal 2 => exact fun y => scover0_G_0 ..
    unfold kernelRun0_G
  all_goals
    dsimp only
    rw [View.canon_unit_zero zeros]
    simp only [k0_pay2, k0_pay5, k0_pay8, View.readAt_eq_ld, (hs0_0 t).read_unread, (hs0_1 t).read_unread, (hs0_2 t).read_unread,
      (hs0_3 t).read_unread, View.ld_unit_zero (S := S1024x768) zeros, shapeCast_self]
    first | rw [rows_eq m c t _ o1] | rw [rows_eq m c t _ o2] | rw [rows_eq m c t _ o3]
    try rfl

/-- What a segment's middle points leave there: their product added. -/
theorem scratch_later (t : Fin cfg0.N) (e : ¬t.val % 4 = 0) (e' : ¬t.val % 4 = 3) :
    (outsAt0 m c t.val t.isLt).2 = plus (left m c t) (part (rows m c t) (seg m c t)) := by
  have hw : scM0_0.IsWhole := Memref.isWhole_whole _
  have ht := points t
  obtain ⟨o1, o2, o3⟩ := off_at t
  unfold seg
  by_cases u : t.val < 4
  on_goal 1 =>
    rw [if_pos u, outsAt0_B m c t u e (by omega) (by omega) (by omega) e']
    dsimp only
    unfold sout0_B_0
    rw [View.read_writes_eq_canon]
    on_goal 2 => exact fun y => scover0_B_0 ..
    unfold kernelRun0_B
  on_goal 2 => by_cases v : t.val < 8
  on_goal 2 =>
    rw [if_neg u, if_pos v, outsAt0_E m c t u (by omega) (by omega) e' e (by omega)]
    dsimp only
    unfold sout0_E_0
    rw [View.read_writes_eq_canon]
    on_goal 2 => exact fun y => scover0_E_0 ..
    unfold kernelRun0_E
  on_goal 3 =>
    rw [if_neg u, if_neg v, outsAt0_H m c t u (by omega) (by omega) e' e (by omega)]
    dsimp only
    unfold sout0_H_0
    rw [View.read_writes_eq_canon]
    on_goal 2 => exact fun y => scover0_H_0 ..
    unfold kernelRun0_H
  all_goals
    dsimp only
    rw [View.canon_unit_zero zeros]
    simp only [k0_pay3, k0_pay6, k0_pay9, View.readAt_eq_ld, (hs0_0 t).read_unread, (hs0_1 t).read_unread, (hs0_2 t).read_unread,
      (hs0_3 t).read_unread, hw.read_unread, View.ld_unit_zero (S := S1024x768) zeros, shapeCast_self]
    first | rw [rows_eq m c t _ o1] | rw [rows_eq m c t _ o2] | rw [rows_eq m c t _ o3]
    try rfl

/-- What a segment's last point hands out. -/
theorem handed_last (t : Fin cfg0.N) (e : t.val % 4 = 3) :
    (outsAt0 m c t.val t.isLt).1 = plus (left m c t) (part (rows m c t) (seg m c t)) := by
  have hw : scM0_0.IsWhole := Memref.isWhole_whole _
  have ht := points t
  obtain ⟨o1, o2, o3⟩ := off_at t
  unfold seg
  by_cases u : t.val < 4
  on_goal 1 =>
    rw [if_pos u, outsAt0_C m c t u (by omega) (by omega) (by omega) (by omega) e]
    dsimp only
    unfold out0_C_4
    rw [View.read_writes_eq_canon]
    on_goal 2 => exact fun y => cover0_C_4 ..
    unfold kernelRun0_C
  on_goal 2 => by_cases v : t.val < 8
  on_goal 2 =>
    rw [if_neg u, if_pos v, outsAt0_F m c t u (by omega) (by omega) e (by omega) (by omega)]
    dsimp only
    unfold out0_F_4
    rw [View.read_writes_eq_canon]
    on_goal 2 => exact fun y => cover0_F_4 ..
    unfold kernelRun0_F
  on_goal 3 =>
    rw [if_neg u, if_neg v, outsAt0_I m c t u (by omega) (by omega) e (by omega) (by omega)]
    dsimp only
    unfold out0_I_4
    rw [View.read_writes_eq_canon]
    on_goal 2 => exact fun y => cover0_I_4 ..
    unfold kernelRun0_I
  all_goals
    dsimp only
    sl_unfold_words
    rw [View.canon_unit_zero zeros, View.readCov_unit_zero (S := S1024x768) _ zeros]
    simp only [k0_pay3, k0_pay6, k0_pay9, k0_pay10, View.readAt_eq_ld, (hs0_0 t).read_unread, (hs0_1 t).read_unread, (hs0_2 t).read_unread,
      (hs0_3 t).read_unread, hw.read_unread, View.ld_unit_zero (S := S1024x768) zeros, shapeCast_self]
    first
    | exact congrArg (fun z => plus (left m c t) (part z _)) (rows_eq m c t _ o1 _)
    | exact congrArg (fun z => plus (left m c t) (part z _)) (rows_eq m c t _ o2 _)
    | exact congrArg (fun z => plus (left m c t) (part z _)) (rows_eq m c t _ o3 _)

/-- The point before another. -/
def back (t : Fin cfg0.N) : Fin cfg0.N := ⟨t - 1, Nat.lt_of_le_of_lt (Nat.sub_le _ _) t.isLt⟩

theorem back_val (t : Fin cfg0.N) : (back t).val = t.val - 1 := rfl

/-- One point's product. -/
abbrev prodAt (t : Fin cfg0.N) : Vec Ideal S1024x768 .f32 := part (rows m c t) (seg m c t)

/-- What a segment's last point hands out: the four products, added up in order. -/
theorem handed (t : Fin cfg0.N) (e : t.val % 4 = 3) :
    (dats m 0 c).after 4 t = plus (plus (plus (prodAt m c (back (back (back t)))) (prodAt m c (back (back t))))
      (prodAt m c (back t))) (prodAt m c t) := by
  have h2 := scratch_later m c (back t) (by simp only [back_val]; omega) (by simp only [back_val]; omega)
  have h1 := scratch_later m c (back (back t)) (by simp only [back_val]; omega) (by simp only [back_val]; omega)
  have h0 := scratch_first m c (back (back (back t))) (by simp only [back_val]; omega)
  have l1 := h1.trans (congrArg (fun z => plus z _) h0)
  have l2 := h2.trans (congrArg (fun z => plus z _) l1)
  rw [after0_4]
  exact (handed_last m c t e).trans (congrArg (fun z => plus z _) l2)

theorem index_at : ∀ t : Fin cfg0.N,
    win0_0.index t = ![0, 0] ∧ (t.val < 4 → win0_1.index t = ![t.val % 4, 0]) ∧ (¬t.val < 4 → t.val < 8 → win0_2.index t = ![t.val % 4, 0])
    ∧ (¬t.val < 8 → win0_3.index t = ![t.val % 4, 0]) ∧ win0_4.index t = ![0, t.val / 4] :=
  (by decide +kernel : ∀ t : Fin grid0.N, _)

theorem flush_at : ∀ t : Fin cfg0.N, (cfg0.win 4).flush t = true → t.val % 4 = 3 :=
  (by decide +kernel : ∀ t : Fin grid0.N, _)

theorem emb_in (t : Fin cfg0.N) (r : Fin 4096) (a : Fin 1024) : ((cfg0.win 0).blk t).view.emb (ix2 r a) = ix2 r a := by
  have e := (index_at t).1
  funext x; apply Fin.ext
  fin_cases x <;> blk_simp [e]

/-- Where the segments' blocks lie, at the points that read them. -/
theorem emb_seg (t : Fin cfg0.N) (k : Fin 1024) (b : Fin 768) :
    (t.val < 4 → ((cfg0.win 1).blk t).view.emb (ix2 k b) = ix2 (place (N := 4096) rfl (sumBlk t) k) b)
    ∧ (¬t.val < 4 → t.val < 8 → ((cfg0.win 2).blk t).view.emb (ix2 k b) = ix2 (place (N := 4096) rfl (sumBlk t) k) b)
    ∧ (¬t.val < 8 → ((cfg0.win 3).blk t).view.emb (ix2 k b) = ix2 (place (N := 4096) rfl (sumBlk t) k) b) := by
  obtain ⟨-, e1, e2, e3, -⟩ := index_at t
  refine ⟨fun u => ?_, fun u v => ?_, fun v => ?_⟩
  on_goal 1 => have e := e1 u
  on_goal 2 => have e := e2 u v
  on_goal 3 => have e := e3 v
  all_goals
    funext x; apply Fin.ext
    fin_cases x <;> (blk_simp [e]; rfl)

theorem emb_out (t : Fin cfg0.N) (a : Fin 1024) (b : Fin 768) :
    ((cfg0.win 4).blk t).view.emb (ix2 a b) = ix2 a (place (N := 2304) rfl (segment t) b) := by
  have e := (index_at t).2.2.2.2
  funext x; apply Fin.ext
  fin_cases x <;> (blk_simp [e]; rfl)

/-- A point's product at an index. -/
theorem pay_read (x : Vec Ideal S1024x1024 .bf16) (d : Vec Ideal S1024x768 .bf16) (a : Fin 1024) (b : Fin 768) :
    part x d (ix2 a b) = ∑ k : Fin 1024, (x (ix2 k a) * d (ix2 k b) : EReal) := by
  pointwise [part, k0_pay1]

/-- The four arguments, and the three segments side by side. -/
def X : S4096x1024.Idx → EReal := m ((c : Thread nD τ).loc main_arg0)
def D0 : S4096x768.Idx → EReal := m ((c : Thread nD τ).loc main_arg1)
def D1 : S4096x768.Idx → EReal := m ((c : Thread nD τ).loc main_arg2)
def D2 : S4096x768.Idx → EReal := m ((c : Thread nD τ).loc main_arg3)
def J : Cert.HeadDwRefIdeal.S4096x2304.Idx → EReal := HeadDx.joined (D0 m c) (D1 m c) (D2 m c)

/-- The block that a point reads of its segment, as entries of the joined segments. -/
theorem seg_read (t : Fin cfg0.N) (k : Fin 1024) (b : Fin 768) :
    seg m c t (ix2 k b) = J m c (ix2 (place (N := 4096) rfl (sumBlk t) k) (place (N := 2304) rfl (segment t) b)) := by
  have ht := points t
  obtain ⟨j0, j1, j2⟩ := HeadDx.joined_read (D0 m c) (D1 m c) (D2 m c) (place (N := 4096) rfl (sumBlk t) k) b
  unfold seg J
  by_cases u : t.val < 4
  · rw [if_pos u, show segment t = 0 from Fin.ext (by show t.val / 4 = 0; omega)]
    exact (congrArg (D0 m c) ((emb_seg t k b).1 u)).trans j0.symm
  · by_cases v : t.val < 8
    · rw [if_neg u, if_pos v, show segment t = 1 from Fin.ext (by show t.val / 4 = 1; omega)]
      exact (congrArg (D1 m c) ((emb_seg t k b).2.1 u v)).trans j1.symm
    · rw [if_neg u, if_neg v, show segment t = 2 from Fin.ext (by show t.val / 4 = 2; omega)]
      exact (congrArg (D2 m c) ((emb_seg t k b).2.2 v)).trans j2.symm

/-- The gradient: the transposed input times the joined segments. -/
def grad (x : S4096x1024.Idx → EReal) (d : Cert.HeadDwRefIdeal.S4096x2304.Idx → EReal) : S1024x2304.Idx → EReal :=
  fun i => ∑ k : Fin 4096, x (ix2 k (i 0)) * d (ix2 k (i 1))

theorem part_read (t s : Fin cfg0.N) (q : Fin 4) (p : ℕ) (hp : s.val % 4 = p) (hq : p = q.val) (hd : s.val / 4 = t.val / 4)
    (a : Fin 1024) (b : Fin 768) :
    prodAt m c s (ix2 a b) = ∑ k : Fin 1024, X m c (ix2 (place (N := 4096) rfl q k) a)
      * J m c (ix2 (place (N := 4096) rfl q k) (place (N := 2304) rfl (segment t) b)) := by
  refine (pay_read _ _ a b).trans ?_
  refine Finset.sum_congr rfl fun k _ => ?_
  rw [seg_read, show segment s = segment t from Fin.ext hd, show sumBlk s = q from Fin.ext (hp.trans hq)]
  refine congrArg (· * _) ?_
  show X m c (((cfg0.win 0).blk s).view.emb (ix2 (place (N := 4096) rfl (sumBlk s) k) a)) = _
  rw [emb_in, show sumBlk s = q from Fin.ext (hp.trans hq)]

theorem handed_read (t : Fin cfg0.N) (h : t.val % 4 = 3) (a : Fin 1024) (b : Fin 768) :
    (dats m 0 c).after 4 t (ix2 a b) = grad (X m c) (J m c) (ix2 a (place (N := 2304) rfl (segment t) b)) := by
  refine (congrFun (handed m c t h) (ix2 a b)).trans ?_
  refine Eq.trans ?_ (four_blocks (w := 1024) (N := 4096) rfl fun k =>
    X m c (ix2 k a) * J m c (ix2 k (place (N := 2304) rfl (segment t) b)))
  refine congrArg₂ (· + ·) (congrArg₂ (· + ·) (congrArg₂ (· + ·) (part_read m c t _ 0 0 ?_ rfl ?_ a b)
    (part_read m c t _ 1 1 ?_ rfl ?_ a b)) (part_read m c t _ 2 2 ?_ rfl ?_ a b)) (part_read m c t _ 3 3 ?_ rfl ?_ a b)
  all_goals
    try simp only [back_val]
  all_goals first | exact h | rfl | skip
  all_goals omega

/-- The array after the region. -/
theorem kernel_grad : (dats m 0 c).arrAt 4 cfg0.N = grad (X m c) (J m c) := by
  refine (dats m 0 c).arrAt_eq_of_covers 4 _ (by decide +kernel) fun t hf y => ?_
  obtain ⟨a, b, rfl⟩ : ∃ (a : Fin 1024) (b : Fin 768), y = ix2 a b := ⟨y 0, y 1, by funext x; fin_cases x <;> rfl⟩
  rw [emb_out t a b]
  exact handed_read m c t (flush_at t hf) a b

/-- The reference's term. -/
theorem reference_grad (x : S4096x1024.Idx → EReal) (d : Cert.HeadDwRefIdeal.S4096x2304.Idx → EReal) :
    truncf (F := Ideal) .bf16 (transpose Cert.HeadDwRefIdeal.S1024x2304 [1, 0]
      (Host.dotGeneral (φ₁ := .f32) (φ₂ := .f32) Cert.HeadDwRefIdeal.dot_S4096x2304_S4096x1024_S2304x1024_0_0_1_1_n_n none
        d (extf .f32 x Cert.HeadDwRefIdeal.Facts₀.bitsLt_bf16_f32)) Cert.HeadDwRefIdeal.Facts₀.transposes_S2304x1024_S1024x2304_1_0)
      Cert.HeadDwRefIdeal.Facts₀.bitsLt_bf16_f32 = grad x d := by
  funext i
  obtain ⟨a, b, rfl⟩ : ∃ (a : Fin 1024) (b : Fin 2304), i = ix2 a b := ⟨i 0, i 1, by funext x; fin_cases x <;> rfl⟩
  refine Eq.trans (b := ∑ k : Fin 4096, d (ix2 k b) * x (ix2 k a)) ?_ (Finset.sum_congr rfl fun k _ => mul_comm _ _)
  pointwise

end Cert.Mix.HeadDw

end
-- ==== Proof.Products.lean ====
/- Products of arrays of any size, and a sum that a scratch array collects in four steps. -/
module

public import proofs.«01_k».proof.Proof.BlockSum
public import Idealize.ShloMosaic.Lib.Pipeline.ValueKit
public import Idealize.ShloMosaic.Lib.Pointwise

@[expose] public section

noncomputable section

namespace Cert.Mix

open Idealize.ShloMosaic
export Cert.Ffn (place)

theorem origin : (![0, 0] : Fin 2 → Nat) = fun _ => 0 := funext fun a => by fin_cases a <;> rfl

/-- An index of an array with two axes is the pair of its two places. -/
theorem pair_eta {M N : ℕ} (y : Shape.Idx ⟨2, ![M, N]⟩) : y = ix2 (y 0) (y 1) := by
  funext x; fin_cases x <;> rfl

variable {M K N : ℕ}

/-- Rows times columns. -/
def product (A : Shape.Idx ⟨2, ![M, K]⟩ → EReal) (B : Shape.Idx ⟨2, ![K, N]⟩ → EReal) : Shape.Idx ⟨2, ![M, N]⟩ → EReal :=
  fun i => ∑ k : Fin K, A (ix2 (i 0) k) * B (ix2 k (i 1))

/-- Rows times the columns of one block of columns. -/
def slab {q n : ℕ} (e : q * n = N) (s : Fin q) (A : Shape.Idx ⟨2, ![M, K]⟩ → EReal) (B : Shape.Idx ⟨2, ![K, N]⟩ → EReal) :
    Shape.Idx ⟨2, ![M, n]⟩ → EReal :=
  fun i => ∑ k : Fin K, A (ix2 (i 0) k) * B (ix2 k (place e s (i 1)))

/-- Rows times rows: the gradient of a product by its first factor. -/
def byInput (D : Shape.Idx ⟨2, ![M, K]⟩ → EReal) (W : Shape.Idx ⟨2, ![N, K]⟩ → EReal) : Shape.Idx ⟨2, ![M, N]⟩ → EReal :=
  fun i => ∑ k : Fin K, D (ix2 (i 0) k) * W (ix2 (i 1) k)

/-- Columns times columns: the gradient of a product by its second factor. -/
def byWeights (X : Shape.Idx ⟨2, ![K, M]⟩ → EReal) (D : Shape.Idx ⟨2, ![K, N]⟩ → EReal) : Shape.Idx ⟨2, ![M, N]⟩ → EReal :=
  fun i => ∑ k : Fin K, D (ix2 k (i 1)) * X (ix2 k (i 0))

/-- A scratch array takes the first of four parts, then two more are added to it, and at the fourth the sum is handed out:
    if the parts are the sums over a quarter each, what is handed out is the whole sum. -/
theorem sum_of_four {P n w : ℕ} {I : Type} (e : 4 * w = n) (scratch out part : Fin P → I → EReal)
    (first : ∀ t, t.val % 4 = 0 → scratch t = part t)
    (later : ∀ t s, t.val = s.val + 1 → 1 ≤ t.val % 4 → ¬t.val % 4 = 3 → scratch t = fun y => scratch s y + part t y)
    (last : ∀ t s, t.val = s.val + 1 → t.val % 4 = 3 → out t = fun y => scratch s y + part t y)
    (t : Fin P) (h : t.val % 4 = 3) (y : I) (f : Fin n → EReal)
    (hp : ∀ (s : Fin P) (q : Fin 4), s.val % 4 = q.val → s.val / 4 = t.val / 4 → part s y = ∑ k, f (Cert.Ffn.place e q k)) :
    out t y = ∑ k, f k := by
  have back : ∀ d, ∃ s : Fin P, s.val = t.val - d := fun d => ⟨⟨t - d, Nat.lt_of_le_of_lt (Nat.sub_le _ _) t.isLt⟩, rfl⟩
  obtain ⟨t0, h0⟩ := back 3
  obtain ⟨t1, h1⟩ := back 2
  obtain ⟨t2, h2⟩ := back 1
  rw [last t t2 (by omega) h, later t2 t1 (by omega) (by omega) (by omega), later t1 t0 (by omega) (by omega) (by omega),
    first t0 (by omega)]
  dsimp only
  rw [hp t0 0 (by show _ = 0; omega) (by omega), hp t1 1 (by show _ = 1; omega) (by omega), hp t2 2 (by show _ = 2; omega) (by omega),
    hp t 3 h rfl]
  exact Cert.Ffn.four_blocks e f

end Cert.Mix

end
-- ==== Proof.OutY.lean ====
/- The mixer's three output projections: at each point one block of rows times all of the weights. -/
module

public import proofs.«01_k».proof.Defs
public import proofs.«01_k».proof.Proof.Gen.WaYIdeal.Value
public import proofs.«01_k».proof.Proof.Gen.WaYRefIdeal.Run
public import proofs.«01_k».proof.Proof.Gen.WbYIdeal.Value
public import proofs.«01_k».proof.Proof.Gen.WbYRefIdeal.Run
public import proofs.«01_k».proof.Proof.Gen.WoYIdeal.Value
public import proofs.«01_k».proof.Proof.Gen.WoYRefIdeal.Run
public import proofs.«01_k».proof.Proof.Products
public import Idealize.ShloMosaic.Lib.Quiescent

@[expose] public section

set_option maxRecDepth 16384

noncomputable section

open Idealize.ShloMosaic Idealize.ShloMosaic.TcCoe Idealize.SL.Sem Cert.Mix

namespace Cert.Mix.WaY

open Cert.WaYIdeal Cert.WaYIdeal.Gen

variable (m : (ℓ : Loc nD τ sig) → Buf (Elt Ideal) ℓ) (c : Dev nD)

/-- The two arguments. -/
def X : S4096x1024.Idx → EReal := m ((c : Thread nD τ).loc main_arg0)
def W : S1024x1024.Idx → EReal := m ((c : Thread nD τ).loc main_arg1)

theorem handed (t : Fin cfg0.N) : (dats m 0 c).after 2 t = k0_pay1 (F := Ideal) (iblk m c 0 t) (iblk m c 1 t) := by
  rw [after0_2]
  unfold outsAt0 out0_A_2
  rw [View.read_writes_eq_canon _ _ _ (cover0_A_2 c _ _ _ _ _ _ _ _ _ (iblk m c 0 t) (iblk m c 1 t))]
  unfold kernelRun0_A
  dsimp only
  rw [View.canon_unit_zero origin]
  simp only [View.readAt_eq_ld, (hs0_0 t).read_unread, (hs0_1 t).read_unread, View.ld_unit_zero (S := S1024x1024) origin, shapeCast_self]

theorem index_at : ∀ t : Fin cfg0.N, win0_0.index t = ![t.val, 0] ∧ win0_1.index t = ![0, 0] ∧ win0_2.index t = ![t.val, 0] :=
  (by decide +kernel : ∀ t : Fin grid0.N, _)

/-- A point's block of rows. -/
def blkOf (t : Fin cfg0.N) : Fin 4 := ⟨t, t.isLt⟩

theorem emb0 (t : Fin cfg0.N) (a k : Fin 1024) :
    ((cfg0.win 0).blk t).view.emb (ix2 a k) = ix2 (place (N := 4096) rfl (blkOf t) a) k := by
  have e := (index_at t).1
  funext x; apply Fin.ext
  fin_cases x <;> (blk_simp [e]; rfl)

theorem emb1 (t : Fin cfg0.N) (k b : Fin 1024) : ((cfg0.win 1).blk t).view.emb (ix2 k b) = ix2 k b := by
  have e := (index_at t).2.1
  funext x; apply Fin.ext
  fin_cases x <;> blk_simp [e]

theorem emb2 (t : Fin cfg0.N) (a b : Fin 1024) :
    ((cfg0.win 2).blk t).view.emb (ix2 a b) = ix2 (place (N := 4096) rfl (blkOf t) a) b := by
  have e := (index_at t).2.2
  funext x; apply Fin.ext
  fin_cases x <;> (blk_simp [e]; rfl)

theorem pay_read (x0 x1 : Vec Ideal S1024x1024 .bf16) (a b : Fin 1024) :
    k0_pay1 (F := Ideal) x0 x1 (ix2 a b) = ∑ k : Fin 1024, (x0 (ix2 a k) * x1 (ix2 k b) : EReal) := by
  pointwise [k0_pay1]

/-- The array after the region. -/
theorem arr : (dats m 0 c).arrAt 2 cfg0.N = product (X m c) (W m c) := by
  refine (dats m 0 c).arrAt_eq_of_covers 2 _ (by decide +kernel) fun t _ y => ?_
  obtain ⟨a, b, rfl⟩ := (⟨y 0, y 1, pair_eta y⟩ : ∃ (a : Fin 1024) (b : Fin 1024), y = ix2 a b)
  rw [emb2]
  refine (congrFun (handed m c t) (ix2 a b)).trans ((pay_read _ _ a b).trans ?_)
  refine Finset.sum_congr rfl fun k _ => ?_
  show X m c (((cfg0.win 0).blk t).view.emb (ix2 a k)) * W m c (((cfg0.win 1).blk t).view.emb (ix2 k b)) = _
  rw [emb0, emb1]
  rfl

/-- The reference's term. -/
theorem reference_eq (x : S4096x1024.Idx → EReal) (w : S1024x1024.Idx → EReal) :
    truncf (F := Ideal) .bf16
      (Host.dotGeneral (φ₁ := .f32) (φ₂ := .f32) Cert.WaYRefIdeal.dot_S4096x1024_S1024x1024_S4096x1024_1_0_0_1_n_n none
        (extf .f32 x Cert.WaYRefIdeal.Facts₀.bitsLt_bf16_f32) (extf .f32 w Cert.WaYRefIdeal.Facts₀.bitsLt_bf16_f32))
      Cert.WaYRefIdeal.Facts₀.bitsLt_bf16_f32 = product x w := by
  funext i
  obtain ⟨a, b, rfl⟩ := (⟨i 0, i 1, pair_eta i⟩ : ∃ (a : Fin 4096) (b : Fin 1024), i = ix2 a b)
  unfold product
  pointwise

theorem frame_ref : @Cert.quiescent_WaYRefIdeal Cert.WaYRefIdeal.Gen.facts := fun m g _ =>
  (θ_run Cert.WaYRefIdeal.defs _ _).mono (fun r h => And.intro (fun c => (h c).2) (sem_eq_zero_of_no_sems (by decide) r.2))
    (Cert.WaYRefIdeal.Value.run (F := Ideal) m g)

/-- The two programs end with the same product. -/
theorem algebraic : @Cert.algebraic_WaYIdeal_WaYRefIdeal Cert.WaYIdeal.Gen.facts Cert.WaYRefIdeal.Gen.facts := by
  intro m g m' g' _ hargs
  refine ⟨fun c => product (X m c) (W m c), ?_, ?_⟩
  · exact (θ_run defs _ _).mono (fun r h c => ⟨(h c).1.trans (arr m c), (h c).2⟩) (Cert.WaYIdeal.Value.run_blocks m g)
  · exact (θ_run Cert.WaYRefIdeal.defs _ _).mono (fun r h c => ⟨(h c).1.trans ((reference_eq _ _).trans
      (congrArg₂ product (hargs c).1 (hargs c).2)), (h c).2⟩) (Cert.WaYRefIdeal.Value.run m' g')

end Cert.Mix.WaY

namespace Cert.Mix.WbY

open Cert.WbYIdeal Cert.WbYIdeal.Gen

variable (m : (ℓ : Loc nD τ sig) → Buf (Elt Ideal) ℓ) (c : Dev nD)

/-- The two arguments. -/
def X : S4096x768.Idx → EReal := m ((c : Thread nD τ).loc main_arg0)
def W : S768x1024.Idx → EReal := m ((c : Thread nD τ).loc main_arg1)

theorem handed (t : Fin cfg0.N) : (dats m 0 c).after 2 t = k0_pay1 (F := Ideal) (iblk m c 0 t) (iblk m c 1 t) := by
  rw [after0_2]
  unfold outsAt0 out0_A_2
  rw [View.read_writes_eq_canon _ _ _ (cover0_A_2 c _ _ _ _ _ _ _ _ _ (iblk m c 0 t) (iblk m c 1 t))]
  unfold kernelRun0_A
  dsimp only
  rw [View.canon_unit_zero origin]
  simp only [View.readAt_eq_ld, (hs0_0 t).read_unread, (hs0_1 t).read_unread, View.ld_unit_zero (S := S1024x768) origin,
    View.ld_unit_zero (S := S768x1024) origin, shapeCast_self]

theorem index_at : ∀ t : Fin cfg0.N, win0_0.index t = ![t.val, 0] ∧ win0_1.index t = ![0, 0] ∧ win0_2.index t = ![t.val, 0] :=
  (by decide +kernel : ∀ t : Fin grid0.N, _)

/-- A point's block of rows. -/
def blkOf (t : Fin cfg0.N) : Fin 4 := ⟨t, t.isLt⟩

theorem emb0 (t : Fin cfg0.N) (a : Fin 1024) (k : Fin 768) :
    ((cfg0.win 0).blk t).view.emb (ix2 a k) = ix2 (place (N := 4096) rfl (blkOf t) a) k := by
  have e := (index_at t).1
  funext x; apply Fin.ext
  fin_cases x <;> (blk_simp [e]; rfl)

theorem emb1 (t : Fin cfg0.N) (k : Fin 768) (b : Fin 1024) : ((cfg0.win 1).blk t).view.emb (ix2 k b) = ix2 k b := by
  have e := (index_at t).2.1
  funext x; apply Fin.ext
  fin_cases x <;> blk_simp [e]

theorem emb2 (t : Fin cfg0.N) (a b : Fin 1024) :
    ((cfg0.win 2).blk t).view.emb (ix2 a b) = ix2 (place (N := 4096) rfl (blkOf t) a) b := by
  have e := (index_at t).2.2
  funext x; apply Fin.ext
  fin_cases x <;> (blk_simp [e]; rfl)

theorem pay_read (x0 : Vec Ideal S1024x768 .bf16) (x1 : Vec Ideal S768x1024 .bf16) (a b : Fin 1024) :
    k0_pay1 (F := Ideal) x0 x1 (ix2 a b) = ∑ k : Fin 768, (x0 (ix2 a k) * x1 (ix2 k b) : EReal) := by
  pointwise [k0_pay1]

/-- The array after the region. -/
theorem arr : (dats m 0 c).arrAt 2 cfg0.N = product (X m c) (W m c) := by
  refine (dats m 0 c).arrAt_eq_of_covers 2 _ (by decide +kernel) fun t _ y => ?_
  obtain ⟨a, b, rfl⟩ := (⟨y 0, y 1, pair_eta y⟩ : ∃ (a : Fin 1024) (b : Fin 1024), y = ix2 a b)
  rw [emb2]
  refine (congrFun (handed m c t) (ix2 a b)).trans ((pay_read _ _ a b).trans ?_)
  refine Finset.sum_congr rfl fun k _ => ?_
  show X m c (((cfg0.win 0).blk t).view.emb (ix2 a k)) * W m c (((cfg0.win 1).blk t).view.emb (ix2 k b)) = _
  rw [emb0, emb1]
  rfl

/-- The reference's term. -/
theorem reference_eq (x : S4096x768.Idx → EReal) (w : S768x1024.Idx → EReal) :
    truncf (F := Ideal) .bf16
      (Host.dotGeneral (φ₁ := .f32) (φ₂ := .f32) Cert.WbYRefIdeal.dot_S4096x768_S768x1024_S4096x1024_1_0_0_1_n_n none
        (extf .f32 x Cert.WbYRefIdeal.Facts₀.bitsLt_bf16_f32) (extf .f32 w Cert.WbYRefIdeal.Facts₀.bitsLt_bf16_f32))
      Cert.WbYRefIdeal.Facts₀.bitsLt_bf16_f32 = product x w := by
  funext i
  obtain ⟨a, b, rfl⟩ := (⟨i 0, i 1, pair_eta i⟩ : ∃ (a : Fin 4096) (b : Fin 1024), i = ix2 a b)
  unfold product
  pointwise

theorem frame_ref : @Cert.quiescent_WbYRefIdeal Cert.WbYRefIdeal.Gen.facts := fun m g _ =>
  (θ_run Cert.WbYRefIdeal.defs _ _).mono (fun r h => And.intro (fun c => (h c).2) (sem_eq_zero_of_no_sems (by decide) r.2))
    (Cert.WbYRefIdeal.Value.run (F := Ideal) m g)

/-- The two programs end with the same product. -/
theorem algebraic : @Cert.algebraic_WbYIdeal_WbYRefIdeal Cert.WbYIdeal.Gen.facts Cert.WbYRefIdeal.Gen.facts := by
  intro m g m' g' _ hargs
  refine ⟨fun c => product (X m c) (W m c), ?_, ?_⟩
  · exact (θ_run defs _ _).mono (fun r h c => ⟨(h c).1.trans (arr m c), (h c).2⟩) (Cert.WbYIdeal.Value.run_blocks m g)
  · exact (θ_run Cert.WbYRefIdeal.defs _ _).mono (fun r h c => ⟨(h c).1.trans ((reference_eq _ _).trans
      (congrArg₂ product (hargs c).1 (hargs c).2)), (h c).2⟩) (Cert.WbYRefIdeal.Value.run m' g')

end Cert.Mix.WbY

namespace Cert.Mix.WoY

open Cert.WoYIdeal Cert.WoYIdeal.Gen

variable (m : (ℓ : Loc nD τ sig) → Buf (Elt Ideal) ℓ) (c : Dev nD)

/-- The two arguments. -/
def X : S4096x1024.Idx → EReal := m ((c : Thread nD τ).loc main_arg0)
def W : S1024x1024.Idx → EReal := m ((c : Thread nD τ).loc main_arg1)

theorem handed (t : Fin cfg0.N) : (dats m 0 c).after 2 t = k0_pay1 (F := Ideal) (iblk m c 0 t) (iblk m c 1 t) := by
  rw [after0_2]
  unfold outsAt0 out0_A_2
  rw [View.read_writes_eq_canon _ _ _ (cover0_A_2 c _ _ _ _ _ _ _ _ _ (iblk m c 0 t) (iblk m c 1 t))]
  unfold kernelRun0_A
  dsimp only
  rw [View.canon_unit_zero origin]
  simp only [View.readAt_eq_ld, (hs0_0 t).read_unread, (hs0_1 t).read_unread, View.ld_unit_zero (S := S1024x1024) origin, shapeCast_self]

theorem index_at : ∀ t : Fin cfg0.N, win0_0.index t = ![t.val, 0] ∧ win0_1.index t = ![0, 0] ∧ win0_2.index t = ![t.val, 0] :=
  (by decide +kernel : ∀ t : Fin grid0.N, _)

/-- A point's block of rows. -/
def blkOf (t : Fin cfg0.N) : Fin 4 := ⟨t, t.isLt⟩

theorem emb0 (t : Fin cfg0.N) (a k : Fin 1024) :
    ((cfg0.win 0).blk t).view.emb (ix2 a k) = ix2 (place (N := 4096) rfl (blkOf t) a) k := by
  have e := (index_at t).1
  funext x; apply Fin.ext
  fin_cases x <;> (blk_simp [e]; rfl)

theorem emb1 (t : Fin cfg0.N) (k b : Fin 1024) : ((cfg0.win 1).blk t).view.emb (ix2 k b) = ix2 k b := by
  have e := (index_at t).2.1
  funext x; apply Fin.ext
  fin_cases x <;> blk_simp [e]

theorem emb2 (t : Fin cfg0.N) (a b : Fin 1024) :
    ((cfg0.win 2).blk t).view.emb (ix2 a b) = ix2 (place (N := 4096) rfl (blkOf t) a) b := by
  have e := (index_at t).2.2
  funext x; apply Fin.ext
  fin_cases x <;> (blk_simp [e]; rfl)

theorem pay_read (x0 x1 : Vec Ideal S1024x1024 .bf16) (a b : Fin 1024) :
    k0_pay1 (F := Ideal) x0 x1 (ix2 a b) = ∑ k : Fin 1024, (x0 (ix2 a k) * x1 (ix2 k b) : EReal) := by
  pointwise [k0_pay1]

/-- The array after the region. -/
theorem arr : (dats m 0 c).arrAt 2 cfg0.N = product (X m c) (W m c) := by
  refine (dats m 0 c).arrAt_eq_of_covers 2 _ (by decide +kernel) fun t _ y => ?_
  obtain ⟨a, b, rfl⟩ := (⟨y 0, y 1, pair_eta y⟩ : ∃ (a : Fin 1024) (b : Fin 1024), y = ix2 a b)
  rw [emb2]
  refine (congrFun (handed m c t) (ix2 a b)).trans ((pay_read _ _ a b).trans ?_)
  refine Finset.sum_congr rfl fun k _ => ?_
  show X m c (((cfg0.win 0).blk t).view.emb (ix2 a k)) * W m c (((cfg0.win 1).blk t).view.emb (ix2 k b)) = _
  rw [emb0, emb1]
  rfl

/-- The reference's term. -/
theorem reference_eq (x : S4096x1024.Idx → EReal) (w : S1024x1024.Idx → EReal) :
    Host.dotGeneral (F := Ideal) (φ₁ := .f32) (φ₂ := .f32) Cert.WoYRefIdeal.dot_S4096x1024_S1024x1024_S4096x1024_1_0_0_1_n_n none
      (extf .f32 x Cert.WoYRefIdeal.Facts₀.bitsLt_bf16_f32) (extf .f32 w Cert.WoYRefIdeal.Facts₀.bitsLt_bf16_f32) = product x w := by
  funext i
  obtain ⟨a, b, rfl⟩ := (⟨i 0, i 1, pair_eta i⟩ : ∃ (a : Fin 4096) (b : Fin 1024), i = ix2 a b)
  unfold product
  pointwise

theorem frame_ref : @Cert.quiescent_WoYRefIdeal Cert.WoYRefIdeal.Gen.facts := fun m g _ =>
  (θ_run Cert.WoYRefIdeal.defs _ _).mono (fun r h => And.intro (fun c => (h c).2) (sem_eq_zero_of_no_sems (by decide) r.2))
    (Cert.WoYRefIdeal.Value.run (F := Ideal) m g)

/-- The two programs end with the same product. -/
theorem algebraic : @Cert.algebraic_WoYIdeal_WoYRefIdeal Cert.WoYIdeal.Gen.facts Cert.WoYRefIdeal.Gen.facts := by
  intro m g m' g' _ hargs
  refine ⟨fun c => product (X m c) (W m c), ?_, ?_⟩
  · exact (θ_run defs _ _).mono (fun r h c => ⟨(h c).1.trans (arr m c), (h c).2⟩) (Cert.WoYIdeal.Value.run_blocks m g)
  · exact (θ_run Cert.WoYRefIdeal.defs _ _).mono (fun r h c => ⟨(h c).1.trans ((reference_eq _ _).trans
      (congrArg₂ product (hargs c).1 (hargs c).2)), (h c).2⟩) (Cert.WoYRefIdeal.Value.run m' g')

end Cert.Mix.WoY

end
-- ==== Proof.OutDx.lean ====
/- The gradients of the mixer's three output projections by their input: one product per block of the result. -/
module

public import proofs.«01_k».proof.Defs
public import proofs.«01_k».proof.Proof.Gen.WaDxIdeal.Value
public import proofs.«01_k».proof.Proof.Gen.WaDxRefIdeal.Run
public import proofs.«01_k».proof.Proof.Gen.WbDxIdeal.Value
public import proofs.«01_k».proof.Proof.Gen.WbDxRefIdeal.Run
public import proofs.«01_k».proof.Proof.Gen.WoDxIdeal.Value
public import proofs.«01_k».proof.Proof.Gen.WoDxRefIdeal.Run
public import proofs.«01_k».proof.Proof.Products
public import Idealize.ShloMosaic.Lib.Quiescent

@[expose] public section

set_option maxRecDepth 16384

noncomputable section

open Idealize.ShloMosaic Idealize.ShloMosaic.TcCoe Idealize.SL.Sem Cert.Mix

namespace Cert.Mix.WaDx

open Cert.WaDxIdeal Cert.WaDxIdeal.Gen

variable (m : (ℓ : Loc nD τ sig) → Buf (Elt Ideal) ℓ) (c : Dev nD)

/-- The two arguments. -/
def DY : S4096x1024.Idx → EReal := m ((c : Thread nD τ).loc main_arg0)
def W : S1024x1024.Idx → EReal := m ((c : Thread nD τ).loc main_arg1)

theorem handed (t : Fin cfg0.N) : (dats m 0 c).after 2 t = k0_pay1 (F := Ideal) (iblk m c 0 t) (iblk m c 1 t) := by
  rw [after0_2]
  unfold outsAt0 out0_A_2
  rw [View.read_writes_eq_canon _ _ _ (cover0_A_2 c _ _ _ _ _ _ _ _ _ (iblk m c 0 t) (iblk m c 1 t))]
  unfold kernelRun0_A
  dsimp only
  rw [View.canon_unit_zero origin]
  simp only [View.readAt_eq_ld, (hs0_0 t).read_unread, (hs0_1 t).read_unread, View.ld_unit_zero (S := S1024x1024) origin, shapeCast_self]

theorem index_at : ∀ t : Fin cfg0.N, win0_0.index t = ![t.val, 0] ∧ win0_1.index t = ![0, 0] ∧ win0_2.index t = ![t.val, 0] :=
  (by decide +kernel : ∀ t : Fin grid0.N, _)

/-- A point's block of rows. -/
def blkOf (t : Fin cfg0.N) : Fin 4 := ⟨t, t.isLt⟩

theorem emb0 (t : Fin cfg0.N) (a k : Fin 1024) :
    ((cfg0.win 0).blk t).view.emb (ix2 a k) = ix2 (place (N := 4096) rfl (blkOf t) a) k := by
  have e := (index_at t).1
  funext x; apply Fin.ext
  fin_cases x <;> (blk_simp [e]; rfl)

theorem emb1 (t : Fin cfg0.N) (b k : Fin 1024) : ((cfg0.win 1).blk t).view.emb (ix2 b k) = ix2 b k := by
  have e := (index_at t).2.1
  funext x; apply Fin.ext
  fin_cases x <;> blk_simp [e]

theorem emb2 (t : Fin cfg0.N) (a b : Fin 1024) :
    ((cfg0.win 2).blk t).view.emb (ix2 a b) = ix2 (place (N := 4096) rfl (blkOf t) a) b := by
  have e := (index_at t).2.2
  funext x; apply Fin.ext
  fin_cases x <;> (blk_simp [e]; rfl)

theorem pay_read (x0 x1 : Vec Ideal S1024x1024 .bf16) (a b : Fin 1024) :
    k0_pay1 (F := Ideal) x0 x1 (ix2 a b) = ∑ k : Fin 1024, (x0 (ix2 a k) * x1 (ix2 b k) : EReal) := by
  pointwise [k0_pay1]

/-- The array after the region. -/
theorem arr : (dats m 0 c).arrAt 2 cfg0.N = byInput (DY m c) (W m c) := by
  refine (dats m 0 c).arrAt_eq_of_covers 2 _ (by decide +kernel) fun t _ y => ?_
  obtain ⟨a, b, rfl⟩ := (⟨y 0, y 1, pair_eta y⟩ : ∃ (a : Fin 1024) (b : Fin 1024), y = ix2 a b)
  rw [emb2]
  refine (congrFun (handed m c t) (ix2 a b)).trans ((pay_read _ _ a b).trans ?_)
  refine Finset.sum_congr rfl fun k _ => ?_
  show DY m c (((cfg0.win 0).blk t).view.emb (ix2 a k)) * W m c (((cfg0.win 1).blk t).view.emb (ix2 b k)) = _
  rw [emb0, emb1]
  rfl

/-- The reference's term. -/
theorem reference_eq (d : S4096x1024.Idx → EReal) (w : S1024x1024.Idx → EReal) :
    truncf (F := Ideal) .bf16
      (Host.dotGeneral (φ₁ := .f32) (φ₂ := .f32) Cert.WaDxRefIdeal.dot_S4096x1024_S1024x1024_S4096x1024_1_1_0_0_n_n none
        (extf .f32 d Cert.WaDxRefIdeal.Facts₀.bitsLt_bf16_f32) (extf .f32 w Cert.WaDxRefIdeal.Facts₀.bitsLt_bf16_f32))
      Cert.WaDxRefIdeal.Facts₀.bitsLt_bf16_f32 = byInput d w := by
  funext i
  obtain ⟨a, b, rfl⟩ := (⟨i 0, i 1, pair_eta i⟩ : ∃ (a : Fin 4096) (b : Fin 1024), i = ix2 a b)
  unfold byInput
  pointwise

theorem frame_ref : @Cert.quiescent_WaDxRefIdeal Cert.WaDxRefIdeal.Gen.facts := fun m g _ =>
  (θ_run Cert.WaDxRefIdeal.defs _ _).mono (fun r h => And.intro (fun c => (h c).2) (sem_eq_zero_of_no_sems (by decide) r.2))
    (Cert.WaDxRefIdeal.Value.run (F := Ideal) m g)

/-- The two programs end with the same gradient. -/
theorem algebraic : @Cert.algebraic_WaDxIdeal_WaDxRefIdeal Cert.WaDxIdeal.Gen.facts Cert.WaDxRefIdeal.Gen.facts := by
  intro m g m' g' _ hargs
  refine ⟨fun c => byInput (DY m c) (W m c), ?_, ?_⟩
  · exact (θ_run defs _ _).mono (fun r h c => ⟨(h c).1.trans (arr m c), (h c).2⟩) (Cert.WaDxIdeal.Value.run_blocks m g)
  · exact (θ_run Cert.WaDxRefIdeal.defs _ _).mono (fun r h c => ⟨(h c).1.trans ((reference_eq _ _).trans
      (congrArg₂ byInput (hargs c).1 (hargs c).2)), (h c).2⟩) (Cert.WaDxRefIdeal.Value.run m' g')

end Cert.Mix.WaDx

namespace Cert.Mix.WbDx

open Cert.WbDxIdeal Cert.WbDxIdeal.Gen

variable (m : (ℓ : Loc nD τ sig) → Buf (Elt Ideal) ℓ) (c : Dev nD)

/-- The two arguments. -/
def DY : S4096x1024.Idx → EReal := m ((c : Thread nD τ).loc main_arg0)
def W : S768x1024.Idx → EReal := m ((c : Thread nD τ).loc main_arg1)

theorem handed (t : Fin cfg0.N) : (dats m 0 c).after 2 t = k0_pay1 (F := Ideal) (iblk m c 0 t) (iblk m c 1 t) := by
  rw [after0_2]
  unfold outsAt0 out0_A_2
  rw [View.read_writes_eq_canon _ _ _ (cover0_A_2 c _ _ _ _ _ _ _ _ _ (iblk m c 0 t) (iblk m c 1 t))]
  unfold kernelRun0_A
  dsimp only
  rw [View.canon_unit_zero origin]
  simp only [View.readAt_eq_ld, (hs0_0 t).read_unread, (hs0_1 t).read_unread, View.ld_unit_zero (S := S1024x1024) origin,
    View.ld_unit_zero (S := S384x1024) origin, shapeCast_self]

theorem index_at : ∀ t : Fin cfg0.N,
    win0_0.index t = ![t.val / 2, 0] ∧ win0_1.index t = ![t.val % 2, 0] ∧ win0_2.index t = ![t.val / 2, t.val % 2] :=
  (by decide +kernel : ∀ t : Fin grid0.N, _)

theorem points (t : Fin cfg0.N) : t.val < 8 := t.isLt

/-- A point's block of the result's rows and of its columns. -/
def blkOf (t : Fin cfg0.N) : Fin 4 := ⟨t / 2, by have := points t; omega⟩
def colOf (t : Fin cfg0.N) : Fin 2 := ⟨t % 2, by omega⟩

theorem emb0 (t : Fin cfg0.N) (a k : Fin 1024) :
    ((cfg0.win 0).blk t).view.emb (ix2 a k) = ix2 (place (N := 4096) rfl (blkOf t) a) k := by
  have e := (index_at t).1
  funext x; apply Fin.ext
  fin_cases x <;> (blk_simp [e]; rfl)

theorem emb1 (t : Fin cfg0.N) (b : Fin 384) (k : Fin 1024) :
    ((cfg0.win 1).blk t).view.emb (ix2 b k) = ix2 (place (N := 768) rfl (colOf t) b) k := by
  have e := (index_at t).2.1
  funext x; apply Fin.ext
  fin_cases x <;> (blk_simp [e]; rfl)

theorem emb2 (t : Fin cfg0.N) (a : Fin 1024) (b : Fin 384) :
    ((cfg0.win 2).blk t).view.emb (ix2 a b) = ix2 (place (N := 4096) rfl (blkOf t) a) (place (N := 768) rfl (colOf t) b) := by
  have e := (index_at t).2.2
  funext x; apply Fin.ext
  fin_cases x <;> (blk_simp [e]; rfl)

theorem pay_read (x0 : Vec Ideal S1024x1024 .bf16) (x1 : Vec Ideal S384x1024 .bf16) (a : Fin 1024) (b : Fin 384) :
    k0_pay1 (F := Ideal) x0 x1 (ix2 a b) = ∑ k : Fin 1024, (x0 (ix2 a k) * x1 (ix2 b k) : EReal) := by
  pointwise [k0_pay1]

/-- The array after the region. -/
theorem arr : (dats m 0 c).arrAt 2 cfg0.N = byInput (DY m c) (W m c) := by
  refine (dats m 0 c).arrAt_eq_of_covers 2 _ (by decide +kernel) fun t _ y => ?_
  obtain ⟨a, b, rfl⟩ := (⟨y 0, y 1, pair_eta y⟩ : ∃ (a : Fin 1024) (b : Fin 384), y = ix2 a b)
  rw [emb2]
  refine (congrFun (handed m c t) (ix2 a b)).trans ((pay_read _ _ a b).trans ?_)
  refine Finset.sum_congr rfl fun k _ => ?_
  show DY m c (((cfg0.win 0).blk t).view.emb (ix2 a k)) * W m c (((cfg0.win 1).blk t).view.emb (ix2 b k)) = _
  rw [emb0, emb1]
  rfl

/-- The reference's term. -/
theorem reference_eq (d : S4096x1024.Idx → EReal) (w : S768x1024.Idx → EReal) :
    truncf (F := Ideal) .bf16
      (Host.dotGeneral (φ₁ := .f32) (φ₂ := .f32) Cert.WbDxRefIdeal.dot_S4096x1024_S768x1024_S4096x768_1_1_0_0_n_n none
        (extf .f32 d Cert.WbDxRefIdeal.Facts₀.bitsLt_bf16_f32) (extf .f32 w Cert.WbDxRefIdeal.Facts₀.bitsLt_bf16_f32))
      Cert.WbDxRefIdeal.Facts₀.bitsLt_bf16_f32 = byInput d w := by
  funext i
  obtain ⟨a, b, rfl⟩ := (⟨i 0, i 1, pair_eta i⟩ : ∃ (a : Fin 4096) (b : Fin 768), i = ix2 a b)
  unfold byInput
  pointwise

theorem frame_ref : @Cert.quiescent_WbDxRefIdeal Cert.WbDxRefIdeal.Gen.facts := fun m g _ =>
  (θ_run Cert.WbDxRefIdeal.defs _ _).mono (fun r h => And.intro (fun c => (h c).2) (sem_eq_zero_of_no_sems (by decide) r.2))
    (Cert.WbDxRefIdeal.Value.run (F := Ideal) m g)

/-- The two programs end with the same gradient. -/
theorem algebraic : @Cert.algebraic_WbDxIdeal_WbDxRefIdeal Cert.WbDxIdeal.Gen.facts Cert.WbDxRefIdeal.Gen.facts := by
  intro m g m' g' _ hargs
  refine ⟨fun c => byInput (DY m c) (W m c), ?_, ?_⟩
  · exact (θ_run defs _ _).mono (fun r h c => ⟨(h c).1.trans (arr m c), (h c).2⟩) (Cert.WbDxIdeal.Value.run_blocks m g)
  · exact (θ_run Cert.WbDxRefIdeal.defs _ _).mono (fun r h c => ⟨(h c).1.trans ((reference_eq _ _).trans
      (congrArg₂ byInput (hargs c).1 (hargs c).2)), (h c).2⟩) (Cert.WbDxRefIdeal.Value.run m' g')

end Cert.Mix.WbDx

namespace Cert.Mix.WoDx

open Cert.WoDxIdeal Cert.WoDxIdeal.Gen

variable (m : (ℓ : Loc nD τ sig) → Buf (Elt Ideal) ℓ) (c : Dev nD)

/-- The two arguments. -/
def DY : S4096x1024.Idx → EReal := m ((c : Thread nD τ).loc main_arg0)
def W : S1024x1024.Idx → EReal := m ((c : Thread nD τ).loc main_arg1)

theorem handed (t : Fin cfg0.N) : (dats m 0 c).after 2 t = k0_pay1 (F := Ideal) (iblk m c 0 t) (iblk m c 1 t) := by
  rw [after0_2]
  unfold outsAt0 out0_A_2
  rw [View.read_writes_eq_canon _ _ _ (cover0_A_2 c _ _ _ _ _ _ _ _ _ (iblk m c 0 t) (iblk m c 1 t))]
  unfold kernelRun0_A
  dsimp only
  rw [View.canon_unit_zero origin]
  simp only [View.readAt_eq_ld, (hs0_0 t).read_unread, (hs0_1 t).read_unread, View.ld_unit_zero (S := S1024x1024) origin, shapeCast_self]

theorem index_at : ∀ t : Fin cfg0.N, win0_0.index t = ![t.val, 0] ∧ win0_1.index t = ![0, 0] ∧ win0_2.index t = ![t.val, 0] :=
  (by decide +kernel : ∀ t : Fin grid0.N, _)

/-- A point's block of rows. -/
def blkOf (t : Fin cfg0.N) : Fin 4 := ⟨t, t.isLt⟩

theorem emb0 (t : Fin cfg0.N) (a k : Fin 1024) :
    ((cfg0.win 0).blk t).view.emb (ix2 a k) = ix2 (place (N := 4096) rfl (blkOf t) a) k := by
  have e := (index_at t).1
  funext x; apply Fin.ext
  fin_cases x <;> (blk_simp [e]; rfl)

theorem emb1 (t : Fin cfg0.N) (b k : Fin 1024) : ((cfg0.win 1).blk t).view.emb (ix2 b k) = ix2 b k := by
  have e := (index_at t).2.1
  funext x; apply Fin.ext
  fin_cases x <;> blk_simp [e]

theorem emb2 (t : Fin cfg0.N) (a b : Fin 1024) :
    ((cfg0.win 2).blk t).view.emb (ix2 a b) = ix2 (place (N := 4096) rfl (blkOf t) a) b := by
  have e := (index_at t).2.2
  funext x; apply Fin.ext
  fin_cases x <;> (blk_simp [e]; rfl)

theorem pay_read (x0 : Vec Ideal S1024x1024 .f32) (x1 : Vec Ideal S1024x1024 .bf16) (a b : Fin 1024) :
    k0_pay1 (F := Ideal) x0 x1 (ix2 a b) = ∑ k : Fin 1024, (x0 (ix2 a k) * x1 (ix2 b k) : EReal) := by
  pointwise [k0_pay1]

/-- The array after the region. -/
theorem arr : (dats m 0 c).arrAt 2 cfg0.N = byInput (DY m c) (W m c) := by
  refine (dats m 0 c).arrAt_eq_of_covers 2 _ (by decide +kernel) fun t _ y => ?_
  obtain ⟨a, b, rfl⟩ := (⟨y 0, y 1, pair_eta y⟩ : ∃ (a : Fin 1024) (b : Fin 1024), y = ix2 a b)
  rw [emb2]
  refine (congrFun (handed m c t) (ix2 a b)).trans ((pay_read _ _ a b).trans ?_)
  refine Finset.sum_congr rfl fun k _ => ?_
  show DY m c (((cfg0.win 0).blk t).view.emb (ix2 a k)) * W m c (((cfg0.win 1).blk t).view.emb (ix2 b k)) = _
  rw [emb0, emb1]
  rfl

/-- The reference's term. -/
theorem reference_eq (d : S4096x1024.Idx → EReal) (w : S1024x1024.Idx → EReal) :
    truncf (F := Ideal) .bf16
      (Host.dotGeneral (φ₁ := .f32) (φ₂ := .f32) Cert.WoDxRefIdeal.dot_S4096x1024_S1024x1024_S4096x1024_1_1_0_0_n_n none
        d (extf .f32 w Cert.WoDxRefIdeal.Facts₀.bitsLt_bf16_f32))
      Cert.WoDxRefIdeal.Facts₀.bitsLt_bf16_f32 = byInput d w := by
  funext i
  obtain ⟨a, b, rfl⟩ := (⟨i 0, i 1, pair_eta i⟩ : ∃ (a : Fin 4096) (b : Fin 1024), i = ix2 a b)
  unfold byInput
  pointwise

theorem frame_ref : @Cert.quiescent_WoDxRefIdeal Cert.WoDxRefIdeal.Gen.facts := fun m g _ =>
  (θ_run Cert.WoDxRefIdeal.defs _ _).mono (fun r h => And.intro (fun c => (h c).2) (sem_eq_zero_of_no_sems (by decide) r.2))
    (Cert.WoDxRefIdeal.Value.run (F := Ideal) m g)

/-- The two programs end with the same gradient. -/
theorem algebraic : @Cert.algebraic_WoDxIdeal_WoDxRefIdeal Cert.WoDxIdeal.Gen.facts Cert.WoDxRefIdeal.Gen.facts := by
  intro m g m' g' _ hargs
  refine ⟨fun c => byInput (DY m c) (W m c), ?_, ?_⟩
  · exact (θ_run defs _ _).mono (fun r h c => ⟨(h c).1.trans (arr m c), (h c).2⟩) (Cert.WoDxIdeal.Value.run_blocks m g)
  · exact (θ_run Cert.WoDxRefIdeal.defs _ _).mono (fun r h c => ⟨(h c).1.trans ((reference_eq _ _).trans
      (congrArg₂ byInput (hargs c).1 (hargs c).2)), (h c).2⟩) (Cert.WoDxRefIdeal.Value.run m' g')

end Cert.Mix.WoDx

end
-- ==== Proof.OutDw.lean ====
/- The gradients of the mixer's three output projections by their weights: four blocks of the rows, added up in a scratch
   array. -/
module

public import proofs.«01_k».proof.Defs
public import proofs.«01_k».proof.Proof.Gen.WaDwIdeal.Value
public import proofs.«01_k».proof.Proof.Gen.WaDwRefIdeal.Run
public import proofs.«01_k».proof.Proof.Gen.WbDwIdeal.Value
public import proofs.«01_k».proof.Proof.Gen.WbDwRefIdeal.Run
public import proofs.«01_k».proof.Proof.Gen.WoDwIdeal.Value
public import proofs.«01_k».proof.Proof.Gen.WoDwRefIdeal.Run
public import proofs.«01_k».proof.Proof.Products
public import Idealize.ShloMosaic.Lib.Quiescent

@[expose] public section

set_option maxRecDepth 16384

noncomputable section

open Idealize.ShloMosaic Idealize.ShloMosaic.TcCoe Idealize.SL.Sem Cert.Mix

namespace Cert.Mix.WaDw

open Cert.WaDwIdeal Cert.WaDwIdeal.Gen

variable (m : (ℓ : Loc nD τ sig) → Buf (Elt Ideal) ℓ) (c : Dev nD)

/-- The two arguments. -/
def X : S4096x1024.Idx → EReal := m ((c : Thread nD τ).loc main_arg0)
def DY : S4096x1024.Idx → EReal := m ((c : Thread nD τ).loc main_arg1)

theorem points (t : Fin cfg0.N) : t.val < 4 := t.isLt

/-- One block's product. -/
def part (t : Fin cfg0.N) : S1024x1024.Idx → EReal := k0_pay1 (F := Ideal) (iblk m c 0 t) (iblk m c 1 t)

/-- What a point leaves in the scratch array. -/
def scratch (t : Fin cfg0.N) : S1024x1024.Idx → EReal := (outsAt0 m c t.val t.isLt).2

theorem scratch_first (t : Fin cfg0.N) (e : t.val % 4 = 0) : scratch m c t = part m c t := by
  have ht := points t
  unfold scratch
  rw [outsAt0_A m c t (by omega) (by omega) (by omega)]
  dsimp only
  unfold sout0_A_0
  rw [View.read_writes_eq_canon]
  on_goal 2 => exact fun y => scover0_A_0 ..
  unfold kernelRun0_A
  dsimp only
  rw [View.canon_unit_zero origin]
  unfold k0_pay2 part
  simp only [View.readAt_eq_ld, (hs0_0 t).read_unread, (hs0_1 t).read_unread, View.ld_unit_zero (S := S1024x1024) origin, shapeCast_self]

theorem scratch_later (t s : Fin cfg0.N) (hs : t.val = s.val + 1) (e : 1 ≤ t.val % 4) (e' : ¬t.val % 4 = 3) :
    scratch m c t = fun y => scratch m c s y + part m c t y := by
  obtain ⟨t, ht⟩ := t
  obtain rfl : t = s.val + 1 := hs
  have hp := points ⟨s.val + 1, ht⟩
  dsimp only at e hp
  have hw : scM0_0.IsWhole := Memref.isWhole_whole _
  show (outsAt0 m c (⟨s.val + 1, ht⟩ : Fin cfg0.N).val ht).2 = _
  rw [outsAt0_B m c ⟨s.val + 1, ht⟩ (by dsimp only; omega) (by dsimp only; omega) (by dsimp only; omega)]
  dsimp only
  unfold sout0_B_0
  rw [View.read_writes_eq_canon]
  on_goal 2 => exact fun y => scover0_B_0 ..
  unfold kernelRun0_B
  dsimp only
  rw [View.canon_unit_zero origin]
  unfold k0_pay3
  simp only [View.readAt_eq_ld, (hs0_0 _).read_unread, (hs0_1 _).read_unread, hw.read_unread, View.ld_unit_zero (S := S1024x1024) origin, shapeCast_self]
  rfl

theorem handed_last (t s : Fin cfg0.N) (hs : t.val = s.val + 1) (e : t.val % 4 = 3) :
    (dats m 0 c).after 2 t = fun y => scratch m c s y + part m c t y := by
  obtain ⟨t, ht⟩ := t
  obtain rfl : t = s.val + 1 := hs
  have hp := points ⟨s.val + 1, ht⟩
  dsimp only at e hp
  have hw : scM0_0.IsWhole := Memref.isWhole_whole _
  rw [after0_2, outsAt0_C m c ⟨s.val + 1, ht⟩ (by dsimp only; omega) (by dsimp only; omega) (by dsimp only; omega)]
  dsimp only
  unfold out0_C_2
  rw [View.read_writes_eq_canon]
  on_goal 2 => exact fun y => cover0_C_2 ..
  unfold kernelRun0_C
  dsimp only
  sl_unfold_words
  rw [View.canon_unit_zero origin, View.readCov_unit_zero (S := S1024x1024) _ origin]
  unfold k0_pay4 k0_pay3
  simp only [View.readAt_eq_ld, (hs0_0 _).read_unread, (hs0_1 _).read_unread, hw.read_unread, View.ld_unit_zero (S := S1024x1024) origin, shapeCast_self]
  rfl

theorem index_at : ∀ t : Fin cfg0.N,
    win0_0.index t = ![t.val % 4, t.val / 4] ∧ win0_1.index t = ![t.val % 4, 0] ∧ win0_2.index t = ![t.val / 4, 0] :=
  (by decide +kernel : ∀ t : Fin grid0.N, _)

theorem flush_at : ∀ t : Fin cfg0.N, (cfg0.win 2).flush t = true → t.val % 4 = 3 :=
  (by decide +kernel : ∀ t : Fin grid0.N, _)

/-- A point's block of the rows that are summed over, and of the result's rows. -/
def sumBlk (t : Fin cfg0.N) : Fin 4 := ⟨t % 4, by omega⟩
def rowBlk (t : Fin cfg0.N) : Fin 1 := ⟨t / 4, by have := points t; omega⟩

theorem emb0 (t : Fin cfg0.N) (k : Fin 1024) (a : Fin 1024) :
    ((cfg0.win 0).blk t).view.emb (ix2 k a) = ix2 (place (N := 4096) rfl (sumBlk t) k) (place (N := 1024) rfl (rowBlk t) a) := by
  have e := (index_at t).1
  funext x; apply Fin.ext
  fin_cases x <;> (blk_simp [e]; rfl)

theorem emb1 (t : Fin cfg0.N) (k b : Fin 1024) :
    ((cfg0.win 1).blk t).view.emb (ix2 k b) = ix2 (place (N := 4096) rfl (sumBlk t) k) b := by
  have e := (index_at t).2.1
  funext x; apply Fin.ext
  fin_cases x <;> (blk_simp [e]; rfl)

theorem emb2 (t : Fin cfg0.N) (a : Fin 1024) (b : Fin 1024) :
    ((cfg0.win 2).blk t).view.emb (ix2 a b) = ix2 (place (N := 1024) rfl (rowBlk t) a) b := by
  have e := (index_at t).2.2
  funext x; apply Fin.ext
  fin_cases x <;> (blk_simp [e]; rfl)

theorem pay_read (x0 : Vec Ideal S1024x1024 .bf16) (x1 : Vec Ideal S1024x1024 .bf16) (a : Fin 1024) (b : Fin 1024) :
    k0_pay1 (F := Ideal) x0 x1 (ix2 a b) = ∑ k : Fin 1024, (x0 (ix2 k a) * x1 (ix2 k b) : EReal) := by
  pointwise [k0_pay1]

theorem part_read (t : Fin cfg0.N) (a : Fin 1024) (b : Fin 1024) :
    part m c t (ix2 a b) = ∑ k : Fin 1024, DY m c (ix2 (place (N := 4096) rfl (sumBlk t) k) b)
      * X m c (ix2 (place (N := 4096) rfl (sumBlk t) k) (place (N := 1024) rfl (rowBlk t) a)) := by
  unfold part
  rw [pay_read]
  refine Finset.sum_congr rfl fun k _ => ?_
  show X m c (((cfg0.win 0).blk t).view.emb (ix2 k a)) * DY m c (((cfg0.win 1).blk t).view.emb (ix2 k b)) = _
  rw [emb0, emb1]
  exact mul_comm _ _

/-- The array after the region. -/
theorem arr : (dats m 0 c).arrAt 2 cfg0.N = byWeights (X m c) (DY m c) := by
  refine (dats m 0 c).arrAt_eq_of_covers 2 _ (by decide +kernel) fun t hf y => ?_
  obtain ⟨a, b, rfl⟩ := (⟨y 0, y 1, pair_eta y⟩ : ∃ (a : Fin 1024) (b : Fin 1024), y = ix2 a b)
  rw [emb2]
  refine sum_of_four (n := 4096) (w := 1024) rfl (scratch m c) ((dats m 0 c).after 2) (part m c) (scratch_first m c) (scratch_later m c)
    (handed_last m c) t (flush_at t hf) (ix2 a b)
    (fun k => DY m c (ix2 k b) * X m c (ix2 k (place (N := 1024) rfl (rowBlk t) a))) fun s q hq hd => ?_
  rw [part_read, show sumBlk s = q from Fin.ext hq, show rowBlk s = rowBlk t from Fin.ext hd]

/-- The reference's term. -/
theorem reference_eq (x : S4096x1024.Idx → EReal) (d : S4096x1024.Idx → EReal) :
    truncf (F := Ideal) .bf16 (transpose Cert.WaDwRefIdeal.S1024x1024 [1, 0]
      (Host.dotGeneral (φ₁ := .f32) (φ₂ := .f32) Cert.WaDwRefIdeal.dot_S4096x1024_S4096x1024_S1024x1024_0_0_1_1_n_n none
        (extf .f32 d Cert.WaDwRefIdeal.Facts₀.bitsLt_bf16_f32) (extf .f32 x Cert.WaDwRefIdeal.Facts₀.bitsLt_bf16_f32))
      Cert.WaDwRefIdeal.Facts₀.transposes_S1024x1024_S1024x1024_1_0)
      Cert.WaDwRefIdeal.Facts₀.bitsLt_bf16_f32 = byWeights x d := by
  funext i
  obtain ⟨a, b, rfl⟩ := (⟨i 0, i 1, pair_eta i⟩ : ∃ (a : Fin 1024) (b : Fin 1024), i = ix2 a b)
  unfold byWeights
  pointwise

theorem frame_ref : @Cert.quiescent_WaDwRefIdeal Cert.WaDwRefIdeal.Gen.facts := fun m g _ =>
  (θ_run Cert.WaDwRefIdeal.defs _ _).mono (fun r h => And.intro (fun c => (h c).2) (sem_eq_zero_of_no_sems (by decide) r.2))
    (Cert.WaDwRefIdeal.Value.run (F := Ideal) m g)

/-- The two programs end with the same gradient. -/
theorem algebraic : @Cert.algebraic_WaDwIdeal_WaDwRefIdeal Cert.WaDwIdeal.Gen.facts Cert.WaDwRefIdeal.Gen.facts := by
  intro m g m' g' _ hargs
  refine ⟨fun c => byWeights (X m c) (DY m c), ?_, ?_⟩
  · exact (θ_run defs _ _).mono (fun r h c => ⟨(h c).1.trans (arr m c), (h c).2⟩) (Cert.WaDwIdeal.Value.run_blocks m g)
  · exact (θ_run Cert.WaDwRefIdeal.defs _ _).mono (fun r h c => ⟨(h c).1.trans ((reference_eq _ _).trans
      (congrArg₂ byWeights (hargs c).1 (hargs c).2)), (h c).2⟩) (Cert.WaDwRefIdeal.Value.run m' g')

end Cert.Mix.WaDw

namespace Cert.Mix.WbDw

open Cert.WbDwIdeal Cert.WbDwIdeal.Gen

variable (m : (ℓ : Loc nD τ sig) → Buf (Elt Ideal) ℓ) (c : Dev nD)

/-- The two arguments. -/
def X : S4096x768.Idx → EReal := m ((c : Thread nD τ).loc main_arg0)
def DY : S4096x1024.Idx → EReal := m ((c : Thread nD τ).loc main_arg1)

/-- One block's product. -/
def part (t : Fin cfg0.N) : S256x1024.Idx → EReal := k0_pay1 (F := Ideal) (iblk m c 0 t) (iblk m c 1 t)

/-- What a point leaves in the scratch array. -/
def scratch (t : Fin cfg0.N) : S256x1024.Idx → EReal := (outsAt0 m c t.val t.isLt).2

theorem scratch_first (t : Fin cfg0.N) (e : t.val % 4 = 0) : scratch m c t = part m c t := by
  unfold scratch
  rw [outsAt0_A m c t e (by omega) (by omega)]
  dsimp only
  unfold sout0_A_0
  rw [View.read_writes_eq_canon]
  on_goal 2 => exact fun y => scover0_A_0 ..
  unfold kernelRun0_A
  dsimp only
  rw [View.canon_unit_zero origin]
  unfold k0_pay2 part
  simp only [View.readAt_eq_ld, (hs0_0 t).read_unread, (hs0_1 t).read_unread, View.ld_unit_zero (S := S1024x256) origin,
    View.ld_unit_zero (S := S1024x1024) origin, View.ld_unit_zero (S := S256x1024) origin, shapeCast_self]

theorem scratch_later (t s : Fin cfg0.N) (hs : t.val = s.val + 1) (e : 1 ≤ t.val % 4) (e' : ¬t.val % 4 = 3) :
    scratch m c t = fun y => scratch m c s y + part m c t y := by
  obtain ⟨t, ht⟩ := t
  obtain rfl : t = s.val + 1 := hs
  have hw : scM0_0.IsWhole := Memref.isWhole_whole _
  show (outsAt0 m c (⟨s.val + 1, ht⟩ : Fin cfg0.N).val ht).2 = _
  rw [outsAt0_B m c ⟨s.val + 1, ht⟩ (by omega) e e']
  dsimp only
  unfold sout0_B_0
  rw [View.read_writes_eq_canon]
  on_goal 2 => exact fun y => scover0_B_0 ..
  unfold kernelRun0_B
  dsimp only
  rw [View.canon_unit_zero origin]
  unfold k0_pay3
  simp only [View.readAt_eq_ld, (hs0_0 _).read_unread, (hs0_1 _).read_unread, hw.read_unread, View.ld_unit_zero (S := S1024x256) origin,
    View.ld_unit_zero (S := S1024x1024) origin, View.ld_unit_zero (S := S256x1024) origin, shapeCast_self]
  rfl

theorem handed_last (t s : Fin cfg0.N) (hs : t.val = s.val + 1) (e : t.val % 4 = 3) :
    (dats m 0 c).after 2 t = fun y => scratch m c s y + part m c t y := by
  obtain ⟨t, ht⟩ := t
  obtain rfl : t = s.val + 1 := hs
  have hw : scM0_0.IsWhole := Memref.isWhole_whole _
  rw [after0_2, outsAt0_C m c ⟨s.val + 1, ht⟩ (by omega) (by omega) e]
  dsimp only
  unfold out0_C_2
  rw [View.read_writes_eq_canon]
  on_goal 2 => exact fun y => cover0_C_2 ..
  unfold kernelRun0_C
  dsimp only
  sl_unfold_words
  rw [View.canon_unit_zero origin, View.readCov_unit_zero (S := S256x1024) _ origin]
  unfold k0_pay4 k0_pay3
  simp only [View.readAt_eq_ld, (hs0_0 _).read_unread, (hs0_1 _).read_unread, hw.read_unread, View.ld_unit_zero (S := S1024x256) origin,
    View.ld_unit_zero (S := S1024x1024) origin, View.ld_unit_zero (S := S256x1024) origin, shapeCast_self]
  rfl

theorem index_at : ∀ t : Fin cfg0.N,
    win0_0.index t = ![t.val % 4, t.val / 4] ∧ win0_1.index t = ![t.val % 4, 0] ∧ win0_2.index t = ![t.val / 4, 0] :=
  (by decide +kernel : ∀ t : Fin grid0.N, _)

theorem flush_at : ∀ t : Fin cfg0.N, (cfg0.win 2).flush t = true → t.val % 4 = 3 :=
  (by decide +kernel : ∀ t : Fin grid0.N, _)

theorem points (t : Fin cfg0.N) : t.val < 12 := t.isLt

/-- A point's block of the rows that are summed over, and of the result's rows. -/
def sumBlk (t : Fin cfg0.N) : Fin 4 := ⟨t % 4, by omega⟩
def rowBlk (t : Fin cfg0.N) : Fin 3 := ⟨t / 4, by have := points t; omega⟩

theorem emb0 (t : Fin cfg0.N) (k : Fin 1024) (a : Fin 256) :
    ((cfg0.win 0).blk t).view.emb (ix2 k a) = ix2 (place (N := 4096) rfl (sumBlk t) k) (place (N := 768) rfl (rowBlk t) a) := by
  have e := (index_at t).1
  funext x; apply Fin.ext
  fin_cases x <;> (blk_simp [e]; rfl)

theorem emb1 (t : Fin cfg0.N) (k b : Fin 1024) :
    ((cfg0.win 1).blk t).view.emb (ix2 k b) = ix2 (place (N := 4096) rfl (sumBlk t) k) b := by
  have e := (index_at t).2.1
  funext x; apply Fin.ext
  fin_cases x <;> (blk_simp [e]; rfl)

theorem emb2 (t : Fin cfg0.N) (a : Fin 256) (b : Fin 1024) :
    ((cfg0.win 2).blk t).view.emb (ix2 a b) = ix2 (place (N := 768) rfl (rowBlk t) a) b := by
  have e := (index_at t).2.2
  funext x; apply Fin.ext
  fin_cases x <;> (blk_simp [e]; rfl)

theorem pay_read (x0 : Vec Ideal S1024x256 .bf16) (x1 : Vec Ideal S1024x1024 .bf16) (a : Fin 256) (b : Fin 1024) :
    k0_pay1 (F := Ideal) x0 x1 (ix2 a b) = ∑ k : Fin 1024, (x0 (ix2 k a) * x1 (ix2 k b) : EReal) := by
  pointwise [k0_pay1]

theorem part_read (t : Fin cfg0.N) (a : Fin 256) (b : Fin 1024) :
    part m c t (ix2 a b) = ∑ k : Fin 1024, DY m c (ix2 (place (N := 4096) rfl (sumBlk t) k) b)
      * X m c (ix2 (place (N := 4096) rfl (sumBlk t) k) (place (N := 768) rfl (rowBlk t) a)) := by
  unfold part
  rw [pay_read]
  refine Finset.sum_congr rfl fun k _ => ?_
  show X m c (((cfg0.win 0).blk t).view.emb (ix2 k a)) * DY m c (((cfg0.win 1).blk t).view.emb (ix2 k b)) = _
  rw [emb0, emb1]
  exact mul_comm _ _

/-- The array after the region. -/
theorem arr : (dats m 0 c).arrAt 2 cfg0.N = byWeights (X m c) (DY m c) := by
  refine (dats m 0 c).arrAt_eq_of_covers 2 _ (by decide +kernel) fun t hf y => ?_
  obtain ⟨a, b, rfl⟩ := (⟨y 0, y 1, pair_eta y⟩ : ∃ (a : Fin 256) (b : Fin 1024), y = ix2 a b)
  rw [emb2]
  refine sum_of_four (n := 4096) (w := 1024) rfl (scratch m c) ((dats m 0 c).after 2) (part m c) (scratch_first m c) (scratch_later m c)
    (handed_last m c) t (flush_at t hf) (ix2 a b)
    (fun k => DY m c (ix2 k b) * X m c (ix2 k (place (N := 768) rfl (rowBlk t) a))) fun s q hq hd => ?_
  rw [part_read, show sumBlk s = q from Fin.ext hq, show rowBlk s = rowBlk t from Fin.ext hd]

/-- The reference's term. -/
theorem reference_eq (x : S4096x768.Idx → EReal) (d : S4096x1024.Idx → EReal) :
    truncf (F := Ideal) .bf16 (transpose Cert.WbDwRefIdeal.S768x1024 [1, 0]
      (Host.dotGeneral (φ₁ := .f32) (φ₂ := .f32) Cert.WbDwRefIdeal.dot_S4096x1024_S4096x768_S1024x768_0_0_1_1_n_n none
        (extf .f32 d Cert.WbDwRefIdeal.Facts₀.bitsLt_bf16_f32) (extf .f32 x Cert.WbDwRefIdeal.Facts₀.bitsLt_bf16_f32))
      Cert.WbDwRefIdeal.Facts₀.transposes_S1024x768_S768x1024_1_0)
      Cert.WbDwRefIdeal.Facts₀.bitsLt_bf16_f32 = byWeights x d := by
  funext i
  obtain ⟨a, b, rfl⟩ := (⟨i 0, i 1, pair_eta i⟩ : ∃ (a : Fin 768) (b : Fin 1024), i = ix2 a b)
  unfold byWeights
  pointwise

theorem frame_ref : @Cert.quiescent_WbDwRefIdeal Cert.WbDwRefIdeal.Gen.facts := fun m g _ =>
  (θ_run Cert.WbDwRefIdeal.defs _ _).mono (fun r h => And.intro (fun c => (h c).2) (sem_eq_zero_of_no_sems (by decide) r.2))
    (Cert.WbDwRefIdeal.Value.run (F := Ideal) m g)

/-- The two programs end with the same gradient. -/
theorem algebraic : @Cert.algebraic_WbDwIdeal_WbDwRefIdeal Cert.WbDwIdeal.Gen.facts Cert.WbDwRefIdeal.Gen.facts := by
  intro m g m' g' _ hargs
  refine ⟨fun c => byWeights (X m c) (DY m c), ?_, ?_⟩
  · exact (θ_run defs _ _).mono (fun r h c => ⟨(h c).1.trans (arr m c), (h c).2⟩) (Cert.WbDwIdeal.Value.run_blocks m g)
  · exact (θ_run Cert.WbDwRefIdeal.defs _ _).mono (fun r h c => ⟨(h c).1.trans ((reference_eq _ _).trans
      (congrArg₂ byWeights (hargs c).1 (hargs c).2)), (h c).2⟩) (Cert.WbDwRefIdeal.Value.run m' g')

end Cert.Mix.WbDw

namespace Cert.Mix.WoDw

open Cert.WoDwIdeal Cert.WoDwIdeal.Gen

variable (m : (ℓ : Loc nD τ sig) → Buf (Elt Ideal) ℓ) (c : Dev nD)

/-- The two arguments. -/
def X : S4096x1024.Idx → EReal := m ((c : Thread nD τ).loc main_arg0)
def DY : S4096x1024.Idx → EReal := m ((c : Thread nD τ).loc main_arg1)

theorem points (t : Fin cfg0.N) : t.val < 4 := t.isLt

/-- One block's product. -/
def part (t : Fin cfg0.N) : S1024x1024.Idx → EReal := k0_pay1 (F := Ideal) (iblk m c 0 t) (iblk m c 1 t)

/-- What a point leaves in the scratch array. -/
def scratch (t : Fin cfg0.N) : S1024x1024.Idx → EReal := (outsAt0 m c t.val t.isLt).2

theorem scratch_first (t : Fin cfg0.N) (e : t.val % 4 = 0) : scratch m c t = part m c t := by
  have ht := points t
  unfold scratch
  rw [outsAt0_A m c t (by omega) (by omega) (by omega)]
  dsimp only
  unfold sout0_A_0
  rw [View.read_writes_eq_canon]
  on_goal 2 => exact fun y => scover0_A_0 ..
  unfold kernelRun0_A
  dsimp only
  rw [View.canon_unit_zero origin]
  unfold k0_pay2 part
  simp only [View.readAt_eq_ld, (hs0_0 t).read_unread, (hs0_1 t).read_unread, View.ld_unit_zero (S := S1024x1024) origin, shapeCast_self]

theorem scratch_later (t s : Fin cfg0.N) (hs : t.val = s.val + 1) (e : 1 ≤ t.val % 4) (e' : ¬t.val % 4 = 3) :
    scratch m c t = fun y => scratch m c s y + part m c t y := by
  obtain ⟨t, ht⟩ := t
  obtain rfl : t = s.val + 1 := hs
  have hp := points ⟨s.val + 1, ht⟩
  dsimp only at e hp
  have hw : scM0_0.IsWhole := Memref.isWhole_whole _
  show (outsAt0 m c (⟨s.val + 1, ht⟩ : Fin cfg0.N).val ht).2 = _
  rw [outsAt0_B m c ⟨s.val + 1, ht⟩ (by dsimp only; omega) (by dsimp only; omega) (by dsimp only; omega)]
  dsimp only
  unfold sout0_B_0
  rw [View.read_writes_eq_canon]
  on_goal 2 => exact fun y => scover0_B_0 ..
  unfold kernelRun0_B
  dsimp only
  rw [View.canon_unit_zero origin]
  unfold k0_pay3
  simp only [View.readAt_eq_ld, (hs0_0 _).read_unread, (hs0_1 _).read_unread, hw.read_unread, View.ld_unit_zero (S := S1024x1024) origin, shapeCast_self]
  rfl

theorem handed_last (t s : Fin cfg0.N) (hs : t.val = s.val + 1) (e : t.val % 4 = 3) :
    (dats m 0 c).after 2 t = fun y => scratch m c s y + part m c t y := by
  obtain ⟨t, ht⟩ := t
  obtain rfl : t = s.val + 1 := hs
  have hp := points ⟨s.val + 1, ht⟩
  dsimp only at e hp
  have hw : scM0_0.IsWhole := Memref.isWhole_whole _
  rw [after0_2, outsAt0_C m c ⟨s.val + 1, ht⟩ (by dsimp only; omega) (by dsimp only; omega) (by dsimp only; omega)]
  dsimp only
  unfold out0_C_2
  rw [View.read_writes_eq_canon]
  on_goal 2 => exact fun y => cover0_C_2 ..
  unfold kernelRun0_C
  dsimp only
  sl_unfold_words
  rw [View.canon_unit_zero origin, View.readCov_unit_zero (S := S1024x1024) _ origin]
  unfold k0_pay4 k0_pay3
  simp only [View.readAt_eq_ld, (hs0_0 _).read_unread, (hs0_1 _).read_unread, hw.read_unread, View.ld_unit_zero (S := S1024x1024) origin, shapeCast_self]
  rfl

theorem index_at : ∀ t : Fin cfg0.N,
    win0_0.index t = ![t.val % 4, t.val / 4] ∧ win0_1.index t = ![t.val % 4, 0] ∧ win0_2.index t = ![t.val / 4, 0] :=
  (by decide +kernel : ∀ t : Fin grid0.N, _)

theorem flush_at : ∀ t : Fin cfg0.N, (cfg0.win 2).flush t = true → t.val % 4 = 3 :=
  (by decide +kernel : ∀ t : Fin grid0.N, _)

/-- A point's block of the rows that are summed over, and of the result's rows. -/
def sumBlk (t : Fin cfg0.N) : Fin 4 := ⟨t % 4, by omega⟩
def rowBlk (t : Fin cfg0.N) : Fin 1 := ⟨t / 4, by have := points t; omega⟩

theorem emb0 (t : Fin cfg0.N) (k : Fin 1024) (a : Fin 1024) :
    ((cfg0.win 0).blk t).view.emb (ix2 k a) = ix2 (place (N := 4096) rfl (sumBlk t) k) (place (N := 1024) rfl (rowBlk t) a) := by
  have e := (index_at t).1
  funext x; apply Fin.ext
  fin_cases x <;> (blk_simp [e]; rfl)

theorem emb1 (t : Fin cfg0.N) (k b : Fin 1024) :
    ((cfg0.win 1).blk t).view.emb (ix2 k b) = ix2 (place (N := 4096) rfl (sumBlk t) k) b := by
  have e := (index_at t).2.1
  funext x; apply Fin.ext
  fin_cases x <;> (blk_simp [e]; rfl)

theorem emb2 (t : Fin cfg0.N) (a : Fin 1024) (b : Fin 1024) :
    ((cfg0.win 2).blk t).view.emb (ix2 a b) = ix2 (place (N := 1024) rfl (rowBlk t) a) b := by
  have e := (index_at t).2.2
  funext x; apply Fin.ext
  fin_cases x <;> (blk_simp [e]; rfl)

theorem pay_read (x0 : Vec Ideal S1024x1024 .bf16) (x1 : Vec Ideal S1024x1024 .f32) (a : Fin 1024) (b : Fin 1024) :
    k0_pay1 (F := Ideal) x0 x1 (ix2 a b) = ∑ k : Fin 1024, (x0 (ix2 k a) * x1 (ix2 k b) : EReal) := by
  pointwise [k0_pay1]

theorem part_read (t : Fin cfg0.N) (a : Fin 1024) (b : Fin 1024) :
    part m c t (ix2 a b) = ∑ k : Fin 1024, DY m c (ix2 (place (N := 4096) rfl (sumBlk t) k) b)
      * X m c (ix2 (place (N := 4096) rfl (sumBlk t) k) (place (N := 1024) rfl (rowBlk t) a)) := by
  unfold part
  rw [pay_read]
  refine Finset.sum_congr rfl fun k _ => ?_
  show X m c (((cfg0.win 0).blk t).view.emb (ix2 k a)) * DY m c (((cfg0.win 1).blk t).view.emb (ix2 k b)) = _
  rw [emb0, emb1]
  exact mul_comm _ _

/-- The array after the region. -/
theorem arr : (dats m 0 c).arrAt 2 cfg0.N = byWeights (X m c) (DY m c) := by
  refine (dats m 0 c).arrAt_eq_of_covers 2 _ (by decide +kernel) fun t hf y => ?_
  obtain ⟨a, b, rfl⟩ := (⟨y 0, y 1, pair_eta y⟩ : ∃ (a : Fin 1024) (b : Fin 1024), y = ix2 a b)
  rw [emb2]
  refine sum_of_four (n := 4096) (w := 1024) rfl (scratch m c) ((dats m 0 c).after 2) (part m c) (scratch_first m c) (scratch_later m c)
    (handed_last m c) t (flush_at t hf) (ix2 a b)
    (fun k => DY m c (ix2 k b) * X m c (ix2 k (place (N := 1024) rfl (rowBlk t) a))) fun s q hq hd => ?_
  rw [part_read, show sumBlk s = q from Fin.ext hq, show rowBlk s = rowBlk t from Fin.ext hd]

/-- The reference's term. -/
theorem reference_eq (x : S4096x1024.Idx → EReal) (d : S4096x1024.Idx → EReal) :
    truncf (F := Ideal) .bf16 (transpose Cert.WoDwRefIdeal.S1024x1024 [1, 0]
      (Host.dotGeneral (φ₁ := .f32) (φ₂ := .f32) Cert.WoDwRefIdeal.dot_S4096x1024_S4096x1024_S1024x1024_0_0_1_1_n_n none
        d (extf .f32 x Cert.WoDwRefIdeal.Facts₀.bitsLt_bf16_f32))
      Cert.WoDwRefIdeal.Facts₀.transposes_S1024x1024_S1024x1024_1_0)
      Cert.WoDwRefIdeal.Facts₀.bitsLt_bf16_f32 = byWeights x d := by
  funext i
  obtain ⟨a, b, rfl⟩ := (⟨i 0, i 1, pair_eta i⟩ : ∃ (a : Fin 1024) (b : Fin 1024), i = ix2 a b)
  unfold byWeights
  pointwise

theorem frame_ref : @Cert.quiescent_WoDwRefIdeal Cert.WoDwRefIdeal.Gen.facts := fun m g _ =>
  (θ_run Cert.WoDwRefIdeal.defs _ _).mono (fun r h => And.intro (fun c => (h c).2) (sem_eq_zero_of_no_sems (by decide) r.2))
    (Cert.WoDwRefIdeal.Value.run (F := Ideal) m g)

/-- The two programs end with the same gradient. -/
theorem algebraic : @Cert.algebraic_WoDwIdeal_WoDwRefIdeal Cert.WoDwIdeal.Gen.facts Cert.WoDwRefIdeal.Gen.facts := by
  intro m g m' g' _ hargs
  refine ⟨fun c => byWeights (X m c) (DY m c), ?_, ?_⟩
  · exact (θ_run defs _ _).mono (fun r h c => ⟨(h c).1.trans (arr m c), (h c).2⟩) (Cert.WoDwIdeal.Value.run_blocks m g)
  · exact (θ_run Cert.WoDwRefIdeal.defs _ _).mono (fun r h c => ⟨(h c).1.trans ((reference_eq _ _).trans
      (congrArg₂ byWeights (hargs c).1 (hargs c).2)), (h c).2⟩) (Cert.WoDwRefIdeal.Value.run m' g')

end Cert.Mix.WoDw

end
-- ==== Proof.Kept.lean ====
/- An output window that a program stores into at one point of each run of points, and that is written back at the run's end;
   and the parts of a body that loads its inputs and stores into such windows. -/
module

public import Idealize.ShloMosaic.Lib.Pipeline.ValueKit
public import Idealize.ShloMosaic.Lib.Claim

@[expose] public section

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)

section Window

variable {nD : Nat} {τ : Topo} {sig : RefSig} {Val : EltTy → Type} {Λ₀ : Labels} {Ix : Type} [DecidableEq Ix] {Name : Type} [DecidableEq Name]
  {U : Type} [URA U] {Lvl : Type} {cfg : Cfg sig Λ₀} {c : Dev nD}

/-- The points fall into runs of `n`; the point of `t`'s run that is `s` modulo `n`. -/
def ownPoint {N n q : ℕ} (e : n * q = N) (s : Fin n) (t : Fin N) : Fin N :=
  ⟨n * (t.val / n) + s.val, by
    have h : t.val / n < q := Nat.div_lt_of_lt_mul (lt_of_lt_of_eq t.isLt e.symm)
    calc n * (t.val / n) + s.val < n * (t.val / n) + n := Nat.add_lt_add_left s.isLt _
      _ = n * (t.val / n + 1) := (Nat.mul_succ _ _).symm
      _ ≤ n * q := Nat.mul_le_mul_left _ h
      _ = N := e⟩

theorem ownPoint_same {N n q : ℕ} (e : n * q = N) (s : Fin n) {t t' : Fin N} (h : t.val / n = t'.val / n) : ownPoint e s t = ownPoint e s t' :=
  Fin.ext (by unfold ownPoint; dsimp only; rw [h])

theorem ownPoint_self {N n q : ℕ} (e : n * q = N) (s : Fin n) {t : Fin N} (h : t.val % n = s.val) : ownPoint e s t = t :=
  Fin.ext (by unfold ownPoint; dsimp only; rw [← h]; exact Nat.div_add_mod _ _)

/-- The run a point is in, and its place in the run. -/
def runOf {N n q : ℕ} (e : n * q = N) (t : Fin N) : Fin q := ⟨t.val / n, Nat.div_lt_of_lt_mul (lt_of_lt_of_eq t.isLt e.symm)⟩
def placeOf {N n q : ℕ} [NeZero n] (_ : n * q = N) (t : Fin N) : Fin n := ⟨t.val % n, Nat.mod_lt _ (Nat.pos_of_neZero n)⟩

theorem runOf_own {N n q : ℕ} (e : n * q = N) (s : Fin n) (t : Fin N) : runOf e (ownPoint e s t) = runOf e t :=
  Fin.ext (by
    show (n * (t.val / n) + s.val) / n = t.val / n
    rw [Nat.mul_add_div (Nat.lt_of_le_of_lt (Nat.zero_le _) s.isLt), Nat.div_eq_of_lt s.isLt, Nat.add_zero])
theorem placeOf_own {N n q : ℕ} [NeZero n] (e : n * q = N) (s : Fin n) (t : Fin N) : placeOf e (ownPoint e s t) = s :=
  Fin.ext (by
    show (n * (t.val / n) + s.val) % n = s.val
    rw [Nat.mul_add_mod, Nat.mod_eq_of_lt s.isLt])

/-- Window `w` is stored into only at the points that are `s` modulo `n`; what the body stores at such a point is `f` of it;
    the data name that all through the run; and it is written back at the run's last point. -/
structure Stored (dat : Dat τ Val Ix Name U Lvl cfg c) (w : Fin cfg.W) {n q : ℕ} (e : n * q = cfg.N) (s : Fin n)
    (f : Fin cfg.N → (cfg.win w).block.Idx → Val (cfg.win w).elt) : Prop where
  own : ∀ t, (cfg.win w).fetch t = false
  idle : ∀ t : Fin cfg.N, cfg.idle w (cfg.grid.coords t) = decide (t.val % n ≠ s.val)
  flush : ∀ t : Fin cfg.N, (cfg.win w).flush t = true ↔ t.val % n = n - 1
  whole : ∀ t d, dat.kept w t d = dat.after w t
  after : ∀ t, dat.after w t = f (ownPoint e s t)

variable {dat : Dat τ Val Ix Name U Lvl cfg c} {w : Fin cfg.W} {n q : ℕ} {e : n * q = cfg.N} {s : Fin n}
  {f : Fin cfg.N → (cfg.win w).block.Idx → Val (cfg.win w).elt}

theorem Stored.same (h : Stored dat w e s f) {t t' : Fin cfg.N} (ht : t.val / n = t'.val / n) : dat.after w t = dat.after w t' := by
  rw [h.after, h.after, ownPoint_same e s ht]

/-- After the store the buffer keeps what was stored, to the run's end. -/
theorem Stored.before (h : Stored dat w e s f) (d) : ∀ (k : ℕ) (t : Fin cfg.N), t.val % n = s.val + k + 1 → dat.before w t d = dat.after w t := by
  intro k
  have hn : 0 < n := Nat.lt_of_le_of_lt (Nat.zero_le _) s.isLt
  have step : ∀ t : Fin cfg.N, s.val < t.val % n → (t.val - 1) % n = t.val % n - 1 ∧ (t.val - 1) / n = t.val / n := by
    intro t ht
    have hlt := Nat.mod_lt t.val hn
    have e : t.val - 1 = (t.val % n - 1) + n * (t.val / n) := by
      have := Nat.mod_add_div t.val n
      omega
    rw [e, Nat.add_mul_mod_self_left, Nat.add_mul_div_left _ _ hn, Nat.mod_eq_of_lt (by omega), Nat.div_eq_of_lt (by omega)]
    exact ⟨rfl, Nat.zero_add _⟩
  induction k with
  | zero =>
    intro t ht
    obtain ⟨e1, e2⟩ := step t (by omega)
    have hlt := Nat.mod_lt t.val hn
    have h0 : t.val ≠ 0 := fun h0 => by rw [h0, Nat.zero_mod] at ht; omega
    rw [dat.before_of_pos w t h0 (h.own t) d, if_neg (fun hf => by have := (h.flush _).mp hf; dsimp only at this; omega)]
    unfold Dat.left
    rw [h.idle]
    dsimp only
    rw [e1, ht, show decide (s.val + 0 + 1 - 1 ≠ s.val) = false from by simp]
    exact (h.whole _ d).trans (h.same e2)
  | succ k ih =>
    intro t ht
    obtain ⟨e1, e2⟩ := step t (by omega)
    have hlt := Nat.mod_lt t.val hn
    have h0 : t.val ≠ 0 := fun h0 => by rw [h0, Nat.zero_mod] at ht; omega
    rw [dat.before_of_pos w t h0 (h.own t) d, if_neg (fun hf => by have := (h.flush _).mp hf; dsimp only at this; omega)]
    unfold Dat.left
    rw [h.idle]
    dsimp only
    rw [show decide ((t.val - 1) % n ≠ s.val) = true from by simp; omega]
    exact (ih _ (by dsimp only; omega)).trans (h.same e2)

/-- If what the body stores is a whole array `G` read at the block that is written back, and the blocks cover the array, the
    array ends as `G`. -/
theorem Stored.arr (h : Stored dat w e s f) (G : Buf Val ((cfg.win w).arr.view.loc (c.tc : Thread nD τ))) (hc : (cfg.win w).Covers)
    (ha : (cfg.win w).arr.IsWhole) (hf : ∀ t (y : ((cfg.win w).xblock (cfg.grid.coords t)).Idx),
      _root_.cast (congrArg Val ((cfg.win w).blk t).view.elt_eq.symm) (f (ownPoint e s t) ((cfg.win w).xinj (cfg.grid.coords t) y))
        = G (((cfg.win w).blk t).view.emb y)) : dat.arrAt w cfg.N = G :=
  dat.arrAt_eq_of_covers w G hc (fun t _ y => by rw [h.after]; exact hf t y) ha

/-- So what the body's obligation asks of the window holds, if under a condition true at just those points the body stores,
    and else leaves the buffer alone. -/
theorem Stored.leaves (h : Stored dat w e s f) (t : Fin cfg.N) (d) (b : BitVec 1) (hb : b = 1#1 ↔ t.val % n = s.val) :
    owns (Ix := Ix) (Name := Name) (U := U) (Lvl := Lvl) (c : Thread nD τ) ((cfg.win w).stage (cfg.slots t w)) fullShare
      (if b = 1#1 then f t else dat.before w t d) ⊢ dat.leavesExact w t := by
  have hn : 0 < n := Nat.lt_of_le_of_lt (Nat.zero_le _) s.isLt
  have hlt := Nat.mod_lt t.val hn
  by_cases hs : t.val % n = s.val
  · rw [if_pos (hb.mpr hs)]
    unfold Dat.leavesExact
    rw [h.idle, show decide (t.val % n ≠ s.val) = false from by simp [hs]]
    dsimp only
    rw [h.after, ownPoint_self e s hs]
  · rw [if_neg fun e => hs (hb.mp e)]
    unfold Dat.leavesExact
    rw [h.idle, show decide (t.val % n ≠ s.val) = true from by simp [hs]]
    by_cases hf : (cfg.win w).flush t = true
    · rw [hf]
      have e := (h.flush t).mp hf
      have := s.isLt
      rw [h.before d (t.val % n - s.val - 1) t (by omega)]
    · rw [Bool.eq_false_iff.mpr hf]
      iintro H
      iexists d
      iexact H

end Window

section Body

variable {F : FTy → Type} [FloatOps F] {nD : Nat} {τ : Topo} {sig : RefSig} {Λ₀ : Labels} {S : Shape} {α : Type}
  {defs₀ : Defs nD τ sig (Elt F) Λ₀}

local notation "𝕄" => MT nD τ sig Unit (Elt F) ℕ (UR sig nD τ) ℕ

/-- A load of a part of a buffer. -/
theorem load_part (c : Dev nD) (E : Set ℕ) {e : EltTy} {off sz : Fin S.rank → ℕ} (inb : ∀ a, off a + sz a ≤ S.size a) (arg : Memref sig .tc .vmem S e) (harg : arg.IsWhole)
    (x : Vec F S e) (k : Vec F ⟨S.rank, sz⟩ e → Prog (TpuEff nD τ sig (Elt F) Λ₀ .tc) α) (K : α → sProp 𝕄) (hl) :
    iprop(owns (c : Thread nD τ) arg fullShare x
        ∗ (owns (c : Thread nD τ) arg fullShare x -∗ wp frame (wpE defs₀ Variants.none c none) E (k (View.ld x (Rect.unit (s := S) off sz inb))) K))
      ⊢ wp frame (wpE defs₀ Variants.none c none) E
          (do
            let v : Vec F ⟨S.rank, sz⟩ e ← Prog.lift (.load arg (Rect.unit (s := S) off sz inb).toLoadRect hl)
            k v) K := by
  unfold owns
  iintro ⟨⟨%f0, %hf0, H0⟩, Hk⟩
  obtain rfl := harg.eq_unread hf0
  sl_exec
  rw [View.readAt_eq_ld, harg.read_unread]
  iapply Hk
  iexists (harg.unread x)
  isplitr
  · ipureintro; exact harg.read_unread _
  · iexact H0

/-- A load of all of a buffer. -/
theorem load_all (c : Dev nD) (E : Set ℕ) {e : EltTy} {off : Fin S.rank → ℕ} (ho : off = fun _ => 0) (inb : ∀ a, off a + S.size a ≤ S.size a)
    (arg : Memref sig .tc .vmem S e) (harg : arg.IsWhole)
    (x : Vec F S e) (k : Vec F S e → Prog (TpuEff nD τ sig (Elt F) Λ₀ .tc) α) (K : α → sProp 𝕄) (hl) :
    iprop(owns (c : Thread nD τ) arg fullShare x
        ∗ (owns (c : Thread nD τ) arg fullShare x -∗ wp frame (wpE defs₀ Variants.none c none) E (k x) K))
      ⊢ wp frame (wpE defs₀ Variants.none c none) E
          (do
            let v : Vec F S e ← Prog.lift (.load arg (Rect.unit (s := S) off S.size inb).toLoadRect hl)
            k v) K := by
  have h := load_part (defs₀ := defs₀) c E inb arg harg x k K hl
  rwa [show View.ld x (Rect.unit (s := S) off S.size inb) = x from View.ld_unit_zero ho inb x] at h

/-- A load of all of a buffer, of no consequence, and a store into all of it. -/
theorem store_all (c : Dev nD) (E : Set ℕ) {e : EltTy} {off : Fin S.rank → ℕ} (ho : off = fun _ => 0) (inb : ∀ a, off a + S.size a ≤ S.size a)
    (arg : Memref sig .tc .vmem S e) (harg : arg.IsWhole)
    (x v : Vec F S e) (k : Prog (TpuEff nD τ sig (Elt F) Λ₀ .tc) α) (K : α → sProp 𝕄) (hl hs hb) :
    iprop(owns (c : Thread nD τ) arg fullShare x
        ∗ (owns (c : Thread nD τ) arg fullShare v -∗ wp frame (wpE defs₀ Variants.none c none) E k K))
      ⊢ wp frame (wpE defs₀ Variants.none c none) E
          (do
            let _ : Vec F S e ← Prog.lift (.load arg (Rect.unit (s := S) off S.size inb).toLoadRect hl)
            Prog.lift (.store arg (Rect.unit (s := S) off S.size inb) v Finset.univ hs hb)
            k) K := by
  subst ho
  unfold owns
  iintro ⟨⟨%f0, %hf0, H0⟩, Hk⟩
  obtain rfl := harg.eq_unread hf0
  sl_exec
  iapply Hk
  iexists (arg.view.writes (Elt F) (harg.unread x) [⟨Rect.unit (fun _ => 0) S.size inb, v⟩])
  isplitr
  · ipureintro
    refine (View.read_writes_eq_canon _ _ _ fun y => ⟨_, List.mem_singleton_self _, ?_⟩).trans (View.canon_unit_zero rfl inb v)
    exact (Rect.mem_set_unit (inb := inb)).mpr fun a => ⟨Nat.zero_le _, by have := (y a).isLt; omega⟩
  · iexact H0

/-- A branch of a body: under its condition it stores `v` into all of a buffer, else it leaves the buffer alone. -/
theorem store_or_keep (c : Dev nD) (E : Set ℕ) {e : EltTy} {off : Fin S.rank → ℕ} (ho : off = fun _ => 0) (inb : ∀ a, off a + S.size a ≤ S.size a)
    (b : BitVec 1) (arg : Memref sig .tc .vmem S e) (harg : arg.IsWhole)
    (x v : Vec F S e) (k : Prog (TpuEff nD τ sig (Elt F) Λ₀ .tc) α) (K : α → sProp 𝕄) (hl hs hb) :
    iprop(owns (c : Thread nD τ) arg fullShare x
        ∗ (owns (c : Thread nD τ) arg fullShare (if b = 1#1 then v else x) -∗ wp frame (wpE defs₀ Variants.none c none) E k K))
      ⊢ wp frame (wpE defs₀ Variants.none c none) E
          (if _h : b = 1#1 then do
            let _ : Vec F S e ← Prog.lift (.load arg (Rect.unit (s := S) off S.size inb).toLoadRect hl)
            Prog.lift (.store arg (Rect.unit (s := S) off S.size inb) v Finset.univ hs hb)
            k
          else k) K := by
  by_cases h : b = 1#1
  · rw [dif_pos h, if_pos h]
    exact store_all c E ho inb arg harg x v k K hl hs hb
  · rw [dif_neg h, if_neg h]
    iintro ⟨H, Hk⟩
    iapply Hk
    iexact H

end Body

end Cert.Mix

end
-- ==== Proof.InYFrame.lean ====
/- The wide input projections: six outputs, each stored into at one point of a run of six and written back at the run's end. -/
module

public import proofs.«01_k».proof.Proof.Gen.InYIdeal.Skeleton
public import proofs.«01_k».proof.Proof.Gen.InYIdeal.Launch
public import proofs.«01_k».proof.Proof.Gen.InYIdeal.Points
public import proofs.«01_k».proof.Proof.Kept
public import proofs.«01_k».proof.Proof.Products
public import Idealize.ShloMosaic.Lib.Claim

@[expose] public section

set_option maxRecDepth 16384

noncomputable section

namespace Cert.Mix.InY

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.InYIdeal Cert.InYIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body on any buffers: each output holds the product if its condition holds, else what it held. -/
theorem body (c : Dev nD) (E : Set ℕ) (i : grid0.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1024x1024 .bf16) (harg6 : arg6.IsWhole)
    (arg7 : Memref sig .tc .vmem S1024x1024 .bf16) (harg7 : arg7.IsWhole)
    (arg8 : Memref sig .tc .vmem S1024x1024 .bf16) (harg8 : arg8.IsWhole)
    (arg9 : Memref sig .tc .vmem S1024x1024 .bf16) (harg9 : arg9.IsWhole)
    (x0 x1 y0 y1 y2 y3 y4 y5 : Vec F S1024x1024 .bf16) (K : PUnit → sProp 𝕄) :
    iprop(owns (c : Thread nD τ) arg2 fullShare x0
        ∗ owns (c : Thread nD τ) arg3 fullShare x1
        ∗ owns (c : Thread nD τ) arg4 fullShare y0
        ∗ owns (c : Thread nD τ) arg5 fullShare y1
        ∗ owns (c : Thread nD τ) arg6 fullShare y2
        ∗ owns (c : Thread nD τ) arg7 fullShare y3
        ∗ owns (c : Thread nD τ) arg8 fullShare y4
        ∗ owns (c : Thread nD τ) arg9 fullShare y5
        ∗ (iprop(owns (c : Thread nD τ) arg2 fullShare x0
          ∗ owns (c : Thread nD τ) arg3 fullShare x1
          ∗ owns (c : Thread nD τ) arg4 fullShare (if k0_cond1 i = 1#1 then k0_pay3 x0 x1 else y0)
          ∗ owns (c : Thread nD τ) arg5 fullShare (if k0_cond2 i = 1#1 then k0_pay4 x0 x1 else y1)
          ∗ owns (c : Thread nD τ) arg6 fullShare (if k0_cond3 i = 1#1 then k0_pay5 x0 x1 else y2)
          ∗ owns (c : Thread nD τ) arg7 fullShare (if k0_cond4 i = 1#1 then k0_pay6 x0 x1 else y3)
          ∗ owns (c : Thread nD τ) arg8 fullShare (if k0_cond5 i = 1#1 then k0_pay7 x0 x1 else y4)
          ∗ owns (c : Thread nD τ) arg9 fullShare (if k0_cond6 i = 1#1 then k0_pay1 (k0_pay2 x0 x1) else y5)) -∗ K ⟨⟩))
      ⊢ wp frame (wpE (defs₀ (F := F)) Variants.none c none) E
          (cc0_l0_mix_in_y i arg2 harg2 arg3 harg3 arg4 harg4 arg5 harg5 arg6 harg6 arg7 harg7 arg8 harg8 arg9 harg9) K := by
  rw [cc0_l0_mix_in_y_eq_skeleton]
  unfold cc0_l0_mix_in_y_skel
  rw [k0_part1_eq_skeleton]
  unfold k0_part1_skel
  rw [wp_bind]
  iintro ⟨H0, H1, H2, H3, H4, H5, H6, H7, Hk⟩
  iapply (load_all c E origin inb_S1024x1024_S1024x1024_0_0 arg2 harg2 x0 _ _ _)
  isplitl [H0]; · iexact H0
  iintro H0
  iapply (load_all c E origin inb_S1024x1024_S1024x1024_0_0 arg3 harg3 x1 _ _ _)
  isplitl [H1]; · iexact H1
  iintro H1
  iapply (store_or_keep c E origin inb_S1024x1024_S1024x1024_0_0 _ arg4 harg4 y0 _ _ _ _ _ _)
  isplitl [H2]; · iexact H2
  iintro H2
  iapply (store_or_keep c E origin inb_S1024x1024_S1024x1024_0_0 _ arg5 harg5 y1 _ _ _ _ _ _)
  isplitl [H3]; · iexact H3
  iintro H3
  iapply (store_or_keep c E origin inb_S1024x1024_S1024x1024_0_0 _ arg6 harg6 y2 _ _ _ _ _ _)
  isplitl [H4]; · iexact H4
  iintro H4
  iapply (store_or_keep c E origin inb_S1024x1024_S1024x1024_0_0 _ arg7 harg7 y3 _ _ _ _ _ _)
  isplitl [H5]; · iexact H5
  iintro H5
  iapply (store_or_keep c E origin inb_S1024x1024_S1024x1024_0_0 _ arg8 harg8 y4 _ _ _ _ _ _)
  isplitl [H6]; · iexact H6
  iintro H6
  iapply (le_wp_ret _ _)
  iapply (store_or_keep c E origin inb_S1024x1024_S1024x1024_0_0 _ arg9 harg9 y5 _ _ _ _ _ _)
  isplitl [H7]; · iexact H7
  iintro H7
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The product is the same expression at every output. -/
theorem pays : k0_pay4 (F := F) = k0_pay3 ∧ k0_pay5 (F := F) = k0_pay3 ∧ k0_pay6 (F := F) = k0_pay3 ∧ k0_pay7 (F := F) = k0_pay3
    ∧ ∀ x0 x1, k0_pay1 (F := F) (k0_pay2 x0 x1) = k0_pay3 x0 x1 := ⟨rfl, rfl, rfl, rfl, fun _ _ => rfl⟩

/-- What the region finds. -/
abbrev V (c : Dev nD) (b : Ref sig .tc) : Buf (Elt F) ((c : Thread nD τ).loc b) := m ((c : Thread nD τ).loc b)

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem points : 6 * 4 = cfg0.N := N_0.symm

/-- The product of a point's blocks. -/
def prod (c : Dev nD) (t : Fin cfg0.N) : Vec F S1024x1024 .bf16 := k0_pay3 (iblk m c 0 t) (iblk m c 1 t)

/-- The region's data: each output's buffer is at the product of its own point's blocks, all through the run. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => prod m c (ownPoint points 0 t)
    | ⟨3, _⟩ => prod m c (ownPoint points 1 t)
    | ⟨4, _⟩ => prod m c (ownPoint points 2 t)
    | ⟨5, _⟩ => prod m c (ownPoint points 3 t)
    | ⟨6, _⟩ => prod m c (ownPoint points 4 t)
    | ⟨7, _⟩ => prod m c (ownPoint points 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem before0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl

/-- The points at which an output is left alone. -/
theorem idle_at : ∀ (s : Fin 6) (t : Fin grid0.N), idle0 (s.natAdd 2) (grid0.coords t) = decide (t.val % 6 ≠ s.val) := by decide +kernel

theorem stored (c : Dev nD) : Stored (dats m 0 c) 2 points 0 (prod m c) ∧ Stored (dats m 0 c) 3 points 1 (prod m c)
    ∧ Stored (dats m 0 c) 4 points 2 (prod m c) ∧ Stored (dats m 0 c) 5 points 3 (prod m c)
    ∧ Stored (dats m 0 c) 6 points 4 (prod m c) ∧ Stored (dats m 0 c) 7 points 5 (prod m c) :=
  ⟨⟨fun _ => rfl, idle_at 0, flush0_2, fun _ _ => rfl, fun _ => rfl⟩, ⟨fun _ => rfl, idle_at 1, flush0_3, fun _ _ => rfl, fun _ => rfl⟩,
    ⟨fun _ => rfl, idle_at 2, flush0_4, fun _ _ => rfl, fun _ => rfl⟩, ⟨fun _ => rfl, idle_at 3, flush0_5, fun _ _ => rfl, fun _ => rfl⟩,
    ⟨fun _ => rfl, idle_at 4, flush0_6, fun _ _ => rfl, fun _ => rfl⟩, ⟨fun _ => rfl, idle_at 5, flush0_7, fun _ _ => rfl, fun _ => rfl⟩⟩

/-- The branches' conditions. -/
theorem cond_at : ∀ t : Fin cfg0.N, (k0_cond1 (grid0.coords t) = 1#1 ↔ t.val % 6 = 0)
    ∧ (k0_cond2 (grid0.coords t) = 1#1 ↔ t.val % 6 = 1)
    ∧ (k0_cond3 (grid0.coords t) = 1#1 ↔ t.val % 6 = 2)
    ∧ (k0_cond4 (grid0.coords t) = 1#1 ↔ t.val % 6 = 3)
    ∧ (k0_cond5 (grid0.coords t) = 1#1 ↔ t.val % 6 = 4)
    ∧ (k0_cond6 (grid0.coords t) = 1#1 ↔ t.val % 6 = 5) :=
  (by decide +kernel : ∀ t : Fin grid0.N, _)

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ (dats m 0 c).leavesExact 2 t ∗ (dats m 0 c).leavesExact 3 t ∗ (dats m 0 c).leavesExact 4 t
    ∗ (dats m 0 c).leavesExact 5 t ∗ (dats m 0 c).leavesExact 6 t ∗ (dats m 0 c).leavesExact 7 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl]
  obtain ⟨p4, p5, p6, p7, p1⟩ := pays (F := F)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body c Set.univ (grid0.coords t) _ _ _ _ _ _ _ _ _ _ _ _ _ _ _ _ (iblk m c 0 t) (iblk m c 1 t) _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  simp only [p4, p5, p6, p7, p1]
  iintro ⟨H0, H1, H2, H3, H4, H5, H6, H7⟩
  isplitl [HΦ]; · iexact HΦ
  isplitl [Ho]; · iexact Ho
  isplitl [H0]; · iexact H0
  isplitl [H1]; · iexact H1
  obtain ⟨h2, h3, h4, h5, h6, h7⟩ := stored m c
  obtain ⟨b2, b3, b4, b5, b6, b7⟩ := cond_at t
  isplitl [H2]; · iapply (h2.leaves t d2 _ b2); iexact H2
  isplitl [H3]; · iapply (h3.leaves t d3 _ b3); iexact H3
  isplitl [H4]; · iapply (h4.leaves t d4 _ b4); iexact H4
  isplitl [H5]; · iapply (h5.leaves t d5 _ b5); iexact H5
  isplitl [H6]; · iapply (h6.leaves t d6 _ b6); iexact H6
  iapply (h7.leaves t d7 _ b7); iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- The run: every array ends at what the region's data say, and nothing is left in flight. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- So the results are the region's arrays and the arguments are as they were. -/
theorem ends : θ_run defs (onTc (τ := τ) (main (F := F))) ⟨m, fun _ => 0, ρ⟩ (fun r => (∀ c : Dev nD,
      (r.2.mem ((c.tc : Thread nD τ).loc main_v0_0) = (dats m 0 c).arrAt 2 cfg0.N
      ∧ r.2.mem ((c.tc : Thread nD τ).loc main_v0_1) = (dats m 0 c).arrAt 3 cfg0.N
      ∧ r.2.mem ((c.tc : Thread nD τ).loc main_v0_2) = (dats m 0 c).arrAt 4 cfg0.N
      ∧ r.2.mem ((c.tc : Thread nD τ).loc main_v0_3) = (dats m 0 c).arrAt 5 cfg0.N
      ∧ r.2.mem ((c.tc : Thread nD τ).loc main_v0_4) = (dats m 0 c).arrAt 6 cfg0.N
      ∧ r.2.mem ((c.tc : Thread nD τ).loc main_v0_5) = (dats m 0 c).arrAt 7 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨⟨(h.1 c).1 2, (h.1 c).1 3, (h.1 c).1 4, (h.1 c).1 5, (h.1 c).1 6, (h.1 c).1 7⟩,
      ((h.1 c).1 0).trans (((dats m 0 c).arrAt_in 0 rfl _).trans (A_eq m c 0)),
      ((h.1 c).1 1).trans (((dats m 0 c).arrAt_in 1 rfl _).trans (A_eq m c 1))⟩, h.2⟩) (run m ρ)

end Cert.Mix.InY

end
-- ==== Proof.InY.lean ====
/- The mixer's six wide input projections: each output is the rows times its own block of the weights' columns. -/
module

public import proofs.«01_k».proof.Defs
public import proofs.«01_k».proof.Proof.InYFrame
public import proofs.«01_k».proof.Proof.Gen.InY.Launch
public import proofs.«01_k».proof.Proof.Gen.InY.Skeleton
public import proofs.«01_k».proof.Proof.Gen.InYRefIdeal.Run
public import Idealize.ShloMosaic.Lib.Quiescent

@[expose] public section

set_option maxRecDepth 16384

noncomputable section

open Idealize.ShloMosaic Idealize.ShloMosaic.TcCoe Idealize.SL.Sem Cert.Mix

namespace Cert.Mix.InY

open Cert.InYIdeal Cert.InYIdeal.Gen

variable (m : (ℓ : Loc nD τ sig) → Buf (Elt Ideal) ℓ) (c : Dev nD)

/-- The rows, and the weights. -/
def X : S4096x1024.Idx → EReal := m ((c : Thread nD τ).loc main_arg0)
def W : S1024x6144.Idx → EReal := m ((c : Thread nD τ).loc main_arg1)

/-- The result that output `s` should be. -/
abbrev want (s : Fin 6) : S4096x1024.Idx → EReal := slab (q := 6) (n := 1024) rfl s (X m c) (W m c)

theorem inputs_at : ∀ t : Fin cfg0.N, win0_0.index t = ![t.val / 6, 0] ∧ win0_1.index t = ![0, t.val % 6] :=
  (by decide +kernel : ∀ t : Fin grid0.N, _)

theorem outputs_at : ∀ t : Fin cfg0.N, win0_2.index t = ![t.val / 6, 0] ∧ win0_3.index t = ![t.val / 6, 0] ∧ win0_4.index t = ![t.val / 6, 0]
    ∧ win0_5.index t = ![t.val / 6, 0] ∧ win0_6.index t = ![t.val / 6, 0] ∧ win0_7.index t = ![t.val / 6, 0] :=
  (by decide +kernel : ∀ t : Fin grid0.N, _)

theorem emb_in (t : Fin cfg0.N) (a k : Fin 1024) :
    ((cfg0.win 0).blk t).view.emb (ix2 a k) = ix2 (place (N := 4096) rfl (runOf points t) a) k
    ∧ ((cfg0.win 1).blk t).view.emb (ix2 a k) = ix2 a (place (N := 6144) rfl (placeOf points t) k) := by
  obtain ⟨e0, e1⟩ := inputs_at t
  refine ⟨?_, ?_⟩ <;> (funext x; apply Fin.ext; fin_cases x <;> (blk_simp [e0, e1]; rfl))

/-- Entry `(a, b)` of a point's block of an output is in the point's block of rows. -/
abbrev spot (t : Fin cfg0.N) (a b : Fin 1024) : S4096x1024.Idx := ix2 (place (N := 4096) rfl (runOf points t) a) b

theorem emb_out (t : Fin cfg0.N) (a b : Fin 1024) :
    ((cfg0.win 2).blk t).view.emb (ix2 a b) = spot t a b ∧ ((cfg0.win 3).blk t).view.emb (ix2 a b) = spot t a b
    ∧ ((cfg0.win 4).blk t).view.emb (ix2 a b) = spot t a b ∧ ((cfg0.win 5).blk t).view.emb (ix2 a b) = spot t a b
    ∧ ((cfg0.win 6).blk t).view.emb (ix2 a b) = spot t a b ∧ ((cfg0.win 7).blk t).view.emb (ix2 a b) = spot t a b := by
  obtain ⟨e2, e3, e4, e5, e6, e7⟩ := outputs_at t
  refine ⟨?_, ?_, ?_, ?_, ?_, ?_⟩ <;> (funext x; apply Fin.ext; fin_cases x <;> (blk_simp [e2, e3, e4, e5, e6, e7]; rfl))

theorem pay_read (x0 x1 : Vec Ideal S1024x1024 .bf16) (a b : Fin 1024) :
    k0_pay3 (F := Ideal) x0 x1 (ix2 a b) = ∑ k : Fin 1024, (x0 (ix2 a k) * x1 (ix2 k b) : EReal) := by
  pointwise [k0_pay3, k0_pay2]

/-- What the buffer of output `s` is written back with, at any place of a whole array that has the block's rows. -/
theorem written (s : Fin 6) (t : Fin cfg0.N) (j : S1024x1024.Idx → S4096x1024.Idx) (hj : ∀ a b, j (ix2 a b) = spot t a b) (y : S1024x1024.Idx) :
    prod m c (ownPoint points s t) y = want m c s (j y) := by
  obtain ⟨a, b, rfl⟩ := (⟨y 0, y 1, pair_eta y⟩ : ∃ (a b : Fin 1024), y = ix2 a b)
  rw [hj]
  refine (pay_read _ _ a b).trans (Finset.sum_congr rfl fun k _ => ?_)
  show X m c (((cfg0.win 0).blk (ownPoint points s t)).view.emb (ix2 a k)) * W m c (((cfg0.win 1).blk (ownPoint points s t)).view.emb (ix2 k b)) = _
  rw [(emb_in _ a k).1, (emb_in _ k b).2, runOf_own, placeOf_own]
  rfl

/-- So the arrays after the region. -/
theorem arrs : (dats m 0 c).arrAt 2 cfg0.N = want m c 0 ∧ (dats m 0 c).arrAt 3 cfg0.N = want m c 1
    ∧ (dats m 0 c).arrAt 4 cfg0.N = want m c 2 ∧ (dats m 0 c).arrAt 5 cfg0.N = want m c 3
    ∧ (dats m 0 c).arrAt 6 cfg0.N = want m c 4 ∧ (dats m 0 c).arrAt 7 cfg0.N = want m c 5 := by
  obtain ⟨h2, h3, h4, h5, h6, h7⟩ := stored m c
  exact ⟨h2.arr _ (by decide +kernel) (Memref.isWhole_whole _) fun t => written m c 0 t _ fun a b => (emb_out t a b).1,
    h3.arr _ (by decide +kernel) (Memref.isWhole_whole _) fun t => written m c 1 t _ fun a b => (emb_out t a b).2.1,
    h4.arr _ (by decide +kernel) (Memref.isWhole_whole _) fun t => written m c 2 t _ fun a b => (emb_out t a b).2.2.1,
    h5.arr _ (by decide +kernel) (Memref.isWhole_whole _) fun t => written m c 3 t _ fun a b => (emb_out t a b).2.2.2.1,
    h6.arr _ (by decide +kernel) (Memref.isWhole_whole _) fun t => written m c 4 t _ fun a b => (emb_out t a b).2.2.2.2.1,
    h7.arr _ (by decide +kernel) (Memref.isWhole_whole _) fun t => written m c 5 t _ fun a b => (emb_out t a b).2.2.2.2.2⟩

/-- The reference's term for output `s`. -/
theorem reference_eq (s : Fin 6) (h) (x : S4096x1024.Idx → EReal) (w : S1024x6144.Idx → EReal) :
    truncf (F := Ideal) .bf16
      (extractStridedSlice Cert.InYRefIdeal.S4096x1024 ![0, s.val * 1024]
        (Host.dotGeneral (φ₁ := .f32) (φ₂ := .f32) Cert.InYRefIdeal.dot_S4096x1024_S1024x6144_S4096x6144_1_0_0_1_n_n none
          (extf .f32 x Cert.InYRefIdeal.Facts₀.bitsLt_bf16_f32) (extf .f32 w Cert.InYRefIdeal.Facts₀.bitsLt_bf16_f32)) h)
      Cert.InYRefIdeal.Facts₀.bitsLt_bf16_f32 = slab (q := 6) (n := 1024) rfl s x w := by
  funext i
  obtain ⟨a, b, rfl⟩ := (⟨i 0, i 1, pair_eta i⟩ : ∃ (a : Fin 4096) (b : Fin 1024), i = ix2 a b)
  unfold slab
  pointwise
  rfl

/-- The two kernels have the same text: the same bodies, and so the same code. -/
theorem same_bodies : Cert.InY.defs₀ (F := Bits) = Cert.InYIdeal.defs₀ (F := Bits) := by
  unfold Cert.InY.defs₀ Cert.InYIdeal.defs₀
  congr 1
  funext a b
  fin_cases a
  obtain ⟨t, s⟩ := b
  rfl

theorem same_code : Cert.InY.defs (F := Bits) = Cert.InYIdeal.defs (F := Bits) :=
  congrArg (Pipeline.defs (Cert.InYIdeal.pcfgs (F := Bits))) same_bodies

theorem frame : @Cert.quiescent_InY Cert.InY.Gen.facts := by
  intro m g _
  have h := ends (F := Bits) m g
  rw [← same_code] at h
  exact (θ_run Cert.InY.defs _ _).mono (fun _ h => ⟨fun c => (h.1 c).2, h.2⟩) h

theorem frame_ideal : @Cert.quiescent_InYIdeal Cert.InYIdeal.Gen.facts := fun m g _ =>
  (θ_run Cert.InYIdeal.defs _ _).mono (fun _ h => ⟨fun c => (h.1 c).2, h.2⟩) (ends (F := Ideal) m g)

theorem frame_ref : @Cert.quiescent_InYRefIdeal Cert.InYRefIdeal.Gen.facts := fun m g _ =>
  (θ_run Cert.InYRefIdeal.defs _ _).mono (fun r h => And.intro (fun c => (h c).2.2.2.2.2.2) (sem_eq_zero_of_no_sems (by decide) r.2))
    (Cert.InYRefIdeal.Value.run (F := Ideal) m g)

/-- The two programs end with the same products. -/
theorem algebraic : @Cert.algebraic_InYIdeal_InYRefIdeal Cert.InYIdeal.Gen.facts Cert.InYRefIdeal.Gen.facts := by
  intro m g m' g' _ hargs
  refine ⟨fun c => want m c 0, fun c => want m c 1, fun c => want m c 2, fun c => want m c 3, fun c => want m c 4, fun c => want m c 5, ?_, ?_⟩
  · refine (θ_run defs _ _).mono (fun r h c => ?_) (ends m g)
    obtain ⟨r0, r1, r2, r3, r4, r5⟩ := (h.1 c).1
    obtain ⟨a0, a1, a2, a3, a4, a5⟩ := arrs m c
    exact ⟨r0.trans a0, r1.trans a1, r2.trans a2, r3.trans a3, r4.trans a4, r5.trans a5, (h.1 c).2⟩
  · refine (θ_run Cert.InYRefIdeal.defs _ _).mono (fun r h c => ?_) (Cert.InYRefIdeal.Value.run m' g')
    obtain ⟨r0, r1, r2, r3, r4, r5, args⟩ := h c
    have same : ∀ s, slab (q := 6) (n := 1024) rfl s _ _ = want m c s := fun s =>
      congrArg₂ (slab (q := 6) (n := 1024) rfl s) (hargs c).1 (hargs c).2
    exact ⟨r0.trans ((reference_eq 0 _ _ _).trans (same 0)), r1.trans ((reference_eq 1 _ _ _).trans (same 1)),
      r2.trans ((reference_eq 2 _ _ _).trans (same 2)), r3.trans ((reference_eq 3 _ _ _).trans (same 3)),
      r4.trans ((reference_eq 4 _ _ _).trans (same 4)), r5.trans ((reference_eq 5 _ _ _).trans (same 5)), args⟩

end Cert.Mix.InY

end
-- ==== Proof.HeadYFrame.lean ====
/- The narrow input projections: three outputs, each stored into at one point of a run of three and written back at the run's end. -/
module

public import proofs.«01_k».proof.Proof.Gen.HeadYIdeal.Skeleton
public import proofs.«01_k».proof.Proof.Gen.HeadYIdeal.Launch
public import proofs.«01_k».proof.Proof.Gen.HeadYIdeal.Points
public import proofs.«01_k».proof.Proof.Kept
public import proofs.«01_k».proof.Proof.Products
public import Idealize.ShloMosaic.Lib.Claim

@[expose] public section

set_option maxRecDepth 16384

noncomputable section

namespace Cert.Mix.HeadY

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.HeadYIdeal Cert.HeadYIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body on any buffers: each output holds the product if its condition holds, else what it held. -/
theorem body (c : Dev nD) (E : Set ℕ) (i : grid0.Coords) (arg2 : Memref sig .tc .vmem S1024x1024 .bf16) (harg2 : arg2.IsWhole)
    (arg3 : Memref sig .tc .vmem S1024x768 .bf16) (harg3 : arg3.IsWhole) (arg4 : Memref sig .tc .vmem S1024x768 .bf16) (harg4 : arg4.IsWhole)
    (arg5 : Memref sig .tc .vmem S1024x768 .bf16) (harg5 : arg5.IsWhole) (arg6 : Memref sig .tc .vmem S1024x768 .bf16) (harg6 : arg6.IsWhole)
    (x0 : Vec F S1024x1024 .bf16) (x1 y0 y1 y2 : Vec F S1024x768 .bf16) (K : PUnit → sProp 𝕄) :
    iprop(owns (c : Thread nD τ) arg2 fullShare x0 ∗ owns (c : Thread nD τ) arg3 fullShare x1
        ∗ owns (c : Thread nD τ) arg4 fullShare y0 ∗ owns (c : Thread nD τ) arg5 fullShare y1 ∗ owns (c : Thread nD τ) arg6 fullShare y2
        ∗ (iprop(owns (c : Thread nD τ) arg2 fullShare x0 ∗ owns (c : Thread nD τ) arg3 fullShare x1
          ∗ owns (c : Thread nD τ) arg4 fullShare (if k0_cond1 i = 1#1 then k0_pay2 x0 x1 else y0)
          ∗ owns (c : Thread nD τ) arg5 fullShare (if k0_cond2 i = 1#1 then k0_pay3 x0 x1 else y1)
          ∗ owns (c : Thread nD τ) arg6 fullShare (if k0_cond3 i = 1#1 then k0_pay4 x0 x1 else y2)) -∗ K ⟨⟩))
      ⊢ wp frame (wpE (defs₀ (F := F)) Variants.none c none) E
          (cc0_l0_mix_in_da_y i arg2 harg2 arg3 harg3 arg4 harg4 arg5 harg5 arg6 harg6) K := by
  rw [cc0_l0_mix_in_da_y_eq_skeleton]
  unfold cc0_l0_mix_in_da_y_skel
  iintro ⟨H0, H1, H2, H3, H4, Hk⟩
  iapply (load_all c E origin inb_S1024x1024_S1024x1024_0_0 arg2 harg2 x0 _ K _)
  isplitl [H0]; · iexact H0
  iintro H0
  iapply (load_all c E origin inb_S1024x768_S1024x768_0_0 arg3 harg3 x1 _ K _)
  isplitl [H1]; · iexact H1
  iintro H1
  iapply (store_or_keep c E origin inb_S1024x768_S1024x768_0_0 _ arg4 harg4 y0 _ _ K _ _ _)
  isplitl [H2]; · iexact H2
  iintro H2
  iapply (store_or_keep c E origin inb_S1024x768_S1024x768_0_0 _ arg5 harg5 y1 _ _ K _ _ _)
  isplitl [H3]; · iexact H3
  iintro H3
  iapply (store_or_keep c E origin inb_S1024x768_S1024x768_0_0 _ arg6 harg6 y2 _ _ K _ _ _)
  isplitl [H4]; · iexact H4
  iintro H4
  sl_step
  iapply Hk
  isplitl [H0]; · iexact H0
  isplitl [H1]; · iexact H1
  isplitl [H2]; · iexact H2
  isplitl [H3]; · iexact H3
  iexact H4

/-- The product is the same expression at every output. -/
theorem pays : k0_pay3 (F := F) = k0_pay2 ∧ k0_pay4 (F := F) = k0_pay2 := ⟨rfl, rfl⟩

/-- What the region finds. -/
abbrev V (c : Dev nD) (b : Ref sig .tc) : Buf (Elt F) ((c : Thread nD τ).loc b) := m ((c : Thread nD τ).loc b)

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem points : 3 * 4 = cfg0.N := N_0.symm

/-- The product of a point's blocks. -/
def prod (c : Dev nD) (t : Fin cfg0.N) : Vec F S1024x768 .bf16 := k0_pay2 (iblk m c 0 t) (iblk m c 1 t)

/-- The region's data: each output's buffer is at the product of its own point's blocks, all through the run. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => prod m c (ownPoint points 0 t)
    | ⟨3, _⟩ => prod m c (ownPoint points 1 t)
    | ⟨4, _⟩ => prod m c (ownPoint points 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem before0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl

/-- The points at which an output is left alone. -/
theorem idle_at : ∀ (s : Fin 3) (t : Fin grid0.N), idle0 (s.natAdd 2) (grid0.coords t) = decide (t.val % 3 ≠ s.val) := by decide +kernel

theorem stored (c : Dev nD) : Stored (dats m 0 c) 2 points 0 (prod m c) ∧ Stored (dats m 0 c) 3 points 1 (prod m c)
    ∧ Stored (dats m 0 c) 4 points 2 (prod m c) :=
  ⟨⟨fun _ => rfl, idle_at 0, flush0_2, fun _ _ => rfl, fun _ => rfl⟩, ⟨fun _ => rfl, idle_at 1, flush0_3, fun _ _ => rfl, fun _ => rfl⟩,
    ⟨fun _ => rfl, idle_at 2, flush0_4, fun _ _ => rfl, fun _ => rfl⟩⟩

/-- The branches' conditions. -/
theorem cond_at : ∀ t : Fin cfg0.N, (k0_cond1 (grid0.coords t) = 1#1 ↔ t.val % 3 = 0) ∧ (k0_cond2 (grid0.coords t) = 1#1 ↔ t.val % 3 = 1)
    ∧ (k0_cond3 (grid0.coords t) = 1#1 ↔ t.val % 3 = 2) :=
  (by decide +kernel : ∀ t : Fin grid0.N, _)

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ (dats m 0 c).leavesExact 2 t ∗ (dats m 0 c).leavesExact 3 t ∗ (dats m 0 c).leavesExact 4 t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl]
  obtain ⟨p3, p4⟩ := pays (F := F)
  iintro ⟨HΦ, Ho, ⟨%d0, H0⟩, ⟨%d1, H1⟩, ⟨%d2, H2⟩, ⟨%d3, H3⟩, ⟨%d4, H4⟩⟩
  iapply (body c Set.univ (grid0.coords t) _ _ _ _ _ _ _ _ _ _ (iblk m c 0 t) (iblk m c 1 t) _ _ _ _)
  isplitl [H0]; · iexact H0
  isplitl [H1]; · iexact H1
  isplitl [H2]; · iexact H2
  isplitl [H3]; · iexact H3
  isplitl [H4]; · iexact H4
  simp only [p3, p4]
  iintro ⟨H0, H1, H2, H3, H4⟩
  isplitl [HΦ]; · iexact HΦ
  isplitl [Ho]; · iexact Ho
  isplitl [H0]; · iexact H0
  isplitl [H1]; · iexact H1
  obtain ⟨h2, h3, h4⟩ := stored m c
  obtain ⟨b2, b3, b4⟩ := cond_at t
  isplitl [H2]; · iapply (h2.leaves t d2 _ b2); iexact H2
  isplitl [H3]; · iapply (h3.leaves t d3 _ b3); iexact H3
  iapply (h4.leaves t d4 _ b4); iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- The run: every array ends at what the region's data say, and nothing is left in flight. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- So the results are the region's arrays and the arguments are as they were. -/
theorem ends : θ_run defs (onTc (τ := τ) (main (F := F))) ⟨m, fun _ => 0, ρ⟩ (fun r => (∀ c : Dev nD,
      (r.2.mem ((c.tc : Thread nD τ).loc main_v0_0) = (dats m 0 c).arrAt 2 cfg0.N
      ∧ r.2.mem ((c.tc : Thread nD τ).loc main_v0_1) = (dats m 0 c).arrAt 3 cfg0.N
      ∧ r.2.mem ((c.tc : Thread nD τ).loc main_v0_2) = (dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨⟨(h.1 c).1 2, (h.1 c).1 3, (h.1 c).1 4⟩,
      ((h.1 c).1 0).trans (((dats m 0 c).arrAt_in 0 rfl _).trans (A_eq m c 0)),
      ((h.1 c).1 1).trans (((dats m 0 c).arrAt_in 1 rfl _).trans (A_eq m c 1))⟩, h.2⟩) (run m ρ)

end Cert.Mix.HeadY

end
-- ==== Proof.HeadY.lean ====
/- The mixer's three narrow input projections: each output is the rows times its own block of the weights' columns. -/
module

public import proofs.«01_k».proof.Defs
public import proofs.«01_k».proof.Proof.HeadYFrame
public import proofs.«01_k».proof.Proof.Gen.HeadY.Launch
public import proofs.«01_k».proof.Proof.Gen.HeadY.Skeleton
public import proofs.«01_k».proof.Proof.Gen.HeadYRefIdeal.Run
public import Idealize.ShloMosaic.Lib.Quiescent

@[expose] public section

set_option maxRecDepth 16384

noncomputable section

open Idealize.ShloMosaic Idealize.ShloMosaic.TcCoe Idealize.SL.Sem Cert.Mix

namespace Cert.Mix.HeadY

open Cert.HeadYIdeal Cert.HeadYIdeal.Gen

variable (m : (ℓ : Loc nD τ sig) → Buf (Elt Ideal) ℓ) (c : Dev nD)

/-- The two arguments. -/
def X : S4096x1024.Idx → EReal := m ((c : Thread nD τ).loc main_arg0)
def W : S1024x2304.Idx → EReal := m ((c : Thread nD τ).loc main_arg1)

theorem index_at : ∀ t : Fin cfg0.N, win0_0.index t = ![t.val / 3, 0] ∧ win0_1.index t = ![0, t.val % 3] ∧ win0_2.index t = ![t.val / 3, 0]
    ∧ win0_3.index t = ![t.val / 3, 0] ∧ win0_4.index t = ![t.val / 3, 0] :=
  (by decide +kernel : ∀ t : Fin grid0.N, _)

theorem emb0 (t : Fin cfg0.N) (a k : Fin 1024) :
    ((cfg0.win 0).blk t).view.emb (ix2 a k) = ix2 (place (N := 4096) rfl (runOf points t) a) k := by
  have e := (index_at t).1
  funext x; apply Fin.ext
  fin_cases x <;> (blk_simp [e]; rfl)

theorem emb1 (t : Fin cfg0.N) (k : Fin 1024) (b : Fin 768) :
    ((cfg0.win 1).blk t).view.emb (ix2 k b) = ix2 k (place (N := 2304) rfl (placeOf points t) b) := by
  have e := (index_at t).2.1
  funext x; apply Fin.ext
  fin_cases x <;> (blk_simp [e]; rfl)

theorem emb_out (t : Fin cfg0.N) (a : Fin 1024) (b : Fin 768) :
    ((cfg0.win 2).blk t).view.emb (ix2 a b) = ix2 (place (N := 4096) rfl (runOf points t) a) b
    ∧ ((cfg0.win 3).blk t).view.emb (ix2 a b) = ix2 (place (N := 4096) rfl (runOf points t) a) b
    ∧ ((cfg0.win 4).blk t).view.emb (ix2 a b) = ix2 (place (N := 4096) rfl (runOf points t) a) b := by
  obtain ⟨_, _, e, e', e''⟩ := index_at t
  refine ⟨?_, ?_, ?_⟩ <;> (funext x; apply Fin.ext; fin_cases x <;> (blk_simp [e, e', e'']; rfl))

theorem pay_read (x0 : Vec Ideal S1024x1024 .bf16) (x1 : Vec Ideal S1024x768 .bf16) (a : Fin 1024) (b : Fin 768) :
    k0_pay2 (F := Ideal) x0 x1 (ix2 a b) = ∑ k : Fin 1024, (x0 (ix2 a k) * x1 (ix2 k b) : EReal) := by
  pointwise [k0_pay2, k0_pay1]

/-- What the buffer of output `s` is written back with. -/
theorem written (s : Fin 3) (t : Fin cfg0.N) (a : Fin 1024) (b : Fin 768) :
    prod m c (ownPoint points s t) (ix2 a b)
      = slab (q := 3) (n := 768) rfl s (X m c) (W m c) (ix2 (place (N := 4096) rfl (runOf points t) a) b) := by
  refine (pay_read _ _ a b).trans (Finset.sum_congr rfl fun k _ => ?_)
  show X m c (((cfg0.win 0).blk (ownPoint points s t)).view.emb (ix2 a k)) * W m c (((cfg0.win 1).blk (ownPoint points s t)).view.emb (ix2 k b)) = _
  rw [emb0, emb1, runOf_own, placeOf_own]
  rfl

/-- So the arrays after the region. -/
theorem arrs : (dats m 0 c).arrAt 2 cfg0.N = slab (q := 3) (n := 768) rfl 0 (X m c) (W m c)
    ∧ (dats m 0 c).arrAt 3 cfg0.N = slab (q := 3) (n := 768) rfl 1 (X m c) (W m c)
    ∧ (dats m 0 c).arrAt 4 cfg0.N = slab (q := 3) (n := 768) rfl 2 (X m c) (W m c) := by
  obtain ⟨h2, h3, h4⟩ := stored m c
  have at_block (s : Fin 3) (t : Fin cfg0.N) (j : S1024x768.Idx → S4096x768.Idx)
      (h : ∀ a b, j (ix2 a b) = ix2 (place (N := 4096) rfl (runOf points t) a) b) (y : S1024x768.Idx) :
      prod m c (ownPoint points s t) y = slab (q := 3) (n := 768) rfl s (X m c) (W m c) (j y) := by
    obtain ⟨a, b, rfl⟩ := (⟨y 0, y 1, pair_eta y⟩ : ∃ (a : Fin 1024) (b : Fin 768), y = ix2 a b)
    rw [h]
    exact written m c s t a b
  exact ⟨h2.arr _ (by decide +kernel) (Memref.isWhole_whole _) fun t => at_block 0 t _ fun a b => (emb_out t a b).1,
    h3.arr _ (by decide +kernel) (Memref.isWhole_whole _) fun t => at_block 1 t _ fun a b => (emb_out t a b).2.1,
    h4.arr _ (by decide +kernel) (Memref.isWhole_whole _) fun t => at_block 2 t _ fun a b => (emb_out t a b).2.2⟩

/-- The reference's term for output `s`. -/
theorem reference_eq (s : Fin 3) (h) (x : S4096x1024.Idx → EReal) (w : S1024x2304.Idx → EReal) :
    truncf (F := Ideal) .bf16
      (extractStridedSlice Cert.HeadYRefIdeal.S4096x768 ![0, s.val * 768]
        (Host.dotGeneral (φ₁ := .f32) (φ₂ := .f32) Cert.HeadYRefIdeal.dot_S4096x1024_S1024x2304_S4096x2304_1_0_0_1_n_n none
          (extf .f32 x Cert.HeadYRefIdeal.Facts₀.bitsLt_bf16_f32) (extf .f32 w Cert.HeadYRefIdeal.Facts₀.bitsLt_bf16_f32)) h)
      Cert.HeadYRefIdeal.Facts₀.bitsLt_bf16_f32 = slab (q := 3) (n := 768) rfl s x w := by
  funext i
  obtain ⟨a, b, rfl⟩ := (⟨i 0, i 1, pair_eta i⟩ : ∃ (a : Fin 4096) (b : Fin 768), i = ix2 a b)
  unfold slab
  pointwise
  rfl

/-- The two kernels have the same text: the same bodies, and so the same code. -/
theorem same_bodies : Cert.HeadY.defs₀ (F := Bits) = Cert.HeadYIdeal.defs₀ (F := Bits) := by
  unfold Cert.HeadY.defs₀ Cert.HeadYIdeal.defs₀
  congr 1
  funext a b
  fin_cases a
  obtain ⟨t, s⟩ := b
  rfl

theorem same_code : Cert.HeadY.defs (F := Bits) = Cert.HeadYIdeal.defs (F := Bits) :=
  congrArg (Pipeline.defs (Cert.HeadYIdeal.pcfgs (F := Bits))) same_bodies

theorem frame : @Cert.quiescent_HeadY Cert.HeadY.Gen.facts := by
  intro m g _
  have h := ends (F := Bits) m g
  rw [← same_code] at h
  exact (θ_run Cert.HeadY.defs _ _).mono (fun _ h => ⟨fun c => (h.1 c).2, h.2⟩) h

theorem frame_ideal : @Cert.quiescent_HeadYIdeal Cert.HeadYIdeal.Gen.facts := fun m g _ =>
  (θ_run Cert.HeadYIdeal.defs _ _).mono (fun _ h => ⟨fun c => (h.1 c).2, h.2⟩) (ends (F := Ideal) m g)

theorem frame_ref : @Cert.quiescent_HeadYRefIdeal Cert.HeadYRefIdeal.Gen.facts := fun m g _ =>
  (θ_run Cert.HeadYRefIdeal.defs _ _).mono (fun r h => And.intro (fun c => (h c).2.2.2) (sem_eq_zero_of_no_sems (by decide) r.2))
    (Cert.HeadYRefIdeal.Value.run (F := Ideal) m g)

/-- The two programs end with the same products. -/
theorem algebraic : @Cert.algebraic_HeadYIdeal_HeadYRefIdeal Cert.HeadYIdeal.Gen.facts Cert.HeadYRefIdeal.Gen.facts := by
  intro m g m' g' _ hargs
  refine ⟨fun c => slab (q := 3) (n := 768) rfl 0 (X m c) (W m c), fun c => slab (q := 3) (n := 768) rfl 1 (X m c) (W m c),
    fun c => slab (q := 3) (n := 768) rfl 2 (X m c) (W m c), ?_, ?_⟩
  · exact (θ_run defs _ _).mono (fun r h c => ⟨(h.1 c).1.1.trans (arrs m c).1, (h.1 c).1.2.1.trans (arrs m c).2.1, (h.1 c).1.2.2.trans (arrs m c).2.2,
      (h.1 c).2⟩) (ends m g)
  · refine (θ_run Cert.HeadYRefIdeal.defs _ _).mono (fun r h c => ?_) (Cert.HeadYRefIdeal.Value.run m' g')
    have same : ∀ s, slab (q := 3) (n := 768) rfl s _ _ = slab (q := 3) (n := 768) rfl s (X m c) (W m c) := fun s =>
      congrArg₂ (slab (q := 3) (n := 768) rfl s) (hargs c).1 (hargs c).2
    exact ⟨(h c).1.trans ((reference_eq 0 _ _ _).trans (same 0)), (h c).2.1.trans ((reference_eq 1 _ _ _).trans (same 1)),
      (h c).2.2.1.trans ((reference_eq 2 _ _ _).trans (same 2)), (h c).2.2.2⟩

end Cert.Mix.HeadY

end
-- ==== Proof.Summed.lean ====
/- The parts of a body that sums products up in a scratch array: the point's segment starts or continues the sum, and the last
   point hands it out. -/
module

public import proofs.«01_k».proof.Proof.Kept

@[expose] public section

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {nD : Nat} {τ : Topo} {sig : RefSig} {Λ₀ : Labels} {X D A : Shape} {α : Type}
  {defs₀ : Defs nD τ sig (Elt F) Λ₀}

local notation "𝕄" => MT nD τ sig Unit (Elt F) ℕ (UR sig nD τ) ℕ

/-- The sum after a segment's branch: started with `start` of the rows and the segment's block if the first condition holds,
    continued with `more` of them and the sum if the later one does. -/
def extended {R : Type} (first later : BitVec 1) (start : R → Vec F D .bf16 → Vec F A .f32) (more : R → Vec F D .bf16 → Vec F A .f32 → Vec F A .f32)
    (x : R) (d : Vec F D .bf16) (a : Vec F A .f32) : Vec F A .f32 :=
  if later = 1#1 then more x d (if first = 1#1 then start x d else a) else if first = 1#1 then start x d else a

/-- A segment's branch. -/
theorem add_segment (c : Dev nD) (E : Set ℕ) (b first later : BitVec 1) {off sz : Fin X.rank → ℕ} (inb : b = 1#1 → ∀ a, off a + sz a ≤ X.size a)
    {od : Fin D.rank → ℕ} (hod : od = fun _ => 0) (inbd : ∀ a, od a + D.size a ≤ D.size a)
    {oa : Fin A.rank → ℕ} (hoa : oa = fun _ => 0) (inba : ∀ a, oa a + A.size a ≤ A.size a)
    (argx : Memref sig .tc .vmem X .bf16) (hx : argx.IsWhole) (argd : Memref sig .tc .vmem D .bf16) (hd : argd.IsWhole)
    (arga : Memref sig .tc .vmem A .f32) (ha : arga.IsWhole)
    (start : Vec F ⟨X.rank, sz⟩ .bf16 → Vec F D .bf16 → Vec F A .f32)
    (more : Vec F ⟨X.rank, sz⟩ .bf16 → Vec F D .bf16 → Vec F A .f32 → Vec F A .f32)
    (x : Vec F X .bf16) (d : Vec F D .bf16) (a : Vec F A .f32)
    (k : Prog (TpuEff nD τ sig (Elt F) Λ₀ .tc) α) (K : α → sProp 𝕄)
    (hlx : ∀ h : b = 1#1, argx.view.LoadsAt (Rect.unit (s := X) off sz (inb h)).toLoadRect) (hld hla hs hb) :
    iprop(owns (c : Thread nD τ) argx fullShare x ∗ owns (c : Thread nD τ) argd fullShare d ∗ owns (c : Thread nD τ) arga fullShare a
        ∗ (iprop(owns (c : Thread nD τ) argx fullShare x ∗ owns (c : Thread nD τ) argd fullShare d
            ∗ owns (c : Thread nD τ) arga fullShare
              (if h : b = 1#1 then extended first later start more (View.ld x (Rect.unit (s := X) off sz (inb h))) d a else a))
          -∗ wp frame (wpE defs₀ Variants.none c none) E k K))
      ⊢ wp frame (wpE defs₀ Variants.none c none) E
          (if h : b = 1#1 then do
            let v : Vec F ⟨X.rank, sz⟩ .bf16 ← Prog.lift (.load argx (Rect.unit (s := X) off sz (inb h)).toLoadRect (hlx h))
            let w : Vec F D .bf16 ← Prog.lift (.load argd (Rect.unit (s := D) od D.size inbd).toLoadRect hld)
            if _h : first = 1#1 then do
              let _ : Vec F A .f32 ← Prog.lift (.load arga (Rect.unit (s := A) oa A.size inba).toLoadRect hla)
              Prog.lift (.store arga (Rect.unit (s := A) oa A.size inba) (start v w) Finset.univ hs hb)
              if _h : later = 1#1 then do
                let u : Vec F A .f32 ← Prog.lift (.load arga (Rect.unit (s := A) oa A.size inba).toLoadRect hla)
                let _ : Vec F A .f32 ← Prog.lift (.load arga (Rect.unit (s := A) oa A.size inba).toLoadRect hla)
                Prog.lift (.store arga (Rect.unit (s := A) oa A.size inba) (more v w u) Finset.univ hs hb)
                k
              else k
            else
              if _h : later = 1#1 then do
                let u : Vec F A .f32 ← Prog.lift (.load arga (Rect.unit (s := A) oa A.size inba).toLoadRect hla)
                let _ : Vec F A .f32 ← Prog.lift (.load arga (Rect.unit (s := A) oa A.size inba).toLoadRect hla)
                Prog.lift (.store arga (Rect.unit (s := A) oa A.size inba) (more v w u) Finset.univ hs hb)
                k
              else k
          else k) K := by
  by_cases h : b = 1#1
  on_goal 2 =>
    rw [dif_neg h, dif_neg h]
    iintro ⟨Hx, Hd, Ha, Hk⟩
    iapply Hk
    isplitl [Hx]; · iexact Hx
    isplitl [Hd]; · iexact Hd
    iexact Ha
  rw [dif_pos h, dif_pos h]
  unfold extended
  iintro ⟨Hx, Hd, Ha, Hk⟩
  iapply (load_part c E (inb h) argx hx x _ _ _)
  isplitl [Hx]; · iexact Hx
  iintro Hx
  iapply (load_all c E hod inbd argd hd d _ _ _)
  isplitl [Hd]; · iexact Hd
  iintro Hd
  iapply (store_or_keep c E hoa inba first arga ha a _ _ _ _ _ _)
  isplitl [Ha]; · iexact Ha
  iintro Ha
  by_cases l : later = 1#1
  · simp only [dif_pos l, if_pos l]
    iapply (load_all c E hoa inba arga ha _ _ _ _)
    isplitl [Ha]; · iexact Ha
    iintro Ha
    iapply (store_all c E hoa inba arga ha _ _ _ _ _ _ _)
    isplitl [Ha]; · iexact Ha
    iintro Ha
    iapply Hk
    isplitl [Hx]; · iexact Hx
    isplitl [Hd]; · iexact Hd
    iexact Ha
  · simp only [dif_neg l, if_neg l]
    iapply Hk
    isplitl [Hx]; · iexact Hx
    isplitl [Hd]; · iexact Hd
    iexact Ha

/-- The branch that hands the sum out. -/
theorem hand_out (c : Dev nD) (E : Set ℕ) (b : BitVec 1)
    {oa : Fin A.rank → ℕ} (hoa : oa = fun _ => 0) (inba : ∀ a, oa a + A.size a ≤ A.size a)
    {od : Fin D.rank → ℕ} (hod : od = fun _ => 0) (inbd : ∀ a, od a + D.size a ≤ D.size a)
    (arga : Memref sig .tc .vmem A .f32) (ha : arga.IsWhole) (argo : Memref sig .tc .vmem D .bf16) (ho : argo.IsWhole)
    (give : Vec F A .f32 → Vec F D .bf16) (a : Vec F A .f32) (y : Vec F D .bf16)
    (k : Prog (TpuEff nD τ sig (Elt F) Λ₀ .tc) α) (K : α → sProp 𝕄) (hla hlo hs hb) :
    iprop(owns (c : Thread nD τ) arga fullShare a ∗ owns (c : Thread nD τ) argo fullShare y
        ∗ (iprop(owns (c : Thread nD τ) arga fullShare a ∗ owns (c : Thread nD τ) argo fullShare (if b = 1#1 then give a else y))
          -∗ wp frame (wpE defs₀ Variants.none c none) E k K))
      ⊢ wp frame (wpE defs₀ Variants.none c none) E
          (if _h : b = 1#1 then do
            let u : Vec F A .f32 ← Prog.lift (.load arga (Rect.unit (s := A) oa A.size inba).toLoadRect hla)
            let _ : Vec F D .bf16 ← Prog.lift (.load argo (Rect.unit (s := D) od D.size inbd).toLoadRect hlo)
            Prog.lift (.store argo (Rect.unit (s := D) od D.size inbd) (give u) Finset.univ hs hb)
            k
          else k) K := by
  by_cases h : b = 1#1
  · rw [dif_pos h, if_pos h]
    iintro ⟨Ha, Ho, Hk⟩
    iapply (load_all c E hoa inba arga ha a _ _ _)
    isplitl [Ha]; · iexact Ha
    iintro Ha
    iapply (store_all c E hod inbd argo ho y _ _ _ _ _ _)
    isplitl [Ho]; · iexact Ho
    iintro Ho
    iapply Hk
    isplitl [Ha]; · iexact Ha
    iexact Ho
  · rw [dif_neg h, if_neg h]
    iintro ⟨Ha, Ho, Hk⟩
    iapply Hk
    isplitl [Ha]; · iexact Ha
    iexact Ho

end Cert.Mix

end
-- ==== Proof.InDwFrame.lean ====
/- The wide projections' weights: one segment after another, the products of four blocks of rows are summed up in a scratch
   array and handed out at the segment's last point. -/
module

public import proofs.«01_k».proof.Proof.Gen.InDwIdeal.Skeleton
public import proofs.«01_k».proof.Proof.Gen.InDwIdeal.Launch
public import proofs.«01_k».proof.Proof.Gen.InDwIdeal.Points
public import proofs.«01_k».proof.Proof.Summed
public import proofs.«01_k».proof.Proof.Products
public import Idealize.ShloMosaic.Lib.Claim
public import Idealize.ShloMosaic.Lib.Pipeline.ValueKit

@[expose] public section

set_option maxRecDepth 16384

noncomputable section

namespace Cert.Mix.InDw

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.InDwIdeal Cert.InDwIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The conditions that a segment's first and its later points meet. -/
abbrev firstc (i : grid0.Coords) : BitVec 1 :=
  Scalar.cmpi .ne (Scalar.extui (Scalar.cmpi .eq (BitVec.ofNat 32 (i 1).val) 0#32) : BitVec 32) 0#32
abbrev laterc (i : grid0.Coords) : BitVec 1 :=
  Scalar.cmpi .ne (Scalar.extui (Scalar.cmpi .sgt (BitVec.ofNat 32 (i 1).val) 0#32) : BitVec 32) 0#32

/-- The sum after the branch of a segment. -/
def grown (i : grid0.Coords) (b : BitVec 1) {off : Fin 2 → ℕ} (inb : b = 1#1 → ∀ a, off a + S1024x1024.size a ≤ S4096x1024.size a)
    (x : Vec F S4096x1024 .bf16) (d : Vec F S1024x1024 .bf16) (a : Vec F S1024x1024 .f32) : Vec F S1024x1024 .f32 :=
  if h : b = 1#1 then extended (firstc i) (laterc i) k0_pay3 k0_pay4 (View.ld x (Rect.unit (s := S4096x1024) off S1024x1024.size (inb h))) d a else a

/-- The sum after all branches. -/
def total (i : grid0.Coords) (x : Vec F S4096x1024 .bf16) (d0 d1 d2 d3 d4 d5 : Vec F S1024x1024 .bf16) (a : Vec F S1024x1024 .f32) :
    Vec F S1024x1024 .f32 :=
  grown i (k0_cond16 i) (k0_off6_inb i) x d5 (grown i (k0_cond13 i) (k0_off5_inb i) x d4 (grown i (k0_cond10 i) (k0_off4_inb i) x d3
    (grown i (k0_cond7 i) (k0_off3_inb i) x d2 (grown i (k0_cond4 i) (k0_off2_inb i) x d1 (grown i (k0_cond1 i) (k0_off1_inb i) x d0 a)))))

/-- The body on any buffers. -/
theorem body (c : Dev nD) (E : Set ℕ) (i : grid0.Coords)
    (arg2 : Memref sig .tc .vmem S4096x1024 .bf16) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1024x1024 .bf16) (harg6 : arg6.IsWhole)
    (arg7 : Memref sig .tc .vmem S1024x1024 .bf16) (harg7 : arg7.IsWhole)
    (arg8 : Memref sig .tc .vmem S1024x1024 .bf16) (harg8 : arg8.IsWhole)
    (arg9 : Memref sig .tc .vmem S1024x1024 .bf16) (harg9 : arg9.IsWhole)
    (arg10 : Memref sig .tc .vmem S1024x1024 .f32) (harg10 : arg10.IsWhole)
    (x : Vec F S4096x1024 .bf16) (d0 d1 d2 d3 d4 d5 y : Vec F S1024x1024 .bf16) (a : Vec F S1024x1024 .f32) (K : PUnit → sProp 𝕄) :
    iprop(owns (c : Thread nD τ) arg2 fullShare x
        ∗ owns (c : Thread nD τ) arg3 fullShare d0 ∗ owns (c : Thread nD τ) arg4 fullShare d1
        ∗ owns (c : Thread nD τ) arg5 fullShare d2 ∗ owns (c : Thread nD τ) arg6 fullShare d3
        ∗ owns (c : Thread nD τ) arg7 fullShare d4 ∗ owns (c : Thread nD τ) arg8 fullShare d5
        ∗ owns (c : Thread nD τ) arg9 fullShare y ∗ owns (c : Thread nD τ) arg10 fullShare a
        ∗ (iprop(owns (c : Thread nD τ) arg2 fullShare x
            ∗ owns (c : Thread nD τ) arg3 fullShare d0 ∗ owns (c : Thread nD τ) arg4 fullShare d1
            ∗ owns (c : Thread nD τ) arg5 fullShare d2 ∗ owns (c : Thread nD τ) arg6 fullShare d3
            ∗ owns (c : Thread nD τ) arg7 fullShare d4 ∗ owns (c : Thread nD τ) arg8 fullShare d5
            ∗ owns (c : Thread nD τ) arg9 fullShare (if k0_cond19 i = 1#1 then k0_pay1 (total i x d0 d1 d2 d3 d4 d5 a) else y)
            ∗ owns (c : Thread nD τ) arg10 fullShare (total i x d0 d1 d2 d3 d4 d5 a)) -∗ K ⟨⟩))
      ⊢ wp frame (wpE (defs₀ (F := F)) Variants.none c none) E
          (cc0_l0_mix_in_dw i arg2 harg2 arg3 harg3 arg4 harg4 arg5 harg5 arg6 harg6 arg7 harg7 arg8 harg8 arg9 harg9 arg10 harg10) K := by
  rw [cc0_l0_mix_in_dw_eq_skeleton]
  unfold cc0_l0_mix_in_dw_skel
  rw [k0_part1_eq_skeleton]
  unfold k0_part1_skel
  rw [wp_bind]
  iintro ⟨Hx, H0, H1, H2, H3, H4, H5, Hy, Ha, Hk⟩
  iapply (add_segment c E (k0_cond1 i) (firstc i) (laterc i) (k0_off1_inb i) origin inb_S1024x1024_S1024x1024_0_0 origin
    inb_S1024x1024_S1024x1024_0_0 arg2 harg2 arg3 harg3 arg10 harg10 k0_pay3 k0_pay4 x d0 a _ _ _ _ _ _ _)
  isplitl [Hx]; · iexact Hx
  isplitl [H0]; · iexact H0
  isplitl [Ha]; · iexact Ha
  iintro ⟨Hx, H0, Ha⟩
  iapply (add_segment c E (k0_cond4 i) (firstc i) (laterc i) (k0_off2_inb i) origin inb_S1024x1024_S1024x1024_0_0 origin
    inb_S1024x1024_S1024x1024_0_0 arg2 harg2 arg4 harg4 arg10 harg10 k0_pay6 k0_pay7 x d1 _ _ _ _ _ _ _ _)
  isplitl [Hx]; · iexact Hx
  isplitl [H1]; · iexact H1
  isplitl [Ha]; · iexact Ha
  iintro ⟨Hx, H1, Ha⟩
  iapply (add_segment c E (k0_cond7 i) (firstc i) (laterc i) (k0_off3_inb i) origin inb_S1024x1024_S1024x1024_0_0 origin
    inb_S1024x1024_S1024x1024_0_0 arg2 harg2 arg5 harg5 arg10 harg10 k0_pay9 k0_pay10 x d2 _ _ _ _ _ _ _ _)
  isplitl [Hx]; · iexact Hx
  isplitl [H2]; · iexact H2
  isplitl [Ha]; · iexact Ha
  iintro ⟨Hx, H2, Ha⟩
  iapply (add_segment c E (k0_cond10 i) (firstc i) (laterc i) (k0_off4_inb i) origin inb_S1024x1024_S1024x1024_0_0 origin
    inb_S1024x1024_S1024x1024_0_0 arg2 harg2 arg6 harg6 arg10 harg10 k0_pay12 k0_pay13 x d3 _ _ _ _ _ _ _ _)
  isplitl [Hx]; · iexact Hx
  isplitl [H3]; · iexact H3
  isplitl [Ha]; · iexact Ha
  iintro ⟨Hx, H3, Ha⟩
  iapply (add_segment c E (k0_cond13 i) (firstc i) (laterc i) (k0_off5_inb i) origin inb_S1024x1024_S1024x1024_0_0 origin
    inb_S1024x1024_S1024x1024_0_0 arg2 harg2 arg7 harg7 arg10 harg10 k0_pay15 k0_pay16 x d4 _ _ _ _ _ _ _ _)
  isplitl [Hx]; · iexact Hx
  isplitl [H4]; · iexact H4
  isplitl [Ha]; · iexact Ha
  iintro ⟨Hx, H4, Ha⟩
  iapply (add_segment c E (k0_cond16 i) (firstc i) (laterc i) (k0_off6_inb i) origin inb_S1024x1024_S1024x1024_0_0 origin
    inb_S1024x1024_S1024x1024_0_0 arg2 harg2 arg8 harg8 arg10 harg10 k0_pay18 k0_pay19 x d5 _ _ _ _ _ _ _ _)
  isplitl [Hx]; · iexact Hx
  isplitl [H5]; · iexact H5
  isplitl [Ha]; · iexact Ha
  iintro ⟨Hx, H5, Ha⟩
  iapply (le_wp_ret _ _)
  iapply (hand_out c E (k0_cond19 i) origin inb_S1024x1024_S1024x1024_0_0 origin inb_S1024x1024_S1024x1024_0_0 arg10 harg10 arg9 harg9
    k0_pay1 _ y _ _ _ _ _ _)
  isplitl [Ha]; · iexact Ha
  isplitl [Hy]; · iexact Hy
  iintro ⟨Ha, Hy⟩
  sl_step
  iapply Hk
  isplitl [Hx]; · iexact Hx
  isplitl [H0]; · iexact H0
  isplitl [H1]; · iexact H1
  isplitl [H2]; · iexact H2
  isplitl [H3]; · iexact H3
  isplitl [H4]; · iexact H4
  isplitl [H5]; · iexact H5
  isplitl [Hy]; · iexact Hy
  iexact Ha

/-- What the region finds. -/
abbrev V (c : Dev nD) (b : Ref sig .tc) : Buf (Elt F) ((c : Thread nD τ).loc b) := m ((c : Thread nD τ).loc b)

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem points : 4 * 6 = cfg0.N := N_0.symm

/-- The rows of the input that a point reads. -/
def rows (c : Dev nD) (t : Fin cfg0.N) : Vec F S1024x1024 .bf16 :=
  fun y => iblk m c 0 t (ix2 (Cert.Ffn.place (N := 4096) rfl (placeOf points t) (y 0)) (y 1))

/-- The block of its segment that a point reads. -/
def seg (c : Dev nD) (t : Fin cfg0.N) : Vec F S1024x1024 .bf16 :=
  if t.val / 4 = 0 then iblk m c 1 t else if t.val / 4 = 1 then iblk m c 2 t else if t.val / 4 = 2 then iblk m c 3 t
  else if t.val / 4 = 3 then iblk m c 4 t else if t.val / 4 = 4 then iblk m c 5 t else iblk m c 6 t

/-- One point's step: a segment's first point starts the sum, the others add to it. -/
def grow (c : Dev nD) (t : Fin cfg0.N) (d : Vec F S1024x1024 .bf16) (a : Vec F S1024x1024 .f32) : Vec F S1024x1024 .f32 :=
  if t.val % 4 = 0 then k0_pay3 (rows m c t) d else k0_pay4 (rows m c t) d a

/-- The sum after a point. -/
def acc (c : Dev nD) : (n : ℕ) → n < cfg0.N → Vec F S1024x1024 .f32
  | 0, h => k0_pay3 (rows m c ⟨0, h⟩) (seg m c ⟨0, h⟩)
  | n + 1, h => grow m c ⟨n + 1, h⟩ (seg m c ⟨n + 1, h⟩) (acc c n (Nat.lt_of_succ_lt h))

/-- What a segment's last point hands out. -/
def given (c : Dev nD) (t : Fin cfg0.N) : Vec F S1024x1024 .bf16 := k0_pay1 (acc m c t.val t.isLt)

theorem first_at : ∀ t : Fin cfg0.N, firstc (grid0.coords t) = 1#1 ↔ t.val % 4 = 0 := (by decide +kernel : ∀ t : Fin grid0.N, _)
theorem later_at : ∀ t : Fin cfg0.N, laterc (grid0.coords t) = 1#1 ↔ t.val % 4 ≠ 0 := (by decide +kernel : ∀ t : Fin grid0.N, _)
theorem last_at : ∀ t : Fin cfg0.N, k0_cond19 (grid0.coords t) = 1#1 ↔ t.val % 4 = 3 := (by decide +kernel : ∀ t : Fin grid0.N, _)

theorem cond_at : ∀ t : Fin cfg0.N, (k0_cond1 (grid0.coords t) = 1#1 ↔ t.val / 4 = 0)
    ∧ (k0_cond4 (grid0.coords t) = 1#1 ↔ t.val / 4 = 1) ∧ (k0_cond7 (grid0.coords t) = 1#1 ↔ t.val / 4 = 2)
    ∧ (k0_cond10 (grid0.coords t) = 1#1 ↔ t.val / 4 = 3) ∧ (k0_cond13 (grid0.coords t) = 1#1 ↔ t.val / 4 = 4)
    ∧ (k0_cond16 (grid0.coords t) = 1#1 ↔ t.val / 4 = 5) :=
  (by decide +kernel : ∀ t : Fin grid0.N, _)

/-- Where a point's rows begin. -/
theorem off_at : ∀ t : Fin cfg0.N, k0_off1 (grid0.coords t) = ![t.val % 4 * 1024, 0]
    ∧ k0_off2 (grid0.coords t) = ![t.val % 4 * 1024, 0] ∧ k0_off3 (grid0.coords t) = ![t.val % 4 * 1024, 0]
    ∧ k0_off4 (grid0.coords t) = ![t.val % 4 * 1024, 0] ∧ k0_off5 (grid0.coords t) = ![t.val % 4 * 1024, 0]
    ∧ k0_off6 (grid0.coords t) = ![t.val % 4 * 1024, 0] :=
  (by decide +kernel : ∀ t : Fin grid0.N, _)

/-- A segment's branch: at the segment's points the step, else nothing. -/
theorem grown_eq (c : Dev nD) (t : Fin cfg0.N) (s : ℕ) (b : BitVec 1) (hb : b = 1#1 ↔ t.val / 4 = s) {off : Fin 2 → ℕ}
    (ho : off = ![t.val % 4 * 1024, 0]) (inb : b = 1#1 → ∀ a, off a + S1024x1024.size a ≤ S4096x1024.size a) (d : Vec F S1024x1024 .bf16)
    (a : Vec F S1024x1024 .f32) : grown (grid0.coords t) b inb (iblk m c 0 t) d a = if t.val / 4 = s then grow m c t d a else a := by
  unfold grown
  by_cases h : b = 1#1
  · have e : View.ld (Val := Elt F) (e' := .bf16) (iblk m c 0 t) (Rect.unit (s := S4096x1024) off S1024x1024.size (inb h)) = rows m c t := by
      subst ho
      funext y
      refine View.ld_unit_apply_of _ _ _ _ _ _ fun a => ?_
      fin_cases a
      · rfl
      · exact (Nat.zero_add _).symm
    rw [dif_pos h, if_pos (hb.mp h)]
    unfold extended grow
    by_cases z : t.val % 4 = 0
    · rw [if_neg (fun l => (later_at t).mp l z), if_pos ((first_at t).mpr z), if_pos z]
      exact congrArg (fun x => k0_pay3 x d) e
    · rw [if_pos ((later_at t).mpr z), if_neg (fun f => z ((first_at t).mp f)), if_neg z]
      exact congrArg (fun x => k0_pay4 x d a) e
  · rw [dif_neg h, if_neg (fun e => h (hb.mpr e))]

theorem total_eq (c : Dev nD) (t : Fin cfg0.N) (a : Vec F S1024x1024 .f32) :
    total (grid0.coords t) (iblk m c 0 t) (iblk m c 1 t) (iblk m c 2 t) (iblk m c 3 t) (iblk m c 4 t) (iblk m c 5 t) (iblk m c 6 t) a
      = grow m c t (seg m c t) a := by
  obtain ⟨c0, c1, c2, c3, c4, c5⟩ := cond_at t
  obtain ⟨o0, o1, o2, o3, o4, o5⟩ := off_at t
  have hs : t.val / 4 < 6 := Nat.div_lt_of_lt_mul (lt_of_lt_of_eq t.isLt points.symm)
  unfold total seg
  rw [grown_eq m c t 0 _ c0 o0, grown_eq m c t 1 _ c1 o1, grown_eq m c t 2 _ c2 o2, grown_eq m c t 3 _ c3 o3, grown_eq m c t 4 _ c4 o4,
    grown_eq m c t 5 _ c5 o5]
  generalize t.val / 4 = s at hs ⊢
  interval_cases s <;> rfl

/-- Between two points the scratch array is at the sum after the first of them. -/
def between (c : Dev nD) : (n : ℕ) → n ≤ cfg0.N → sProp 𝕄
  | 0, _ => Pipeline.ΦA spec0 c
  | n + 1, h => iprop(owns (c : Thread nD τ) (Memref.whole cc0_scratch0) fullShare (acc m c n h) ∗ (∃ r, prngReg c r))

theorem any_eq (c : Dev nD) : (Pipeline.ΦA spec0 c : sProp 𝕄)
    = iprop((∃ d, owns (c : Thread nD τ) (Memref.whole cc0_scratch0) fullShare d) ∗ (∃ r, prngReg c r)) := by
  unfold Pipeline.ΦA
  rw [scopedRest0_eq]
  simp only [owns_whole]

/-- So a point finds the scratch array at contents from which its step leads to the sum after it. -/
theorem opens (c : Dev nD) (t : Fin cfg0.N) : between m c t.val (Nat.le_of_lt t.isLt)
    ⊢ iprop(∃ a, ⌜grow m c t (seg m c t) a = acc m c t.val t.isLt⌝ ∗ owns (c : Thread nD τ) (Memref.whole cc0_scratch0) fullShare a
      ∗ (∃ r, prngReg c r)) := by
  obtain ⟨n, hn⟩ := t
  cases n with
  | zero =>
    dsimp only [between]
    rw [any_eq]
    iintro ⟨⟨%d, Hs⟩, Hg⟩
    iexists d
    isplitr; · ipureintro; rfl
    isplitl [Hs]; · iexact Hs
    iexact Hg
  | succ n =>
    dsimp only [between]
    iintro ⟨Hs, Hg⟩
    iexists _
    isplitr; · ipureintro; rfl
    isplitl [Hs]; · iexact Hs
    iexact Hg

/-- The region's data: the output's buffer is at what its segment's last point hands out, all through the segment. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => given m c (ownPoint points 3 t)
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]

/-- An input's buffer is found at the point's block. -/
theorem before_in (c : Dev nD) (t : Fin cfg0.N) : (∀ d, (dats m 0 c).before 0 t d = iblk m c 0 t)
    ∧ (∀ d, (dats m 0 c).before 1 t d = iblk m c 1 t) ∧ (∀ d, (dats m 0 c).before 2 t d = iblk m c 2 t)
    ∧ (∀ d, (dats m 0 c).before 3 t d = iblk m c 3 t) ∧ (∀ d, (dats m 0 c).before 4 t d = iblk m c 4 t)
    ∧ (∀ d, (dats m 0 c).before 5 t d = iblk m c 5 t) ∧ (∀ d, (dats m 0 c).before 6 t d = iblk m c 6 t) := by
  refine ⟨fun d => ?_, fun d => ?_, fun d => ?_, fun d => ?_, fun d => ?_, fun d => ?_, fun d => ?_⟩
  all_goals exact ((dats m 0 c).before_in_eq_fetched _ rfl (fun _ => rfl) (fun _ _ _ => rfl) (fun _ => rfl) t d).trans rfl

theorem idle_at : ∀ t : Fin grid0.N, idle0 7 (grid0.coords t) = decide (t.val % 4 ≠ 3) := by decide +kernel

theorem stored (c : Dev nD) : Stored (dats m 0 c) 7 points 3 (given m c) := ⟨fun _ => rfl, idle_at, flush0_7, fun _ _ => rfl, fun _ => rfl⟩

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t) ∗ owns (c : Thread nD τ) (st0_5 t) fullShare (iblk m c 5 t)
    ∗ owns (c : Thread nD τ) (st0_6 t) fullShare (iblk m c 6 t) ∗ (dats m 0 c).leavesExact 7 t)

theorem opened (c : Dev nD) (t : Fin cfg0.N) : (dats m 0 c).Φ t.castSucc = between m c t.val (Nat.le_of_lt t.isLt) := by
  dsimp only [dats]; exact Pipeline.Dat.Φ_castSucc (between m c) t

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  obtain ⟨b0, b1, b2, b3, b4, b5, b6⟩ := before_in m c t
  simp only [b0, b1, b2, b3, b4, b5, b6]
  rw [show (dats m 0 c).Φ t.succ = iprop(owns (c : Thread nD τ) (Memref.whole cc0_scratch0) fullShare (acc m c t.val t.isLt) ∗ (∃ r, prngReg c r)) from rfl,
    show (dats m 0 c).owesAt () t.succ = (dats m 0 c).owesAt () t.castSucc from rfl, opened]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HΦ' := (opens m c t) $$ HΦ
  icases HΦ' with ⟨%a, %ha, Hs, Hg⟩
  iapply (body c Set.univ (grid0.coords t) _ _ _ _ _ _ _ _ _ _ _ _ _ _ _ _ _ _ (iblk m c 0 t) (iblk m c 1 t) (iblk m c 2 t) (iblk m c 3 t)
    (iblk m c 4 t) (iblk m c 5 t) (iblk m c 6 t) _ a _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hs]; · iexact Hs
  rw [total_eq, ha]
  iintro ⟨H0, H1, H2, H3, H4, H5, H6, H7, Hs⟩
  isplitl [Hs Hg]
  · isplitl [Hs]; · iexact Hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply ((stored m c).leaves t d7 _ (last_at t)); iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- At the end the sum is forgotten. -/
theorem closes (c : Dev nD) : (dats m 0 c).Φ (Fin.last cfg0.N) ⊢ Pipeline.ΦA spec0 c := by
  rw [show (dats m 0 c).Φ (Fin.last cfg0.N) = iprop(owns (c : Thread nD τ) (Memref.whole cc0_scratch0) fullShare (acc m c 23 (by decide))
    ∗ (∃ r, prngReg c r)) from rfl, any_eq]
  iintro ⟨Hs, Hg⟩
  isplitl [Hs]; · iexists _; iexact Hs
  iexact Hg

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- The run: every array ends at what the region's data say, and nothing is left in flight. -/
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := closes m)

/-- So the result is the region's array and the arguments are as they were. -/
theorem ends : θ_run defs (onTc (τ := τ) (main (F := F))) ⟨m, fun _ => 0, ρ⟩ (fun r => (∀ c : Dev nD,
      r.2.mem ((c.tc : Thread nD τ).loc main_v0) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun _ h => ⟨fun c => ?_, h.2⟩) (run m ρ)
  have arg := fun w hw => ((h.1 c).1 w).trans (((dats m 0 c).arrAt_in w hw _).trans (A_eq m c w))
  exact ⟨(h.1 c).1 7, arg 0 rfl, arg 1 rfl, arg 2 rfl, arg 3 rfl, arg 4 rfl, arg 5 rfl, arg 6 rfl⟩

end Cert.Mix.InDw

end
-- ==== Proof.InDw.lean ====
/- The gradient of the wide projections' weights: per segment, four blocks of rows summed up in a scratch array. -/
module

public import proofs.«01_k».proof.Defs
public import proofs.«01_k».proof.Proof.InDwFrame
public import proofs.«01_k».proof.Proof.InDx
public import proofs.«01_k».proof.Proof.Gen.InDw.Launch
public import proofs.«01_k».proof.Proof.Gen.InDw.Skeleton
public import proofs.«01_k».proof.Proof.Gen.InDwRefIdeal.Run
public import Idealize.ShloMosaic.Lib.Quiescent

@[expose] public section

set_option maxRecDepth 16384

noncomputable section

open Idealize.ShloMosaic Idealize.ShloMosaic.TcCoe Idealize.SL.Sem Cert.Mix

namespace Cert.Mix.InDw

open Cert.InDwIdeal Cert.InDwIdeal.Gen

variable (m : (ℓ : Loc nD τ sig) → Buf (Elt Ideal) ℓ) (c : Dev nD)

/-- The rows, and the six segments' gradients side by side. -/
def X : S4096x1024.Idx → EReal := m ((c : Thread nD τ).loc main_arg0)
def J : Cert.InDwRefIdeal.S4096x6144.Idx → EReal :=
  InDx.joined (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The result that the program should end with. -/
abbrev want : S1024x6144.Idx → EReal := byWeights (X m c) (J m c)

theorem index_at : ∀ t : Fin cfg0.N, win0_0.index t = ![0, 0] ∧ (t.val / 4 = 0 → win0_1.index t = ![t.val % 4, 0])
    ∧ (t.val / 4 = 1 → win0_2.index t = ![t.val % 4, 0]) ∧ (t.val / 4 = 2 → win0_3.index t = ![t.val % 4, 0])
    ∧ (t.val / 4 = 3 → win0_4.index t = ![t.val % 4, 0]) ∧ (t.val / 4 = 4 → win0_5.index t = ![t.val % 4, 0])
    ∧ (t.val / 4 = 5 → win0_6.index t = ![t.val % 4, 0]) ∧ win0_7.index t = ![0, t.val / 4] :=
  (by decide +kernel : ∀ t : Fin grid0.N, _)

/-- A place in a point's block of rows. -/
abbrev row (t : Fin cfg0.N) (k : Fin 1024) : Fin 4096 := place (N := 4096) rfl (placeOf points t) k

theorem emb_in (t : Fin cfg0.N) (r : Fin 4096) (a : Fin 1024) : ((cfg0.win 0).blk t).view.emb (ix2 r a) = ix2 r a := by
  have e := (index_at t).1
  funext x; apply Fin.ext
  fin_cases x <;> blk_simp [e]

/-- Where the segments' blocks lie, at the points that read them. -/
theorem emb_seg (t : Fin cfg0.N) (k b : Fin 1024) :
    (t.val / 4 = 0 → ((cfg0.win 1).blk t).view.emb (ix2 k b) = ix2 (row t k) b)
    ∧ (t.val / 4 = 1 → ((cfg0.win 2).blk t).view.emb (ix2 k b) = ix2 (row t k) b)
    ∧ (t.val / 4 = 2 → ((cfg0.win 3).blk t).view.emb (ix2 k b) = ix2 (row t k) b)
    ∧ (t.val / 4 = 3 → ((cfg0.win 4).blk t).view.emb (ix2 k b) = ix2 (row t k) b)
    ∧ (t.val / 4 = 4 → ((cfg0.win 5).blk t).view.emb (ix2 k b) = ix2 (row t k) b)
    ∧ (t.val / 4 = 5 → ((cfg0.win 6).blk t).view.emb (ix2 k b) = ix2 (row t k) b) := by
  obtain ⟨-, e0, e1, e2, e3, e4, e5, -⟩ := index_at t
  refine ⟨fun h => ?_, fun h => ?_, fun h => ?_, fun h => ?_, fun h => ?_, fun h => ?_⟩
  on_goal 1 => have e := e0 h
  on_goal 2 => have e := e1 h
  on_goal 3 => have e := e2 h
  on_goal 4 => have e := e3 h
  on_goal 5 => have e := e4 h
  on_goal 6 => have e := e5 h
  all_goals
    funext x; apply Fin.ext
    fin_cases x <;> (blk_simp [e]; rfl)

theorem emb_out (t : Fin cfg0.N) (a b : Fin 1024) :
    ((cfg0.win 7).blk t).view.emb (ix2 a b) = ix2 a (place (N := 6144) rfl (runOf points t) b) := by
  have e := (index_at t).2.2.2.2.2.2.2
  funext x; apply Fin.ext
  fin_cases x <;> (blk_simp [e]; rfl)

/-- The block that a point reads of its segment, as entries of the joined segments. -/
theorem seg_read (t : Fin cfg0.N) (k b : Fin 1024) :
    seg m c t (ix2 k b) = J m c (ix2 (row t k) (place (N := 6144) rfl (runOf points t) b)) := by
  obtain ⟨j0, j1, j2, j3, j4, j5⟩ := InDx.joined_read (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (row t k) b
  obtain ⟨e0, e1, e2, e3, e4, e5⟩ := emb_seg t k b
  obtain ⟨s, hs⟩ : ∃ s : Fin 6, runOf points t = s := ⟨_, rfl⟩
  have h : t.val / 4 = s.val := congrArg Fin.val hs
  unfold seg J
  rw [hs]
  fin_cases s
  · rw [if_pos h]; exact (congrArg (m ((c : Thread nD τ).loc main_arg1)) (e0 h)).trans j0.symm
  · rw [if_neg (by rw [h]; decide), if_pos h]; exact (congrArg (m ((c : Thread nD τ).loc main_arg2)) (e1 h)).trans j1.symm
  · rw [if_neg (by rw [h]; decide), if_neg (by rw [h]; decide), if_pos h]
    exact (congrArg (m ((c : Thread nD τ).loc main_arg3)) (e2 h)).trans j2.symm
  · rw [if_neg (by rw [h]; decide), if_neg (by rw [h]; decide), if_neg (by rw [h]; decide), if_pos h]
    exact (congrArg (m ((c : Thread nD τ).loc main_arg4)) (e3 h)).trans j3.symm
  · rw [if_neg (by rw [h]; decide), if_neg (by rw [h]; decide), if_neg (by rw [h]; decide), if_neg (by rw [h]; decide), if_pos h]
    exact (congrArg (m ((c : Thread nD τ).loc main_arg5)) (e4 h)).trans j4.symm
  · rw [if_neg (by rw [h]; decide), if_neg (by rw [h]; decide), if_neg (by rw [h]; decide), if_neg (by rw [h]; decide),
      if_neg (by rw [h]; decide)]
    exact (congrArg (m ((c : Thread nD τ).loc main_arg6)) (e5 h)).trans j5.symm

/-- One point's product. -/
abbrev part (t : Fin cfg0.N) : S1024x1024.Idx → EReal := k0_pay3 (F := Ideal) (rows m c t) (seg m c t)

theorem pay_read (x d : Vec Ideal S1024x1024 .bf16) (a b : Fin 1024) :
    k0_pay3 (F := Ideal) x d (ix2 a b) = ∑ k : Fin 1024, (d (ix2 k b) * x (ix2 k a) : EReal) := by
  refine Eq.trans (b := ∑ k : Fin 1024, (x (ix2 k a) * d (ix2 k b) : EReal)) ?_ (Finset.sum_congr rfl fun k _ => mul_comm _ _)
  pointwise [k0_pay3, k0_pay2]

theorem part_read (t : Fin cfg0.N) (a b : Fin 1024) : part m c t (ix2 a b)
    = ∑ k : Fin 1024, J m c (ix2 (row t k) (place (N := 6144) rfl (runOf points t) b)) * X m c (ix2 (row t k) a) := by
  refine (pay_read _ _ a b).trans (Finset.sum_congr rfl fun k _ => ?_)
  rw [seg_read]
  exact congrArg (_ * X m c ·) (emb_in t (row t k) a)

/-- A segment's later points add their product to the sum. -/
theorem acc_later (t s : Fin cfg0.N) (h : t.val = s.val + 1) (n : ¬t.val % 4 = 0) :
    acc m c t.val t.isLt = fun y => (acc m c s.val s.isLt y : EReal) + part m c t y := by
  obtain ⟨t, ht⟩ := t
  obtain rfl : t = s.val + 1 := h
  refine (if_neg n).trans ?_
  simp only [part, k0_pay4, k0_pay3, shapeCast_self]
  rfl

theorem acc_first (t : Fin cfg0.N) (h : t.val % 4 = 0) : acc m c t.val t.isLt = part m c t := by
  obtain ⟨t, ht⟩ := t
  cases t with
  | zero => rfl
  | succ n => exact if_pos h

/-- What a segment's last point hands out: the whole sum over the rows. -/
theorem given_read (t : Fin cfg0.N) (h : t.val % 4 = 3) (a b : Fin 1024) :
    given m c t (ix2 a b) = want m c (ix2 a (place (N := 6144) rfl (runOf points t) b)) := by
  refine sum_of_four (n := 4096) (w := 1024) rfl (fun t => acc m c t.val t.isLt) (given m c) (part m c)
    (acc_first m c) (fun t s e l _ => acc_later m c t s e (by omega)) (fun t s e l => acc_later m c t s e (by omega)) t h (ix2 a b)
    (fun k => J m c (ix2 k (place (N := 6144) rfl (runOf points t) b)) * X m c (ix2 k a)) fun s q hq hs => ?_
  rw [part_read, show runOf points s = runOf points t from Fin.ext hs, show q = placeOf points s from Fin.ext hq.symm]

/-- So the array after the region. -/
theorem arr : (dats m 0 c).arrAt 7 cfg0.N = want m c := by
  refine (stored m c).arr _ (by decide +kernel) (Memref.isWhole_whole _) fun t y => ?_
  obtain ⟨a, b, rfl⟩ := (⟨y 0, y 1, pair_eta y⟩ : ∃ (a b : Fin 1024), y = ix2 a b)
  rw [emb_out t a b, ← runOf_own points 3 t]
  exact given_read m c _ (congrArg Fin.val (placeOf_own points 3 t)) a b

/-- The reference's term. -/
theorem reference_eq (x : S4096x1024.Idx → EReal) (d : Cert.InDwRefIdeal.S4096x6144.Idx → EReal) :
    truncf (F := Ideal) .bf16 (transpose Cert.InDwRefIdeal.S1024x6144 [1, 0]
      (Host.dotGeneral (φ₁ := .f32) (φ₂ := .f32) Cert.InDwRefIdeal.dot_S4096x6144_S4096x1024_S6144x1024_0_0_1_1_n_n none
        d (extf .f32 x Cert.InDwRefIdeal.Facts₀.bitsLt_bf16_f32)) Cert.InDwRefIdeal.Facts₀.transposes_S6144x1024_S1024x6144_1_0)
      Cert.InDwRefIdeal.Facts₀.bitsLt_bf16_f32 = byWeights x d := by
  funext i
  obtain ⟨a, b, rfl⟩ := (⟨i 0, i 1, pair_eta i⟩ : ∃ (a : Fin 1024) (b : Fin 6144), i = ix2 a b)
  unfold byWeights
  pointwise

/-- The two kernels have the same text: the same bodies, and so the same code. -/
theorem same_bodies : Cert.InDw.defs₀ (F := Bits) = Cert.InDwIdeal.defs₀ (F := Bits) := by
  unfold Cert.InDw.defs₀ Cert.InDwIdeal.defs₀
  congr 1
  funext a b
  fin_cases a
  obtain ⟨t, s⟩ := b
  rfl

theorem same_code : Cert.InDw.defs (F := Bits) = Cert.InDwIdeal.defs (F := Bits) :=
  congrArg (Pipeline.defs (Cert.InDwIdeal.pcfgs (F := Bits))) same_bodies

theorem frame : @Cert.quiescent_InDw Cert.InDw.Gen.facts := by
  intro m g _
  have h := ends (F := Bits) m g
  rw [← same_code] at h
  exact (θ_run Cert.InDw.defs _ _).mono (fun _ h => ⟨fun c => (h.1 c).2, h.2⟩) h

theorem frame_ideal : @Cert.quiescent_InDwIdeal Cert.InDwIdeal.Gen.facts := fun m g _ =>
  (θ_run Cert.InDwIdeal.defs _ _).mono (fun _ h => ⟨fun c => (h.1 c).2, h.2⟩) (ends (F := Ideal) m g)

theorem frame_ref : @Cert.quiescent_InDwRefIdeal Cert.InDwRefIdeal.Gen.facts := fun m g _ =>
  (θ_run Cert.InDwRefIdeal.defs _ _).mono (fun r h => And.intro (fun c => (h c).2) (sem_eq_zero_of_no_sems (by decide) r.2))
    (Cert.InDwRefIdeal.Value.run (F := Ideal) m g)

/-- The two programs end with the same gradient. -/
theorem algebraic : @Cert.algebraic_InDwIdeal_InDwRefIdeal Cert.InDwIdeal.Gen.facts Cert.InDwRefIdeal.Gen.facts := by
  intro m g m' g' _ hargs
  refine ⟨want m, ?_, ?_⟩
  · exact (θ_run defs _ _).mono (fun r h c => ⟨(h.1 c).1.trans (arr m c), (h.1 c).2⟩) (ends m g)
  · refine (θ_run Cert.InDwRefIdeal.defs _ _).mono (fun r h c => ?_) (Cert.InDwRefIdeal.Value.run m' g')
    obtain ⟨a0, a1, a2, a3, a4, a5, a6⟩ := hargs c
    refine ⟨(h c).1.trans ((reference_eq _ (InDx.joined _ _ _ _ _ _)).trans ?_), (h c).2⟩
    unfold want X J
    rw [← a0, ← a1, ← a2, ← a3, ← a4, ← a5, ← a6]
    rfl

end Cert.Mix.InDw

end
-- ==== Proof.Act.lean ====
/- The gradient of the gated activation: a pair of tiles at a time, the gradients of the gate and of the up projection
   laid side by side. -/
module

public import proofs.«01_k».proof.Proof.Gen.ActIdeal.Frame
public import proofs.«01_k».proof.Proof.Gen.ActRefIdeal.Run
public import proofs.«01_k».proof.Proof.UpY
public import proofs.«01_k».proof.Proof.Result
public import proofs.«01_k».proof.Pre_finite_act

@[expose] public section

set_option maxRecDepth 16384

noncomputable section

namespace Cert.Ffn.Act

open Idealize.ShloMosaic Idealize.ShloMosaic.TcCoe Cert.ActIdeal Cert.ActIdeal.Gen

variable (m : (ℓ : Loc nD τ sig) → Buf (Elt Ideal) ℓ) (c : Dev nD)

/-- What a point hands out. -/
theorem handed (t : Fin cfg0.N) : (dats m 0 c).after 2 t = k0_pay1 (F := Ideal) (iblk m c 0 t) (iblk m c 1 t) := by
  rw [after0_2]
  unfold out0_2
  rw [View.canon_unit_zero UpY.zeros, View.ld_unit_zero UpY.zeros, View.ld_unit_zero UpY.zeros]

theorem index_at : ∀ t : Fin cfg0.N, win0_0.index t = ![t.val / 2, t.val % 2] ∧ win0_1.index t = ![t.val / 2, t.val % 2]
    ∧ win0_2.index t = ![t.val / 2, t.val % 2] :=
  (by decide +kernel : ∀ t : Fin grid0.N, _)

theorem points (t : Fin cfg0.N) : t.val < 16 := t.isLt

/-- A point's block of the rows, and its pair of tiles. -/
def rowBlk (t : Fin cfg0.N) : Fin 8 := ⟨t / 2, by have := points t; omega⟩
def colBlk (t : Fin cfg0.N) : Fin 2 := ⟨t % 2, by omega⟩

theorem emb0 (t : Fin cfg0.N) (a : Fin 512) (b : Fin 2816) :
    ((cfg0.win 0).blk t).view.emb (ix2 a b) = ix2 (place (N := 4096) rfl (rowBlk t) a) (place (N := 5632) rfl (colBlk t) b) := by
  have e := (index_at t).1
  funext x; apply Fin.ext
  fin_cases x
  · blk_simp [e]; rfl
  · blk_simp [e]; rfl

theorem emb1 (t : Fin cfg0.N) (a : Fin 512) (b : Fin 1408) :
    ((cfg0.win 1).blk t).view.emb (ix2 a b) = ix2 (place (N := 4096) rfl (rowBlk t) a) (place (N := 2816) rfl (colBlk t) b) := by
  have e := (index_at t).2.1
  funext x; apply Fin.ext
  fin_cases x
  · blk_simp [e]; rfl
  · blk_simp [e]; rfl

theorem emb2 (t : Fin cfg0.N) (a : Fin 512) (b : Fin 2816) :
    ((cfg0.win 2).blk t).view.emb (ix2 a b) = ix2 (place (N := 4096) rfl (rowBlk t) a) (place (N := 5632) rfl (colBlk t) b) := by
  have e := (index_at t).2.2
  funext x; apply Fin.ext
  fin_cases x
  · blk_simp [e]; rfl
  · blk_simp [e]; rfl

/-- Two tiles side by side. -/
theorem joined (x y : S512x1408.Idx → EReal) (a : Fin 512) (b : Fin 1408) :
    concatenate S512x2816 1 [⟨S512x1408, x⟩, ⟨S512x1408, y⟩] Facts₀.concatenates_S512x1408_S512x1408_S512x2816_d1 (ix2 a (lower b))
      = x (ix2 a b)
    ∧ concatenate S512x2816 1 [⟨S512x1408, x⟩, ⟨S512x1408, y⟩] Facts₀.concatenates_S512x1408_S512x1408_S512x2816_d1 (ix2 a (upper b))
      = y (ix2 a b) := by
  constructor
  · unfold lower
    pointwise
  · unfold upper
    pointwise

/-- A point's two gradients at an index. -/
theorem pay_lower (x0 : Vec Ideal S512x2816 .bf16) (x1 : Vec Ideal S512x1408 .bf16) (a : Fin 512) (b : Fin 1408) :
    k0_pay1 (F := Ideal) x0 x1 (ix2 a (lower b)) = slope (x0 (ix2 a (lower b))) (x0 (ix2 a (upper b))) (x1 (ix2 a b)) := by
  rw [← (UpY.halves x0 a b).1, ← (UpY.halves x0 a b).2]
  refine (congrArg₂ (fun y z : EReal => y + z) (joined _ _ a b).1 (joined _ _ a b).1).trans ?_
  unfold slope logistic
  rw [← zero_sub, ← Ideal.ofBits_zero_f32]
  refine (congrArg (fun y : EReal => y + _) Ideal.ofBits_zero_bf16).trans ((zero_add _).trans ?_)
  rw [shapeCast_self]
  rfl

theorem pay_upper (x0 : Vec Ideal S512x2816 .bf16) (x1 : Vec Ideal S512x1408 .bf16) (a : Fin 512) (b : Fin 1408) :
    k0_pay1 (F := Ideal) x0 x1 (ix2 a (upper b)) = gated (x0 (ix2 a (lower b))) (x1 (ix2 a b)) := by
  rw [← (UpY.halves x0 a b).1]
  refine (congrArg₂ (fun y z : EReal => y + z) (joined _ _ a b).2 (joined _ _ a b).2).trans ?_
  unfold gated logistic
  rw [← zero_sub, ← Ideal.ofBits_zero_f32]
  refine (congrArg (fun y : EReal => _ + y) Ideal.ofBits_zero_bf16).trans ((add_zero _).trans ?_)
  rw [shapeCast_self]
  rfl

/-- The three arguments. -/
def Gt : S4096x2816.Idx → EReal := m ((c : Thread nD τ).loc main_arg0)
def Up : S4096x2816.Idx → EReal := m ((c : Thread nD τ).loc main_arg1)
def DA : S4096x2816.Idx → EReal := m ((c : Thread nD τ).loc main_arg2)

/-- The two arrays as the region finds them. -/
def L : S4096x5632.Idx → EReal := V m c main_v4
def R : S4096x2816.Idx → EReal := V m c main_arg2

theorem R_eq : R m c = DA m c := V_main_arg2 m c

theorem L_read (r : Fin 4096) (j : Fin 5632) :
    L m c (ix2 r j) = weave (fun k => Gt m c (ix2 r k)) (fun k => Up m c (ix2 r k)) j := by
  refine Eq.trans (congrFun ?_ _) (UpDx.woven_rows (Gt m c) (Up m c) r j)
  show StableHlo.after hostOps0 _ (Proc.devRef .tc main_v4) = _
  after_results
  rfl

/-- The two gradients. -/
def dgate (g u d : S4096x2816.Idx → EReal) : S4096x2816.Idx → EReal := fun i => slope (g i) (u i) (d i)
def dup (g d : S4096x2816.Idx → EReal) : S4096x2816.Idx → EReal := fun i => gated (g i) (d i)

/-- The two gradients, laid in alternate tiles. -/
def both (g u d : S4096x2816.Idx → EReal) : S4096x5632.Idx → EReal :=
  fun i => weave (fun l => dgate g u d (ix2 (i 0) l)) (fun l => dup g d (ix2 (i 0) l)) (i 1)

theorem blk_lower (t : Fin cfg0.N) (a : Fin 512) (b : Fin 1408) :
    iblk m c 0 t (ix2 a (lower b)) = Gt m c (ix2 (place (N := 4096) rfl (rowBlk t) a) (place (N := 2816) rfl (colBlk t) b)) := by
  show L m c (((cfg0.win 0).blk t).view.emb (ix2 a (lower b))) = _
  rw [emb0, L_read]
  exact weave_lower _ _ _ b

theorem blk_upper (t : Fin cfg0.N) (a : Fin 512) (b : Fin 1408) :
    iblk m c 0 t (ix2 a (upper b)) = Up m c (ix2 (place (N := 4096) rfl (rowBlk t) a) (place (N := 2816) rfl (colBlk t) b)) := by
  show L m c (((cfg0.win 0).blk t).view.emb (ix2 a (upper b))) = _
  rw [emb0, L_read]
  exact weave_upper _ _ _ b

theorem blk_da (t : Fin cfg0.N) (a : Fin 512) (b : Fin 1408) :
    iblk m c 1 t (ix2 a b) = DA m c (ix2 (place (N := 4096) rfl (rowBlk t) a) (place (N := 2816) rfl (colBlk t) b)) := by
  show R m c (((cfg0.win 1).blk t).view.emb (ix2 a b)) = _
  rw [emb1, R_eq]

/-- The array after the region. -/
theorem arr : (dats m 0 c).arrAt 2 cfg0.N = both (Gt m c) (Up m c) (DA m c) := by
  refine (dats m 0 c).arrAt_eq_of_covers 2 _ (by decide +kernel) fun t hf y => ?_
  obtain ⟨a, j, rfl⟩ : ∃ (a : Fin 512) (j : Fin 2816), y = ix2 a j := ⟨y 0, y 1, by funext x; fin_cases x <;> rfl⟩
  rw [emb2]
  obtain ⟨b, rfl | rfl⟩ := lower_or_upper j
  · refine (congrFun (handed m c t) _).trans ((pay_lower _ _ a b).trans (Eq.trans ?_ (weave_lower _ _ _ b).symm))
    rw [blk_lower, blk_upper, blk_da]
    rfl
  · refine (congrFun (handed m c t) _).trans ((pay_upper _ _ a b).trans (Eq.trans ?_ (weave_upper _ _ _ b).symm))
    rw [blk_lower, blk_da]
    rfl

/-- The region's arrays, as the lines after it find them. -/
abbrev W0 : Valuation τ sig (Elt Ideal) :=
  Pipeline.withArrays (cfgs 0).spec c (V0 m c) fun w => (dats m 0 c).arrAt w (cfgs 0).N

theorem arr_tail (w : Fin cfg0.W) : W0 m c (Proc.devRef .tc (Pipeline.arrRef spec0 w)) = (dats m 0 c).arrAt w cfg0.N := by
  exact Pipeline.withArrays_arr _ (by decide) c (V0 m c) _ w

/-- The region's result. -/
def Y : S4096x5632.Idx → EReal := (dats m 0 c).arrAt 2 cfg0.N

theorem arr_at (r : Fin 4096) (j : Fin 5632) : Y m c (ix2 r j)
    = weave (fun k => dgate (Gt m c) (Up m c) (DA m c) (ix2 r k)) (fun k => dup (Gt m c) (DA m c) (ix2 r k)) j :=
  congrFun (arr m c) (ix2 r j)

theorem tail_gate : Pipeline.afterTail₀ cfgs (dats m) 0 (V0 m) [hostOps1] c main_v10 = dgate (Gt m c) (Up m c) (DA m c) := by
  funext i
  obtain ⟨a, j, rfl⟩ : ∃ (a : Fin 4096) (j : Fin 2816), i = ix2 a j := ⟨i 0, i 1, by funext x; fin_cases x <;> rfl⟩
  refine Eq.trans (congrFun ?_ _) ((UpY.firsts (Y m c) a j).trans ?_)
  · unfold Y
    rw [← arr_tail m c 2]
    show StableHlo.after hostOps1 (W0 m c) (Proc.devRef .tc main_v10) = _
    after_results
  · simp only [arr_at m c a]
    exact weave_firsts _ _ j

theorem tail_up : Pipeline.afterTail₀ cfgs (dats m) 0 (V0 m) [hostOps1] c main_v11 = dup (Gt m c) (DA m c) := by
  funext i
  obtain ⟨a, j, rfl⟩ : ∃ (a : Fin 4096) (j : Fin 2816), i = ix2 a j := ⟨i 0, i 1, by funext x; fin_cases x <;> rfl⟩
  refine Eq.trans (congrFun ?_ _) ((UpY.seconds (Y m c) a j).trans ?_)
  · unfold Y
    rw [← arr_tail m c 2]
    show StableHlo.after hostOps1 (W0 m c) (Proc.devRef .tc main_v11) = _
    after_results
  · simp only [arr_at m c a]
    exact weave_seconds _ _ j

/-- The precondition says that the up product and the activation's gradient are finite. -/
theorem facts_pre : Cert.Pre_finite_act.Facts := ⟨by decide⟩

theorem real_of {x : EReal} (h : ⊥ < x ∧ x < ⊤) : ∃ r : ℝ, x = r := ⟨x.toReal, (EReal.coe_toReal h.2.ne h.1.ne').symm⟩

theorem pre_finite (x0 x1 x2 : S4096x2816.Idx → EReal) (h : ∀ i, @Cert.Pre_finite_act.fn facts_pre Ideal _ x0 x1 x2 i = 1#1) (i) :
    (∃ r : ℝ, x1 i = r) ∧ ∃ r : ℝ, x2 i = r := by
  have hi : IntOp.andi (IntOp.andi (IntOp.andi (BitVec.ofBool (decide (Ideal.ofBits .bf16 0xFF80#16 < x1 i)))
      (BitVec.ofBool (decide (x1 i < Ideal.ofBits .bf16 0x7F80#16)))) (BitVec.ofBool (decide (Ideal.ofBits .bf16 0xFF80#16 < x2 i))))
      (BitVec.ofBool (decide (x2 i < Ideal.ofBits .bf16 0x7F80#16))) = 1#1 := h i
  rw [Attn.top_word16, Attn.bot_word16] at hi
  obtain ⟨h1, hd⟩ := Attn.and_one hi
  obtain ⟨h2, hc⟩ := Attn.and_one h1
  obtain ⟨ha, hb⟩ := Attn.and_one h2
  have one : ∀ p : Prop, ∀ [Decidable p], BitVec.ofBool (decide p) = 1#1 → p := by
    intro p _ e
    by_contra hp
    rw [decide_eq_false hp] at e
    exact absurd e (by decide)
  exact ⟨real_of ⟨one _ ha, one _ hb⟩, real_of ⟨one _ hc, one _ hd⟩⟩

/-- The reference's terms. -/
theorem reference_gate (g u d : FVec Ideal S4096x2816 .bf16) (hu : ∀ i, ∃ r : ℝ, u i = r) (hd : ∀ i, ∃ r : ℝ, d i = r)
    (s o : FVec Ideal S4096x2816 .f32) (hs : ∀ i, s i = logistic (g i)) (ho : ∀ i, o i = Ideal.ofBits .f32 0x3F800000#32) :
    truncf (F := Ideal) .bf16 (addf
      (mulf (mulf (extf .f32 d Cert.ActRefIdeal.Facts₀.bitsLt_bf16_f32) (extf .f32 u Cert.ActRefIdeal.Facts₀.bitsLt_bf16_f32)) s)
      (mulf (mulf (extf .f32 g Cert.ActRefIdeal.Facts₀.bitsLt_bf16_f32)
        (mulf (extf .f32 d Cert.ActRefIdeal.Facts₀.bitsLt_bf16_f32) (extf .f32 u Cert.ActRefIdeal.Facts₀.bitsLt_bf16_f32)))
        (mulf s (subf o s)))) Cert.ActRefIdeal.Facts₀.bitsLt_bf16_f32 = dgate g u d := by
  funext i
  obtain ⟨p, hp⟩ := hu i
  obtain ⟨q, hq⟩ := hd i
  show d i * u i * s i + g i * (d i * u i) * (s i * (o i - s i)) = slope (g i) (u i) (d i)
  rw [hs, ho, hp, hq, slope_eq]
  rfl

end Cert.Ffn.Act

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Result
public import proofs.«01_k».proof.Proof.Gen.UpDx.Frame
public import proofs.«01_k».proof.Proof.Gen.UpDxIdeal.Frame
public import proofs.«01_k».proof.Proof.Gen.UpDxRefIdeal.Run
public import proofs.«01_k».proof.Proof.UpDx
public import proofs.«01_k».proof.Proof.Gen.UpDw.Frame
public import proofs.«01_k».proof.Proof.Gen.UpDwIdeal.Frame
public import proofs.«01_k».proof.Proof.Gen.UpDwRefIdeal.Run
public import proofs.«01_k».proof.Proof.UpDw
public import proofs.«01_k».proof.Proof.Gen.DownDx.Frame
public import proofs.«01_k».proof.Proof.Gen.DownDxIdeal.Frame
public import proofs.«01_k».proof.Proof.Gen.DownDxRefIdeal.Run
public import proofs.«01_k».proof.Proof.DownDx
public import proofs.«01_k».proof.Proof.Gen.DownDw.Frame
public import proofs.«01_k».proof.Proof.Gen.DownDwIdeal.Frame
public import proofs.«01_k».proof.Proof.Gen.DownDwRefIdeal.Run
public import proofs.«01_k».proof.Proof.DownDw
public import proofs.«01_k».proof.Proof.Gen.UpY.Frame
public import proofs.«01_k».proof.Proof.Gen.UpYIdeal.Frame
public import proofs.«01_k».proof.Proof.Gen.UpYRefIdeal.Run
public import proofs.«01_k».proof.Proof.UpY
public import proofs.«01_k».proof.Proof.Gen.DownY.Frame
public import proofs.«01_k».proof.Proof.Gen.DownYIdeal.Value
public import proofs.«01_k».proof.Proof.Gen.DownYRefIdeal.Run
public import proofs.«01_k».proof.Proof.DownY
public import proofs.«01_k».proof.Proof.Gen.InDx.Frame
public import proofs.«01_k».proof.Proof.Gen.InDxIdeal.Value
public import proofs.«01_k».proof.Proof.Gen.InDxRefIdeal.Run
public import proofs.«01_k».proof.Proof.InDx
public import proofs.«01_k».proof.Proof.Gen.HeadDx.Frame
public import proofs.«01_k».proof.Proof.Gen.HeadDxIdeal.Value
public import proofs.«01_k».proof.Proof.Gen.HeadDxRefIdeal.Run
public import proofs.«01_k».proof.Proof.HeadDx
public import proofs.«01_k».proof.Proof.Gen.HeadDw.Frame
public import proofs.«01_k».proof.Proof.Gen.HeadDwIdeal.Value
public import proofs.«01_k».proof.Proof.Gen.HeadDwRefIdeal.Run
public import proofs.«01_k».proof.Proof.HeadDw
public import proofs.«01_k».proof.Proof.Gen.WaY.Frame
public import proofs.«01_k».proof.Proof.Gen.WaYIdeal.Value
public import proofs.«01_k».proof.Proof.Gen.WaYRefIdeal.Run
public import proofs.«01_k».proof.Proof.Gen.WaDx.Frame
public import proofs.«01_k».proof.Proof.Gen.WaDxIdeal.Value
public import proofs.«01_k».proof.Proof.Gen.WaDxRefIdeal.Run
public import proofs.«01_k».proof.Proof.Gen.WaDw.Frame
public import proofs.«01_k».proof.Proof.Gen.WaDwIdeal.Value
public import proofs.«01_k».proof.Proof.Gen.WaDwRefIdeal.Run
public import proofs.«01_k».proof.Proof.Gen.WbY.Frame
public import proofs.«01_k».proof.Proof.Gen.WbYIdeal.Value
public import proofs.«01_k».proof.Proof.Gen.WbYRefIdeal.Run
public import proofs.«01_k».proof.Proof.Gen.WbDx.Frame
public import proofs.«01_k».proof.Proof.Gen.WbDxIdeal.Value
public import proofs.«01_k».proof.Proof.Gen.WbDxRefIdeal.Run
public import proofs.«01_k».proof.Proof.Gen.WbDw.Frame
public import proofs.«01_k».proof.Proof.Gen.WbDwIdeal.Value
public import proofs.«01_k».proof.Proof.Gen.WbDwRefIdeal.Run
public import proofs.«01_k».proof.Proof.Gen.WoY.Frame
public import proofs.«01_k».proof.Proof.Gen.WoYIdeal.Value
public import proofs.«01_k».proof.Proof.Gen.WoYRefIdeal.Run
public import proofs.«01_k».proof.Proof.Gen.WoDx.Frame
public import proofs.«01_k».proof.Proof.Gen.WoDxIdeal.Value
public import proofs.«01_k».proof.Proof.Gen.WoDxRefIdeal.Run
public import proofs.«01_k».proof.Proof.Gen.WoDw.Frame
public import proofs.«01_k».proof.Proof.Gen.WoDwIdeal.Value
public import proofs.«01_k».proof.Proof.Gen.WoDwRefIdeal.Run
public import proofs.«01_k».proof.Proof.OutY
public import proofs.«01_k».proof.Proof.OutDx
public import proofs.«01_k».proof.Proof.OutDw
public import proofs.«01_k».proof.Proof.InY
public import proofs.«01_k».proof.Proof.HeadY
public import proofs.«01_k».proof.Proof.InDw
public import proofs.«01_k».proof.Proof.Gen.InY
public import proofs.«01_k».proof.Proof.Gen.InY.Launch
public import proofs.«01_k».proof.Proof.Gen.InY.Points
public import proofs.«01_k».proof.Proof.Gen.InY.Skeleton
public import proofs.«01_k».proof.Proof.Gen.InYIdeal
public import proofs.«01_k».proof.Proof.Gen.InYIdeal.Launch
public import proofs.«01_k».proof.Proof.Gen.InYIdeal.Points
public import proofs.«01_k».proof.Proof.Gen.InYIdeal.Skeleton
public import proofs.«01_k».proof.Proof.Gen.InYRefIdeal.Run
public import proofs.«01_k».proof.Proof.Gen.HeadY
public import proofs.«01_k».proof.Proof.Gen.HeadY.Launch
public import proofs.«01_k».proof.Proof.Gen.HeadY.Points
public import proofs.«01_k».proof.Proof.Gen.HeadY.Skeleton
public import proofs.«01_k».proof.Proof.Gen.HeadYIdeal
public import proofs.«01_k».proof.Proof.Gen.HeadYIdeal.Launch
public import proofs.«01_k».proof.Proof.Gen.HeadYIdeal.Points
public import proofs.«01_k».proof.Proof.Gen.HeadYIdeal.Skeleton
public import proofs.«01_k».proof.Proof.Gen.HeadYRefIdeal.Run
public import proofs.«01_k».proof.Proof.Gen.InDw
public import proofs.«01_k».proof.Proof.Gen.InDw.Launch
public import proofs.«01_k».proof.Proof.Gen.InDw.Points
public import proofs.«01_k».proof.Proof.Gen.InDw.Skeleton
public import proofs.«01_k».proof.Proof.Gen.InDwIdeal
public import proofs.«01_k».proof.Proof.Gen.InDwIdeal.Launch
public import proofs.«01_k».proof.Proof.Gen.InDwIdeal.Points
public import proofs.«01_k».proof.Proof.Gen.InDwIdeal.Skeleton
public import proofs.«01_k».proof.Proof.Gen.InDwRefIdeal.Run
public import proofs.«01_k».proof.Proof.Gen.Act.Frame
public import proofs.«01_k».proof.Proof.Gen.ActIdeal.Frame
public import proofs.«01_k».proof.Proof.Gen.ActRefIdeal.Run
public import proofs.«01_k».proof.Proof.Act
public import Idealize.ShloMosaic.Adequacy
public import Idealize.ShloMosaic.Init
public import Idealize.ShloMosaic.Lib.Quiescent

@[expose] public section

noncomputable section

namespace Cert.Proof

open Idealize.ShloMosaic Idealize.SL.Sem

/-- Every final state of the idealized kernel, from any memory of which the precondition holds. -/
theorem kernel_runs (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD, ∀ b ∈ Pipeline.restRefs Cert.KernelIdeal.sig (Cert.KernelIdeal.cfgs 0).spec,
        r.2.mem ((c.tc : Thread Cert.KernelIdeal.nD Cert.KernelIdeal.τ).loc b)
          = Pipeline.afterTail₀ Cert.KernelIdeal.cfgs (Cert.KernelIdeal.Gen.dats m) 0 (Cert.KernelIdeal.Gen.V0 m)
              [Cert.KernelIdeal.Gen.hostOps1] c b) :=
  (θ_run Cert.KernelIdeal.defs _ _).mono (fun _ h c => (h c).2) (Cert.KernelIdeal.Gen.run_main m g)

/-- The reference declares no semaphore, and its run leaves its arguments alone. -/
theorem reference_frame : @Cert.quiescent_ReferenceIdeal Cert.ReferenceIdeal.Gen.facts := fun m g _ =>
  (θ_run Cert.ReferenceIdeal.defs _ _).mono (fun r h => And.intro (fun c => (h c).2.2.2) (sem_eq_zero_of_no_sems (by decide) r.2))
    (Cert.ReferenceIdeal.Value.run (F := Ideal) m g)

/-- A function of five equal arguments. -/
theorem five_eq {A0 A1 A2 A3 A4 B : Type} (f : A0 → A1 → A2 → A3 → A4 → B) {u0 v0 : A0} {u1 v1 : A1} {u2 v2 : A2} {u3 v3 : A3}
    {u4 v4 : A4} (h0 : u0 = v0) (h1 : u1 = v1) (h2 : u2 = v2) (h3 : u3 = v3) (h4 : u4 = v4) :
    f u0 u1 u2 u3 u4 = f v0 v1 v2 v3 v4 := by
  rw [h0, h1, h2, h3, h4]

/-- From finite queries and keys the two programs end with the same three gradients. -/
theorem algebraic : @Cert.algebraic_KernelIdeal_ReferenceIdeal_pre_finite_qk Cert.KernelIdeal.Gen.facts Cert.ReferenceIdeal.Gen.facts
    Cert.Attn.facts_pre := by
  intro m g m' g' hpre hargs
  have hfin : ∀ c, Cert.Attn.Finite (Cert.Attn.X0 m c) ∧ Cert.Attn.Finite (Cert.Attn.X1 m c) :=
    fun c => Cert.Attn.pre_finite _ _ _ _ _ fun i => congrFun (hpre c) i
  refine ⟨fun c => Cert.ReferenceIdeal.Read.val_main_v212 (F := Ideal) (Cert.Attn.X0 m c) (Cert.Attn.X1 m c) (Cert.Attn.X2 m c) (Cert.Attn.X3 m c) (Cert.Attn.X4 m c),
    fun c => Cert.ReferenceIdeal.Read.val_main_v213 (F := Ideal) (Cert.Attn.X0 m c) (Cert.Attn.X1 m c) (Cert.Attn.X2 m c) (Cert.Attn.X3 m c) (Cert.Attn.X4 m c),
    fun c => Cert.ReferenceIdeal.Read.val_main_v214 (F := Ideal) (Cert.Attn.X0 m c) (Cert.Attn.X1 m c) (Cert.Attn.X3 m c), ?_, ?_⟩
  · refine (θ_run Cert.KernelIdeal.defs _ _).mono (fun r h c => ?_) (θ_run_and (kernel_runs m g) (Cert.KernelIdeal.Gen.unchanged m g))
    exact ⟨(h.1 c _ (by decide)).trans (Cert.Attn.dq_eq m c (hfin c).1 (hfin c).2),
      (h.1 c _ (by decide)).trans (Cert.Attn.dk_eq m c (hfin c).1 (hfin c).2),
      (h.1 c _ (by decide)).trans (Cert.Attn.dv_eq m c (hfin c).1 (hfin c).2), h.2 c⟩
  · refine (θ_run Cert.ReferenceIdeal.defs _ _).mono (fun r h c => ?_) (Cert.ReferenceIdeal.Value.run m' g')
    obtain ⟨a0, a1, a2, a3, a4⟩ := hargs c
    refine ⟨(h c).1.trans ((Cert.ReferenceIdeal.Read.val_main_v212_eq (StableHlo.launchContents m' c)).trans ?_),
      (h c).2.1.trans ((Cert.ReferenceIdeal.Read.val_main_v213_eq (StableHlo.launchContents m' c)).trans ?_),
      (h c).2.2.1.trans ((Cert.ReferenceIdeal.Read.val_main_v214_eq (StableHlo.launchContents m' c)).trans ?_), (h c).2.2.2⟩
    · exact five_eq (fun u0 u1 u2 u3 u4 => Cert.ReferenceIdeal.Read.val_main_v212 (F := Ideal) u0 u1 u2 u3 u4) a0 a1 a2 a3 a4
    · exact five_eq (fun u0 u1 u2 u3 u4 => Cert.ReferenceIdeal.Read.val_main_v213 (F := Ideal) u0 u1 u2 u3 u4) a0 a1 a2 a3 a4
    · exact five_eq (fun u0 u1 _ u3 _ => Cert.ReferenceIdeal.Read.val_main_v214 (F := Ideal) u0 u1 u3) a0 a1 a2 a3 a4

theorem frame_UpDxRef : @Cert.quiescent_UpDxRefIdeal Cert.UpDxRefIdeal.Gen.facts := fun m g _ =>
  (θ_run Cert.UpDxRefIdeal.defs _ _).mono (fun r h => And.intro (fun c => (h c).2) (sem_eq_zero_of_no_sems (by decide) r.2))
    (Cert.UpDxRefIdeal.Value.run (F := Ideal) m g)

theorem frame_UpDwRef : @Cert.quiescent_UpDwRefIdeal Cert.UpDwRefIdeal.Gen.facts := fun m g _ =>
  (θ_run Cert.UpDwRefIdeal.defs _ _).mono (fun r h => And.intro (fun c => (h c).2.2) (sem_eq_zero_of_no_sems (by decide) r.2))
    (Cert.UpDwRefIdeal.Value.run (F := Ideal) m g)

theorem frame_DownDxRef : @Cert.quiescent_DownDxRefIdeal Cert.DownDxRefIdeal.Gen.facts := fun m g _ =>
  (θ_run Cert.DownDxRefIdeal.defs _ _).mono (fun r h => And.intro (fun c => (h c).2) (sem_eq_zero_of_no_sems (by decide) r.2))
    (Cert.DownDxRefIdeal.Value.run (F := Ideal) m g)

theorem frame_DownDwRef : @Cert.quiescent_DownDwRefIdeal Cert.DownDwRefIdeal.Gen.facts := fun m g _ =>
  (θ_run Cert.DownDwRefIdeal.defs _ _).mono (fun r h => And.intro (fun c => (h c).2) (sem_eq_zero_of_no_sems (by decide) r.2))
    (Cert.DownDwRefIdeal.Value.run (F := Ideal) m g)

theorem frame_UpYRef : @Cert.quiescent_UpYRefIdeal Cert.UpYRefIdeal.Gen.facts := fun m g _ =>
  (θ_run Cert.UpYRefIdeal.defs _ _).mono (fun r h => And.intro (fun c => (h c).2.2.2) (sem_eq_zero_of_no_sems (by decide) r.2))
    (Cert.UpYRefIdeal.Value.run (F := Ideal) m g)

theorem frame_DownYRef : @Cert.quiescent_DownYRefIdeal Cert.DownYRefIdeal.Gen.facts := fun m g _ =>
  (θ_run Cert.DownYRefIdeal.defs _ _).mono (fun r h => And.intro (fun c => (h c).2) (sem_eq_zero_of_no_sems (by decide) r.2))
    (Cert.DownYRefIdeal.Value.run (F := Ideal) m g)

theorem frame_InDxRef : @Cert.quiescent_InDxRefIdeal Cert.InDxRefIdeal.Gen.facts := fun m g _ =>
  (θ_run Cert.InDxRefIdeal.defs _ _).mono (fun r h => And.intro (fun c => (h c).2) (sem_eq_zero_of_no_sems (by decide) r.2))
    (Cert.InDxRefIdeal.Value.run (F := Ideal) m g)

theorem frame_HeadDxRef : @Cert.quiescent_HeadDxRefIdeal Cert.HeadDxRefIdeal.Gen.facts := fun m g _ =>
  (θ_run Cert.HeadDxRefIdeal.defs _ _).mono (fun r h => And.intro (fun c => (h c).2) (sem_eq_zero_of_no_sems (by decide) r.2))
    (Cert.HeadDxRefIdeal.Value.run (F := Ideal) m g)

theorem frame_HeadDwRef : @Cert.quiescent_HeadDwRefIdeal Cert.HeadDwRefIdeal.Gen.facts := fun m g _ =>
  (θ_run Cert.HeadDwRefIdeal.defs _ _).mono (fun r h => And.intro (fun c => (h c).2) (sem_eq_zero_of_no_sems (by decide) r.2))
    (Cert.HeadDwRefIdeal.Value.run (F := Ideal) m g)

theorem frame_ActRef : @Cert.quiescent_ActRefIdeal Cert.ActRefIdeal.Gen.facts := fun m g _ =>
  (θ_run Cert.ActRefIdeal.defs _ _).mono (fun r h => And.intro (fun c => (h c).2.2) (sem_eq_zero_of_no_sems (by decide) r.2))
    (Cert.ActRefIdeal.Value.run (F := Ideal) m g)

/-- The two programs end with the same gradient. -/
theorem algebraic_UpDx : @Cert.algebraic_UpDxIdeal_UpDxRefIdeal Cert.UpDxIdeal.Gen.facts Cert.UpDxRefIdeal.Gen.facts := by
  intro m g m' g' _ hargs
  refine ⟨fun c => Cert.Ffn.UpDx.grad (Cert.Ffn.UpDx.DG m c) (Cert.Ffn.UpDx.DU m c) (Cert.Ffn.UpDx.WG m c) (Cert.Ffn.UpDx.WU m c), ?_, ?_⟩
  · exact (θ_run Cert.UpDxIdeal.defs _ _).mono (fun r h c => ⟨(h c).1.trans (Cert.Ffn.UpDx.kernel_grad m c), (h c).2⟩)
      (Cert.UpDxIdeal.Value.run_blocks m g)
  · refine (θ_run Cert.UpDxRefIdeal.defs _ _).mono (fun r h c => ?_) (Cert.UpDxRefIdeal.Value.run m' g')
    obtain ⟨a0, a1, a2, a3⟩ := hargs c
    refine ⟨(h c).1.trans ((Cert.Ffn.UpDx.reference_grad _ _ _ _).trans ?_), (h c).2⟩
    exact five_eq (fun u0 u1 u2 u3 _ => Cert.Ffn.UpDx.grad u0 u1 u2 u3) a0 a1 a2 a3 (rfl : () = ())

/-- The two programs end with the same gradients. -/
theorem algebraic_UpDw : @Cert.algebraic_UpDwIdeal_UpDwRefIdeal Cert.UpDwIdeal.Gen.facts Cert.UpDwRefIdeal.Gen.facts := by
  intro m g m' g' _ hargs
  refine ⟨fun c => Cert.Ffn.UpDw.grad (Cert.Ffn.UpDw.X m c) (Cert.Ffn.UpDw.DG m c),
    fun c => Cert.Ffn.UpDw.grad (Cert.Ffn.UpDw.X m c) (Cert.Ffn.UpDw.DU m c), ?_, ?_⟩
  · refine (θ_run Cert.UpDwIdeal.defs _ _).mono (fun r h c => ?_) (θ_run_and (Cert.UpDwIdeal.Gen.run_main m g) (Cert.UpDwIdeal.Gen.unchanged m g))
    exact ⟨((h.1 c).2 _ (by decide)).trans (Cert.Ffn.UpDw.tail_gate m c), ((h.1 c).2 _ (by decide)).trans (Cert.Ffn.UpDw.tail_up m c), h.2 c⟩
  · refine (θ_run Cert.UpDwRefIdeal.defs _ _).mono (fun r h c => ?_) (Cert.UpDwRefIdeal.Value.run m' g')
    obtain ⟨a0, a1, a2⟩ := hargs c
    refine ⟨(h c).1.trans ((Cert.Ffn.UpDw.reference_grad _ _).trans ?_), (h c).2.1.trans ((Cert.Ffn.UpDw.reference_grad _ _).trans ?_), (h c).2.2⟩
    · exact five_eq (fun u0 u1 _ _ _ => Cert.Ffn.UpDw.grad u0 u1) a0 a1 (rfl : () = ()) (rfl : () = ()) (rfl : () = ())
    · exact five_eq (fun u0 u1 _ _ _ => Cert.Ffn.UpDw.grad u0 u1) a0 a2 (rfl : () = ()) (rfl : () = ()) (rfl : () = ())

/-- The two programs end with the same gradient. -/
theorem algebraic_DownDx : @Cert.algebraic_DownDxIdeal_DownDxRefIdeal Cert.DownDxIdeal.Gen.facts Cert.DownDxRefIdeal.Gen.facts := by
  intro m g m' g' _ hargs
  refine ⟨fun c => Cert.Ffn.DownDx.grad (Cert.Ffn.DownDx.DY m c) (Cert.Ffn.DownDx.W m c), ?_, ?_⟩
  · exact (θ_run Cert.DownDxIdeal.defs _ _).mono (fun r h c => ⟨(h c).1.trans (Cert.Ffn.DownDx.kernel_grad m c), (h c).2⟩)
      (Cert.DownDxIdeal.Value.run_blocks m g)
  · refine (θ_run Cert.DownDxRefIdeal.defs _ _).mono (fun r h c => ?_) (Cert.DownDxRefIdeal.Value.run m' g')
    obtain ⟨a0, a1⟩ := hargs c
    refine ⟨(h c).1.trans ((Cert.Ffn.DownDx.reference_grad _ _).trans ?_), (h c).2⟩
    exact five_eq (fun u0 u1 _ _ _ => Cert.Ffn.DownDx.grad u0 u1) a0 a1 (rfl : () = ()) (rfl : () = ()) (rfl : () = ())

/-- The two programs end with the same gradient. -/
theorem algebraic_DownDw : @Cert.algebraic_DownDwIdeal_DownDwRefIdeal Cert.DownDwIdeal.Gen.facts Cert.DownDwRefIdeal.Gen.facts := by
  intro m g m' g' _ hargs
  refine ⟨fun c => Cert.Ffn.DownDw.grad (Cert.Ffn.DownDw.Act m c) (Cert.Ffn.DownDw.DY m c), ?_, ?_⟩
  · exact (θ_run Cert.DownDwIdeal.defs _ _).mono (fun r h c => ⟨(h c).1.trans (Cert.Ffn.DownDw.kernel_grad m c), (h c).2⟩)
      (Cert.DownDwIdeal.Value.run_blocks m g)
  · refine (θ_run Cert.DownDwRefIdeal.defs _ _).mono (fun r h c => ?_) (Cert.DownDwRefIdeal.Value.run m' g')
    obtain ⟨a0, a1⟩ := hargs c
    refine ⟨(h c).1.trans ((Cert.Ffn.DownDw.reference_grad _ _).trans ?_), (h c).2⟩
    exact five_eq (fun u0 u1 _ _ _ => Cert.Ffn.DownDw.grad u0 u1) a0 a1 (rfl : () = ()) (rfl : () = ()) (rfl : () = ())

/-- The two programs end with the same two products and the same activation. -/
theorem algebraic_UpY : @Cert.algebraic_UpYIdeal_UpYRefIdeal Cert.UpYIdeal.Gen.facts Cert.UpYRefIdeal.Gen.facts := by
  intro m g m' g' _ hargs
  refine ⟨fun c => Cert.Ffn.UpY.prod (Cert.Ffn.UpY.X m c) (Cert.Ffn.UpY.WG m c),
    fun c => Cert.Ffn.UpY.prod (Cert.Ffn.UpY.X m c) (Cert.Ffn.UpY.WU m c),
    fun c => Cert.Ffn.UpY.activated (Cert.Ffn.UpY.X m c) (Cert.Ffn.UpY.WG m c) (Cert.Ffn.UpY.WU m c), ?_, ?_⟩
  · refine (θ_run Cert.UpYIdeal.defs _ _).mono (fun r h c => ?_) (θ_run_and (Cert.UpYIdeal.Gen.run_main m g) (Cert.UpYIdeal.Gen.unchanged m g))
    exact ⟨((h.1 c).2 _ (by decide)).trans (Cert.Ffn.UpY.tail_gate m c), ((h.1 c).2 _ (by decide)).trans (Cert.Ffn.UpY.tail_up m c),
      ((h.1 c).1 3).trans (Cert.Ffn.UpY.arr_gated m c), h.2 c⟩
  · refine (θ_run Cert.UpYRefIdeal.defs _ _).mono (fun r h c => ?_) (Cert.UpYRefIdeal.Value.run m' g')
    obtain ⟨a0, a1, a2⟩ := hargs c
    refine ⟨(h c).1.trans ((Cert.Ffn.UpY.reference_prod _ _).trans ?_), (h c).2.1.trans ((Cert.Ffn.UpY.reference_prod _ _).trans ?_),
      (h c).2.2.1.trans ((Cert.Ffn.UpY.reference_activated _ _ _ _ _ (Cert.Ffn.UpY.reference_prod _ _)
        (Cert.Ffn.UpY.reference_prod _ _)).trans ?_), (h c).2.2.2⟩
    · exact five_eq (fun u0 u1 _ _ _ => Cert.Ffn.UpY.prod u0 u1) a0 a1 (rfl : () = ()) (rfl : () = ()) (rfl : () = ())
    · exact five_eq (fun u0 u1 _ _ _ => Cert.Ffn.UpY.prod u0 u1) a0 a2 (rfl : () = ()) (rfl : () = ()) (rfl : () = ())
    · exact five_eq (fun u0 u1 u2 _ _ => Cert.Ffn.UpY.activated u0 u1 u2) a0 a1 a2 (rfl : () = ()) (rfl : () = ())

/-- The two programs end with the same product. -/
theorem algebraic_DownY : @Cert.algebraic_DownYIdeal_DownYRefIdeal Cert.DownYIdeal.Gen.facts Cert.DownYRefIdeal.Gen.facts := by
  intro m g m' g' _ hargs
  refine ⟨fun c => Cert.Ffn.DownY.prod (Cert.Ffn.DownY.A m c) (Cert.Ffn.DownY.W m c), ?_, ?_⟩
  · exact (θ_run Cert.DownYIdeal.defs _ _).mono (fun r h c => ⟨(h c).1.trans (Cert.Ffn.DownY.kernel_prod m c), (h c).2⟩)
      (Cert.DownYIdeal.Value.run_blocks m g)
  · refine (θ_run Cert.DownYRefIdeal.defs _ _).mono (fun r h c => ?_) (Cert.DownYRefIdeal.Value.run m' g')
    obtain ⟨a0, a1⟩ := hargs c
    refine ⟨(h c).1.trans ((Cert.Ffn.DownY.reference_prod _ _).trans ?_), (h c).2⟩
    exact five_eq (fun u0 u1 _ _ _ => Cert.Ffn.DownY.prod u0 u1) a0 a1 (rfl : () = ()) (rfl : () = ()) (rfl : () = ())

/-- The two programs end with the same gradient. -/
theorem algebraic_InDx : @Cert.algebraic_InDxIdeal_InDxRefIdeal Cert.InDxIdeal.Gen.facts Cert.InDxRefIdeal.Gen.facts := by
  intro m g m' g' _ hargs
  refine ⟨fun c => Cert.Mix.InDx.grad (Cert.Mix.InDx.D0 m c) (Cert.Mix.InDx.D1 m c) (Cert.Mix.InDx.D2 m c) (Cert.Mix.InDx.D3 m c)
    (Cert.Mix.InDx.D4 m c) (Cert.Mix.InDx.D5 m c) (Cert.Mix.InDx.W m c), ?_, ?_⟩
  · exact (θ_run Cert.InDxIdeal.defs _ _).mono (fun r h c => ⟨(h c).1.trans (Cert.Mix.InDx.kernel_grad m c), (h c).2⟩)
      (Cert.InDxIdeal.Value.run_blocks m g)
  · refine (θ_run Cert.InDxRefIdeal.defs _ _).mono (fun r h c => ?_) (Cert.InDxRefIdeal.Value.run m' g')
    obtain ⟨a0, a1, a2, a3, a4, a5, a6⟩ := hargs c
    refine ⟨(h c).1.trans ((Cert.Mix.InDx.reference_grad _ _ _ _ _ _ _).trans ?_), (h c).2⟩
    exact (five_eq (fun u0 u1 u2 u3 u4 => Cert.Mix.InDx.grad u0 u1 u2 u3 u4 _ _) a0 a1 a2 a3 a4).trans
      (five_eq (fun u5 u6 _ _ _ => Cert.Mix.InDx.grad _ _ _ _ _ u5 u6) a5 a6 (rfl : () = ()) (rfl : () = ()) (rfl : () = ()))

/-- The two programs end with the same gradient. -/
theorem algebraic_HeadDx : @Cert.algebraic_HeadDxIdeal_HeadDxRefIdeal Cert.HeadDxIdeal.Gen.facts Cert.HeadDxRefIdeal.Gen.facts := by
  intro m g m' g' _ hargs
  refine ⟨fun c => Cert.Mix.HeadDx.grad (Cert.Mix.HeadDx.D0 m c) (Cert.Mix.HeadDx.D1 m c) (Cert.Mix.HeadDx.D2 m c) (Cert.Mix.HeadDx.W m c), ?_, ?_⟩
  · exact (θ_run Cert.HeadDxIdeal.defs _ _).mono (fun r h c => ⟨(h c).1.trans (Cert.Mix.HeadDx.kernel_grad m c), (h c).2⟩)
      (Cert.HeadDxIdeal.Value.run_blocks m g)
  · refine (θ_run Cert.HeadDxRefIdeal.defs _ _).mono (fun r h c => ?_) (Cert.HeadDxRefIdeal.Value.run m' g')
    obtain ⟨a0, a1, a2, a3⟩ := hargs c
    refine ⟨(h c).1.trans ((Cert.Mix.HeadDx.reference_grad _ _ _ _).trans ?_), (h c).2⟩
    exact five_eq (fun u0 u1 u2 u3 _ => Cert.Mix.HeadDx.grad u0 u1 u2 u3) a0 a1 a2 a3 (rfl : () = ())

/-- The two programs end with the same gradient. -/
theorem algebraic_HeadDw : @Cert.algebraic_HeadDwIdeal_HeadDwRefIdeal Cert.HeadDwIdeal.Gen.facts Cert.HeadDwRefIdeal.Gen.facts := by
  intro m g m' g' _ hargs
  refine ⟨fun c => Cert.Mix.HeadDw.grad (Cert.Mix.HeadDw.X m c) (Cert.Mix.HeadDw.J m c), ?_, ?_⟩
  · exact (θ_run Cert.HeadDwIdeal.defs _ _).mono (fun r h c => ⟨(h c).1.trans (Cert.Mix.HeadDw.kernel_grad m c), (h c).2⟩)
      (Cert.HeadDwIdeal.Value.run_blocks m g)
  · refine (θ_run Cert.HeadDwRefIdeal.defs _ _).mono (fun r h c => ?_) (Cert.HeadDwRefIdeal.Value.run m' g')
    obtain ⟨a0, a1, a2, a3⟩ := hargs c
    refine ⟨(h c).1.trans ((Cert.Mix.HeadDw.reference_grad _ (Cert.Mix.HeadDx.joined _ _ _)).trans ?_), (h c).2⟩
    exact five_eq (fun u0 u1 u2 u3 _ => Cert.Mix.HeadDw.grad u0 (Cert.Mix.HeadDx.joined u1 u2 u3)) a0 a1 a2 a3 (rfl : () = ())

/-- From a finite up product and a finite gradient of the activation the two programs end with the same two gradients. -/
theorem algebraic_Act : @Cert.algebraic_ActIdeal_ActRefIdeal_pre_finite_act Cert.ActIdeal.Gen.facts Cert.ActRefIdeal.Gen.facts
    Cert.Ffn.Act.facts_pre := by
  intro m g m' g' hpre hargs
  have hfin := fun c => Cert.Ffn.Act.pre_finite _ _ _ fun i => congrFun (hpre c) i
  refine ⟨fun c => Cert.Ffn.Act.dgate (Cert.Ffn.Act.Gt m c) (Cert.Ffn.Act.Up m c) (Cert.Ffn.Act.DA m c),
    fun c => Cert.Ffn.Act.dup (Cert.Ffn.Act.Gt m c) (Cert.Ffn.Act.DA m c), ?_, ?_⟩
  · refine (θ_run Cert.ActIdeal.defs _ _).mono (fun r h c => ?_) (θ_run_and (Cert.ActIdeal.Gen.run_main m g) (Cert.ActIdeal.Gen.unchanged m g))
    exact ⟨((h.1 c).2 _ (by decide)).trans (Cert.Ffn.Act.tail_gate m c), ((h.1 c).2 _ (by decide)).trans (Cert.Ffn.Act.tail_up m c), h.2 c⟩
  · refine (θ_run Cert.ActRefIdeal.defs _ _).mono (fun r h c => ?_) (Cert.ActRefIdeal.Value.run m' g')
    obtain ⟨a0, a1, a2⟩ := hargs c
    refine ⟨(h c).1.trans ?_, (h c).2.1.trans ?_, (h c).2.2⟩
    · rw [a0, a1, a2]
      exact Cert.Ffn.Act.reference_gate _ _ _ (fun i => (hfin c i).1) (fun i => (hfin c i).2) _ _ (fun _ => rfl) (fun _ => rfl)
    · exact five_eq (fun u0 u1 _ _ _ => Cert.Ffn.Act.dup u0 u1) a0 a2 (rfl : () = ()) (rfl : () = ()) (rfl : () = ())

theorem claim : Cert.Claim := ⟨Cert.Kernel.Gen.facts, Cert.KernelIdeal.Gen.facts, Cert.ReferenceIdeal.Gen.facts,
  Cert.UpDx.Gen.facts, Cert.UpDxIdeal.Gen.facts, Cert.UpDxRefIdeal.Gen.facts, Cert.UpDw.Gen.facts, Cert.UpDwIdeal.Gen.facts, Cert.UpDwRefIdeal.Gen.facts, Cert.DownDx.Gen.facts, Cert.DownDxIdeal.Gen.facts, Cert.DownDxRefIdeal.Gen.facts, Cert.DownDw.Gen.facts, Cert.DownDwIdeal.Gen.facts, Cert.DownDwRefIdeal.Gen.facts,
  Cert.UpY.Gen.facts, Cert.UpYIdeal.Gen.facts, Cert.UpYRefIdeal.Gen.facts,
  Cert.DownY.Gen.facts, Cert.DownYIdeal.Gen.facts, Cert.DownYRefIdeal.Gen.facts,
  Cert.InDx.Gen.facts, Cert.InDxIdeal.Gen.facts, Cert.InDxRefIdeal.Gen.facts,
  Cert.HeadDx.Gen.facts, Cert.HeadDxIdeal.Gen.facts, Cert.HeadDxRefIdeal.Gen.facts,
  Cert.HeadDw.Gen.facts, Cert.HeadDwIdeal.Gen.facts, Cert.HeadDwRefIdeal.Gen.facts,
  Cert.WaY.Gen.facts, Cert.WaYIdeal.Gen.facts, Cert.WaYRefIdeal.Gen.facts,
  Cert.WaDx.Gen.facts, Cert.WaDxIdeal.Gen.facts, Cert.WaDxRefIdeal.Gen.facts,
  Cert.WaDw.Gen.facts, Cert.WaDwIdeal.Gen.facts, Cert.WaDwRefIdeal.Gen.facts,
  Cert.WbY.Gen.facts, Cert.WbYIdeal.Gen.facts, Cert.WbYRefIdeal.Gen.facts,
  Cert.WbDx.Gen.facts, Cert.WbDxIdeal.Gen.facts, Cert.WbDxRefIdeal.Gen.facts,
  Cert.WbDw.Gen.facts, Cert.WbDwIdeal.Gen.facts, Cert.WbDwRefIdeal.Gen.facts,
  Cert.WoY.Gen.facts, Cert.WoYIdeal.Gen.facts, Cert.WoYRefIdeal.Gen.facts,
  Cert.WoDx.Gen.facts, Cert.WoDxIdeal.Gen.facts, Cert.WoDxRefIdeal.Gen.facts,
  Cert.WoDw.Gen.facts, Cert.WoDwIdeal.Gen.facts, Cert.WoDwRefIdeal.Gen.facts,
  Cert.InY.Gen.facts, Cert.InYIdeal.Gen.facts, Cert.InYRefIdeal.Gen.facts,
  Cert.HeadY.Gen.facts, Cert.HeadYIdeal.Gen.facts, Cert.HeadYRefIdeal.Gen.facts,
  Cert.InDw.Gen.facts, Cert.InDwIdeal.Gen.facts, Cert.InDwRefIdeal.Gen.facts,
  Cert.Act.Gen.facts, Cert.ActIdeal.Gen.facts, Cert.ActRefIdeal.Gen.facts,
  Cert.Attn.facts_pre, Cert.Ffn.Act.facts_pre,
  fun m g _ => Cert.Kernel.Gen.frame m g, fun m g _ => Cert.KernelIdeal.Gen.frame m g, fun m g _ => Cert.KernelIdeal.Gen.frame m g,
  reference_frame, fun m g _ => reference_frame m g trivial,
  fun m g _ => Cert.UpDx.Gen.frame m g, fun m g _ => Cert.UpDxIdeal.Gen.frame m g, frame_UpDxRef,
  fun m g _ => Cert.UpDw.Gen.frame m g, fun m g _ => Cert.UpDwIdeal.Gen.frame m g, frame_UpDwRef,
  fun m g _ => Cert.DownDx.Gen.frame m g, fun m g _ => Cert.DownDxIdeal.Gen.frame m g, frame_DownDxRef,
  fun m g _ => Cert.DownDw.Gen.frame m g, fun m g _ => Cert.DownDwIdeal.Gen.frame m g, frame_DownDwRef,
  fun m g _ => Cert.UpY.Gen.frame m g, fun m g _ => Cert.UpYIdeal.Gen.frame m g, frame_UpYRef,
  fun m g _ => Cert.DownY.Gen.frame m g, fun m g _ => Cert.DownYIdeal.Gen.frame m g, frame_DownYRef,
  fun m g _ => Cert.InDx.Gen.frame m g, fun m g _ => Cert.InDxIdeal.Gen.frame m g, frame_InDxRef,
  fun m g _ => Cert.HeadDx.Gen.frame m g, fun m g _ => Cert.HeadDxIdeal.Gen.frame m g, frame_HeadDxRef,
  fun m g _ => Cert.HeadDw.Gen.frame m g, fun m g _ => Cert.HeadDwIdeal.Gen.frame m g, frame_HeadDwRef,
  fun m g _ => Cert.WaY.Gen.frame m g, fun m g _ => Cert.WaYIdeal.Gen.frame m g, Cert.Mix.WaY.frame_ref,
  fun m g _ => Cert.WaDx.Gen.frame m g, fun m g _ => Cert.WaDxIdeal.Gen.frame m g, Cert.Mix.WaDx.frame_ref,
  fun m g _ => Cert.WaDw.Gen.frame m g, fun m g _ => Cert.WaDwIdeal.Gen.frame m g, Cert.Mix.WaDw.frame_ref,
  fun m g _ => Cert.WbY.Gen.frame m g, fun m g _ => Cert.WbYIdeal.Gen.frame m g, Cert.Mix.WbY.frame_ref,
  fun m g _ => Cert.WbDx.Gen.frame m g, fun m g _ => Cert.WbDxIdeal.Gen.frame m g, Cert.Mix.WbDx.frame_ref,
  fun m g _ => Cert.WbDw.Gen.frame m g, fun m g _ => Cert.WbDwIdeal.Gen.frame m g, Cert.Mix.WbDw.frame_ref,
  fun m g _ => Cert.WoY.Gen.frame m g, fun m g _ => Cert.WoYIdeal.Gen.frame m g, Cert.Mix.WoY.frame_ref,
  fun m g _ => Cert.WoDx.Gen.frame m g, fun m g _ => Cert.WoDxIdeal.Gen.frame m g, Cert.Mix.WoDx.frame_ref,
  fun m g _ => Cert.WoDw.Gen.frame m g, fun m g _ => Cert.WoDwIdeal.Gen.frame m g, Cert.Mix.WoDw.frame_ref,
  Cert.Mix.InY.frame, Cert.Mix.InY.frame_ideal, Cert.Mix.InY.frame_ref,
  Cert.Mix.HeadY.frame, Cert.Mix.HeadY.frame_ideal, Cert.Mix.HeadY.frame_ref,
  Cert.Mix.InDw.frame, Cert.Mix.InDw.frame_ideal, Cert.Mix.InDw.frame_ref,
  fun m g _ => Cert.Act.Gen.frame m g, fun m g _ => Cert.ActIdeal.Gen.frame m g, fun m g _ => Cert.ActIdeal.Gen.frame m g,
  frame_ActRef, fun m g _ => frame_ActRef m g trivial,
  IdealRules.named_const.statement Cert.KernelIdeal.κ "mask" .f32 0xF149F2CA#32 ⊥ rfl, algebraic,
  trivial, algebraic_UpDx, trivial, algebraic_UpDw, trivial, algebraic_DownDx, trivial, algebraic_DownDw,
  trivial, algebraic_UpY, trivial, algebraic_DownY, trivial, algebraic_InDx, trivial, algebraic_HeadDx, trivial, algebraic_HeadDw,
  trivial, Cert.Mix.WaY.algebraic, trivial, Cert.Mix.WaDx.algebraic, trivial, Cert.Mix.WaDw.algebraic,
  trivial, Cert.Mix.WbY.algebraic, trivial, Cert.Mix.WbDx.algebraic, trivial, Cert.Mix.WbDw.algebraic,
  trivial, Cert.Mix.WoY.algebraic, trivial, Cert.Mix.WoDx.algebraic, trivial, Cert.Mix.WoDw.algebraic,
  trivial, Cert.Mix.InY.algebraic, trivial, Cert.Mix.HeadY.algebraic, trivial, Cert.Mix.InDw.algebraic,
  trivial, algebraic_Act⟩

end Cert.Proof

end
